-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_pool_finite [hPre_pool_finite : Cert.Pre_pool_finite.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.1 = (fun _ => 1#1)
    ∧ (Cert.Pre_pool_finite.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_pool_finite [hPre_pool_finite : Cert.Pre_pool_finite.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).1 = (fun _ => 1#1)
    ∧ (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.1 = (fun _ => 1#1)
    ∧ (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.1 = (fun _ => 1#1)
    ∧ (Cert.Pre_pool_finite.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3))).2.2.2 = (fun _ => 1#1)

def Pre_OutProjBwd (m : (ℓ : Loc Cert.OutProjBwd.nD Cert.OutProjBwd.τ Cert.OutProjBwd.sig) → Buf (Elt Bits) ℓ) : Prop :=
  True

def Pre_OutProjBwdIdeal (m : (ℓ : Loc Cert.OutProjBwdIdeal.nD Cert.OutProjBwdIdeal.τ Cert.OutProjBwdIdeal.sig) → Buf (Elt Ideal) ℓ) : Prop :=
  True

def Pre_OutProjBwdIdeal_outproj_finite [hPre_outproj_finite : Cert.Pre_outproj_finite.Facts] (m : (ℓ : Loc Cert.OutProjBwdIdeal.nD Cert.OutProjBwdIdeal.τ Cert.OutProjBwdIdeal.sig) → Buf (Elt Ideal) ℓ) : Prop :=
  ∀ c : Dev Cert.OutProjBwdIdeal.nD,
    (Cert.Pre_outproj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5))).1 = (fun _ => 1#1)
    ∧ (Cert.Pre_outproj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5))).2.1 = (fun _ => 1#1)
    ∧ (Cert.Pre_outproj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5))).2.2.1 = (fun _ => 1#1)
    ∧ (Cert.Pre_outproj_finite.fn (F := Ideal) (m ((c.tc : Thread Cert.OutProjBwdIdeal.nD Cert.OutProjBwdIdeal.τ).loc Cert.OutProjBwdIdeal.main_arg0)) (m ((c.tc : Thread Cert.OutProjBwdIdeal.nD Cert.OutProjBwdIdeal.τ).loc Cert.OutProjBwdIdeal.main_arg1)) (m ((c.tc : Thread Cert.OutProjBwdIdeal.nD Cert.OutProjBwdIdeal.τ).loc Cert.OutProjBwdIdeal.main_arg2)) (m ((c.tc : Thread Cert.OutProjBwdIdeal.nD Cert.OutProjBwdIdeal.τ).loc Cert.OutProjBwdIdeal.main_arg3)) (m ((c.tc : Thread Cert.OutProjBwdIdeal.nD Cert.OutProjBwdIdeal.τ).loc Cert.OutProjBwdIdeal.main_arg4)) (m ((c.tc : Thread Cert.OutProjBwdIdeal.nD Cert.OutProjBwdIdeal.τ).loc Cert.OutProjBwdIdeal.main_arg5))).2.2.2 = (fun _ => 1#1)

def Pre_OutProjBwdRefIdeal (m : (ℓ : Loc Cert.OutProjBwdRefIdeal.nD Cert.OutProjBwdRefIdeal.τ Cert.OutProjBwdRefIdeal.sig) → Buf (Elt Ideal) ℓ) : Prop :=
  True

def Pre_OutProjBwdRefIdeal_outproj_finite [hPre_outproj_finite : Cert.Pre_outproj_finite.Facts] (m : (ℓ : Loc Cert.OutProjBwdRefIdeal.nD Cert.OutProjBwdRefIdeal.τ Cert.OutProjBwdRefIdeal.sig) → Buf (Elt Ideal) ℓ) : Prop :=
  ∀ c : Dev Cert.OutProjBwdRefIdeal.nD,
    (Cert.Pre_outproj_finite.fn (F := Ideal) (m ((c.tc : Thread Cert.OutProjBwdRefIdeal.nD Cert.OutProjBwdRefIdeal.τ).loc Cert.OutProjBwdRefIdeal.main_arg0)) (m ((c.tc : Thread Cert.OutProjBwdRefIdeal.nD Cert.OutProjBwdRefIdeal.τ).loc Cert.OutProjBwdRefIdeal.main_arg1)) (m ((c.tc : Thread Cert.OutProjBwdRefIdeal.nD Cert.OutProjBwdRefIdeal.τ).loc Cert.OutProjBwdRefIdeal.main_arg2)) (m ((c.tc : Thread Cert.OutProjBwdRefIdeal.nD Cert.OutProjBwdRefIdeal.τ).loc Cert.OutProjBwdRefIdeal.main_arg3)) (m ((c.tc : Thread Cert.OutProjBwdRefIdeal.nD Cert.OutProjBwdRefIdeal.τ).loc Cert.OutProjBwdRefIdeal.main_arg4)) (m ((c.tc : Thread Cert.OutProjBwdRefIdeal.nD Cert.OutProjBwdRefIdeal.τ).loc Cert.OutProjBwdRefIdeal.main_arg5))).1 = (fun _ => 1#1)
    ∧ (Cert.Pre_outproj_finite.fn (F := Ideal) (m ((c.tc : Thread Cert.OutProjBwdRefIdeal.nD Cert.OutProjBwdRefIdeal.τ).loc Cert.OutProjBwdRefIdeal.main_arg0)) (m ((c.tc : Thread Cert.OutProjBwdRefIdeal.nD Cert.OutProjBwdRefIdeal.τ).loc Cert.OutProjBwdRefIdeal.main_arg1)) (m ((c.tc : Thread Cert.OutProjBwdRefIdeal.nD Cert.OutProjBwdRefIdeal.τ).loc Cert.OutProjBwdRefIdeal.main_arg2)) (m ((c.tc : Thread Cert.OutProjBwdRefIdeal.nD Cert.OutProjBwdRefIdeal.τ).loc Cert.OutProjBwdRefIdeal.main_arg3)) (m ((c.tc : Thread Cert.OutProjBwdRefIdeal.nD Cert.OutProjBwdRefIdeal.τ).loc Cert.OutProjBwdRefIdeal.main_arg4)) (m ((c.tc : Thread Cert.OutProjBwdRefIdeal.nD Cert.OutProjBwdRefIdeal.τ).loc Cert.OutProjBwdRefIdeal.main_arg5))).2.1 = (fun _ => 1#1)
    ∧ (Cert.Pre_outproj_finite.fn (F := Ideal) (m ((c.tc : Thread Cert.OutProjBwdRefIdeal.nD Cert.OutProjBwdRefIdeal.τ).loc Cert.OutProjBwdRefIdeal.main_arg0)) (m ((c.tc : Thread Cert.OutProjBwdRefIdeal.nD Cert.OutProjBwdRefIdeal.τ).loc Cert.OutProjBwdRefIdeal.main_arg1)) (m ((c.tc : Thread Cert.OutProjBwdRefIdeal.nD Cert.OutProjBwdRefIdeal.τ).loc Cert.OutProjBwdRefIdeal.main_arg2)) (m ((c.tc : Thread Cert.OutProjBwdRefIdeal.nD Cert.OutProjBwdRefIdeal.τ).loc Cert.OutProjBwdRefIdeal.main_arg3)) (m ((c.tc : Thread Cert.OutProjBwdRefIdeal.nD Cert.OutProjBwdRefIdeal.τ).loc Cert.OutProjBwdRefIdeal.main_arg4)) (m ((c.tc : Thread Cert.OutProjBwdRefIdeal.nD Cert.OutProjBwdRefIdeal.τ).loc Cert.OutProjBwdRefIdeal.main_arg5))).2.2.1 = (fun _ => 1#1)
    ∧ (Cert.Pre_outproj_finite.fn (F := Ideal) (m ((c.tc : Thread Cert.OutProjBwdRefIdeal.nD Cert.OutProjBwdRefIdeal.τ).loc Cert.OutProjBwdRefIdeal.main_arg0)) (m ((c.tc : Thread Cert.OutProjBwdRefIdeal.nD Cert.OutProjBwdRefIdeal.τ).loc Cert.OutProjBwdRefIdeal.main_arg1)) (m ((c.tc : Thread Cert.OutProjBwdRefIdeal.nD Cert.OutProjBwdRefIdeal.τ).loc Cert.OutProjBwdRefIdeal.main_arg2)) (m ((c.tc : Thread Cert.OutProjBwdRefIdeal.nD Cert.OutProjBwdRefIdeal.τ).loc Cert.OutProjBwdRefIdeal.main_arg3)) (m ((c.tc : Thread Cert.OutProjBwdRefIdeal.nD Cert.OutProjBwdRefIdeal.τ).loc Cert.OutProjBwdRefIdeal.main_arg4)) (m ((c.tc : Thread Cert.OutProjBwdRefIdeal.nD Cert.OutProjBwdRefIdeal.τ).loc Cert.OutProjBwdRefIdeal.main_arg5))).2.2.2 = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_inproj_finite [hPre_inproj_finite : Cert.Pre_inproj_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.2.2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.2.2.2.2.2.1 = (fun _ => 1#1)
    ∧ (Cert.Pre_inproj_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9)) (m ((c.tc : Thread Cert.InProjBwdIdeal.nD Cert.InProjBwdIdeal.τ).loc Cert.InProjBwdIdeal.main_arg10)) (m ((c.tc : Thread Cert.InProjBwdIdeal.nD Cert.InProjBwdIdeal.τ).loc Cert.InProjBwdIdeal.main_arg11))).2.2.2.2.2.2.2.2.2.2 = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_inproj_finite [hPre_inproj_finite : Cert.Pre_inproj_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.2.2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.2.2.2.2.2.1 = (fun _ => 1#1)
    ∧ (Cert.Pre_inproj_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9)) (m ((c.tc : Thread Cert.InProjBwdRefIdeal.nD Cert.InProjBwdRefIdeal.τ).loc Cert.InProjBwdRefIdeal.main_arg10)) (m ((c.tc : Thread Cert.InProjBwdRefIdeal.nD Cert.InProjBwdRefIdeal.τ).loc Cert.InProjBwdRefIdeal.main_arg11))).2.2.2.2.2.2.2.2.2.2 = (fun _ => 1#1)

def Pre_FlashBwd (m : (ℓ : Loc Cert.FlashBwd.nD Cert.FlashBwd.τ Cert.FlashBwd.sig) → Buf (Elt Bits) ℓ) : Prop :=
  True

def Pre_FlashBwdIdeal (m : (ℓ : Loc Cert.FlashBwdIdeal.nD Cert.FlashBwdIdeal.τ Cert.FlashBwdIdeal.sig) → Buf (Elt Ideal) ℓ) : Prop :=
  True

def Pre_FlashBwdIdeal_flash_finite [hPre_flash_finite : Cert.Pre_flash_finite.Facts] (m : (ℓ : Loc Cert.FlashBwdIdeal.nD Cert.FlashBwdIdeal.τ Cert.FlashBwdIdeal.sig) → Buf (Elt Ideal) ℓ) : Prop :=
  ∀ c : Dev Cert.FlashBwdIdeal.nD,
    (Cert.Pre_flash_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).1 = (fun _ => 1#1)
    ∧ (Cert.Pre_flash_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).2.1 = (fun _ => 1#1)
    ∧ (Cert.Pre_flash_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).2.2.1 = (fun _ => 1#1)
    ∧ (Cert.Pre_flash_finite.fn (F := Ideal) (m ((c.tc : Thread Cert.FlashBwdIdeal.nD Cert.FlashBwdIdeal.τ).loc Cert.FlashBwdIdeal.main_arg0)) (m ((c.tc : Thread Cert.FlashBwdIdeal.nD Cert.FlashBwdIdeal.τ).loc Cert.FlashBwdIdeal.main_arg1)) (m ((c.tc : Thread Cert.FlashBwdIdeal.nD Cert.FlashBwdIdeal.τ).loc Cert.FlashBwdIdeal.main_arg2)) (m ((c.tc : Thread Cert.FlashBwdIdeal.nD Cert.FlashBwdIdeal.τ).loc Cert.FlashBwdIdeal.main_arg3))).2.2.2 = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_flash_finite [hPre_flash_finite : Cert.Pre_flash_finite.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).1 = (fun _ => 1#1)
    ∧ (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.1 = (fun _ => 1#1)
    ∧ (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.2.1 = (fun _ => 1#1)
    ∧ (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.2.2 = (fun _ => 1#1)

def Pre_MlaPrepBwd (m : (ℓ : Loc Cert.MlaPrepBwd.nD Cert.MlaPrepBwd.τ Cert.MlaPrepBwd.sig) → Buf (Elt Bits) ℓ) : Prop :=
  True

def Pre_MlaPrepBwdIdeal (m : (ℓ : Loc Cert.MlaPrepBwdIdeal.nD Cert.MlaPrepBwdIdeal.τ Cert.MlaPrepBwdIdeal.sig) → Buf (Elt Ideal) ℓ) : Prop :=
  True

def Pre_MlaPrepBwdIdeal_mla_finite [hPre_mla_finite : Cert.Pre_mla_finite.Facts] (m : (ℓ : Loc Cert.MlaPrepBwdIdeal.nD Cert.MlaPrepBwdIdeal.τ Cert.MlaPrepBwdIdeal.sig) → Buf (Elt Ideal) ℓ) : Prop :=
  ∀ c : Dev Cert.MlaPrepBwdIdeal.nD,
    (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.2.1 = (fun _ => 1#1)
    ∧ (Cert.Pre_mla_finite.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.2.2 = (fun _ => 1#1)

def Pre_MlaPrepBwdRefIdeal (m : (ℓ : Loc Cert.MlaPrepBwdRefIdeal.nD Cert.MlaPrepBwdRefIdeal.τ Cert.MlaPrepBwdRefIdeal.sig) → Buf (Elt Ideal) ℓ) : Prop :=
  True

def Pre_MlaPrepBwdRefIdeal_mla_finite [hPre_mla_finite : Cert.Pre_mla_finite.Facts] (m : (ℓ : Loc Cert.MlaPrepBwdRefIdeal.nD Cert.MlaPrepBwdRefIdeal.τ Cert.MlaPrepBwdRefIdeal.sig) → Buf (Elt Ideal) ℓ) : Prop :=
  ∀ c : Dev Cert.MlaPrepBwdRefIdeal.nD,
    (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.2.1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.2.2.1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.2.2.2.1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.2.2.2.2.1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.2.2.2.2.2.1 = (fun _ => 1#1)
    ∧ (Cert.Pre_mla_finite.fn (F := Ideal) (m ((c.tc : Thread Cert.MlaPrepBwdRefIdeal.nD Cert.MlaPrepBwdRefIdeal.τ).loc Cert.MlaPrepBwdRefIdeal.main_arg0)) (m ((c.tc : Thread Cert.MlaPrepBwdRefIdeal.nD Cert.MlaPrepBwdRefIdeal.τ).loc Cert.MlaPrepBwdRefIdeal.main_arg1)) (m ((c.tc : Thread Cert.MlaPrepBwdRefIdeal.nD Cert.MlaPrepBwdRefIdeal.τ).loc Cert.MlaPrepBwdRefIdeal.main_arg2)) (m ((c.tc : Thread Cert.MlaPrepBwdRefIdeal.nD Cert.MlaPrepBwdRefIdeal.τ).loc Cert.MlaPrepBwdRefIdeal.main_arg3)) (m ((c.tc : Thread Cert.MlaPrepBwdRefIdeal.nD Cert.MlaPrepBwdRefIdeal.τ).loc Cert.MlaPrepBwdRefIdeal.main_arg4)) (m ((c.tc : Thread Cert.MlaPrepBwdRefIdeal.nD Cert.MlaPrepBwdRefIdeal.τ).loc Cert.MlaPrepBwdRefIdeal.main_arg5)) (m ((c.tc : Thread Cert.MlaPrepBwdRefIdeal.nD Cert.MlaPrepBwdRefIdeal.τ).loc Cert.MlaPrepBwdRefIdeal.main_arg6)) (m ((c.tc : Thread Cert.MlaPrepBwdRefIdeal.nD Cert.MlaPrepBwdRefIdeal.τ).loc Cert.MlaPrepBwdRefIdeal.main_arg7))).2.2.2.2.2.2.2 = (fun _ => 1#1)

def Pre_InProjFwd (m : (ℓ : Loc Cert.InProjFwd.nD Cert.InProjFwd.τ Cert.InProjFwd.sig) → Buf (Elt Bits) ℓ) : Prop :=
  True

def Pre_InProjFwdIdeal (m : (ℓ : Loc Cert.InProjFwdIdeal.nD Cert.InProjFwdIdeal.τ Cert.InProjFwdIdeal.sig) → Buf (Elt Ideal) ℓ) : Prop :=
  True

def Pre_InProjFwdIdeal_inproj_fwd_finite [hPre_inproj_fwd_finite : Cert.Pre_inproj_fwd_finite.Facts] (m : (ℓ : Loc Cert.InProjFwdIdeal.nD Cert.InProjFwdIdeal.τ Cert.InProjFwdIdeal.sig) → Buf (Elt Ideal) ℓ) : Prop :=
  ∀ c : Dev Cert.InProjFwdIdeal.nD,
    (Cert.Pre_inproj_fwd_finite.fn (F := Ideal) (m ((c.tc : Thread Cert.InProjFwdIdeal.nD Cert.InProjFwdIdeal.τ).loc Cert.InProjFwdIdeal.main_arg0)) (m ((c.tc : Thread Cert.InProjFwdIdeal.nD Cert.InProjFwdIdeal.τ).loc Cert.InProjFwdIdeal.main_arg1)) (m ((c.tc : Thread Cert.InProjFwdIdeal.nD Cert.InProjFwdIdeal.τ).loc Cert.InProjFwdIdeal.main_arg2))).1 = (fun _ => 1#1)
    ∧ (Cert.Pre_inproj_fwd_finite.fn (F := Ideal) (m ((c.tc : Thread Cert.InProjFwdIdeal.nD Cert.InProjFwdIdeal.τ).loc Cert.InProjFwdIdeal.main_arg0)) (m ((c.tc : Thread Cert.InProjFwdIdeal.nD Cert.InProjFwdIdeal.τ).loc Cert.InProjFwdIdeal.main_arg1)) (m ((c.tc : Thread Cert.InProjFwdIdeal.nD Cert.InProjFwdIdeal.τ).loc Cert.InProjFwdIdeal.main_arg2))).2.1 = (fun _ => 1#1)
    ∧ (Cert.Pre_inproj_fwd_finite.fn (F := Ideal) (m ((c.tc : Thread Cert.InProjFwdIdeal.nD Cert.InProjFwdIdeal.τ).loc Cert.InProjFwdIdeal.main_arg0)) (m ((c.tc : Thread Cert.InProjFwdIdeal.nD Cert.InProjFwdIdeal.τ).loc Cert.InProjFwdIdeal.main_arg1)) (m ((c.tc : Thread Cert.InProjFwdIdeal.nD Cert.InProjFwdIdeal.τ).loc Cert.InProjFwdIdeal.main_arg2))).2.2 = (fun _ => 1#1)

def Pre_InProjFwdRefIdeal (m : (ℓ : Loc Cert.InProjFwdRefIdeal.nD Cert.InProjFwdRefIdeal.τ Cert.InProjFwdRefIdeal.sig) → Buf (Elt Ideal) ℓ) : Prop :=
  True

def Pre_InProjFwdRefIdeal_inproj_fwd_finite [hPre_inproj_fwd_finite : Cert.Pre_inproj_fwd_finite.Facts] (m : (ℓ : Loc Cert.InProjFwdRefIdeal.nD Cert.InProjFwdRefIdeal.τ Cert.InProjFwdRefIdeal.sig) → Buf (Elt Ideal) ℓ) : Prop :=
  ∀ c : Dev Cert.InProjFwdRefIdeal.nD,
    (Cert.Pre_inproj_fwd_finite.fn (F := Ideal) (m ((c.tc : Thread Cert.InProjFwdRefIdeal.nD Cert.InProjFwdRefIdeal.τ).loc Cert.InProjFwdRefIdeal.main_arg0)) (m ((c.tc : Thread Cert.InProjFwdRefIdeal.nD Cert.InProjFwdRefIdeal.τ).loc Cert.InProjFwdRefIdeal.main_arg1)) (m ((c.tc : Thread Cert.InProjFwdRefIdeal.nD Cert.InProjFwdRefIdeal.τ).loc Cert.InProjFwdRefIdeal.main_arg2))).1 = (fun _ => 1#1)
    ∧ (Cert.Pre_inproj_fwd_finite.fn (F := Ideal) (m ((c.tc : Thread Cert.InProjFwdRefIdeal.nD Cert.InProjFwdRefIdeal.τ).loc Cert.InProjFwdRefIdeal.main_arg0)) (m ((c.tc : Thread Cert.InProjFwdRefIdeal.nD Cert.InProjFwdRefIdeal.τ).loc Cert.InProjFwdRefIdeal.main_arg1)) (m ((c.tc : Thread Cert.InProjFwdRefIdeal.nD Cert.InProjFwdRefIdeal.τ).loc Cert.InProjFwdRefIdeal.main_arg2))).2.1 = (fun _ => 1#1)
    ∧ (Cert.Pre_inproj_fwd_finite.fn (F := Ideal) (m ((c.tc : Thread Cert.InProjFwdRefIdeal.nD Cert.InProjFwdRefIdeal.τ).loc Cert.InProjFwdRefIdeal.main_arg0)) (m ((c.tc : Thread Cert.InProjFwdRefIdeal.nD Cert.InProjFwdRefIdeal.τ).loc Cert.InProjFwdRefIdeal.main_arg1)) (m ((c.tc : Thread Cert.InProjFwdRefIdeal.nD Cert.InProjFwdRefIdeal.τ).loc Cert.InProjFwdRefIdeal.main_arg2))).2.2 = (fun _ => 1#1)

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))).1 = (fun _ => 1#1)
    ∧ (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))).2.1 = (fun _ => 1#1)
    ∧ (Cert.Pre_pool_fwd_finite.fn (F := Ideal) (m ((c.tc : Thread Cert.PoolFwdIdeal.nD Cert.PoolFwdIdeal.τ).loc Cert.PoolFwdIdeal.main_arg0)) (m ((c.tc : Thread Cert.PoolFwdIdeal.nD Cert.PoolFwdIdeal.τ).loc Cert.PoolFwdIdeal.main_arg1)) (m ((c.tc : Thread Cert.PoolFwdIdeal.nD Cert.PoolFwdIdeal.τ).loc Cert.PoolFwdIdeal.main_arg2))).2.2 = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))).1 = (fun _ => 1#1)
    ∧ (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))).2.1 = (fun _ => 1#1)
    ∧ (Cert.Pre_pool_fwd_finite.fn (F := Ideal) (m ((c.tc : Thread Cert.PoolFwdRefIdeal.nD Cert.PoolFwdRefIdeal.τ).loc Cert.PoolFwdRefIdeal.main_arg0)) (m ((c.tc : Thread Cert.PoolFwdRefIdeal.nD Cert.PoolFwdRefIdeal.τ).loc Cert.PoolFwdRefIdeal.main_arg1)) (m ((c.tc : Thread Cert.PoolFwdRefIdeal.nD Cert.PoolFwdRefIdeal.τ).loc Cert.PoolFwdRefIdeal.main_arg2))).2.2 = (fun _ => 1#1)

def Pre_MlaPrepFwd (m : (ℓ : Loc Cert.MlaPrepFwd.nD Cert.MlaPrepFwd.τ Cert.MlaPrepFwd.sig) → Buf (Elt Bits) ℓ) : Prop :=
  True

def Pre_MlaPrepFwdIdeal (m : (ℓ : Loc Cert.MlaPrepFwdIdeal.nD Cert.MlaPrepFwdIdeal.τ Cert.MlaPrepFwdIdeal.sig) → Buf (Elt Ideal) ℓ) : Prop :=
  True

def Pre_MlaPrepFwdIdeal_mla_fwd_finite [hPre_mla_fwd_finite : Cert.Pre_mla_fwd_finite.Facts] (m : (ℓ : Loc Cert.MlaPrepFwdIdeal.nD Cert.MlaPrepFwdIdeal.τ Cert.MlaPrepFwdIdeal.sig) → Buf (Elt Ideal) ℓ) : Prop :=
  ∀ c : Dev Cert.MlaPrepFwdIdeal.nD,
    (Cert.Pre_mla_fwd_finite.fn (F := Ideal) (m ((c.tc : Thread Cert.MlaPrepFwdIdeal.nD Cert.MlaPrepFwdIdeal.τ).loc Cert.MlaPrepFwdIdeal.main_arg0)) (m ((c.tc : Thread Cert.MlaPrepFwdIdeal.nD Cert.MlaPrepFwdIdeal.τ).loc Cert.MlaPrepFwdIdeal.main_arg1)) (m ((c.tc : Thread Cert.MlaPrepFwdIdeal.nD Cert.MlaPrepFwdIdeal.τ).loc Cert.MlaPrepFwdIdeal.main_arg2)) (m ((c.tc : Thread Cert.MlaPrepFwdIdeal.nD Cert.MlaPrepFwdIdeal.τ).loc Cert.MlaPrepFwdIdeal.main_arg3)) (m ((c.tc : Thread Cert.MlaPrepFwdIdeal.nD Cert.MlaPrepFwdIdeal.τ).loc Cert.MlaPrepFwdIdeal.main_arg4))).1 = (fun _ => 1#1)
    ∧ (Cert.Pre_mla_fwd_finite.fn (F := Ideal) (m ((c.tc : Thread Cert.MlaPrepFwdIdeal.nD Cert.MlaPrepFwdIdeal.τ).loc Cert.MlaPrepFwdIdeal.main_arg0)) (m ((c.tc : Thread Cert.MlaPrepFwdIdeal.nD Cert.MlaPrepFwdIdeal.τ).loc Cert.MlaPrepFwdIdeal.main_arg1)) (m ((c.tc : Thread Cert.MlaPrepFwdIdeal.nD Cert.MlaPrepFwdIdeal.τ).loc Cert.MlaPrepFwdIdeal.main_arg2)) (m ((c.tc : Thread Cert.MlaPrepFwdIdeal.nD Cert.MlaPrepFwdIdeal.τ).loc Cert.MlaPrepFwdIdeal.main_arg3)) (m ((c.tc : Thread Cert.MlaPrepFwdIdeal.nD Cert.MlaPrepFwdIdeal.τ).loc Cert.MlaPrepFwdIdeal.main_arg4))).2.1 = (fun _ => 1#1)
    ∧ (Cert.Pre_mla_fwd_finite.fn (F := Ideal) (m ((c.tc : Thread Cert.MlaPrepFwdIdeal.nD Cert.MlaPrepFwdIdeal.τ).loc Cert.MlaPrepFwdIdeal.main_arg0)) (m ((c.tc : Thread Cert.MlaPrepFwdIdeal.nD Cert.MlaPrepFwdIdeal.τ).loc Cert.MlaPrepFwdIdeal.main_arg1)) (m ((c.tc : Thread Cert.MlaPrepFwdIdeal.nD Cert.MlaPrepFwdIdeal.τ).loc Cert.MlaPrepFwdIdeal.main_arg2)) (m ((c.tc : Thread Cert.MlaPrepFwdIdeal.nD Cert.MlaPrepFwdIdeal.τ).loc Cert.MlaPrepFwdIdeal.main_arg3)) (m ((c.tc : Thread Cert.MlaPrepFwdIdeal.nD Cert.MlaPrepFwdIdeal.τ).loc Cert.MlaPrepFwdIdeal.main_arg4))).2.2.1 = (fun _ => 1#1)
    ∧ (Cert.Pre_mla_fwd_finite.fn (F := Ideal) (m ((c.tc : Thread Cert.MlaPrepFwdIdeal.nD Cert.MlaPrepFwdIdeal.τ).loc Cert.MlaPrepFwdIdeal.main_arg0)) (m ((c.tc : Thread Cert.MlaPrepFwdIdeal.nD Cert.MlaPrepFwdIdeal.τ).loc Cert.MlaPrepFwdIdeal.main_arg1)) (m ((c.tc : Thread Cert.MlaPrepFwdIdeal.nD Cert.MlaPrepFwdIdeal.τ).loc Cert.MlaPrepFwdIdeal.main_arg2)) (m ((c.tc : Thread Cert.MlaPrepFwdIdeal.nD Cert.MlaPrepFwdIdeal.τ).loc Cert.MlaPrepFwdIdeal.main_arg3)) (m ((c.tc : Thread Cert.MlaPrepFwdIdeal.nD Cert.MlaPrepFwdIdeal.τ).loc Cert.MlaPrepFwdIdeal.main_arg4))).2.2.2.1 = (fun _ => 1#1)
    ∧ (Cert.Pre_mla_fwd_finite.fn (F := Ideal) (m ((c.tc : Thread Cert.MlaPrepFwdIdeal.nD Cert.MlaPrepFwdIdeal.τ).loc Cert.MlaPrepFwdIdeal.main_arg0)) (m ((c.tc : Thread Cert.MlaPrepFwdIdeal.nD Cert.MlaPrepFwdIdeal.τ).loc Cert.MlaPrepFwdIdeal.main_arg1)) (m ((c.tc : Thread Cert.MlaPrepFwdIdeal.nD Cert.MlaPrepFwdIdeal.τ).loc Cert.MlaPrepFwdIdeal.main_arg2)) (m ((c.tc : Thread Cert.MlaPrepFwdIdeal.nD Cert.MlaPrepFwdIdeal.τ).loc Cert.MlaPrepFwdIdeal.main_arg3)) (m ((c.tc : Thread Cert.MlaPrepFwdIdeal.nD Cert.MlaPrepFwdIdeal.τ).loc Cert.MlaPrepFwdIdeal.main_arg4))).2.2.2.2 = (fun _ => 1#1)

def Pre_MlaPrepFwdRefIdeal (m : (ℓ : Loc Cert.MlaPrepFwdRefIdeal.nD Cert.MlaPrepFwdRefIdeal.τ Cert.MlaPrepFwdRefIdeal.sig) → Buf (Elt Ideal) ℓ) : Prop :=
  True

def Pre_MlaPrepFwdRefIdeal_mla_fwd_finite [hPre_mla_fwd_finite : Cert.Pre_mla_fwd_finite.Facts] (m : (ℓ : Loc Cert.MlaPrepFwdRefIdeal.nD Cert.MlaPrepFwdRefIdeal.τ Cert.MlaPrepFwdRefIdeal.sig) → Buf (Elt Ideal) ℓ) : Prop :=
  ∀ c : Dev Cert.MlaPrepFwdRefIdeal.nD,
    (Cert.Pre_mla_fwd_finite.fn (F := Ideal) (m ((c.tc : Thread Cert.MlaPrepFwdRefIdeal.nD Cert.MlaPrepFwdRefIdeal.τ).loc Cert.MlaPrepFwdRefIdeal.main_arg0)) (m ((c.tc : Thread Cert.MlaPrepFwdRefIdeal.nD Cert.MlaPrepFwdRefIdeal.τ).loc Cert.MlaPrepFwdRefIdeal.main_arg1)) (m ((c.tc : Thread Cert.MlaPrepFwdRefIdeal.nD Cert.MlaPrepFwdRefIdeal.τ).loc Cert.MlaPrepFwdRefIdeal.main_arg2)) (m ((c.tc : Thread Cert.MlaPrepFwdRefIdeal.nD Cert.MlaPrepFwdRefIdeal.τ).loc Cert.MlaPrepFwdRefIdeal.main_arg3)) (m ((c.tc : Thread Cert.MlaPrepFwdRefIdeal.nD Cert.MlaPrepFwdRefIdeal.τ).loc Cert.MlaPrepFwdRefIdeal.main_arg4))).1 = (fun _ => 1#1)
    ∧ (Cert.Pre_mla_fwd_finite.fn (F := Ideal) (m ((c.tc : Thread Cert.MlaPrepFwdRefIdeal.nD Cert.MlaPrepFwdRefIdeal.τ).loc Cert.MlaPrepFwdRefIdeal.main_arg0)) (m ((c.tc : Thread Cert.MlaPrepFwdRefIdeal.nD Cert.MlaPrepFwdRefIdeal.τ).loc Cert.MlaPrepFwdRefIdeal.main_arg1)) (m ((c.tc : Thread Cert.MlaPrepFwdRefIdeal.nD Cert.MlaPrepFwdRefIdeal.τ).loc Cert.MlaPrepFwdRefIdeal.main_arg2)) (m ((c.tc : Thread Cert.MlaPrepFwdRefIdeal.nD Cert.MlaPrepFwdRefIdeal.τ).loc Cert.MlaPrepFwdRefIdeal.main_arg3)) (m ((c.tc : Thread Cert.MlaPrepFwdRefIdeal.nD Cert.MlaPrepFwdRefIdeal.τ).loc Cert.MlaPrepFwdRefIdeal.main_arg4))).2.1 = (fun _ => 1#1)
    ∧ (Cert.Pre_mla_fwd_finite.fn (F := Ideal) (m ((c.tc : Thread Cert.MlaPrepFwdRefIdeal.nD Cert.MlaPrepFwdRefIdeal.τ).loc Cert.MlaPrepFwdRefIdeal.main_arg0)) (m ((c.tc : Thread Cert.MlaPrepFwdRefIdeal.nD Cert.MlaPrepFwdRefIdeal.τ).loc Cert.MlaPrepFwdRefIdeal.main_arg1)) (m ((c.tc : Thread Cert.MlaPrepFwdRefIdeal.nD Cert.MlaPrepFwdRefIdeal.τ).loc Cert.MlaPrepFwdRefIdeal.main_arg2)) (m ((c.tc : Thread Cert.MlaPrepFwdRefIdeal.nD Cert.MlaPrepFwdRefIdeal.τ).loc Cert.MlaPrepFwdRefIdeal.main_arg3)) (m ((c.tc : Thread Cert.MlaPrepFwdRefIdeal.nD Cert.MlaPrepFwdRefIdeal.τ).loc Cert.MlaPrepFwdRefIdeal.main_arg4))).2.2.1 = (fun _ => 1#1)
    ∧ (Cert.Pre_mla_fwd_finite.fn (F := Ideal) (m ((c.tc : Thread Cert.MlaPrepFwdRefIdeal.nD Cert.MlaPrepFwdRefIdeal.τ).loc Cert.MlaPrepFwdRefIdeal.main_arg0)) (m ((c.tc : Thread Cert.MlaPrepFwdRefIdeal.nD Cert.MlaPrepFwdRefIdeal.τ).loc Cert.MlaPrepFwdRefIdeal.main_arg1)) (m ((c.tc : Thread Cert.MlaPrepFwdRefIdeal.nD Cert.MlaPrepFwdRefIdeal.τ).loc Cert.MlaPrepFwdRefIdeal.main_arg2)) (m ((c.tc : Thread Cert.MlaPrepFwdRefIdeal.nD Cert.MlaPrepFwdRefIdeal.τ).loc Cert.MlaPrepFwdRefIdeal.main_arg3)) (m ((c.tc : Thread Cert.MlaPrepFwdRefIdeal.nD Cert.MlaPrepFwdRefIdeal.τ).loc Cert.MlaPrepFwdRefIdeal.main_arg4))).2.2.2.1 = (fun _ => 1#1)
    ∧ (Cert.Pre_mla_fwd_finite.fn (F := Ideal) (m ((c.tc : Thread Cert.MlaPrepFwdRefIdeal.nD Cert.MlaPrepFwdRefIdeal.τ).loc Cert.MlaPrepFwdRefIdeal.main_arg0)) (m ((c.tc : Thread Cert.MlaPrepFwdRefIdeal.nD Cert.MlaPrepFwdRefIdeal.τ).loc Cert.MlaPrepFwdRefIdeal.main_arg1)) (m ((c.tc : Thread Cert.MlaPrepFwdRefIdeal.nD Cert.MlaPrepFwdRefIdeal.τ).loc Cert.MlaPrepFwdRefIdeal.main_arg2)) (m ((c.tc : Thread Cert.MlaPrepFwdRefIdeal.nD Cert.MlaPrepFwdRefIdeal.τ).loc Cert.MlaPrepFwdRefIdeal.main_arg3)) (m ((c.tc : Thread Cert.MlaPrepFwdRefIdeal.nD Cert.MlaPrepFwdRefIdeal.τ).loc Cert.MlaPrepFwdRefIdeal.main_arg4))).2.2.2.2 = (fun _ => 1#1)

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdIdeal_pre_pool_finite [hPoolBwdIdeal : Cert.PoolBwdIdeal.Facts] [hPre_pool_finite : Cert.Pre_pool_finite.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_pool_finite m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_PoolBwdRefIdeal_pre_pool_finite [hPoolBwdRefIdeal : Cert.PoolBwdRefIdeal.Facts] [hPre_pool_finite : Cert.Pre_pool_finite.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_pool_finite m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def quiescent_OutProjBwd [hOutProjBwd : Cert.OutProjBwd.Facts] : Prop :=
  ∀ (m : (ℓ : Loc Cert.OutProjBwd.nD Cert.OutProjBwd.τ Cert.OutProjBwd.sig) → Buf (Elt Bits) ℓ) (g : Dev Cert.OutProjBwd.nD → PrngReg), Pre_OutProjBwd m →
    θ_run (Cert.OutProjBwd.defs (F := Bits)) (onTc (τ := Cert.OutProjBwd.τ) (Cert.OutProjBwd.main (F := Bits))) ⟨m, fun _ => 0, g⟩ (fun r => (∀ c : Dev Cert.OutProjBwd.nD,
      r.2.mem ((c.tc : Thread Cert.OutProjBwd.nD Cert.OutProjBwd.τ).loc Cert.OutProjBwd.main_arg0) = m ((c.tc : Thread Cert.OutProjBwd.nD Cert.OutProjBwd.τ).loc Cert.OutProjBwd.main_arg0)
      ∧ r.2.mem ((c.tc : Thread Cert.OutProjBwd.nD Cert.OutProjBwd.τ).loc Cert.OutProjBwd.main_arg1) = m ((c.tc : Thread Cert.OutProjBwd.nD Cert.OutProjBwd.τ).loc Cert.OutProjBwd.main_arg1)
      ∧ r.2.mem ((c.tc : Thread Cert.OutProjBwd.nD Cert.OutProjBwd.τ).loc Cert.OutProjBwd.main_arg2) = m ((c.tc : Thread Cert.OutProjBwd.nD Cert.OutProjBwd.τ).loc Cert.OutProjBwd.main_arg2)
      ∧ r.2.mem ((c.tc : Thread Cert.OutProjBwd.nD Cert.OutProjBwd.τ).loc Cert.OutProjBwd.main_arg3) = m ((c.tc : Thread Cert.OutProjBwd.nD Cert.OutProjBwd.τ).loc Cert.OutProjBwd.main_arg3)
      ∧ r.2.mem ((c.tc : Thread Cert.OutProjBwd.nD Cert.OutProjBwd.τ).loc Cert.OutProjBwd.main_arg4) = m ((c.tc : Thread Cert.OutProjBwd.nD Cert.OutProjBwd.τ).loc Cert.OutProjBwd.main_arg4)
      ∧ r.2.mem ((c.tc : Thread Cert.OutProjBwd.nD Cert.OutProjBwd.τ).loc Cert.OutProjBwd.main_arg5) = m ((c.tc : Thread Cert.OutProjBwd.nD Cert.OutProjBwd.τ).loc Cert.OutProjBwd.main_arg5))
      ∧ r.2.sem = fun _ => 0)

def quiescent_OutProjBwdIdeal [hOutProjBwdIdeal : Cert.OutProjBwdIdeal.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
      ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
      ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
      ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5))
      ∧ r.2.sem = fun _ => 0)

def quiescent_OutProjBwdIdeal_pre_outproj_finite [hOutProjBwdIdeal : Cert.OutProjBwdIdeal.Facts] [hPre_outproj_finite : Cert.Pre_outproj_finite.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg), Pre_OutProjBwdIdeal_outproj_finite m →
    θ_run (Cert.OutProjBwdIdeal.defs (F := Ideal)) (onTc (τ := Cert.OutProjBwdIdeal.τ) (Cert.OutProjBwdIdeal.main (F := Ideal))) ⟨m, fun _ => 0, g⟩ (fun r => (∀ c : Dev Cert.OutProjBwdIdeal.nD,
      r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
      ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
      ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
      ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
      ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
      ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5))
      ∧ r.2.sem = fun _ => 0)

def quiescent_OutProjBwdRefIdeal [hOutProjBwdRefIdeal : Cert.OutProjBwdRefIdeal.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1)
      ∧ r.2.mem ((c.tc : Thread Cert.OutProjBwdRefIdeal.nD Cert.OutProjBwdRefIdeal.τ).loc Cert.OutProjBwdRefIdeal.main_arg2) = m ((c.tc : Thread Cert.OutProjBwdRefIdeal.nD Cert.OutProjBwdRefIdeal.τ).loc Cert.OutProjBwdRefIdeal.main_arg2)
      ∧ r.2.mem ((c.tc : Thread Cert.OutProjBwdRefIdeal.nD Cert.OutProjBwdRefIdeal.τ).loc Cert.OutProjBwdRefIdeal.main_arg3) = m ((c.tc : Thread Cert.OutProjBwdRefIdeal.nD Cert.OutProjBwdRefIdeal.τ).loc Cert.OutProjBwdRefIdeal.main_arg3)
      ∧ r.2.mem ((c.tc : Thread Cert.OutProjBwdRefIdeal.nD Cert.OutProjBwdRefIdeal.τ).loc Cert.OutProjBwdRefIdeal.main_arg4) = m ((c.tc : Thread Cert.OutProjBwdRefIdeal.nD Cert.OutProjBwdRefIdeal.τ).loc Cert.OutProjBwdRefIdeal.main_arg4)
      ∧ r.2.mem ((c.tc : Thread Cert.OutProjBwdRefIdeal.nD Cert.OutProjBwdRefIdeal.τ).loc Cert.OutProjBwdRefIdeal.main_arg5) = m ((c.tc : Thread Cert.OutProjBwdRefIdeal.nD Cert.OutProjBwdRefIdeal.τ).loc Cert.OutProjBwdRefIdeal.main_arg5))
      ∧ r.2.sem = fun _ => 0)

def quiescent_OutProjBwdRefIdeal_pre_outproj_finite [hOutProjBwdRefIdeal : Cert.OutProjBwdRefIdeal.Facts] [hPre_outproj_finite : Cert.Pre_outproj_finite.Facts] : Prop :=
  ∀ (m : (ℓ : Loc Cert.OutProjBwdRefIdeal.nD Cert.OutProjBwdRefIdeal.τ Cert.OutProjBwdRefIdeal.sig) → Buf (Elt Ideal) ℓ) (g : Dev Cert.OutProjBwdRefIdeal.nD → PrngReg), Pre_OutProjBwdRefIdeal_outproj_finite m →
    θ_run (Cert.OutProjBwdRefIdeal.defs (F := Ideal)) (onTc (τ := Cert.OutProjBwdRefIdeal.τ) (Cert.OutProjBwdRefIdeal.main (F := Ideal))) ⟨m, fun _ => 0, g⟩ (fun r => (∀ c : Dev Cert.OutProjBwdRefIdeal.nD,
      r.2.mem ((c.tc : Thread Cert.OutProjBwdRefIdeal.nD Cert.OutProjBwdRefIdeal.τ).loc Cert.OutProjBwdRefIdeal.main_arg0) = m ((c.tc : Thread Cert.OutProjBwdRefIdeal.nD Cert.OutProjBwdRefIdeal.τ).loc Cert.OutProjBwdRefIdeal.main_arg0)
      ∧ r.2.mem ((c.tc : Thread Cert.OutProjBwdRefIdeal.nD Cert.OutProjBwdRefIdeal.τ).loc Cert.OutProjBwdRefIdeal.main_arg1) = m ((c.tc : Thread Cert.OutProjBwdRefIdeal.nD Cert.OutProjBwdRefIdeal.τ).loc Cert.OutProjBwdRefIdeal.main_arg1)
      ∧ r.2.mem ((c.tc : Thread Cert.OutProjBwdRefIdeal.nD Cert.OutProjBwdRefIdeal.τ).loc Cert.OutProjBwdRefIdeal.main_arg2) = m ((c.tc : Thread Cert.OutProjBwdRefIdeal.nD Cert.OutProjBwdRefIdeal.τ).loc Cert.OutProjBwdRefIdeal.main_arg2)
      ∧ r.2.mem ((c.tc : Thread Cert.OutProjBwdRefIdeal.nD Cert.OutProjBwdRefIdeal.τ).loc Cert.OutProjBwdRefIdeal.main_arg3) = m ((c.tc : Thread Cert.OutProjBwdRefIdeal.nD Cert.OutProjBwdRefIdeal.τ).loc Cert.OutProjBwdRefIdeal.main_arg3)
      ∧ r.2.mem ((c.tc : Thread Cert.OutProjBwdRefIdeal.nD Cert.OutProjBwdRefIdeal.τ).loc Cert.OutProjBwdRefIdeal.main_arg4) = m ((c.tc : Thread Cert.OutProjBwdRefIdeal.nD Cert.OutProjBwdRefIdeal.τ).loc Cert.OutProjBwdRefIdeal.main_arg4)
      ∧ r.2.mem ((c.tc : Thread Cert.OutProjBwdRefIdeal.nD Cert.OutProjBwdRefIdeal.τ).loc Cert.OutProjBwdRefIdeal.main_arg5) = m ((c.tc : Thread Cert.OutProjBwdRefIdeal.nD Cert.OutProjBwdRefIdeal.τ).loc Cert.OutProjBwdRefIdeal.main_arg5))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9)
      ∧ r.2.mem ((c.tc : Thread Cert.InProjBwd.nD Cert.InProjBwd.τ).loc Cert.InProjBwd.main_arg10) = m ((c.tc : Thread Cert.InProjBwd.nD Cert.InProjBwd.τ).loc Cert.InProjBwd.main_arg10)
      ∧ r.2.mem ((c.tc : Thread Cert.InProjBwd.nD Cert.InProjBwd.τ).loc Cert.InProjBwd.main_arg11) = m ((c.tc : Thread Cert.InProjBwd.nD Cert.InProjBwd.τ).loc Cert.InProjBwd.main_arg11))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
      ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11))
      ∧ r.2.sem = fun _ => 0)

def quiescent_InProjBwdIdeal_pre_inproj_finite [hInProjBwdIdeal : Cert.InProjBwdIdeal.Facts] [hPre_inproj_finite : Cert.Pre_inproj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_inproj_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
      ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
      ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9)
      ∧ r.2.mem ((c.tc : Thread Cert.InProjBwdRefIdeal.nD Cert.InProjBwdRefIdeal.τ).loc Cert.InProjBwdRefIdeal.main_arg10) = m ((c.tc : Thread Cert.InProjBwdRefIdeal.nD Cert.InProjBwdRefIdeal.τ).loc Cert.InProjBwdRefIdeal.main_arg10)
      ∧ r.2.mem ((c.tc : Thread Cert.InProjBwdRefIdeal.nD Cert.InProjBwdRefIdeal.τ).loc Cert.InProjBwdRefIdeal.main_arg11) = m ((c.tc : Thread Cert.InProjBwdRefIdeal.nD Cert.InProjBwdRefIdeal.τ).loc Cert.InProjBwdRefIdeal.main_arg11))
      ∧ r.2.sem = fun _ => 0)

def quiescent_InProjBwdRefIdeal_pre_inproj_finite [hInProjBwdRefIdeal : Cert.InProjBwdRefIdeal.Facts] [hPre_inproj_finite : Cert.Pre_inproj_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_inproj_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9)
      ∧ r.2.mem ((c.tc : Thread Cert.InProjBwdRefIdeal.nD Cert.InProjBwdRefIdeal.τ).loc Cert.InProjBwdRefIdeal.main_arg10) = m ((c.tc : Thread Cert.InProjBwdRefIdeal.nD Cert.InProjBwdRefIdeal.τ).loc Cert.InProjBwdRefIdeal.main_arg10)
      ∧ r.2.mem ((c.tc : Thread Cert.InProjBwdRefIdeal.nD Cert.InProjBwdRefIdeal.τ).loc Cert.InProjBwdRefIdeal.main_arg11) = m ((c.tc : Thread Cert.InProjBwdRefIdeal.nD Cert.InProjBwdRefIdeal.τ).loc Cert.InProjBwdRefIdeal.main_arg11))
      ∧ r.2.sem = fun _ => 0)

def quiescent_FlashBwd [hFlashBwd : Cert.FlashBwd.Facts] : Prop :=
  ∀ (m : (ℓ : Loc Cert.FlashBwd.nD Cert.FlashBwd.τ Cert.FlashBwd.sig) → Buf (Elt Bits) ℓ) (g : Dev Cert.FlashBwd.nD → PrngReg), Pre_FlashBwd m →
    θ_run (Cert.FlashBwd.defs (F := Bits)) (onTc (τ := Cert.FlashBwd.τ) (Cert.FlashBwd.main (F := Bits))) ⟨m, fun _ => 0, g⟩ (fun r => (∀ c : Dev Cert.FlashBwd.nD,
      r.2.mem ((c.tc : Thread Cert.FlashBwd.nD Cert.FlashBwd.τ).loc Cert.FlashBwd.main_arg0) = m ((c.tc : Thread Cert.FlashBwd.nD Cert.FlashBwd.τ).loc Cert.FlashBwd.main_arg0)
      ∧ r.2.mem ((c.tc : Thread Cert.FlashBwd.nD Cert.FlashBwd.τ).loc Cert.FlashBwd.main_arg1) = m ((c.tc : Thread Cert.FlashBwd.nD Cert.FlashBwd.τ).loc Cert.FlashBwd.main_arg1)
      ∧ r.2.mem ((c.tc : Thread Cert.FlashBwd.nD Cert.FlashBwd.τ).loc Cert.FlashBwd.main_arg2) = m ((c.tc : Thread Cert.FlashBwd.nD Cert.FlashBwd.τ).loc Cert.FlashBwd.main_arg2)
      ∧ r.2.mem ((c.tc : Thread Cert.FlashBwd.nD Cert.FlashBwd.τ).loc Cert.FlashBwd.main_arg3) = m ((c.tc : Thread Cert.FlashBwd.nD Cert.FlashBwd.τ).loc Cert.FlashBwd.main_arg3))
      ∧ r.2.sem = fun _ => 0)

def quiescent_FlashBwdIdeal [hFlashBwdIdeal : Cert.FlashBwdIdeal.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdIdeal_pre_flash_finite [hFlashBwdIdeal : Cert.FlashBwdIdeal.Facts] [hPre_flash_finite : Cert.Pre_flash_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg), Pre_FlashBwdIdeal_flash_finite m →
    θ_run (Cert.FlashBwdIdeal.defs (F := Ideal)) (onTc (τ := Cert.FlashBwdIdeal.τ) (Cert.FlashBwdIdeal.main (F := Ideal))) ⟨m, fun _ => 0, g⟩ (fun r => (∀ c : Dev Cert.FlashBwdIdeal.nD,
      r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
      ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
      ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
      ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashBwdRefIdeal_pre_flash_finite [hFlashBwdRefIdeal : Cert.FlashBwdRefIdeal.Facts] [hPre_flash_finite : Cert.Pre_flash_finite.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_flash_finite m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_MlaPrepBwd [hMlaPrepBwd : Cert.MlaPrepBwd.Facts] : Prop :=
  ∀ (m : (ℓ : Loc Cert.MlaPrepBwd.nD Cert.MlaPrepBwd.τ Cert.MlaPrepBwd.sig) → Buf (Elt Bits) ℓ) (g : Dev Cert.MlaPrepBwd.nD → PrngReg), Pre_MlaPrepBwd m →
    θ_run (Cert.MlaPrepBwd.defs (F := Bits)) (onTc (τ := Cert.MlaPrepBwd.τ) (Cert.MlaPrepBwd.main (F := Bits))) ⟨m, fun _ => 0, g⟩ (fun r => (∀ c : Dev Cert.MlaPrepBwd.nD,
      r.2.mem ((c.tc : Thread Cert.MlaPrepBwd.nD Cert.MlaPrepBwd.τ).loc Cert.MlaPrepBwd.main_arg0) = m ((c.tc : Thread Cert.MlaPrepBwd.nD Cert.MlaPrepBwd.τ).loc Cert.MlaPrepBwd.main_arg0)
      ∧ r.2.mem ((c.tc : Thread Cert.MlaPrepBwd.nD Cert.MlaPrepBwd.τ).loc Cert.MlaPrepBwd.main_arg1) = m ((c.tc : Thread Cert.MlaPrepBwd.nD Cert.MlaPrepBwd.τ).loc Cert.MlaPrepBwd.main_arg1)
      ∧ r.2.mem ((c.tc : Thread Cert.MlaPrepBwd.nD Cert.MlaPrepBwd.τ).loc Cert.MlaPrepBwd.main_arg2) = m ((c.tc : Thread Cert.MlaPrepBwd.nD Cert.MlaPrepBwd.τ).loc Cert.MlaPrepBwd.main_arg2)
      ∧ r.2.mem ((c.tc : Thread Cert.MlaPrepBwd.nD Cert.MlaPrepBwd.τ).loc Cert.MlaPrepBwd.main_arg3) = m ((c.tc : Thread Cert.MlaPrepBwd.nD Cert.MlaPrepBwd.τ).loc Cert.MlaPrepBwd.main_arg3)
      ∧ r.2.mem ((c.tc : Thread Cert.MlaPrepBwd.nD Cert.MlaPrepBwd.τ).loc Cert.MlaPrepBwd.main_arg4) = m ((c.tc : Thread Cert.MlaPrepBwd.nD Cert.MlaPrepBwd.τ).loc Cert.MlaPrepBwd.main_arg4)
      ∧ r.2.mem ((c.tc : Thread Cert.MlaPrepBwd.nD Cert.MlaPrepBwd.τ).loc Cert.MlaPrepBwd.main_arg5) = m ((c.tc : Thread Cert.MlaPrepBwd.nD Cert.MlaPrepBwd.τ).loc Cert.MlaPrepBwd.main_arg5)
      ∧ r.2.mem ((c.tc : Thread Cert.MlaPrepBwd.nD Cert.MlaPrepBwd.τ).loc Cert.MlaPrepBwd.main_arg6) = m ((c.tc : Thread Cert.MlaPrepBwd.nD Cert.MlaPrepBwd.τ).loc Cert.MlaPrepBwd.main_arg6)
      ∧ r.2.mem ((c.tc : Thread Cert.MlaPrepBwd.nD Cert.MlaPrepBwd.τ).loc Cert.MlaPrepBwd.main_arg7) = m ((c.tc : Thread Cert.MlaPrepBwd.nD Cert.MlaPrepBwd.τ).loc Cert.MlaPrepBwd.main_arg7))
      ∧ r.2.sem = fun _ => 0)

def quiescent_MlaPrepBwdIdeal [hMlaPrepBwdIdeal : Cert.MlaPrepBwdIdeal.Facts] : Prop :=
  ∀ (m : (ℓ : Loc Cert.MlaPrepBwdIdeal.nD Cert.MlaPrepBwdIdeal.τ Cert.MlaPrepBwdIdeal.sig) → Buf (Elt Ideal) ℓ) (g : Dev Cert.MlaPrepBwdIdeal.nD → PrngReg), Pre_MlaPrepBwdIdeal m →
    θ_run (Cert.MlaPrepBwdIdeal.defs (F := Ideal)) (onTc (τ := Cert.MlaPrepBwdIdeal.τ) (Cert.MlaPrepBwdIdeal.main (F := Ideal))) ⟨m, fun _ => 0, g⟩ (fun r => (∀ c : Dev Cert.MlaPrepBwdIdeal.nD,
      r.2.mem ((c.tc : Thread Cert.MlaPrepBwdIdeal.nD Cert.MlaPrepBwdIdeal.τ).loc Cert.MlaPrepBwdIdeal.main_arg0) = m ((c.tc : Thread Cert.MlaPrepBwdIdeal.nD Cert.MlaPrepBwdIdeal.τ).loc Cert.MlaPrepBwdIdeal.main_arg0)
      ∧ r.2.mem ((c.tc : Thread Cert.MlaPrepBwdIdeal.nD Cert.MlaPrepBwdIdeal.τ).loc Cert.MlaPrepBwdIdeal.main_arg1) = m ((c.tc : Thread Cert.MlaPrepBwdIdeal.nD Cert.MlaPrepBwdIdeal.τ).loc Cert.MlaPrepBwdIdeal.main_arg1)
      ∧ r.2.mem ((c.tc : Thread Cert.MlaPrepBwdIdeal.nD Cert.MlaPrepBwdIdeal.τ).loc Cert.MlaPrepBwdIdeal.main_arg2) = m ((c.tc : Thread Cert.MlaPrepBwdIdeal.nD Cert.MlaPrepBwdIdeal.τ).loc Cert.MlaPrepBwdIdeal.main_arg2)
      ∧ r.2.mem ((c.tc : Thread Cert.MlaPrepBwdIdeal.nD Cert.MlaPrepBwdIdeal.τ).loc Cert.MlaPrepBwdIdeal.main_arg3) = m ((c.tc : Thread Cert.MlaPrepBwdIdeal.nD Cert.MlaPrepBwdIdeal.τ).loc Cert.MlaPrepBwdIdeal.main_arg3)
      ∧ r.2.mem ((c.tc : Thread Cert.MlaPrepBwdIdeal.nD Cert.MlaPrepBwdIdeal.τ).loc Cert.MlaPrepBwdIdeal.main_arg4) = m ((c.tc : Thread Cert.MlaPrepBwdIdeal.nD Cert.MlaPrepBwdIdeal.τ).loc Cert.MlaPrepBwdIdeal.main_arg4)
      ∧ r.2.mem ((c.tc : Thread Cert.MlaPrepBwdIdeal.nD Cert.MlaPrepBwdIdeal.τ).loc Cert.MlaPrepBwdIdeal.main_arg5) = m ((c.tc : Thread Cert.MlaPrepBwdIdeal.nD Cert.MlaPrepBwdIdeal.τ).loc Cert.MlaPrepBwdIdeal.main_arg5)
      ∧ r.2.mem ((c.tc : Thread Cert.MlaPrepBwdIdeal.nD Cert.MlaPrepBwdIdeal.τ).loc Cert.MlaPrepBwdIdeal.main_arg6) = m ((c.tc : Thread Cert.MlaPrepBwdIdeal.nD Cert.MlaPrepBwdIdeal.τ).loc Cert.MlaPrepBwdIdeal.main_arg6)
      ∧ r.2.mem ((c.tc : Thread Cert.MlaPrepBwdIdeal.nD Cert.MlaPrepBwdIdeal.τ).loc Cert.MlaPrepBwdIdeal.main_arg7) = m ((c.tc : Thread Cert.MlaPrepBwdIdeal.nD Cert.MlaPrepBwdIdeal.τ).loc Cert.MlaPrepBwdIdeal.main_arg7))
      ∧ r.2.sem = fun _ => 0)

def quiescent_MlaPrepBwdIdeal_pre_mla_finite [hMlaPrepBwdIdeal : Cert.MlaPrepBwdIdeal.Facts] [hPre_mla_finite : Cert.Pre_mla_finite.Facts] : Prop :=
  ∀ (m : (ℓ : Loc Cert.MlaPrepBwdIdeal.nD Cert.MlaPrepBwdIdeal.τ Cert.MlaPrepBwdIdeal.sig) → Buf (Elt Ideal) ℓ) (g : Dev Cert.MlaPrepBwdIdeal.nD → PrngReg), Pre_MlaPrepBwdIdeal_mla_finite m →
    θ_run (Cert.MlaPrepBwdIdeal.defs (F := Ideal)) (onTc (τ := Cert.MlaPrepBwdIdeal.τ) (Cert.MlaPrepBwdIdeal.main (F := Ideal))) ⟨m, fun _ => 0, g⟩ (fun r => (∀ c : Dev Cert.MlaPrepBwdIdeal.nD,
      r.2.mem ((c.tc : Thread Cert.MlaPrepBwdIdeal.nD Cert.MlaPrepBwdIdeal.τ).loc Cert.MlaPrepBwdIdeal.main_arg0) = m ((c.tc : Thread Cert.MlaPrepBwdIdeal.nD Cert.MlaPrepBwdIdeal.τ).loc Cert.MlaPrepBwdIdeal.main_arg0)
      ∧ r.2.mem ((c.tc : Thread Cert.MlaPrepBwdIdeal.nD Cert.MlaPrepBwdIdeal.τ).loc Cert.MlaPrepBwdIdeal.main_arg1) = m ((c.tc : Thread Cert.MlaPrepBwdIdeal.nD Cert.MlaPrepBwdIdeal.τ).loc Cert.MlaPrepBwdIdeal.main_arg1)
      ∧ r.2.mem ((c.tc : Thread Cert.MlaPrepBwdIdeal.nD Cert.MlaPrepBwdIdeal.τ).loc Cert.MlaPrepBwdIdeal.main_arg2) = m ((c.tc : Thread Cert.MlaPrepBwdIdeal.nD Cert.MlaPrepBwdIdeal.τ).loc Cert.MlaPrepBwdIdeal.main_arg2)
      ∧ r.2.mem ((c.tc : Thread Cert.MlaPrepBwdIdeal.nD Cert.MlaPrepBwdIdeal.τ).loc Cert.MlaPrepBwdIdeal.main_arg3) = m ((c.tc : Thread Cert.MlaPrepBwdIdeal.nD Cert.MlaPrepBwdIdeal.τ).loc Cert.MlaPrepBwdIdeal.main_arg3)
      ∧ r.2.mem ((c.tc : Thread Cert.MlaPrepBwdIdeal.nD Cert.MlaPrepBwdIdeal.τ).loc Cert.MlaPrepBwdIdeal.main_arg4) = m ((c.tc : Thread Cert.MlaPrepBwdIdeal.nD Cert.MlaPrepBwdIdeal.τ).loc Cert.MlaPrepBwdIdeal.main_arg4)
      ∧ r.2.mem ((c.tc : Thread Cert.MlaPrepBwdIdeal.nD Cert.MlaPrepBwdIdeal.τ).loc Cert.MlaPrepBwdIdeal.main_arg5) = m ((c.tc : Thread Cert.MlaPrepBwdIdeal.nD Cert.MlaPrepBwdIdeal.τ).loc Cert.MlaPrepBwdIdeal.main_arg5)
      ∧ r.2.mem ((c.tc : Thread Cert.MlaPrepBwdIdeal.nD Cert.MlaPrepBwdIdeal.τ).loc Cert.MlaPrepBwdIdeal.main_arg6) = m ((c.tc : Thread Cert.MlaPrepBwdIdeal.nD Cert.MlaPrepBwdIdeal.τ).loc Cert.MlaPrepBwdIdeal.main_arg6)
      ∧ r.2.mem ((c.tc : Thread Cert.MlaPrepBwdIdeal.nD Cert.MlaPrepBwdIdeal.τ).loc Cert.MlaPrepBwdIdeal.main_arg7) = m ((c.tc : Thread Cert.MlaPrepBwdIdeal.nD Cert.MlaPrepBwdIdeal.τ).loc Cert.MlaPrepBwdIdeal.main_arg7))
      ∧ r.2.sem = fun _ => 0)

def quiescent_MlaPrepBwdRefIdeal [hMlaPrepBwdRefIdeal : Cert.MlaPrepBwdRefIdeal.Facts] : Prop :=
  ∀ (m : (ℓ : Loc Cert.MlaPrepBwdRefIdeal.nD Cert.MlaPrepBwdRefIdeal.τ Cert.MlaPrepBwdRefIdeal.sig) → Buf (Elt Ideal) ℓ) (g : Dev Cert.MlaPrepBwdRefIdeal.nD → PrngReg), Pre_MlaPrepBwdRefIdeal m →
    θ_run (Cert.MlaPrepBwdRefIdeal.defs (F := Ideal)) (onTc (τ := Cert.MlaPrepBwdRefIdeal.τ) (Cert.MlaPrepBwdRefIdeal.main (F := Ideal))) ⟨m, fun _ => 0, g⟩ (fun r => (∀ c : Dev Cert.MlaPrepBwdRefIdeal.nD,
      r.2.mem ((c.tc : Thread Cert.MlaPrepBwdRefIdeal.nD Cert.MlaPrepBwdRefIdeal.τ).loc Cert.MlaPrepBwdRefIdeal.main_arg0) = m ((c.tc : Thread Cert.MlaPrepBwdRefIdeal.nD Cert.MlaPrepBwdRefIdeal.τ).loc Cert.MlaPrepBwdRefIdeal.main_arg0)
      ∧ r.2.mem ((c.tc : Thread Cert.MlaPrepBwdRefIdeal.nD Cert.MlaPrepBwdRefIdeal.τ).loc Cert.MlaPrepBwdRefIdeal.main_arg1) = m ((c.tc : Thread Cert.MlaPrepBwdRefIdeal.nD Cert.MlaPrepBwdRefIdeal.τ).loc Cert.MlaPrepBwdRefIdeal.main_arg1)
      ∧ r.2.mem ((c.tc : Thread Cert.MlaPrepBwdRefIdeal.nD Cert.MlaPrepBwdRefIdeal.τ).loc Cert.MlaPrepBwdRefIdeal.main_arg2) = m ((c.tc : Thread Cert.MlaPrepBwdRefIdeal.nD Cert.MlaPrepBwdRefIdeal.τ).loc Cert.MlaPrepBwdRefIdeal.main_arg2)
      ∧ r.2.mem ((c.tc : Thread Cert.MlaPrepBwdRefIdeal.nD Cert.MlaPrepBwdRefIdeal.τ).loc Cert.MlaPrepBwdRefIdeal.main_arg3) = m ((c.tc : Thread Cert.MlaPrepBwdRefIdeal.nD Cert.MlaPrepBwdRefIdeal.τ).loc Cert.MlaPrepBwdRefIdeal.main_arg3)
      ∧ r.2.mem ((c.tc : Thread Cert.MlaPrepBwdRefIdeal.nD Cert.MlaPrepBwdRefIdeal.τ).loc Cert.MlaPrepBwdRefIdeal.main_arg4) = m ((c.tc : Thread Cert.MlaPrepBwdRefIdeal.nD Cert.MlaPrepBwdRefIdeal.τ).loc Cert.MlaPrepBwdRefIdeal.main_arg4)
      ∧ r.2.mem ((c.tc : Thread Cert.MlaPrepBwdRefIdeal.nD Cert.MlaPrepBwdRefIdeal.τ).loc Cert.MlaPrepBwdRefIdeal.main_arg5) = m ((c.tc : Thread Cert.MlaPrepBwdRefIdeal.nD Cert.MlaPrepBwdRefIdeal.τ).loc Cert.MlaPrepBwdRefIdeal.main_arg5)
      ∧ r.2.mem ((c.tc : Thread Cert.MlaPrepBwdRefIdeal.nD Cert.MlaPrepBwdRefIdeal.τ).loc Cert.MlaPrepBwdRefIdeal.main_arg6) = m ((c.tc : Thread Cert.MlaPrepBwdRefIdeal.nD Cert.MlaPrepBwdRefIdeal.τ).loc Cert.MlaPrepBwdRefIdeal.main_arg6)
      ∧ r.2.mem ((c.tc : Thread Cert.MlaPrepBwdRefIdeal.nD Cert.MlaPrepBwdRefIdeal.τ).loc Cert.MlaPrepBwdRefIdeal.main_arg7) = m ((c.tc : Thread Cert.MlaPrepBwdRefIdeal.nD Cert.MlaPrepBwdRefIdeal.τ).loc Cert.MlaPrepBwdRefIdeal.main_arg7))
      ∧ r.2.sem = fun _ => 0)

def quiescent_MlaPrepBwdRefIdeal_pre_mla_finite [hMlaPrepBwdRefIdeal : Cert.MlaPrepBwdRefIdeal.Facts] [hPre_mla_finite : Cert.Pre_mla_finite.Facts] : Prop :=
  ∀ (m : (ℓ : Loc Cert.MlaPrepBwdRefIdeal.nD Cert.MlaPrepBwdRefIdeal.τ Cert.MlaPrepBwdRefIdeal.sig) → Buf (Elt Ideal) ℓ) (g : Dev Cert.MlaPrepBwdRefIdeal.nD → PrngReg), Pre_MlaPrepBwdRefIdeal_mla_finite m →
    θ_run (Cert.MlaPrepBwdRefIdeal.defs (F := Ideal)) (onTc (τ := Cert.MlaPrepBwdRefIdeal.τ) (Cert.MlaPrepBwdRefIdeal.main (F := Ideal))) ⟨m, fun _ => 0, g⟩ (fun r => (∀ c : Dev Cert.MlaPrepBwdRefIdeal.nD,
      r.2.mem ((c.tc : Thread Cert.MlaPrepBwdRefIdeal.nD Cert.MlaPrepBwdRefIdeal.τ).loc Cert.MlaPrepBwdRefIdeal.main_arg0) = m ((c.tc : Thread Cert.MlaPrepBwdRefIdeal.nD Cert.MlaPrepBwdRefIdeal.τ).loc Cert.MlaPrepBwdRefIdeal.main_arg0)
      ∧ r.2.mem ((c.tc : Thread Cert.MlaPrepBwdRefIdeal.nD Cert.MlaPrepBwdRefIdeal.τ).loc Cert.MlaPrepBwdRefIdeal.main_arg1) = m ((c.tc : Thread Cert.MlaPrepBwdRefIdeal.nD Cert.MlaPrepBwdRefIdeal.τ).loc Cert.MlaPrepBwdRefIdeal.main_arg1)
      ∧ r.2.mem ((c.tc : Thread Cert.MlaPrepBwdRefIdeal.nD Cert.MlaPrepBwdRefIdeal.τ).loc Cert.MlaPrepBwdRefIdeal.main_arg2) = m ((c.tc : Thread Cert.MlaPrepBwdRefIdeal.nD Cert.MlaPrepBwdRefIdeal.τ).loc Cert.MlaPrepBwdRefIdeal.main_arg2)
      ∧ r.2.mem ((c.tc : Thread Cert.MlaPrepBwdRefIdeal.nD Cert.MlaPrepBwdRefIdeal.τ).loc Cert.MlaPrepBwdRefIdeal.main_arg3) = m ((c.tc : Thread Cert.MlaPrepBwdRefIdeal.nD Cert.MlaPrepBwdRefIdeal.τ).loc Cert.MlaPrepBwdRefIdeal.main_arg3)
      ∧ r.2.mem ((c.tc : Thread Cert.MlaPrepBwdRefIdeal.nD Cert.MlaPrepBwdRefIdeal.τ).loc Cert.MlaPrepBwdRefIdeal.main_arg4) = m ((c.tc : Thread Cert.MlaPrepBwdRefIdeal.nD Cert.MlaPrepBwdRefIdeal.τ).loc Cert.MlaPrepBwdRefIdeal.main_arg4)
      ∧ r.2.mem ((c.tc : Thread Cert.MlaPrepBwdRefIdeal.nD Cert.MlaPrepBwdRefIdeal.τ).loc Cert.MlaPrepBwdRefIdeal.main_arg5) = m ((c.tc : Thread Cert.MlaPrepBwdRefIdeal.nD Cert.MlaPrepBwdRefIdeal.τ).loc Cert.MlaPrepBwdRefIdeal.main_arg5)
      ∧ r.2.mem ((c.tc : Thread Cert.MlaPrepBwdRefIdeal.nD Cert.MlaPrepBwdRefIdeal.τ).loc Cert.MlaPrepBwdRefIdeal.main_arg6) = m ((c.tc : Thread Cert.MlaPrepBwdRefIdeal.nD Cert.MlaPrepBwdRefIdeal.τ).loc Cert.MlaPrepBwdRefIdeal.main_arg6)
      ∧ r.2.mem ((c.tc : Thread Cert.MlaPrepBwdRefIdeal.nD Cert.MlaPrepBwdRefIdeal.τ).loc Cert.MlaPrepBwdRefIdeal.main_arg7) = m ((c.tc : Thread Cert.MlaPrepBwdRefIdeal.nD Cert.MlaPrepBwdRefIdeal.τ).loc Cert.MlaPrepBwdRefIdeal.main_arg7))
      ∧ r.2.sem = fun _ => 0)

def quiescent_InProjFwd [hInProjFwd : Cert.InProjFwd.Facts] : Prop :=
  ∀ (m : (ℓ : Loc Cert.InProjFwd.nD Cert.InProjFwd.τ Cert.InProjFwd.sig) → Buf (Elt Bits) ℓ) (g : Dev Cert.InProjFwd.nD → PrngReg), Pre_InProjFwd m →
    θ_run (Cert.InProjFwd.defs (F := Bits)) (onTc (τ := Cert.InProjFwd.τ) (Cert.InProjFwd.main (F := Bits))) ⟨m, fun _ => 0, g⟩ (fun r => (∀ c : Dev Cert.InProjFwd.nD,
      r.2.mem ((c.tc : Thread Cert.InProjFwd.nD Cert.InProjFwd.τ).loc Cert.InProjFwd.main_arg0) = m ((c.tc : Thread Cert.InProjFwd.nD Cert.InProjFwd.τ).loc Cert.InProjFwd.main_arg0)
      ∧ r.2.mem ((c.tc : Thread Cert.InProjFwd.nD Cert.InProjFwd.τ).loc Cert.InProjFwd.main_arg1) = m ((c.tc : Thread Cert.InProjFwd.nD Cert.InProjFwd.τ).loc Cert.InProjFwd.main_arg1)
      ∧ r.2.mem ((c.tc : Thread Cert.InProjFwd.nD Cert.InProjFwd.τ).loc Cert.InProjFwd.main_arg2) = m ((c.tc : Thread Cert.InProjFwd.nD Cert.InProjFwd.τ).loc Cert.InProjFwd.main_arg2))
      ∧ r.2.sem = fun _ => 0)

def quiescent_InProjFwdIdeal [hInProjFwdIdeal : Cert.InProjFwdIdeal.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ r.2.sem = fun _ => 0)

def quiescent_InProjFwdIdeal_pre_inproj_fwd_finite [hInProjFwdIdeal : Cert.InProjFwdIdeal.Facts] [hPre_inproj_fwd_finite : Cert.Pre_inproj_fwd_finite.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg), Pre_InProjFwdIdeal_inproj_fwd_finite m →
    θ_run (Cert.InProjFwdIdeal.defs (F := Ideal)) (onTc (τ := Cert.InProjFwdIdeal.τ) (Cert.InProjFwdIdeal.main (F := Ideal))) ⟨m, fun _ => 0, g⟩ (fun r => (∀ c : Dev Cert.InProjFwdIdeal.nD,
      r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
      ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
      ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ r.2.sem = fun _ => 0)

def quiescent_InProjFwdRefIdeal [hInProjFwdRefIdeal : Cert.InProjFwdRefIdeal.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2))
      ∧ r.2.sem = fun _ => 0)

def quiescent_InProjFwdRefIdeal_pre_inproj_fwd_finite [hInProjFwdRefIdeal : Cert.InProjFwdRefIdeal.Facts] [hPre_inproj_fwd_finite : Cert.Pre_inproj_fwd_finite.Facts] : Prop :=
  ∀ (m : (ℓ : Loc Cert.InProjFwdRefIdeal.nD Cert.InProjFwdRefIdeal.τ Cert.InProjFwdRefIdeal.sig) → Buf (Elt Ideal) ℓ) (g : Dev Cert.InProjFwdRefIdeal.nD → PrngReg), Pre_InProjFwdRefIdeal_inproj_fwd_finite m →
    θ_run (Cert.InProjFwdRefIdeal.defs (F := Ideal)) (onTc (τ := Cert.InProjFwdRefIdeal.τ) (Cert.InProjFwdRefIdeal.main (F := Ideal))) ⟨m, fun _ => 0, g⟩ (fun r => (∀ c : Dev Cert.InProjFwdRefIdeal.nD,
      r.2.mem ((c.tc : Thread Cert.InProjFwdRefIdeal.nD Cert.InProjFwdRefIdeal.τ).loc Cert.InProjFwdRefIdeal.main_arg0) = m ((c.tc : Thread Cert.InProjFwdRefIdeal.nD Cert.InProjFwdRefIdeal.τ).loc Cert.InProjFwdRefIdeal.main_arg0)
      ∧ r.2.mem ((c.tc : Thread Cert.InProjFwdRefIdeal.nD Cert.InProjFwdRefIdeal.τ).loc Cert.InProjFwdRefIdeal.main_arg1) = m ((c.tc : Thread Cert.InProjFwdRefIdeal.nD Cert.InProjFwdRefIdeal.τ).loc Cert.InProjFwdRefIdeal.main_arg1)
      ∧ r.2.mem ((c.tc : Thread Cert.InProjFwdRefIdeal.nD Cert.InProjFwdRefIdeal.τ).loc Cert.InProjFwdRefIdeal.main_arg2) = m ((c.tc : Thread Cert.InProjFwdRefIdeal.nD Cert.InProjFwdRefIdeal.τ).loc Cert.InProjFwdRefIdeal.main_arg2))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_MlaPrepFwd [hMlaPrepFwd : Cert.MlaPrepFwd.Facts] : Prop :=
  ∀ (m : (ℓ : Loc Cert.MlaPrepFwd.nD Cert.MlaPrepFwd.τ Cert.MlaPrepFwd.sig) → Buf (Elt Bits) ℓ) (g : Dev Cert.MlaPrepFwd.nD → PrngReg), Pre_MlaPrepFwd m →
    θ_run (Cert.MlaPrepFwd.defs (F := Bits)) (onTc (τ := Cert.MlaPrepFwd.τ) (Cert.MlaPrepFwd.main (F := Bits))) ⟨m, fun _ => 0, g⟩ (fun r => (∀ c : Dev Cert.MlaPrepFwd.nD,
      r.2.mem ((c.tc : Thread Cert.MlaPrepFwd.nD Cert.MlaPrepFwd.τ).loc Cert.MlaPrepFwd.main_arg0) = m ((c.tc : Thread Cert.MlaPrepFwd.nD Cert.MlaPrepFwd.τ).loc Cert.MlaPrepFwd.main_arg0)
      ∧ r.2.mem ((c.tc : Thread Cert.MlaPrepFwd.nD Cert.MlaPrepFwd.τ).loc Cert.MlaPrepFwd.main_arg1) = m ((c.tc : Thread Cert.MlaPrepFwd.nD Cert.MlaPrepFwd.τ).loc Cert.MlaPrepFwd.main_arg1)
      ∧ r.2.mem ((c.tc : Thread Cert.MlaPrepFwd.nD Cert.MlaPrepFwd.τ).loc Cert.MlaPrepFwd.main_arg2) = m ((c.tc : Thread Cert.MlaPrepFwd.nD Cert.MlaPrepFwd.τ).loc Cert.MlaPrepFwd.main_arg2)
      ∧ r.2.mem ((c.tc : Thread Cert.MlaPrepFwd.nD Cert.MlaPrepFwd.τ).loc Cert.MlaPrepFwd.main_arg3) = m ((c.tc : Thread Cert.MlaPrepFwd.nD Cert.MlaPrepFwd.τ).loc Cert.MlaPrepFwd.main_arg3)
      ∧ r.2.mem ((c.tc : Thread Cert.MlaPrepFwd.nD Cert.MlaPrepFwd.τ).loc Cert.MlaPrepFwd.main_arg4) = m ((c.tc : Thread Cert.MlaPrepFwd.nD Cert.MlaPrepFwd.τ).loc Cert.MlaPrepFwd.main_arg4))
      ∧ r.2.sem = fun _ => 0)

def quiescent_MlaPrepFwdIdeal [hMlaPrepFwdIdeal : Cert.MlaPrepFwdIdeal.Facts] : Prop :=
  ∀ (m : (ℓ : Loc Cert.MlaPrepFwdIdeal.nD Cert.MlaPrepFwdIdeal.τ Cert.MlaPrepFwdIdeal.sig) → Buf (Elt Ideal) ℓ) (g : Dev Cert.MlaPrepFwdIdeal.nD → PrngReg), Pre_MlaPrepFwdIdeal m →
    θ_run (Cert.MlaPrepFwdIdeal.defs (F := Ideal)) (onTc (τ := Cert.MlaPrepFwdIdeal.τ) (Cert.MlaPrepFwdIdeal.main (F := Ideal))) ⟨m, fun _ => 0, g⟩ (fun r => (∀ c : Dev Cert.MlaPrepFwdIdeal.nD,
      r.2.mem ((c.tc : Thread Cert.MlaPrepFwdIdeal.nD Cert.MlaPrepFwdIdeal.τ).loc Cert.MlaPrepFwdIdeal.main_arg0) = m ((c.tc : Thread Cert.MlaPrepFwdIdeal.nD Cert.MlaPrepFwdIdeal.τ).loc Cert.MlaPrepFwdIdeal.main_arg0)
      ∧ r.2.mem ((c.tc : Thread Cert.MlaPrepFwdIdeal.nD Cert.MlaPrepFwdIdeal.τ).loc Cert.MlaPrepFwdIdeal.main_arg1) = m ((c.tc : Thread Cert.MlaPrepFwdIdeal.nD Cert.MlaPrepFwdIdeal.τ).loc Cert.MlaPrepFwdIdeal.main_arg1)
      ∧ r.2.mem ((c.tc : Thread Cert.MlaPrepFwdIdeal.nD Cert.MlaPrepFwdIdeal.τ).loc Cert.MlaPrepFwdIdeal.main_arg2) = m ((c.tc : Thread Cert.MlaPrepFwdIdeal.nD Cert.MlaPrepFwdIdeal.τ).loc Cert.MlaPrepFwdIdeal.main_arg2)
      ∧ r.2.mem ((c.tc : Thread Cert.MlaPrepFwdIdeal.nD Cert.MlaPrepFwdIdeal.τ).loc Cert.MlaPrepFwdIdeal.main_arg3) = m ((c.tc : Thread Cert.MlaPrepFwdIdeal.nD Cert.MlaPrepFwdIdeal.τ).loc Cert.MlaPrepFwdIdeal.main_arg3)
      ∧ r.2.mem ((c.tc : Thread Cert.MlaPrepFwdIdeal.nD Cert.MlaPrepFwdIdeal.τ).loc Cert.MlaPrepFwdIdeal.main_arg4) = m ((c.tc : Thread Cert.MlaPrepFwdIdeal.nD Cert.MlaPrepFwdIdeal.τ).loc Cert.MlaPrepFwdIdeal.main_arg4))
      ∧ r.2.sem = fun _ => 0)

def quiescent_MlaPrepFwdIdeal_pre_mla_fwd_finite [hMlaPrepFwdIdeal : Cert.MlaPrepFwdIdeal.Facts] [hPre_mla_fwd_finite : Cert.Pre_mla_fwd_finite.Facts] : Prop :=
  ∀ (m : (ℓ : Loc Cert.MlaPrepFwdIdeal.nD Cert.MlaPrepFwdIdeal.τ Cert.MlaPrepFwdIdeal.sig) → Buf (Elt Ideal) ℓ) (g : Dev Cert.MlaPrepFwdIdeal.nD → PrngReg), Pre_MlaPrepFwdIdeal_mla_fwd_finite m →
    θ_run (Cert.MlaPrepFwdIdeal.defs (F := Ideal)) (onTc (τ := Cert.MlaPrepFwdIdeal.τ) (Cert.MlaPrepFwdIdeal.main (F := Ideal))) ⟨m, fun _ => 0, g⟩ (fun r => (∀ c : Dev Cert.MlaPrepFwdIdeal.nD,
      r.2.mem ((c.tc : Thread Cert.MlaPrepFwdIdeal.nD Cert.MlaPrepFwdIdeal.τ).loc Cert.MlaPrepFwdIdeal.main_arg0) = m ((c.tc : Thread Cert.MlaPrepFwdIdeal.nD Cert.MlaPrepFwdIdeal.τ).loc Cert.MlaPrepFwdIdeal.main_arg0)
      ∧ r.2.mem ((c.tc : Thread Cert.MlaPrepFwdIdeal.nD Cert.MlaPrepFwdIdeal.τ).loc Cert.MlaPrepFwdIdeal.main_arg1) = m ((c.tc : Thread Cert.MlaPrepFwdIdeal.nD Cert.MlaPrepFwdIdeal.τ).loc Cert.MlaPrepFwdIdeal.main_arg1)
      ∧ r.2.mem ((c.tc : Thread Cert.MlaPrepFwdIdeal.nD Cert.MlaPrepFwdIdeal.τ).loc Cert.MlaPrepFwdIdeal.main_arg2) = m ((c.tc : Thread Cert.MlaPrepFwdIdeal.nD Cert.MlaPrepFwdIdeal.τ).loc Cert.MlaPrepFwdIdeal.main_arg2)
      ∧ r.2.mem ((c.tc : Thread Cert.MlaPrepFwdIdeal.nD Cert.MlaPrepFwdIdeal.τ).loc Cert.MlaPrepFwdIdeal.main_arg3) = m ((c.tc : Thread Cert.MlaPrepFwdIdeal.nD Cert.MlaPrepFwdIdeal.τ).loc Cert.MlaPrepFwdIdeal.main_arg3)
      ∧ r.2.mem ((c.tc : Thread Cert.MlaPrepFwdIdeal.nD Cert.MlaPrepFwdIdeal.τ).loc Cert.MlaPrepFwdIdeal.main_arg4) = m ((c.tc : Thread Cert.MlaPrepFwdIdeal.nD Cert.MlaPrepFwdIdeal.τ).loc Cert.MlaPrepFwdIdeal.main_arg4))
      ∧ r.2.sem = fun _ => 0)

def quiescent_MlaPrepFwdRefIdeal [hMlaPrepFwdRefIdeal : Cert.MlaPrepFwdRefIdeal.Facts] : Prop :=
  ∀ (m : (ℓ : Loc Cert.MlaPrepFwdRefIdeal.nD Cert.MlaPrepFwdRefIdeal.τ Cert.MlaPrepFwdRefIdeal.sig) → Buf (Elt Ideal) ℓ) (g : Dev Cert.MlaPrepFwdRefIdeal.nD → PrngReg), Pre_MlaPrepFwdRefIdeal m →
    θ_run (Cert.MlaPrepFwdRefIdeal.defs (F := Ideal)) (onTc (τ := Cert.MlaPrepFwdRefIdeal.τ) (Cert.MlaPrepFwdRefIdeal.main (F := Ideal))) ⟨m, fun _ => 0, g⟩ (fun r => (∀ c : Dev Cert.MlaPrepFwdRefIdeal.nD,
      r.2.mem ((c.tc : Thread Cert.MlaPrepFwdRefIdeal.nD Cert.MlaPrepFwdRefIdeal.τ).loc Cert.MlaPrepFwdRefIdeal.main_arg0) = m ((c.tc : Thread Cert.MlaPrepFwdRefIdeal.nD Cert.MlaPrepFwdRefIdeal.τ).loc Cert.MlaPrepFwdRefIdeal.main_arg0)
      ∧ r.2.mem ((c.tc : Thread Cert.MlaPrepFwdRefIdeal.nD Cert.MlaPrepFwdRefIdeal.τ).loc Cert.MlaPrepFwdRefIdeal.main_arg1) = m ((c.tc : Thread Cert.MlaPrepFwdRefIdeal.nD Cert.MlaPrepFwdRefIdeal.τ).loc Cert.MlaPrepFwdRefIdeal.main_arg1)
      ∧ r.2.mem ((c.tc : Thread Cert.MlaPrepFwdRefIdeal.nD Cert.MlaPrepFwdRefIdeal.τ).loc Cert.MlaPrepFwdRefIdeal.main_arg2) = m ((c.tc : Thread Cert.MlaPrepFwdRefIdeal.nD Cert.MlaPrepFwdRefIdeal.τ).loc Cert.MlaPrepFwdRefIdeal.main_arg2)
      ∧ r.2.mem ((c.tc : Thread Cert.MlaPrepFwdRefIdeal.nD Cert.MlaPrepFwdRefIdeal.τ).loc Cert.MlaPrepFwdRefIdeal.main_arg3) = m ((c.tc : Thread Cert.MlaPrepFwdRefIdeal.nD Cert.MlaPrepFwdRefIdeal.τ).loc Cert.MlaPrepFwdRefIdeal.main_arg3)
      ∧ r.2.mem ((c.tc : Thread Cert.MlaPrepFwdRefIdeal.nD Cert.MlaPrepFwdRefIdeal.τ).loc Cert.MlaPrepFwdRefIdeal.main_arg4) = m ((c.tc : Thread Cert.MlaPrepFwdRefIdeal.nD Cert.MlaPrepFwdRefIdeal.τ).loc Cert.MlaPrepFwdRefIdeal.main_arg4))
      ∧ r.2.sem = fun _ => 0)

def quiescent_MlaPrepFwdRefIdeal_pre_mla_fwd_finite [hMlaPrepFwdRefIdeal : Cert.MlaPrepFwdRefIdeal.Facts] [hPre_mla_fwd_finite : Cert.Pre_mla_fwd_finite.Facts] : Prop :=
  ∀ (m : (ℓ : Loc Cert.MlaPrepFwdRefIdeal.nD Cert.MlaPrepFwdRefIdeal.τ Cert.MlaPrepFwdRefIdeal.sig) → Buf (Elt Ideal) ℓ) (g : Dev Cert.MlaPrepFwdRefIdeal.nD → PrngReg), Pre_MlaPrepFwdRefIdeal_mla_fwd_finite m →
    θ_run (Cert.MlaPrepFwdRefIdeal.defs (F := Ideal)) (onTc (τ := Cert.MlaPrepFwdRefIdeal.τ) (Cert.MlaPrepFwdRefIdeal.main (F := Ideal))) ⟨m, fun _ => 0, g⟩ (fun r => (∀ c : Dev Cert.MlaPrepFwdRefIdeal.nD,
      r.2.mem ((c.tc : Thread Cert.MlaPrepFwdRefIdeal.nD Cert.MlaPrepFwdRefIdeal.τ).loc Cert.MlaPrepFwdRefIdeal.main_arg0) = m ((c.tc : Thread Cert.MlaPrepFwdRefIdeal.nD Cert.MlaPrepFwdRefIdeal.τ).loc Cert.MlaPrepFwdRefIdeal.main_arg0)
      ∧ r.2.mem ((c.tc : Thread Cert.MlaPrepFwdRefIdeal.nD Cert.MlaPrepFwdRefIdeal.τ).loc Cert.MlaPrepFwdRefIdeal.main_arg1) = m ((c.tc : Thread Cert.MlaPrepFwdRefIdeal.nD Cert.MlaPrepFwdRefIdeal.τ).loc Cert.MlaPrepFwdRefIdeal.main_arg1)
      ∧ r.2.mem ((c.tc : Thread Cert.MlaPrepFwdRefIdeal.nD Cert.MlaPrepFwdRefIdeal.τ).loc Cert.MlaPrepFwdRefIdeal.main_arg2) = m ((c.tc : Thread Cert.MlaPrepFwdRefIdeal.nD Cert.MlaPrepFwdRefIdeal.τ).loc Cert.MlaPrepFwdRefIdeal.main_arg2)
      ∧ r.2.mem ((c.tc : Thread Cert.MlaPrepFwdRefIdeal.nD Cert.MlaPrepFwdRefIdeal.τ).loc Cert.MlaPrepFwdRefIdeal.main_arg3) = m ((c.tc : Thread Cert.MlaPrepFwdRefIdeal.nD Cert.MlaPrepFwdRefIdeal.τ).loc Cert.MlaPrepFwdRefIdeal.main_arg3)
      ∧ r.2.mem ((c.tc : Thread Cert.MlaPrepFwdRefIdeal.nD Cert.MlaPrepFwdRefIdeal.τ).loc Cert.MlaPrepFwdRefIdeal.main_arg4) = m ((c.tc : Thread Cert.MlaPrepFwdRefIdeal.nD Cert.MlaPrepFwdRefIdeal.τ).loc Cert.MlaPrepFwdRefIdeal.main_arg4))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7))
      ∧ r.2.sem = fun _ => 0)

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_PoolBwd_PoolBwdIdeal : Prop :=
  True

def algebraic_PoolBwdIdeal_PoolBwdRefIdeal_on_pool_blocks_pre_pool_finite [hPoolBwdIdeal : Cert.PoolBwdIdeal.Facts] [hPoolBwdRefIdeal : Cert.PoolBwdRefIdeal.Facts] [hPre_pool_finite : Cert.Pre_pool_finite.Facts] [hOn_pool_blocks : Cert.On_pool_blocks.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_pool_finite m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v28_0)) (v1 : (c : Dev Cert.PoolBwdIdeal.nD) → Buf (Elt Ideal) ((c.tc : Thread Cert.PoolBwdIdeal.nD Cert.PoolBwdIdeal.τ).loc Cert.PoolBwdIdeal.main_v28_1)) (v2 : (c : Dev Cert.PoolBwdIdeal.nD) → Buf (Elt Ideal) ((c.tc : Thread Cert.PoolBwdIdeal.nD Cert.PoolBwdIdeal.τ).loc Cert.PoolBwdIdeal.main_v28_2)) (v3 : (c : Dev Cert.PoolBwdIdeal.nD) → Buf (Elt Ideal) ((c.tc : Thread Cert.PoolBwdIdeal.nD Cert.PoolBwdIdeal.τ).loc Cert.PoolBwdIdeal.main_v28_3)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          (∀ i : (⟨2, ![8192, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 i = 1#1 → r.2.mem ((c.tc : Thread Cert.PoolBwdIdeal.nD Cert.PoolBwdIdeal.τ).loc Cert.PoolBwdIdeal.main_v28_0) i = v0 c i)
          ∧ (∀ i : (⟨2, ![8192, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 i = 1#1 → r.2.mem ((c.tc : Thread Cert.PoolBwdIdeal.nD Cert.PoolBwdIdeal.τ).loc Cert.PoolBwdIdeal.main_v28_1) i = v1 c i)
          ∧ (∀ i : (⟨2, ![256, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.1 i = 1#1 → r.2.mem ((c.tc : Thread Cert.PoolBwdIdeal.nD Cert.PoolBwdIdeal.τ).loc Cert.PoolBwdIdeal.main_v28_2) i = v2 c i)
          ∧ (∀ i : (⟨2, ![1, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.2 i = 1#1 → r.2.mem ((c.tc : Thread Cert.PoolBwdIdeal.nD Cert.PoolBwdIdeal.τ).loc Cert.PoolBwdIdeal.main_v28_3) i = v3 c i)
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          (∀ i : (⟨2, ![8192, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).1 i = 1#1 → r.2.mem ((c.tc : Thread Cert.PoolBwdRefIdeal.nD Cert.PoolBwdRefIdeal.τ).loc Cert.PoolBwdRefIdeal.main_v157) i = v0 c i)
          ∧ (∀ i : (⟨2, ![8192, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.1 i = 1#1 → r.2.mem ((c.tc : Thread Cert.PoolBwdRefIdeal.nD Cert.PoolBwdRefIdeal.τ).loc Cert.PoolBwdRefIdeal.main_v158) i = v1 c i)
          ∧ (∀ i : (⟨2, ![256, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.1 i = 1#1 → r.2.mem ((c.tc : Thread Cert.PoolBwdRefIdeal.nD Cert.PoolBwdRefIdeal.τ).loc Cert.PoolBwdRefIdeal.main_v156) i = v2 c i)
          ∧ (∀ i : (⟨2, ![1, 256]⟩ : Shape).Idx, (Cert.On_pool_blocks.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3))).2.2.2 i = 1#1 → r.2.mem ((c.tc : Thread Cert.PoolBwdRefIdeal.nD Cert.PoolBwdRefIdeal.τ).loc Cert.PoolBwdRefIdeal.main_v159) i = v3 c i)
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def preserves_OutProjBwd_OutProjBwdIdeal : Prop :=
  True

def algebraic_OutProjBwdIdeal_OutProjBwdRefIdeal_pre_outproj_finite [hOutProjBwdIdeal : Cert.OutProjBwdIdeal.Facts] [hOutProjBwdRefIdeal : Cert.OutProjBwdRefIdeal.Facts] [hPre_outproj_finite : Cert.Pre_outproj_finite.Facts] : Prop :=
  ∀ (m : (ℓ : Loc Cert.OutProjBwdIdeal.nD Cert.OutProjBwdIdeal.τ Cert.OutProjBwdIdeal.sig) → Buf (Elt Ideal) ℓ) (g : Dev Cert.OutProjBwdIdeal.nD → PrngReg)
    (m' : (ℓ : Loc Cert.OutProjBwdRefIdeal.nD Cert.OutProjBwdRefIdeal.τ Cert.OutProjBwdRefIdeal.sig) → Buf (Elt Ideal) ℓ) (g' : Dev Cert.OutProjBwdRefIdeal.nD → PrngReg), Pre_OutProjBwdIdeal_outproj_finite m →
    (∀ c : Dev Cert.OutProjBwdIdeal.nD,
      m' ((c.tc : Thread Cert.OutProjBwdRefIdeal.nD Cert.OutProjBwdRefIdeal.τ).loc Cert.OutProjBwdRefIdeal.main_arg0) = m ((c.tc : Thread Cert.OutProjBwdIdeal.nD Cert.OutProjBwdIdeal.τ).loc Cert.OutProjBwdIdeal.main_arg0)
      ∧ m' ((c.tc : Thread Cert.OutProjBwdRefIdeal.nD Cert.OutProjBwdRefIdeal.τ).loc Cert.OutProjBwdRefIdeal.main_arg1) = m ((c.tc : Thread Cert.OutProjBwdIdeal.nD Cert.OutProjBwdIdeal.τ).loc Cert.OutProjBwdIdeal.main_arg1)
      ∧ m' ((c.tc : Thread Cert.OutProjBwdRefIdeal.nD Cert.OutProjBwdRefIdeal.τ).loc Cert.OutProjBwdRefIdeal.main_arg2) = m ((c.tc : Thread Cert.OutProjBwdIdeal.nD Cert.OutProjBwdIdeal.τ).loc Cert.OutProjBwdIdeal.main_arg2)
      ∧ m' ((c.tc : Thread Cert.OutProjBwdRefIdeal.nD Cert.OutProjBwdRefIdeal.τ).loc Cert.OutProjBwdRefIdeal.main_arg3) = m ((c.tc : Thread Cert.OutProjBwdIdeal.nD Cert.OutProjBwdIdeal.τ).loc Cert.OutProjBwdIdeal.main_arg3)
      ∧ m' ((c.tc : Thread Cert.OutProjBwdRefIdeal.nD Cert.OutProjBwdRefIdeal.τ).loc Cert.OutProjBwdRefIdeal.main_arg4) = m ((c.tc : Thread Cert.OutProjBwdIdeal.nD Cert.OutProjBwdIdeal.τ).loc Cert.OutProjBwdIdeal.main_arg4)
      ∧ m' ((c.tc : Thread Cert.OutProjBwdRefIdeal.nD Cert.OutProjBwdRefIdeal.τ).loc Cert.OutProjBwdRefIdeal.main_arg5) = m ((c.tc : Thread Cert.OutProjBwdIdeal.nD Cert.OutProjBwdIdeal.τ).loc Cert.OutProjBwdIdeal.main_arg5)) →
    ∃ (v0 : (c : Dev Cert.OutProjBwdIdeal.nD) → Buf (Elt Ideal) ((c.tc : Thread Cert.OutProjBwdIdeal.nD Cert.OutProjBwdIdeal.τ).loc Cert.OutProjBwdIdeal.main_v21_0)) (v1 : (c : Dev Cert.OutProjBwdIdeal.nD) → Buf (Elt Ideal) ((c.tc : Thread Cert.OutProjBwdIdeal.nD Cert.OutProjBwdIdeal.τ).loc Cert.OutProjBwdIdeal.main_v21_1)) (v2 : (c : Dev Cert.OutProjBwdIdeal.nD) → Buf (Elt Ideal) ((c.tc : Thread Cert.OutProjBwdIdeal.nD Cert.OutProjBwdIdeal.τ).loc Cert.OutProjBwdIdeal.main_v21_2)) (v3 : (c : Dev Cert.OutProjBwdIdeal.nD) → Buf (Elt Ideal) ((c.tc : Thread Cert.OutProjBwdIdeal.nD Cert.OutProjBwdIdeal.τ).loc Cert.OutProjBwdIdeal.main_v21_3)) (v4 : (c : Dev Cert.OutProjBwdIdeal.nD) → Buf (Elt Ideal) ((c.tc : Thread Cert.OutProjBwdIdeal.nD Cert.OutProjBwdIdeal.τ).loc Cert.OutProjBwdIdeal.main_v21_4)) (v5 : (c : Dev Cert.OutProjBwdIdeal.nD) → Buf (Elt Ideal) ((c.tc : Thread Cert.OutProjBwdIdeal.nD Cert.OutProjBwdIdeal.τ).loc Cert.OutProjBwdIdeal.main_v21_5)),
      θ_run (Cert.OutProjBwdIdeal.defs (F := Ideal)) (onTc (τ := Cert.OutProjBwdIdeal.τ) (Cert.OutProjBwdIdeal.main (F := Ideal))) ⟨m, fun _ => 0, g⟩ (fun r => ∀ c : Dev Cert.OutProjBwdIdeal.nD,
          r.2.mem ((c.tc : Thread Cert.OutProjBwdIdeal.nD Cert.OutProjBwdIdeal.τ).loc Cert.OutProjBwdIdeal.main_v21_0) = v0 c
          ∧ r.2.mem ((c.tc : Thread Cert.OutProjBwdIdeal.nD Cert.OutProjBwdIdeal.τ).loc Cert.OutProjBwdIdeal.main_v21_1) = v1 c
          ∧ r.2.mem ((c.tc : Thread Cert.OutProjBwdIdeal.nD Cert.OutProjBwdIdeal.τ).loc Cert.OutProjBwdIdeal.main_v21_2) = v2 c
          ∧ r.2.mem ((c.tc : Thread Cert.OutProjBwdIdeal.nD Cert.OutProjBwdIdeal.τ).loc Cert.OutProjBwdIdeal.main_v21_3) = v3 c
          ∧ r.2.mem ((c.tc : Thread Cert.OutProjBwdIdeal.nD Cert.OutProjBwdIdeal.τ).loc Cert.OutProjBwdIdeal.main_v21_4) = v4 c
          ∧ r.2.mem ((c.tc : Thread Cert.OutProjBwdIdeal.nD Cert.OutProjBwdIdeal.τ).loc Cert.OutProjBwdIdeal.main_v21_5) = v5 c
          ∧ r.2.mem ((c.tc : Thread Cert.OutProjBwdIdeal.nD Cert.OutProjBwdIdeal.τ).loc Cert.OutProjBwdIdeal.main_arg0) = m ((c.tc : Thread Cert.OutProjBwdIdeal.nD Cert.OutProjBwdIdeal.τ).loc Cert.OutProjBwdIdeal.main_arg0)
          ∧ r.2.mem ((c.tc : Thread Cert.OutProjBwdIdeal.nD Cert.OutProjBwdIdeal.τ).loc Cert.OutProjBwdIdeal.main_arg1) = m ((c.tc : Thread Cert.OutProjBwdIdeal.nD Cert.OutProjBwdIdeal.τ).loc Cert.OutProjBwdIdeal.main_arg1)
          ∧ r.2.mem ((c.tc : Thread Cert.OutProjBwdIdeal.nD Cert.OutProjBwdIdeal.τ).loc Cert.OutProjBwdIdeal.main_arg2) = m ((c.tc : Thread Cert.OutProjBwdIdeal.nD Cert.OutProjBwdIdeal.τ).loc Cert.OutProjBwdIdeal.main_arg2)
          ∧ r.2.mem ((c.tc : Thread Cert.OutProjBwdIdeal.nD Cert.OutProjBwdIdeal.τ).loc Cert.OutProjBwdIdeal.main_arg3) = m ((c.tc : Thread Cert.OutProjBwdIdeal.nD Cert.OutProjBwdIdeal.τ).loc Cert.OutProjBwdIdeal.main_arg3)
          ∧ r.2.mem ((c.tc : Thread Cert.OutProjBwdIdeal.nD Cert.OutProjBwdIdeal.τ).loc Cert.OutProjBwdIdeal.main_arg4) = m ((c.tc : Thread Cert.OutProjBwdIdeal.nD Cert.OutProjBwdIdeal.τ).loc Cert.OutProjBwdIdeal.main_arg4)
          ∧ r.2.mem ((c.tc : Thread Cert.OutProjBwdIdeal.nD Cert.OutProjBwdIdeal.τ).loc Cert.OutProjBwdIdeal.main_arg5) = m ((c.tc : Thread Cert.OutProjBwdIdeal.nD Cert.OutProjBwdIdeal.τ).loc Cert.OutProjBwdIdeal.main_arg5))
      ∧ θ_run (Cert.OutProjBwdRefIdeal.defs (F := Ideal)) (onTc (τ := Cert.OutProjBwdRefIdeal.τ) (Cert.OutProjBwdRefIdeal.main (F := Ideal))) ⟨m', fun _ => 0, g'⟩ (fun r => ∀ c : Dev Cert.OutProjBwdRefIdeal.nD,
          r.2.mem ((c.tc : Thread Cert.OutProjBwdRefIdeal.nD Cert.OutProjBwdRefIdeal.τ).loc Cert.OutProjBwdRefIdeal.main_v10) = v0 c
          ∧ r.2.mem ((c.tc : Thread Cert.OutProjBwdRefIdeal.nD Cert.OutProjBwdRefIdeal.τ).loc Cert.OutProjBwdRefIdeal.main_v12) = v1 c
          ∧ r.2.mem ((c.tc : Thread Cert.OutProjBwdRefIdeal.nD Cert.OutProjBwdRefIdeal.τ).loc Cert.OutProjBwdRefIdeal.main_v21) = v2 c
          ∧ r.2.mem ((c.tc : Thread Cert.OutProjBwdRefIdeal.nD Cert.OutProjBwdRefIdeal.τ).loc Cert.OutProjBwdRefIdeal.main_v22) = v3 c
          ∧ r.2.mem ((c.tc : Thread Cert.OutProjBwdRefIdeal.nD Cert.OutProjBwdRefIdeal.τ).loc Cert.OutProjBwdRefIdeal.main_v20) = v4 c
          ∧ r.2.mem ((c.tc : Thread Cert.OutProjBwdRefIdeal.nD Cert.OutProjBwdRefIdeal.τ).loc Cert.OutProjBwdRefIdeal.main_v8) = v5 c
          ∧ r.2.mem ((c.tc : Thread Cert.OutProjBwdRefIdeal.nD Cert.OutProjBwdRefIdeal.τ).loc Cert.OutProjBwdRefIdeal.main_arg0) = m' ((c.tc : Thread Cert.OutProjBwdRefIdeal.nD Cert.OutProjBwdRefIdeal.τ).loc Cert.OutProjBwdRefIdeal.main_arg0)
          ∧ r.2.mem ((c.tc : Thread Cert.OutProjBwdRefIdeal.nD Cert.OutProjBwdRefIdeal.τ).loc Cert.OutProjBwdRefIdeal.main_arg1) = m' ((c.tc : Thread Cert.OutProjBwdRefIdeal.nD Cert.OutProjBwdRefIdeal.τ).loc Cert.OutProjBwdRefIdeal.main_arg1)
          ∧ r.2.mem ((c.tc : Thread Cert.OutProjBwdRefIdeal.nD Cert.OutProjBwdRefIdeal.τ).loc Cert.OutProjBwdRefIdeal.main_arg2) = m' ((c.tc : Thread Cert.OutProjBwdRefIdeal.nD Cert.OutProjBwdRefIdeal.τ).loc Cert.OutProjBwdRefIdeal.main_arg2)
          ∧ r.2.mem ((c.tc : Thread Cert.OutProjBwdRefIdeal.nD Cert.OutProjBwdRefIdeal.τ).loc Cert.OutProjBwdRefIdeal.main_arg3) = m' ((c.tc : Thread Cert.OutProjBwdRefIdeal.nD Cert.OutProjBwdRefIdeal.τ).loc Cert.OutProjBwdRefIdeal.main_arg3)
          ∧ r.2.mem ((c.tc : Thread Cert.OutProjBwdRefIdeal.nD Cert.OutProjBwdRefIdeal.τ).loc Cert.OutProjBwdRefIdeal.main_arg4) = m' ((c.tc : Thread Cert.OutProjBwdRefIdeal.nD Cert.OutProjBwdRefIdeal.τ).loc Cert.OutProjBwdRefIdeal.main_arg4)
          ∧ r.2.mem ((c.tc : Thread Cert.OutProjBwdRefIdeal.nD Cert.OutProjBwdRefIdeal.τ).loc Cert.OutProjBwdRefIdeal.main_arg5) = m' ((c.tc : Thread Cert.OutProjBwdRefIdeal.nD Cert.OutProjBwdRefIdeal.τ).loc Cert.OutProjBwdRefIdeal.main_arg5))

def preserves_InProjBwd_InProjBwdIdeal : Prop :=
  True

def algebraic_InProjBwdIdeal_InProjBwdRefIdeal_pre_inproj_finite [hInProjBwdIdeal : Cert.InProjBwdIdeal.Facts] [hInProjBwdRefIdeal : Cert.InProjBwdRefIdeal.Facts] [hPre_inproj_finite : Cert.Pre_inproj_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_inproj_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)
      ∧ m' ((c.tc : Thread Cert.InProjBwdRefIdeal.nD Cert.InProjBwdRefIdeal.τ).loc Cert.InProjBwdRefIdeal.main_arg8) = m ((c.tc : Thread Cert.InProjBwdIdeal.nD Cert.InProjBwdIdeal.τ).loc Cert.InProjBwdIdeal.main_arg8)
      ∧ m' ((c.tc : Thread Cert.InProjBwdRefIdeal.nD Cert.InProjBwdRefIdeal.τ).loc Cert.InProjBwdRefIdeal.main_arg9) = m ((c.tc : Thread Cert.InProjBwdIdeal.nD Cert.InProjBwdIdeal.τ).loc Cert.InProjBwdIdeal.main_arg9)
      ∧ m' ((c.tc : Thread Cert.InProjBwdRefIdeal.nD Cert.InProjBwdRefIdeal.τ).loc Cert.InProjBwdRefIdeal.main_arg10) = m ((c.tc : Thread Cert.InProjBwdIdeal.nD Cert.InProjBwdIdeal.τ).loc Cert.InProjBwdIdeal.main_arg10)
      ∧ m' ((c.tc : Thread Cert.InProjBwdRefIdeal.nD Cert.InProjBwdRefIdeal.τ).loc Cert.InProjBwdRefIdeal.main_arg11) = m ((c.tc : Thread Cert.InProjBwdIdeal.nD Cert.InProjBwdIdeal.τ).loc Cert.InProjBwdIdeal.main_arg11)) →
    ∃ (v0 : (c : Dev Cert.InProjBwdIdeal.nD) → Buf (Elt Ideal) ((c.tc : Thread Cert.InProjBwdIdeal.nD Cert.InProjBwdIdeal.τ).loc Cert.InProjBwdIdeal.main_v25_0)) (v1 : (c : Dev Cert.InProjBwdIdeal.nD) → Buf (Elt Ideal) ((c.tc : Thread Cert.InProjBwdIdeal.nD Cert.InProjBwdIdeal.τ).loc Cert.InProjBwdIdeal.main_v25_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v25_0) = v0 c
          ∧ r.2.mem ((c.tc : Thread Cert.InProjBwdIdeal.nD Cert.InProjBwdIdeal.τ).loc Cert.InProjBwdIdeal.main_v25_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9)
          ∧ r.2.mem ((c.tc : Thread Cert.InProjBwdIdeal.nD Cert.InProjBwdIdeal.τ).loc Cert.InProjBwdIdeal.main_arg10) = m ((c.tc : Thread Cert.InProjBwdIdeal.nD Cert.InProjBwdIdeal.τ).loc Cert.InProjBwdIdeal.main_arg10)
          ∧ r.2.mem ((c.tc : Thread Cert.InProjBwdIdeal.nD Cert.InProjBwdIdeal.τ).loc Cert.InProjBwdIdeal.main_arg11) = m ((c.tc : Thread Cert.InProjBwdIdeal.nD Cert.InProjBwdIdeal.τ).loc Cert.InProjBwdIdeal.main_arg11))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v43) = v0 c
          ∧ r.2.mem ((c.tc : Thread Cert.InProjBwdRefIdeal.nD Cert.InProjBwdRefIdeal.τ).loc Cert.InProjBwdRefIdeal.main_v44) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7)
          ∧ r.2.mem ((c.tc : Thread Cert.InProjBwdRefIdeal.nD Cert.InProjBwdRefIdeal.τ).loc Cert.InProjBwdRefIdeal.main_arg8) = m' ((c.tc : Thread Cert.InProjBwdRefIdeal.nD Cert.InProjBwdRefIdeal.τ).loc Cert.InProjBwdRefIdeal.main_arg8)
          ∧ r.2.mem ((c.tc : Thread Cert.InProjBwdRefIdeal.nD Cert.InProjBwdRefIdeal.τ).loc Cert.InProjBwdRefIdeal.main_arg9) = m' ((c.tc : Thread Cert.InProjBwdRefIdeal.nD Cert.InProjBwdRefIdeal.τ).loc Cert.InProjBwdRefIdeal.main_arg9)
          ∧ r.2.mem ((c.tc : Thread Cert.InProjBwdRefIdeal.nD Cert.InProjBwdRefIdeal.τ).loc Cert.InProjBwdRefIdeal.main_arg10) = m' ((c.tc : Thread Cert.InProjBwdRefIdeal.nD Cert.InProjBwdRefIdeal.τ).loc Cert.InProjBwdRefIdeal.main_arg10)
          ∧ r.2.mem ((c.tc : Thread Cert.InProjBwdRefIdeal.nD Cert.InProjBwdRefIdeal.τ).loc Cert.InProjBwdRefIdeal.main_arg11) = m' ((c.tc : Thread Cert.InProjBwdRefIdeal.nD Cert.InProjBwdRefIdeal.τ).loc Cert.InProjBwdRefIdeal.main_arg11))

def preserves_FlashBwd_FlashBwdIdeal : Prop :=
  IdealRules.named_const.Statement Cert.FlashBwdIdeal.κ "mask" .f32 0xF149F2CA#32 ⊥
  ∧ IdealRules.named_const.Statement Cert.FlashBwdIdeal.κ "ln_2" .f32 0x3F317218#32 ((Real.log 2 : ℝ) : EReal)

def algebraic_FlashBwdIdeal_FlashBwdRefIdeal_pre_flash_finite [hFlashBwdIdeal : Cert.FlashBwdIdeal.Facts] [hFlashBwdRefIdeal : Cert.FlashBwdRefIdeal.Facts] [hPre_flash_finite : Cert.Pre_flash_finite.Facts] : Prop :=
  ∀ (m : (ℓ : Loc Cert.FlashBwdIdeal.nD Cert.FlashBwdIdeal.τ Cert.FlashBwdIdeal.sig) → Buf (Elt Ideal) ℓ) (g : Dev Cert.FlashBwdIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdIdeal_flash_finite m →
    (∀ c : Dev Cert.FlashBwdIdeal.nD,
      m' ((c.tc : Thread Cert.FlashBwdRefIdeal.nD Cert.FlashBwdRefIdeal.τ).loc Cert.FlashBwdRefIdeal.main_arg0) = m ((c.tc : Thread Cert.FlashBwdIdeal.nD Cert.FlashBwdIdeal.τ).loc Cert.FlashBwdIdeal.main_arg0)
      ∧ m' ((c.tc : Thread Cert.FlashBwdRefIdeal.nD Cert.FlashBwdRefIdeal.τ).loc Cert.FlashBwdRefIdeal.main_arg1) = m ((c.tc : Thread Cert.FlashBwdIdeal.nD Cert.FlashBwdIdeal.τ).loc Cert.FlashBwdIdeal.main_arg1)
      ∧ m' ((c.tc : Thread Cert.FlashBwdRefIdeal.nD Cert.FlashBwdRefIdeal.τ).loc Cert.FlashBwdRefIdeal.main_arg2) = m ((c.tc : Thread Cert.FlashBwdIdeal.nD Cert.FlashBwdIdeal.τ).loc Cert.FlashBwdIdeal.main_arg2)
      ∧ m' ((c.tc : Thread Cert.FlashBwdRefIdeal.nD Cert.FlashBwdRefIdeal.τ).loc Cert.FlashBwdRefIdeal.main_arg3) = m ((c.tc : Thread Cert.FlashBwdIdeal.nD Cert.FlashBwdIdeal.τ).loc Cert.FlashBwdIdeal.main_arg3)) →
    ∃ (v0 : (c : Dev Cert.FlashBwdIdeal.nD) → Buf (Elt Ideal) ((c.tc : Thread Cert.FlashBwdIdeal.nD Cert.FlashBwdIdeal.τ).loc Cert.FlashBwdIdeal.main_v70_0)) (v1 : (c : Dev Cert.FlashBwdIdeal.nD) → Buf (Elt Ideal) ((c.tc : Thread Cert.FlashBwdIdeal.nD Cert.FlashBwdIdeal.τ).loc Cert.FlashBwdIdeal.main_v70_1)) (v2 : (c : Dev Cert.FlashBwdIdeal.nD) → Buf (Elt Ideal) ((c.tc : Thread Cert.FlashBwdIdeal.nD Cert.FlashBwdIdeal.τ).loc Cert.FlashBwdIdeal.main_v70_2)),
      θ_run (Cert.FlashBwdIdeal.defs (F := Ideal)) (onTc (τ := Cert.FlashBwdIdeal.τ) (Cert.FlashBwdIdeal.main (F := Ideal))) ⟨m, fun _ => 0, g⟩ (fun r => ∀ c : Dev Cert.FlashBwdIdeal.nD,
          r.2.mem ((c.tc : Thread Cert.FlashBwdIdeal.nD Cert.FlashBwdIdeal.τ).loc Cert.FlashBwdIdeal.main_v70_0) = v0 c
          ∧ r.2.mem ((c.tc : Thread Cert.FlashBwdIdeal.nD Cert.FlashBwdIdeal.τ).loc Cert.FlashBwdIdeal.main_v70_1) = v1 c
          ∧ r.2.mem ((c.tc : Thread Cert.FlashBwdIdeal.nD Cert.FlashBwdIdeal.τ).loc Cert.FlashBwdIdeal.main_v70_2) = v2 c
          ∧ r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
          ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
          ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
          ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v69) = v0 c
          ∧ r.2.mem ((c.tc : Thread Cert.FlashBwdRefIdeal.nD Cert.FlashBwdRefIdeal.τ).loc Cert.FlashBwdRefIdeal.main_v71) = v1 c
          ∧ r.2.mem ((c.tc : Thread Cert.FlashBwdRefIdeal.nD Cert.FlashBwdRefIdeal.τ).loc Cert.FlashBwdRefIdeal.main_v73) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3))

def preserves_MlaPrepBwd_MlaPrepBwdIdeal : Prop :=
  True

def algebraic_MlaPrepBwdIdeal_MlaPrepBwdRefIdeal_on_mla_columns_pre_mla_finite [hMlaPrepBwdIdeal : Cert.MlaPrepBwdIdeal.Facts] [hMlaPrepBwdRefIdeal : Cert.MlaPrepBwdRefIdeal.Facts] [hPre_mla_finite : Cert.Pre_mla_finite.Facts] [hOn_mla_columns : Cert.On_mla_columns.Facts] : Prop :=
  ∀ (m : (ℓ : Loc Cert.MlaPrepBwdIdeal.nD Cert.MlaPrepBwdIdeal.τ Cert.MlaPrepBwdIdeal.sig) → Buf (Elt Ideal) ℓ) (g : Dev Cert.MlaPrepBwdIdeal.nD → PrngReg)
    (m' : (ℓ : Loc Cert.MlaPrepBwdRefIdeal.nD Cert.MlaPrepBwdRefIdeal.τ Cert.MlaPrepBwdRefIdeal.sig) → Buf (Elt Ideal) ℓ) (g' : Dev Cert.MlaPrepBwdRefIdeal.nD → PrngReg), Pre_MlaPrepBwdIdeal_mla_finite m →
    (∀ c : Dev Cert.MlaPrepBwdIdeal.nD,
      m' ((c.tc : Thread Cert.MlaPrepBwdRefIdeal.nD Cert.MlaPrepBwdRefIdeal.τ).loc Cert.MlaPrepBwdRefIdeal.main_arg0) = m ((c.tc : Thread Cert.MlaPrepBwdIdeal.nD Cert.MlaPrepBwdIdeal.τ).loc Cert.MlaPrepBwdIdeal.main_arg0)
      ∧ m' ((c.tc : Thread Cert.MlaPrepBwdRefIdeal.nD Cert.MlaPrepBwdRefIdeal.τ).loc Cert.MlaPrepBwdRefIdeal.main_arg1) = m ((c.tc : Thread Cert.MlaPrepBwdIdeal.nD Cert.MlaPrepBwdIdeal.τ).loc Cert.MlaPrepBwdIdeal.main_arg1)
      ∧ m' ((c.tc : Thread Cert.MlaPrepBwdRefIdeal.nD Cert.MlaPrepBwdRefIdeal.τ).loc Cert.MlaPrepBwdRefIdeal.main_arg2) = m ((c.tc : Thread Cert.MlaPrepBwdIdeal.nD Cert.MlaPrepBwdIdeal.τ).loc Cert.MlaPrepBwdIdeal.main_arg2)
      ∧ m' ((c.tc : Thread Cert.MlaPrepBwdRefIdeal.nD Cert.MlaPrepBwdRefIdeal.τ).loc Cert.MlaPrepBwdRefIdeal.main_arg3) = m ((c.tc : Thread Cert.MlaPrepBwdIdeal.nD Cert.MlaPrepBwdIdeal.τ).loc Cert.MlaPrepBwdIdeal.main_arg3)
      ∧ m' ((c.tc : Thread Cert.MlaPrepBwdRefIdeal.nD Cert.MlaPrepBwdRefIdeal.τ).loc Cert.MlaPrepBwdRefIdeal.main_arg4) = m ((c.tc : Thread Cert.MlaPrepBwdIdeal.nD Cert.MlaPrepBwdIdeal.τ).loc Cert.MlaPrepBwdIdeal.main_arg4)
      ∧ m' ((c.tc : Thread Cert.MlaPrepBwdRefIdeal.nD Cert.MlaPrepBwdRefIdeal.τ).loc Cert.MlaPrepBwdRefIdeal.main_arg5) = m ((c.tc : Thread Cert.MlaPrepBwdIdeal.nD Cert.MlaPrepBwdIdeal.τ).loc Cert.MlaPrepBwdIdeal.main_arg5)
      ∧ m' ((c.tc : Thread Cert.MlaPrepBwdRefIdeal.nD Cert.MlaPrepBwdRefIdeal.τ).loc Cert.MlaPrepBwdRefIdeal.main_arg6) = m ((c.tc : Thread Cert.MlaPrepBwdIdeal.nD Cert.MlaPrepBwdIdeal.τ).loc Cert.MlaPrepBwdIdeal.main_arg6)
      ∧ m' ((c.tc : Thread Cert.MlaPrepBwdRefIdeal.nD Cert.MlaPrepBwdRefIdeal.τ).loc Cert.MlaPrepBwdRefIdeal.main_arg7) = m ((c.tc : Thread Cert.MlaPrepBwdIdeal.nD Cert.MlaPrepBwdIdeal.τ).loc Cert.MlaPrepBwdIdeal.main_arg7)) →
    ∃ (v0 : (c : Dev Cert.MlaPrepBwdIdeal.nD) → Buf (Elt Ideal) ((c.tc : Thread Cert.MlaPrepBwdIdeal.nD Cert.MlaPrepBwdIdeal.τ).loc Cert.MlaPrepBwdIdeal.main_v93_0)) (v1 : (c : Dev Cert.MlaPrepBwdIdeal.nD) → Buf (Elt Ideal) ((c.tc : Thread Cert.MlaPrepBwdIdeal.nD Cert.MlaPrepBwdIdeal.τ).loc Cert.MlaPrepBwdIdeal.main_v93_1)) (v2 : (c : Dev Cert.MlaPrepBwdIdeal.nD) → Buf (Elt Ideal) ((c.tc : Thread Cert.MlaPrepBwdIdeal.nD Cert.MlaPrepBwdIdeal.τ).loc Cert.MlaPrepBwdIdeal.main_v93_2)) (v3 : (c : Dev Cert.MlaPrepBwdIdeal.nD) → Buf (Elt Ideal) ((c.tc : Thread Cert.MlaPrepBwdIdeal.nD Cert.MlaPrepBwdIdeal.τ).loc Cert.MlaPrepBwdIdeal.main_v93_3)) (v4 : (c : Dev Cert.MlaPrepBwdIdeal.nD) → Buf (Elt Ideal) ((c.tc : Thread Cert.MlaPrepBwdIdeal.nD Cert.MlaPrepBwdIdeal.τ).loc Cert.MlaPrepBwdIdeal.main_v93_4)) (v5 : (c : Dev Cert.MlaPrepBwdIdeal.nD) → Buf (Elt Ideal) ((c.tc : Thread Cert.MlaPrepBwdIdeal.nD Cert.MlaPrepBwdIdeal.τ).loc Cert.MlaPrepBwdIdeal.main_v93_5)) (v6 : (c : Dev Cert.MlaPrepBwdIdeal.nD) → Buf (Elt Ideal) ((c.tc : Thread Cert.MlaPrepBwdIdeal.nD Cert.MlaPrepBwdIdeal.τ).loc Cert.MlaPrepBwdIdeal.main_v93_6)),
      θ_run (Cert.MlaPrepBwdIdeal.defs (F := Ideal)) (onTc (τ := Cert.MlaPrepBwdIdeal.τ) (Cert.MlaPrepBwdIdeal.main (F := Ideal))) ⟨m, fun _ => 0, g⟩ (fun r => ∀ c : Dev Cert.MlaPrepBwdIdeal.nD,
          (∀ i : (⟨2, ![8192, 384]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).1 i = 1#1 → r.2.mem ((c.tc : Thread Cert.MlaPrepBwdIdeal.nD Cert.MlaPrepBwdIdeal.τ).loc Cert.MlaPrepBwdIdeal.main_v93_0) i = v0 c i)
          ∧ (∀ i : (⟨2, ![8192, 256]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.1 i = 1#1 → r.2.mem ((c.tc : Thread Cert.MlaPrepBwdIdeal.nD Cert.MlaPrepBwdIdeal.τ).loc Cert.MlaPrepBwdIdeal.main_v93_1) i = v1 c i)
          ∧ (∀ i : (⟨2, ![8192, 128]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.1 i = 1#1 → r.2.mem ((c.tc : Thread Cert.MlaPrepBwdIdeal.nD Cert.MlaPrepBwdIdeal.τ).loc Cert.MlaPrepBwdIdeal.main_v93_2) i = v2 c i)
          ∧ (∀ i : (⟨2, ![384, 768]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.1 i = 1#1 → r.2.mem ((c.tc : Thread Cert.MlaPrepBwdIdeal.nD Cert.MlaPrepBwdIdeal.τ).loc Cert.MlaPrepBwdIdeal.main_v93_3) i = v3 c i)
          ∧ (∀ i : (⟨2, ![256, 1152]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.1 i = 1#1 → r.2.mem ((c.tc : Thread Cert.MlaPrepBwdIdeal.nD Cert.MlaPrepBwdIdeal.τ).loc Cert.MlaPrepBwdIdeal.main_v93_4) i = v4 c i)
          ∧ (∀ i : (⟨2, ![1, 384]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.1 i = 1#1 → r.2.mem ((c.tc : Thread Cert.MlaPrepBwdIdeal.nD Cert.MlaPrepBwdIdeal.τ).loc Cert.MlaPrepBwdIdeal.main_v93_5) i = v5 c i)
          ∧ (∀ i : (⟨2, ![1, 256]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.2 i = 1#1 → r.2.mem ((c.tc : Thread Cert.MlaPrepBwdIdeal.nD Cert.MlaPrepBwdIdeal.τ).loc Cert.MlaPrepBwdIdeal.main_v93_6) i = v6 c i)
          ∧ r.2.mem ((c.tc : Thread Cert.MlaPrepBwdIdeal.nD Cert.MlaPrepBwdIdeal.τ).loc Cert.MlaPrepBwdIdeal.main_arg0) = m ((c.tc : Thread Cert.MlaPrepBwdIdeal.nD Cert.MlaPrepBwdIdeal.τ).loc Cert.MlaPrepBwdIdeal.main_arg0)
          ∧ r.2.mem ((c.tc : Thread Cert.MlaPrepBwdIdeal.nD Cert.MlaPrepBwdIdeal.τ).loc Cert.MlaPrepBwdIdeal.main_arg1) = m ((c.tc : Thread Cert.MlaPrepBwdIdeal.nD Cert.MlaPrepBwdIdeal.τ).loc Cert.MlaPrepBwdIdeal.main_arg1)
          ∧ r.2.mem ((c.tc : Thread Cert.MlaPrepBwdIdeal.nD Cert.MlaPrepBwdIdeal.τ).loc Cert.MlaPrepBwdIdeal.main_arg2) = m ((c.tc : Thread Cert.MlaPrepBwdIdeal.nD Cert.MlaPrepBwdIdeal.τ).loc Cert.MlaPrepBwdIdeal.main_arg2)
          ∧ r.2.mem ((c.tc : Thread Cert.MlaPrepBwdIdeal.nD Cert.MlaPrepBwdIdeal.τ).loc Cert.MlaPrepBwdIdeal.main_arg3) = m ((c.tc : Thread Cert.MlaPrepBwdIdeal.nD Cert.MlaPrepBwdIdeal.τ).loc Cert.MlaPrepBwdIdeal.main_arg3)
          ∧ r.2.mem ((c.tc : Thread Cert.MlaPrepBwdIdeal.nD Cert.MlaPrepBwdIdeal.τ).loc Cert.MlaPrepBwdIdeal.main_arg4) = m ((c.tc : Thread Cert.MlaPrepBwdIdeal.nD Cert.MlaPrepBwdIdeal.τ).loc Cert.MlaPrepBwdIdeal.main_arg4)
          ∧ r.2.mem ((c.tc : Thread Cert.MlaPrepBwdIdeal.nD Cert.MlaPrepBwdIdeal.τ).loc Cert.MlaPrepBwdIdeal.main_arg5) = m ((c.tc : Thread Cert.MlaPrepBwdIdeal.nD Cert.MlaPrepBwdIdeal.τ).loc Cert.MlaPrepBwdIdeal.main_arg5)
          ∧ r.2.mem ((c.tc : Thread Cert.MlaPrepBwdIdeal.nD Cert.MlaPrepBwdIdeal.τ).loc Cert.MlaPrepBwdIdeal.main_arg6) = m ((c.tc : Thread Cert.MlaPrepBwdIdeal.nD Cert.MlaPrepBwdIdeal.τ).loc Cert.MlaPrepBwdIdeal.main_arg6)
          ∧ r.2.mem ((c.tc : Thread Cert.MlaPrepBwdIdeal.nD Cert.MlaPrepBwdIdeal.τ).loc Cert.MlaPrepBwdIdeal.main_arg7) = m ((c.tc : Thread Cert.MlaPrepBwdIdeal.nD Cert.MlaPrepBwdIdeal.τ).loc Cert.MlaPrepBwdIdeal.main_arg7))
      ∧ θ_run (Cert.MlaPrepBwdRefIdeal.defs (F := Ideal)) (onTc (τ := Cert.MlaPrepBwdRefIdeal.τ) (Cert.MlaPrepBwdRefIdeal.main (F := Ideal))) ⟨m', fun _ => 0, g'⟩ (fun r => ∀ c : Dev Cert.MlaPrepBwdRefIdeal.nD,
          (∀ i : (⟨2, ![8192, 384]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).1 i = 1#1 → r.2.mem ((c.tc : Thread Cert.MlaPrepBwdRefIdeal.nD Cert.MlaPrepBwdRefIdeal.τ).loc Cert.MlaPrepBwdRefIdeal.main_v195) i = v0 c i)
          ∧ (∀ i : (⟨2, ![8192, 256]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.1 i = 1#1 → r.2.mem ((c.tc : Thread Cert.MlaPrepBwdRefIdeal.nD Cert.MlaPrepBwdRefIdeal.τ).loc Cert.MlaPrepBwdRefIdeal.main_v196) i = v1 c i)
          ∧ (∀ i : (⟨2, ![8192, 128]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.1 i = 1#1 → r.2.mem ((c.tc : Thread Cert.MlaPrepBwdRefIdeal.nD Cert.MlaPrepBwdRefIdeal.τ).loc Cert.MlaPrepBwdRefIdeal.main_v198) i = v2 c i)
          ∧ (∀ i : (⟨2, ![384, 768]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.1 i = 1#1 → r.2.mem ((c.tc : Thread Cert.MlaPrepBwdRefIdeal.nD Cert.MlaPrepBwdRefIdeal.τ).loc Cert.MlaPrepBwdRefIdeal.main_v201) i = v3 c i)
          ∧ (∀ i : (⟨2, ![256, 1152]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.1 i = 1#1 → r.2.mem ((c.tc : Thread Cert.MlaPrepBwdRefIdeal.nD Cert.MlaPrepBwdRefIdeal.τ).loc Cert.MlaPrepBwdRefIdeal.main_v194) i = v4 c i)
          ∧ (∀ i : (⟨2, ![1, 384]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.1 i = 1#1 → r.2.mem ((c.tc : Thread Cert.MlaPrepBwdRefIdeal.nD Cert.MlaPrepBwdRefIdeal.τ).loc Cert.MlaPrepBwdRefIdeal.main_v202) i = v5 c i)
          ∧ (∀ i : (⟨2, ![1, 256]⟩ : Shape).Idx, (Cert.On_mla_columns.fn (F := Ideal) (m ((c.tc : Thread Cert.MlaPrepBwdIdeal.nD Cert.MlaPrepBwdIdeal.τ).loc Cert.MlaPrepBwdIdeal.main_arg0)) (m ((c.tc : Thread Cert.MlaPrepBwdIdeal.nD Cert.MlaPrepBwdIdeal.τ).loc Cert.MlaPrepBwdIdeal.main_arg1)) (m ((c.tc : Thread Cert.MlaPrepBwdIdeal.nD Cert.MlaPrepBwdIdeal.τ).loc Cert.MlaPrepBwdIdeal.main_arg2)) (m ((c.tc : Thread Cert.MlaPrepBwdIdeal.nD Cert.MlaPrepBwdIdeal.τ).loc Cert.MlaPrepBwdIdeal.main_arg3)) (m ((c.tc : Thread Cert.MlaPrepBwdIdeal.nD Cert.MlaPrepBwdIdeal.τ).loc Cert.MlaPrepBwdIdeal.main_arg4)) (m ((c.tc : Thread Cert.MlaPrepBwdIdeal.nD Cert.MlaPrepBwdIdeal.τ).loc Cert.MlaPrepBwdIdeal.main_arg5)) (m ((c.tc : Thread Cert.MlaPrepBwdIdeal.nD Cert.MlaPrepBwdIdeal.τ).loc Cert.MlaPrepBwdIdeal.main_arg6)) (m ((c.tc : Thread Cert.MlaPrepBwdIdeal.nD Cert.MlaPrepBwdIdeal.τ).loc Cert.MlaPrepBwdIdeal.main_arg7))).2.2.2.2.2.2 i = 1#1 → r.2.mem ((c.tc : Thread Cert.MlaPrepBwdRefIdeal.nD Cert.MlaPrepBwdRefIdeal.τ).loc Cert.MlaPrepBwdRefIdeal.main_v203) i = v6 c i)
          ∧ r.2.mem ((c.tc : Thread Cert.MlaPrepBwdRefIdeal.nD Cert.MlaPrepBwdRefIdeal.τ).loc Cert.MlaPrepBwdRefIdeal.main_arg0) = m' ((c.tc : Thread Cert.MlaPrepBwdRefIdeal.nD Cert.MlaPrepBwdRefIdeal.τ).loc Cert.MlaPrepBwdRefIdeal.main_arg0)
          ∧ r.2.mem ((c.tc : Thread Cert.MlaPrepBwdRefIdeal.nD Cert.MlaPrepBwdRefIdeal.τ).loc Cert.MlaPrepBwdRefIdeal.main_arg1) = m' ((c.tc : Thread Cert.MlaPrepBwdRefIdeal.nD Cert.MlaPrepBwdRefIdeal.τ).loc Cert.MlaPrepBwdRefIdeal.main_arg1)
          ∧ r.2.mem ((c.tc : Thread Cert.MlaPrepBwdRefIdeal.nD Cert.MlaPrepBwdRefIdeal.τ).loc Cert.MlaPrepBwdRefIdeal.main_arg2) = m' ((c.tc : Thread Cert.MlaPrepBwdRefIdeal.nD Cert.MlaPrepBwdRefIdeal.τ).loc Cert.MlaPrepBwdRefIdeal.main_arg2)
          ∧ r.2.mem ((c.tc : Thread Cert.MlaPrepBwdRefIdeal.nD Cert.MlaPrepBwdRefIdeal.τ).loc Cert.MlaPrepBwdRefIdeal.main_arg3) = m' ((c.tc : Thread Cert.MlaPrepBwdRefIdeal.nD Cert.MlaPrepBwdRefIdeal.τ).loc Cert.MlaPrepBwdRefIdeal.main_arg3)
          ∧ r.2.mem ((c.tc : Thread Cert.MlaPrepBwdRefIdeal.nD Cert.MlaPrepBwdRefIdeal.τ).loc Cert.MlaPrepBwdRefIdeal.main_arg4) = m' ((c.tc : Thread Cert.MlaPrepBwdRefIdeal.nD Cert.MlaPrepBwdRefIdeal.τ).loc Cert.MlaPrepBwdRefIdeal.main_arg4)
          ∧ r.2.mem ((c.tc : Thread Cert.MlaPrepBwdRefIdeal.nD Cert.MlaPrepBwdRefIdeal.τ).loc Cert.MlaPrepBwdRefIdeal.main_arg5) = m' ((c.tc : Thread Cert.MlaPrepBwdRefIdeal.nD Cert.MlaPrepBwdRefIdeal.τ).loc Cert.MlaPrepBwdRefIdeal.main_arg5)
          ∧ r.2.mem ((c.tc : Thread Cert.MlaPrepBwdRefIdeal.nD Cert.MlaPrepBwdRefIdeal.τ).loc Cert.MlaPrepBwdRefIdeal.main_arg6) = m' ((c.tc : Thread Cert.MlaPrepBwdRefIdeal.nD Cert.MlaPrepBwdRefIdeal.τ).loc Cert.MlaPrepBwdRefIdeal.main_arg6)
          ∧ r.2.mem ((c.tc : Thread Cert.MlaPrepBwdRefIdeal.nD Cert.MlaPrepBwdRefIdeal.τ).loc Cert.MlaPrepBwdRefIdeal.main_arg7) = m' ((c.tc : Thread Cert.MlaPrepBwdRefIdeal.nD Cert.MlaPrepBwdRefIdeal.τ).loc Cert.MlaPrepBwdRefIdeal.main_arg7))

def preserves_InProjFwd_InProjFwdIdeal : Prop :=
  True

def algebraic_InProjFwdIdeal_InProjFwdRefIdeal_pre_inproj_fwd_finite [hInProjFwdIdeal : Cert.InProjFwdIdeal.Facts] [hInProjFwdRefIdeal : Cert.InProjFwdRefIdeal.Facts] [hPre_inproj_fwd_finite : Cert.Pre_inproj_fwd_finite.Facts] : Prop :=
  ∀ (m : (ℓ : Loc Cert.InProjFwdIdeal.nD Cert.InProjFwdIdeal.τ Cert.InProjFwdIdeal.sig) → Buf (Elt Ideal) ℓ) (g : Dev Cert.InProjFwdIdeal.nD → PrngReg)
    (m' : (ℓ : Loc Cert.InProjFwdRefIdeal.nD Cert.InProjFwdRefIdeal.τ Cert.InProjFwdRefIdeal.sig) → Buf (Elt Ideal) ℓ) (g' : Dev Cert.InProjFwdRefIdeal.nD → PrngReg), Pre_InProjFwdIdeal_inproj_fwd_finite m →
    (∀ c : Dev Cert.InProjFwdIdeal.nD,
      m' ((c.tc : Thread Cert.InProjFwdRefIdeal.nD Cert.InProjFwdRefIdeal.τ).loc Cert.InProjFwdRefIdeal.main_arg0) = m ((c.tc : Thread Cert.InProjFwdIdeal.nD Cert.InProjFwdIdeal.τ).loc Cert.InProjFwdIdeal.main_arg0)
      ∧ m' ((c.tc : Thread Cert.InProjFwdRefIdeal.nD Cert.InProjFwdRefIdeal.τ).loc Cert.InProjFwdRefIdeal.main_arg1) = m ((c.tc : Thread Cert.InProjFwdIdeal.nD Cert.InProjFwdIdeal.τ).loc Cert.InProjFwdIdeal.main_arg1)
      ∧ m' ((c.tc : Thread Cert.InProjFwdRefIdeal.nD Cert.InProjFwdRefIdeal.τ).loc Cert.InProjFwdRefIdeal.main_arg2) = m ((c.tc : Thread Cert.InProjFwdIdeal.nD Cert.InProjFwdIdeal.τ).loc Cert.InProjFwdIdeal.main_arg2)) →
    ∃ (v0 : (c : Dev Cert.InProjFwdIdeal.nD) → Buf (Elt Ideal) ((c.tc : Thread Cert.InProjFwdIdeal.nD Cert.InProjFwdIdeal.τ).loc Cert.InProjFwdIdeal.main_v16_0)) (v1 : (c : Dev Cert.InProjFwdIdeal.nD) → Buf (Elt Ideal) ((c.tc : Thread Cert.InProjFwdIdeal.nD Cert.InProjFwdIdeal.τ).loc Cert.InProjFwdIdeal.main_v16_1)),
      θ_run (Cert.InProjFwdIdeal.defs (F := Ideal)) (onTc (τ := Cert.InProjFwdIdeal.τ) (Cert.InProjFwdIdeal.main (F := Ideal))) ⟨m, fun _ => 0, g⟩ (fun r => ∀ c : Dev Cert.InProjFwdIdeal.nD,
          r.2.mem ((c.tc : Thread Cert.InProjFwdIdeal.nD Cert.InProjFwdIdeal.τ).loc Cert.InProjFwdIdeal.main_v16_0) = v0 c
          ∧ r.2.mem ((c.tc : Thread Cert.InProjFwdIdeal.nD Cert.InProjFwdIdeal.τ).loc Cert.InProjFwdIdeal.main_v16_1) = v1 c
          ∧ r.2.mem ((c.tc : Thread Cert.InProjFwdIdeal.nD Cert.InProjFwdIdeal.τ).loc Cert.InProjFwdIdeal.main_arg0) = m ((c.tc : Thread Cert.InProjFwdIdeal.nD Cert.InProjFwdIdeal.τ).loc Cert.InProjFwdIdeal.main_arg0)
          ∧ r.2.mem ((c.tc : Thread Cert.InProjFwdIdeal.nD Cert.InProjFwdIdeal.τ).loc Cert.InProjFwdIdeal.main_arg1) = m ((c.tc : Thread Cert.InProjFwdIdeal.nD Cert.InProjFwdIdeal.τ).loc Cert.InProjFwdIdeal.main_arg1)
          ∧ r.2.mem ((c.tc : Thread Cert.InProjFwdIdeal.nD Cert.InProjFwdIdeal.τ).loc Cert.InProjFwdIdeal.main_arg2) = m ((c.tc : Thread Cert.InProjFwdIdeal.nD Cert.InProjFwdIdeal.τ).loc Cert.InProjFwdIdeal.main_arg2))
      ∧ θ_run (Cert.InProjFwdRefIdeal.defs (F := Ideal)) (onTc (τ := Cert.InProjFwdRefIdeal.τ) (Cert.InProjFwdRefIdeal.main (F := Ideal))) ⟨m', fun _ => 0, g'⟩ (fun r => ∀ c : Dev Cert.InProjFwdRefIdeal.nD,
          r.2.mem ((c.tc : Thread Cert.InProjFwdRefIdeal.nD Cert.InProjFwdRefIdeal.τ).loc Cert.InProjFwdRefIdeal.main_v26) = v0 c
          ∧ r.2.mem ((c.tc : Thread Cert.InProjFwdRefIdeal.nD Cert.InProjFwdRefIdeal.τ).loc Cert.InProjFwdRefIdeal.main_v25) = v1 c
          ∧ r.2.mem ((c.tc : Thread Cert.InProjFwdRefIdeal.nD Cert.InProjFwdRefIdeal.τ).loc Cert.InProjFwdRefIdeal.main_arg0) = m' ((c.tc : Thread Cert.InProjFwdRefIdeal.nD Cert.InProjFwdRefIdeal.τ).loc Cert.InProjFwdRefIdeal.main_arg0)
          ∧ r.2.mem ((c.tc : Thread Cert.InProjFwdRefIdeal.nD Cert.InProjFwdRefIdeal.τ).loc Cert.InProjFwdRefIdeal.main_arg1) = m' ((c.tc : Thread Cert.InProjFwdRefIdeal.nD Cert.InProjFwdRefIdeal.τ).loc Cert.InProjFwdRefIdeal.main_arg1)
          ∧ r.2.mem ((c.tc : Thread Cert.InProjFwdRefIdeal.nD Cert.InProjFwdRefIdeal.τ).loc Cert.InProjFwdRefIdeal.main_arg2) = m' ((c.tc : Thread Cert.InProjFwdRefIdeal.nD Cert.InProjFwdRefIdeal.τ).loc Cert.InProjFwdRefIdeal.main_arg2))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v28)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v28) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v70) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_MlaPrepFwd_MlaPrepFwdIdeal : Prop :=
  True

def algebraic_MlaPrepFwdIdeal_MlaPrepFwdRefIdeal_pre_mla_fwd_finite [hMlaPrepFwdIdeal : Cert.MlaPrepFwdIdeal.Facts] [hMlaPrepFwdRefIdeal : Cert.MlaPrepFwdRefIdeal.Facts] [hPre_mla_fwd_finite : Cert.Pre_mla_fwd_finite.Facts] : Prop :=
  ∀ (m : (ℓ : Loc Cert.MlaPrepFwdIdeal.nD Cert.MlaPrepFwdIdeal.τ Cert.MlaPrepFwdIdeal.sig) → Buf (Elt Ideal) ℓ) (g : Dev Cert.MlaPrepFwdIdeal.nD → PrngReg)
    (m' : (ℓ : Loc Cert.MlaPrepFwdRefIdeal.nD Cert.MlaPrepFwdRefIdeal.τ Cert.MlaPrepFwdRefIdeal.sig) → Buf (Elt Ideal) ℓ) (g' : Dev Cert.MlaPrepFwdRefIdeal.nD → PrngReg), Pre_MlaPrepFwdIdeal_mla_fwd_finite m →
    (∀ c : Dev Cert.MlaPrepFwdIdeal.nD,
      m' ((c.tc : Thread Cert.MlaPrepFwdRefIdeal.nD Cert.MlaPrepFwdRefIdeal.τ).loc Cert.MlaPrepFwdRefIdeal.main_arg0) = m ((c.tc : Thread Cert.MlaPrepFwdIdeal.nD Cert.MlaPrepFwdIdeal.τ).loc Cert.MlaPrepFwdIdeal.main_arg0)
      ∧ m' ((c.tc : Thread Cert.MlaPrepFwdRefIdeal.nD Cert.MlaPrepFwdRefIdeal.τ).loc Cert.MlaPrepFwdRefIdeal.main_arg1) = m ((c.tc : Thread Cert.MlaPrepFwdIdeal.nD Cert.MlaPrepFwdIdeal.τ).loc Cert.MlaPrepFwdIdeal.main_arg1)
      ∧ m' ((c.tc : Thread Cert.MlaPrepFwdRefIdeal.nD Cert.MlaPrepFwdRefIdeal.τ).loc Cert.MlaPrepFwdRefIdeal.main_arg2) = m ((c.tc : Thread Cert.MlaPrepFwdIdeal.nD Cert.MlaPrepFwdIdeal.τ).loc Cert.MlaPrepFwdIdeal.main_arg2)
      ∧ m' ((c.tc : Thread Cert.MlaPrepFwdRefIdeal.nD Cert.MlaPrepFwdRefIdeal.τ).loc Cert.MlaPrepFwdRefIdeal.main_arg3) = m ((c.tc : Thread Cert.MlaPrepFwdIdeal.nD Cert.MlaPrepFwdIdeal.τ).loc Cert.MlaPrepFwdIdeal.main_arg3)
      ∧ m' ((c.tc : Thread Cert.MlaPrepFwdRefIdeal.nD Cert.MlaPrepFwdRefIdeal.τ).loc Cert.MlaPrepFwdRefIdeal.main_arg4) = m ((c.tc : Thread Cert.MlaPrepFwdIdeal.nD Cert.MlaPrepFwdIdeal.τ).loc Cert.MlaPrepFwdIdeal.main_arg4)) →
    ∃ (v0 : (c : Dev Cert.MlaPrepFwdIdeal.nD) → Buf (Elt Ideal) ((c.tc : Thread Cert.MlaPrepFwdIdeal.nD Cert.MlaPrepFwdIdeal.τ).loc Cert.MlaPrepFwdIdeal.main_v54_0)) (v1 : (c : Dev Cert.MlaPrepFwdIdeal.nD) → Buf (Elt Ideal) ((c.tc : Thread Cert.MlaPrepFwdIdeal.nD Cert.MlaPrepFwdIdeal.τ).loc Cert.MlaPrepFwdIdeal.main_v54_1)) (v2 : (c : Dev Cert.MlaPrepFwdIdeal.nD) → Buf (Elt Ideal) ((c.tc : Thread Cert.MlaPrepFwdIdeal.nD Cert.MlaPrepFwdIdeal.τ).loc Cert.MlaPrepFwdIdeal.main_v54_2)) (v3 : (c : Dev Cert.MlaPrepFwdIdeal.nD) → Buf (Elt Ideal) ((c.tc : Thread Cert.MlaPrepFwdIdeal.nD Cert.MlaPrepFwdIdeal.τ).loc Cert.MlaPrepFwdIdeal.main_v54_3)) (v4 : (c : Dev Cert.MlaPrepFwdIdeal.nD) → Buf (Elt Ideal) ((c.tc : Thread Cert.MlaPrepFwdIdeal.nD Cert.MlaPrepFwdIdeal.τ).loc Cert.MlaPrepFwdIdeal.main_v54_4)),
      θ_run (Cert.MlaPrepFwdIdeal.defs (F := Ideal)) (onTc (τ := Cert.MlaPrepFwdIdeal.τ) (Cert.MlaPrepFwdIdeal.main (F := Ideal))) ⟨m, fun _ => 0, g⟩ (fun r => ∀ c : Dev Cert.MlaPrepFwdIdeal.nD,
          r.2.mem ((c.tc : Thread Cert.MlaPrepFwdIdeal.nD Cert.MlaPrepFwdIdeal.τ).loc Cert.MlaPrepFwdIdeal.main_v54_0) = v0 c
          ∧ r.2.mem ((c.tc : Thread Cert.MlaPrepFwdIdeal.nD Cert.MlaPrepFwdIdeal.τ).loc Cert.MlaPrepFwdIdeal.main_v54_1) = v1 c
          ∧ r.2.mem ((c.tc : Thread Cert.MlaPrepFwdIdeal.nD Cert.MlaPrepFwdIdeal.τ).loc Cert.MlaPrepFwdIdeal.main_v54_2) = v2 c
          ∧ r.2.mem ((c.tc : Thread Cert.MlaPrepFwdIdeal.nD Cert.MlaPrepFwdIdeal.τ).loc Cert.MlaPrepFwdIdeal.main_v54_3) = v3 c
          ∧ r.2.mem ((c.tc : Thread Cert.MlaPrepFwdIdeal.nD Cert.MlaPrepFwdIdeal.τ).loc Cert.MlaPrepFwdIdeal.main_v54_4) = v4 c
          ∧ r.2.mem ((c.tc : Thread Cert.MlaPrepFwdIdeal.nD Cert.MlaPrepFwdIdeal.τ).loc Cert.MlaPrepFwdIdeal.main_arg0) = m ((c.tc : Thread Cert.MlaPrepFwdIdeal.nD Cert.MlaPrepFwdIdeal.τ).loc Cert.MlaPrepFwdIdeal.main_arg0)
          ∧ r.2.mem ((c.tc : Thread Cert.MlaPrepFwdIdeal.nD Cert.MlaPrepFwdIdeal.τ).loc Cert.MlaPrepFwdIdeal.main_arg1) = m ((c.tc : Thread Cert.MlaPrepFwdIdeal.nD Cert.MlaPrepFwdIdeal.τ).loc Cert.MlaPrepFwdIdeal.main_arg1)
          ∧ r.2.mem ((c.tc : Thread Cert.MlaPrepFwdIdeal.nD Cert.MlaPrepFwdIdeal.τ).loc Cert.MlaPrepFwdIdeal.main_arg2) = m ((c.tc : Thread Cert.MlaPrepFwdIdeal.nD Cert.MlaPrepFwdIdeal.τ).loc Cert.MlaPrepFwdIdeal.main_arg2)
          ∧ r.2.mem ((c.tc : Thread Cert.MlaPrepFwdIdeal.nD Cert.MlaPrepFwdIdeal.τ).loc Cert.MlaPrepFwdIdeal.main_arg3) = m ((c.tc : Thread Cert.MlaPrepFwdIdeal.nD Cert.MlaPrepFwdIdeal.τ).loc Cert.MlaPrepFwdIdeal.main_arg3)
          ∧ r.2.mem ((c.tc : Thread Cert.MlaPrepFwdIdeal.nD Cert.MlaPrepFwdIdeal.τ).loc Cert.MlaPrepFwdIdeal.main_arg4) = m ((c.tc : Thread Cert.MlaPrepFwdIdeal.nD Cert.MlaPrepFwdIdeal.τ).loc Cert.MlaPrepFwdIdeal.main_arg4))
      ∧ θ_run (Cert.MlaPrepFwdRefIdeal.defs (F := Ideal)) (onTc (τ := Cert.MlaPrepFwdRefIdeal.τ) (Cert.MlaPrepFwdRefIdeal.main (F := Ideal))) ⟨m', fun _ => 0, g'⟩ (fun r => ∀ c : Dev Cert.MlaPrepFwdRefIdeal.nD,
          r.2.mem ((c.tc : Thread Cert.MlaPrepFwdRefIdeal.nD Cert.MlaPrepFwdRefIdeal.τ).loc Cert.MlaPrepFwdRefIdeal.main_v98) = v0 c
          ∧ r.2.mem ((c.tc : Thread Cert.MlaPrepFwdRefIdeal.nD Cert.MlaPrepFwdRefIdeal.τ).loc Cert.MlaPrepFwdRefIdeal.main_v99) = v1 c
          ∧ r.2.mem ((c.tc : Thread Cert.MlaPrepFwdRefIdeal.nD Cert.MlaPrepFwdRefIdeal.τ).loc Cert.MlaPrepFwdRefIdeal.main_v100) = v2 c
          ∧ r.2.mem ((c.tc : Thread Cert.MlaPrepFwdRefIdeal.nD Cert.MlaPrepFwdRefIdeal.τ).loc Cert.MlaPrepFwdRefIdeal.main_v101) = v3 c
          ∧ r.2.mem ((c.tc : Thread Cert.MlaPrepFwdRefIdeal.nD Cert.MlaPrepFwdRefIdeal.τ).loc Cert.MlaPrepFwdRefIdeal.main_v102) = v4 c
          ∧ r.2.mem ((c.tc : Thread Cert.MlaPrepFwdRefIdeal.nD Cert.MlaPrepFwdRefIdeal.τ).loc Cert.MlaPrepFwdRefIdeal.main_arg0) = m' ((c.tc : Thread Cert.MlaPrepFwdRefIdeal.nD Cert.MlaPrepFwdRefIdeal.τ).loc Cert.MlaPrepFwdRefIdeal.main_arg0)
          ∧ r.2.mem ((c.tc : Thread Cert.MlaPrepFwdRefIdeal.nD Cert.MlaPrepFwdRefIdeal.τ).loc Cert.MlaPrepFwdRefIdeal.main_arg1) = m' ((c.tc : Thread Cert.MlaPrepFwdRefIdeal.nD Cert.MlaPrepFwdRefIdeal.τ).loc Cert.MlaPrepFwdRefIdeal.main_arg1)
          ∧ r.2.mem ((c.tc : Thread Cert.MlaPrepFwdRefIdeal.nD Cert.MlaPrepFwdRefIdeal.τ).loc Cert.MlaPrepFwdRefIdeal.main_arg2) = m' ((c.tc : Thread Cert.MlaPrepFwdRefIdeal.nD Cert.MlaPrepFwdRefIdeal.τ).loc Cert.MlaPrepFwdRefIdeal.main_arg2)
          ∧ r.2.mem ((c.tc : Thread Cert.MlaPrepFwdRefIdeal.nD Cert.MlaPrepFwdRefIdeal.τ).loc Cert.MlaPrepFwdRefIdeal.main_arg3) = m' ((c.tc : Thread Cert.MlaPrepFwdRefIdeal.nD Cert.MlaPrepFwdRefIdeal.τ).loc Cert.MlaPrepFwdRefIdeal.main_arg3)
          ∧ r.2.mem ((c.tc : Thread Cert.MlaPrepFwdRefIdeal.nD Cert.MlaPrepFwdRefIdeal.τ).loc Cert.MlaPrepFwdRefIdeal.main_arg4) = m' ((c.tc : Thread Cert.MlaPrepFwdRefIdeal.nD Cert.MlaPrepFwdRefIdeal.τ).loc Cert.MlaPrepFwdRefIdeal.main_arg4))

def preserves_LruFwd_LruFwdIdeal : Prop :=
  True

def Claim : Prop :=
  ∃ (hLossHead : Cert.LossHead.Facts) (hLossHeadIdeal : Cert.LossHeadIdeal.Facts) (hLossHeadRefIdeal : Cert.LossHeadRefIdeal.Facts) (hPoolBwd : Cert.PoolBwd.Facts) (hPoolBwdIdeal : Cert.PoolBwdIdeal.Facts) (hPoolBwdRefIdeal : Cert.PoolBwdRefIdeal.Facts) (hOutProjBwd : Cert.OutProjBwd.Facts) (hOutProjBwdIdeal : Cert.OutProjBwdIdeal.Facts) (hOutProjBwdRefIdeal : Cert.OutProjBwdRefIdeal.Facts) (hInProjBwd : Cert.InProjBwd.Facts) (hInProjBwdIdeal : Cert.InProjBwdIdeal.Facts) (hInProjBwdRefIdeal : Cert.InProjBwdRefIdeal.Facts) (hFlashBwd : Cert.FlashBwd.Facts) (hFlashBwdIdeal : Cert.FlashBwdIdeal.Facts) (hFlashBwdRefIdeal : Cert.FlashBwdRefIdeal.Facts) (hMlaPrepBwd : Cert.MlaPrepBwd.Facts) (hMlaPrepBwdIdeal : Cert.MlaPrepBwdIdeal.Facts) (hMlaPrepBwdRefIdeal : Cert.MlaPrepBwdRefIdeal.Facts) (hInProjFwd : Cert.InProjFwd.Facts) (hInProjFwdIdeal : Cert.InProjFwdIdeal.Facts) (hInProjFwdRefIdeal : Cert.InProjFwdRefIdeal.Facts) (hPoolFwd : Cert.PoolFwd.Facts) (hPoolFwdIdeal : Cert.PoolFwdIdeal.Facts) (hPoolFwdRefIdeal : Cert.PoolFwdRefIdeal.Facts) (hMlaPrepFwd : Cert.MlaPrepFwd.Facts) (hMlaPrepFwdIdeal : Cert.MlaPrepFwdIdeal.Facts) (hMlaPrepFwdRefIdeal : Cert.MlaPrepFwdRefIdeal.Facts) (hLruFwd : Cert.LruFwd.Facts) (hLruFwdIdeal : Cert.LruFwdIdeal.Facts) (hLruFwdRefIdeal : Cert.LruFwdRefIdeal.Facts) (hPre_loss_head_finite : Cert.Pre_loss_head_finite.Facts) (hPre_pool_finite : Cert.Pre_pool_finite.Facts) (hPre_outproj_finite : Cert.Pre_outproj_finite.Facts) (hPre_inproj_finite : Cert.Pre_inproj_finite.Facts) (hPre_flash_finite : Cert.Pre_flash_finite.Facts) (hPre_mla_finite : Cert.Pre_mla_finite.Facts) (hPre_inproj_fwd_finite : Cert.Pre_inproj_fwd_finite.Facts) (hPre_pool_fwd_finite : Cert.Pre_pool_fwd_finite.Facts) (hPre_mla_fwd_finite : Cert.Pre_mla_fwd_finite.Facts) (hOn_pool_blocks : Cert.On_pool_blocks.Facts) (hOn_mla_columns : Cert.On_mla_columns.Facts),
    quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_PoolBwd (hPoolBwd := hPoolBwd)
    ∧ quiescent_PoolBwdIdeal (hPoolBwdIdeal := hPoolBwdIdeal)
    ∧ quiescent_PoolBwdIdeal_pre_pool_finite (hPoolBwdIdeal := hPoolBwdIdeal) (hPre_pool_finite := hPre_pool_finite)
    ∧ quiescent_PoolBwdRefIdeal (hPoolBwdRefIdeal := hPoolBwdRefIdeal)
    ∧ quiescent_PoolBwdRefIdeal_pre_pool_finite (hPoolBwdRefIdeal := hPoolBwdRefIdeal) (hPre_pool_finite := hPre_pool_finite)
    ∧ quiescent_OutProjBwd (hOutProjBwd := hOutProjBwd)
    ∧ quiescent_OutProjBwdIdeal (hOutProjBwdIdeal := hOutProjBwdIdeal)
    ∧ quiescent_OutProjBwdIdeal_pre_outproj_finite (hOutProjBwdIdeal := hOutProjBwdIdeal) (hPre_outproj_finite := hPre_outproj_finite)
    ∧ quiescent_OutProjBwdRefIdeal (hOutProjBwdRefIdeal := hOutProjBwdRefIdeal)
    ∧ quiescent_OutProjBwdRefIdeal_pre_outproj_finite (hOutProjBwdRefIdeal := hOutProjBwdRefIdeal) (hPre_outproj_finite := hPre_outproj_finite)
    ∧ quiescent_InProjBwd (hInProjBwd := hInProjBwd)
    ∧ quiescent_InProjBwdIdeal (hInProjBwdIdeal := hInProjBwdIdeal)
    ∧ quiescent_InProjBwdIdeal_pre_inproj_finite (hInProjBwdIdeal := hInProjBwdIdeal) (hPre_inproj_finite := hPre_inproj_finite)
    ∧ quiescent_InProjBwdRefIdeal (hInProjBwdRefIdeal := hInProjBwdRefIdeal)
    ∧ quiescent_InProjBwdRefIdeal_pre_inproj_finite (hInProjBwdRefIdeal := hInProjBwdRefIdeal) (hPre_inproj_finite := hPre_inproj_finite)
    ∧ quiescent_FlashBwd (hFlashBwd := hFlashBwd)
    ∧ quiescent_FlashBwdIdeal (hFlashBwdIdeal := hFlashBwdIdeal)
    ∧ quiescent_FlashBwdIdeal_pre_flash_finite (hFlashBwdIdeal := hFlashBwdIdeal) (hPre_flash_finite := hPre_flash_finite)
    ∧ quiescent_FlashBwdRefIdeal (hFlashBwdRefIdeal := hFlashBwdRefIdeal)
    ∧ quiescent_FlashBwdRefIdeal_pre_flash_finite (hFlashBwdRefIdeal := hFlashBwdRefIdeal) (hPre_flash_finite := hPre_flash_finite)
    ∧ quiescent_MlaPrepBwd (hMlaPrepBwd := hMlaPrepBwd)
    ∧ quiescent_MlaPrepBwdIdeal (hMlaPrepBwdIdeal := hMlaPrepBwdIdeal)
    ∧ quiescent_MlaPrepBwdIdeal_pre_mla_finite (hMlaPrepBwdIdeal := hMlaPrepBwdIdeal) (hPre_mla_finite := hPre_mla_finite)
    ∧ quiescent_MlaPrepBwdRefIdeal (hMlaPrepBwdRefIdeal := hMlaPrepBwdRefIdeal)
    ∧ quiescent_MlaPrepBwdRefIdeal_pre_mla_finite (hMlaPrepBwdRefIdeal := hMlaPrepBwdRefIdeal) (hPre_mla_finite := hPre_mla_finite)
    ∧ quiescent_InProjFwd (hInProjFwd := hInProjFwd)
    ∧ quiescent_InProjFwdIdeal (hInProjFwdIdeal := hInProjFwdIdeal)
    ∧ quiescent_InProjFwdIdeal_pre_inproj_fwd_finite (hInProjFwdIdeal := hInProjFwdIdeal) (hPre_inproj_fwd_finite := hPre_inproj_fwd_finite)
    ∧ quiescent_InProjFwdRefIdeal (hInProjFwdRefIdeal := hInProjFwdRefIdeal)
    ∧ quiescent_InProjFwdRefIdeal_pre_inproj_fwd_finite (hInProjFwdRefIdeal := hInProjFwdRefIdeal) (hPre_inproj_fwd_finite := hPre_inproj_fwd_finite)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_MlaPrepFwd (hMlaPrepFwd := hMlaPrepFwd)
    ∧ quiescent_MlaPrepFwdIdeal (hMlaPrepFwdIdeal := hMlaPrepFwdIdeal)
    ∧ quiescent_MlaPrepFwdIdeal_pre_mla_fwd_finite (hMlaPrepFwdIdeal := hMlaPrepFwdIdeal) (hPre_mla_fwd_finite := hPre_mla_fwd_finite)
    ∧ quiescent_MlaPrepFwdRefIdeal (hMlaPrepFwdRefIdeal := hMlaPrepFwdRefIdeal)
    ∧ quiescent_MlaPrepFwdRefIdeal_pre_mla_fwd_finite (hMlaPrepFwdRefIdeal := hMlaPrepFwdRefIdeal) (hPre_mla_fwd_finite := hPre_mla_fwd_finite)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_PoolBwd_PoolBwdIdeal
    ∧ algebraic_PoolBwdIdeal_PoolBwdRefIdeal_on_pool_blocks_pre_pool_finite (hPoolBwdIdeal := hPoolBwdIdeal) (hPoolBwdRefIdeal := hPoolBwdRefIdeal) (hPre_pool_finite := hPre_pool_finite) (hOn_pool_blocks := hOn_pool_blocks)
    ∧ preserves_OutProjBwd_OutProjBwdIdeal
    ∧ algebraic_OutProjBwdIdeal_OutProjBwdRefIdeal_pre_outproj_finite (hOutProjBwdIdeal := hOutProjBwdIdeal) (hOutProjBwdRefIdeal := hOutProjBwdRefIdeal) (hPre_outproj_finite := hPre_outproj_finite)
    ∧ preserves_InProjBwd_InProjBwdIdeal
    ∧ algebraic_InProjBwdIdeal_InProjBwdRefIdeal_pre_inproj_finite (hInProjBwdIdeal := hInProjBwdIdeal) (hInProjBwdRefIdeal := hInProjBwdRefIdeal) (hPre_inproj_finite := hPre_inproj_finite)
    ∧ preserves_FlashBwd_FlashBwdIdeal
    ∧ algebraic_FlashBwdIdeal_FlashBwdRefIdeal_pre_flash_finite (hFlashBwdIdeal := hFlashBwdIdeal) (hFlashBwdRefIdeal := hFlashBwdRefIdeal) (hPre_flash_finite := hPre_flash_finite)
    ∧ preserves_MlaPrepBwd_MlaPrepBwdIdeal
    ∧ algebraic_MlaPrepBwdIdeal_MlaPrepBwdRefIdeal_on_mla_columns_pre_mla_finite (hMlaPrepBwdIdeal := hMlaPrepBwdIdeal) (hMlaPrepBwdRefIdeal := hMlaPrepBwdRefIdeal) (hPre_mla_finite := hPre_mla_finite) (hOn_mla_columns := hOn_mla_columns)
    ∧ preserves_InProjFwd_InProjFwdIdeal
    ∧ algebraic_InProjFwdIdeal_InProjFwdRefIdeal_pre_inproj_fwd_finite (hInProjFwdIdeal := hInProjFwdIdeal) (hInProjFwdRefIdeal := hInProjFwdRefIdeal) (hPre_inproj_fwd_finite := hPre_inproj_fwd_finite)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_MlaPrepFwd_MlaPrepFwdIdeal
    ∧ algebraic_MlaPrepFwdIdeal_MlaPrepFwdRefIdeal_pre_mla_fwd_finite (hMlaPrepFwdIdeal := hMlaPrepFwdIdeal) (hMlaPrepFwdRefIdeal := hMlaPrepFwdRefIdeal) (hPre_mla_fwd_finite := hPre_mla_fwd_finite)
    ∧ preserves_LruFwd_LruFwdIdeal
-- ==== On_mla_columns.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S8192x6x96 : Shape := ⟨3, ![8192, 6, 96]⟩
abbrev S8192x384 : Shape := ⟨2, ![8192, 384]⟩
abbrev S1152 : Shape := ⟨1, ![1152]⟩
abbrev S256x1152 : Shape := ⟨2, ![256, 1152]⟩
abbrev S_ : Shape := ⟨0, ![]⟩
abbrev S8192x256 : Shape := ⟨2, ![8192, 256]⟩
abbrev S8192x128 : Shape := ⟨2, ![8192, 128]⟩
abbrev S384x768 : Shape := ⟨2, ![384, 768]⟩
abbrev S1x384 : Shape := ⟨2, ![1, 384]⟩
abbrev S1x256 : Shape := ⟨2, ![1, 256]⟩

class Facts : Prop where
  bcast_S1152_S256x1152_1 : S1152.BroadcastsInDim S256x1152 (![1] : Fin 1 → Fin S256x1152.rank)
  bcast_S_S8192x384 : S_.BroadcastsInDim S8192x384 (![] : Fin 0 → Fin S8192x384.rank)
  bcast_S_S8192x256 : S_.BroadcastsInDim S8192x256 (![] : Fin 0 → Fin S8192x256.rank)
  bcast_S_S8192x128 : S_.BroadcastsInDim S8192x128 (![] : Fin 0 → Fin S8192x128.rank)
  bcast_S_S384x768 : S_.BroadcastsInDim S384x768 (![] : Fin 0 → Fin S384x768.rank)
  bcast_S_S256x1152 : S_.BroadcastsInDim S256x1152 (![] : Fin 0 → Fin S256x1152.rank)
  bcast_S_S1x384 : S_.BroadcastsInDim S1x384 (![] : Fin 0 → Fin S1x384.rank)
  bcast_S_S1x256 : S_.BroadcastsInDim S1x256 (![] : Fin 0 → Fin S1x256.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S256x1152 32) (arg1 : IVec S_ 32) : IVec S256x1152 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S256x1152 32 := broadcastInDim S256x1152 ![] bcast_S_S256x1152 v2
  let v4 : IVec S256x1152 32 := Host.remsi arg0 v3
  let c_1 : IVec S_ 32 := constantI S_ 32 0#32
  let v5 : IVec S256x1152 32 := broadcastInDim S256x1152 ![] bcast_S_S256x1152 c_1
  let v6 : IVec S256x1152 1 := cmpi .ne v4 v5
  let c_2 : IVec S_ 32 := constantI S_ 32 0#32
  let v7 : IVec S256x1152 32 := broadcastInDim S256x1152 ![] bcast_S_S256x1152 c_2
  let v8 : IVec S256x1152 1 := cmpi .slt v4 v7
  let c_3 : IVec S_ 32 := constantI S_ 32 0#32
  let v9 : IVec S_ 1 := cmpi .slt v2 c_3
  let v10 : IVec S256x1152 1 := broadcastInDim S256x1152 ![] bcast_S_S256x1152 v9
  let v11 : IVec S256x1152 1 := cmpi .ne v8 v10
  let v12 : IVec S256x1152 1 := andi v11 v6
  let v13 : IVec S256x1152 32 := broadcastInDim S256x1152 ![] bcast_S_S256x1152 v2
  let v14 : IVec S256x1152 32 := addi v4 v13
  let v15 : IVec S256x1152 32 := select v12 v14 v4
  v15

def fn {F : FTy → Type} [FloatOps F] (main_arg0 : FVec F S8192x2336 .f32) (main_arg1 : FVec F S4x384 .f32) (main_arg2 : FVec F S4x256 .f32) (main_arg3 : FVec F S4x384x576 .f32) (main_arg4 : FVec F S4x256x768 .f32) (main_arg5 : FVec F S8192x6x96 .f32) (main_arg6 : FVec F S8192x6x96 .f32) (main_arg7 : FVec F S8192x384 .f32) : IVec S8192x384 1 × IVec S8192x256 1 × IVec S8192x128 1 × IVec S384x768 1 × IVec S256x1152 1 × IVec S1x384 1 × IVec S1x256 1 :=
  let main_v0 : IVec S1152 32 := iotaInDim S1152 32 0
  let main_v1 : IVec S256x1152 32 := broadcastInDim S256x1152 ![1] bcast_S1152_S256x1152_1 main_v0
  let main_c : IVec S_ 1 := constantI S_ 1 1#1
  let main_v2 : IVec S8192x384 1 := broadcastInDim S8192x384 ![] bcast_S_S8192x384 main_c
  let main_c_0 : IVec S_ 1 := constantI S_ 1 1#1
  let main_v3 : IVec S8192x256 1 := broadcastInDim S8192x256 ![] bcast_S_S8192x256 main_c_0
  let main_c_1 : IVec S_ 1 := constantI S_ 1 1#1
  let main_v4 : IVec S8192x128 1 := broadcastInDim S8192x128 ![] bcast_S_S8192x128 main_c_1
  let main_c_2 : IVec S_ 1 := constantI S_ 1 1#1
  let main_v5 : IVec S384x768 1 := broadcastInDim S384x768 ![] bcast_S_S384x768 main_c_2
  let main_c_3 : IVec S_ 32 := constantI S_ 32 768#32
  let main_v6 : IVec S256x1152 32 := broadcastInDim S256x1152 ![] bcast_S_S256x1152 main_c_3
  let main_v7 : IVec S256x1152 1 := cmpi .sge main_v1 main_v6
  let main_c_4 : IVec S_ 32 := constantI S_ 32 128#32
  let main_v8 : IVec S256x1152 32 := fn_remainder (F := F) main_v1 main_c_4
  let main_c_5 : IVec S_ 32 := constantI S_ 32 64#32
  let main_v9 : IVec S256x1152 32 := broadcastInDim S256x1152 ![] bcast_S_S256x1152 main_c_5
  let main_v10 : IVec S256x1152 1 := cmpi .slt main_v8 main_v9
  let main_v11 : IVec S256x1152 1 := ori main_v7 main_v10
  let main_c_6 : IVec S_ 1 := constantI S_ 1 1#1
  let main_v12 : IVec S1x384 1 := broadcastInDim S1x384 ![] bcast_S_S1x384 main_c_6
  let main_c_7 : IVec S_ 1 := constantI S_ 1 1#1
  let main_v13 : IVec S1x256 1 := broadcastInDim S1x256 ![] bcast_S_S1x256 main_c_7
  (main_v2, main_v3, main_v4, main_v5, main_v11, main_v12, main_v13)
-- ==== On_pool_blocks.lean ====
abbrev S8192x2336 : Shape := ⟨2, ![8192, 2336]⟩
abbrev S4x4x64x64 : Shape := ⟨4, ![4, 4, 64, 64]⟩
abbrev S4x256 : Shape := ⟨2, ![4, 256]⟩
abbrev S8192x256 : Shape := ⟨2, ![8192, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩

class Facts : Prop where
  bcast_S_S256 : S_.BroadcastsInDim S256 (![] : Fin 0 → Fin S256.rank)
  bcast_S_S8192x256 : S_.BroadcastsInDim S8192x256 (![] : Fin 0 → Fin S8192x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S1x256 : S_.BroadcastsInDim S1x256 (![] : Fin 0 → Fin S1x256.rank)

variable [Facts]

def fn_where {F : FTy → Type} [FloatOps F] (arg0 : IVec S256 1) (arg1 : IVec S256 32) (arg2 : IVec S256 32) : IVec S256 32 :=
  let v0 : IVec S256 32 := select arg0 arg1 arg2
  v0

def fn_floor_divide {F : FTy → Type} [FloatOps F] (arg0 : IVec S256 32) (arg1 : IVec S_ 32) : IVec S256 32 :=
  let v0 : IVec S_ 32 := id arg1
  let v1 : IVec S256 32 := broadcastInDim S256 ![] bcast_S_S256 v0
  let v2 : IVec S256 32 := Host.divsi arg0 v1
  let v3 : IVec S256 32 := signi arg0
  let v4 : IVec S_ 32 := signi v0
  let v5 : IVec S256 32 := broadcastInDim S256 ![] bcast_S_S256 v4
  let v6 : IVec S256 1 := cmpi .ne v3 v5
  let v7 : IVec S256 32 := broadcastInDim S256 ![] bcast_S_S256 v0
  let v8 : IVec S256 32 := Host.remsi arg0 v7
  let c : IVec S_ 32 := constantI S_ 32 0#32
  let v9 : IVec S256 32 := broadcastInDim S256 ![] bcast_S_S256 c
  let v10 : IVec S256 1 := cmpi .ne v8 v9
  let v11 : IVec S256 1 := andi v6 v10
  let c_0 : IVec S_ 32 := constantI S_ 32 1#32
  let v12 : IVec S256 32 := broadcastInDim S256 ![] bcast_S_S256 c_0
  let v13 : IVec S256 32 := subi v2 v12
  let v14 : IVec S256 32 := fn_where (F := F) v11 v13 v2
  v14

def fn {F : FTy → Type} [FloatOps F] (main_arg0 : FVec F S8192x2336 .f32) (main_arg1 : FVec F S4x4x64x64 .f32) (main_arg2 : FVec F S4x256 .f32) (main_arg3 : FVec F S8192x256 .f32) : IVec S8192x256 1 × IVec S8192x256 1 × IVec S256x256 1 × IVec S1x256 1 :=
  let main_v0 : IVec S256 32 := iotaInDim S256 32 0
  let main_c : IVec S_ 32 := constantI S_ 32 64#32
  let main_v1 : IVec S256 32 := fn_floor_divide (F := F) main_v0 main_c
  let main_c_0 : IVec S_ 1 := constantI S_ 1 1#1
  let main_v2 : IVec S8192x256 1 := broadcastInDim S8192x256 ![] bcast_S_S8192x256 main_c_0
  let main_v3 : IVec S256x1 32 := broadcastInDim S256x1 ![0] bcast_S256_S256x1_0 main_v1
  let main_v4 : IVec S1x256 32 := broadcastInDim S1x256 ![1] bcast_S256_S1x256_1 main_v1
  let main_v5 : IVec S256x256 32 := broadcastInDim S256x256 ![0, 1] bcast_S256x1_S256x256_0_1 main_v3
  let main_v6 : IVec S256x256 32 := broadcastInDim S256x256 ![0, 1] bcast_S1x256_S256x256_0_1 main_v4
  let main_v7 : IVec S256x256 1 := cmpi .eq main_v5 main_v6
  let main_c_1 : IVec S_ 1 := constantI S_ 1 1#1
  let main_v8 : IVec S1x256 1 := broadcastInDim S1x256 ![] bcast_S_S1x256 main_c_1
  (main_v2, main_v2, main_v7, main_v8)
-- ==== Pre_flash_finite.lean ====
abbrev S8192x6x96 : Shape := ⟨3, ![8192, 6, 96]⟩
abbrev S8192x6x64 : Shape := ⟨3, ![8192, 6, 64]⟩
abbrev S8192x384 : Shape := ⟨2, ![8192, 384]⟩
abbrev S_ : Shape := ⟨0, ![]⟩

class Facts : Prop where
  bcast_S_S8192x6x96 : S_.BroadcastsInDim S8192x6x96 (![] : Fin 0 → Fin S8192x6x96.rank)
  bcast_S_S8192x6x64 : S_.BroadcastsInDim S8192x6x64 (![] : Fin 0 → Fin S8192x6x64.rank)
  bcast_S_S8192x384 : S_.BroadcastsInDim S8192x384 (![] : Fin 0 → Fin S8192x384.rank)

variable [Facts]

def fn {F : FTy → Type} [FloatOps F] (main_arg0 : FVec F S8192x6x96 .f32) (main_arg1 : FVec F S8192x6x96 .f32) (main_arg2 : FVec F S8192x6x64 .f32) (main_arg3 : FVec F S8192x384 .f32) : IVec S8192x6x96 1 × IVec S8192x6x96 1 × IVec S8192x6x64 1 × IVec S8192x384 1 :=
  let main_v0 : FVec F S8192x6x96 .f32 := Host.absf main_arg0
  let main_cst : FVec F S_ .f32 := constant S_ .f32 0x7F800000#32
  let main_v1 : FVec F S8192x6x96 .f32 := broadcastInDim S8192x6x96 ![] bcast_S_S8192x6x96 main_cst
  let main_v2 : IVec S8192x6x96 1 := cmpf .olt main_v0 main_v1
  let main_v3 : FVec F S8192x6x96 .f32 := Host.absf main_arg1
  let main_cst_0 : FVec F S_ .f32 := constant S_ .f32 0x7F800000#32
  let main_v4 : FVec F S8192x6x96 .f32 := broadcastInDim S8192x6x96 ![] bcast_S_S8192x6x96 main_cst_0
  let main_v5 : IVec S8192x6x96 1 := cmpf .olt main_v3 main_v4
  let main_v6 : FVec F S8192x6x64 .f32 := Host.absf main_arg2
  let main_cst_1 : FVec F S_ .f32 := constant S_ .f32 0x7F800000#32
  let main_v7 : FVec F S8192x6x64 .f32 := broadcastInDim S8192x6x64 ![] bcast_S_S8192x6x64 main_cst_1
  let main_v8 : IVec S8192x6x64 1 := cmpf .olt main_v6 main_v7
  let main_v9 : FVec F S8192x384 .f32 := Host.absf main_arg3
  let main_cst_2 : FVec F S_ .f32 := constant S_ .f32 0x7F800000#32
  let main_v10 : FVec F S8192x384 .f32 := broadcastInDim S8192x384 ![] bcast_S_S8192x384 main_cst_2
  let main_v11 : IVec S8192x384 1 := cmpf .olt main_v9 main_v10
  (main_v2, main_v5, main_v8, main_v11)
-- ==== Pre_inproj_finite.lean ====
abbrev S8192x1024 : Shape := ⟨2, ![8192, 1024]⟩
abbrev S4x1024 : Shape := ⟨2, ![4, 1024]⟩
abbrev S4x1024x2336 : Shape := ⟨3, ![4, 1024, 2336]⟩
abbrev S8192x384 : Shape := ⟨2, ![8192, 384]⟩
abbrev S8192x256 : Shape := ⟨2, ![8192, 256]⟩
abbrev S8192x32 : Shape := ⟨2, ![8192, 32]⟩
abbrev S_ : Shape := ⟨0, ![]⟩

class Facts : Prop where
  bcast_S_S8192x1024 : S_.BroadcastsInDim S8192x1024 (![] : Fin 0 → Fin S8192x1024.rank)
  bcast_S_S4x1024 : S_.BroadcastsInDim S4x1024 (![] : Fin 0 → Fin S4x1024.rank)
  bcast_S_S4x1024x2336 : S_.BroadcastsInDim S4x1024x2336 (![] : Fin 0 → Fin S4x1024x2336.rank)
  bcast_S_S8192x384 : S_.BroadcastsInDim S8192x384 (![] : Fin 0 → Fin S8192x384.rank)
  bcast_S_S8192x256 : S_.BroadcastsInDim S8192x256 (![] : Fin 0 → Fin S8192x256.rank)
  bcast_S_S8192x32 : S_.BroadcastsInDim S8192x32 (![] : Fin 0 → Fin S8192x32.rank)

variable [Facts]

def fn_part1 {F : FTy → Type} [FloatOps F] (main_arg6 : FVec F S8192x256 .f32) (main_arg7 : FVec F S8192x32 .f32) (main_arg8 : FVec F S8192x384 .f32) (main_arg9 : FVec F S8192x256 .f32) (main_arg10 : FVec F S8192x256 .f32) (main_v2 : IVec S8192x1024 1) (main_v5 : IVec S4x1024 1) (main_v8 : IVec S4x1024x2336 1) (main_v11 : IVec S8192x384 1) (main_v14 : IVec S8192x384 1) (main_v17 : IVec S8192x384 1) : IVec S8192x1024 1 × IVec S4x1024 1 × IVec S4x1024x2336 1 × IVec S8192x384 1 × IVec S8192x384 1 × IVec S8192x384 1 × IVec S8192x256 1 × IVec S8192x32 1 × IVec S8192x384 1 × IVec S8192x256 1 × IVec S8192x256 1 :=
  let main_v18 : FVec F S8192x256 .f32 := Host.absf main_arg6
  let main_cst_5 : FVec F S_ .f32 := constant S_ .f32 0x7F800000#32
  let main_v19 : FVec F S8192x256 .f32 := broadcastInDim S8192x256 ![] bcast_S_S8192x256 main_cst_5
  let main_v20 : IVec S8192x256 1 := cmpf .olt main_v18 main_v19
  let main_v21 : FVec F S8192x32 .f32 := Host.absf main_arg7
  let main_cst_6 : FVec F S_ .f32 := constant S_ .f32 0x7F800000#32
  let main_v22 : FVec F S8192x32 .f32 := broadcastInDim S8192x32 ![] bcast_S_S8192x32 main_cst_6
  let main_v23 : IVec S8192x32 1 := cmpf .olt main_v21 main_v22
  let main_v24 : FVec F S8192x384 .f32 := Host.absf main_arg8
  let main_cst_7 : FVec F S_ .f32 := constant S_ .f32 0x7F800000#32
  let main_v25 : FVec F S8192x384 .f32 := broadcastInDim S8192x384 ![] bcast_S_S8192x384 main_cst_7
  let main_v26 : IVec S8192x384 1 := cmpf .olt main_v24 main_v25
  let main_v27 : FVec F S8192x256 .f32 := Host.absf main_arg9
  let main_cst_8 : FVec F S_ .f32 := constant S_ .f32 0x7F800000#32
  let main_v28 : FVec F S8192x256 .f32 := broadcastInDim S8192x256 ![] bcast_S_S8192x256 main_cst_8
  let main_v29 : IVec S8192x256 1 := cmpf .olt main_v27 main_v28
  let main_v30 : FVec F S8192x256 .f32 := Host.absf main_arg10
  let main_cst_9 : FVec F S_ .f32 := constant S_ .f32 0x7F800000#32
  let main_v31 : FVec F S8192x256 .f32 := broadcastInDim S8192x256 ![] bcast_S_S8192x256 main_cst_9
  let main_v32 : IVec S8192x256 1 := cmpf .olt main_v30 main_v31
  (main_v2, main_v5, main_v8, main_v11, main_v14, main_v17, main_v20, main_v23, main_v26, main_v29, main_v32)

def fn {F : FTy → Type} [FloatOps F] (main_arg0 : FVec F S8192x1024 .f32) (main_arg1 : FVec F S4x1024 .f32) (main_arg2 : FVec F S4x1024x2336 .f32) (main_arg3 : FVec F S8192x384 .f32) (main_arg4 : FVec F S8192x384 .f32) (main_arg5 : FVec F S8192x384 .f32) (main_arg6 : FVec F S8192x256 .f32) (main_arg7 : FVec F S8192x32 .f32) (main_arg8 : FVec F S8192x384 .f32) (main_arg9 : FVec F S8192x256 .f32) (main_arg10 : FVec F S8192x256 .f32) (main_arg11 : FVec F S8192x1024 .f32) : IVec S8192x1024 1 × IVec S4x1024 1 × IVec S4x1024x2336 1 × IVec S8192x384 1 × IVec S8192x384 1 × IVec S8192x384 1 × IVec S8192x256 1 × IVec S8192x32 1 × IVec S8192x384 1 × IVec S8192x256 1 × IVec S8192x256 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S4x1024x2336 .f32 := Host.absf main_arg2
  let main_cst_1 : FVec F S_ .f32 := constant S_ .f32 0x7F800000#32
  let main_v7 : FVec F S4x1024x2336 .f32 := broadcastInDim S4x1024x2336 ![] bcast_S_S4x1024x2336 main_cst_1
  let main_v8 : IVec S4x1024x2336 1 := cmpf .olt main_v6 main_v7
  let main_v9 : FVec F S8192x384 .f32 := Host.absf main_arg3
  let main_cst_2 : FVec F S_ .f32 := constant S_ .f32 0x7F800000#32
  let main_v10 : FVec F S8192x384 .f32 := broadcastInDim S8192x384 ![] bcast_S_S8192x384 main_cst_2
  let main_v11 : IVec S8192x384 1 := cmpf .olt main_v9 main_v10
  let main_v12 : FVec F S8192x384 .f32 := Host.absf main_arg4
  let main_cst_3 : FVec F S_ .f32 := constant S_ .f32 0x7F800000#32
  let main_v13 : FVec F S8192x384 .f32 := broadcastInDim S8192x384 ![] bcast_S_S8192x384 main_cst_3
  let main_v14 : IVec S8192x384 1 := cmpf .olt main_v12 main_v13
  let main_v15 : FVec F S8192x384 .f32 := Host.absf main_arg5
  let main_cst_4 : FVec F S_ .f32 := constant S_ .f32 0x7F800000#32
  let main_v16 : FVec F S8192x384 .f32 := broadcastInDim S8192x384 ![] bcast_S_S8192x384 main_cst_4
  let main_v17 : IVec S8192x384 1 := cmpf .olt main_v15 main_v16
  fn_part1 (F := F) main_arg6 main_arg7 main_arg8 main_arg9 main_arg10 main_v2 main_v5 main_v8 main_v11 main_v14 main_v17
-- ==== Pre_inproj_fwd_finite.lean ====
abbrev S8192x1024 : Shape := ⟨2, ![8192, 1024]⟩
abbrev S4x1024 : Shape := ⟨2, ![4, 1024]⟩
abbrev S4x1024x2336 : Shape := ⟨3, ![4, 1024, 2336]⟩
abbrev S_ : Shape := ⟨0, ![]⟩

class Facts : Prop where
  bcast_S_S8192x1024 : S_.BroadcastsInDim S8192x1024 (![] : Fin 0 → Fin S8192x1024.rank)
  bcast_S_S4x1024 : S_.BroadcastsInDim S4x1024 (![] : Fin 0 → Fin S4x1024.rank)
  bcast_S_S4x1024x2336 : S_.BroadcastsInDim S4x1024x2336 (![] : Fin 0 → Fin S4x1024x2336.rank)

variable [Facts]

def fn {F : FTy → Type} [FloatOps F] (main_arg0 : FVec F S8192x1024 .f32) (main_arg1 : FVec F S4x1024 .f32) (main_arg2 : FVec F S4x1024x2336 .f32) : IVec S8192x1024 1 × IVec S4x1024 1 × IVec S4x1024x2336 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S4x1024x2336 .f32 := Host.absf main_arg2
  let main_cst_1 : FVec F S_ .f32 := constant S_ .f32 0x7F800000#32
  let main_v7 : FVec F S4x1024x2336 .f32 := broadcastInDim S4x1024x2336 ![] bcast_S_S4x1024x2336 main_cst_1
  let main_v8 : IVec S4x1024x2336 1 := cmpf .olt main_v6 main_v7
  (main_v2, main_v5, main_v8)
-- ==== Pre_loss_head_finite.lean ====
abbrev S8192x1024 : Shape := ⟨2, ![8192, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)

variable [Facts]

def fn {F : FTy → Type} [FloatOps F] (main_arg0 : FVec F S8192x1024 .f32) (main_arg1 : FVec F S1024 .f32) (main_arg2 : FVec F S8192x1024 .f32) : IVec S8192x1024 1 × IVec S1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Pre_mla_finite.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S8192x6x96 : Shape := ⟨3, ![8192, 6, 96]⟩
abbrev S8192x384 : Shape := ⟨2, ![8192, 384]⟩
abbrev S_ : Shape := ⟨0, ![]⟩

class Facts : Prop where
  bcast_S_S8192x2336 : S_.BroadcastsInDim S8192x2336 (![] : Fin 0 → Fin S8192x2336.rank)
  bcast_S_S4x384 : S_.BroadcastsInDim S4x384 (![] : Fin 0 → Fin S4x384.rank)
  bcast_S_S4x256 : S_.BroadcastsInDim S4x256 (![] : Fin 0 → Fin S4x256.rank)
  bcast_S_S4x384x576 : S_.BroadcastsInDim S4x384x576 (![] : Fin 0 → Fin S4x384x576.rank)
  bcast_S_S4x256x768 : S_.BroadcastsInDim S4x256x768 (![] : Fin 0 → Fin S4x256x768.rank)
  bcast_S_S8192x6x96 : S_.BroadcastsInDim S8192x6x96 (![] : Fin 0 → Fin S8192x6x96.rank)
  bcast_S_S8192x384 : S_.BroadcastsInDim S8192x384 (![] : Fin 0 → Fin S8192x384.rank)

variable [Facts]

def fn_part1 {F : FTy → Type} [FloatOps F] (main_arg6 : FVec F S8192x6x96 .f32) (main_arg7 : FVec F S8192x384 .f32) (main_v2 : IVec S8192x2336 1) (main_v5 : IVec S4x384 1) (main_v8 : IVec S4x256 1) (main_v11 : IVec S4x384x576 1) (main_v14 : IVec S4x256x768 1) (main_v17 : IVec S8192x6x96 1) : IVec S8192x2336 1 × IVec S4x384 1 × IVec S4x256 1 × IVec S4x384x576 1 × IVec S4x256x768 1 × IVec S8192x6x96 1 × IVec S8192x6x96 1 × IVec S8192x384 1 :=
  let main_v18 : FVec F S8192x6x96 .f32 := Host.absf main_arg6
  let main_cst_5 : FVec F S_ .f32 := constant S_ .f32 0x7F800000#32
  let main_v19 : FVec F S8192x6x96 .f32 := broadcastInDim S8192x6x96 ![] bcast_S_S8192x6x96 main_cst_5
  let main_v20 : IVec S8192x6x96 1 := cmpf .olt main_v18 main_v19
  let main_v21 : FVec F S8192x384 .f32 := Host.absf main_arg7
  let main_cst_6 : FVec F S_ .f32 := constant S_ .f32 0x7F800000#32
  let main_v22 : FVec F S8192x384 .f32 := broadcastInDim S8192x384 ![] bcast_S_S8192x384 main_cst_6
  let main_v23 : IVec S8192x384 1 := cmpf .olt main_v21 main_v22
  (main_v2, main_v5, main_v8, main_v11, main_v14, main_v17, main_v20, main_v23)

def fn {F : FTy → Type} [FloatOps F] (main_arg0 : FVec F S8192x2336 .f32) (main_arg1 : FVec F S4x384 .f32) (main_arg2 : FVec F S4x256 .f32) (main_arg3 : FVec F S4x384x576 .f32) (main_arg4 : FVec F S4x256x768 .f32) (main_arg5 : FVec F S8192x6x96 .f32) (main_arg6 : FVec F S8192x6x96 .f32) (main_arg7 : FVec F S8192x384 .f32) : IVec S8192x2336 1 × IVec S4x384 1 × IVec S4x256 1 × IVec S4x384x576 1 × IVec S4x256x768 1 × IVec S8192x6x96 1 × IVec S8192x6x96 1 × IVec S8192x384 1 :=
  let main_v0 : FVec F S8192x2336 .f32 := Host.absf main_arg0
  let main_cst : FVec F S_ .f32 := constant S_ .f32 0x7F800000#32
  let main_v1 : FVec F S8192x2336 .f32 := broadcastInDim S8192x2336 ![] bcast_S_S8192x2336 main_cst
  let main_v2 : IVec S8192x2336 1 := cmpf .olt main_v0 main_v1
  let main_v3 : FVec F S4x384 .f32 := Host.absf main_arg1
  let main_cst_0 : FVec F S_ .f32 := constant S_ .f32 0x7F800000#32
  let main_v4 : FVec F S4x384 .f32 := broadcastInDim S4x384 ![] bcast_S_S4x384 main_cst_0
  let main_v5 : IVec S4x384 1 := cmpf .olt main_v3 main_v4
  let main_v6 : FVec F S4x256 .f32 := Host.absf main_arg2
  let main_cst_1 : FVec F S_ .f32 := constant S_ .f32 0x7F800000#32
  let main_v7 : FVec F S4x256 .f32 := broadcastInDim S4x256 ![] bcast_S_S4x256 main_cst_1
  let main_v8 : IVec S4x256 1 := cmpf .olt main_v6 main_v7
  let main_v9 : FVec F S4x384x576 .f32 := Host.absf main_arg3
  let main_cst_2 : FVec F S_ .f32 := constant S_ .f32 0x7F800000#32
  let main_v10 : FVec F S4x384x576 .f32 := broadcastInDim S4x384x576 ![] bcast_S_S4x384x576 main_cst_2
  let main_v11 : IVec S4x384x576 1 := cmpf .olt main_v9 main_v10
  let main_v12 : FVec F S4x256x768 .f32 := Host.absf main_arg4
  let main_cst_3 : FVec F S_ .f32 := constant S_ .f32 0x7F800000#32
  let main_v13 : FVec F S4x256x768 .f32 := broadcastInDim S4x256x768 ![] bcast_S_S4x256x768 main_cst_3
  let main_v14 : IVec S4x256x768 1 := cmpf .olt main_v12 main_v13
  let main_v15 : FVec F S8192x6x96 .f32 := Host.absf main_arg5
  let main_cst_4 : FVec F S_ .f32 := constant S_ .f32 0x7F800000#32
  let main_v16 : FVec F S8192x6x96 .f32 := broadcastInDim S8192x6x96 ![] bcast_S_S8192x6x96 main_cst_4
  let main_v17 : IVec S8192x6x96 1 := cmpf .olt main_v15 main_v16
  fn_part1 (F := F) main_arg6 main_arg7 main_v2 main_v5 main_v8 main_v11 main_v14 main_v17
-- ==== Pre_mla_fwd_finite.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S_ : Shape := ⟨0, ![]⟩

class Facts : Prop where
  bcast_S_S8192x2336 : S_.BroadcastsInDim S8192x2336 (![] : Fin 0 → Fin S8192x2336.rank)
  bcast_S_S4x384 : S_.BroadcastsInDim S4x384 (![] : Fin 0 → Fin S4x384.rank)
  bcast_S_S4x256 : S_.BroadcastsInDim S4x256 (![] : Fin 0 → Fin S4x256.rank)
  bcast_S_S4x384x576 : S_.BroadcastsInDim S4x384x576 (![] : Fin 0 → Fin S4x384x576.rank)
  bcast_S_S4x256x768 : S_.BroadcastsInDim S4x256x768 (![] : Fin 0 → Fin S4x256x768.rank)

variable [Facts]

def fn {F : FTy → Type} [FloatOps F] (main_arg0 : FVec F S8192x2336 .f32) (main_arg1 : FVec F S4x384 .f32) (main_arg2 : FVec F S4x256 .f32) (main_arg3 : FVec F S4x384x576 .f32) (main_arg4 : FVec F S4x256x768 .f32) : IVec S8192x2336 1 × IVec S4x384 1 × IVec S4x256 1 × IVec S4x384x576 1 × IVec S4x256x768 1 :=
  let main_v0 : FVec F S8192x2336 .f32 := Host.absf main_arg0
  let main_cst : FVec F S_ .f32 := constant S_ .f32 0x7F800000#32
  let main_v1 : FVec F S8192x2336 .f32 := broadcastInDim S8192x2336 ![] bcast_S_S8192x2336 main_cst
  let main_v2 : IVec S8192x2336 1 := cmpf .olt main_v0 main_v1
  let main_v3 : FVec F S4x384 .f32 := Host.absf main_arg1
  let main_cst_0 : FVec F S_ .f32 := constant S_ .f32 0x7F800000#32
  let main_v4 : FVec F S4x384 .f32 := broadcastInDim S4x384 ![] bcast_S_S4x384 main_cst_0
  let main_v5 : IVec S4x384 1 := cmpf .olt main_v3 main_v4
  let main_v6 : FVec F S4x256 .f32 := Host.absf main_arg2
  let main_cst_1 : FVec F S_ .f32 := constant S_ .f32 0x7F800000#32
  let main_v7 : FVec F S4x256 .f32 := broadcastInDim S4x256 ![] bcast_S_S4x256 main_cst_1
  let main_v8 : IVec S4x256 1 := cmpf .olt main_v6 main_v7
  let main_v9 : FVec F S4x384x576 .f32 := Host.absf main_arg3
  let main_cst_2 : FVec F S_ .f32 := constant S_ .f32 0x7F800000#32
  let main_v10 : FVec F S4x384x576 .f32 := broadcastInDim S4x384x576 ![] bcast_S_S4x384x576 main_cst_2
  let main_v11 : IVec S4x384x576 1 := cmpf .olt main_v9 main_v10
  let main_v12 : FVec F S4x256x768 .f32 := Host.absf main_arg4
  let main_cst_3 : FVec F S_ .f32 := constant S_ .f32 0x7F800000#32
  let main_v13 : FVec F S4x256x768 .f32 := broadcastInDim S4x256x768 ![] bcast_S_S4x256x768 main_cst_3
  let main_v14 : IVec S4x256x768 1 := cmpf .olt main_v12 main_v13
  (main_v2, main_v5, main_v8, main_v11, main_v14)
-- ==== Pre_outproj_finite.lean ====
abbrev S8192x1024 : Shape := ⟨2, ![8192, 1024]⟩
abbrev S8192x384 : Shape := ⟨2, ![8192, 384]⟩
abbrev S8192x256 : Shape := ⟨2, ![8192, 256]⟩
abbrev S8192x2336 : Shape := ⟨2, ![8192, 2336]⟩
abbrev S4x1024x1024 : Shape := ⟨3, ![4, 1024, 1024]⟩
abbrev S_ : Shape := ⟨0, ![]⟩

class Facts : Prop where
  bcast_S_S8192x1024 : S_.BroadcastsInDim S8192x1024 (![] : Fin 0 → Fin S8192x1024.rank)
  bcast_S_S8192x384 : S_.BroadcastsInDim S8192x384 (![] : Fin 0 → Fin S8192x384.rank)
  bcast_S_S8192x2336 : S_.BroadcastsInDim S8192x2336 (![] : Fin 0 → Fin S8192x2336.rank)
  bcast_S_S4x1024x1024 : S_.BroadcastsInDim S4x1024x1024 (![] : Fin 0 → Fin S4x1024x1024.rank)

variable [Facts]

def fn {F : FTy → Type} [FloatOps F] (main_arg0 : FVec F S8192x1024 .f32) (main_arg1 : FVec F S8192x384 .f32) (main_arg2 : FVec F S8192x256 .f32) (main_arg3 : FVec F S8192x384 .f32) (main_arg4 : FVec F S8192x2336 .f32) (main_arg5 : FVec F S4x1024x1024 .f32) : IVec S8192x1024 1 × IVec S8192x384 1 × IVec S8192x2336 1 × IVec S4x1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x384 .f32 := Host.absf main_arg3
  let main_cst_0 : FVec F S_ .f32 := constant S_ .f32 0x7F800000#32
  let main_v4 : FVec F S8192x384 .f32 := broadcastInDim S8192x384 ![] bcast_S_S8192x384 main_cst_0
  let main_v5 : IVec S8192x384 1 := cmpf .olt main_v3 main_v4
  let main_v6 : FVec F S8192x2336 .f32 := Host.absf main_arg4
  let main_cst_1 : FVec F S_ .f32 := constant S_ .f32 0x7F800000#32
  let main_v7 : FVec F S8192x2336 .f32 := broadcastInDim S8192x2336 ![] bcast_S_S8192x2336 main_cst_1
  let main_v8 : IVec S8192x2336 1 := cmpf .olt main_v6 main_v7
  let main_v9 : FVec F S4x1024x1024 .f32 := Host.absf main_arg5
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  (main_v2, main_v5, main_v8, main_v11)
-- ==== Pre_pool_finite.lean ====
abbrev S8192x2336 : Shape := ⟨2, ![8192, 2336]⟩
abbrev S4x4x64x64 : Shape := ⟨4, ![4, 4, 64, 64]⟩
abbrev S4x256 : Shape := ⟨2, ![4, 256]⟩
abbrev S8192x256 : Shape := ⟨2, ![8192, 256]⟩
abbrev S_ : Shape := ⟨0, ![]⟩

class Facts : Prop where
  bcast_S_S8192x2336 : S_.BroadcastsInDim S8192x2336 (![] : Fin 0 → Fin S8192x2336.rank)
  bcast_S_S4x4x64x64 : S_.BroadcastsInDim S4x4x64x64 (![] : Fin 0 → Fin S4x4x64x64.rank)
  bcast_S_S4x256 : S_.BroadcastsInDim S4x256 (![] : Fin 0 → Fin S4x256.rank)
  bcast_S_S8192x256 : S_.BroadcastsInDim S8192x256 (![] : Fin 0 → Fin S8192x256.rank)

variable [Facts]

def fn {F : FTy → Type} [FloatOps F] (main_arg0 : FVec F S8192x2336 .f32) (main_arg1 : FVec F S4x4x64x64 .f32) (main_arg2 : FVec F S4x256 .f32) (main_arg3 : FVec F S8192x256 .f32) : IVec S8192x2336 1 × IVec S4x4x64x64 1 × IVec S4x256 1 × IVec S8192x256 1 :=
  let main_v0 : FVec F S8192x2336 .f32 := Host.absf main_arg0
  let main_cst : FVec F S_ .f32 := constant S_ .f32 0x7F800000#32
  let main_v1 : FVec F S8192x2336 .f32 := broadcastInDim S8192x2336 ![] bcast_S_S8192x2336 main_cst
  let main_v2 : IVec S8192x2336 1 := cmpf .olt main_v0 main_v1
  let main_v3 : FVec F S4x4x64x64 .f32 := Host.absf main_arg1
  let main_cst_0 : FVec F S_ .f32 := constant S_ .f32 0x7F800000#32
  let main_v4 : FVec F S4x4x64x64 .f32 := broadcastInDim S4x4x64x64 ![] bcast_S_S4x4x64x64 main_cst_0
  let main_v5 : IVec S4x4x64x64 1 := cmpf .olt main_v3 main_v4
  let main_v6 : FVec F S4x256 .f32 := Host.absf main_arg2
  let main_cst_1 : FVec F S_ .f32 := constant S_ .f32 0x7F800000#32
  let main_v7 : FVec F S4x256 .f32 := broadcastInDim S4x256 ![] bcast_S_S4x256 main_cst_1
  let main_v8 : IVec S4x256 1 := cmpf .olt main_v6 main_v7
  let main_v9 : FVec F S8192x256 .f32 := Host.absf main_arg3
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  (main_v2, main_v5, main_v8, main_v11)
-- ==== Pre_pool_fwd_finite.lean ====
abbrev S8192x2336 : Shape := ⟨2, ![8192, 2336]⟩
abbrev S4x4x64x64 : Shape := ⟨4, ![4, 4, 64, 64]⟩
abbrev S4x256 : Shape := ⟨2, ![4, 256]⟩
abbrev S_ : Shape := ⟨0, ![]⟩

class Facts : Prop where
  bcast_S_S8192x2336 : S_.BroadcastsInDim S8192x2336 (![] : Fin 0 → Fin S8192x2336.rank)
  bcast_S_S4x4x64x64 : S_.BroadcastsInDim S4x4x64x64 (![] : Fin 0 → Fin S4x4x64x64.rank)
  bcast_S_S4x256 : S_.BroadcastsInDim S4x256 (![] : Fin 0 → Fin S4x256.rank)

variable [Facts]

def fn {F : FTy → Type} [FloatOps F] (main_arg0 : FVec F S8192x2336 .f32) (main_arg1 : FVec F S4x4x64x64 .f32) (main_arg2 : FVec F S4x256 .f32) : IVec S8192x2336 1 × IVec S4x4x64x64 1 × IVec S4x256 1 :=
  let main_v0 : FVec F S8192x2336 .f32 := Host.absf main_arg0
  let main_cst : FVec F S_ .f32 := constant S_ .f32 0x7F800000#32
  let main_v1 : FVec F S8192x2336 .f32 := broadcastInDim S8192x2336 ![] bcast_S_S8192x2336 main_cst
  let main_v2 : IVec S8192x2336 1 := cmpf .olt main_v0 main_v1
  let main_v3 : FVec F S4x4x64x64 .f32 := Host.absf main_arg1
  let main_cst_0 : FVec F S_ .f32 := constant S_ .f32 0x7F800000#32
  let main_v4 : FVec F S4x4x64x64 .f32 := broadcastInDim S4x4x64x64 ![] bcast_S_S4x4x64x64 main_cst_0
  let main_v5 : IVec S4x4x64x64 1 := cmpf .olt main_v3 main_v4
  let main_v6 : FVec F S4x256 .f32 := Host.absf main_arg2
  let main_cst_1 : FVec F S_ .f32 := constant S_ .f32 0x7F800000#32
  let main_v7 : FVec F S4x256 .f32 := broadcastInDim S4x256 ![] bcast_S_S4x256 main_cst_1
  let main_v8 : IVec S4x256 1 := cmpf .olt main_v6 main_v7
  (main_v2, main_v5, main_v8)
-- ==== LossHead.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== PoolBwd.lean ====
abbrev S8192x2336 : Shape := ⟨2, ![8192, 2336]⟩
abbrev S4x4x64x64 : Shape := ⟨4, ![4, 4, 64, 64]⟩
abbrev S4x256 : Shape := ⟨2, ![4, 256]⟩
abbrev S8192x256 : Shape := ⟨2, ![8192, 256]⟩
abbrev S8192x584 : Shape := ⟨2, ![8192, 584]⟩
abbrev S8192x568 : Shape := ⟨2, ![8192, 568]⟩
abbrev S8192x312 : Shape := ⟨2, ![8192, 312]⟩
abbrev S8192x72 : Shape := ⟨2, ![8192, 72]⟩
abbrev S8192x16 : Shape := ⟨2, ![8192, 16]⟩
abbrev S8192x240 : Shape := ⟨2, ![8192, 240]⟩
abbrev S8192x512 : Shape := ⟨2, ![8192, 512]⟩
abbrev S_ : Shape := ⟨0, ![]⟩
abbrev S8192x64 : Shape := ⟨2, ![8192, 64]⟩
abbrev S8192x32 : Shape := ⟨2, ![8192, 32]⟩
abbrev S8192x2432 : Shape := ⟨2, ![8192, 2432]⟩
abbrev S4x4x64x1x64 : Shape := ⟨5, ![4, 4, 64, 1, 64]⟩
abbrev S4x4 : Shape := ⟨2, ![4, 4]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x1x256 : Shape := ⟨3, ![4, 1, 256]⟩
abbrev S256x256 : Shape := ⟨2, ![256, 256]⟩
abbrev S1x256 : Shape := ⟨2, ![1, 256]⟩
abbrev S1024x256 : Shape := ⟨2, ![1024, 256]⟩
abbrev S16x256 : Shape := ⟨2, ![16, 256]⟩
abbrev S1x256x256 : Shape := ⟨3, ![1, 256, 256]⟩
abbrev S1x1x256 : Shape := ⟨3, ![1, 1, 256]⟩
abbrev S1040x256 : Shape := ⟨2, ![1040, 256]⟩
abbrev S256 : Shape := ⟨1, ![256]⟩

abbrev nBuf : Space → Nat
  | .hbm => 39
  | .vmem => 17
  | .smem => 0
  | _ => 0

abbrev bufTy : (tb : Table) → Fin (tcTables nBuf tb) → BufTy
  | .hbm, ⟨0, _⟩ => ⟨S8192x2336, .f32⟩
  | .hbm, ⟨1, _⟩ => ⟨S4x4x64x64, .f32⟩
  | .hbm, ⟨2, _⟩ => ⟨S4x256, .f32⟩
  | .hbm, ⟨3, _⟩ => ⟨S8192x256, .f32⟩
  | .hbm, ⟨4, _⟩ => ⟨S8192x584, .f32⟩
  | .hbm, ⟨5, _⟩ => ⟨S8192x584, .f32⟩
  | .hbm, ⟨6, _⟩ => ⟨S8192x584, .f32⟩
  | .hbm, ⟨7, _⟩ => ⟨S8192x584, .f32⟩
  | .hbm, ⟨8, _⟩ => ⟨S8192x568, .f32⟩
  | .hbm, ⟨9, _⟩ => ⟨S8192x312, .f32⟩
  | .hbm, ⟨10, _⟩ => ⟨S8192x72, .f32⟩
  | .hbm, ⟨11, _⟩ => ⟨S8192x16, .f32⟩
  | .hbm, ⟨12, _⟩ => ⟨S8192x240, .f32⟩
  | .hbm, ⟨13, _⟩ => ⟨S8192x512, .f32⟩
  | .hbm, ⟨14, _⟩ => ⟨S_, .f32⟩
  | .hbm, ⟨15, _⟩ => ⟨S8192x64, .f32⟩
  | .hbm, ⟨16, _⟩ => ⟨S8192x32, .f32⟩
  | .hbm, ⟨17, _⟩ => ⟨S_, .f32⟩
  | .hbm, ⟨18, _⟩ => ⟨S8192x32, .f32⟩
  | .hbm, ⟨19, _⟩ => ⟨S8192x2432, .f32⟩
  | .hbm, ⟨20, _⟩ => ⟨S4x4x64x1x64, .f32⟩
  | .hbm, ⟨21, _⟩ => ⟨S4x4, .i32⟩
  | .hbm, ⟨22, _⟩ => ⟨S4x4, .i32⟩
  | .hbm, ⟨23, _⟩ => ⟨S_, .i32⟩
  | .hbm, ⟨24, _⟩ => ⟨S4x4, .i32⟩
  | .hbm, ⟨25, _⟩ => ⟨S4x4, .i32⟩
  | .hbm, ⟨26, _⟩ => ⟨S4x4, .i1⟩
  | .hbm, ⟨27, _⟩ => ⟨S4x4, .f32⟩
  | .hbm, ⟨28, _⟩ => ⟨S1x4x1x4x1, .f32⟩
  | .hbm, ⟨29, _⟩ => ⟨S4x4x64x4x64, .f32⟩
  | .hbm, ⟨30, _⟩ => ⟨S4x4x64x4x64, .f32⟩
  | .hbm, ⟨31, _⟩ => ⟨S4x4x64x4x64, .f32⟩
  | .hbm, ⟨32, _⟩ => ⟨S4x256x256, .f32⟩
  | .hbm, ⟨33, _⟩ => ⟨S4x256x256, .bf16⟩
  | .hbm, ⟨34, _⟩ => ⟨S4x1x256, .f32⟩
  | .hbm, ⟨35, _⟩ => ⟨S8192x256, .bf16⟩
  | .hbm, ⟨36, _⟩ => ⟨S8192x256, .bf16⟩
  | .hbm, ⟨37, _⟩ => ⟨S256x256, .f32⟩
  | .hbm, ⟨38, _⟩ => ⟨S1x256, .f32⟩
  | .local _ .vmem, ⟨0, _⟩ => ⟨S1024x256, .f32⟩
  | .local _ .vmem, ⟨1, _⟩ => ⟨S1024x256, .f32⟩
  | .local _ .vmem, ⟨2, _⟩ => ⟨S16x256, .f32⟩
  | .local _ .vmem, ⟨3, _⟩ => ⟨S16x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x256x256, .bf16⟩
  | .local _ .vmem, ⟨9, _⟩ => ⟨S1x1x256, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S256x256, .f32⟩
  | .local _ .vmem, ⟨15, _⟩ => ⟨S1x256, .f32⟩
  | .local _ .vmem, ⟨16, _⟩ => ⟨S16x256, .f32⟩
  | _, _ => ⟨S8192x2336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v28_2 : Ref sig .tc := ⟨.hbm, 37, rfl⟩
abbrev main_v28_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c7_i32_0 : BitVec 32 := 7#32
  let c0_i32 : BitVec 32 := 0#32
  ![v0.toNat, c7_i32_0.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c7_i32_0 : BitVec 32 := 7#32
  let c0_i32_1 : BitVec 32 := 0#32
  ![v3.toNat, c7_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let c0_i32 : BitVec 32 := 0#32
  ![v0.toNat, c8_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PoolBwdRefIdeal.lean ====
abbrev S8192x2336 : Shape := ⟨2, ![8192, 2336]⟩
abbrev S4x4x64x64 : Shape := ⟨4, ![4, 4, 64, 64]⟩
abbrev S4x256 : Shape := ⟨2, ![4, 256]⟩
abbrev S8192x256 : Shape := ⟨2, ![8192, 256]⟩
abbrev S1x4x64x64 : Shape := ⟨4, ![1, 4, 64, 64]⟩
abbrev S4x64x64 : Shape := ⟨3, ![4, 64, 64]⟩
abbrev S1x256 : Shape := ⟨2, ![1, 256]⟩
abbrev S256 : Shape := ⟨1, ![256]⟩
abbrev S8192 : Shape := ⟨1, ![8192]⟩
abbrev S_ : Shape := ⟨0, ![]⟩
abbrev S8192x64 : Shape := ⟨2, ![8192, 64]⟩
abbrev S2x64 : Shape := ⟨2, ![2, 64]⟩
abbrev S8190x64 : Shape := ⟨2, ![8190, 64]⟩
abbrev S8192x1 : Shape := ⟨2, ![8192, 1]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x1x64 : Shape := ⟨3, ![8192, 1, 64]⟩
abbrev S8192x4x64 : Shape := ⟨3, ![8192, 4, 64]⟩
abbrev S4x64x8192 : Shape := ⟨3, ![4, 64, 8192]⟩
abbrev S4x8192x64 : Shape := ⟨3, ![4, 8192, 64]⟩
abbrev S1x64x64 : Shape := ⟨3, ![1, 64, 64]⟩
abbrev S64x64 : Shape := ⟨2, ![64, 64]⟩
abbrev S64x256 : Shape := ⟨2, ![64, 256]⟩
abbrev S256x256 : Shape := ⟨2, ![256, 256]⟩

abbrev nBuf : Space → Nat
  | .hbm => 226
  | .vmem => 0
  | .smem => 0
  | _ => 0

abbrev hbmTy0_0 (i : Nat) : BufTy := match i % 128 with
  | 0 => ⟨S8192x2336, .f32⟩
  | 1 => ⟨S4x4x64x64, .f32⟩
  | 2 => ⟨S4x256, .f32⟩
  | 3 => ⟨S8192x256, .f32⟩
  | 4 => ⟨S8192x256, .f32⟩
  | 5 => ⟨S8192x256, .f32⟩
  | 6 => ⟨S1x4x64x64, .f32⟩
  | 7 => ⟨S4x64x64, .f32⟩
  | 8 => ⟨S1x256, .f32⟩
  | 9 => ⟨S256, .f32⟩
  | 10 => ⟨S8192, .f32⟩
  | 11 => ⟨S_, .f32⟩
  | 12 => ⟨S8192, .f32⟩
  | 13 => ⟨S8192, .f32⟩
  | 14 => ⟨S8192x64, .f32⟩
  | 15 => ⟨S_, .f32⟩
  | 16 => ⟨S_, .f32⟩
  | 17 => ⟨S8192x64, .f32⟩
  | 18 => ⟨S_, .f32⟩
  | 19 => ⟨S2x64, .f32⟩
  | 20 => ⟨S8190x64, .f32⟩
  | 21 => ⟨S8192x64, .f32⟩
  | 22 => ⟨S_, .f32⟩
  | 23 => ⟨S2x64, .f32⟩
  | 24 => ⟨S_, .f32⟩
  | 25 => ⟨S8192, .f32⟩
  | 26 => ⟨S8192, .f32⟩
  | 27 => ⟨S8192x1, .f32⟩
  | 28 => ⟨S8192x64, .f32⟩
  | 29 => ⟨S8192x64, .f32⟩
  | 30 => ⟨S8192x64, .f32⟩
  | 31 => ⟨S8192x64, .f32⟩
  | 32 => ⟨S8192x64, .f32⟩
  | 33 => ⟨S_, .f32⟩
  | 34 => ⟨S_, .f32⟩
  | 35 => ⟨S8192x64, .f32⟩
  | 36 => ⟨S_, .f32⟩
  | 37 => ⟨S4x64, .f32⟩
  | 38 => ⟨S8188x64, .f32⟩
  | 39 => ⟨S8192x64, .f32⟩
  | 40 => ⟨S_, .f32⟩
  | 41 => ⟨S4x64, .f32⟩
  | 42 => ⟨S_, .f32⟩
  | 43 => ⟨S8192, .f32⟩
  | 44 => ⟨S8192, .f32⟩
  | 45 => ⟨S8192x1, .f32⟩
  | 46 => ⟨S8192x64, .f32⟩
  | 47 => ⟨S8192x64, .f32⟩
  | 48 => ⟨S8192x64, .f32⟩
  | 49 => ⟨S8192x64, .f32⟩
  | 50 => ⟨S8192x64, .f32⟩
  | 51 => ⟨S_, .f32⟩
  | 52 => ⟨S_, .f32⟩
  | 53 => ⟨S8192x64, .f32⟩
  | 54 => ⟨S_, .f32⟩
  | 55 => ⟨S8x64, .f32⟩
  | 56 => ⟨S8184x64, .f32⟩
  | 57 => ⟨S8192x64, .f32⟩
  | 58 => ⟨S_, .f32⟩
  | 59 => ⟨S8x64, .f32⟩
  | 60 => ⟨S_, .f32⟩
  | 61 => ⟨S8192, .f32⟩
  | 62 => ⟨S8192, .f32⟩
  | 63 => ⟨S8192x1, .f32⟩
  | 64 => ⟨S8192x64, .f32⟩
  | 65 => ⟨S8192x64, .f32⟩
  | 66 => ⟨S8192x64, .f32⟩
  | 67 => ⟨S8192x64, .f32⟩
  | 68 => ⟨S8192x64, .f32⟩
  | 69 => ⟨S_, .f32⟩
  | 70 => ⟨S_, .f32⟩
  | 71 => ⟨S8192x64, .f32⟩
  | 72 => ⟨S_, .f32⟩
  | 73 => ⟨S16x64, .f32⟩
  | 74 => ⟨S8176x64, .f32⟩
  | 75 => ⟨S8192x64, .f32⟩
  | 76 => ⟨S_, .f32⟩
  | 77 => ⟨S16x64, .f32⟩
  | 78 => ⟨S_, .f32⟩
  | 79 => ⟨S8192, .f32⟩
  | 80 => ⟨S8192, .f32⟩
  | 81 => ⟨S8192x1, .f32⟩
  | 82 => ⟨S8192x64, .f32⟩
  | 83 => ⟨S8192x64, .f32⟩
  | 84 => ⟨S8192x64, .f32⟩
  | 85 => ⟨S8192x64, .f32⟩
  | 86 => ⟨S8192x1x64, .f32⟩
  | 87 => ⟨S8192x1x64, .f32⟩
  | 88 => ⟨S8192x1x64, .f32⟩
  | 89 => ⟨S8192x1x64, .f32⟩
  | 90 => ⟨S8192x4x64, .f32⟩
  | 91 => ⟨S4x64x8192, .f32⟩
  | 92 => ⟨S8192x4x64, .f32⟩
  | 93 => ⟨S8192x256, .f32⟩
  | 94 => ⟨S1x256, .f32⟩
  | 95 => ⟨S8192x256, .f32⟩
  | 96 => ⟨S8192x256, .f32⟩
  | 97 => ⟨S8192x256, .f32⟩
  | 98 => ⟨S8192x256, .f32⟩
  | 99 => ⟨S_, .f32⟩
  | 100 => ⟨S8192x256, .f32⟩
  | 101 => ⟨S8192x256, .f32⟩
  | 102 => ⟨S_, .f32⟩
  | 103 => ⟨S8192x256, .f32⟩
  | 104 => ⟨S8192x256, .f32⟩
  | 105 => ⟨S_, .f32⟩
  | 106 => ⟨S8192x256, .f32⟩
  | 107 => ⟨S8192x256, .f32⟩
  | 108 => ⟨S8192x256, .f32⟩
  | 109 => ⟨S8192x256, .f32⟩
  | 110 => ⟨S8192x256, .f32⟩
  | 111 => ⟨S8192x256, .f32⟩
  | 112 => ⟨S8192x256, .f32⟩
  | 113 => ⟨S8192x256, .f32⟩
  | 114 => ⟨S8192x256, .f32⟩
  | 115 => ⟨S8192x256, .f32⟩
  | 116 => ⟨S8192x256, .f32⟩
  | 117 => ⟨S8192x256, .f32⟩
  | 118 => ⟨S_, .f32⟩
  | 119 => ⟨S256, .f32⟩
  | 120 => ⟨S1x256, .f32⟩
  | 121 => ⟨S8192x256, .f32⟩
  | 122 => ⟨S8192x256, .f32⟩
  | 123 => ⟨S_, .f32⟩
  | 124 => ⟨S256, .f32⟩
  | 125 => ⟨S8192x4x64, .f32⟩
  | 126 => ⟨S4x64x8192, .f32⟩
  | 127 => ⟨S4x8192x64, .f32⟩
  | _ => ⟨S8192x2336, .f32⟩

abbrev hbmTy0_1 (i : Nat) : BufTy := match i % 128 with
  | 0 => ⟨S8192x4x64, .f32⟩
  | 1 => ⟨S4x64x64, .f32⟩
  | 2 => ⟨S4x64x64, .f32⟩
  | 3 => ⟨S8192x1x64, .f32⟩
  | 4 => ⟨S8192x64, .f32⟩
  | 5 => ⟨S8192x1x64, .f32⟩
  | 6 => ⟨S8192x64, .f32⟩
  | 7 => ⟨S8192x1x64, .f32⟩
  | 8 => ⟨S8192x64, .f32⟩
  | 9 => ⟨S8192x1x64, .f32⟩
  | 10 => ⟨S8192x64, .f32⟩
  | 11 => ⟨S8192x64, .f32⟩
  | 12 => ⟨S8192x64, .f32⟩
  | 13 => ⟨S8192x64, .f32⟩
  | 14 => ⟨S8192x64, .f32⟩
  | 15 => ⟨S16x64, .f32⟩
  | 16 => ⟨S8176x64, .f32⟩
  | 17 => ⟨S_, .f32⟩
  | 18 => ⟨S8192x64, .f32⟩
  | 19 => ⟨S8192x64, .f32⟩
  | 20 => ⟨S_, .f32⟩
  | 21 => ⟨S_, .f32⟩
  | 22 => ⟨S8192x64, .f32⟩
  | 23 => ⟨S8192x64, .f32⟩
  | 24 => ⟨S_, .f32⟩
  | 25 => ⟨S8192x256, .f32⟩
  | 26 => ⟨S8192x64, .f32⟩
  | 27 => ⟨S8192x64, .f32⟩
  | 28 => ⟨S8192x64, .f32⟩
  | 29 => ⟨S8192x64, .f32⟩
  | 30 => ⟨S8x64, .f32⟩
  | 31 => ⟨S8184x64, .f32⟩
  | 32 => ⟨S_, .f32⟩
  | 33 => ⟨S8192x64, .f32⟩
  | 34 => ⟨S8192x64, .f32⟩
  | 35 => ⟨S_, .f32⟩
  | 36 => ⟨S_, .f32⟩
  | 37 => ⟨S8192x64, .f32⟩
  | 38 => ⟨S8192x64, .f32⟩
  | 39 => ⟨S_, .f32⟩
  | 40 => ⟨S8192x256, .f32⟩
  | 41 => ⟨S8192x256, .f32⟩
  | 42 => ⟨S8192x64, .f32⟩
  | 43 => ⟨S8192x64, .f32⟩
  | 44 => ⟨S8192x64, .f32⟩
  | 45 => ⟨S8192x64, .f32⟩
  | 46 => ⟨S4x64, .f32⟩
  | 47 => ⟨S8188x64, .f32⟩
  | 48 => ⟨S_, .f32⟩
  | 49 => ⟨S8192x64, .f32⟩
  | 50 => ⟨S8192x64, .f32⟩
  | 51 => ⟨S_, .f32⟩
  | 52 => ⟨S_, .f32⟩
  | 53 => ⟨S8192x64, .f32⟩
  | 54 => ⟨S8192x64, .f32⟩
  | 55 => ⟨S_, .f32⟩
  | 56 => ⟨S8192x256, .f32⟩
  | 57 => ⟨S8192x256, .f32⟩
  | 58 => ⟨S8192x64, .f32⟩
  | 59 => ⟨S8192x64, .f32⟩
  | 60 => ⟨S8192x64, .f32⟩
  | 61 => ⟨S8192x64, .f32⟩
  | 62 => ⟨S2x64, .f32⟩
  | 63 => ⟨S8190x64, .f32⟩
  | 64 => ⟨S_, .f32⟩
  | 65 => ⟨S8192x64, .f32⟩
  | 66 => ⟨S8192x64, .f32⟩
  | 67 => ⟨S_, .f32⟩
  | 68 => ⟨S_, .f32⟩
  | 69 => ⟨S8192x64, .f32⟩
  | 70 => ⟨S8192x64, .f32⟩
  | 71 => ⟨S_, .f32⟩
  | 72 => ⟨S8192x256, .f32⟩
  | 73 => ⟨S8192x256, .f32⟩
  | 74 => ⟨S1x64x64, .f32⟩
  | 75 => ⟨S64x64, .f32⟩
  | 76 => ⟨S_, .i32⟩
  | 77 => ⟨S_, .f32⟩
  | 78 => ⟨S64x256, .f32⟩
  | 79 => ⟨S1x64x64, .f32⟩
  | 80 => ⟨S64x64, .f32⟩
  | 81 => ⟨S_, .i32⟩
  | 82 => ⟨S_, .f32⟩
  | 83 => ⟨S64x256, .f32⟩
  | 84 => ⟨S1x64x64, .f32⟩
  | 85 => ⟨S64x64, .f32⟩
  | 86 => ⟨S_, .i32⟩
  | 87 => ⟨S_, .f32⟩
  | 88 => ⟨S64x256, .f32⟩
  | 89 => ⟨S1x64x64, .f32⟩
  | 90 => ⟨S64x64, .f32⟩
  | 91 => ⟨S_, .i32⟩
  | 92 => ⟨S_, .f32⟩
  | 93 => ⟨S64x256, .f32⟩
  | 94 => ⟨S256x256, .f32⟩
  | 95 => ⟨S8192x256, .bf16⟩
  | 96 => ⟨S8192x256, .bf16⟩
  | 97 => ⟨S1x256, .f32⟩
  | _ => ⟨S8192x2336, .f32⟩

abbrev hbmTy (i : Nat) : BufTy := match i / 128 with
  | 0 => hbmTy0_0 i
  | 1 => hbmTy0_1 i
  | _ => ⟨S8192x2336, .f32⟩

abbrev bufTy : (tb : Table) → Fin (tcTables nBuf tb) → BufTy
  | .hbm, ⟨i, _⟩ => hbmTy i
  | _, _ => ⟨S8192x2336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_call0_cst : Ref sig .tc := ⟨.hbm, 15, rfl⟩
abbrev main_call0_call0_v0 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_call1_call0_cst : Ref sig .tc := ⟨.hbm, 33, rfl⟩
abbrev main_call1_call0_v0 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_call2_call0_cst : Ref sig .tc := ⟨.hbm, 51, rfl⟩
abbrev main_call2_call0_v0 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call3_call0_cst : Ref sig .tc := ⟨.hbm, 69, rfl⟩
abbrev main_call3_call0_v0 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_v72_2 : Ref sig .tc := ⟨.hbm, 104, rfl⟩
abbrev main_call4_cst_1 : Ref sig .tc := ⟨.hbm, 105, rfl⟩
abbrev main_call4_v6 : Ref sig .tc := ⟨.hbm, 106, rfl⟩
abbrev main_call4_v7 : Ref sig .tc := ⟨.hbm, 107, rfl⟩
abbrev main_v72_1 : Ref sig .tc := ⟨.hbm, 108, rfl⟩
abbrev main_v72_0 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v76 : Ref sig .tc := ⟨.hbm, 116, rfl⟩
abbrev main_v77 : Ref sig .tc := ⟨.hbm, 117, rfl⟩
abbrev main_cst_12 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_14 : Ref sig .tc := ⟨.hbm, 145, rfl⟩
abbrev main_v103 : Ref sig .tc := ⟨.hbm, 146, rfl⟩
abbrev main_v104 : Ref sig .tc := ⟨.hbm, 147, rfl⟩
abbrev main_call6_call0_cst : Ref sig .tc := ⟨.hbm, 148, rfl⟩
abbrev main_call6_call0_v0 : Ref sig .tc := ⟨.hbm, 149, rfl⟩
abbrev main_v105 : Ref sig .tc := ⟨.hbm, 150, rfl⟩
abbrev main_v106 : Ref sig .tc := ⟨.hbm, 151, rfl⟩
abbrev main_cst_15 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_16 : Ref sig .tc := ⟨.hbm, 160, rfl⟩
abbrev main_v114 : Ref sig .tc := ⟨.hbm, 161, rfl⟩
abbrev main_v115 : Ref sig .tc := ⟨.hbm, 162, rfl⟩
abbrev main_call7_call0_cst : Ref sig .tc := ⟨.hbm, 163, rfl⟩
abbrev main_call7_call0_v0 : Ref sig .tc := ⟨.hbm, 164, rfl⟩
abbrev main_v116 : Ref sig .tc := ⟨.hbm, 165, rfl⟩
abbrev main_v117 : Ref sig .tc := ⟨.hbm, 166, rfl⟩
abbrev main_cst_17 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_18 : Ref sig .tc := ⟨.hbm, 176, rfl⟩
abbrev main_v126 : Ref sig .tc := ⟨.hbm, 177, rfl⟩
abbrev main_v127 : Ref sig .tc := ⟨.hbm, 178, rfl⟩
abbrev main_call8_call0_cst : Ref sig .tc := ⟨.hbm, 179, rfl⟩
abbrev main_call8_call0_v0 : Ref sig .tc := ⟨.hbm, 180, rfl⟩
abbrev main_v128 : Ref sig .tc := ⟨.hbm, 181, rfl⟩
abbrev main_v129 : Ref sig .tc := ⟨.hbm, 182, rfl⟩
abbrev main_cst_19 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_cst_20 : Ref sig .tc := ⟨.hbm, 192, rfl⟩
abbrev main_v138 : Ref sig .tc := ⟨.hbm, 193, rfl⟩
abbrev main_v139 : Ref sig .tc := ⟨.hbm, 194, rfl⟩
abbrev main_call9_call0_cst : Ref sig .tc := ⟨.hbm, 195, rfl⟩
abbrev main_call9_call0_v0 : Ref sig .tc := ⟨.hbm, 196, rfl⟩
abbrev main_v140 : Ref sig .tc := ⟨.hbm, 197, rfl⟩
abbrev main_v141 : Ref sig .tc := ⟨.hbm, 198, rfl⟩
abbrev main_cst_21 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_c : Ref sig .tc := ⟨.hbm, 204, rfl⟩
abbrev main_call10_v0 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_c_22 : Ref sig .tc := ⟨.hbm, 209, rfl⟩
abbrev main_call11_v0 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_c_23 : Ref sig .tc := ⟨.hbm, 214, rfl⟩
abbrev main_call12_v0 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_c_24 : Ref sig .tc := ⟨.hbm, 219, rfl⟩
abbrev main_call13_v0 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩

abbrev nD : Nat := 1
abbrev τ : Topo := Topo.v7x

variable {F : FTy → Type} [FloatOps F]
-- ==== OutProjBwd.lean ====
abbrev S8192x1024 : Shape := ⟨2, ![8192, 1024]⟩
abbrev S8192x384 : Shape := ⟨2, ![8192, 384]⟩
abbrev S8192x256 : Shape := ⟨2, ![8192, 256]⟩
abbrev S8192x2336 : Shape := ⟨2, ![8192, 2336]⟩
abbrev S4x1024x1024 : Shape := ⟨3, ![4, 1024, 1024]⟩
abbrev S8192x584 : Shape := ⟨2, ![8192, 584]⟩
abbrev S8192x568 : Shape := ⟨2, ![8192, 568]⟩
abbrev S8192x312 : Shape := ⟨2, ![8192, 312]⟩
abbrev S8192x72 : Shape := ⟨2, ![8192, 72]⟩
abbrev S8192x16 : Shape := ⟨2, ![8192, 16]⟩
abbrev S8192x240 : Shape := ⟨2, ![8192, 240]⟩
abbrev S8192x512 : Shape := ⟨2, ![8192, 512]⟩
abbrev S_ : Shape := ⟨0, ![]⟩
abbrev S8192x64 : Shape := ⟨2, ![8192, 64]⟩
abbrev S8192x32 : Shape := ⟨2, ![8192, 32]⟩
abbrev S8192x2432 : Shape := ⟨2, ![8192, 2432]⟩
abbrev S3x16x8x512 : Shape := ⟨4, ![3, 16, 8, 512]⟩
abbrev S1024x1024 : Shape := ⟨2, ![1024, 1024]⟩
abbrev S512x1024 : Shape := ⟨2, ![512, 1024]⟩
abbrev S512x384 : Shape := ⟨2, ![512, 384]⟩
abbrev S512x256 : Shape := ⟨2, ![512, 256]⟩
abbrev S1x1024x1024 : Shape := ⟨3, ![1, 1024, 1024]⟩
abbrev S3x1x8x512 : Shape := ⟨4, ![3, 1, 8, 512]⟩
abbrev S384x1024 : Shape := ⟨2, ![384, 1024]⟩
abbrev S256x1024 : Shape := ⟨2, ![256, 1024]⟩
abbrev S24x384 : Shape := ⟨2, ![24, 384]⟩
abbrev S24x512 : Shape := ⟨2, ![24, 512]⟩
abbrev S8x512 : Shape := ⟨2, ![8, 512]⟩
abbrev S1x1x8x512 : Shape := ⟨4, ![1, 1, 8, 512]⟩

abbrev nBuf : Space → Nat
  | .hbm => 43
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S8192x2336, .f32⟩
  | .hbm, ⟨5, _⟩ => ⟨S4x1024x1024, .f32⟩
  | .hbm, ⟨6, _⟩ => ⟨S8192x584, .f32⟩
  | .hbm, ⟨7, _⟩ => ⟨S8192x584, .f32⟩
  | .hbm, ⟨8, _⟩ => ⟨S8192x584, .f32⟩
  | .hbm, ⟨9, _⟩ => ⟨S8192x584, .f32⟩
  | .hbm, ⟨10, _⟩ => ⟨S8192x568, .f32⟩
  | .hbm, ⟨11, _⟩ => ⟨S8192x312, .f32⟩
  | .hbm, ⟨12, _⟩ => ⟨S8192x72, .f32⟩
  | .hbm, ⟨13, _⟩ => ⟨S8192x16, .f32⟩
  | .hbm, ⟨14, _⟩ => ⟨S8192x240, .f32⟩
  | .hbm, ⟨15, _⟩ => ⟨S8192x512, .f32⟩
  | .hbm, ⟨16, _⟩ => ⟨S_, .f32⟩
  | .hbm, ⟨17, _⟩ => ⟨S8192x64, .f32⟩
  | .hbm, ⟨18, _⟩ => ⟨S8192x32, .f32⟩
  | .hbm, ⟨19, _⟩ => ⟨S_, .f32⟩
  | .hbm, ⟨20, _⟩ => ⟨S8192x32, .f32⟩
  | .hbm, ⟨21, _⟩ => ⟨S8192x2432, .f32⟩
  | .hbm, ⟨22, _⟩ => ⟨S8192x384, .f32⟩
  | .hbm, ⟨23, _⟩ => ⟨S8192x384, .f32⟩
  | .hbm, ⟨24, _⟩ => ⟨S8192x384, .f32⟩
  | .hbm, ⟨25, _⟩ => ⟨S_, .f32⟩
  | .hbm, ⟨26, _⟩ => ⟨S8192x384, .f32⟩
  | .hbm, ⟨27, _⟩ => ⟨S8192x384, .f32⟩
  | .hbm, ⟨28, _⟩ => ⟨S_, .f32⟩
  | .hbm, ⟨29, _⟩ => ⟨S8192x384, .f32⟩
  | .hbm, ⟨30, _⟩ => ⟨S8192x384, .f32⟩
  | .hbm, ⟨31, _⟩ => ⟨S8192x384, .f32⟩
  | .hbm, ⟨32, _⟩ => ⟨S8192x384, .f32⟩
  | .hbm, ⟨33, _⟩ => ⟨S8192x384, .bf16⟩
  | .hbm, ⟨34, _⟩ => ⟨S8192x384, .bf16⟩
  | .hbm, ⟨35, _⟩ => ⟨S8192x256, .bf16⟩
  | .hbm, ⟨36, _⟩ => ⟨S4x1024x1024, .bf16⟩
  | .hbm, ⟨37, _⟩ => ⟨S8192x384, .f32⟩
  | .hbm, ⟨38, _⟩ => ⟨S8192x256, .f32⟩
  | .hbm, ⟨39, _⟩ => ⟨S8192x384, .bf16⟩
  | .hbm, ⟨40, _⟩ => ⟨S8192x384, .bf16⟩
  | .hbm, ⟨41, _⟩ => ⟨S3x16x8x512, .f32⟩
  | .hbm, ⟨42, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x256, .bf16⟩
  | .local _ .vmem, ⟨7, _⟩ => ⟨S512x256, .bf16⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S1x1024x1024, .bf16⟩
  | .local _ .vmem, ⟨13, _⟩ => ⟨S512x384, .f32⟩
  | .local _ .vmem, ⟨14, _⟩ => ⟨S512x384, .f32⟩
  | .local _ .vmem, ⟨15, _⟩ => ⟨S512x256, .f32⟩
  | .local _ .vmem, ⟨16, _⟩ => ⟨S512x256, .f32⟩
  | .local _ .vmem, ⟨17, _⟩ => ⟨S512x384, .bf16⟩
  | .local _ .vmem, ⟨18, _⟩ => ⟨S512x384, .bf16⟩
  | .local _ .vmem, ⟨19, _⟩ => ⟨S512x384, .bf16⟩
  | .local _ .vmem, ⟨20, _⟩ => ⟨S512x384, .bf16⟩
  | .local _ .vmem, ⟨21, _⟩ => ⟨S3x1x8x512, .f32⟩
  | .local _ .vmem, ⟨22, _⟩ => ⟨S3x1x8x512, .f32⟩
  | .local _ .vmem, ⟨23, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== OutProjBwdRefIdeal.lean ====
abbrev S8192x1024 : Shape := ⟨2, ![8192, 1024]⟩
abbrev S8192x384 : Shape := ⟨2, ![8192, 384]⟩
abbrev S8192x256 : Shape := ⟨2, ![8192, 256]⟩
abbrev S8192x2336 : Shape := ⟨2, ![8192, 2336]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩
abbrev S16x512x3x2x64 : Shape := ⟨5, ![16, 512, 3, 2, 64]⟩
abbrev S16x512x3x2 : Shape := ⟨4, ![16, 512, 3, 2]⟩
abbrev S3x16x2x512 : Shape := ⟨4, ![3, 16, 2, 512]⟩
abbrev S3x16x8x512 : Shape := ⟨4, ![3, 16, 8, 512]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x384, .f32⟩
  | .hbm, ⟨2, _⟩ => ⟨S8192x256, .f32⟩
  | .hbm, ⟨3, _⟩ => ⟨S8192x384, .f32⟩
  | .hbm, ⟨4, _⟩ => ⟨S8192x2336, .f32⟩
  | .hbm, ⟨5, _⟩ => ⟨S4x1024x1024, .f32⟩
  | .hbm, ⟨6, _⟩ => ⟨S8192x384, .f32⟩
  | .hbm, ⟨7, _⟩ => ⟨S1x1024x1024, .f32⟩
  | .hbm, ⟨8, _⟩ => ⟨S1024x1024, .f32⟩
  | .hbm, ⟨9, _⟩ => ⟨S8192x384, .f32⟩
  | .hbm, ⟨10, _⟩ => ⟨S8192x384, .f32⟩
  | .hbm, ⟨11, _⟩ => ⟨S_, .f32⟩
  | .hbm, ⟨12, _⟩ => ⟨S8192x384, .f32⟩
  | .hbm, ⟨13, _⟩ => ⟨S8192x384, .f32⟩
  | .hbm, ⟨14, _⟩ => ⟨S_, .f32⟩
  | .hbm, ⟨15, _⟩ => ⟨S8192x384, .f32⟩
  | .hbm, ⟨16, _⟩ => ⟨S8192x384, .f32⟩
  | .hbm, ⟨17, _⟩ => ⟨S_, .f32⟩
  | .hbm, ⟨18, _⟩ => ⟨S8192x384, .f32⟩
  | .hbm, ⟨19, _⟩ => ⟨S8192x384, .f32⟩
  | .hbm, ⟨20, _⟩ => ⟨S8192x384, .f32⟩
  | .hbm, ⟨21, _⟩ => ⟨S8192x384, .f32⟩
  | .hbm, ⟨22, _⟩ => ⟨S8192x384, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S1024x1024, .f32⟩
  | .hbm, ⟨27, _⟩ => ⟨S8192x1024, .f32⟩
  | .hbm, ⟨28, _⟩ => ⟨S8192x384, .f32⟩
  | .hbm, ⟨29, _⟩ => ⟨S8192x384, .f32⟩
  | .hbm, ⟨30, _⟩ => ⟨S8192x256, .f32⟩
  | .hbm, ⟨31, _⟩ => ⟨S8192x384, .f32⟩
  | .hbm, ⟨32, _⟩ => ⟨S8192x384, .f32⟩
  | .hbm, ⟨33, _⟩ => ⟨S8192x384, .f32⟩
  | .hbm, ⟨34, _⟩ => ⟨S8192x384, .f32⟩
  | .hbm, ⟨35, _⟩ => ⟨S8192x384, .f32⟩
  | .hbm, ⟨36, _⟩ => ⟨S8192x384, .f32⟩
  | .hbm, ⟨37, _⟩ => ⟨S8192x384, .f32⟩
  | .hbm, ⟨38, _⟩ => ⟨S16x512x3x2x64, .f32⟩
  | .hbm, ⟨39, _⟩ => ⟨S_, .f32⟩
  | .hbm, ⟨40, _⟩ => ⟨S16x512x3x2, .f32⟩
  | .hbm, ⟨41, _⟩ => ⟨S3x16x2x512, .f32⟩
  | .hbm, ⟨42, _⟩ => ⟨S_, .i32⟩
  | .hbm, ⟨43, _⟩ => ⟨S_, .f32⟩
  | .hbm, ⟨44, _⟩ => ⟨S3x16x8x512, .f32⟩
  | .hbm, ⟨45, _⟩ => ⟨S8192x384, .bf16⟩
  | .hbm, ⟨46, _⟩ => ⟨S8192x384, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v3_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v3_1 : Ref sig .tc := ⟨.hbm, 20, rfl⟩
abbrev main_v3_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== InProjBwd.lean ====
abbrev S8192x1024 : Shape := ⟨2, ![8192, 1024]⟩
abbrev S4x1024 : Shape := ⟨2, ![4, 1024]⟩
abbrev S4x1024x2336 : Shape := ⟨3, ![4, 1024, 2336]⟩
abbrev S8192x384 : Shape := ⟨2, ![8192, 384]⟩
abbrev S8192x256 : Shape := ⟨2, ![8192, 256]⟩
abbrev S8192x32 : Shape := ⟨2, ![8192, 32]⟩
abbrev S4x1024x584 : Shape := ⟨3, ![4, 1024, 584]⟩
abbrev S4x1024x568 : Shape := ⟨3, ![4, 1024, 568]⟩
abbrev S4x1024x312 : Shape := ⟨3, ![4, 1024, 312]⟩
abbrev S4x1024x72 : Shape := ⟨3, ![4, 1024, 72]⟩
abbrev S4x1024x16 : Shape := ⟨3, ![4, 1024, 16]⟩
abbrev S4x1024x240 : Shape := ⟨3, ![4, 1024, 240]⟩
abbrev S4x1024x512 : Shape := ⟨3, ![4, 1024, 512]⟩
abbrev S_ : Shape := ⟨0, ![]⟩
abbrev S4x1024x64 : Shape := ⟨3, ![4, 1024, 64]⟩
abbrev S4x1024x32 : Shape := ⟨3, ![4, 1024, 32]⟩
abbrev S4x1024x2432 : Shape := ⟨3, ![4, 1024, 2432]⟩
abbrev S8192x128 : Shape := ⟨2, ![8192, 128]⟩
abbrev S4x1x1024 : Shape := ⟨3, ![4, 1, 1024]⟩
abbrev S1x1024 : Shape := ⟨2, ![1, 1024]⟩
abbrev S512x384 : Shape := ⟨2, ![512, 384]⟩
abbrev S512x256 : Shape := ⟨2, ![512, 256]⟩
abbrev S512x128 : Shape := ⟨2, ![512, 128]⟩
abbrev S1x1024x2432 : Shape := ⟨3, ![1, 1024, 2432]⟩
abbrev S512x1024 : Shape := ⟨2, ![512, 1024]⟩
abbrev S1x1x1024 : Shape := ⟨3, ![1, 1, 1024]⟩
abbrev S512x2432 : Shape := ⟨2, ![512, 2432]⟩
abbrev S1024x2432 : Shape := ⟨2, ![1024, 2432]⟩
abbrev S512 : Shape := ⟨1, ![512]⟩
abbrev S512x1 : Shape := ⟨2, ![512, 1]⟩
abbrev S1024 : Shape := ⟨1, ![1024]⟩

abbrev nBuf : Space → Nat
  | .hbm => 43
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2336, .f32⟩
  | .hbm, ⟨3, _⟩ => ⟨S8192x384, .f32⟩
  | .hbm, ⟨4, _⟩ => ⟨S8192x384, .f32⟩
  | .hbm, ⟨5, _⟩ => ⟨S8192x384, .f32⟩
  | .hbm, ⟨6, _⟩ => ⟨S8192x256, .f32⟩
  | .hbm, ⟨7, _⟩ => ⟨S8192x32, .f32⟩
  | .hbm, ⟨8, _⟩ => ⟨S8192x384, .f32⟩
  | .hbm, ⟨9, _⟩ => ⟨S8192x256, .f32⟩
  | .hbm, ⟨10, _⟩ => ⟨S8192x256, .f32⟩
  | .hbm, ⟨11, _⟩ => ⟨S8192x1024, .f32⟩
  | .hbm, ⟨12, _⟩ => ⟨S4x1024x584, .f32⟩
  | .hbm, ⟨13, _⟩ => ⟨S4x1024x584, .f32⟩
  | .hbm, ⟨14, _⟩ => ⟨S4x1024x584, .f32⟩
  | .hbm, ⟨15, _⟩ => ⟨S4x1024x584, .f32⟩
  | .hbm, ⟨16, _⟩ => ⟨S4x1024x568, .f32⟩
  | .hbm, ⟨17, _⟩ => ⟨S4x1024x312, .f32⟩
  | .hbm, ⟨18, _⟩ => ⟨S4x1024x72, .f32⟩
  | .hbm, ⟨19, _⟩ => ⟨S4x1024x16, .f32⟩
  | .hbm, ⟨20, _⟩ => ⟨S4x1024x240, .f32⟩
  | .hbm, ⟨21, _⟩ => ⟨S4x1024x512, .f32⟩
  | .hbm, ⟨22, _⟩ => ⟨S_, .f32⟩
  | .hbm, ⟨23, _⟩ => ⟨S4x1024x64, .f32⟩
  | .hbm, ⟨24, _⟩ => ⟨S4x1024x32, .f32⟩
  | .hbm, ⟨25, _⟩ => ⟨S_, .f32⟩
  | .hbm, ⟨26, _⟩ => ⟨S4x1024x32, .f32⟩
  | .hbm, ⟨27, _⟩ => ⟨S4x1024x2432, .f32⟩
  | .hbm, ⟨28, _⟩ => ⟨S4x1024x2432, .bf16⟩
  | .hbm, ⟨29, _⟩ => ⟨S_, .i32⟩
  | .hbm, ⟨30, _⟩ => ⟨S_, .f32⟩
  | .hbm, ⟨31, _⟩ => ⟨S8192x128, .f32⟩
  | .hbm, ⟨32, _⟩ => ⟨S8192x384, .bf16⟩
  | .hbm, ⟨33, _⟩ => ⟨S8192x384, .bf16⟩
  | .hbm, ⟨34, _⟩ => ⟨S8192x384, .bf16⟩
  | .hbm, ⟨35, _⟩ => ⟨S8192x384, .bf16⟩
  | .hbm, ⟨36, _⟩ => ⟨S8192x256, .bf16⟩
  | .hbm, ⟨37, _⟩ => ⟨S8192x256, .bf16⟩
  | .hbm, ⟨38, _⟩ => ⟨S8192x256, .bf16⟩
  | .hbm, ⟨39, _⟩ => ⟨S8192x128, .bf16⟩
  | .hbm, ⟨40, _⟩ => ⟨S4x1x1024, .f32⟩
  | .hbm, ⟨41, _⟩ => ⟨S8192x1024, .f32⟩
  | .hbm, ⟨42, _⟩ => ⟨S1x1024, .f32⟩
  | .local _ .vmem, ⟨0, _⟩ => ⟨S512x384, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S512x384, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x128, .bf16⟩
  | .local _ .vmem, ⟨15, _⟩ => ⟨S512x128, .bf16⟩
  | .local _ .vmem, ⟨16, _⟩ => ⟨S1x1024x2432, .bf16⟩
  | .local _ .vmem, ⟨17, _⟩ => ⟨S512x1024, .f32⟩
  | .local _ .vmem, ⟨18, _⟩ => ⟨S512x1024, .f32⟩
  | .local _ .vmem, ⟨19, _⟩ => ⟨S1x1x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x2432 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InProjBwdRefIdeal.lean ====
abbrev S8192x1024 : Shape := ⟨2, ![8192, 1024]⟩
abbrev S4x1024 : Shape := ⟨2, ![4, 1024]⟩
abbrev S4x1024x2336 : Shape := ⟨3, ![4, 1024, 2336]⟩
abbrev S8192x384 : Shape := ⟨2, ![8192, 384]⟩
abbrev S8192x256 : Shape := ⟨2, ![8192, 256]⟩
abbrev S8192x32 : Shape := ⟨2, ![8192, 32]⟩
abbrev S8192x2336 : Shape := ⟨2, ![8192, 2336]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2336 : Shape := ⟨3, ![1, 1024, 2336]⟩
abbrev S1024x2336 : Shape := ⟨2, ![1024, 2336]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2336, .f32⟩
  | .hbm, ⟨3, _⟩ => ⟨S8192x384, .f32⟩
  | .hbm, ⟨4, _⟩ => ⟨S8192x384, .f32⟩
  | .hbm, ⟨5, _⟩ => ⟨S8192x384, .f32⟩
  | .hbm, ⟨6, _⟩ => ⟨S8192x256, .f32⟩
  | .hbm, ⟨7, _⟩ => ⟨S8192x32, .f32⟩
  | .hbm, ⟨8, _⟩ => ⟨S8192x384, .f32⟩
  | .hbm, ⟨9, _⟩ => ⟨S8192x256, .f32⟩
  | .hbm, ⟨10, _⟩ => ⟨S8192x256, .f32⟩
  | .hbm, ⟨11, _⟩ => ⟨S8192x1024, .f32⟩
  | .hbm, ⟨12, _⟩ => ⟨S8192x2336, .f32⟩
  | .hbm, ⟨13, _⟩ => ⟨S1x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024x2336, .f32⟩
  | .hbm, ⟨36, _⟩ => ⟨S1024x2336, .f32⟩
  | .hbm, ⟨37, _⟩ => ⟨S8192x2336, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]
-- ==== FlashBwd.lean ====
abbrev S8192x6x96 : Shape := ⟨3, ![8192, 6, 96]⟩
abbrev S8192x6x64 : Shape := ⟨3, ![8192, 6, 64]⟩
abbrev S8192x384 : Shape := ⟨2, ![8192, 384]⟩
abbrev S_ : Shape := ⟨0, ![]⟩
abbrev S6x8192x8192 : Shape := ⟨3, ![6, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192 : Shape := ⟨2, ![6, 8192]⟩
abbrev S6x8192x1 : Shape := ⟨3, ![6, 8192, 1]⟩
abbrev S6x64x8192 : Shape := ⟨3, ![6, 64, 8192]⟩
abbrev S8192x6 : Shape := ⟨2, ![8192, 6]⟩
abbrev S8192x6x128 : Shape := ⟨3, ![8192, 6, 128]⟩
abbrev S8192x768 : Shape := ⟨2, ![8192, 768]⟩
abbrev S3x2x16x512 : Shape := ⟨4, ![3, 2, 16, 512]⟩
abbrev S3x16x2x512 : Shape := ⟨4, ![3, 16, 2, 512]⟩
abbrev S3x16x8x512 : Shape := ⟨4, ![3, 16, 8, 512]⟩
abbrev S8192x256 : Shape := ⟨2, ![8192, 256]⟩
abbrev S8192x128 : Shape := ⟨2, ![8192, 128]⟩
abbrev S1x16x8x512 : Shape := ⟨4, ![1, 16, 8, 512]⟩
abbrev S512x256 : Shape := ⟨2, ![512, 256]⟩
abbrev S512x128 : Shape := ⟨2, ![512, 128]⟩
abbrev S1x1x1x512 : Shape := ⟨4, ![1, 1, 1, 512]⟩
abbrev S1x512 : Shape := ⟨2, ![1, 512]⟩
abbrev S512x512 : Shape := ⟨2, ![512, 512]⟩

abbrev nBuf : Space → Nat
  | .hbm => 103
  | .vmem => 18
  | .smem => 0
  | _ => 0

abbrev bufTy : (tb : Table) → Fin (tcTables nBuf tb) → BufTy
  | .hbm, ⟨0, _⟩ => ⟨S8192x6x96, .f32⟩
  | .hbm, ⟨1, _⟩ => ⟨S8192x6x96, .f32⟩
  | .hbm, ⟨2, _⟩ => ⟨S8192x6x64, .f32⟩
  | .hbm, ⟨3, _⟩ => ⟨S8192x384, .f32⟩
  | .hbm, ⟨4, _⟩ => ⟨S_, .f32⟩
  | .hbm, ⟨5, _⟩ => ⟨S_, .f32⟩
  | .hbm, ⟨6, _⟩ => ⟨S6x8192x8192, .f32⟩
  | .hbm, ⟨7, _⟩ => ⟨S_, .f32⟩
  | .hbm, ⟨8, _⟩ => ⟨S6x8192x8192, .f32⟩
  | .hbm, ⟨9, _⟩ => ⟨S6x8192x8192, .f32⟩
  | .hbm, ⟨10, _⟩ => ⟨S8192, .i32⟩
  | .hbm, ⟨11, _⟩ => ⟨S1x8192, .i32⟩
  | .hbm, ⟨12, _⟩ => ⟨S8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S6x8192x8192, .i1⟩
  | .hbm, ⟨20, _⟩ => ⟨S6x8192x8192, .f32⟩
  | .hbm, ⟨21, _⟩ => ⟨S6x8192x8192, .f32⟩
  | .hbm, ⟨22, _⟩ => ⟨S_, .f32⟩
  | .hbm, ⟨23, _⟩ => ⟨S6x8192, .f32⟩
  | .hbm, ⟨24, _⟩ => ⟨S6x8192x1, .f32⟩
  | .hbm, ⟨25, _⟩ => ⟨S6x8192x8192, .f32⟩
  | .hbm, ⟨26, _⟩ => ⟨S6x8192x8192, .f32⟩
  | .hbm, ⟨27, _⟩ => ⟨S6x8192x8192, .f32⟩
  | .hbm, ⟨28, _⟩ => ⟨S_, .f32⟩
  | .hbm, ⟨29, _⟩ => ⟨S6x8192, .f32⟩
  | .hbm, ⟨30, _⟩ => ⟨S6x8192, .f32⟩
  | .hbm, ⟨31, _⟩ => ⟨S6x8192, .f32⟩
  | .hbm, ⟨32, _⟩ => ⟨S6x8192, .f32⟩
  | .hbm, ⟨33, _⟩ => ⟨S6x8192, .f32⟩
  | .hbm, ⟨34, _⟩ => ⟨S6x8192x8192, .f32⟩
  | .hbm, ⟨35, _⟩ => ⟨S_, .f32⟩
  | .hbm, ⟨36, _⟩ => ⟨S6x8192x8192, .f32⟩
  | .hbm, ⟨37, _⟩ => ⟨S6x8192x8192, .f32⟩
  | .hbm, ⟨38, _⟩ => ⟨S8192, .i32⟩
  | .hbm, ⟨39, _⟩ => ⟨S1x8192, .i32⟩
  | .hbm, ⟨40, _⟩ => ⟨S8192, .i32⟩
  | .hbm, ⟨41, _⟩ => ⟨S8192x1, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S_, .f32⟩
  | .hbm, ⟨46, _⟩ => ⟨S_, .f32⟩
  | .hbm, ⟨47, _⟩ => ⟨S6x8192x8192, .i1⟩
  | .hbm, ⟨48, _⟩ => ⟨S6x8192x8192, .f32⟩
  | .hbm, ⟨49, _⟩ => ⟨S6x8192x8192, .f32⟩
  | .hbm, ⟨50, _⟩ => ⟨S_, .f32⟩
  | .hbm, ⟨51, _⟩ => ⟨S6x8192, .f32⟩
  | .hbm, ⟨52, _⟩ => ⟨S_, .f32⟩
  | .hbm, ⟨53, _⟩ => ⟨S6x8192, .f32⟩
  | .hbm, ⟨54, _⟩ => ⟨S6x8192, .f32⟩
  | .hbm, ⟨55, _⟩ => ⟨S6x8192x1, .f32⟩
  | .hbm, ⟨56, _⟩ => ⟨S6x8192x8192, .f32⟩
  | .hbm, ⟨57, _⟩ => ⟨S6x8192x8192, .f32⟩
  | .hbm, ⟨58, _⟩ => ⟨S6x8192x8192, .f32⟩
  | .hbm, ⟨59, _⟩ => ⟨S_, .f32⟩
  | .hbm, ⟨60, _⟩ => ⟨S6x8192, .f32⟩
  | .hbm, ⟨61, _⟩ => ⟨S6x8192x1, .f32⟩
  | .hbm, ⟨62, _⟩ => ⟨S6x8192x8192, .f32⟩
  | .hbm, ⟨63, _⟩ => ⟨S6x8192x8192, .f32⟩
  | .hbm, ⟨64, _⟩ => ⟨S6x64x8192, .f32⟩
  | .hbm, ⟨65, _⟩ => ⟨S8192x6x64, .f32⟩
  | .hbm, ⟨66, _⟩ => ⟨S8192x384, .f32⟩
  | .hbm, ⟨67, _⟩ => ⟨S8192x384, .f32⟩
  | .hbm, ⟨68, _⟩ => ⟨S8192x6x64, .f32⟩
  | .hbm, ⟨69, _⟩ => ⟨S_, .f32⟩
  | .hbm, ⟨70, _⟩ => ⟨S8192x6, .f32⟩
  | .hbm, ⟨71, _⟩ => ⟨S6x8192, .f32⟩
  | .hbm, ⟨72, _⟩ => ⟨S_, .f32⟩
  | .hbm, ⟨73, _⟩ => ⟨S8192x6x96, .f32⟩
  | .hbm, ⟨74, _⟩ => ⟨S8192x6x96, .f32⟩
  | .hbm, ⟨75, _⟩ => ⟨S8192x6x96, .f32⟩
  | .hbm, ⟨76, _⟩ => ⟨S8192x6x96, .f32⟩
  | .hbm, ⟨77, _⟩ => ⟨S_, .i32⟩
  | .hbm, ⟨78, _⟩ => ⟨S_, .f32⟩
  | .hbm, ⟨79, _⟩ => ⟨S8192x6x128, .f32⟩
  | .hbm, ⟨80, _⟩ => ⟨S8192x768, .f32⟩
  | .hbm, ⟨81, _⟩ => ⟨S8192x768, .bf16⟩
  | .hbm, ⟨82, _⟩ => ⟨S_, .i32⟩
  | .hbm, ⟨83, _⟩ => ⟨S_, .f32⟩
  | .hbm, ⟨84, _⟩ => ⟨S8192x6x128, .f32⟩
  | .hbm, ⟨85, _⟩ => ⟨S8192x768, .f32⟩
  | .hbm, ⟨86, _⟩ => ⟨S8192x768, .bf16⟩
  | .hbm, ⟨87, _⟩ => ⟨S8192x384, .f32⟩
  | .hbm, ⟨88, _⟩ => ⟨S8192x384, .bf16⟩
  | .hbm, ⟨89, _⟩ => ⟨S8192x384, .bf16⟩
  | .hbm, ⟨90, _⟩ => ⟨S3x2x16x512, .f32⟩
  | .hbm, ⟨91, _⟩ => ⟨S3x16x2x512, .f32⟩
  | .hbm, ⟨92, _⟩ => ⟨S_, .i32⟩
  | .hbm, ⟨93, _⟩ => ⟨S_, .f32⟩
  | .hbm, ⟨94, _⟩ => ⟨S3x16x8x512, .f32⟩
  | .hbm, ⟨95, _⟩ => ⟨S3x2x16x512, .f32⟩
  | .hbm, ⟨96, _⟩ => ⟨S3x16x2x512, .f32⟩
  | .hbm, ⟨97, _⟩ => ⟨S_, .i32⟩
  | .hbm, ⟨98, _⟩ => ⟨S_, .f32⟩
  | .hbm, ⟨99, _⟩ => ⟨S3x16x8x512, .f32⟩
  | .hbm, ⟨100, _⟩ => ⟨S8192x768, .f32⟩
  | .hbm, ⟨101, _⟩ => ⟨S8192x768, .f32⟩
  | .hbm, ⟨102, _⟩ => ⟨S8192x384, .bf16⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S1x16x8x512, .f32⟩
  | .local _ .vmem, ⟨5, _⟩ => ⟨S1x16x8x512, .f32⟩
  | .local _ .vmem, ⟨6, _⟩ => ⟨S1x16x8x512, .f32⟩
  | .local _ .vmem, ⟨7, _⟩ => ⟨S1x16x8x512, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .bf16⟩
  | .local _ .vmem, ⟨17, _⟩ => ⟨S512x128, .bf16⟩
  | _, _ => ⟨S8192x6x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_cst_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c : Ref sig .tc := ⟨.hbm, 77, rfl⟩
abbrev main_call2_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_call3_v0 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_call4_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_call5_v0 : Ref sig .tc := ⟨.hbm, 98, rfl⟩
abbrev main_v69 : Ref sig .tc := ⟨.hbm, 99, rfl⟩
abbrev main_v70_0 : Ref sig .tc := ⟨.hbm, 100, rfl⟩
abbrev main_v70_1 : Ref sig .tc := ⟨.hbm, 101, rfl⟩
abbrev main_v70_2 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_4 : Index := 0#32
  ![v12.toNat, 0]
def k0_off2 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v15 : Index := Scalar.indexCast v11
  let c0_5 : Index := 0#32
  ![v15.toNat, 0]
def k0_off3 (i : grid0.Coords) : Fin 4 → Nat :=
  let c0_9 : Index := 0#32
  let arg1 : BitVec 32 := BitVec.ofNat 32 (i 1).val
  let v28 : Index := Scalar.indexCast arg1
  let c0_10 : Index := 0#32
  let c0_11 : Index := 0#32
  ![0, v28.toNat, 0, 0]
def k0_off4 (i : grid0.Coords) : Fin 4 → Nat :=
  let c0_21 : Index := 0#32
  let arg1 : BitVec 32 := BitVec.ofNat 32 (i 1).val
  let v53 : Index := Scalar.indexCast arg1
  let c1 : Index := 1#32
  let c0_22 : Index := 0#32
  ![0, v53.toNat, 1, 0]
def k0_off5 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v77 : Index := Scalar.indexCast v11
  let c0_32 : Index := 0#32
  ![v77.toNat, 0]
def k0_off6 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v83 : Index := Scalar.indexCast v11
  let c128 : Index := 128#32
  ![v83.toNat, 128]
@[reducible] def k0_t1_loop (i : grid0.Coords) : Scf.Loop 32 :=
  let c0_i32_41 : BitVec 32 := 0#32
  let c16_i32 : BitVec 32 := 16#32
  let arg1 : BitVec 32 := BitVec.ofNat 32 (i 1).val
  let c1_i32 : BitVec 32 := 1#32
  let v93 : BitVec 32 := Scalar.addi arg1 c1_i32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_43 : BitVec 32 := 1#32
  ⟨c0_i32_41, v116, c1_i32_43⟩
def k0_mult2 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let c0_i32_59 : BitVec 32 := 0#32
  let v138 : BitVec 32 := Scalar.addi v137 c0_i32_59
  let c512_i32_60 : BitVec 32 := 512#32
  let v139 : BitVec 32 := Scalar.muli v138 c512_i32_60
  v139
def k0_off7 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v141 : Index := Scalar.indexCast v140
  let c0_61 : Index := 0#32
  ![v141.toNat, 0]
def k0_off8 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v144 : Index := Scalar.indexCast v140
  let c0_62 : Index := 0#32
  ![v144.toNat, 0]
def k0_off9 (i : grid0.Coords) (k0_t1 : Fin (k0_t1_loop i).trips) (c0_i32_59 : BitVec 32) : Fin 4 → Nat :=
  let c0_67 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let v157 : Index := Scalar.indexCast v138
  let c0_68 : Index := 0#32
  let c0_69 : Index := 0#32
  ![0, v157.toNat, 0, 0]
def k0_off10 (i : grid0.Coords) (k0_t1 : Fin (k0_t1_loop i).trips) (c0_i32_59 : BitVec 32) : Fin 4 → Nat :=
  let c0_78 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let v177 : Index := Scalar.indexCast v138
  let c1_79 : Index := 1#32
  let c0_80 : Index := 0#32
  ![0, v177.toNat, 1, 0]
def k0_off11 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v196 : Index := Scalar.indexCast v140
  let c0_89 : Index := 0#32
  ![v196.toNat, 0]
def k0_off12 (i : grid0.Coords) (k0_t1 : Fin (k0_t1_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c1_i32_43 : BitVec 32 := 1#32
  let arg11 : BitVec 32 := Scf.iv c0_i32_41 c1_i32_43 k0_t1
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v202 : Index := Scalar.indexCast v140
  let c128_91 : Index := 128#32
  ![v202.toNat, 128]
def k0_mult3 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_93 : BitVec 32 := 4#32
  let c0_i32_41 : BitVec 32 := 0#32
  let c1_i32_43 : BitVec 32 := 1#32
  let arg11 : BitVec 32 := Scf.iv c0_i32_41 c1_i32_43 k0_t1
  let v212 : BitVec 32 := Scalar.muli c4_i32_93 arg11
  let v213 : BitVec 32 := Scalar.addi v93 v212
  let c1_i32_94 : BitVec 32 := 1#32
  let v214 : BitVec 32 := Scalar.addi v213 c1_i32_94
  let c512_i32_95 : BitVec 32 := 512#32
  let v215 : BitVec 32 := Scalar.muli v214 c512_i32_95
  v215
def k0_mult4 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_128 : BitVec 32 := 4#32
  let c0_i32_41 : BitVec 32 := 0#32
  let c1_i32_43 : BitVec 32 := 1#32
  let arg11 : BitVec 32 := Scf.iv c0_i32_41 c1_i32_43 k0_t1
  let v288 : BitVec 32 := Scalar.muli c4_i32_128 arg11
  let v289 : BitVec 32 := Scalar.addi v93 v288
  let c2_i32 : BitVec 32 := 2#32
  let v290 : BitVec 32 := Scalar.addi v289 c2_i32
  let c512_i32_129 : BitVec 32 := 512#32
  let v291 : BitVec 32 := Scalar.muli v290 c512_i32_129
  v291
def k0_mult5 (i : grid0.Coords) (k0_t1 : Fin (k0_t1_loop i).trips) : BitVec 32 :=
  let arg1 : BitVec 32 := BitVec.ofNat 32 (i 1).val
  let c1_i32 : BitVec 32 := 1#32
  let v93 : BitVec 32 := Scalar.addi arg1 c1_i32
  let c4_i32_162 : BitVec 32 := 4#32
  let c0_i32_41 : BitVec 32 := 0#32
  let c1_i32_43 : BitVec 32 := 1#32
  let arg11 : BitVec 32 := Scf.iv c0_i32_41 c1_i32_43 k0_t1
  let v364 : BitVec 32 := Scalar.muli c4_i32_162 arg11
  let v365 : BitVec 32 := Scalar.addi v93 v364
  let c3_i32 : BitVec 32 := 3#32
  let v366 : BitVec 32 := Scalar.addi v365 c3_i32
  let c512_i32_163 : BitVec 32 := 512#32
  let v367 : BitVec 32 := Scalar.muli v366 c512_i32_163
  v367
@[reducible] def k0_t2_loop (i : grid0.Coords) : Scf.Loop 32 :=
  let c0_i32_41 : BitVec 32 := 0#32
  let c16_i32 : BitVec 32 := 16#32
  let arg1 : BitVec 32 := BitVec.ofNat 32 (i 1).val
  let c1_i32 : BitVec 32 := 1#32
  let v93 : BitVec 32 := Scalar.addi arg1 c1_i32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let v113 : BitVec 32 := Scalar.addi c0_i32_41 v112
  let c1_i32_44 : BitVec 32 := 1#32
  ⟨v116, v113, c1_i32_44⟩
def k0_mult6 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let c0_i32_59 : BitVec 32 := 0#32
  let v138 : BitVec 32 := Scalar.addi v137 c0_i32_59
  let c512_i32_60 : BitVec 32 := 512#32
  let v139 : BitVec 32 := Scalar.muli v138 c512_i32_60
  v139
def k0_off13 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v141 : Index := Scalar.indexCast v140
  let c0_61 : Index := 0#32
  ![v141.toNat, 0]
def k0_off14 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v144 : Index := Scalar.indexCast v140
  let c0_62 : Index := 0#32
  ![v144.toNat, 0]
def k0_off15 (i : grid0.Coords) (k0_t2 : Fin (k0_t2_loop i).trips) (c0_i32_59 : BitVec 32) : Fin 4 → Nat :=
  let c0_67 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let v157 : Index := Scalar.indexCast v138
  let c0_68 : Index := 0#32
  let c0_69 : Index := 0#32
  ![0, v157.toNat, 0, 0]
def k0_off16 (i : grid0.Coords) (k0_t2 : Fin (k0_t2_loop i).trips) (c0_i32_59 : BitVec 32) : Fin 4 → Nat :=
  let c0_78 : Index := 0#32
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let v177 : Index := Scalar.indexCast v138
  let c1_79 : Index := 1#32
  let c0_80 : Index := 0#32
  ![0, v177.toNat, 1, 0]
def k0_off17 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v196 : Index := Scalar.indexCast v140
  let c0_89 : Index := 0#32
  ![v196.toNat, 0]
def k0_off18 (i : grid0.Coords) (k0_t2 : Fin (k0_t2_loop i).trips) (c0_i32_59 : BitVec 32) : Fin 2 → Nat :=
  let arg1 : BitVec 32 := BitVec.ofNat 32 (i 1).val
  let c1_i32 : BitVec 32 := 1#32
  let v93 : BitVec 32 := Scalar.addi arg1 c1_i32
  let c4_i32_58 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v136 : BitVec 32 := Scalar.muli c4_i32_58 arg11
  let v137 : BitVec 32 := Scalar.addi v93 v136
  let v138 : BitVec 32 := Scalar.addi v137 c0_i32_59
  let c512_i32_60 : BitVec 32 := 512#32
  let v139 : BitVec 32 := Scalar.muli v138 c512_i32_60
  let v140 : BitVec 32 := v139
  let v202 : Index := Scalar.indexCast v140
  let c128_91 : Index := 128#32
  ![v202.toNat, 128]
def k0_mult7 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_93 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v212 : BitVec 32 := Scalar.muli c4_i32_93 arg11
  let v213 : BitVec 32 := Scalar.addi v93 v212
  let c1_i32_94 : BitVec 32 := 1#32
  let v214 : BitVec 32 := Scalar.addi v213 c1_i32_94
  let c512_i32_95 : BitVec 32 := 512#32
  let v215 : BitVec 32 := Scalar.muli v214 c512_i32_95
  v215
def k0_mult8 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_128 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v288 : BitVec 32 := Scalar.muli c4_i32_128 arg11
  let v289 : BitVec 32 := Scalar.addi v93 v288
  let c2_i32 : BitVec 32 := 2#32
  let v290 : BitVec 32 := Scalar.addi v289 c2_i32
  let c512_i32_129 : BitVec 32 := 512#32
  let v291 : BitVec 32 := Scalar.muli v290 c512_i32_129
  v291
def k0_mult9 (i : grid0.Coords) (k0_t2 : Fin (k0_t2_loop i).trips) : BitVec 32 :=
  let arg1 : BitVec 32 := BitVec.ofNat 32 (i 1).val
  let c1_i32 : BitVec 32 := 1#32
  let v93 : BitVec 32 := Scalar.addi arg1 c1_i32
  let c4_i32_162 : BitVec 32 := 4#32
  let c0_i32_41 : BitVec 32 := 0#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v112 : BitVec 32 := Scalar.subi v111 c0_i32_41
  let c1_i32_42 : BitVec 32 := 1#32
  let v114 : BitVec 32 := Scalar.divsi v112 c1_i32_42
  let v115 : BitVec 32 := Scalar.muli v114 c1_i32_42
  let v116 : BitVec 32 := Scalar.addi c0_i32_41 v115
  let c1_i32_44 : BitVec 32 := 1#32
  let arg11 : BitVec 32 := Scf.iv v116 c1_i32_44 k0_t2
  let v364 : BitVec 32 := Scalar.muli c4_i32_162 arg11
  let v365 : BitVec 32 := Scalar.addi v93 v364
  let c3_i32 : BitVec 32 := 3#32
  let v366 : BitVec 32 := Scalar.addi v365 c3_i32
  let c512_i32_163 : BitVec 32 := 512#32
  let v367 : BitVec 32 := Scalar.muli v366 c512_i32_163
  v367
@[reducible] def k0_t3_loop (i : grid0.Coords) : Scf.Loop 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_48 : BitVec 32 := 1#32
  ⟨v120, v125, c1_i32_48⟩
def k0_mult10 (i : grid0.Coords) (k0_t3 : Fin (k0_t3_loop i).trips) : BitVec 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  v136
def k0_off19 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v138 : Index := Scalar.indexCast v137
  let c0_59 : Index := 0#32
  ![v138.toNat, 0]
def k0_off20 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v141 : Index := Scalar.indexCast v137
  let c0_60 : Index := 0#32
  ![v141.toNat, 0]
def k0_off21 (i : grid0.Coords) (k0_t3 : Fin (k0_t3_loop i).trips) : Fin 4 → Nat :=
  let c0_65 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let v154 : Index := Scalar.indexCast arg11
  let c0_66 : Index := 0#32
  let c0_67 : Index := 0#32
  ![0, v154.toNat, 0, 0]
def k0_off22 (i : grid0.Coords) (k0_t3 : Fin (k0_t3_loop i).trips) : Fin 4 → Nat :=
  let c0_76 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let v174 : Index := Scalar.indexCast arg11
  let c1_77 : Index := 1#32
  let c0_78 : Index := 0#32
  ![0, v174.toNat, 1, 0]
def k0_off23 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v193 : Index := Scalar.indexCast v137
  let c0_87 : Index := 0#32
  ![v193.toNat, 0]
def k0_off24 (i : grid0.Coords) (k0_t3 : Fin (k0_t3_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c1_i32_48 : BitVec 32 := 1#32
  let arg11 : BitVec 32 := Scf.iv v120 c1_i32_48 k0_t3
  let c512_i32_58 : BitVec 32 := 512#32
  let v136 : BitVec 32 := Scalar.muli arg11 c512_i32_58
  let v137 : BitVec 32 := v136
  let v199 : Index := Scalar.indexCast v137
  let c128_89 : Index := 128#32
  ![v199.toNat, 128]
@[reducible] def k0_t4_loop (i : grid0.Coords) : Scf.Loop 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let v122 : BitVec 32 := Scalar.addi v120 v121
  let c1_i32_49 : BitVec 32 := 1#32
  ⟨v125, v122, c1_i32_49⟩
def k0_mult11 (i : grid0.Coords) (k0_t4 : Fin (k0_t4_loop i).trips) : BitVec 32 :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  v136
def k0_off25 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v138 : Index := Scalar.indexCast v137
  let c0_59 : Index := 0#32
  ![v138.toNat, 0]
def k0_off26 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v141 : Index := Scalar.indexCast v137
  let c0_60 : Index := 0#32
  ![v141.toNat, 0]
def k0_off27 (i : grid0.Coords) (k0_t4 : Fin (k0_t4_loop i).trips) : Fin 4 → Nat :=
  let c0_65 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let v154 : Index := Scalar.indexCast arg11
  let c0_66 : Index := 0#32
  let c0_67 : Index := 0#32
  ![0, v154.toNat, 0, 0]
def k0_off28 (i : grid0.Coords) (k0_t4 : Fin (k0_t4_loop i).trips) : Fin 4 → Nat :=
  let c0_76 : Index := 0#32
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let v174 : Index := Scalar.indexCast arg11
  let c1_77 : Index := 1#32
  let c0_78 : Index := 0#32
  ![0, v174.toNat, 1, 0]
def k0_off29 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v193 : Index := Scalar.indexCast v137
  let c0_87 : Index := 0#32
  ![v193.toNat, 0]
def k0_off30 (i : grid0.Coords) (k0_t4 : Fin (k0_t4_loop i).trips) : Fin 2 → Nat :=
  let arg1 : BitVec 32 := BitVec.ofNat 32 (i 1).val
  let c1_i32 : BitVec 32 := 1#32
  let v93 : BitVec 32 := Scalar.addi arg1 c1_i32
  let c4_i32_45 : BitVec 32 := 4#32
  let c16_i32 : BitVec 32 := 16#32
  let v94 : BitVec 32 := Scalar.subi c16_i32 v93
  let c0_i32_35 : BitVec 32 := 0#32
  let v96 : BitVec 1 := Scalar.cmpi .sgt v94 c0_i32_35
  let v97 : BitVec 32 := Scalar.extui v96
  let c0_i32_36 : BitVec 32 := 0#32
  let v98 : BitVec 1 := Scalar.cmpi .slt v94 c0_i32_36
  let v99 : BitVec 32 := Scalar.extui v98
  let v100 : BitVec 32 := Scalar.subi v97 v99
  let c4_i32 : BitVec 32 := 4#32
  let c0_i32_37 : BitVec 32 := 0#32
  let v101 : BitVec 1 := Scalar.cmpi .sgt c4_i32 c0_i32_37
  let v102 : BitVec 32 := Scalar.extui v101
  let c0_i32_38 : BitVec 32 := 0#32
  let v103 : BitVec 1 := Scalar.cmpi .slt c4_i32 c0_i32_38
  let v104 : BitVec 32 := Scalar.extui v103
  let v105 : BitVec 32 := Scalar.subi v102 v104
  let v106 : BitVec 1 := Scalar.cmpi .ne v100 v105
  let v107 : BitVec 32 := Scalar.remsi v94 c4_i32
  let c0_i32_39 : BitVec 32 := 0#32
  let v108 : BitVec 1 := Scalar.cmpi .ne v107 c0_i32_39
  let v109 : BitVec 1 := Scalar.andi v106 v108
  let v95 : BitVec 32 := Scalar.divsi v94 c4_i32
  let c1_i32_40 : BitVec 32 := 1#32
  let v110 : BitVec 32 := Scalar.subi v95 c1_i32_40
  let v111 : BitVec 32 := Scalar.select v109 v110 v95
  let v119 : BitVec 32 := Scalar.muli c4_i32_45 v111
  let v120 : BitVec 32 := Scalar.addi v93 v119
  let c16_i32_46 : BitVec 32 := 16#32
  let v121 : BitVec 32 := Scalar.subi c16_i32_46 v120
  let c1_i32_47 : BitVec 32 := 1#32
  let v123 : BitVec 32 := Scalar.divsi v121 c1_i32_47
  let v124 : BitVec 32 := Scalar.muli v123 c1_i32_47
  let v125 : BitVec 32 := Scalar.addi v120 v124
  let c1_i32_49 : BitVec 32 := 1#32
  let arg11 : BitVec 32 := Scf.iv v125 c1_i32_49 k0_t4
  let c512_i32_58 : BitVec 32 := 512#32
  let v136 : BitVec 32 := Scalar.muli arg11 c512_i32_58
  let v137 : BitVec 32 := v136
  let v199 : Index := Scalar.indexCast v137
  let c128_89 : Index := 128#32
  ![v199.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashBwdIdeal.lean ====
variable {F : FTy → Type} [FloatOps F] [Named F]
def κ : String → Option EReal := fun
  | "ln_2" => some ((Real.log 2 : ℝ) : EReal)
  | "mask" => some ⊥
  | _ => none
-- ==== FlashBwdRefIdeal.lean ====
abbrev S8192x6x96 : Shape := ⟨3, ![8192, 6, 96]⟩
abbrev S8192x6x64 : Shape := ⟨3, ![8192, 6, 64]⟩
abbrev S8192x384 : Shape := ⟨2, ![8192, 384]⟩
abbrev S6x8192x8192 : Shape := ⟨3, ![6, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S6x8192 : Shape := ⟨2, ![6, 8192]⟩
abbrev S6x8192x1 : Shape := ⟨3, ![6, 8192, 1]⟩
abbrev S6x64x8192 : Shape := ⟨3, ![6, 64, 8192]⟩
abbrev S6x8192x96 : Shape := ⟨3, ![6, 8192, 96]⟩
abbrev S8192x6x128 : Shape := ⟨3, ![8192, 6, 128]⟩
abbrev S8192x768 : Shape := ⟨2, ![8192, 768]⟩

abbrev nBuf : Space → Nat
  | .hbm => 105
  | .vmem => 0
  | .smem => 0
  | _ => 0

abbrev bufTy : (tb : Table) → Fin (tcTables nBuf tb) → BufTy
  | .hbm, ⟨0, _⟩ => ⟨S8192x6x96, .f32⟩
  | .hbm, ⟨1, _⟩ => ⟨S8192x6x96, .f32⟩
  | .hbm, ⟨2, _⟩ => ⟨S8192x6x64, .f32⟩
  | .hbm, ⟨3, _⟩ => ⟨S8192x384, .f32⟩
  | .hbm, ⟨4, _⟩ => ⟨S6x8192x8192, .f32⟩
  | .hbm, ⟨5, _⟩ => ⟨S_, .f32⟩
  | .hbm, ⟨6, _⟩ => ⟨S6x8192x8192, .f32⟩
  | .hbm, ⟨7, _⟩ => ⟨S6x8192x8192, .f32⟩
  | .hbm, ⟨8, _⟩ => ⟨S8192, .i32⟩
  | .hbm, ⟨9, _⟩ => ⟨S1x8192, .i32⟩
  | .hbm, ⟨10, _⟩ => ⟨S8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S6x8192x8192, .i1⟩
  | .hbm, ⟨18, _⟩ => ⟨S6x8192x8192, .f32⟩
  | .hbm, ⟨19, _⟩ => ⟨S6x8192x8192, .f32⟩
  | .hbm, ⟨20, _⟩ => ⟨S_, .f32⟩
  | .hbm, ⟨21, _⟩ => ⟨S6x8192x8192, .f32⟩
  | .hbm, ⟨22, _⟩ => ⟨S_, .f32⟩
  | .hbm, ⟨23, _⟩ => ⟨S6x8192, .f32⟩
  | .hbm, ⟨24, _⟩ => ⟨S6x8192x1, .f32⟩
  | .hbm, ⟨25, _⟩ => ⟨S6x8192x8192, .f32⟩
  | .hbm, ⟨26, _⟩ => ⟨S6x8192x8192, .i1⟩
  | .hbm, ⟨27, _⟩ => ⟨S6x8192x8192, .f32⟩
  | .hbm, ⟨28, _⟩ => ⟨S_, .f32⟩
  | .hbm, ⟨29, _⟩ => ⟨S6x8192, .f32⟩
  | .hbm, ⟨30, _⟩ => ⟨S_, .f32⟩
  | .hbm, ⟨31, _⟩ => ⟨S6x8192, .f32⟩
  | .hbm, ⟨32, _⟩ => ⟨S6x8192, .f32⟩
  | .hbm, ⟨33, _⟩ => ⟨S_, .f32⟩
  | .hbm, ⟨34, _⟩ => ⟨S6x8192, .f32⟩
  | .hbm, ⟨35, _⟩ => ⟨S6x8192, .i1⟩
  | .hbm, ⟨36, _⟩ => ⟨S_, .f32⟩
  | .hbm, ⟨37, _⟩ => ⟨S6x8192, .f32⟩
  | .hbm, ⟨38, _⟩ => ⟨S6x8192, .i1⟩
  | .hbm, ⟨39, _⟩ => ⟨S_, .f32⟩
  | .hbm, ⟨40, _⟩ => ⟨S6x8192, .f32⟩
  | .hbm, ⟨41, _⟩ => ⟨S_, .f32⟩
  | .hbm, ⟨42, _⟩ => ⟨S6x8192, .f32⟩
  | .hbm, ⟨43, _⟩ => ⟨S_, .f32⟩
  | .hbm, ⟨44, _⟩ => ⟨S6x8192, .f32⟩
  | .hbm, ⟨45, _⟩ => ⟨S6x8192, .f32⟩
  | .hbm, ⟨46, _⟩ => ⟨S6x8192, .f32⟩
  | .hbm, ⟨47, _⟩ => ⟨S6x8192x1, .f32⟩
  | .hbm, ⟨48, _⟩ => ⟨S6x8192x8192, .f32⟩
  | .hbm, ⟨49, _⟩ => ⟨S6x8192x8192, .f32⟩
  | .hbm, ⟨50, _⟩ => ⟨S6x8192x8192, .f32⟩
  | .hbm, ⟨51, _⟩ => ⟨S_, .f32⟩
  | .hbm, ⟨52, _⟩ => ⟨S6x8192, .f32⟩
  | .hbm, ⟨53, _⟩ => ⟨S6x8192x1, .f32⟩
  | .hbm, ⟨54, _⟩ => ⟨S6x8192x8192, .f32⟩
  | .hbm, ⟨55, _⟩ => ⟨S6x8192x8192, .f32⟩
  | .hbm, ⟨56, _⟩ => ⟨S6x8192x1, .f32⟩
  | .hbm, ⟨57, _⟩ => ⟨S_, .f32⟩
  | .hbm, ⟨58, _⟩ => ⟨S6x8192x1, .f32⟩
  | .hbm, ⟨59, _⟩ => ⟨S6x8192x1, .f32⟩
  | .hbm, ⟨60, _⟩ => ⟨S6x64x8192, .f32⟩
  | .hbm, ⟨61, _⟩ => ⟨S8192x6x64, .f32⟩
  | .hbm, ⟨62, _⟩ => ⟨S8192x384, .f32⟩
  | .hbm, ⟨63, _⟩ => ⟨S8192x6x64, .f32⟩
  | .hbm, ⟨64, _⟩ => ⟨S6x64x8192, .f32⟩
  | .hbm, ⟨65, _⟩ => ⟨S6x8192x8192, .f32⟩
  | .hbm, ⟨66, _⟩ => ⟨S6x64x8192, .f32⟩
  | .hbm, ⟨67, _⟩ => ⟨S8192x6x64, .f32⟩
  | .hbm, ⟨68, _⟩ => ⟨S6x8192x8192, .f32⟩
  | .hbm, ⟨69, _⟩ => ⟨S6x8192x8192, .f32⟩
  | .hbm, ⟨70, _⟩ => ⟨S6x8192x8192, .f32⟩
  | .hbm, ⟨71, _⟩ => ⟨S_, .f32⟩
  | .hbm, ⟨72, _⟩ => ⟨S6x8192, .f32⟩
  | .hbm, ⟨73, _⟩ => ⟨S6x8192x1, .f32⟩
  | .hbm, ⟨74, _⟩ => ⟨S6x8192x1, .f32⟩
  | .hbm, ⟨75, _⟩ => ⟨S6x8192x8192, .f32⟩
  | .hbm, ⟨76, _⟩ => ⟨S6x8192x8192, .f32⟩
  | .hbm, ⟨77, _⟩ => ⟨S_, .f32⟩
  | .hbm, ⟨78, _⟩ => ⟨S6x8192, .f32⟩
  | .hbm, ⟨79, _⟩ => ⟨S6x8192x8192, .f32⟩
  | .hbm, ⟨80, _⟩ => ⟨S6x8192x8192, .f32⟩
  | .hbm, ⟨81, _⟩ => ⟨S6x8192x8192, .f32⟩
  | .hbm, ⟨82, _⟩ => ⟨S_, .f32⟩
  | .hbm, ⟨83, _⟩ => ⟨S6x8192x8192, .f32⟩
  | .hbm, ⟨84, _⟩ => ⟨S6x8192x8192, .f32⟩
  | .hbm, ⟨85, _⟩ => ⟨S_, .f32⟩
  | .hbm, ⟨86, _⟩ => ⟨S6x8192x8192, .f32⟩
  | .hbm, ⟨87, _⟩ => ⟨S6x8192x8192, .f32⟩
  | .hbm, ⟨88, _⟩ => ⟨S6x8192x96, .f32⟩
  | .hbm, ⟨89, _⟩ => ⟨S8192x6x96, .f32⟩
  | .hbm, ⟨90, _⟩ => ⟨S6x8192x96, .f32⟩
  | .hbm, ⟨91, _⟩ => ⟨S8192x6x96, .f32⟩
  | .hbm, ⟨92, _⟩ => ⟨S_, .f32⟩
  | .hbm, ⟨93, _⟩ => ⟨S8192x6x96, .f32⟩
  | .hbm, ⟨94, _⟩ => ⟨S8192x6x96, .f32⟩
  | .hbm, ⟨95, _⟩ => ⟨S_, .i32⟩
  | .hbm, ⟨96, _⟩ => ⟨S_, .f32⟩
  | .hbm, ⟨97, _⟩ => ⟨S8192x6x128, .f32⟩
  | .hbm, ⟨98, _⟩ => ⟨S8192x768, .f32⟩
  | .hbm, ⟨99, _⟩ => ⟨S_, .i32⟩
  | .hbm, ⟨100, _⟩ => ⟨S_, .f32⟩
  | .hbm, ⟨101, _⟩ => ⟨S8192x6x128, .f32⟩
  | .hbm, ⟨102, _⟩ => ⟨S8192x768, .f32⟩
  | .hbm, ⟨103, _⟩ => ⟨S8192x384, .f32⟩
  | .hbm, ⟨104, _⟩ => ⟨S8192x384, .bf16⟩
  | _, _ => ⟨S8192x6x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_c : Ref sig .tc := ⟨.hbm, 95, rfl⟩
abbrev main_call2_v0 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_call3_v0 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

def κ : String → Option EReal := fun
  | "ln_2" => some ((Real.log 2 : ℝ) : EReal)
  | "mask" => some ⊥
  | _ => none
-- ==== MlaPrepBwd.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S8192x6x96 : Shape := ⟨3, ![8192, 6, 96]⟩
abbrev S8192x384 : Shape := ⟨2, ![8192, 384]⟩
abbrev S8192x584 : Shape := ⟨2, ![8192, 584]⟩
abbrev S8192x568 : Shape := ⟨2, ![8192, 568]⟩
abbrev S8192x312 : Shape := ⟨2, ![8192, 312]⟩
abbrev S8192x72 : Shape := ⟨2, ![8192, 72]⟩
abbrev S8192x16 : Shape := ⟨2, ![8192, 16]⟩
abbrev S8192x240 : Shape := ⟨2, ![8192, 240]⟩
abbrev S8192x512 : Shape := ⟨2, ![8192, 512]⟩
abbrev S_ : Shape := ⟨0, ![]⟩
abbrev S8192x64 : Shape := ⟨2, ![8192, 64]⟩
abbrev S8192x32 : Shape := ⟨2, ![8192, 32]⟩
abbrev S8192x2432 : Shape := ⟨2, ![8192, 2432]⟩
abbrev S1x384 : Shape := ⟨2, ![1, 384]⟩
abbrev S384 : Shape := ⟨1, ![384]⟩
abbrev S8192 : Shape := ⟨1, ![8192]⟩
abbrev S8192x1 : Shape := ⟨2, ![8192, 1]⟩
abbrev S8192x256 : Shape := ⟨2, ![8192, 256]⟩
abbrev S1x256 : Shape := ⟨2, ![1, 256]⟩
abbrev S256 : Shape := ⟨1, ![256]⟩
abbrev S8192x6x128 : Shape := ⟨3, ![8192, 6, 128]⟩
abbrev S8192x768 : Shape := ⟨2, ![8192, 768]⟩
abbrev S4x1x384 : Shape := ⟨3, ![4, 1, 384]⟩
abbrev S4x1x256 : Shape := ⟨3, ![4, 1, 256]⟩
abbrev S4x384x6x96 : Shape := ⟨4, ![4, 384, 6, 96]⟩
abbrev S4x384x6x128 : Shape := ⟨4, ![4, 384, 6, 128]⟩
abbrev S4x384x768 : Shape := ⟨3, ![4, 384, 768]⟩
abbrev S4x256x6x128 : Shape := ⟨4, ![4, 256, 6, 128]⟩
abbrev S4x256x6x64 : Shape := ⟨4, ![4, 256, 6, 64]⟩
abbrev S4x256x384 : Shape := ⟨3, ![4, 256, 384]⟩
abbrev S4x256x1152 : Shape := ⟨3, ![4, 256, 1152]⟩
abbrev S16 : Shape := ⟨1, ![16]⟩
abbrev S1x16 : Shape := ⟨2, ![1, 16]⟩
abbrev S8192x128 : Shape := ⟨2, ![8192, 128]⟩
abbrev S384x768 : Shape := ⟨2, ![384, 768]⟩
abbrev S256x1152 : Shape := ⟨2, ![256, 1152]⟩
abbrev S1024x768 : Shape := ⟨2, ![1024, 768]⟩
abbrev S1024x384 : Shape := ⟨2, ![1024, 384]⟩
abbrev S1024x256 : Shape := ⟨2, ![1024, 256]⟩
abbrev S1x1x384 : Shape := ⟨3, ![1, 1, 384]⟩
abbrev S1x1x256 : Shape := ⟨3, ![1, 1, 256]⟩
abbrev S1x384x768 : Shape := ⟨3, ![1, 384, 768]⟩
abbrev S1x256x1152 : Shape := ⟨3, ![1, 256, 1152]⟩
abbrev S1024x128 : Shape := ⟨2, ![1024, 128]⟩
abbrev S1024x1152 : Shape := ⟨2, ![1024, 1152]⟩
abbrev S1024 : Shape := ⟨1, ![1024]⟩
abbrev S1024x1 : Shape := ⟨2, ![1024, 1]⟩

abbrev nBuf : Space → Nat
  | .hbm => 132
  | .vmem => 36
  | .smem => 0
  | _ => 0

abbrev hbmTy0_0 (i : Nat) : BufTy := match i % 128 with
  | 0 => ⟨S8192x2336, .f32⟩
  | 1 => ⟨S4x384, .f32⟩
  | 2 => ⟨S4x256, .f32⟩
  | 3 => ⟨S4x384x576, .f32⟩
  | 4 => ⟨S4x256x768, .f32⟩
  | 5 => ⟨S8192x6x96, .f32⟩
  | 6 => ⟨S8192x6x96, .f32⟩
  | 7 => ⟨S8192x384, .f32⟩
  | 8 => ⟨S8192x584, .f32⟩
  | 9 => ⟨S8192x584, .f32⟩
  | 10 => ⟨S8192x584, .f32⟩
  | 11 => ⟨S8192x584, .f32⟩
  | 12 => ⟨S8192x568, .f32⟩
  | 13 => ⟨S8192x312, .f32⟩
  | 14 => ⟨S8192x72, .f32⟩
  | 15 => ⟨S8192x16, .f32⟩
  | 16 => ⟨S8192x240, .f32⟩
  | 17 => ⟨S8192x512, .f32⟩
  | 18 => ⟨S_, .f32⟩
  | 19 => ⟨S8192x64, .f32⟩
  | 20 => ⟨S8192x32, .f32⟩
  | 21 => ⟨S_, .f32⟩
  | 22 => ⟨S8192x32, .f32⟩
  | 23 => ⟨S8192x2432, .f32⟩
  | 24 => ⟨S8192x384, .f32⟩
  | 25 => ⟨S1x384, .f32⟩
  | 26 => ⟨S384, .f32⟩
  | 27 => ⟨S8192x384, .f32⟩
  | 28 => ⟨S_, .f32⟩
  | 29 => ⟨S8192, .f32⟩
  | 30 => ⟨S8192x1, .f32⟩
  | 31 => ⟨S_, .f32⟩
  | 32 => ⟨S8192x1, .f32⟩
  | 33 => ⟨S8192x1, .f32⟩
  | 34 => ⟨S_, .f32⟩
  | 35 => ⟨S8192x1, .f32⟩
  | 36 => ⟨S8192x1, .f32⟩
  | 37 => ⟨S8192x1, .f32⟩
  | 38 => ⟨S8192x384, .f32⟩
  | 39 => ⟨S8192x384, .f32⟩
  | 40 => ⟨S1x384, .f32⟩
  | 41 => ⟨S8192x384, .f32⟩
  | 42 => ⟨S8192x384, .f32⟩
  | 43 => ⟨S8192x384, .bf16⟩
  | 44 => ⟨S8192x256, .f32⟩
  | 45 => ⟨S1x256, .f32⟩
  | 46 => ⟨S256, .f32⟩
  | 47 => ⟨S8192x256, .f32⟩
  | 48 => ⟨S_, .f32⟩
  | 49 => ⟨S8192, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192x1, .f32⟩
  | 56 => ⟨S8192x1, .f32⟩
  | 57 => ⟨S8192x1, .f32⟩
  | 58 => ⟨S8192x256, .f32⟩
  | 59 => ⟨S8192x256, .f32⟩
  | 60 => ⟨S1x256, .f32⟩
  | 61 => ⟨S8192x256, .f32⟩
  | 62 => ⟨S8192x256, .f32⟩
  | 63 => ⟨S8192x256, .bf16⟩
  | 64 => ⟨S_, .i32⟩
  | 65 => ⟨S_, .f32⟩
  | 66 => ⟨S8192x6x128, .f32⟩
  | 67 => ⟨S8192x768, .f32⟩
  | 68 => ⟨S_, .i32⟩
  | 69 => ⟨S_, .f32⟩
  | 70 => ⟨S8192x6x128, .f32⟩
  | 71 => ⟨S8192x768, .f32⟩
  | 72 => ⟨S8192x384, .bf16⟩
  | 73 => ⟨S4x1x384, .f32⟩
  | 74 => ⟨S4x1x256, .f32⟩
  | 75 => ⟨S4x384x6x96, .f32⟩
  | 76 => ⟨S_, .i32⟩
  | 77 => ⟨S_, .f32⟩
  | 78 => ⟨S4x384x6x128, .f32⟩
  | 79 => ⟨S4x384x768, .f32⟩
  | 80 => ⟨S4x384x768, .bf16⟩
  | 81 => ⟨S4x256x6x128, .f32⟩
  | 82 => ⟨S4x256x6x64, .f32⟩
  | 83 => ⟨S_, .i32⟩
  | 84 => ⟨S_, .f32⟩
  | 85 => ⟨S4x256x6x128, .f32⟩
  | 86 => ⟨S4x256x768, .f32⟩
  | 87 => ⟨S4x256x6x64, .f32⟩
  | 88 => ⟨S4x256x384, .f32⟩
  | 89 => ⟨S4x256x1152, .f32⟩
  | 90 => ⟨S4x256x1152, .bf16⟩
  | 91 => ⟨S8192, .f32⟩
  | 92 => ⟨S16, .f32⟩
  | 93 => ⟨S_, .f32⟩
  | 94 => ⟨S16, .f32⟩
  | 95 => ⟨S16, .f32⟩
  | 96 => ⟨S_, .f32⟩
  | 97 => ⟨S16, .f32⟩
  | 98 => ⟨S16, .f32⟩
  | 99 => ⟨S16, .f32⟩
  | 100 => ⟨S_, .f32⟩
  | 101 => ⟨S16, .f32⟩
  | 102 => ⟨S16, .f32⟩
  | 103 => ⟨S_, .f32⟩
  | 104 => ⟨S16, .f32⟩
  | 105 => ⟨S16, .f32⟩
  | 106 => ⟨S8192x1, .f32⟩
  | 107 => ⟨S1x16, .f32⟩
  | 108 => ⟨S8192x16, .f32⟩
  | 109 => ⟨S8192x16, .f32⟩
  | 110 => ⟨S8192x16, .f32⟩
  | 111 => ⟨S8192x16, .f32⟩
  | 112 => ⟨S8192x16, .f32⟩
  | 113 => ⟨S_, .f32⟩
  | 114 => ⟨S8192x64, .f32⟩
  | 115 => ⟨S_, .f32⟩
  | 116 => ⟨S8192x64, .f32⟩
  | 117 => ⟨S_, .f32⟩
  | 118 => ⟨S8192x16, .f32⟩
  | 119 => ⟨S_, .f32⟩
  | 120 => ⟨S8192x32, .f32⟩
  | 121 => ⟨S8192x128, .f32⟩
  | 122 => ⟨S8192x16, .f32⟩
  | 123 => ⟨S8192x128, .f32⟩
  | 124 => ⟨S8192x128, .f32⟩
  | 125 => ⟨S8192x384, .bf16⟩
  | 126 => ⟨S8192x256, .bf16⟩
  | 127 => ⟨S8192x128, .bf16⟩
  | _ => ⟨S8192x2336, .f32⟩

abbrev hbmTy0_1 (i : Nat) : BufTy := match i % 128 with
  | 0 => ⟨S384x768, .f32⟩
  | 1 => ⟨S256x1152, .f32⟩
  | 2 => ⟨S1x384, .f32⟩
  | 3 => ⟨S1x256, .f32⟩
  | _ => ⟨S8192x2336, .f32⟩

abbrev hbmTy (i : Nat) : BufTy := match i / 128 with
  | 0 => hbmTy0_0 i
  | 1 => hbmTy0_1 i
  | _ => ⟨S8192x2336, .f32⟩

abbrev bufTy : (tb : Table) → Fin (tcTables nBuf tb) → BufTy
  | .hbm, ⟨i, _⟩ => hbmTy i
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x384, .bf16⟩
  | .local _ .vmem, ⟨5, _⟩ => ⟨S1024x384, .bf16⟩
  | .local _ .vmem, ⟨6, _⟩ => ⟨S1024x384, .f32⟩
  | .local _ .vmem, ⟨7, _⟩ => ⟨S1024x384, .f32⟩
  | .local _ .vmem, ⟨8, _⟩ => ⟨S1024x256, .f32⟩
  | .local _ .vmem, ⟨9, _⟩ => ⟨S1024x256, .f32⟩
  | .local _ .vmem, ⟨10, _⟩ => ⟨S1024x384, .bf16⟩
  | .local _ .vmem, ⟨11, _⟩ => ⟨S1024x384, .bf16⟩
  | .local _ .vmem, ⟨12, _⟩ => ⟨S1024x256, .bf16⟩
  | .local _ .vmem, ⟨13, _⟩ => ⟨S1024x256, .bf16⟩
  | .local _ .vmem, ⟨14, _⟩ => ⟨S1x1x384, .f32⟩
  | .local _ .vmem, ⟨15, _⟩ => ⟨S1x1x256, .f32⟩
  | .local _ .vmem, ⟨16, _⟩ => ⟨S1x384x768, .bf16⟩
  | .local _ .vmem, ⟨17, _⟩ => ⟨S1x256x1152, .bf16⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x384, .bf16⟩
  | .local _ .vmem, ⟨25, _⟩ => ⟨S1024x384, .bf16⟩
  | .local _ .vmem, ⟨26, _⟩ => ⟨S1024x256, .bf16⟩
  | .local _ .vmem, ⟨27, _⟩ => ⟨S1024x256, .bf16⟩
  | .local _ .vmem, ⟨28, _⟩ => ⟨S1024x128, .bf16⟩
  | .local _ .vmem, ⟨29, _⟩ => ⟨S1024x128, .bf16⟩
  | .local _ .vmem, ⟨30, _⟩ => ⟨S384x768, .f32⟩
  | .local _ .vmem, ⟨31, _⟩ => ⟨S256x1152, .f32⟩
  | .local _ .vmem, ⟨32, _⟩ => ⟨S1x384, .f32⟩
  | .local _ .vmem, ⟨33, _⟩ => ⟨S1x256, .f32⟩
  | .local _ .vmem, ⟨34, _⟩ => ⟨S1024x768, .bf16⟩
  | .local _ .vmem, ⟨35, _⟩ => ⟨S1024x1152, .bf16⟩
  | _, _ => ⟨S8192x2336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_call1_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_call2_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_call3_v0 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_12 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_cst_15 : Ref sig .tc := ⟨.hbm, 115, rfl⟩
abbrev main_v86 : Ref sig .tc := ⟨.hbm, 116, rfl⟩
abbrev main_cst_16 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93_0 : Ref sig .tc := ⟨.hbm, 125, rfl⟩
abbrev main_v93_1 : Ref sig .tc := ⟨.hbm, 126, rfl⟩
abbrev main_v93_2 : Ref sig .tc := ⟨.hbm, 127, rfl⟩
abbrev main_v93_3 : Ref sig .tc := ⟨.hbm, 128, rfl⟩
abbrev main_v93_4 : Ref sig .tc := ⟨.hbm, 129, rfl⟩
abbrev main_v93_5 : Ref sig .tc := ⟨.hbm, 130, rfl⟩
abbrev main_v93_6 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem18_0 : DmaSem sig := 31
abbrev cc0_sem19_0 : DmaSem sig := 32
abbrev cc0_sem20_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1152 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S384x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1152 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MlaPrepBwdRefIdeal.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S8192x6x96 : Shape := ⟨3, ![8192, 6, 96]⟩
abbrev S8192x384 : Shape := ⟨2, ![8192, 384]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x256 : Shape := ⟨2, ![8192, 256]⟩
abbrev S8192x32 : Shape := ⟨2, ![8192, 32]⟩
abbrev S1x384 : Shape := ⟨2, ![1, 384]⟩
abbrev S384 : Shape := ⟨1, ![384]⟩
abbrev S1x384x576 : Shape := ⟨3, ![1, 384, 576]⟩
abbrev S384x576 : Shape := ⟨2, ![384, 576]⟩
abbrev S1x256 : Shape := ⟨2, ![1, 256]⟩
abbrev S256 : Shape := ⟨1, ![256]⟩
abbrev S1x256x768 : Shape := ⟨3, ![1, 256, 768]⟩
abbrev S256x768 : Shape := ⟨2, ![256, 768]⟩
abbrev S8192x576 : Shape := ⟨2, ![8192, 576]⟩
abbrev S8192x6x32 : Shape := ⟨3, ![8192, 6, 32]⟩
abbrev S8192x1x16 : Shape := ⟨3, ![8192, 1, 16]⟩
abbrev S8192x6x16 : Shape := ⟨3, ![8192, 6, 16]⟩
abbrev S8192x768 : Shape := ⟨2, ![8192, 768]⟩
abbrev S8192x6x128 : Shape := ⟨3, ![8192, 6, 128]⟩
abbrev S8192x1x32 : Shape := ⟨3, ![8192, 1, 32]⟩
abbrev S8192x6x64 : Shape := ⟨3, ![8192, 6, 64]⟩
abbrev S768x256 : Shape := ⟨2, ![768, 256]⟩
abbrev S576x384 : Shape := ⟨2, ![576, 384]⟩
abbrev S256x6x128 : Shape := ⟨3, ![256, 6, 128]⟩
abbrev S256x6x64 : Shape := ⟨3, ![256, 6, 64]⟩
abbrev S256x384 : Shape := ⟨2, ![256, 384]⟩
abbrev S256x1152 : Shape := ⟨2, ![256, 1152]⟩
abbrev S8192x128 : Shape := ⟨2, ![8192, 128]⟩
abbrev S384x6x96 : Shape := ⟨3, ![384, 6, 96]⟩
abbrev S384x6x128 : Shape := ⟨3, ![384, 6, 128]⟩
abbrev S384x768 : Shape := ⟨2, ![384, 768]⟩

abbrev nBuf : Space → Nat
  | .hbm => 248
  | .vmem => 0
  | .smem => 0
  | _ => 0

abbrev hbmTy0_0 (i : Nat) : BufTy := match i % 128 with
  | 0 => ⟨S8192x2336, .f32⟩
  | 1 => ⟨S4x384, .f32⟩
  | 2 => ⟨S4x256, .f32⟩
  | 3 => ⟨S4x384x576, .f32⟩
  | 4 => ⟨S4x256x768, .f32⟩
  | 5 => ⟨S8192x6x96, .f32⟩
  | 6 => ⟨S8192x6x96, .f32⟩
  | 7 => ⟨S8192x384, .f32⟩
  | 8 => ⟨S8192, .f32⟩
  | 9 => ⟨S16, .f32⟩
  | 10 => ⟨S_, .f32⟩
  | 11 => ⟨S16, .f32⟩
  | 12 => ⟨S16, .f32⟩
  | 13 => ⟨S_, .f32⟩
  | 14 => ⟨S16, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S8192x1, .f32⟩
  | 24 => ⟨S1x16, .f32⟩
  | 25 => ⟨S8192x16, .f32⟩
  | 26 => ⟨S8192x16, .f32⟩
  | 27 => ⟨S8192x16, .f32⟩
  | 28 => ⟨S8192x16, .f32⟩
  | 29 => ⟨S8192x16, .f32⟩
  | 30 => ⟨S8192x384, .f32⟩
  | 31 => ⟨S8192x256, .f32⟩
  | 32 => ⟨S8192x32, .f32⟩
  | 33 => ⟨S1x384, .f32⟩
  | 34 => ⟨S384, .f32⟩
  | 35 => ⟨S1x384x576, .f32⟩
  | 36 => ⟨S384x576, .f32⟩
  | 37 => ⟨S1x256, .f32⟩
  | 38 => ⟨S256, .f32⟩
  | 39 => ⟨S1x256x768, .f32⟩
  | 40 => ⟨S256x768, .f32⟩
  | 41 => ⟨S8192x384, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192x1, .f32⟩
  | 50 => ⟨S8192x1, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x384, .f32⟩
  | 57 => ⟨S8192x384, .f32⟩
  | 58 => ⟨S1x384, .f32⟩
  | 59 => ⟨S8192x384, .f32⟩
  | 60 => ⟨S8192x384, .f32⟩
  | 61 => ⟨S8192x576, .f32⟩
  | 62 => ⟨S8192x6x96, .f32⟩
  | 63 => ⟨S8192x6x32, .f32⟩
  | 64 => ⟨S8192x1x16, .f32⟩
  | 65 => ⟨S8192x1x16, .f32⟩
  | 66 => ⟨S8192x6x16, .f32⟩
  | 67 => ⟨S8192x6x16, .f32⟩
  | 68 => ⟨S8192x6x16, .f32⟩
  | 69 => ⟨S8192x6x16, .f32⟩
  | 70 => ⟨S8192x6x16, .f32⟩
  | 71 => ⟨S8192x6x16, .f32⟩
  | 72 => ⟨S8192x6x16, .f32⟩
  | 73 => ⟨S8192x6x16, .f32⟩
  | 74 => ⟨S8192x6x16, .f32⟩
  | 75 => ⟨S8192x6x16, .f32⟩
  | 76 => ⟨S8192x6x16, .f32⟩
  | 77 => ⟨S8192x6x16, .f32⟩
  | 78 => ⟨S8192x6x32, .f32⟩
  | 79 => ⟨S8192x256, .f32⟩
  | 80 => ⟨S_, .f32⟩
  | 81 => ⟨S8192, .f32⟩
  | 82 => ⟨S8192x1, .f32⟩
  | 83 => ⟨S_, .f32⟩
  | 84 => ⟨S8192x1, .f32⟩
  | 85 => ⟨S8192x1, .f32⟩
  | 86 => ⟨S_, .f32⟩
  | 87 => ⟨S8192x1, .f32⟩
  | 88 => ⟨S8192x1, .f32⟩
  | 89 => ⟨S8192x1, .f32⟩
  | 90 => ⟨S8192x1, .f32⟩
  | 91 => ⟨S_, .f32⟩
  | 92 => ⟨S8192x1, .f32⟩
  | 93 => ⟨S8192x1, .f32⟩
  | 94 => ⟨S8192x256, .f32⟩
  | 95 => ⟨S8192x256, .f32⟩
  | 96 => ⟨S1x256, .f32⟩
  | 97 => ⟨S8192x256, .f32⟩
  | 98 => ⟨S8192x256, .f32⟩
  | 99 => ⟨S8192x768, .f32⟩
  | 100 => ⟨S8192x6x128, .f32⟩
  | 101 => ⟨S8192x16, .f32⟩
  | 102 => ⟨S8192x16, .f32⟩
  | 103 => ⟨S8192x16, .f32⟩
  | 104 => ⟨S8192x16, .f32⟩
  | 105 => ⟨S8192x16, .f32⟩
  | 106 => ⟨S8192x16, .f32⟩
  | 107 => ⟨S8192x16, .f32⟩
  | 108 => ⟨S8192x16, .f32⟩
  | 109 => ⟨S8192x32, .f32⟩
  | 110 => ⟨S8192x1x32, .f32⟩
  | 111 => ⟨S8192x6x32, .f32⟩
  | 112 => ⟨S8192x6x64, .f32⟩
  | 113 => ⟨S8192x6x96, .f32⟩
  | 114 => ⟨S_, .f32⟩
  | 115 => ⟨S8192x6x96, .f32⟩
  | 116 => ⟨S8192x6x96, .f32⟩
  | 117 => ⟨S8192x6x64, .f32⟩
  | 118 => ⟨S8192x6x96, .f32⟩
  | 119 => ⟨S8192x6x64, .f32⟩
  | 120 => ⟨S8192x384, .f32⟩
  | 121 => ⟨S8192x6x64, .f32⟩
  | 122 => ⟨S_, .f32⟩
  | 123 => ⟨S8192x6x128, .f32⟩
  | 124 => ⟨S8192x6x64, .f32⟩
  | 125 => ⟨S8192x6x32, .f32⟩
  | 126 => ⟨S_, .f32⟩
  | 127 => ⟨S8192x6x128, .f32⟩
  | _ => ⟨S8192x2336, .f32⟩

abbrev hbmTy0_1 (i : Nat) : BufTy := match i % 128 with
  | 0 => ⟨S8192x6x128, .f32⟩
  | 1 => ⟨S_, .f32⟩
  | 2 => ⟨S8192x6x96, .f32⟩
  | 3 => ⟨S8192x6x96, .f32⟩
  | 4 => ⟨S8192x6x64, .f32⟩
  | 5 => ⟨S8192x6x32, .f32⟩
  | 6 => ⟨S_, .f32⟩
  | 7 => ⟨S8192x6x96, .f32⟩
  | 8 => ⟨S_, .f32⟩
  | 9 => ⟨S8192x32, .f32⟩
  | 10 => ⟨S8192x1x32, .f32⟩
  | 11 => ⟨S_, .f32⟩
  | 12 => ⟨S8192x32, .f32⟩
  | 13 => ⟨S8192x16, .f32⟩
  | 14 => ⟨S8192x16, .f32⟩
  | 15 => ⟨S8192x16, .f32⟩
  | 16 => ⟨S8192x16, .f32⟩
  | 17 => ⟨S8192x16, .f32⟩
  | 18 => ⟨S8192x16, .f32⟩
  | 19 => ⟨S8192x16, .f32⟩
  | 20 => ⟨S8192x16, .f32⟩
  | 21 => ⟨S8192x16, .f32⟩
  | 22 => ⟨S8192x32, .f32⟩
  | 23 => ⟨S8192x768, .f32⟩
  | 24 => ⟨S768x256, .f32⟩
  | 25 => ⟨S256x768, .f32⟩
  | 26 => ⟨S8192x256, .f32⟩
  | 27 => ⟨S8192x256, .f32⟩
  | 28 => ⟨S_, .f32⟩
  | 29 => ⟨S256, .f32⟩
  | 30 => ⟨S1x256, .f32⟩
  | 31 => ⟨S8192x256, .f32⟩
  | 32 => ⟨S8192x256, .f32⟩
  | 33 => ⟨S_, .f32⟩
  | 34 => ⟨S256, .f32⟩
  | 35 => ⟨S8192x256, .f32⟩
  | 36 => ⟨S_, .f32⟩
  | 37 => ⟨S8192, .f32⟩
  | 38 => ⟨S8192x1, .f32⟩
  | 39 => ⟨S8192x256, .f32⟩
  | 40 => ⟨S8192x256, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S8192x6x16, .f32⟩
  | 53 => ⟨S8192x6x16, .f32⟩
  | 54 => ⟨S8192x6x16, .f32⟩
  | 55 => ⟨S8192x6x16, .f32⟩
  | 56 => ⟨S8192x6x16, .f32⟩
  | 57 => ⟨S8192x6x16, .f32⟩
  | 58 => ⟨S8192x6x16, .f32⟩
  | 59 => ⟨S8192x6x16, .f32⟩
  | 60 => ⟨S8192x6x16, .f32⟩
  | 61 => ⟨S8192x6x16, .f32⟩
  | 62 => ⟨S8192x6x16, .f32⟩
  | 63 => ⟨S8192x6x16, .f32⟩
  | 64 => ⟨S8192x6x16, .f32⟩
  | 65 => ⟨S8192x6x32, .f32⟩
  | 66 => ⟨S_, .f32⟩
  | 67 => ⟨S8192x6x96, .f32⟩
  | 68 => ⟨S8192x6x96, .f32⟩
  | 69 => ⟨S8192x576, .f32⟩
  | 70 => ⟨S576x384, .f32⟩
  | 71 => ⟨S384x576, .f32⟩
  | 72 => ⟨S8192x384, .f32⟩
  | 73 => ⟨S8192x384, .f32⟩
  | 74 => ⟨S_, .f32⟩
  | 75 => ⟨S384, .f32⟩
  | 76 => ⟨S1x384, .f32⟩
  | 77 => ⟨S8192x384, .f32⟩
  | 78 => ⟨S8192x384, .f32⟩
  | 79 => ⟨S_, .f32⟩
  | 80 => ⟨S384, .f32⟩
  | 81 => ⟨S8192x384, .f32⟩
  | 82 => ⟨S_, .f32⟩
  | 83 => ⟨S8192, .f32⟩
  | 84 => ⟨S8192x1, .f32⟩
  | 85 => ⟨S8192x384, .f32⟩
  | 86 => ⟨S8192x384, .f32⟩
  | 87 => ⟨S8192x1, .f32⟩
  | 88 => ⟨S_, .f32⟩
  | 89 => ⟨S8192x1, .f32⟩
  | 90 => ⟨S8192x1, .f32⟩
  | 91 => ⟨S_, .f32⟩
  | 92 => ⟨S8192, .f32⟩
  | 93 => ⟨S8192x384, .f32⟩
  | 94 => ⟨S8192x384, .f32⟩
  | 95 => ⟨S8192x384, .f32⟩
  | 96 => ⟨S8192x384, .f32⟩
  | 97 => ⟨S8192x384, .f32⟩
  | 98 => ⟨S256x6x128, .f32⟩
  | 99 => ⟨S256x6x64, .f32⟩
  | 100 => ⟨S_, .i32⟩
  | 101 => ⟨S_, .f32⟩
  | 102 => ⟨S256x6x128, .f32⟩
  | 103 => ⟨S256x768, .f32⟩
  | 104 => ⟨S256x6x64, .f32⟩
  | 105 => ⟨S256x384, .f32⟩
  | 106 => ⟨S256x1152, .f32⟩
  | 107 => ⟨S8192x384, .bf16⟩
  | 108 => ⟨S8192x256, .bf16⟩
  | 109 => ⟨S_, .i32⟩
  | 110 => ⟨S_, .f32⟩
  | 111 => ⟨S8192x128, .f32⟩
  | 112 => ⟨S8192x128, .bf16⟩
  | 113 => ⟨S384x6x96, .f32⟩
  | 114 => ⟨S_, .i32⟩
  | 115 => ⟨S_, .f32⟩
  | 116 => ⟨S384x6x128, .f32⟩
  | 117 => ⟨S384x768, .f32⟩
  | 118 => ⟨S1x384, .f32⟩
  | 119 => ⟨S1x256, .f32⟩
  | _ => ⟨S8192x2336, .f32⟩

abbrev hbmTy (i : Nat) : BufTy := match i / 128 with
  | 0 => hbmTy0_0 i
  | 1 => hbmTy0_1 i
  | _ => ⟨S8192x2336, .f32⟩

abbrev bufTy : (tb : Table) → Fin (tcTables nBuf tb) → BufTy
  | .hbm, ⟨i, _⟩ => hbmTy i
  | _, _ => ⟨S8192x2336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_7 : Ref sig .tc := ⟨.hbm, 80, rfl⟩
abbrev main_v64 : Ref sig .tc := ⟨.hbm, 81, rfl⟩
abbrev main_v65 : Ref sig .tc := ⟨.hbm, 82, rfl⟩
abbrev main_cst_8 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_10 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_11 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_12 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_13 : Ref sig .tc := ⟨.hbm, 126, rfl⟩
abbrev main_v104 : Ref sig .tc := ⟨.hbm, 127, rfl⟩
abbrev main_v105 : Ref sig .tc := ⟨.hbm, 128, rfl⟩
abbrev main_cst_14 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_15 : Ref sig .tc := ⟨.hbm, 134, rfl⟩
abbrev main_v110 : Ref sig .tc := ⟨.hbm, 135, rfl⟩
abbrev main_cst_16 : Ref sig .tc := ⟨.hbm, 136, rfl⟩
abbrev main_v111 : Ref sig .tc := ⟨.hbm, 137, rfl⟩
abbrev main_v112 : Ref sig .tc := ⟨.hbm, 138, rfl⟩
abbrev main_cst_17 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_18 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_19 : Ref sig .tc := ⟨.hbm, 161, rfl⟩
abbrev main_v133 : Ref sig .tc := ⟨.hbm, 162, rfl⟩
abbrev main_v134 : Ref sig .tc := ⟨.hbm, 163, rfl⟩
abbrev main_cst_20 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_21 : Ref sig .tc := ⟨.hbm, 170, rfl⟩
abbrev main_v140 : Ref sig .tc := ⟨.hbm, 171, rfl⟩
abbrev main_v141 : Ref sig .tc := ⟨.hbm, 172, rfl⟩
abbrev main_cst_22 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_23 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_cst_24 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_cst_25 : Ref sig .tc := ⟨.hbm, 207, rfl⟩
abbrev main_v173 : Ref sig .tc := ⟨.hbm, 208, rfl⟩
abbrev main_v174 : Ref sig .tc := ⟨.hbm, 209, rfl⟩
abbrev main_cst_26 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_27 : Ref sig .tc := ⟨.hbm, 216, rfl⟩
abbrev main_v180 : Ref sig .tc := ⟨.hbm, 217, rfl⟩
abbrev main_v181 : Ref sig .tc := ⟨.hbm, 218, rfl⟩
abbrev main_cst_28 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_c : Ref sig .tc := ⟨.hbm, 228, rfl⟩
abbrev main_call0_v0 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_c_29 : Ref sig .tc := ⟨.hbm, 237, rfl⟩
abbrev main_call1_v0 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_c_30 : Ref sig .tc := ⟨.hbm, 242, rfl⟩
abbrev main_call2_v0 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩

abbrev nD : Nat := 1
abbrev τ : Topo := Topo.v7x

variable {F : FTy → Type} [FloatOps F]
-- ==== InProjFwd.lean ====
abbrev S8192x1024 : Shape := ⟨2, ![8192, 1024]⟩
abbrev S4x1024 : Shape := ⟨2, ![4, 1024]⟩
abbrev S4x1024x2336 : Shape := ⟨3, ![4, 1024, 2336]⟩
abbrev S4x1024x584 : Shape := ⟨3, ![4, 1024, 584]⟩
abbrev S4x1024x568 : Shape := ⟨3, ![4, 1024, 568]⟩
abbrev S4x1024x312 : Shape := ⟨3, ![4, 1024, 312]⟩
abbrev S4x1024x72 : Shape := ⟨3, ![4, 1024, 72]⟩
abbrev S4x1024x16 : Shape := ⟨3, ![4, 1024, 16]⟩
abbrev S4x1024x240 : Shape := ⟨3, ![4, 1024, 240]⟩
abbrev S4x1024x512 : Shape := ⟨3, ![4, 1024, 512]⟩
abbrev S_ : Shape := ⟨0, ![]⟩
abbrev S4x1024x64 : Shape := ⟨3, ![4, 1024, 64]⟩
abbrev S4x1024x32 : Shape := ⟨3, ![4, 1024, 32]⟩
abbrev S4x1024x2432 : Shape := ⟨3, ![4, 1024, 2432]⟩
abbrev S4x1x1024 : Shape := ⟨3, ![4, 1, 1024]⟩
abbrev S8192x2432 : Shape := ⟨2, ![8192, 2432]⟩
abbrev S512x1024 : Shape := ⟨2, ![512, 1024]⟩
abbrev S1x1x1024 : Shape := ⟨3, ![1, 1, 1024]⟩
abbrev S1x1024x2432 : Shape := ⟨3, ![1, 1024, 2432]⟩
abbrev S512x2432 : Shape := ⟨2, ![512, 2432]⟩
abbrev S512 : Shape := ⟨1, ![512]⟩
abbrev S512x1 : Shape := ⟨2, ![512, 1]⟩
abbrev S1x1024 : Shape := ⟨2, ![1, 1024]⟩
abbrev S1024x2432 : Shape := ⟨2, ![1024, 2432]⟩

abbrev nBuf : Space → Nat
  | .hbm => 23
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2336, .f32⟩
  | .hbm, ⟨3, _⟩ => ⟨S4x1024x584, .f32⟩
  | .hbm, ⟨4, _⟩ => ⟨S4x1024x584, .f32⟩
  | .hbm, ⟨5, _⟩ => ⟨S4x1024x584, .f32⟩
  | .hbm, ⟨6, _⟩ => ⟨S4x1024x584, .f32⟩
  | .hbm, ⟨7, _⟩ => ⟨S4x1024x568, .f32⟩
  | .hbm, ⟨8, _⟩ => ⟨S4x1024x312, .f32⟩
  | .hbm, ⟨9, _⟩ => ⟨S4x1024x72, .f32⟩
  | .hbm, ⟨10, _⟩ => ⟨S4x1024x16, .f32⟩
  | .hbm, ⟨11, _⟩ => ⟨S4x1024x240, .f32⟩
  | .hbm, ⟨12, _⟩ => ⟨S4x1024x512, .f32⟩
  | .hbm, ⟨13, _⟩ => ⟨S_, .f32⟩
  | .hbm, ⟨14, _⟩ => ⟨S4x1024x64, .f32⟩
  | .hbm, ⟨15, _⟩ => ⟨S4x1024x32, .f32⟩
  | .hbm, ⟨16, _⟩ => ⟨S_, .f32⟩
  | .hbm, ⟨17, _⟩ => ⟨S4x1024x32, .f32⟩
  | .hbm, ⟨18, _⟩ => ⟨S4x1024x2432, .f32⟩
  | .hbm, ⟨19, _⟩ => ⟨S4x1024x2432, .bf16⟩
  | .hbm, ⟨20, _⟩ => ⟨S4x1x1024, .f32⟩
  | .hbm, ⟨21, _⟩ => ⟨S8192x1024, .bf16⟩
  | .hbm, ⟨22, _⟩ => ⟨S8192x2432, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1024x2432, .bf16⟩
  | .local _ .vmem, ⟨4, _⟩ => ⟨S512x1024, .bf16⟩
  | .local _ .vmem, ⟨5, _⟩ => ⟨S512x1024, .bf16⟩
  | .local _ .vmem, ⟨6, _⟩ => ⟨S512x2432, .f32⟩
  | .local _ .vmem, ⟨7, _⟩ => ⟨S512x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2432 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjFwdRefIdeal.lean ====
abbrev S8192x1024 : Shape := ⟨2, ![8192, 1024]⟩
abbrev S4x1024 : Shape := ⟨2, ![4, 1024]⟩
abbrev S4x1024x2336 : Shape := ⟨3, ![4, 1024, 2336]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x2336 : Shape := ⟨3, ![1, 1024, 2336]⟩
abbrev S1024x2336 : Shape := ⟨2, ![1024, 2336]⟩
abbrev S8192x2336 : Shape := ⟨2, ![8192, 2336]⟩
abbrev S8192x1152 : Shape := ⟨2, ![8192, 1152]⟩
abbrev S8192x384 : Shape := ⟨2, ![8192, 384]⟩
abbrev S8192x256 : Shape := ⟨2, ![8192, 256]⟩
abbrev S8192x512 : Shape := ⟨2, ![8192, 512]⟩
abbrev S8192x64 : Shape := ⟨2, ![8192, 64]⟩
abbrev S8192x32 : Shape := ⟨2, ![8192, 32]⟩
abbrev S8192x2432 : Shape := ⟨2, ![8192, 2432]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024, .f32⟩
  | .hbm, ⟨2, _⟩ => ⟨S4x1024x2336, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1x1024x2336, .f32⟩
  | .hbm, ⟨22, _⟩ => ⟨S1024x2336, .f32⟩
  | .hbm, ⟨23, _⟩ => ⟨S8192x2336, .f32⟩
  | .hbm, ⟨24, _⟩ => ⟨S8192x1152, .f32⟩
  | .hbm, ⟨25, _⟩ => ⟨S8192x384, .f32⟩
  | .hbm, ⟨26, _⟩ => ⟨S8192x256, .f32⟩
  | .hbm, ⟨27, _⟩ => ⟨S8192x512, .f32⟩
  | .hbm, ⟨28, _⟩ => ⟨S_, .f32⟩
  | .hbm, ⟨29, _⟩ => ⟨S8192x64, .f32⟩
  | .hbm, ⟨30, _⟩ => ⟨S8192x32, .f32⟩
  | .hbm, ⟨31, _⟩ => ⟨S_, .f32⟩
  | .hbm, ⟨32, _⟩ => ⟨S8192x32, .f32⟩
  | .hbm, ⟨33, _⟩ => ⟨S8192x2432, .f32⟩
  | .hbm, ⟨34, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== PoolFwd.lean ====
abbrev S8192x2336 : Shape := ⟨2, ![8192, 2336]⟩
abbrev S4x4x64x64 : Shape := ⟨4, ![4, 4, 64, 64]⟩
abbrev S4x256 : Shape := ⟨2, ![4, 256]⟩
abbrev S8192x584 : Shape := ⟨2, ![8192, 584]⟩
abbrev S8192x568 : Shape := ⟨2, ![8192, 568]⟩
abbrev S8192x312 : Shape := ⟨2, ![8192, 312]⟩
abbrev S8192x72 : Shape := ⟨2, ![8192, 72]⟩
abbrev S8192x16 : Shape := ⟨2, ![8192, 16]⟩
abbrev S8192x240 : Shape := ⟨2, ![8192, 240]⟩
abbrev S8192x512 : Shape := ⟨2, ![8192, 512]⟩
abbrev S_ : Shape := ⟨0, ![]⟩
abbrev S8192x64 : Shape := ⟨2, ![8192, 64]⟩
abbrev S8192x32 : Shape := ⟨2, ![8192, 32]⟩
abbrev S8192x2432 : Shape := ⟨2, ![8192, 2432]⟩
abbrev S4x4x64x1x64 : Shape := ⟨5, ![4, 4, 64, 1, 64]⟩
abbrev S4x4 : Shape := ⟨2, ![4, 4]⟩
abbrev S1x4x1x4x1 : Shape := ⟨5, ![1, 4, 1, 4, 1]⟩
abbrev S4x4x64x4x64 : Shape := ⟨5, ![4, 4, 64, 4, 64]⟩
abbrev S4x256x256 : Shape := ⟨3, ![4, 256, 256]⟩
abbrev S4x1x256 : Shape := ⟨3, ![4, 1, 256]⟩
abbrev S8192x256 : Shape := ⟨2, ![8192, 256]⟩
abbrev S1024x256 : Shape := ⟨2, ![1024, 256]⟩
abbrev S1x256x256 : Shape := ⟨3, ![1, 256, 256]⟩
abbrev S1x1x256 : Shape := ⟨3, ![1, 1, 256]⟩
abbrev S16x256 : Shape := ⟨2, ![16, 256]⟩
abbrev S1040x256 : Shape := ⟨2, ![1040, 256]⟩
abbrev S256x256 : Shape := ⟨2, ![256, 256]⟩
abbrev S1x256 : Shape := ⟨2, ![1, 256]⟩

abbrev nBuf : Space → Nat
  | .hbm => 35
  | .vmem => 9
  | .smem => 0
  | _ => 0

abbrev bufTy : (tb : Table) → Fin (tcTables nBuf tb) → BufTy
  | .hbm, ⟨0, _⟩ => ⟨S8192x2336, .f32⟩
  | .hbm, ⟨1, _⟩ => ⟨S4x4x64x64, .f32⟩
  | .hbm, ⟨2, _⟩ => ⟨S4x256, .f32⟩
  | .hbm, ⟨3, _⟩ => ⟨S8192x584, .f32⟩
  | .hbm, ⟨4, _⟩ => ⟨S8192x584, .f32⟩
  | .hbm, ⟨5, _⟩ => ⟨S8192x584, .f32⟩
  | .hbm, ⟨6, _⟩ => ⟨S8192x584, .f32⟩
  | .hbm, ⟨7, _⟩ => ⟨S8192x568, .f32⟩
  | .hbm, ⟨8, _⟩ => ⟨S8192x312, .f32⟩
  | .hbm, ⟨9, _⟩ => ⟨S8192x72, .f32⟩
  | .hbm, ⟨10, _⟩ => ⟨S8192x16, .f32⟩
  | .hbm, ⟨11, _⟩ => ⟨S8192x240, .f32⟩
  | .hbm, ⟨12, _⟩ => ⟨S8192x512, .f32⟩
  | .hbm, ⟨13, _⟩ => ⟨S_, .f32⟩
  | .hbm, ⟨14, _⟩ => ⟨S8192x64, .f32⟩
  | .hbm, ⟨15, _⟩ => ⟨S8192x32, .f32⟩
  | .hbm, ⟨16, _⟩ => ⟨S_, .f32⟩
  | .hbm, ⟨17, _⟩ => ⟨S8192x32, .f32⟩
  | .hbm, ⟨18, _⟩ => ⟨S8192x2432, .f32⟩
  | .hbm, ⟨19, _⟩ => ⟨S4x4x64x1x64, .f32⟩
  | .hbm, ⟨20, _⟩ => ⟨S4x4, .i32⟩
  | .hbm, ⟨21, _⟩ => ⟨S4x4, .i32⟩
  | .hbm, ⟨22, _⟩ => ⟨S_, .i32⟩
  | .hbm, ⟨23, _⟩ => ⟨S4x4, .i32⟩
  | .hbm, ⟨24, _⟩ => ⟨S4x4, .i32⟩
  | .hbm, ⟨25, _⟩ => ⟨S4x4, .i1⟩
  | .hbm, ⟨26, _⟩ => ⟨S4x4, .f32⟩
  | .hbm, ⟨27, _⟩ => ⟨S1x4x1x4x1, .f32⟩
  | .hbm, ⟨28, _⟩ => ⟨S4x4x64x4x64, .f32⟩
  | .hbm, ⟨29, _⟩ => ⟨S4x4x64x4x64, .f32⟩
  | .hbm, ⟨30, _⟩ => ⟨S4x4x64x4x64, .f32⟩
  | .hbm, ⟨31, _⟩ => ⟨S4x256x256, .f32⟩
  | .hbm, ⟨32, _⟩ => ⟨S4x256x256, .bf16⟩
  | .hbm, ⟨33, _⟩ => ⟨S4x1x256, .f32⟩
  | .hbm, ⟨34, _⟩ => ⟨S8192x256, .bf16⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x256x256, .bf16⟩
  | .local _ .vmem, ⟨5, _⟩ => ⟨S1x1x256, .f32⟩
  | .local _ .vmem, ⟨6, _⟩ => ⟨S1024x256, .bf16⟩
  | .local _ .vmem, ⟨7, _⟩ => ⟨S1024x256, .bf16⟩
  | .local _ .vmem, ⟨8, _⟩ => ⟨S16x256, .f32⟩
  | _, _ => ⟨S8192x2336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S8192x2336 : Shape := ⟨2, ![8192, 2336]⟩
abbrev S4x4x64x64 : Shape := ⟨4, ![4, 4, 64, 64]⟩
abbrev S4x256 : Shape := ⟨2, ![4, 256]⟩
abbrev S8192x256 : Shape := ⟨2, ![8192, 256]⟩
abbrev S1x4x64x64 : Shape := ⟨4, ![1, 4, 64, 64]⟩
abbrev S4x64x64 : Shape := ⟨3, ![4, 64, 64]⟩
abbrev S1x256 : Shape := ⟨2, ![1, 256]⟩
abbrev S256 : Shape := ⟨1, ![256]⟩
abbrev S8192 : Shape := ⟨1, ![8192]⟩
abbrev S_ : Shape := ⟨0, ![]⟩
abbrev S8192x64 : Shape := ⟨2, ![8192, 64]⟩
abbrev S2x64 : Shape := ⟨2, ![2, 64]⟩
abbrev S8190x64 : Shape := ⟨2, ![8190, 64]⟩
abbrev S8192x1 : Shape := ⟨2, ![8192, 1]⟩
abbrev S4x64 : Shape := ⟨2, ![4, 64]⟩
abbrev S8188x64 : Shape := ⟨2, ![8188, 64]⟩
abbrev S8x64 : Shape := ⟨2, ![8, 64]⟩
abbrev S8184x64 : Shape := ⟨2, ![8184, 64]⟩
abbrev S16x64 : Shape := ⟨2, ![16, 64]⟩
abbrev S8176x64 : Shape := ⟨2, ![8176, 64]⟩
abbrev S8192x1x64 : Shape := ⟨3, ![8192, 1, 64]⟩
abbrev S8192x4x64 : Shape := ⟨3, ![8192, 4, 64]⟩
abbrev S4x64x8192 : Shape := ⟨3, ![4, 64, 8192]⟩

abbrev nBuf : Space → Nat
  | .hbm => 99
  | .vmem => 0
  | .smem => 0
  | _ => 0

abbrev bufTy : (tb : Table) → Fin (tcTables nBuf tb) → BufTy
  | .hbm, ⟨0, _⟩ => ⟨S8192x2336, .f32⟩
  | .hbm, ⟨1, _⟩ => ⟨S4x4x64x64, .f32⟩
  | .hbm, ⟨2, _⟩ => ⟨S4x256, .f32⟩
  | .hbm, ⟨3, _⟩ => ⟨S8192x256, .f32⟩
  | .hbm, ⟨4, _⟩ => ⟨S1x4x64x64, .f32⟩
  | .hbm, ⟨5, _⟩ => ⟨S4x64x64, .f32⟩
  | .hbm, ⟨6, _⟩ => ⟨S1x256, .f32⟩
  | .hbm, ⟨7, _⟩ => ⟨S256, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x64, .f32⟩
  | .hbm, ⟨13, _⟩ => ⟨S_, .f32⟩
  | .hbm, ⟨14, _⟩ => ⟨S_, .f32⟩
  | .hbm, ⟨15, _⟩ => ⟨S8192x64, .f32⟩
  | .hbm, ⟨16, _⟩ => ⟨S_, .f32⟩
  | .hbm, ⟨17, _⟩ => ⟨S2x64, .f32⟩
  | .hbm, ⟨18, _⟩ => ⟨S8190x64, .f32⟩
  | .hbm, ⟨19, _⟩ => ⟨S8192x64, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x64, .f32⟩
  | .hbm, ⟨28, _⟩ => ⟨S8192x64, .f32⟩
  | .hbm, ⟨29, _⟩ => ⟨S_, .f32⟩
  | .hbm, ⟨30, _⟩ => ⟨S_, .f32⟩
  | .hbm, ⟨31, _⟩ => ⟨S8192x64, .f32⟩
  | .hbm, ⟨32, _⟩ => ⟨S_, .f32⟩
  | .hbm, ⟨33, _⟩ => ⟨S4x64, .f32⟩
  | .hbm, ⟨34, _⟩ => ⟨S8188x64, .f32⟩
  | .hbm, ⟨35, _⟩ => ⟨S8192x64, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x64, .f32⟩
  | .hbm, ⟨44, _⟩ => ⟨S8192x64, .f32⟩
  | .hbm, ⟨45, _⟩ => ⟨S_, .f32⟩
  | .hbm, ⟨46, _⟩ => ⟨S_, .f32⟩
  | .hbm, ⟨47, _⟩ => ⟨S8192x64, .f32⟩
  | .hbm, ⟨48, _⟩ => ⟨S_, .f32⟩
  | .hbm, ⟨49, _⟩ => ⟨S8x64, .f32⟩
  | .hbm, ⟨50, _⟩ => ⟨S8184x64, .f32⟩
  | .hbm, ⟨51, _⟩ => ⟨S8192x64, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S_, .f32⟩
  | .hbm, ⟨62, _⟩ => ⟨S_, .f32⟩
  | .hbm, ⟨63, _⟩ => ⟨S8192x64, .f32⟩
  | .hbm, ⟨64, _⟩ => ⟨S_, .f32⟩
  | .hbm, ⟨65, _⟩ => ⟨S16x64, .f32⟩
  | .hbm, ⟨66, _⟩ => ⟨S8176x64, .f32⟩
  | .hbm, ⟨67, _⟩ => ⟨S8192x64, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x1, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S8192x64, .f32⟩
  | .hbm, ⟨76, _⟩ => ⟨S8192x1x64, .f32⟩
  | .hbm, ⟨77, _⟩ => ⟨S8192x1x64, .f32⟩
  | .hbm, ⟨78, _⟩ => ⟨S8192x1x64, .f32⟩
  | .hbm, ⟨79, _⟩ => ⟨S8192x1x64, .f32⟩
  | .hbm, ⟨80, _⟩ => ⟨S8192x4x64, .f32⟩
  | .hbm, ⟨81, _⟩ => ⟨S4x64x8192, .f32⟩
  | .hbm, ⟨82, _⟩ => ⟨S8192x4x64, .f32⟩
  | .hbm, ⟨83, _⟩ => ⟨S8192x256, .f32⟩
  | .hbm, ⟨84, _⟩ => ⟨S1x256, .f32⟩
  | .hbm, ⟨85, _⟩ => ⟨S8192x256, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S8192x256, .f32⟩
  | .hbm, ⟨90, _⟩ => ⟨S_, .f32⟩
  | .hbm, ⟨91, _⟩ => ⟨S8192x256, .f32⟩
  | .hbm, ⟨92, _⟩ => ⟨S8192x256, .f32⟩
  | .hbm, ⟨93, _⟩ => ⟨S_, .f32⟩
  | .hbm, ⟨94, _⟩ => ⟨S8192x256, .f32⟩
  | .hbm, ⟨95, _⟩ => ⟨S8192x256, .f32⟩
  | .hbm, ⟨96, _⟩ => ⟨S8192x256, .f32⟩
  | .hbm, ⟨97, _⟩ => ⟨S8192x256, .f32⟩
  | .hbm, ⟨98, _⟩ => ⟨S8192x256, .bf16⟩
  | _, _ => ⟨S8192x2336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_call0_cst : Ref sig .tc := ⟨.hbm, 13, rfl⟩
abbrev main_call0_call0_v0 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_call0_cst : Ref sig .tc := ⟨.hbm, 29, rfl⟩
abbrev main_call1_call0_v0 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call2_call0_cst : Ref sig .tc := ⟨.hbm, 45, rfl⟩
abbrev main_call2_call0_v0 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_call3_call0_cst : Ref sig .tc := ⟨.hbm, 61, rfl⟩
abbrev main_call3_call0_v0 : Ref sig .tc := ⟨.hbm, 62, rfl⟩
abbrev main_v45 : Ref sig .tc := ⟨.hbm, 63, rfl⟩
abbrev main_cst_6 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call4_v0 : Ref sig .tc := ⟨.hbm, 88, rfl⟩
abbrev main_call4_v1 : Ref sig .tc := ⟨.hbm, 89, rfl⟩
abbrev main_call4_cst : Ref sig .tc := ⟨.hbm, 90, rfl⟩
abbrev main_call4_v2 : Ref sig .tc := ⟨.hbm, 91, rfl⟩
abbrev main_call4_v3 : Ref sig .tc := ⟨.hbm, 92, rfl⟩
abbrev main_call4_cst_0 : Ref sig .tc := ⟨.hbm, 93, rfl⟩
abbrev main_call4_v4 : Ref sig .tc := ⟨.hbm, 94, rfl⟩
abbrev main_call4_v5 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]
-- ==== MlaPrepFwd.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S8192x584 : Shape := ⟨2, ![8192, 584]⟩
abbrev S8192x568 : Shape := ⟨2, ![8192, 568]⟩
abbrev S8192x312 : Shape := ⟨2, ![8192, 312]⟩
abbrev S8192x72 : Shape := ⟨2, ![8192, 72]⟩
abbrev S8192x16 : Shape := ⟨2, ![8192, 16]⟩
abbrev S8192x240 : Shape := ⟨2, ![8192, 240]⟩
abbrev S8192x512 : Shape := ⟨2, ![8192, 512]⟩
abbrev S_ : Shape := ⟨0, ![]⟩
abbrev S8192x64 : Shape := ⟨2, ![8192, 64]⟩
abbrev S8192x32 : Shape := ⟨2, ![8192, 32]⟩
abbrev S8192x2432 : Shape := ⟨2, ![8192, 2432]⟩
abbrev S4x1x384 : Shape := ⟨3, ![4, 1, 384]⟩
abbrev S4x1x256 : Shape := ⟨3, ![4, 1, 256]⟩
abbrev S4x384x6x96 : Shape := ⟨4, ![4, 384, 6, 96]⟩
abbrev S4x384x6x128 : Shape := ⟨4, ![4, 384, 6, 128]⟩
abbrev S4x384x768 : Shape := ⟨3, ![4, 384, 768]⟩
abbrev S4x256x6x128 : Shape := ⟨4, ![4, 256, 6, 128]⟩
abbrev S4x256x6x64 : Shape := ⟨4, ![4, 256, 6, 64]⟩
abbrev S4x256x384 : Shape := ⟨3, ![4, 256, 384]⟩
abbrev S4x256x1152 : Shape := ⟨3, ![4, 256, 1152]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x128 : Shape := ⟨2, ![8192, 128]⟩
abbrev S8192x768 : Shape := ⟨2, ![8192, 768]⟩
abbrev S8192x384 : Shape := ⟨2, ![8192, 384]⟩
abbrev S8192x256 : Shape := ⟨2, ![8192, 256]⟩
abbrev S1024x384 : Shape := ⟨2, ![1024, 384]⟩
abbrev S1024x256 : Shape := ⟨2, ![1024, 256]⟩
abbrev S1024x128 : Shape := ⟨2, ![1024, 128]⟩
abbrev S1x1x384 : Shape := ⟨3, ![1, 1, 384]⟩
abbrev S1x1x256 : Shape := ⟨3, ![1, 1, 256]⟩
abbrev S1x384x768 : Shape := ⟨3, ![1, 384, 768]⟩
abbrev S1x256x1152 : Shape := ⟨3, ![1, 256, 1152]⟩
abbrev S1024x768 : Shape := ⟨2, ![1024, 768]⟩
abbrev S1024 : Shape := ⟨1, ![1024]⟩
abbrev S1024x1 : Shape := ⟨2, ![1024, 1]⟩
abbrev S1x384 : Shape := ⟨2, ![1, 384]⟩
abbrev S384x768 : Shape := ⟨2, ![384, 768]⟩
abbrev S1x256 : Shape := ⟨2, ![1, 256]⟩
abbrev S256x1152 : Shape := ⟨2, ![256, 1152]⟩
abbrev S1024x1152 : Shape := ⟨2, ![1024, 1152]⟩

abbrev nBuf : Space → Nat
  | .hbm => 78
  | .vmem => 26
  | .smem => 0
  | _ => 0

abbrev bufTy : (tb : Table) → Fin (tcTables nBuf tb) → BufTy
  | .hbm, ⟨0, _⟩ => ⟨S8192x2336, .f32⟩
  | .hbm, ⟨1, _⟩ => ⟨S4x384, .f32⟩
  | .hbm, ⟨2, _⟩ => ⟨S4x256, .f32⟩
  | .hbm, ⟨3, _⟩ => ⟨S4x384x576, .f32⟩
  | .hbm, ⟨4, _⟩ => ⟨S4x256x768, .f32⟩
  | .hbm, ⟨5, _⟩ => ⟨S8192x584, .f32⟩
  | .hbm, ⟨6, _⟩ => ⟨S8192x584, .f32⟩
  | .hbm, ⟨7, _⟩ => ⟨S8192x584, .f32⟩
  | .hbm, ⟨8, _⟩ => ⟨S8192x584, .f32⟩
  | .hbm, ⟨9, _⟩ => ⟨S8192x568, .f32⟩
  | .hbm, ⟨10, _⟩ => ⟨S8192x312, .f32⟩
  | .hbm, ⟨11, _⟩ => ⟨S8192x72, .f32⟩
  | .hbm, ⟨12, _⟩ => ⟨S8192x16, .f32⟩
  | .hbm, ⟨13, _⟩ => ⟨S8192x240, .f32⟩
  | .hbm, ⟨14, _⟩ => ⟨S8192x512, .f32⟩
  | .hbm, ⟨15, _⟩ => ⟨S_, .f32⟩
  | .hbm, ⟨16, _⟩ => ⟨S8192x64, .f32⟩
  | .hbm, ⟨17, _⟩ => ⟨S8192x32, .f32⟩
  | .hbm, ⟨18, _⟩ => ⟨S_, .f32⟩
  | .hbm, ⟨19, _⟩ => ⟨S8192x32, .f32⟩
  | .hbm, ⟨20, _⟩ => ⟨S8192x2432, .f32⟩
  | .hbm, ⟨21, _⟩ => ⟨S4x1x384, .f32⟩
  | .hbm, ⟨22, _⟩ => ⟨S4x1x256, .f32⟩
  | .hbm, ⟨23, _⟩ => ⟨S4x384x6x96, .f32⟩
  | .hbm, ⟨24, _⟩ => ⟨S_, .i32⟩
  | .hbm, ⟨25, _⟩ => ⟨S_, .f32⟩
  | .hbm, ⟨26, _⟩ => ⟨S4x384x6x128, .f32⟩
  | .hbm, ⟨27, _⟩ => ⟨S4x384x768, .f32⟩
  | .hbm, ⟨28, _⟩ => ⟨S4x384x768, .bf16⟩
  | .hbm, ⟨29, _⟩ => ⟨S4x256x6x128, .f32⟩
  | .hbm, ⟨30, _⟩ => ⟨S4x256x6x64, .f32⟩
  | .hbm, ⟨31, _⟩ => ⟨S_, .i32⟩
  | .hbm, ⟨32, _⟩ => ⟨S_, .f32⟩
  | .hbm, ⟨33, _⟩ => ⟨S4x256x6x128, .f32⟩
  | .hbm, ⟨34, _⟩ => ⟨S4x256x768, .f32⟩
  | .hbm, ⟨35, _⟩ => ⟨S4x256x6x64, .f32⟩
  | .hbm, ⟨36, _⟩ => ⟨S4x256x384, .f32⟩
  | .hbm, ⟨37, _⟩ => ⟨S4x256x1152, .f32⟩
  | .hbm, ⟨38, _⟩ => ⟨S4x256x1152, .bf16⟩
  | .hbm, ⟨39, _⟩ => ⟨S8192, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S8192x1, .f32⟩
  | .hbm, ⟨55, _⟩ => ⟨S1x16, .f32⟩
  | .hbm, ⟨56, _⟩ => ⟨S8192x16, .f32⟩
  | .hbm, ⟨57, _⟩ => ⟨S8192x16, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S_, .f32⟩
  | .hbm, ⟨62, _⟩ => ⟨S8192x64, .f32⟩
  | .hbm, ⟨63, _⟩ => ⟨S_, .f32⟩
  | .hbm, ⟨64, _⟩ => ⟨S8192x64, .f32⟩
  | .hbm, ⟨65, _⟩ => ⟨S_, .f32⟩
  | .hbm, ⟨66, _⟩ => ⟨S8192x16, .f32⟩
  | .hbm, ⟨67, _⟩ => ⟨S_, .f32⟩
  | .hbm, ⟨68, _⟩ => ⟨S8192x32, .f32⟩
  | .hbm, ⟨69, _⟩ => ⟨S8192x128, .f32⟩
  | .hbm, ⟨70, _⟩ => ⟨S8192x16, .f32⟩
  | .hbm, ⟨71, _⟩ => ⟨S8192x128, .f32⟩
  | .hbm, ⟨72, _⟩ => ⟨S8192x128, .f32⟩
  | .hbm, ⟨73, _⟩ => ⟨S8192x768, .bf16⟩
  | .hbm, ⟨74, _⟩ => ⟨S8192x768, .bf16⟩
  | .hbm, ⟨75, _⟩ => ⟨S8192x384, .bf16⟩
  | .hbm, ⟨76, _⟩ => ⟨S8192x384, .bf16⟩
  | .hbm, ⟨77, _⟩ => ⟨S8192x256, .bf16⟩
  | .local _ .vmem, ⟨0, _⟩ => ⟨S1024x384, .f32⟩
  | .local _ .vmem, ⟨1, _⟩ => ⟨S1024x384, .f32⟩
  | .local _ .vmem, ⟨2, _⟩ => ⟨S1024x256, .f32⟩
  | .local _ .vmem, ⟨3, _⟩ => ⟨S1024x256, .f32⟩
  | .local _ .vmem, ⟨4, _⟩ => ⟨S1024x128, .f32⟩
  | .local _ .vmem, ⟨5, _⟩ => ⟨S1024x128, .f32⟩
  | .local _ .vmem, ⟨6, _⟩ => ⟨S1x1x384, .f32⟩
  | .local _ .vmem, ⟨7, _⟩ => ⟨S1x1x256, .f32⟩
  | .local _ .vmem, ⟨8, _⟩ => ⟨S1x384x768, .bf16⟩
  | .local _ .vmem, ⟨9, _⟩ => ⟨S1x256x1152, .bf16⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x768, .bf16⟩
  | .local _ .vmem, ⟨17, _⟩ => ⟨S1024x768, .bf16⟩
  | .local _ .vmem, ⟨18, _⟩ => ⟨S1024x768, .bf16⟩
  | .local _ .vmem, ⟨19, _⟩ => ⟨S1024x768, .bf16⟩
  | .local _ .vmem, ⟨20, _⟩ => ⟨S1024x384, .bf16⟩
  | .local _ .vmem, ⟨21, _⟩ => ⟨S1024x384, .bf16⟩
  | .local _ .vmem, ⟨22, _⟩ => ⟨S1024x384, .bf16⟩
  | .local _ .vmem, ⟨23, _⟩ => ⟨S1024x384, .bf16⟩
  | .local _ .vmem, ⟨24, _⟩ => ⟨S1024x256, .bf16⟩
  | .local _ .vmem, ⟨25, _⟩ => ⟨S1024x256, .bf16⟩
  | _, _ => ⟨S8192x2336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_1 : Ref sig .tc := ⟨.hbm, 31, rfl⟩
abbrev main_call1_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54_0 : Ref sig .tc := ⟨.hbm, 73, rfl⟩
abbrev main_v54_1 : Ref sig .tc := ⟨.hbm, 74, rfl⟩
abbrev main_v54_2 : Ref sig .tc := ⟨.hbm, 75, rfl⟩
abbrev main_v54_3 : Ref sig .tc := ⟨.hbm, 76, rfl⟩
abbrev main_v54_4 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x1152 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MlaPrepFwdRefIdeal.lean ====
abbrev S8192x2336 : Shape := ⟨2, ![8192, 2336]⟩
abbrev S4x384 : Shape := ⟨2, ![4, 384]⟩
abbrev S4x256 : Shape := ⟨2, ![4, 256]⟩
abbrev S4x384x576 : Shape := ⟨3, ![4, 384, 576]⟩
abbrev S4x256x768 : Shape := ⟨3, ![4, 256, 768]⟩
abbrev S8192 : Shape := ⟨1, ![8192]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x384 : Shape := ⟨2, ![8192, 384]⟩
abbrev S1x384 : Shape := ⟨2, ![1, 384]⟩
abbrev S384 : Shape := ⟨1, ![384]⟩
abbrev S8192x256 : Shape := ⟨2, ![8192, 256]⟩
abbrev S1x256 : Shape := ⟨2, ![1, 256]⟩
abbrev S256 : Shape := ⟨1, ![256]⟩
abbrev S1x384x576 : Shape := ⟨3, ![1, 384, 576]⟩
abbrev S384x576 : Shape := ⟨2, ![384, 576]⟩
abbrev S8192x576 : Shape := ⟨2, ![8192, 576]⟩
abbrev S8192x6x96 : Shape := ⟨3, ![8192, 6, 96]⟩
abbrev S8192x6x32 : Shape := ⟨3, ![8192, 6, 32]⟩
abbrev S8192x1x16 : Shape := ⟨3, ![8192, 1, 16]⟩
abbrev S8192x6x16 : Shape := ⟨3, ![8192, 6, 16]⟩
abbrev S1x256x768 : Shape := ⟨3, ![1, 256, 768]⟩
abbrev S256x768 : Shape := ⟨2, ![256, 768]⟩
abbrev S8192x768 : Shape := ⟨2, ![8192, 768]⟩
abbrev S8192x6x128 : Shape := ⟨3, ![8192, 6, 128]⟩
abbrev S8192x32 : Shape := ⟨2, ![8192, 32]⟩
abbrev S8192x1x32 : Shape := ⟨3, ![8192, 1, 32]⟩
abbrev S8192x6x64 : Shape := ⟨3, ![8192, 6, 64]⟩

abbrev nBuf : Space → Nat
  | .hbm => 123
  | .vmem => 0
  | .smem => 0
  | _ => 0

abbrev bufTy : (tb : Table) → Fin (tcTables nBuf tb) → BufTy
  | .hbm, ⟨0, _⟩ => ⟨S8192x2336, .f32⟩
  | .hbm, ⟨1, _⟩ => ⟨S4x384, .f32⟩
  | .hbm, ⟨2, _⟩ => ⟨S4x256, .f32⟩
  | .hbm, ⟨3, _⟩ => ⟨S4x384x576, .f32⟩
  | .hbm, ⟨4, _⟩ => ⟨S4x256x768, .f32⟩
  | .hbm, ⟨5, _⟩ => ⟨S8192, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S8192x1, .f32⟩
  | .hbm, ⟨21, _⟩ => ⟨S1x16, .f32⟩
  | .hbm, ⟨22, _⟩ => ⟨S8192x16, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S8192x16, .f32⟩
  | .hbm, ⟨27, _⟩ => ⟨S8192x384, .f32⟩
  | .hbm, ⟨28, _⟩ => ⟨S1x384, .f32⟩
  | .hbm, ⟨29, _⟩ => ⟨S384, .f32⟩
  | .hbm, ⟨30, _⟩ => ⟨S8192x384, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x384, .f32⟩
  | .hbm, ⟨42, _⟩ => ⟨S8192x384, .f32⟩
  | .hbm, ⟨43, _⟩ => ⟨S1x384, .f32⟩
  | .hbm, ⟨44, _⟩ => ⟨S8192x384, .f32⟩
  | .hbm, ⟨45, _⟩ => ⟨S8192x384, .f32⟩
  | .hbm, ⟨46, _⟩ => ⟨S8192x256, .f32⟩
  | .hbm, ⟨47, _⟩ => ⟨S1x256, .f32⟩
  | .hbm, ⟨48, _⟩ => ⟨S256, .f32⟩
  | .hbm, ⟨49, _⟩ => ⟨S8192x256, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x256, .f32⟩
  | .hbm, ⟨61, _⟩ => ⟨S8192x256, .f32⟩
  | .hbm, ⟨62, _⟩ => ⟨S1x256, .f32⟩
  | .hbm, ⟨63, _⟩ => ⟨S8192x256, .f32⟩
  | .hbm, ⟨64, _⟩ => ⟨S8192x256, .f32⟩
  | .hbm, ⟨65, _⟩ => ⟨S1x384x576, .f32⟩
  | .hbm, ⟨66, _⟩ => ⟨S384x576, .f32⟩
  | .hbm, ⟨67, _⟩ => ⟨S8192x576, .f32⟩
  | .hbm, ⟨68, _⟩ => ⟨S8192x6x96, .f32⟩
  | .hbm, ⟨69, _⟩ => ⟨S8192x6x32, .f32⟩
  | .hbm, ⟨70, _⟩ => ⟨S8192x1x16, .f32⟩
  | .hbm, ⟨71, _⟩ => ⟨S8192x1x16, .f32⟩
  | .hbm, ⟨72, _⟩ => ⟨S8192x6x16, .f32⟩
  | .hbm, ⟨73, _⟩ => ⟨S8192x6x16, .f32⟩
  | .hbm, ⟨74, _⟩ => ⟨S8192x6x16, .f32⟩
  | .hbm, ⟨75, _⟩ => ⟨S8192x6x16, .f32⟩
  | .hbm, ⟨76, _⟩ => ⟨S8192x6x16, .f32⟩
  | .hbm, ⟨77, _⟩ => ⟨S8192x6x16, .f32⟩
  | .hbm, ⟨78, _⟩ => ⟨S8192x6x16, .f32⟩
  | .hbm, ⟨79, _⟩ => ⟨S8192x6x16, .f32⟩
  | .hbm, ⟨80, _⟩ => ⟨S8192x6x16, .f32⟩
  | .hbm, ⟨81, _⟩ => ⟨S8192x6x16, .f32⟩
  | .hbm, ⟨82, _⟩ => ⟨S8192x6x16, .f32⟩
  | .hbm, ⟨83, _⟩ => ⟨S8192x6x16, .f32⟩
  | .hbm, ⟨84, _⟩ => ⟨S8192x6x32, .f32⟩
  | .hbm, ⟨85, _⟩ => ⟨S1x256x768, .f32⟩
  | .hbm, ⟨86, _⟩ => ⟨S256x768, .f32⟩
  | .hbm, ⟨87, _⟩ => ⟨S8192x768, .f32⟩
  | .hbm, ⟨88, _⟩ => ⟨S8192x6x128, .f32⟩
  | .hbm, ⟨89, _⟩ => ⟨S8192x32, .f32⟩
  | .hbm, ⟨90, _⟩ => ⟨S8192x16, .f32⟩
  | .hbm, ⟨91, _⟩ => ⟨S8192x16, .f32⟩
  | .hbm, ⟨92, _⟩ => ⟨S8192x16, .f32⟩
  | .hbm, ⟨93, _⟩ => ⟨S8192x16, .f32⟩
  | .hbm, ⟨94, _⟩ => ⟨S8192x16, .f32⟩
  | .hbm, ⟨95, _⟩ => ⟨S8192x16, .f32⟩
  | .hbm, ⟨96, _⟩ => ⟨S8192x16, .f32⟩
  | .hbm, ⟨97, _⟩ => ⟨S8192x16, .f32⟩
  | .hbm, ⟨98, _⟩ => ⟨S8192x32, .f32⟩
  | .hbm, ⟨99, _⟩ => ⟨S8192x1x32, .f32⟩
  | .hbm, ⟨100, _⟩ => ⟨S8192x6x32, .f32⟩
  | .hbm, ⟨101, _⟩ => ⟨S8192x6x64, .f32⟩
  | .hbm, ⟨102, _⟩ => ⟨S8192x6x96, .f32⟩
  | .hbm, ⟨103, _⟩ => ⟨S_, .f32⟩
  | .hbm, ⟨104, _⟩ => ⟨S8192x6x96, .f32⟩
  | .hbm, ⟨105, _⟩ => ⟨S8192x6x96, .f32⟩
  | .hbm, ⟨106, _⟩ => ⟨S_, .i32⟩
  | .hbm, ⟨107, _⟩ => ⟨S_, .f32⟩
  | .hbm, ⟨108, _⟩ => ⟨S8192x6x128, .f32⟩
  | .hbm, ⟨109, _⟩ => ⟨S8192x768, .f32⟩
  | .hbm, ⟨110, _⟩ => ⟨S8192x6x64, .f32⟩
  | .hbm, ⟨111, _⟩ => ⟨S8192x6x96, .f32⟩
  | .hbm, ⟨112, _⟩ => ⟨S_, .i32⟩
  | .hbm, ⟨113, _⟩ => ⟨S_, .f32⟩
  | .hbm, ⟨114, _⟩ => ⟨S8192x6x128, .f32⟩
  | .hbm, ⟨115, _⟩ => ⟨S8192x768, .f32⟩
  | .hbm, ⟨116, _⟩ => ⟨S8192x6x64, .f32⟩
  | .hbm, ⟨117, _⟩ => ⟨S8192x384, .f32⟩
  | .hbm, ⟨118, _⟩ => ⟨S8192x768, .bf16⟩
  | .hbm, ⟨119, _⟩ => ⟨S8192x768, .bf16⟩
  | .hbm, ⟨120, _⟩ => ⟨S8192x384, .bf16⟩
  | .hbm, ⟨121, _⟩ => ⟨S8192x384, .bf16⟩
  | .hbm, ⟨122, _⟩ => ⟨S8192x256, .bf16⟩
  | _, _ => ⟨S8192x2336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_9 : Ref sig .tc := ⟨.hbm, 103, rfl⟩
abbrev main_v88 : Ref sig .tc := ⟨.hbm, 104, rfl⟩
abbrev main_v89 : Ref sig .tc := ⟨.hbm, 105, rfl⟩
abbrev main_c : Ref sig .tc := ⟨.hbm, 106, rfl⟩
abbrev main_call0_v0 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_c_10 : Ref sig .tc := ⟨.hbm, 112, rfl⟩
abbrev main_call1_v0 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩

abbrev nD : Nat := 1
abbrev τ : Topo := Topo.v7x

variable {F : FTy → Type} [FloatOps F]
-- ==== LruFwd.lean ====
abbrev S8192x2336 : Shape := ⟨2, ![8192, 2336]⟩
abbrev S4x4x384 : Shape := ⟨3, ![4, 4, 384]⟩
abbrev S4x384 : Shape := ⟨2, ![4, 384]⟩
abbrev S4x6x64x64 : Shape := ⟨4, ![4, 6, 64, 64]⟩
abbrev S8192x584 : Shape := ⟨2, ![8192, 584]⟩
abbrev S8192x568 : Shape := ⟨2, ![8192, 568]⟩
abbrev S8192x312 : Shape := ⟨2, ![8192, 312]⟩
abbrev S8192x72 : Shape := ⟨2, ![8192, 72]⟩
abbrev S8192x16 : Shape := ⟨2, ![8192, 16]⟩
abbrev S8192x240 : Shape := ⟨2, ![8192, 240]⟩
abbrev S8192x512 : Shape := ⟨2, ![8192, 512]⟩
abbrev S_ : Shape := ⟨0, ![]⟩
abbrev S8192x64 : Shape := ⟨2, ![8192, 64]⟩
abbrev S8192x32 : Shape := ⟨2, ![8192, 32]⟩
abbrev S8192x2432 : Shape := ⟨2, ![8192, 2432]⟩
abbrev S4x1x384 : Shape := ⟨3, ![4, 1, 384]⟩
abbrev S4x6x64x1x64 : Shape := ⟨5, ![4, 6, 64, 1, 64]⟩
abbrev S6x6 : Shape := ⟨2, ![6, 6]⟩
abbrev S1x6x1x6x1 : Shape := ⟨5, ![1, 6, 1, 6, 1]⟩
abbrev S4x6x64x6x64 : Shape := ⟨5, ![4, 6, 64, 6, 64]⟩
abbrev S4x384x384 : Shape := ⟨3, ![4, 384, 384]⟩
abbrev S8192x384 : Shape := ⟨2, ![8192, 384]⟩
abbrev S512x384 : Shape := ⟨2, ![512, 384]⟩
abbrev S1x4x384 : Shape := ⟨3, ![1, 4, 384]⟩
abbrev S1x1x384 : Shape := ⟨3, ![1, 1, 384]⟩
abbrev S1x384x384 : Shape := ⟨3, ![1, 384, 384]⟩
abbrev S8x384 : Shape := ⟨2, ![8, 384]⟩
abbrev S1x384 : Shape := ⟨2, ![1, 384]⟩
abbrev S520x384 : Shape := ⟨2, ![520, 384]⟩
abbrev S384x384 : Shape := ⟨2, ![384, 384]⟩
abbrev S384 : Shape := ⟨1, ![384]⟩

abbrev nBuf : Space → Nat
  | .hbm => 58
  | .vmem => 17
  | .smem => 0
  | _ => 0

abbrev bufTy : (tb : Table) → Fin (tcTables nBuf tb) → BufTy
  | .hbm, ⟨0, _⟩ => ⟨S8192x2336, .f32⟩
  | .hbm, ⟨1, _⟩ => ⟨S4x4x384, .f32⟩
  | .hbm, ⟨2, _⟩ => ⟨S4x384, .f32⟩
  | .hbm, ⟨3, _⟩ => ⟨S4x6x64x64, .f32⟩
  | .hbm, ⟨4, _⟩ => ⟨S4x384, .f32⟩
  | .hbm, ⟨5, _⟩ => ⟨S4x6x64x64, .f32⟩
  | .hbm, ⟨6, _⟩ => ⟨S4x384, .f32⟩
  | .hbm, ⟨7, _⟩ => ⟨S4x384, .f32⟩
  | .hbm, ⟨8, _⟩ => ⟨S8192x584, .f32⟩
  | .hbm, ⟨9, _⟩ => ⟨S8192x584, .f32⟩
  | .hbm, ⟨10, _⟩ => ⟨S8192x584, .f32⟩
  | .hbm, ⟨11, _⟩ => ⟨S8192x584, .f32⟩
  | .hbm, ⟨12, _⟩ => ⟨S8192x568, .f32⟩
  | .hbm, ⟨13, _⟩ => ⟨S8192x312, .f32⟩
  | .hbm, ⟨14, _⟩ => ⟨S8192x72, .f32⟩
  | .hbm, ⟨15, _⟩ => ⟨S8192x16, .f32⟩
  | .hbm, ⟨16, _⟩ => ⟨S8192x240, .f32⟩
  | .hbm, ⟨17, _⟩ => ⟨S8192x512, .f32⟩
  | .hbm, ⟨18, _⟩ => ⟨S_, .f32⟩
  | .hbm, ⟨19, _⟩ => ⟨S8192x64, .f32⟩
  | .hbm, ⟨20, _⟩ => ⟨S8192x32, .f32⟩
  | .hbm, ⟨21, _⟩ => ⟨S_, .f32⟩
  | .hbm, ⟨22, _⟩ => ⟨S8192x32, .f32⟩
  | .hbm, ⟨23, _⟩ => ⟨S8192x2432, .f32⟩
  | .hbm, ⟨24, _⟩ => ⟨S4x1x384, .f32⟩
  | .hbm, ⟨25, _⟩ => ⟨S4x6x64x1x64, .f32⟩
  | .hbm, ⟨26, _⟩ => ⟨S6x6, .i32⟩
  | .hbm, ⟨27, _⟩ => ⟨S6x6, .i32⟩
  | .hbm, ⟨28, _⟩ => ⟨S_, .i32⟩
  | .hbm, ⟨29, _⟩ => ⟨S6x6, .i32⟩
  | .hbm, ⟨30, _⟩ => ⟨S6x6, .i32⟩
  | .hbm, ⟨31, _⟩ => ⟨S6x6, .i1⟩
  | .hbm, ⟨32, _⟩ => ⟨S6x6, .f32⟩
  | .hbm, ⟨33, _⟩ => ⟨S1x6x1x6x1, .f32⟩
  | .hbm, ⟨34, _⟩ => ⟨S4x6x64x6x64, .f32⟩
  | .hbm, ⟨35, _⟩ => ⟨S4x6x64x6x64, .f32⟩
  | .hbm, ⟨36, _⟩ => ⟨S4x6x64x6x64, .f32⟩
  | .hbm, ⟨37, _⟩ => ⟨S4x384x384, .f32⟩
  | .hbm, ⟨38, _⟩ => ⟨S4x384x384, .bf16⟩
  | .hbm, ⟨39, _⟩ => ⟨S4x1x384, .f32⟩
  | .hbm, ⟨40, _⟩ => ⟨S4x6x64x1x64, .f32⟩
  | .hbm, ⟨41, _⟩ => ⟨S6x6, .i32⟩
  | .hbm, ⟨42, _⟩ => ⟨S6x6, .i32⟩
  | .hbm, ⟨43, _⟩ => ⟨S_, .i32⟩
  | .hbm, ⟨44, _⟩ => ⟨S6x6, .i32⟩
  | .hbm, ⟨45, _⟩ => ⟨S6x6, .i32⟩
  | .hbm, ⟨46, _⟩ => ⟨S6x6, .i1⟩
  | .hbm, ⟨47, _⟩ => ⟨S6x6, .f32⟩
  | .hbm, ⟨48, _⟩ => ⟨S1x6x1x6x1, .f32⟩
  | .hbm, ⟨49, _⟩ => ⟨S4x6x64x6x64, .f32⟩
  | .hbm, ⟨50, _⟩ => ⟨S4x6x64x6x64, .f32⟩
  | .hbm, ⟨51, _⟩ => ⟨S4x6x64x6x64, .f32⟩
  | .hbm, ⟨52, _⟩ => ⟨S4x384x384, .f32⟩
  | .hbm, ⟨53, _⟩ => ⟨S4x384x384, .bf16⟩
  | .hbm, ⟨54, _⟩ => ⟨S4x1x384, .f32⟩
  | .hbm, ⟨55, _⟩ => ⟨S4x1x384, .f32⟩
  | .hbm, ⟨56, _⟩ => ⟨S8192x384, .bf16⟩
  | .hbm, ⟨57, _⟩ => ⟨S8192x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S1x4x384, .f32⟩
  | .local _ .vmem, ⟨5, _⟩ => ⟨S1x1x384, .f32⟩
  | .local _ .vmem, ⟨6, _⟩ => ⟨S1x384x384, .bf16⟩
  | .local _ .vmem, ⟨7, _⟩ => ⟨S1x1x384, .f32⟩
  | .local _ .vmem, ⟨8, _⟩ => ⟨S1x384x384, .bf16⟩
  | .local _ .vmem, ⟨9, _⟩ => ⟨S1x1x384, .f32⟩
  | .local _ .vmem, ⟨10, _⟩ => ⟨S1x1x384, .f32⟩
  | .local _ .vmem, ⟨11, _⟩ => ⟨S512x384, .bf16⟩
  | .local _ .vmem, ⟨12, _⟩ => ⟨S512x384, .bf16⟩
  | .local _ .vmem, ⟨13, _⟩ => ⟨S512x384, .f32⟩
  | .local _ .vmem, ⟨14, _⟩ => ⟨S512x384, .f32⟩
  | .local _ .vmem, ⟨15, _⟩ => ⟨S8x384, .f32⟩
  | .local _ .vmem, ⟨16, _⟩ => ⟨S1x384, .f32⟩
  | _, _ => ⟨S8192x2336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_1 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LruFwdRefIdeal.lean ====
abbrev S8192x2336 : Shape := ⟨2, ![8192, 2336]⟩
abbrev S4x4x384 : Shape := ⟨3, ![4, 4, 384]⟩
abbrev S4x384 : Shape := ⟨2, ![4, 384]⟩
abbrev S4x6x64x64 : Shape := ⟨4, ![4, 6, 64, 64]⟩
abbrev S8192x384 : Shape := ⟨2, ![8192, 384]⟩
abbrev S1x4x384 : Shape := ⟨3, ![1, 4, 384]⟩
abbrev S1x384 : Shape := ⟨2, ![1, 384]⟩
abbrev S384 : Shape := ⟨1, ![384]⟩
abbrev S_ : Shape := ⟨0, ![]⟩
abbrev S3x384 : Shape := ⟨2, ![3, 384]⟩
abbrev S8195x384 : Shape := ⟨2, ![8195, 384]⟩
abbrev S1x6x64x64 : Shape := ⟨4, ![1, 6, 64, 64]⟩
abbrev S6x64x64 : Shape := ⟨3, ![6, 64, 64]⟩
abbrev S8192x6x64 : Shape := ⟨3, ![8192, 6, 64]⟩
abbrev S6x64x8192 : Shape := ⟨3, ![6, 64, 8192]⟩
abbrev S4096x384 : Shape := ⟨2, ![4096, 384]⟩
abbrev S2048x384 : Shape := ⟨2, ![2048, 384]⟩
abbrev S1024x384 : Shape := ⟨2, ![1024, 384]⟩
abbrev S512x384 : Shape := ⟨2, ![512, 384]⟩
abbrev S256x384 : Shape := ⟨2, ![256, 384]⟩
abbrev S128x384 : Shape := ⟨2, ![128, 384]⟩
abbrev S64x384 : Shape := ⟨2, ![64, 384]⟩
abbrev S32x384 : Shape := ⟨2, ![32, 384]⟩
abbrev S16x384 : Shape := ⟨2, ![16, 384]⟩
abbrev S8x384 : Shape := ⟨2, ![8, 384]⟩
abbrev S2x384 : Shape := ⟨2, ![2, 384]⟩
abbrev S0x384 : Shape := ⟨2, ![0, 384]⟩
abbrev S1x768 : Shape := ⟨2, ![1, 768]⟩
abbrev S2x768 : Shape := ⟨2, ![2, 768]⟩
abbrev S4x768 : Shape := ⟨2, ![4, 768]⟩
abbrev S7x384 : Shape := ⟨2, ![7, 384]⟩
abbrev S8x768 : Shape := ⟨2, ![8, 768]⟩
abbrev S15x384 : Shape := ⟨2, ![15, 384]⟩
abbrev S16x768 : Shape := ⟨2, ![16, 768]⟩
abbrev S31x384 : Shape := ⟨2, ![31, 384]⟩
abbrev S32x768 : Shape := ⟨2, ![32, 768]⟩
abbrev S63x384 : Shape := ⟨2, ![63, 384]⟩
abbrev S64x768 : Shape := ⟨2, ![64, 768]⟩
abbrev S127x384 : Shape := ⟨2, ![127, 384]⟩
abbrev S128x768 : Shape := ⟨2, ![128, 768]⟩
abbrev S255x384 : Shape := ⟨2, ![255, 384]⟩
abbrev S256x768 : Shape := ⟨2, ![256, 768]⟩
abbrev S511x384 : Shape := ⟨2, ![511, 384]⟩
abbrev S512x768 : Shape := ⟨2, ![512, 768]⟩
abbrev S1023x384 : Shape := ⟨2, ![1023, 384]⟩
abbrev S1024x768 : Shape := ⟨2, ![1024, 768]⟩
abbrev S2047x384 : Shape := ⟨2, ![2047, 384]⟩
abbrev S2048x768 : Shape := ⟨2, ![2048, 768]⟩
abbrev S4095x384 : Shape := ⟨2, ![4095, 384]⟩
abbrev S4096x768 : Shape := ⟨2, ![4096, 768]⟩

abbrev nBuf : Space → Nat
  | .hbm => 413
  | .vmem => 0
  | .smem => 0
  | _ => 0

abbrev hbmTy0_0 (i : Nat) : BufTy := match i % 128 with
  | 0 => ⟨S8192x2336, .f32⟩
  | 1 => ⟨S4x4x384, .f32⟩
  | 2 => ⟨S4x384, .f32⟩
  | 3 => ⟨S4x6x64x64, .f32⟩
  | 4 => ⟨S4x384, .f32⟩
  | 5 => ⟨S4x6x64x64, .f32⟩
  | 6 => ⟨S4x384, .f32⟩
  | 7 => ⟨S4x384, .f32⟩
  | 8 => ⟨S8192x384, .f32⟩
  | 9 => ⟨S1x4x384, .f32⟩
  | 10 => ⟨S4x384, .f32⟩
  | 11 => ⟨S1x384, .f32⟩
  | 12 => ⟨S384, .f32⟩
  | 13 => ⟨S_, .f32⟩
  | 14 => ⟨S3x384, .f32⟩
  | 15 => ⟨S8195x384, .f32⟩
  | 16 => ⟨S8192x384, .f32⟩
  | 17 => ⟨S1x384, .f32⟩
  | 18 => ⟨S384, .f32⟩
  | 19 => ⟨S1x384, .f32⟩
  | 20 => ⟨S8192x384, .f32⟩
  | 21 => ⟨S8192x384, .f32⟩
  | 22 => ⟨S1x384, .f32⟩
  | 23 => ⟨S8192x384, .f32⟩
  | 24 => ⟨S8192x384, .f32⟩
  | 25 => ⟨S8192x384, .f32⟩
  | 26 => ⟨S1x384, .f32⟩
  | 27 => ⟨S384, .f32⟩
  | 28 => ⟨S1x384, .f32⟩
  | 29 => ⟨S8192x384, .f32⟩
  | 30 => ⟨S8192x384, .f32⟩
  | 31 => ⟨S8192x384, .f32⟩
  | 32 => ⟨S8192x384, .f32⟩
  | 33 => ⟨S1x384, .f32⟩
  | 34 => ⟨S384, .f32⟩
  | 35 => ⟨S1x384, .f32⟩
  | 36 => ⟨S8192x384, .f32⟩
  | 37 => ⟨S8192x384, .f32⟩
  | 38 => ⟨S8192x384, .f32⟩
  | 39 => ⟨S8192x384, .f32⟩
  | 40 => ⟨S1x384, .f32⟩
  | 41 => ⟨S384, .f32⟩
  | 42 => ⟨S1x384, .f32⟩
  | 43 => ⟨S8192x384, .f32⟩
  | 44 => ⟨S8192x384, .f32⟩
  | 45 => ⟨S8192x384, .f32⟩
  | 46 => ⟨S1x6x64x64, .f32⟩
  | 47 => ⟨S6x64x64, .f32⟩
  | 48 => ⟨S1x384, .f32⟩
  | 49 => ⟨S384, .f32⟩
  | 50 => ⟨S1x6x64x64, .f32⟩
  | 51 => ⟨S6x64x64, .f32⟩
  | 52 => ⟨S1x384, .f32⟩
  | 53 => ⟨S384, .f32⟩
  | 54 => ⟨S1x384, .f32⟩
  | 55 => ⟨S384, .f32⟩
  | 56 => ⟨S8192x6x64, .f32⟩
  | 57 => ⟨S6x64x8192, .f32⟩
  | 58 => ⟨S8192x6x64, .f32⟩
  | 59 => ⟨S8192x384, .f32⟩
  | 60 => ⟨S1x384, .f32⟩
  | 61 => ⟨S8192x384, .f32⟩
  | 62 => ⟨S8192x384, .f32⟩
  | 63 => ⟨S8192x384, .f32⟩
  | 64 => ⟨S8192x384, .f32⟩
  | 65 => ⟨S_, .f32⟩
  | 66 => ⟨S8192x384, .f32⟩
  | 67 => ⟨S8192x384, .f32⟩
  | 68 => ⟨S_, .f32⟩
  | 69 => ⟨S8192x384, .f32⟩
  | 70 => ⟨S8192x384, .f32⟩
  | 71 => ⟨S6x64x8192, .f32⟩
  | 72 => ⟨S8192x6x64, .f32⟩
  | 73 => ⟨S8192x384, .f32⟩
  | 74 => ⟨S1x384, .f32⟩
  | 75 => ⟨S8192x384, .f32⟩
  | 76 => ⟨S8192x384, .f32⟩
  | 77 => ⟨S8192x384, .f32⟩
  | 78 => ⟨S8192x384, .f32⟩
  | 79 => ⟨S_, .f32⟩
  | 80 => ⟨S8192x384, .f32⟩
  | 81 => ⟨S8192x384, .f32⟩
  | 82 => ⟨S_, .f32⟩
  | 83 => ⟨S8192x384, .f32⟩
  | 84 => ⟨S8192x384, .f32⟩
  | 85 => ⟨S_, .f32⟩
  | 86 => ⟨S8192x384, .f32⟩
  | 87 => ⟨S8192x384, .f32⟩
  | 88 => ⟨S384, .f32⟩
  | 89 => ⟨S_, .f32⟩
  | 90 => ⟨S384, .f32⟩
  | 91 => ⟨S384, .f32⟩
  | 92 => ⟨S384, .f32⟩
  | 93 => ⟨S384, .f32⟩
  | 94 => ⟨S384, .i1⟩
  | 95 => ⟨S384, .f32⟩
  | 96 => ⟨S384, .f32⟩
  | 97 => ⟨S384, .f32⟩
  | 98 => ⟨S384, .f32⟩
  | 99 => ⟨S384, .f32⟩
  | 100 => ⟨S384, .f32⟩
  | 101 => ⟨S384, .f32⟩
  | 102 => ⟨S384, .f32⟩
  | 103 => ⟨S1x384, .f32⟩
  | 104 => ⟨S8192x384, .f32⟩
  | 105 => ⟨S8192x384, .f32⟩
  | 106 => ⟨S8192x384, .f32⟩
  | 107 => ⟨S_, .f32⟩
  | 108 => ⟨S8192x384, .f32⟩
  | 109 => ⟨S8192x384, .f32⟩
  | 110 => ⟨S8192x384, .f32⟩
  | 111 => ⟨S8192x384, .f32⟩
  | 112 => ⟨S8192x384, .f32⟩
  | 113 => ⟨S8192x384, .f32⟩
  | 114 => ⟨S8192x384, .f32⟩
  | 115 => ⟨S4096x384, .f32⟩
  | 116 => ⟨S4096x384, .f32⟩
  | 117 => ⟨S4096x384, .f32⟩
  | 118 => ⟨S4096x384, .f32⟩
  | 119 => ⟨S4096x384, .f32⟩
  | 120 => ⟨S4096x384, .f32⟩
  | 121 => ⟨S4096x384, .f32⟩
  | 122 => ⟨S2048x384, .f32⟩
  | 123 => ⟨S2048x384, .f32⟩
  | 124 => ⟨S2048x384, .f32⟩
  | 125 => ⟨S2048x384, .f32⟩
  | 126 => ⟨S2048x384, .f32⟩
  | 127 => ⟨S2048x384, .f32⟩
  | _ => ⟨S8192x2336, .f32⟩

abbrev hbmTy0_1 (i : Nat) : BufTy := match i % 128 with
  | 0 => ⟨S2048x384, .f32⟩
  | 1 => ⟨S1024x384, .f32⟩
  | 2 => ⟨S1024x384, .f32⟩
  | 3 => ⟨S1024x384, .f32⟩
  | 4 => ⟨S1024x384, .f32⟩
  | 5 => ⟨S1024x384, .f32⟩
  | 6 => ⟨S1024x384, .f32⟩
  | 7 => ⟨S1024x384, .f32⟩
  | 8 => ⟨S512x384, .f32⟩
  | 9 => ⟨S512x384, .f32⟩
  | 10 => ⟨S512x384, .f32⟩
  | 11 => ⟨S512x384, .f32⟩
  | 12 => ⟨S512x384, .f32⟩
  | 13 => ⟨S512x384, .f32⟩
  | 14 => ⟨S512x384, .f32⟩
  | 15 => ⟨S256x384, .f32⟩
  | 16 => ⟨S256x384, .f32⟩
  | 17 => ⟨S256x384, .f32⟩
  | 18 => ⟨S256x384, .f32⟩
  | 19 => ⟨S256x384, .f32⟩
  | 20 => ⟨S256x384, .f32⟩
  | 21 => ⟨S256x384, .f32⟩
  | 22 => ⟨S128x384, .f32⟩
  | 23 => ⟨S128x384, .f32⟩
  | 24 => ⟨S128x384, .f32⟩
  | 25 => ⟨S128x384, .f32⟩
  | 26 => ⟨S128x384, .f32⟩
  | 27 => ⟨S128x384, .f32⟩
  | 28 => ⟨S128x384, .f32⟩
  | 29 => ⟨S64x384, .f32⟩
  | 30 => ⟨S64x384, .f32⟩
  | 31 => ⟨S64x384, .f32⟩
  | 32 => ⟨S64x384, .f32⟩
  | 33 => ⟨S64x384, .f32⟩
  | 34 => ⟨S64x384, .f32⟩
  | 35 => ⟨S64x384, .f32⟩
  | 36 => ⟨S32x384, .f32⟩
  | 37 => ⟨S32x384, .f32⟩
  | 38 => ⟨S32x384, .f32⟩
  | 39 => ⟨S32x384, .f32⟩
  | 40 => ⟨S32x384, .f32⟩
  | 41 => ⟨S32x384, .f32⟩
  | 42 => ⟨S32x384, .f32⟩
  | 43 => ⟨S16x384, .f32⟩
  | 44 => ⟨S16x384, .f32⟩
  | 45 => ⟨S16x384, .f32⟩
  | 46 => ⟨S16x384, .f32⟩
  | 47 => ⟨S16x384, .f32⟩
  | 48 => ⟨S16x384, .f32⟩
  | 49 => ⟨S16x384, .f32⟩
  | 50 => ⟨S8x384, .f32⟩
  | 51 => ⟨S8x384, .f32⟩
  | 52 => ⟨S8x384, .f32⟩
  | 53 => ⟨S8x384, .f32⟩
  | 54 => ⟨S8x384, .f32⟩
  | 55 => ⟨S8x384, .f32⟩
  | 56 => ⟨S8x384, .f32⟩
  | 57 => ⟨S4x384, .f32⟩
  | 58 => ⟨S4x384, .f32⟩
  | 59 => ⟨S4x384, .f32⟩
  | 60 => ⟨S4x384, .f32⟩
  | 61 => ⟨S4x384, .f32⟩
  | 62 => ⟨S4x384, .f32⟩
  | 63 => ⟨S4x384, .f32⟩
  | 64 => ⟨S2x384, .f32⟩
  | 65 => ⟨S2x384, .f32⟩
  | 66 => ⟨S2x384, .f32⟩
  | 67 => ⟨S2x384, .f32⟩
  | 68 => ⟨S2x384, .f32⟩
  | 69 => ⟨S2x384, .f32⟩
  | 70 => ⟨S2x384, .f32⟩
  | 71 => ⟨S1x384, .f32⟩
  | 72 => ⟨S1x384, .f32⟩
  | 73 => ⟨S1x384, .f32⟩
  | 74 => ⟨S1x384, .f32⟩
  | 75 => ⟨S1x384, .f32⟩
  | 76 => ⟨S1x384, .f32⟩
  | 77 => ⟨S1x384, .f32⟩
  | 78 => ⟨S0x384, .f32⟩
  | 79 => ⟨S0x384, .f32⟩
  | 80 => ⟨S0x384, .f32⟩
  | 81 => ⟨S0x384, .f32⟩
  | 82 => ⟨S0x384, .f32⟩
  | 83 => ⟨S0x384, .f32⟩
  | 84 => ⟨S0x384, .f32⟩
  | 85 => ⟨S1x384, .f32⟩
  | 86 => ⟨S1x384, .f32⟩
  | 87 => ⟨S1x384, .f32⟩
  | 88 => ⟨S1x384, .f32⟩
  | 89 => ⟨S1x768, .f32⟩
  | 90 => ⟨S2x384, .f32⟩
  | 91 => ⟨S1x768, .f32⟩
  | 92 => ⟨S2x384, .f32⟩
  | 93 => ⟨S1x384, .f32⟩
  | 94 => ⟨S1x384, .f32⟩
  | 95 => ⟨S1x384, .f32⟩
  | 96 => ⟨S1x384, .f32⟩
  | 97 => ⟨S1x384, .f32⟩
  | 98 => ⟨S1x384, .f32⟩
  | 99 => ⟨S1x384, .f32⟩
  | 100 => ⟨S1x384, .f32⟩
  | 101 => ⟨S2x384, .f32⟩
  | 102 => ⟨S1x384, .f32⟩
  | 103 => ⟨S2x384, .f32⟩
  | 104 => ⟨S2x768, .f32⟩
  | 105 => ⟨S4x384, .f32⟩
  | 106 => ⟨S2x768, .f32⟩
  | 107 => ⟨S4x384, .f32⟩
  | 108 => ⟨S3x384, .f32⟩
  | 109 => ⟨S3x384, .f32⟩
  | 110 => ⟨S3x384, .f32⟩
  | 111 => ⟨S3x384, .f32⟩
  | 112 => ⟨S3x384, .f32⟩
  | 113 => ⟨S3x384, .f32⟩
  | 114 => ⟨S3x384, .f32⟩
  | 115 => ⟨S1x384, .f32⟩
  | 116 => ⟨S4x384, .f32⟩
  | 117 => ⟨S1x384, .f32⟩
  | 118 => ⟨S4x384, .f32⟩
  | 119 => ⟨S4x768, .f32⟩
  | 120 => ⟨S8x384, .f32⟩
  | 121 => ⟨S4x768, .f32⟩
  | 122 => ⟨S8x384, .f32⟩
  | 123 => ⟨S7x384, .f32⟩
  | 124 => ⟨S7x384, .f32⟩
  | 125 => ⟨S7x384, .f32⟩
  | 126 => ⟨S7x384, .f32⟩
  | 127 => ⟨S7x384, .f32⟩
  | _ => ⟨S8192x2336, .f32⟩

abbrev hbmTy0_2 (i : Nat) : BufTy := match i % 128 with
  | 0 => ⟨S7x384, .f32⟩
  | 1 => ⟨S7x384, .f32⟩
  | 2 => ⟨S1x384, .f32⟩
  | 3 => ⟨S8x384, .f32⟩
  | 4 => ⟨S1x384, .f32⟩
  | 5 => ⟨S8x384, .f32⟩
  | 6 => ⟨S8x768, .f32⟩
  | 7 => ⟨S16x384, .f32⟩
  | 8 => ⟨S8x768, .f32⟩
  | 9 => ⟨S16x384, .f32⟩
  | 10 => ⟨S15x384, .f32⟩
  | 11 => ⟨S15x384, .f32⟩
  | 12 => ⟨S15x384, .f32⟩
  | 13 => ⟨S15x384, .f32⟩
  | 14 => ⟨S15x384, .f32⟩
  | 15 => ⟨S15x384, .f32⟩
  | 16 => ⟨S15x384, .f32⟩
  | 17 => ⟨S1x384, .f32⟩
  | 18 => ⟨S16x384, .f32⟩
  | 19 => ⟨S1x384, .f32⟩
  | 20 => ⟨S16x384, .f32⟩
  | 21 => ⟨S16x768, .f32⟩
  | 22 => ⟨S32x384, .f32⟩
  | 23 => ⟨S16x768, .f32⟩
  | 24 => ⟨S32x384, .f32⟩
  | 25 => ⟨S31x384, .f32⟩
  | 26 => ⟨S31x384, .f32⟩
  | 27 => ⟨S31x384, .f32⟩
  | 28 => ⟨S31x384, .f32⟩
  | 29 => ⟨S31x384, .f32⟩
  | 30 => ⟨S31x384, .f32⟩
  | 31 => ⟨S31x384, .f32⟩
  | 32 => ⟨S1x384, .f32⟩
  | 33 => ⟨S32x384, .f32⟩
  | 34 => ⟨S1x384, .f32⟩
  | 35 => ⟨S32x384, .f32⟩
  | 36 => ⟨S32x768, .f32⟩
  | 37 => ⟨S64x384, .f32⟩
  | 38 => ⟨S32x768, .f32⟩
  | 39 => ⟨S64x384, .f32⟩
  | 40 => ⟨S63x384, .f32⟩
  | 41 => ⟨S63x384, .f32⟩
  | 42 => ⟨S63x384, .f32⟩
  | 43 => ⟨S63x384, .f32⟩
  | 44 => ⟨S63x384, .f32⟩
  | 45 => ⟨S63x384, .f32⟩
  | 46 => ⟨S63x384, .f32⟩
  | 47 => ⟨S1x384, .f32⟩
  | 48 => ⟨S64x384, .f32⟩
  | 49 => ⟨S1x384, .f32⟩
  | 50 => ⟨S64x384, .f32⟩
  | 51 => ⟨S64x768, .f32⟩
  | 52 => ⟨S128x384, .f32⟩
  | 53 => ⟨S64x768, .f32⟩
  | 54 => ⟨S128x384, .f32⟩
  | 55 => ⟨S127x384, .f32⟩
  | 56 => ⟨S127x384, .f32⟩
  | 57 => ⟨S127x384, .f32⟩
  | 58 => ⟨S127x384, .f32⟩
  | 59 => ⟨S127x384, .f32⟩
  | 60 => ⟨S127x384, .f32⟩
  | 61 => ⟨S127x384, .f32⟩
  | 62 => ⟨S1x384, .f32⟩
  | 63 => ⟨S128x384, .f32⟩
  | 64 => ⟨S1x384, .f32⟩
  | 65 => ⟨S128x384, .f32⟩
  | 66 => ⟨S128x768, .f32⟩
  | 67 => ⟨S256x384, .f32⟩
  | 68 => ⟨S128x768, .f32⟩
  | 69 => ⟨S256x384, .f32⟩
  | 70 => ⟨S255x384, .f32⟩
  | 71 => ⟨S255x384, .f32⟩
  | 72 => ⟨S255x384, .f32⟩
  | 73 => ⟨S255x384, .f32⟩
  | 74 => ⟨S255x384, .f32⟩
  | 75 => ⟨S255x384, .f32⟩
  | 76 => ⟨S255x384, .f32⟩
  | 77 => ⟨S1x384, .f32⟩
  | 78 => ⟨S256x384, .f32⟩
  | 79 => ⟨S1x384, .f32⟩
  | 80 => ⟨S256x384, .f32⟩
  | 81 => ⟨S256x768, .f32⟩
  | 82 => ⟨S512x384, .f32⟩
  | 83 => ⟨S256x768, .f32⟩
  | 84 => ⟨S512x384, .f32⟩
  | 85 => ⟨S511x384, .f32⟩
  | 86 => ⟨S511x384, .f32⟩
  | 87 => ⟨S511x384, .f32⟩
  | 88 => ⟨S511x384, .f32⟩
  | 89 => ⟨S511x384, .f32⟩
  | 90 => ⟨S511x384, .f32⟩
  | 91 => ⟨S511x384, .f32⟩
  | 92 => ⟨S1x384, .f32⟩
  | 93 => ⟨S512x384, .f32⟩
  | 94 => ⟨S1x384, .f32⟩
  | 95 => ⟨S512x384, .f32⟩
  | 96 => ⟨S512x768, .f32⟩
  | 97 => ⟨S1024x384, .f32⟩
  | 98 => ⟨S512x768, .f32⟩
  | 99 => ⟨S1024x384, .f32⟩
  | 100 => ⟨S1023x384, .f32⟩
  | 101 => ⟨S1023x384, .f32⟩
  | 102 => ⟨S1023x384, .f32⟩
  | 103 => ⟨S1023x384, .f32⟩
  | 104 => ⟨S1023x384, .f32⟩
  | 105 => ⟨S1023x384, .f32⟩
  | 106 => ⟨S1023x384, .f32⟩
  | 107 => ⟨S1x384, .f32⟩
  | 108 => ⟨S1024x384, .f32⟩
  | 109 => ⟨S1x384, .f32⟩
  | 110 => ⟨S1024x384, .f32⟩
  | 111 => ⟨S1024x768, .f32⟩
  | 112 => ⟨S2048x384, .f32⟩
  | 113 => ⟨S1024x768, .f32⟩
  | 114 => ⟨S2048x384, .f32⟩
  | 115 => ⟨S2047x384, .f32⟩
  | 116 => ⟨S2047x384, .f32⟩
  | 117 => ⟨S2047x384, .f32⟩
  | 118 => ⟨S2047x384, .f32⟩
  | 119 => ⟨S2047x384, .f32⟩
  | 120 => ⟨S2047x384, .f32⟩
  | 121 => ⟨S2047x384, .f32⟩
  | 122 => ⟨S1x384, .f32⟩
  | 123 => ⟨S2048x384, .f32⟩
  | 124 => ⟨S1x384, .f32⟩
  | 125 => ⟨S2048x384, .f32⟩
  | 126 => ⟨S2048x768, .f32⟩
  | 127 => ⟨S4096x384, .f32⟩
  | _ => ⟨S8192x2336, .f32⟩

abbrev hbmTy0_3 (i : Nat) : BufTy := match i % 128 with
  | 0 => ⟨S2048x768, .f32⟩
  | 1 => ⟨S4096x384, .f32⟩
  | 2 => ⟨S4095x384, .f32⟩
  | 3 => ⟨S4095x384, .f32⟩
  | 4 => ⟨S4095x384, .f32⟩
  | 5 => ⟨S4095x384, .f32⟩
  | 6 => ⟨S4095x384, .f32⟩
  | 7 => ⟨S4095x384, .f32⟩
  | 8 => ⟨S4095x384, .f32⟩
  | 9 => ⟨S1x384, .f32⟩
  | 10 => ⟨S4096x384, .f32⟩
  | 11 => ⟨S1x384, .f32⟩
  | 12 => ⟨S4096x384, .f32⟩
  | 13 => ⟨S4096x768, .f32⟩
  | 14 => ⟨S8192x384, .f32⟩
  | 15 => ⟨S4096x768, .f32⟩
  | 16 => ⟨S8192x384, .f32⟩
  | 17 => ⟨S8192x384, .f32⟩
  | 18 => ⟨S8192x384, .f32⟩
  | 19 => ⟨S8192x384, .f32⟩
  | 20 => ⟨S_, .f32⟩
  | 21 => ⟨S8192x384, .f32⟩
  | 22 => ⟨S8192x384, .f32⟩
  | 23 => ⟨S_, .f32⟩
  | 24 => ⟨S8192x384, .f32⟩
  | 25 => ⟨S8192x384, .f32⟩
  | 26 => ⟨S8192x384, .f32⟩
  | 27 => ⟨S8192x384, .f32⟩
  | 28 => ⟨S8192x384, .bf16⟩
  | _ => ⟨S8192x2336, .f32⟩

abbrev hbmTy (i : Nat) : BufTy := match i / 128 with
  | 0 => hbmTy0_0 i
  | 1 => hbmTy0_1 i
  | 2 => hbmTy0_2 i
  | 3 => hbmTy0_3 i
  | _ => ⟨S8192x2336, .f32⟩

abbrev bufTy : (tb : Table) → Fin (tcTables nBuf tb) → BufTy
  | .hbm, ⟨i, _⟩ => hbmTy i
  | _, _ => ⟨S8192x2336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_0 : Ref sig .tc := ⟨.hbm, 65, rfl⟩
abbrev main_v56 : Ref sig .tc := ⟨.hbm, 66, rfl⟩
abbrev main_v57 : Ref sig .tc := ⟨.hbm, 67, rfl⟩
abbrev main_cst_1 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_2 : Ref sig .tc := ⟨.hbm, 79, rfl⟩
abbrev main_v68 : Ref sig .tc := ⟨.hbm, 80, rfl⟩
abbrev main_v69 : Ref sig .tc := ⟨.hbm, 81, rfl⟩
abbrev main_cst_3 : Ref sig .tc := ⟨.hbm, 82, rfl⟩
abbrev main_v70 : Ref sig .tc := ⟨.hbm, 83, rfl⟩
abbrev main_v71 : Ref sig .tc := ⟨.hbm, 84, rfl⟩
abbrev main_cst_4 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_5 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_v215 : Ref sig .tc := ⟨.hbm, 243, rfl⟩
abbrev main_v216 : Ref sig .tc := ⟨.hbm, 244, rfl⟩
abbrev main_v217 : Ref sig .tc := ⟨.hbm, 245, rfl⟩
abbrev main_v218 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_v235 : Ref sig .tc := ⟨.hbm, 263, rfl⟩
abbrev main_v236 : Ref sig .tc := ⟨.hbm, 264, rfl⟩
abbrev main_v237 : Ref sig .tc := ⟨.hbm, 265, rfl⟩
abbrev main_v238 : Ref sig .tc := ⟨.hbm, 266, rfl⟩
abbrev main_v239 : Ref sig .tc := ⟨.hbm, 267, rfl⟩
abbrev main_v240 : Ref sig .tc := ⟨.hbm, 268, rfl⟩
abbrev main_v241 : Ref sig .tc := ⟨.hbm, 269, rfl⟩
abbrev main_v242 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_v255 : Ref sig .tc := ⟨.hbm, 283, rfl⟩
abbrev main_v256 : Ref sig .tc := ⟨.hbm, 284, rfl⟩
abbrev main_v257 : Ref sig .tc := ⟨.hbm, 285, rfl⟩
abbrev main_v258 : Ref sig .tc := ⟨.hbm, 286, rfl⟩
abbrev main_v259 : Ref sig .tc := ⟨.hbm, 287, rfl⟩
abbrev main_v260 : Ref sig .tc := ⟨.hbm, 288, rfl⟩
abbrev main_v261 : Ref sig .tc := ⟨.hbm, 289, rfl⟩
abbrev main_v262 : Ref sig .tc := ⟨.hbm, 290, rfl⟩
abbrev main_v263 : Ref sig .tc := ⟨.hbm, 291, rfl⟩
abbrev main_v264 : Ref sig .tc := ⟨.hbm, 292, rfl⟩
abbrev main_v265 : Ref sig .tc := ⟨.hbm, 293, rfl⟩
abbrev main_v266 : Ref sig .tc := ⟨.hbm, 294, rfl⟩
abbrev main_v267 : Ref sig .tc := ⟨.hbm, 295, rfl⟩
abbrev main_v268 : Ref sig .tc := ⟨.hbm, 296, rfl⟩
abbrev main_v269 : Ref sig .tc := ⟨.hbm, 297, rfl⟩
abbrev main_v270 : Ref sig .tc := ⟨.hbm, 298, rfl⟩
abbrev main_v271 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_v280 : Ref sig .tc := ⟨.hbm, 308, rfl⟩
abbrev main_v281 : Ref sig .tc := ⟨.hbm, 309, rfl⟩
abbrev main_v282 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_v287 : Ref sig .tc := ⟨.hbm, 315, rfl⟩
abbrev main_v288 : Ref sig .tc := ⟨.hbm, 316, rfl⟩
abbrev main_v289 : Ref sig .tc := ⟨.hbm, 317, rfl⟩
abbrev main_v290 : Ref sig .tc := ⟨.hbm, 318, rfl⟩
abbrev main_v291 : Ref sig .tc := ⟨.hbm, 319, rfl⟩
abbrev main_v292 : Ref sig .tc := ⟨.hbm, 320, rfl⟩
abbrev main_v293 : Ref sig .tc := ⟨.hbm, 321, rfl⟩
abbrev main_v294 : Ref sig .tc := ⟨.hbm, 322, rfl⟩
abbrev main_v295 : Ref sig .tc := ⟨.hbm, 323, rfl⟩
abbrev main_v296 : Ref sig .tc := ⟨.hbm, 324, rfl⟩
abbrev main_v297 : Ref sig .tc := ⟨.hbm, 325, rfl⟩
abbrev main_v298 : Ref sig .tc := ⟨.hbm, 326, rfl⟩
abbrev main_v299 : Ref sig .tc := ⟨.hbm, 327, rfl⟩
abbrev main_v300 : Ref sig .tc := ⟨.hbm, 328, rfl⟩
abbrev main_v301 : Ref sig .tc := ⟨.hbm, 329, rfl⟩
abbrev main_v302 : Ref sig .tc := ⟨.hbm, 330, rfl⟩
abbrev main_v303 : Ref sig .tc := ⟨.hbm, 331, rfl⟩
abbrev main_v304 : Ref sig .tc := ⟨.hbm, 332, rfl⟩
abbrev main_v305 : Ref sig .tc := ⟨.hbm, 333, rfl⟩
abbrev main_v306 : Ref sig .tc := ⟨.hbm, 334, rfl⟩
abbrev main_v307 : Ref sig .tc := ⟨.hbm, 335, rfl⟩
abbrev main_v308 : Ref sig .tc := ⟨.hbm, 336, rfl⟩
abbrev main_v309 : Ref sig .tc := ⟨.hbm, 337, rfl⟩
abbrev main_v310 : Ref sig .tc := ⟨.hbm, 338, rfl⟩
abbrev main_v311 : Ref sig .tc := ⟨.hbm, 339, rfl⟩
abbrev main_v312 : Ref sig .tc := ⟨.hbm, 340, rfl⟩
abbrev main_v313 : Ref sig .tc := ⟨.hbm, 341, rfl⟩
abbrev main_v314 : Ref sig .tc := ⟨.hbm, 342, rfl⟩
abbrev main_v315 : Ref sig .tc := ⟨.hbm, 343, rfl⟩
abbrev main_v316 : Ref sig .tc := ⟨.hbm, 344, rfl⟩
abbrev main_v317 : Ref sig .tc := ⟨.hbm, 345, rfl⟩
abbrev main_v318 : Ref sig .tc := ⟨.hbm, 346, rfl⟩
abbrev main_v319 : Ref sig .tc := ⟨.hbm, 347, rfl⟩
abbrev main_v320 : Ref sig .tc := ⟨.hbm, 348, rfl⟩
abbrev main_v321 : Ref sig .tc := ⟨.hbm, 349, rfl⟩
abbrev main_v322 : Ref sig .tc := ⟨.hbm, 350, rfl⟩
abbrev main_v323 : Ref sig .tc := ⟨.hbm, 351, rfl⟩
abbrev main_v324 : Ref sig .tc := ⟨.hbm, 352, rfl⟩
abbrev main_v325 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_v331 : Ref sig .tc := ⟨.hbm, 359, rfl⟩
abbrev main_v332 : Ref sig .tc := ⟨.hbm, 360, rfl⟩
abbrev main_v333 : Ref sig .tc := ⟨.hbm, 361, rfl⟩
abbrev main_v334 : Ref sig .tc := ⟨.hbm, 362, rfl⟩
abbrev main_v335 : Ref sig .tc := ⟨.hbm, 363, rfl⟩
abbrev main_v336 : Ref sig .tc := ⟨.hbm, 364, rfl⟩
abbrev main_v337 : Ref sig .tc := ⟨.hbm, 365, rfl⟩
abbrev main_v338 : Ref sig .tc := ⟨.hbm, 366, rfl⟩
abbrev main_v339 : Ref sig .tc := ⟨.hbm, 367, rfl⟩
abbrev main_v340 : Ref sig .tc := ⟨.hbm, 368, rfl⟩
abbrev main_v341 : Ref sig .tc := ⟨.hbm, 369, rfl⟩
abbrev main_v342 : Ref sig .tc := ⟨.hbm, 370, rfl⟩
abbrev main_v343 : Ref sig .tc := ⟨.hbm, 371, rfl⟩
abbrev main_v344 : Ref sig .tc := ⟨.hbm, 372, rfl⟩
abbrev main_v345 : Ref sig .tc := ⟨.hbm, 373, rfl⟩
abbrev main_v346 : Ref sig .tc := ⟨.hbm, 374, rfl⟩
abbrev main_v347 : Ref sig .tc := ⟨.hbm, 375, rfl⟩
abbrev main_v348 : Ref sig .tc := ⟨.hbm, 376, rfl⟩
abbrev main_v349 : Ref sig .tc := ⟨.hbm, 377, rfl⟩
abbrev main_v350 : Ref sig .tc := ⟨.hbm, 378, rfl⟩
abbrev main_v351 : Ref sig .tc := ⟨.hbm, 379, rfl⟩
abbrev main_v352 : Ref sig .tc := ⟨.hbm, 380, rfl⟩
abbrev main_v353 : Ref sig .tc := ⟨.hbm, 381, rfl⟩
abbrev main_v354 : Ref sig .tc := ⟨.hbm, 382, rfl⟩
abbrev main_v355 : Ref sig .tc := ⟨.hbm, 383, rfl⟩
abbrev main_v356 : Ref sig .tc := ⟨.hbm, 384, rfl⟩
abbrev main_v357 : Ref sig .tc := ⟨.hbm, 385, rfl⟩
abbrev main_v358 : Ref sig .tc := ⟨.hbm, 386, rfl⟩
abbrev main_v359 : Ref sig .tc := ⟨.hbm, 387, rfl⟩
abbrev main_v360 : Ref sig .tc := ⟨.hbm, 388, rfl⟩
abbrev main_v361 : Ref sig .tc := ⟨.hbm, 389, rfl⟩
abbrev main_v362 : Ref sig .tc := ⟨.hbm, 390, rfl⟩
abbrev main_v363 : Ref sig .tc := ⟨.hbm, 391, rfl⟩
abbrev main_v364 : Ref sig .tc := ⟨.hbm, 392, rfl⟩
abbrev main_v365 : Ref sig .tc := ⟨.hbm, 393, rfl⟩
abbrev main_v366 : Ref sig .tc := ⟨.hbm, 394, rfl⟩
abbrev main_v367 : Ref sig .tc := ⟨.hbm, 395, rfl⟩
abbrev main_v368 : Ref sig .tc := ⟨.hbm, 396, rfl⟩
abbrev main_v369 : Ref sig .tc := ⟨.hbm, 397, rfl⟩
abbrev main_v370 : Ref sig .tc := ⟨.hbm, 398, rfl⟩
abbrev main_v371 : Ref sig .tc := ⟨.hbm, 399, rfl⟩
abbrev main_v372 : Ref sig .tc := ⟨.hbm, 400, rfl⟩
abbrev main_v373 : Ref sig .tc := ⟨.hbm, 401, rfl⟩
abbrev main_call1_v0 : Ref sig .tc := ⟨.hbm, 402, rfl⟩
abbrev main_call1_v1 : Ref sig .tc := ⟨.hbm, 403, rfl⟩
abbrev main_call1_cst : Ref sig .tc := ⟨.hbm, 404, rfl⟩
abbrev main_call1_v2 : Ref sig .tc := ⟨.hbm, 405, rfl⟩
abbrev main_call1_v3 : Ref sig .tc := ⟨.hbm, 406, rfl⟩
abbrev main_call1_cst_0 : Ref sig .tc := ⟨.hbm, 407, rfl⟩
abbrev main_call1_v4 : Ref sig .tc := ⟨.hbm, 408, rfl⟩
abbrev main_call1_v5 : Ref sig .tc := ⟨.hbm, 409, rfl⟩
abbrev main_v374 : Ref sig .tc := ⟨.hbm, 410, rfl⟩
abbrev main_v375 : Ref sig .tc := ⟨.hbm, 411, rfl⟩
abbrev main_v376 : Ref sig .tc := ⟨.hbm, 412, rfl⟩

abbrev nD : Nat := 1
abbrev τ : Topo := Topo.v7x

variable {F : FTy → Type} [FloatOps F]
-- ==== Proof.Reals.lean ====
/-
  Arrays of real numbers inside arrays of extended reals: the few facts the value proofs of this directory share.
  A precondition of the form `|x| < ∞` at every index says an array is the image of a real one; sums, products,
  quotients by a number that is not zero and reciprocal square roots of a positive number then stay images of
  real numbers, so an equation between two programs becomes an equation between real numbers.
-/
module

public import Idealize.ShloMosaic.Lib.Pointwise
public import Idealize.ShloMosaic.PureOps.Ideal.Laws
public import Idealize.ShloMosaic.Lib.StableHlo

@[expose] public section

noncomputable section

namespace Cert.Reals

open Idealize.ShloMosaic

/-- A real vector, one row of reals, a real matrix and a real stack of matrices as arrays of extended reals. -/
def vec {a : ℕ} (X : Fin a → ℝ) : (⟨1, ![a]⟩ : Shape).Idx → EReal := fun i => ((X (i 0) : ℝ) : EReal)
def row {a : ℕ} (X : Fin a → ℝ) : (⟨2, ![1, a]⟩ : Shape).Idx → EReal := fun i => ((X (i 1) : ℝ) : EReal)
def mat {a b : ℕ} (X : Fin a → Fin b → ℝ) : (⟨2, ![a, b]⟩ : Shape).Idx → EReal := fun i => ((X (i 0) (i 1) : ℝ) : EReal)
def cube {a b c : ℕ} (X : Fin a → Fin b → Fin c → ℝ) : (⟨3, ![a, b, c]⟩ : Shape).Idx → EReal :=
  fun i => ((X (i 0) (i 1) (i 2) : ℝ) : EReal)

theorem vec_apply {a : ℕ} (X : Fin a → ℝ) (i : Fin a) : vec X (ix1 i) = ((X i : ℝ) : EReal) := rfl
theorem row_apply {a : ℕ} (X : Fin a → ℝ) (u : Fin 1) (i : Fin a) : row X (ix2 u i) = ((X i : ℝ) : EReal) := rfl
theorem mat_apply {a b : ℕ} (X : Fin a → Fin b → ℝ) (i : Fin a) (j : Fin b) :
    mat X (ix2 i j) = ((X i j : ℝ) : EReal) := rfl
theorem cube_apply {a b c : ℕ} (X : Fin a → Fin b → Fin c → ℝ) (i : Fin a) (j : Fin b) (k : Fin c) :
    cube X (ix3 i j k) = ((X i j k : ℝ) : EReal) := rfl

/-- A real sum, read among the extended reals. -/
theorem sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A quotient by a real number that is not zero. -/
theorem div_coe (a b : ℝ) (hb : b ≠ 0) : Ideal.div (a : EReal) (b : EReal) = ((a / b : ℝ) : EReal) := by
  have hb' : (b : EReal) ≠ 0 := by
    rw [← EReal.coe_zero]; exact fun h => hb (EReal.coe_injective h)
  rw [Ideal.div, if_neg hb', ← EReal.coe_inv, ← EReal.coe_mul, div_eq_mul_inv]

/-- A quotient by the width of a row. -/
theorem div_1024 (a : ℝ) : Ideal.div (a : EReal) ((1024 : ℝ) : EReal) = ((a / 1024 : ℝ) : EReal) :=
  div_coe a 1024 (by norm_num)

/-- The reciprocal square root of a positive number. -/
theorem rsqrt_coe (r : ℝ) (hr : 0 < r) : Ideal.rsqrt (r : EReal) = (((Real.sqrt r)⁻¹ : ℝ) : EReal) := by
  rw [Ideal.rsqrt_coe, if_neg (not_lt.mpr hr.le), if_neg hr.ne']

/-- The pattern of `+∞`. -/
theorem ofBits_inf : Ideal.ofBits .f32 0x7F800000#32 = ⊤ := by
  simp [Ideal.ofBits, Ideal.ieee]

theorem ofBits_inf_bf16 : Ideal.ofBits .bf16 0x7F80#16 = ⊤ := by
  simp [Ideal.ofBits, Ideal.ieee]

theorem ofBits_1024 : Ideal.ofBits .f32 0x44800000#32 = ((1024 : ℝ) : EReal) := by
  simp [Ideal.ofBits, Ideal.ieee]; norm_num; rw [← EReal.coe_mul]; norm_num

theorem ofBits_recip_1024 : Ideal.ofBits .f32 0x3A800000#32 = ((1 / 1024 : ℝ) : EReal) := by
  simp [Ideal.ofBits, Ideal.ieee]; norm_num; rw [← EReal.coe_mul]; norm_num

theorem ofBits_half : Ideal.ofBits .f32 0x3F000000#32 = ((1 / 2 : ℝ) : EReal) := by
  simp [Ideal.ofBits, Ideal.ieee]; norm_num; rw [← EReal.coe_mul]; norm_num

theorem ofBits_neg_half : Ideal.ofBits .f32 0xBF000000#32 = ((-1 / 2 : ℝ) : EReal) := by
  simp [Ideal.ofBits, Ideal.ieee]; norm_num; rw [← EReal.coe_mul]; norm_num

theorem ofBits_two : Ideal.ofBits .f32 0x40000000#32 = ((2 : ℝ) : EReal) := by
  simp [Ideal.ofBits, Ideal.ieee]; norm_num; rw [← EReal.coe_mul]; norm_num

/-- The number the norm adds to the mean square. -/
def eps : ℝ := (8388608 + 407485 : ℕ) * (2 : ℝ) ^ (-43 : ℤ)

theorem eps_pos : 0 < eps := by unfold eps; positivity

theorem ofBits_eps : Ideal.ofBits .f32 0x358637BD#32 = (eps : EReal) := by
  simp [Ideal.ofBits, Ideal.ieee, eps]

/-- What a comparison `|a| < ∞` says of an extended real. -/
theorem exists_real (a : EReal) (h : max a (-a) < ⊤) : ∃ r : ℝ, a = (r : EReal) := by
  induction a using EReal.rec with
  | bot => simp at h
  | top => simp at h
  | coe r => exact ⟨r, rfl⟩

/-- A precondition `|x| < ∞` at every index: the array is the image of a real one. -/
theorem real_of_finite {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) :
    ∃ r : s.Idx → ℝ, x = fun i => (r i : EReal) := by
  have hr : ∀ i, ∃ r : ℝ, x i = (r : EReal) := fun i => by
    have hi := congrFun h i
    have ht : broadcastInDim s ![] hb (constant (F := Ideal) ⟨0, ![]⟩ .f32 0x7F800000#32) i = ⊤ := ofBits_inf
    have h1 : FloatOps.cmpf .olt (Host.absf x i) (broadcastInDim s ![] hb (constant (F := Ideal) ⟨0, ![]⟩ .f32 0x7F800000#32) i) = 1#1 := hi
    rw [ht] at h1
    have h2 : BitVec.ofBool (decide (max (x i) (-(x i)) < ⊤)) = 1#1 := h1
    refine exists_real _ ?_
    by_contra hn
    rw [decide_eq_false hn] at h2
    exact absurd h2 (by decide)
  choose r hr using hr
  exact ⟨r, funext hr⟩

theorem vec_of_finite {a : ℕ} (x : FVec Ideal ⟨1, ![a]⟩ .f32) (hb : (⟨0, ![]⟩ : Shape).BroadcastsInDim ⟨1, ![a]⟩ ![])
    (h : cmpf .olt (Host.absf x) (broadcastInDim ⟨1, ![a]⟩ ![] hb (constant ⟨0, ![]⟩ .f32 0x7F800000#32)) = fun _ => 1#1) :
    ∃ X : Fin a → ℝ, x = vec X := by
  obtain ⟨r, rfl⟩ := real_of_finite x hb h
  exact ⟨fun i => r (ix1 i), funext fun i => congrArg (fun j => ((r j : ℝ) : EReal)) (funext fun k => match k with | ⟨0, _⟩ => rfl)⟩
theorem mat_of_finite {a b : ℕ} (x : FVec Ideal ⟨2, ![a, b]⟩ .f32) (hb : (⟨0, ![]⟩ : Shape).BroadcastsInDim ⟨2, ![a, b]⟩ ![])
    (h : cmpf .olt (Host.absf x) (broadcastInDim ⟨2, ![a, b]⟩ ![] hb (constant ⟨0, ![]⟩ .f32 0x7F800000#32)) = fun _ => 1#1) :
    ∃ X : Fin a → Fin b → ℝ, x = mat X := by
  obtain ⟨r, rfl⟩ := real_of_finite x hb h
  exact ⟨fun i j => r (ix2 i j), funext fun i => congrArg (fun j => ((r j : ℝ) : EReal)) (funext fun k => match k with | ⟨0, _⟩ => rfl | ⟨1, _⟩ => rfl)⟩

end Cert.Reals

end
-- ==== Proof.LossHeadMath.lean ====
module
public import proofs.«01_k».proof.Proof.Reals
public import proofs.«01_k».proof.Proof.Gen.LossHeadIdeal.Value
public import proofs.«01_k».proof.Proof.Gen.LossHeadRefIdeal.Read
@[expose] public section
set_option maxRecDepth 16384
noncomputable section
open Cert.Reals Idealize.ShloMosaic

namespace Cert.LossHead.Math

variable {n : ℕ} (x : Fin n → Fin 1024 → ℝ) (g : Fin 1024 → ℝ) (t : Fin n → Fin 1024 → ℝ)

/-- A row's mean square, plus the norm's small number. -/
def ms (r : Fin n) : ℝ := (∑ k, x r k * x r k) / 1024 + eps
theorem ms_pos (r : Fin n) : 0 < ms x r :=
  add_pos_of_nonneg_of_pos (div_nonneg (Finset.sum_nonneg fun k _ => mul_self_nonneg _) (by norm_num)) eps_pos
/-- Its reciprocal square root. -/
def rs (r : Fin n) : ℝ := (Real.sqrt (ms x r))⁻¹
/-- The error of the normalised row against its target. -/
def err (r : Fin n) (l : Fin 1024) : ℝ := x r l * rs x r * g l - t r l
/-- The gradient in the row. -/
def dx (r : Fin n) (l : Fin 1024) : ℝ :=
  rs x r * (err x g t r l * (1 / 1024) * g l
    - x r l * rs x r * ((∑ k, err x g t r k * (1 / 1024) * g k * (x r k * rs x r)) / 1024))
/-- A row's loss, before the factor one half. -/
def sq (r : Fin n) : ℝ := (∑ k, err x g t r k * err x g t r k) / 1024
/-- A row's part of the gradient in the gain. -/
def dg (r : Fin n) (l : Fin 1024) : ℝ := err x g t r l * (1 / 1024) * (x r l * rs x r)

theorem rs_sq (r : Fin n) : rs x r / ms x r = rs x r * rs x r * rs x r := by
  have h := Real.mul_self_sqrt (ms_pos x r).le
  have hp := Real.sqrt_pos.mpr (ms_pos x r)
  have hs : ms x r = Real.sqrt (ms x r) * Real.sqrt (ms x r) := h.symm
  unfold rs
  generalize Real.sqrt (ms x r) = s at hs hp ⊢
  rw [hs]
  field_simp

end Cert.LossHead.Math

namespace Cert.LossHeadIdeal.Value
open Cert.LossHeadIdeal Cert.LossHeadIdeal.Gen Idealize.ShloMosaic.TcCoe Idealize.SL.Sem Cert.LossHead

variable (X : Fin 512 → Fin 1024 → ℝ) (G : Fin 1024 → ℝ) (T : Fin 512 → Fin 1024 → ℝ)

theorem pay5_apply (r : Fin 512) : k0_pay5 (F := Ideal) (mat X) (ix2 r 0) = ((Math.rs X r : ℝ) : EReal) := by
  pointwise [k0_pay5]
  simp only [mat_apply, row_apply, vec_apply, ofBits_1024, ofBits_eps, ← EReal.coe_mul, sum_coe, div_1024, ← EReal.coe_add]
  exact rsqrt_coe _ (Math.ms_pos X r)

theorem pay6_apply (r : Fin 512) (l : Fin 1024) :
    k0_pay6 (F := Ideal) (mat X) (ix2 r l) = ((X r l * Math.rs X r : ℝ) : EReal) := by
  pointwise [k0_pay6]
  rw [pay5_apply]
  simp only [mat_apply, row_apply, vec_apply, ← EReal.coe_mul]

theorem pay8_apply (r : Fin 512) (l : Fin 1024) :
    k0_pay8 (F := Ideal) (mat X) (row G) (mat T) (ix2 r l) = ((Math.err X G T r l : ℝ) : EReal) := by
  pointwise [k0_pay8, k0_pay7]
  rw [pay6_apply]
  simp only [mat_apply, row_apply, vec_apply, ← EReal.coe_mul, ← EReal.coe_sub, Math.err]

theorem pay10_apply (r : Fin 512) (l : Fin 1024) :
    k0_pay10 (F := Ideal) (mat X) (row G) (mat T) (ix2 r l) = ((Math.err X G T r l * (1 / 1024) : ℝ) : EReal) := by
  pointwise [k0_pay10]
  rw [pay8_apply]
  simp only [mat_apply, row_apply, vec_apply, ofBits_recip_1024, ← EReal.coe_mul]

theorem dx_apply (r : Fin 512) (l : Fin 1024) :
    k0_pay2 (F := Ideal) (k0_pay5 (mat X)) (k0_pay6 (mat X)) (k0_pay7 (row G)) (k0_pay10 (mat X) (row G) (mat T)) (ix2 r l)
      = ((Math.dx X G T r l : ℝ) : EReal) := by
  pointwise [k0_pay2, k0_pay7]
  simp only [mat_apply, row_apply, vec_apply, pay5_apply, pay6_apply, pay10_apply]
  simp only [mat_apply, row_apply, vec_apply, ofBits_1024, ← EReal.coe_mul, sum_coe, div_1024, ← EReal.coe_sub, Math.dx]

theorem loss_apply (acc : FVec Ideal S1x128 .f32) (l : Fin 128) :
    k0_pay9 (F := Ideal) (mat X) (row G) (mat T) acc (ix2 0 l)
      = acc (ix2 0 l) + ((1 / 2 * ∑ r, Math.sq X G T r : ℝ) : EReal) := by
  pointwise [k0_pay9]
  simp only [mat_apply, row_apply, vec_apply, pay8_apply]
  simp only [mat_apply, row_apply, vec_apply, ofBits_1024, ofBits_half, ← EReal.coe_mul, sum_coe, div_1024]
  simp only [Finset.univ_unique, Finset.sum_singleton]
  rfl

theorem dg_apply (acc : FVec Ideal S1x1024 .f32) (l : Fin 1024) :
    k0_pay1 (F := Ideal) (k0_pay6 (mat X)) (k0_pay10 (mat X) (row G) (mat T)) acc (ix2 0 l)
      = acc (ix2 0 l) + ((∑ r, Math.dg X G T r l : ℝ) : EReal) := by
  pointwise [k0_pay1]
  simp only [mat_apply, row_apply, vec_apply, pay6_apply, pay10_apply]
  simp only [mat_apply, row_apply, vec_apply, ← EReal.coe_mul, sum_coe]
  rfl

end Cert.LossHeadIdeal.Value
namespace Cert.LossHeadRefIdeal.Math
open Cert.LossHeadRefIdeal Cert.LossHeadRefIdeal.Read Cert.LossHead Cert.LossHeadIdeal.Value

variable (X : Fin 8192 → Fin 1024 → ℝ) (G : Fin 1024 → ℝ) (T : Fin 8192 → Fin 1024 → ℝ)

theorem v6_apply (r : Fin 8192) : val_main_v6 (F := Ideal) (mat X) (ix2 r 0) = ((Math.ms X r : ℝ) : EReal) := by
  pointwise [val_main_v0, val_main_cst, val_main_v1, val_main_v2, val_main_cst_0, val_main_v3, val_main_v4, val_main_cst_1, val_main_v5, val_main_v6]
  simp only [mat_apply, row_apply, vec_apply, ofBits_1024, ofBits_eps, ← EReal.coe_mul, sum_coe, div_1024, ← EReal.coe_add]
  rfl
theorem v7_apply (r : Fin 8192) : val_main_v7 (F := Ideal) (mat X) (ix2 r 0) = ((Math.rs X r : ℝ) : EReal) := by
  pointwise [val_main_v7]
  rw [v6_apply]
  exact rsqrt_coe _ (Math.ms_pos X r)
theorem v10_apply (r : Fin 8192) : val_main_v10 (F := Ideal) (mat X) (ix2 r 0) = ((-1 / 2 * (Math.rs X r / Math.ms X r) : ℝ) : EReal) := by
  pointwise [val_main_v10, val_main_v9, val_main_v8, val_main_cst_2]
  rw [v6_apply, v7_apply]
  simp only [mat_apply, row_apply, vec_apply, ofBits_neg_half, ← EReal.coe_mul, div_coe _ _ (Math.ms_pos X r).ne']
theorem v12_apply (r : Fin 8192) (l : Fin 1024) : val_main_v12 (F := Ideal) (mat X) (ix2 r l) = ((X r l * Math.rs X r : ℝ) : EReal) := by
  pointwise [val_main_v11, val_main_v12]
  rw [v7_apply]
  simp only [mat_apply, row_apply, vec_apply, ← EReal.coe_mul]
theorem v16_apply (r : Fin 8192) (l : Fin 1024) : val_main_v16 (F := Ideal) (mat X) (vec G) (mat T) (ix2 r l) = ((Math.err X G T r l : ℝ) : EReal) := by
  pointwise [val_main_v13, val_main_v14, val_main_v15, val_main_v16]
  rw [v12_apply]
  simp only [mat_apply, row_apply, vec_apply, ← EReal.coe_mul, ← EReal.coe_sub, Math.err]
theorem v30_apply (r : Fin 8192) (l : Fin 1024) : val_main_v30 (F := Ideal) (mat X) (vec G) (mat T) (ix2 r l) = ((Math.err X G T r l * (1 / 1024) : ℝ) : EReal) := by
  pointwise [val_main_v30, val_main_v29, val_main_v28, val_main_v27, val_main_v26, val_main_v25, val_main_v19, val_main_v18, val_main_cst_3, val_main_cst_8, val_main_cst_9, val_main_cst_10]
  rw [v16_apply]
  simp only [mat_apply, row_apply, vec_apply, ofBits_1024, ofBits_two, ofBits_half, ← EReal.coe_mul, ← EReal.coe_one, div_1024]
  congr 1; ring
theorem v35_apply (r : Fin 8192) (l : Fin 1024) : val_main_v35 (F := Ideal) (mat X) (vec G) (mat T) (ix2 r l) = ((Math.err X G T r l * (1 / 1024) * G l : ℝ) : EReal) := by
  pointwise [val_main_v35, val_main_v34, val_main_v13]
  rw [v30_apply]
  simp only [mat_apply, row_apply, vec_apply, ← EReal.coe_mul]
theorem dx_apply (r : Fin 8192) (l : Fin 1024) : val_main_v50 (F := Ideal) (mat X) (vec G) (mat T) (ix2 r l) = ((Math.dx X G T r l : ℝ) : EReal) := by
  pointwise [val_main_v37, val_main_cst_13, val_main_v38, val_main_v39, val_main_v40, val_main_v41, val_main_v42, val_main_cst_14, val_main_v43, val_main_v44, val_main_cst_15, val_main_v45, val_main_v46, val_main_v47, val_main_v48, val_main_v49, val_main_v50]
  simp only [Finset.univ_unique, Finset.sum_singleton, Fin.default_eq_zero, v35_apply, v10_apply, v7_apply, mat_apply]
  simp only [mat_apply, row_apply, vec_apply, ofBits_1024, ← EReal.coe_mul, sum_coe, div_1024, ← EReal.coe_add]
  congr 1
  rw [Math.rs_sq]
  have h : ∑ k, X r k * (Math.err X G T r k * (1 / 1024) * G k) * Math.rs X r
      = ∑ k, Math.err X G T r k * (1 / 1024) * G k * (X r k * Math.rs X r) :=
    Finset.sum_congr rfl fun k _ => by ring
  unfold Math.dx
  rw [← h, ← Finset.sum_mul]
  ring
theorem loss_apply (l : Fin 128) : val_main_v51 (F := Ideal) (mat X) (vec G) (mat T) (ix2 0 l) = ((1 / 2 * ∑ r, Math.sq X G T r : ℝ) : EReal) := by
  pointwise [val_main_v51, val_main_v24, val_main_v23, val_main_v22, val_main_v21, val_main_v20, val_main_v17, val_main_cst_7, val_main_cst_6, val_main_cst_5, val_main_cst_4]
  simp only [mat_apply, row_apply, vec_apply, v16_apply]
  simp only [ofBits_1024, ofBits_half, ← EReal.coe_mul, sum_coe, div_1024]
  congr 1
theorem dg_apply (l : Fin 1024) : val_main_v52 (F := Ideal) (mat X) (vec G) (mat T) (ix2 0 l) = ((∑ r, Math.dg X G T r l : ℝ) : EReal) := by
  pointwise [val_main_v52, val_main_v36, val_main_v33, val_main_v32, val_main_v31, val_main_cst_11, val_main_cst_12]
  simp only [mat_apply, row_apply, vec_apply, v30_apply, v12_apply]
  simp only [mat_apply, row_apply, vec_apply, ← EReal.coe_mul, sum_coe]
  simp only [Finset.univ_unique, Finset.sum_singleton, Math.dg, mul_comm (X _ l * _)]

/-! The reference's three results as arrays. -/
theorem dx_eq : val_main_v50 (F := Ideal) (mat X) (vec G) (mat T) = mat (Math.dx X G T) := by
  funext i
  idx_vars i
  exact dx_apply X G T i0 i1
theorem loss_eq : val_main_v51 (F := Ideal) (mat X) (vec G) (mat T) = mat (fun _ _ => 1 / 2 * ∑ r, Math.sq X G T r) := by
  funext i
  idx_vars i
  obtain rfl : i0 = 0 := Subsingleton.elim _ _
  exact loss_apply X G T i1
theorem dg_eq : val_main_v52 (F := Ideal) (mat X) (vec G) (mat T) = row (fun l => ∑ r, Math.dg X G T r l) := by
  funext i
  idx_vars i
  obtain rfl : i0 = 0 := Subsingleton.elim _ _
  exact dg_apply X G T i1
end Cert.LossHeadRefIdeal.Math
-- ==== Proof.LossHeadValue.lean ====
module
public import proofs.«01_k».proof.Proof.LossHeadMath
public import Idealize.ShloMosaic.Lib.Pipeline.ValueKit.Point
@[expose] public section
set_option maxRecDepth 16384
noncomputable section
open Cert.Reals Idealize.ShloMosaic
namespace Cert.LossHeadIdeal.Value
open Cert.LossHead Cert.LossHeadIdeal Cert.LossHeadIdeal.Gen Idealize.ShloMosaic.TcCoe Idealize.SL.Sem
open Idealize.ShloMosaic.Pipeline (Dat)

section Blocks
variable (m : (ℓ : Loc nD τ sig) → Buf (Elt Ideal) ℓ) (c : Dev nD)
variable (X T : Fin 8192 → Fin 1024 → ℝ) (G : Fin 1024 → ℝ)

theorem N16 : cfg0.N = 16 := N_0

/-- Row `r` of tile `t`. -/
def rowOf (t : Fin cfg0.N) (r : Fin 512) : Fin 8192 := ⟨t.val * 512 + r.val, by have := t.isLt; have := N16; omega⟩

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])

/-- A sum over all rows, tile by tile. -/
theorem sum_tiles (f : Fin 8192 → ℝ) : (∑ p : Fin cfg0.N, ∑ r, f (rowOf p r)) = ∑ r, f r :=
  Fin.sum_mul_add_congr fun t k hl => rfl

section Reads
variable (hX : m ((c : Thread nD τ).loc main_arg0) = mat X) (hG : m ((c : Thread nD τ).loc main_arg1) = vec G)
  (hT : m ((c : Thread nD τ).loc main_arg2) = mat T)
include hX in
theorem iblk0 (t : Fin cfg0.N) : (iblk m c 0 t : Vec Ideal S512x1024 .f32) = mat (fun r l => X (rowOf t r) l) := by
  funext j
  idx_vars j
  rw [mat_apply, ← mat_apply X, ← hX]
  blk_ext! [iblk, V, idx0 t, rowOf]
include hG in
theorem iblk1 (t : Fin cfg0.N) : (iblk m c 1 t : Vec Ideal S1x1024 .f32) = row G := by
  funext j
  idx_vars j
  rw [row_apply, ← vec_apply G, ← hG]
  blk_ext! [iblk, V, idx1 t]
include hT in
theorem iblk2 (t : Fin cfg0.N) : (iblk m c 2 t : Vec Ideal S512x1024 .f32) = mat (fun r l => T (rowOf t r) l) := by
  funext j
  idx_vars j
  rw [mat_apply, ← mat_apply T, ← hT]
  blk_ext! [iblk, V, idx2 t, rowOf]

include hX hG hT
/-- The gradient in the rows: each tile's rows are written by its own grid point. -/
theorem final3 : (dats m 0 c).arrAt 3 cfg0.N = mat (Math.dx X G T) := by
  refine (dats m 0 c).arrAt_eq_of_covers 3 _ (by decide +kernel) fun t hf y => ?_
  blk_simp
  rw [after0_3]
  have key : k0_pay2 (k0_pay5 (mat fun r l => X (rowOf t r) l)) (k0_pay6 (F := Ideal) (mat fun r l => X (rowOf t r) l)) (k0_pay7 (row G))
      (k0_pay10 (mat fun r l => X (rowOf t r) l) (row G) (mat fun r l => T (rowOf t r) l)) y = mat (Math.dx X G T) ((win0_3.blk t).view.emb y) := by
    idx_vars y
    rw [dx_apply]
    have e : (win0_3.blk t).view.emb (ix2 y0 y1) = ix2 (rowOf t y0) y1 := by blk_ext [idx3 t, rowOf]
    rw [e, mat_apply]
    rfl
  by_cases h0 : t.val % 16 = 0
  · rw [outsAt0_A m c t h0]; frame_out; rw [iblk0 m c X hX, iblk1 m c G hG, iblk2 m c T hT]; exact key
  · rw [outsAt0_B m c t h0]; frame_out; rw [iblk0 m c X hX, iblk1 m c G hG, iblk2 m c T hT]; exact key

/-- The loss, accumulated over the tiles and written back after the last. -/
theorem final4 : (dats m 0 c).arrAt 4 cfg0.N = mat (fun (_ : Fin 1) (_ : Fin 128) => 1 / 2 * ∑ r, Math.sq X G T r) := by
  refine (dats m 0 c).arrAt_eq_of_covers 4 _ (by decide +kernel) fun t hf y => ?_
  have hl : t = t0_15 := Fin.ext (by have := (flush0_4 t).mp hf; have := t.isLt; have := N16; show t.val = 15; omega)
  subst hl
  blk_simp
  rw [after0_4, Pipeline.eq_sum_fin_of_reset_step_apply_last (fun n h => (outsAt0 m c n h).2.1) 16 (fun _ => 0)
    (fun t _ => ((1 / 2 * ∑ r, Math.sq X G T (rowOf t r) : ℝ) : EReal)) (fun t h j => by
      rw [outsAt0_A m c t h]; frame_out; rw [iblk0 m c X hX, iblk1 m c G hG, iblk2 m c T hT]
      idx_vars j
      obtain rfl : j0 = 0 := Subsingleton.elim _ _
      rw [loss_apply]
      pointwise [k0_pay3]
      rfl)
    (fun t h j => by
      rw [outsAt0_B m c t h]; frame_out; rw [iblk0 m c X hX, iblk1 m c G hG, iblk2 m c T hT]
      idx_vars j
      obtain rfl : j0 = 0 := Subsingleton.elim _ _
      rw [loss_apply]
      rfl) (le_of_eq N_0) t0_15 rfl y, sum_coe, ← Finset.mul_sum, sum_tiles]
  show (0 : EReal) + _ = _
  rw [zero_add]
  rfl

/-- The gradient in the gain, accumulated over the tiles and written back after the last. -/
theorem final5 : (dats m 0 c).arrAt 5 cfg0.N = row (fun l => ∑ r, Math.dg X G T r l) := by
  refine (dats m 0 c).arrAt_eq_of_covers 5 _ (by decide +kernel) fun t hf y => ?_
  have hl : t = t0_15 := Fin.ext (by have := (flush0_5 t).mp hf; have := t.isLt; have := N16; show t.val = 15; omega)
  subst hl
  blk_simp
  idx_vars y
  rw [after0_5, Pipeline.eq_sum_fin_of_reset_step_apply_last (fun n h => (outsAt0 m c n h).2.2) 16 (fun _ => 0)
    (fun t j => ((∑ r, Math.dg X G T (rowOf t r) (j 1) : ℝ) : EReal)) (fun t h j => by
      rw [outsAt0_A m c t h]; frame_out; rw [iblk0 m c X hX, iblk1 m c G hG, iblk2 m c T hT]
      idx_vars j
      obtain rfl : j0 = 0 := Subsingleton.elim _ _
      rw [dg_apply]
      pointwise [k0_pay4]
      rfl)
    (fun t h j => by
      rw [outsAt0_B m c t h]; frame_out; rw [iblk0 m c X hX, iblk1 m c G hG, iblk2 m c T hT]
      idx_vars j
      obtain rfl : j0 = 0 := Subsingleton.elim _ _
      rw [dg_apply]
      rfl) (le_of_eq N_0) t0_15 rfl (ix2 y0 y1)]
  have e : (win0_5.blk t0_15).view.emb (ix2 y0 y1) = ix2 y0 y1 := by blk_ext [idx5 t0_15]
  rw [e, row_apply]
  show (0 : EReal) + ∑ p, ((∑ r, Math.dg X G T (rowOf p r) y1 : ℝ) : EReal) = _
  rw [sum_coe, sum_tiles fun r => Math.dg X G T r y1, zero_add]
end Reads
end Blocks
end Cert.LossHeadIdeal.Value
-- ==== Proof.LossHead.lean ====
module
public import proofs.«01_k».proof.Defs
public import proofs.«01_k».proof.Proof.Gen.LossHead.Frame
public import proofs.«01_k».proof.Proof.LossHeadValue
@[expose] public section
set_option maxRecDepth 16384
noncomputable section
/-! The claims about the loss head: its frames, and its three results against the reference's. -/
namespace Cert.Proof.LossHead
open Cert.Reals Cert.LossHead Idealize.ShloMosaic Idealize.SL.Sem Idealize.ShloMosaic.TcCoe

instance facts : Cert.LossHead.Facts := Cert.LossHead.Gen.facts
instance factsIdeal : Cert.LossHeadIdeal.Facts := Cert.LossHeadIdeal.Gen.facts
instance factsRef : Cert.LossHeadRefIdeal.Facts := Cert.LossHeadRefIdeal.Gen.facts
instance factsPre : Cert.Pre_loss_head_finite.Facts := ⟨by decide, by decide⟩

theorem frame_kernel : Cert.quiescent_LossHead := fun m ρ _ => Cert.LossHead.Gen.frame m ρ
theorem frame_ideal : Cert.quiescent_LossHeadIdeal := fun m ρ _ => Cert.LossHeadIdeal.Gen.frame m ρ
theorem frame_ideal_pre : Cert.quiescent_LossHeadIdeal_pre_loss_head_finite := fun m ρ _ => Cert.LossHeadIdeal.Gen.frame m ρ
theorem frame_ref : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run m ρ)
theorem frame_ref_pre : Cert.quiescent_LossHeadRefIdeal_pre_loss_head_finite := fun m ρ _ => frame_ref m ρ trivial

/-- The three arguments are real arrays. -/
theorem args (m : (ℓ : Loc Cert.LossHeadIdeal.nD Cert.LossHeadIdeal.τ Cert.LossHeadIdeal.sig) → Buf (Elt Ideal) ℓ)
    (hpre : Cert.Pre_LossHeadIdeal_loss_head_finite m) (c : Dev Cert.LossHeadIdeal.nD) :
    ∃ (X : Fin 8192 → Fin 1024 → ℝ) (G : Fin 1024 → ℝ) (T : Fin 8192 → Fin 1024 → ℝ),
      m (c.tc.loc Cert.LossHeadIdeal.main_arg0) = mat X ∧ m (c.tc.loc Cert.LossHeadIdeal.main_arg1) = vec G
      ∧ m (c.tc.loc Cert.LossHeadIdeal.main_arg2) = mat T := by
  obtain ⟨h0, h1, h2⟩ := hpre c
  obtain ⟨X, hX⟩ := mat_of_finite (m (c.tc.loc Cert.LossHeadIdeal.main_arg0)) _ h0
  obtain ⟨G, hG⟩ := vec_of_finite (m (c.tc.loc Cert.LossHeadIdeal.main_arg1)) _ h1
  obtain ⟨T, hT⟩ := mat_of_finite (m (c.tc.loc Cert.LossHeadIdeal.main_arg2)) _ h2
  exact ⟨X, G, T, hX, hG, hT⟩

theorem algebraic : Cert.algebraic_LossHeadIdeal_LossHeadRefIdeal_pre_loss_head_finite := by
  intro m g m' g' hpre hagree
  choose X G T hX hG hT using args m hpre
  refine ⟨fun c => mat (Math.dx (X c) (G c) (T c)), fun c => mat (fun _ _ => 1 / 2 * ∑ r, Math.sq (X c) (G c) (T c) r),
    fun c => row (fun l => ∑ r, Math.dg (X c) (G c) (T c) r l), ?_, ?_⟩
  · exact (θ_run Cert.LossHeadIdeal.defs _ _).mono (fun _ h c =>
      ⟨(h c).1.trans (Cert.LossHeadIdeal.Value.final3 m c _ _ _ (hX c) (hG c) (hT c)),
        (h c).2.1.trans (Cert.LossHeadIdeal.Value.final4 m c _ _ _ (hX c) (hG c) (hT c)),
        (h c).2.2.1.trans (Cert.LossHeadIdeal.Value.final5 m c _ _ _ (hX c) (hG c) (hT c)), (h c).2.2.2⟩)
      (Cert.LossHeadIdeal.Value.run_blocks m g)
  · refine (θ_run Cert.LossHeadRefIdeal.defs _ _).mono (fun _ h c => ?_) (Cert.LossHeadRefIdeal.Value.run m' g')
    obtain ⟨a0, a1, a2⟩ := hagree c
    refine ⟨(h c).1.trans ?_, (h c).2.1.trans ?_, (h c).2.2.1.trans ?_, (h c).2.2.2⟩
    · rw [Cert.LossHeadRefIdeal.Read.val_main_v50_eq, a0, a1, a2, hX, hG, hT]
      exact Cert.LossHeadRefIdeal.Math.dx_eq (X c) (G c) (T c)
    · rw [Cert.LossHeadRefIdeal.Read.val_main_v51_eq, a0, a1, a2, hX, hG, hT]
      exact Cert.LossHeadRefIdeal.Math.loss_eq (X c) (G c) (T c)
    · rw [Cert.LossHeadRefIdeal.Read.val_main_v52_eq, a0, a1, a2, hX, hG, hT]
      exact Cert.LossHeadRefIdeal.Math.dg_eq (X c) (G c) (T c)

end Cert.Proof.LossHead
-- ==== Proof.Tables.lean ====
/-
  Arrays whose entries are a real function of natural-number indices, and the words a kernel compares lanes with.
  A tile of an array is then the same function at shifted indices, so no bound has to be carried along.
-/
module
public import proofs.«01_k».proof.Proof.Reals
@[expose] public section
noncomputable section
open Cert.Reals Idealize.ShloMosaic
namespace Cert.Tables

/-- A real function of one, two, three or four numbers, as an array. -/
def nv {a : ℕ} (F : ℕ → ℝ) : (⟨1, ![a]⟩ : Shape).Idx → EReal := fun i => ((F (i 0) : ℝ) : EReal)
def nm {a b : ℕ} (F : ℕ → ℕ → ℝ) : (⟨2, ![a, b]⟩ : Shape).Idx → EReal := fun i => ((F (i 0) (i 1) : ℝ) : EReal)
def nc {a b c : ℕ} (F : ℕ → ℕ → ℕ → ℝ) : (⟨3, ![a, b, c]⟩ : Shape).Idx → EReal :=
  fun i => ((F (i 0) (i 1) (i 2) : ℝ) : EReal)
def nq {a b c d : ℕ} (F : ℕ → ℕ → ℕ → ℕ → ℝ) : (⟨4, ![a, b, c, d]⟩ : Shape).Idx → EReal :=
  fun i => ((F (i 0) (i 1) (i 2) (i 3) : ℝ) : EReal)

theorem nv_apply {a : ℕ} (F : ℕ → ℝ) (i : Fin a) : nv F (ix1 i) = ((F i.val : ℝ) : EReal) := rfl
theorem nm_apply {a b : ℕ} (F : ℕ → ℕ → ℝ) (i : Fin a) (j : Fin b) : nm F (ix2 i j) = ((F i.val j.val : ℝ) : EReal) := rfl
theorem nc_apply {a b c : ℕ} (F : ℕ → ℕ → ℕ → ℝ) (i : Fin a) (j : Fin b) (k : Fin c) :
    nc F (ix3 i j k) = ((F i.val j.val k.val : ℝ) : EReal) := rfl
theorem nq_apply {a b c d : ℕ} (F : ℕ → ℕ → ℕ → ℕ → ℝ) (i : Fin a) (j : Fin b) (k : Fin c) (l : Fin d) :
    nq F (ix4 i j k l) = ((F i.val j.val k.val l.val : ℝ) : EReal) := rfl

/-- Two tables that agree inside the array give one array. -/
theorem nm_congr {a b : ℕ} {F G : ℕ → ℕ → ℝ} (h : ∀ i < a, ∀ j < b, F i j = G i j) : (nm F : (⟨2, ![a, b]⟩ : Shape).Idx → EReal) = nm G :=
  funext fun i => congrArg _ (h _ (i 0).isLt _ (i 1).isLt)

/-- A finite array is a real table, which is zero outside the array. -/
theorem nv_of_finite {a : ℕ} (x : FVec Ideal ⟨1, ![a]⟩ .f32) (hb : (⟨0, ![]⟩ : Shape).BroadcastsInDim ⟨1, ![a]⟩ ![])
    (h : cmpf .olt (Host.absf x) (broadcastInDim ⟨1, ![a]⟩ ![] hb (constant ⟨0, ![]⟩ .f32 0x7F800000#32)) = fun _ => 1#1) :
    ∃ F : ℕ → ℝ, x = nv F ∧ ∀ i, a ≤ i → F i = 0 := by
  obtain ⟨r, rfl⟩ := real_of_finite x hb h
  refine ⟨fun i => if hi : i < a then r (ix1 ⟨i, hi⟩) else 0, ?_, fun i hi => dif_neg (by omega)⟩
  refine funext fun i => ?_
  show _ = (((if hi : (i 0).val < a then r (ix1 ⟨(i 0).val, hi⟩) else 0 : ℝ)) : EReal)
  rw [dif_pos (show (i 0).val < a from (i 0).isLt)]
  exact congrArg (fun j => ((r j : ℝ) : EReal)) (funext fun k => match k with | ⟨0, _⟩ => rfl)
theorem nm_of_finite {a b : ℕ} (x : FVec Ideal ⟨2, ![a, b]⟩ .f32) (hb : (⟨0, ![]⟩ : Shape).BroadcastsInDim ⟨2, ![a, b]⟩ ![])
    (h : cmpf .olt (Host.absf x) (broadcastInDim ⟨2, ![a, b]⟩ ![] hb (constant ⟨0, ![]⟩ .f32 0x7F800000#32)) = fun _ => 1#1) :
    ∃ F : ℕ → ℕ → ℝ, x = nm F ∧ ∀ i j, a ≤ i → F i j = 0 := by
  obtain ⟨r, rfl⟩ := real_of_finite x hb h
  refine ⟨fun i j => if h : i < a ∧ j < b then r (ix2 ⟨i, h.1⟩ ⟨j, h.2⟩) else 0, ?_, fun i j hi => dif_neg (by omega)⟩
  refine funext fun i => ?_
  show _ = (((if h : (i 0).val < a ∧ (i 1).val < b then r (ix2 ⟨(i 0).val, h.1⟩ ⟨(i 1).val, h.2⟩) else 0 : ℝ)) : EReal)
  rw [dif_pos ⟨(i 0).isLt, (i 1).isLt⟩]
  exact congrArg (fun j => ((r j : ℝ) : EReal)) (funext fun k => match k with | ⟨0, _⟩ => rfl | ⟨1, _⟩ => rfl)
theorem nq_of_finite {a b c d : ℕ} (x : FVec Ideal ⟨4, ![a, b, c, d]⟩ .f32) (hb : (⟨0, ![]⟩ : Shape).BroadcastsInDim ⟨4, ![a, b, c, d]⟩ ![])
    (h : cmpf .olt (Host.absf x) (broadcastInDim ⟨4, ![a, b, c, d]⟩ ![] hb (constant ⟨0, ![]⟩ .f32 0x7F800000#32)) = fun _ => 1#1) :
    ∃ F : ℕ → ℕ → ℕ → ℕ → ℝ, x = nq F := by
  obtain ⟨r, rfl⟩ := real_of_finite x hb h
  refine ⟨fun i j k l => if h : (i < a ∧ j < b) ∧ k < c ∧ l < d then r (ix4 ⟨i, h.1.1⟩ ⟨j, h.1.2⟩ ⟨k, h.2.1⟩ ⟨l, h.2.2⟩) else 0, ?_⟩
  refine funext fun i => ?_
  show _ = (((if h : ((i 0).val < a ∧ (i 1).val < b) ∧ (i 2).val < c ∧ (i 3).val < d then
    r (ix4 ⟨(i 0).val, h.1.1⟩ ⟨(i 1).val, h.1.2⟩ ⟨(i 2).val, h.2.1⟩ ⟨(i 3).val, h.2.2⟩) else 0 : ℝ)) : EReal)
  rw [dif_pos ⟨⟨(i 0).isLt, (i 1).isLt⟩, (i 2).isLt, (i 3).isLt⟩]
  exact congrArg (fun j => ((r j : ℝ) : EReal))
    (funext fun k => match k with | ⟨0, _⟩ => rfl | ⟨1, _⟩ => rfl | ⟨2, _⟩ => rfl | ⟨3, _⟩ => rfl)

theorem nc_of_finite {a b c : ℕ} (x : FVec Ideal ⟨3, ![a, b, c]⟩ .f32) (hb : (⟨0, ![]⟩ : Shape).BroadcastsInDim ⟨3, ![a, b, c]⟩ ![])
    (h : cmpf .olt (Host.absf x) (broadcastInDim ⟨3, ![a, b, c]⟩ ![] hb (constant ⟨0, ![]⟩ .f32 0x7F800000#32)) = fun _ => 1#1) :
    ∃ F : ℕ → ℕ → ℕ → ℝ, x = nc F := by
  obtain ⟨r, rfl⟩ := real_of_finite x hb h
  refine ⟨fun i j k => if h : i < a ∧ j < b ∧ k < c then r (ix3 ⟨i, h.1⟩ ⟨j, h.2.1⟩ ⟨k, h.2.2⟩) else 0, ?_⟩
  refine funext fun i => ?_
  show _ = (((if h : (i 0).val < a ∧ (i 1).val < b ∧ (i 2).val < c then r (ix3 ⟨(i 0).val, h.1⟩ ⟨(i 1).val, h.2.1⟩ ⟨(i 2).val, h.2.2⟩) else 0 : ℝ)) : EReal)
  rw [dif_pos ⟨(i 0).isLt, (i 1).isLt, (i 2).isLt⟩]
  exact congrArg (fun j => ((r j : ℝ) : EReal)) (funext fun k => match k with | ⟨0, _⟩ => rfl | ⟨1, _⟩ => rfl | ⟨2, _⟩ => rfl)

/-- An array whose entries need not be numbers is a table too. -/
def em {a b : ℕ} (F : ℕ → ℕ → EReal) : (⟨2, ![a, b]⟩ : Shape).Idx → EReal := fun i => F (i 0) (i 1)
theorem em_apply {a b : ℕ} (F : ℕ → ℕ → EReal) (i : Fin a) (j : Fin b) : em F (ix2 i j) = F i.val j.val := rfl
theorem exists_em {a b : ℕ} (x : FVec Ideal ⟨2, ![a, b]⟩ .f32) : ∃ F : ℕ → ℕ → EReal, x = em F := by
  refine ⟨fun i j => if h : i < a ∧ j < b then x (ix2 ⟨i, h.1⟩ ⟨j, h.2⟩) else 0, funext fun i => ?_⟩
  show _ = if h : (i 0).val < a ∧ (i 1).val < b then x (ix2 ⟨(i 0).val, h.1⟩ ⟨(i 1).val, h.2⟩) else 0
  rw [dif_pos ⟨(i 0).isLt, (i 1).isLt⟩]
  exact congrArg x (funext fun k => match k with | ⟨0, _⟩ => rfl | ⟨1, _⟩ => rfl)

/-- The value of a small word. -/
theorem toInt_ofNat (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- A choice by a comparison of two small words. -/
theorem select_slt {α : Type} (l k : ℕ) (a b : α) (hl : l < 2 ^ 31) (hk : k < 2 ^ 31) :
    Scalar.select (IntOp.cmpi .slt (BitVec.ofNat 32 l) (BitVec.ofNat 32 k)) a b = if l < k then a else b := by
  have e : IntOp.cmpi .slt (BitVec.ofNat 32 l) (BitVec.ofNat 32 k) = BitVec.ofBool (decide (l < k)) := by
    show BitVec.ofBool ((BitVec.ofNat 32 l).slt (BitVec.ofNat 32 k)) = _
    rw [BitVec.slt_eq_decide, toInt_ofNat l hl, toInt_ofNat k hk]
    congr 1
    exact decide_eq_decide.2 (by omega)
  rw [e]
  by_cases h : l < k
  · rw [if_pos h, decide_eq_true h]; rfl
  · rw [if_neg h, decide_eq_false h]; rfl

/-- A sum over the lanes of one head, all others being left out by a block-diagonal weight. -/
theorem sum_block {h d : ℕ} (hd : 0 < d) (f : ℕ → ℝ) (u : ℕ → ℝ) (g : ℕ) (hg : g < h) :
    ∑ k : Fin (h * d), f k.val * (if k.val / d = g then u (k.val % d) else 0) = ∑ i : Fin d, f (d * g + i.val) * u i.val := by
  rw [← finProdFinEquiv.sum_comp, Fintype.sum_prod_type, Finset.sum_eq_single (⟨g, hg⟩ : Fin h)]
  · refine Finset.sum_congr rfl fun i _ => ?_
    have e : (finProdFinEquiv ((⟨g, hg⟩ : Fin h), i)).val = d * g + i.val := by
      rw [finProdFinEquiv_apply_val]; exact Nat.add_comm _ _
    rw [e, Nat.mul_add_div hd, Nat.div_eq_of_lt i.isLt, Nat.add_zero, if_pos rfl, Nat.mul_add_mod, Nat.mod_eq_of_lt i.isLt]
  · intro b _ hb
    refine Finset.sum_eq_zero fun i _ => ?_
    have e : (finProdFinEquiv (b, i)).val = d * b.val + i.val := by
      rw [finProdFinEquiv_apply_val]; exact Nat.add_comm _ _
    rw [e, Nat.mul_add_div hd, Nat.div_eq_of_lt i.isLt, Nat.add_zero, if_neg fun hh => hb (Fin.ext hh), mul_zero]
  · exact fun hh => absurd (Finset.mem_univ _) hh

/-- A sum over the rows, tile by tile. -/
theorem sum_tiles {β : Type} [AddCommMonoid β] (f : ℕ → β) : ∑ k ∈ Finset.range 16, ∑ r : Fin 512, f (512 * k + r.val) = ∑ t : Fin 8192, f t.val := by
  rw [Finset.sum_range, ← (finProdFinEquiv (m := 16) (n := 512)).sum_comp, Fintype.sum_prod_type]
  exact Finset.sum_congr rfl fun k _ => Finset.sum_congr rfl fun r _ => congrArg f (by rw [finProdFinEquiv_apply_val]; exact Nat.add_comm _ _)

/-- A gate: one over one plus an exponential is the affine image of a hyperbolic tangent. -/
def sg (x : ℝ) : ℝ := 1 / (1 + Real.exp (-x))
theorem sg_tanh (x : ℝ) : 1 / 2 * Real.tanh (1 / 2 * x) + 1 / 2 = sg x := by
  have h0 : 0 < Real.exp (1 / 2 * x) := Real.exp_pos _
  have e1 : Real.exp (-(1 / 2 * x)) = (Real.exp (1 / 2 * x))⁻¹ := Real.exp_neg _
  have e2 : Real.exp (-x) = (Real.exp (1 / 2 * x))⁻¹ * (Real.exp (1 / 2 * x))⁻¹ := by
    rw [← Real.exp_neg, ← Real.exp_add]; congr 1; ring
  rw [sg, Real.tanh_eq_sinh_div_cosh, Real.sinh_eq, Real.cosh_eq, e1, e2]
  field_simp
  ring
theorem one_add_exp_pos (x : ℝ) : 0 < 1 + Real.exp (-x) := by positivity

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee]; norm_num; rw [← EReal.coe_mul]; norm_num
theorem ofBits_4 : Ideal.ofBits .f32 0x40800000#32 = ((4 : ℝ) : EReal) := by
  simp [Ideal.ofBits, Ideal.ieee]; norm_num; rw [← EReal.coe_mul]; norm_num
theorem ofBits_8 : Ideal.ofBits .f32 0x41000000#32 = ((8 : ℝ) : EReal) := by
  simp [Ideal.ofBits, Ideal.ieee]; norm_num; rw [← EReal.coe_mul]; norm_num
theorem ofBits_16 : Ideal.ofBits .f32 0x41800000#32 = ((16 : ℝ) : EReal) := by
  simp [Ideal.ofBits, Ideal.ieee]; norm_num; rw [← EReal.coe_mul]; norm_num

end Cert.Tables
end
-- ==== Proof.PoolMath.lean ====
/-
  Mean pooling over trailing windows of 2, 4, 8 and 16 rows, one window length per group of 64 lanes, each group
  then mapped by its own 64×64 weight, scaled and gated: the numbers of its gradient, and the kernel's tile
  arithmetic — four doublings of a rotated tile — read as differences of prefix sums.
-/
module
public import proofs.«01_k».proof.Proof.Tables
public import proofs.«01_k».proof.Proof.Gen.PoolBwdIdeal.Value
@[expose] public section
set_option maxRecDepth 16384
noncomputable section
open Cert.Reals Cert.Tables Idealize.ShloMosaic
namespace Cert.Pool

/-- The sum of the first `n` entries. -/
def P (f : ℕ → ℝ) (n : ℕ) : ℝ := ∑ i ∈ Finset.range n, f i
theorem P_succ (f : ℕ → ℝ) (n : ℕ) : P f (n + 1) = P f n + f n := Finset.sum_range_succ f n
theorem P_zero (f : ℕ → ℝ) : P f 0 = 0 := rfl

/-- The window of a lane, and the number of rows in it at row `t`. -/
def win (l : ℕ) : ℕ := if l < 64 then 2 else if l < 128 then 4 else if l < 192 then 8 else 16
def cnt (t l : ℕ) : ℝ := ((min (t + 1) (win l) : ℕ) : ℝ)
theorem win_pos (l : ℕ) : 0 < win l := by unfold win; split_ifs <;> norm_num
theorem cnt_pos (t l : ℕ) : 0 < cnt t l := Nat.cast_pos.2 (lt_min (Nat.succ_pos t) (win_pos l))

/-- The pooled lanes and their gate, as columns of the projected row. -/
def zc (X : ℕ → ℕ → ℝ) (n l : ℕ) : ℝ := X n (1824 + l)
def gc (X : ℕ → ℕ → ℝ) (n l : ℕ) : ℝ := X n (2080 + l)

section
variable (Z G Y : ℕ → ℕ → ℝ) (W : ℕ → ℕ → ℕ → ℝ) (s : ℕ → ℝ)
/-- The mean of a lane's window, less the row itself. -/
def pooled (t l : ℕ) : ℝ :=
  (P (fun n => Z n l) (t + 1) - P (fun n => Z n l) (t + 1 - win l)) / cnt t l - Z t l
/-- Its image by the lane's group weight. -/
def pc (t l : ℕ) : ℝ := ∑ i : Fin 64, pooled Z t (64 * (l / 64) + i.val) * W (l / 64) i.val (l % 64)
def silu (t l : ℕ) : ℝ := G t l * sg (G t l)
/-- The gradients: in the gate, the scale, the image, the mean and the rows. -/
def dgate (t l : ℕ) : ℝ := Y t l * pc Z W t l * s l * (sg (G t l) * (1 + G t l * (1 - sg (G t l))))
def dpc (t l : ℕ) : ℝ := Y t l * s l * silu G t l
def dpooled (t l : ℕ) : ℝ := ∑ j : Fin 64, dpc G Y s t (64 * (l / 64) + j.val) * W (l / 64) (l % 64) j.val
def dmean (t l : ℕ) : ℝ := dpooled G Y W s t l / cnt t l
def drow (t l : ℕ) : ℝ :=
  P (fun n => dmean G Y W s n l) (t + win l) - P (fun n => dmean G Y W s n l) t - dpooled G Y W s t l
/-- The block-diagonal weight. -/
def blk (i j : ℕ) : ℝ := if i / 64 = j / 64 then W (j / 64) (i % 64) (j % 64) else 0
/-- Sixteen zero rows before the array. -/
def late (n l : ℕ) : ℝ := if n < 16 then 0 else Z (n - 16) l
end

theorem P_late (Z : ℕ → ℕ → ℝ) (l m : ℕ) : P (fun n => late Z n l) m = P (fun n => Z n l) (m - 16) := by
  induction m with
  | zero => rfl
  | succ m ih =>
    rw [P_succ, ih]
    by_cases h : m < 16
    · rw [late, if_pos h, add_zero, show m + 1 - 16 = m - 16 by omega]
    · rw [late, if_neg h, show m + 1 - 16 = m - 16 + 1 by omega, P_succ]

section
open Cert.PoolBwdIdeal Cert.PoolBwdIdeal.Gen

variable (i : grid0.Coords) (T : ℕ) (hT : T = 7 - (i 0).val)
include hT

theorem tile_lt : T < 8 := by have h : (i 0).val < 8 := (i 0).isLt; omega
theorem tile_word : Scalar.subi 7#32 (BitVec.ofNat 32 (i 0).val) = BitVec.ofNat 32 T := by
  subst hT
  have h : (i 0).val < 8 := (i 0).isLt
  generalize (i 0).val = n at h
  interval_cases n <;> rfl

theorem count (j0 : Fin 1024) :
    (FloatOps.sitofp (F := Ideal) FTy.f32 (IntOp.addi (IntOp.addi (Scalar.muli (Scalar.subi 7#32 (BitVec.ofNat 32 (i 0).val)) 1024#32)
      (BitVec.ofNat 32 j0.val)) 1#32) : EReal) = (((1024 * T + j0.val + 1 : ℕ) : ℝ) : EReal) := by
  have hl := tile_lt i T hT
  have e : IntOp.addi (IntOp.addi (Scalar.muli (Scalar.subi 7#32 (BitVec.ofNat 32 (i 0).val)) 1024#32) (BitVec.ofNat 32 j0.val)) 1#32
      = BitVec.ofNat 32 (1024 * T + j0.val + 1) := by
    rw [tile_word i T hT]
    show BitVec.ofNat 32 T * BitVec.ofNat 32 1024 + BitVec.ofNat 32 j0.val + BitVec.ofNat 32 1 = _
    rw [← BitVec.ofNat_mul, ← BitVec.ofNat_add, ← BitVec.ofNat_add, Nat.mul_comm]
  rw [e]
  show (((BitVec.ofNat 32 (1024 * T + j0.val + 1)).toInt : ℝ) : EReal) = _
  rw [toInt_ofNat _ (by have := j0.isLt; omega)]
  norm_cast

theorem pay7_eq : (k0_pay7 (F := Ideal) i : Vec Ideal S1024x256 .f32) = nm (fun r l => cnt (1024 * T + r) l) := by
  funext j; idx_vars j; pointwise [k0_pay7]
  have hl := j1.isLt
  rw [count i T hT]
  simp (disch := omega) only [select_slt, ofBits_two, ofBits_4, ofBits_8, ofBits_16, nm_apply, cnt, win]
  rw [Nat.cast_min]
  split_ifs <;> simp [EReal.coe_strictMono.monotone.map_min]

/-- The tile with its sixteen rows before it, plus itself one row earlier. -/
def s2 (Z : ℕ → ℕ → ℝ) (T : ℕ) (i l : ℕ) : ℝ := late Z (1024 * T + i) l + late Z (1024 * T + (i + 1039) % 1040) l

theorem pay8_eq (Z : ℕ → ℕ → ℝ) :
    (k0_pay8 (F := Ideal) i (nm fun r l => Z (1024 * T + r) l) (nm fun r l => Z ((T * 64 - 1) * 16 + r) l) : Vec Ideal S1040x256 .f32)
      = nm (s2 Z T) := by
  funext j; idx_vars j; pointwise [k0_pay8, k0_pay6]
  have hf : (((Scalar.extui (Scalar.cmpi CmpIPredicate.sgt (Scalar.subi 7#32 (BitVec.ofNat 32 (i 0).val)) 0#32) : BitVec 32)).toInt : ℝ)
      = if T = 0 then 0 else 1 := by
    rw [tile_word i T hT]
    have h := tile_lt i T hT
    clear hT
    interval_cases T <;> simp [Scalar.extui, Scalar.cmpi, IntOp.cmpi] <;> rfl
  have key : ∀ n, n < 1040 → (if h : n < 16 then ((Z ((T * 64 - 1) * 16 + n) j1.val * (if T = 0 then 0 else 1) : ℝ))
      else Z (1024 * T + (n - 16)) j1.val) = late Z (1024 * T + n) j1.val := by
    intro n hn
    by_cases h : n < 16
    · rw [dif_pos h, late]
      by_cases h0 : T = 0
      · rw [if_pos h0, if_pos (by omega), mul_zero]
      · rw [if_neg h0, if_neg (by omega), mul_one, show (T * 64 - 1) * 16 + n = 1024 * T + n - 16 by omega]
    · rw [dif_neg h, late, if_neg (by omega), show 1024 * T + (n - 16) = 1024 * T + n - 16 by omega]
  have h0 := j0.isLt
  have k0 := key _ h0
  have k1 := key ((j0.val + 1039) % 1040) (Nat.mod_lt _ (by norm_num))
  simp only [nm_apply, hf, show j0.val + 1040 - 1 = j0.val + 1039 by omega, ← EReal.coe_mul]
  rw [s2, ← k0, ← k1, EReal.coe_add]
  congr 1 <;> split_ifs <;> rfl

omit hT

/-- The same two rows earlier. -/
theorem pay9_eq (Z : ℕ → ℕ → ℝ) (v7 : Vec Ideal S1024x256 .f32) (v31 : Vec Ideal S16x256 .f32)
    (h : (k0_pay8 (F := Ideal) i v7 v31 : Vec Ideal S1040x256 .f32) = nm (s2 Z T)) :
    (k0_pay9 (F := Ideal) i v7 v31 : Vec Ideal S1040x256 .f32) = nm fun n l => s2 Z T ((n + 1038) % 1040) l := by
  funext j; idx_vars j; unfold k0_pay9; rw [h]; pointwise []
  simp only [nm_apply, show j0.val + 1040 - 2 = j0.val + 1038 by omega]

/-- A prefix sum some entries further on. -/
theorem P_add (f : ℕ → ℝ) (m k : ℕ) : P f (m + k) = P f m + ∑ i ∈ Finset.range k, f (m + i) := Finset.sum_range_add f m k

/-- The doubled tile away from its first row, where the rotation wraps. -/
theorem s2_apply (Z : ℕ → ℕ → ℝ) (T r l k : ℕ) (h : k + 1 + r < 1040) :
    s2 Z T (k + 1 + r) l = late Z (1024 * T + r + 1 + k) l + late Z (1024 * T + r + k) l := by
  rw [s2, show (k + 1 + r + 1039) = 1040 + (k + r) by omega, Nat.add_mod_left, Nat.mod_eq_of_lt (by omega)]
  congr 2 <;> omega

theorem pay10_eq (Z : ℕ → ℕ → ℝ) :
    (k0_pay10 (F := Ideal) (nm fun r l => Z (1024 * T + r) l) (iota .tc S1024x256 32 [1] iota_S1024x256_d1_w32)
      (nm fun r l => cnt (1024 * T + r) l) (nm (s2 Z T)) (nm fun n l => s2 Z T ((n + 1038) % 1040) l) : Vec Ideal S1024x256 .f32)
      = nm (fun r l => pooled Z (1024 * T + r) l) := by
  funext j; idx_vars j; pointwise [k0_pay10]
  have hl := j1.isLt
  have hr := j0.isLt
  have S := fun k h => s2_apply Z T j0.val j1.val k h
  simp (disch := omega) only [select_slt, nm_apply, show 16 + j0.val + 1040 - 4 = 1040 + (12 + j0.val) by omega,
    show 16 + j0.val + 1040 - 8 = 1040 + (8 + j0.val) by omega, Nat.add_mod_left, Nat.mod_eq_of_lt (show 12 + j0.val < 1040 by omega),
    Nat.mod_eq_of_lt (show 8 + j0.val < 1040 by omega), show 8 + j0.val + 1040 - 4 = 1040 + (4 + j0.val) by omega,
    Nat.mod_eq_of_lt (show 4 + j0.val < 1040 by omega), show 16 + j0.val + 1038 = 1040 + (14 + j0.val) by omega,
    show 12 + j0.val + 1038 = 1040 + (10 + j0.val) by omega, show 8 + j0.val + 1038 = 1040 + (6 + j0.val) by omega,
    show 4 + j0.val + 1038 = 1040 + (2 + j0.val) by omega,
    Nat.mod_eq_of_lt (show 14 + j0.val < 1040 by omega), Nat.mod_eq_of_lt (show 10 + j0.val < 1040 by omega),
    Nat.mod_eq_of_lt (show 6 + j0.val < 1040 by omega), Nat.mod_eq_of_lt (show 2 + j0.val < 1040 by omega),
    S 15, S 13, S 11, S 9, S 7, S 5, S 3, S 1, ← EReal.coe_add]
  simp only [← apply_ite (fun x : ℝ => (x : EReal)), div_coe _ _ (cnt_pos _ _).ne', ← EReal.coe_sub]
  rw [pooled]
  congr 3
  generalize hm : 1024 * T + j0.val = m
  have e := P_late Z j1.val (m + 1 + 16)
  have e' := P_late Z j1.val (m + 1 + 16 - win j1.val)
  rw [show m + 1 + 16 - 16 = m + 1 by omega] at e
  rw [show m + 1 + 16 - win j1.val - 16 = m + 1 - win j1.val by omega] at e'
  rw [← e, ← e']
  unfold win
  split_ifs
  · rw [show m + 1 + 16 - 2 = m + 15 by omega, show m + 1 + 16 = m + 15 + 2 by omega, P_add _ (m + 15)]
    simp [Finset.sum_range_succ]; ring_nf
  · rw [show m + 1 + 16 - 4 = m + 13 by omega, show m + 1 + 16 = m + 13 + 4 by omega, P_add _ (m + 13)]
    simp [Finset.sum_range_succ]; ring_nf
  · rw [show m + 1 + 16 - 8 = m + 9 by omega, show m + 1 + 16 = m + 9 + 8 by omega, P_add _ (m + 9)]
    simp [Finset.sum_range_succ]; ring_nf
  · rw [show m + 1 + 16 - 16 = m + 1 by omega, P_add _ (m + 1)]
    simp [Finset.sum_range_succ]; ring_nf

/-- The lanes of an image that a block-diagonal weight mixes. -/
theorem sum_blk (W : ℕ → ℕ → ℕ → ℝ) (f : ℕ → ℝ) (l : ℕ) (hl : l < 256) :
    ∑ k : Fin 256, f k.val * blk W k.val l = ∑ i : Fin 64, f (64 * (l / 64) + i.val) * W (l / 64) i.val (l % 64) :=
  sum_block (h := 4) (d := 64) (by norm_num) f (fun i => W (l / 64) i (l % 64)) (l / 64) (by omega)
theorem sum_blk' (W : ℕ → ℕ → ℕ → ℝ) (f : ℕ → ℝ) (l : ℕ) (hl : l < 256) :
    ∑ k : Fin 256, f k.val * blk W l k.val = ∑ i : Fin 64, f (64 * (l / 64) + i.val) * W (l / 64) (l % 64) i.val := by
  refine (Finset.sum_congr rfl fun k _ => congrArg (f k.val * ·) ?_).trans
    (sum_block (h := 4) (d := 64) (by norm_num) f (fun i => W (l / 64) (l % 64) i) (l / 64) (by omega))
  by_cases h : l / 64 = k.val / 64
  · rw [blk, if_pos h, if_pos h.symm, h]
  · rw [blk, if_neg h, if_neg fun hh => h hh.symm]

section
variable (Z G Y : ℕ → ℕ → ℝ) (W : ℕ → ℕ → ℕ → ℝ) (s : ℕ → ℝ)

theorem pay6_eq : (k0_pay6 (F := Ideal) (nm fun r l => Z (1024 * T + r) l) : Vec Ideal S1024x256 .f32) = nm fun r l => Z (1024 * T + r) l := by
  funext j; idx_vars j; pointwise [k0_pay6]
theorem pay12_eq : (k0_pay12 (F := Ideal) (nm fun r l => G (1024 * T + r) l) : Vec Ideal S1024x256 .f32) = nm fun r l => G (1024 * T + r) l := by
  funext j; idx_vars j; pointwise [k0_pay12]
theorem pay13_eq : (k0_pay13 (F := Ideal) (nm fun r l => G (1024 * T + r) l) : Vec Ideal S1024x256 .f32)
    = nm fun r l => sg (G (1024 * T + r) l) := by
  funext j; idx_vars j; pointwise [k0_pay13, k0_pay12]
  simp only [nm_apply, ofBits_half, ← EReal.coe_mul, Ideal.tanh_coe, ← EReal.coe_add, sg_tanh]
theorem pay14_eq : (k0_pay14 (F := Ideal) (nm fun r l => G (1024 * T + r) l) : Vec Ideal S1024x256 .f32)
    = nm fun r l => silu G (1024 * T + r) l := by
  unfold k0_pay14; rw [pay12_eq, pay13_eq]
  funext j; idx_vars j; pointwise []
  simp only [nm_apply, ← EReal.coe_mul, silu]
theorem pay15_eq : (k0_pay15 (F := Ideal) (nc fun _ _ l => s l) : Vec Ideal S1x256 .f32) = nm fun _ l => s l := by
  funext j; idx_vars j; pointwise [k0_pay15]
  simp only [nm_apply, nc_apply]
theorem pay11_eq (v8 v30 : Vec Ideal S1024x256 .f32) (v10 : IVec S1024x256 32) (v37 v38 : Vec Ideal S1040x256 .f32)
    (h : (k0_pay10 (F := Ideal) v8 v10 v30 v37 v38 : Vec Ideal S1024x256 .f32) = nm fun r l => pooled Z (1024 * T + r) l) :
    (k0_pay11 (F := Ideal) v8 v10 v30 v37 v38 (nc fun _ i j => blk W i j) : Vec Ideal S1024x256 .f32)
      = nm fun r l => pc Z W (1024 * T + r) l := by
  unfold k0_pay11; rw [h]
  funext j; idx_vars j; pointwise []
  simp only [nm_apply, nc_apply, ofBits_zero, ← EReal.coe_mul, sum_coe, ← EReal.coe_add, zero_add]
  rw [sum_blk W (fun k => pooled Z (1024 * T + j0.val) k) _ j1.isLt, pc]
theorem pay16_eq (v8 v30 : Vec Ideal S1024x256 .f32) (v10 : IVec S1024x256 32) (v37 v38 : Vec Ideal S1040x256 .f32)
    (v59 : Vec Ideal S1x256x256 .bf16)
    (h : (k0_pay11 (F := Ideal) v8 v10 v30 v37 v38 v59 : Vec Ideal S1024x256 .f32) = nm fun r l => pc Z W (1024 * T + r) l) :
    (k0_pay16 (F := Ideal) v8 v10 v30 v37 v38 v59 (nm fun r l => Y (1024 * T + r) l) (nc fun _ _ l => s l) : Vec Ideal S1024x256 .f32)
      = nm fun r l => Y (1024 * T + r) l * pc Z W (1024 * T + r) l * s l := by
  unfold k0_pay16; rw [h, pay15_eq]
  funext j; idx_vars j; pointwise []
  simp only [nm_apply, ← EReal.coe_mul]
theorem pay17_eq :
    (k0_pay17 (F := Ideal) (nm fun r l => G (1024 * T + r) l) (nm fun r l => sg (G (1024 * T + r) l))
      (nm fun r l => Y (1024 * T + r) l * pc Z W (1024 * T + r) l * s l) (Scalar.ofBits .f32 0x3F800000#32) : Vec Ideal S1024x256 .bf16)
      = nm fun r l => dgate Z G Y W s (1024 * T + r) l := by
  funext j; idx_vars j; pointwise [k0_pay17]
  simp only [nm_apply, ← EReal.coe_one, ← EReal.coe_mul, ← EReal.coe_sub, ← EReal.coe_add, dgate]
theorem pay18_eq (D : ℕ → ℕ → ℝ) :
    (k0_pay18 (F := Ideal) (nm fun r l => pc Z W (1024 * T + r) l) (nm fun r l => silu G (1024 * T + r) l)
      (nm fun r l => Y (1024 * T + r) l) (nm D) : Vec Ideal S1x256 .f32)
      = nm fun u l => D u l + ∑ r : Fin 1024, Y (1024 * T + r.val) l * pc Z W (1024 * T + r.val) l * silu G (1024 * T + r.val) l := by
  funext j; idx_vars j; pointwise [k0_pay18]
  simp only [nm_apply, ofBits_zero, ← EReal.coe_mul, sum_coe, ← EReal.coe_add, zero_add]
theorem pay19_eq :
    (k0_pay19 (F := Ideal) (nm fun r l => silu G (1024 * T + r) l) (nm fun r l => Y (1024 * T + r) l) (nm fun _ l => s l) : Vec Ideal S1024x256 .f32)
      = nm fun r l => dpc G Y s (1024 * T + r) l := by
  funext j; idx_vars j; pointwise [k0_pay19]
  simp only [nm_apply, ← EReal.coe_mul, dpc]
theorem pay20_eq (D : ℕ → ℕ → ℝ) :
    (k0_pay20 (F := Ideal) (nm fun r l => pooled Z (1024 * T + r) l) (nm fun r l => silu G (1024 * T + r) l)
      (nm fun r l => Y (1024 * T + r) l) (nm fun _ l => s l) (nm D) : Vec Ideal S256x256 .f32)
      = nm fun a b => D a b + ∑ r : Fin 1024, pooled Z (1024 * T + r.val) a * dpc G Y s (1024 * T + r.val) b := by
  unfold k0_pay20; rw [pay19_eq]
  funext j; idx_vars j; pointwise []
  simp only [nm_apply, ofBits_zero, ← EReal.coe_mul, sum_coe, ← EReal.coe_add, zero_add]
theorem pay21_eq :
    (k0_pay21 (F := Ideal) (nm fun r l => silu G (1024 * T + r) l) (nm fun r l => Y (1024 * T + r) l) (nm fun _ l => s l)
      (nc fun _ i j => blk W i j) : Vec Ideal S1024x256 .f32) = nm fun r l => dpooled G Y W s (1024 * T + r) l := by
  unfold k0_pay21; rw [pay19_eq]
  funext j; idx_vars j; pointwise []
  simp only [nm_apply, nc_apply, ofBits_zero, ← EReal.coe_mul, sum_coe, ← EReal.coe_add, zero_add]
  rw [sum_blk' W (fun k => dpc G Y s (1024 * T + j0.val) k) _ j1.isLt, dpooled]
theorem pay22_eq :
    (k0_pay22 (F := Ideal) (nm fun r l => cnt (1024 * T + r) l) (nm fun r l => silu G (1024 * T + r) l) (nm fun r l => Y (1024 * T + r) l)
      (nm fun _ l => s l) (nc fun _ i j => blk W i j) : Vec Ideal S1024x256 .f32) = nm fun r l => dmean G Y W s (1024 * T + r) l := by
  unfold k0_pay22; rw [pay21_eq]
  funext j; idx_vars j; pointwise []
  simp only [nm_apply, div_coe _ _ (cnt_pos _ _).ne', dmean]
theorem pay23_eq :
    (k0_pay23 (F := Ideal) (nm fun r l => cnt (1024 * T + r) l) (nm fun r l => silu G (1024 * T + r) l) (nm fun r l => Y (1024 * T + r) l)
      (nm fun _ l => s l) (nc fun _ i j => blk W i j) (nm fun r l => dmean G Y W s (1024 * (T + 1) + r) l) : Vec Ideal S1040x256 .f32)
      = nm fun n l => dmean G Y W s (1024 * T + n) l + dmean G Y W s (1024 * T + (n + 1) % 1040) l := by
  unfold k0_pay23; rw [pay22_eq]
  funext j; idx_vars j; pointwise []
  have key : ∀ n, (if h : n < 1024 then dmean G Y W s (1024 * T + n) j1.val else dmean G Y W s (1024 * (T + 1) + (n - 1024)) j1.val)
      = dmean G Y W s (1024 * T + n) j1.val := by
    intro n
    split_ifs
    · rfl
    · congr 1; omega
  simp only [nm_apply, show j0.val + 1040 - 1039 = j0.val + 1 by omega]
  rw [← key j0.val, ← key ((j0.val + 1) % 1040), EReal.coe_add]
  congr 1 <;> split_ifs <;> rfl
theorem pay2_eq (D : ℕ → ℕ → ℝ) : (k0_pay2 (F := Ideal) (nm D) : Vec Ideal S16x256 .f32) = nm D := by
  funext j; idx_vars j; pointwise [k0_pay2]
  simp only [nm_apply, zero_add]
theorem pay1_eq :
    (k0_pay1 (F := Ideal) (iota .tc S1024x256 32 [1] iota_S1024x256_d1_w32) (nm fun r l => dpooled G Y W s (1024 * T + r) l)
      (nm fun n l => dmean G Y W s (1024 * T + n) l + dmean G Y W s (1024 * T + (n + 1) % 1040) l) 1038#32 : Vec Ideal S1024x256 .bf16)
      = nm fun r l => drow G Y W s (1024 * T + r) l := by
  funext j; idx_vars j; pointwise [k0_pay1]
  have hl := j1.isLt
  have hr := j0.isLt
  generalize hm : 1024 * T + j0.val = m
  have S : ∀ k, k + j0.val + 1 < 1040 → dmean G Y W s (1024 * T + (k + j0.val)) j1.val
      + dmean G Y W s (1024 * T + (k + j0.val + 1) % 1040) j1.val = dmean G Y W s (m + k) j1.val + dmean G Y W s (m + k + 1) j1.val := by
    intro k hk
    rw [Nat.mod_eq_of_lt hk]
    congr 2 <;> omega
  have S0 := S 0 (by omega)
  rw [Nat.zero_add, hm, Nat.add_zero] at S0
  simp (disch := omega) only [select_slt, nm_apply, hm, show j0.val + 1040 - 1038 = 2 + j0.val by omega,
    show j0.val + 1040 - 1036 = 4 + j0.val by omega, show j0.val + 1040 - 1032 = 8 + j0.val by omega,
    Nat.mod_eq_of_lt (show 2 + j0.val < 1040 by omega), Nat.mod_eq_of_lt (show 4 + j0.val < 1040 by omega),
    Nat.mod_eq_of_lt (show 8 + j0.val < 1040 by omega), show 4 + j0.val + 1040 - 1038 = 6 + j0.val by omega,
    show 8 + j0.val + 1040 - 1038 = 10 + j0.val by omega, show 8 + j0.val + 1040 - 1036 = 12 + j0.val by omega,
    Nat.mod_eq_of_lt (show 6 + j0.val < 1040 by omega), Nat.mod_eq_of_lt (show 10 + j0.val < 1040 by omega),
    Nat.mod_eq_of_lt (show 12 + j0.val < 1040 by omega), show 12 + j0.val + 1040 - 1038 = 14 + j0.val by omega,
    Nat.mod_eq_of_lt (show 14 + j0.val < 1040 by omega), S0, S 2, S 4, S 6, S 8, S 10, S 12, S 14, ← EReal.coe_add]
  simp only [← apply_ite (fun x : ℝ => (x : EReal)), ← EReal.coe_sub]
  rw [drow, P_add]
  congr 2
  unfold win
  split_ifs <;> simp [Finset.sum_range_succ] <;> ring_nf
end
end
end Cert.Pool
end
-- ==== Proof.PoolValue.lean ====
module
public import proofs.«01_k».proof.Proof.PoolMath
public import Idealize.ShloMosaic.Lib.Pipeline.ValueKit.Point
public import Idealize.ShloMosaic.Lib.StableHlo.RunRead
@[expose] public section
set_option maxRecDepth 16384
noncomputable section
open Cert.Reals Cert.Tables Idealize.ShloMosaic Idealize.ShloMosaic.TcCoe Idealize.SL.Sem
open Idealize.ShloMosaic.Pipeline (Dat)
open Cert.PoolBwdIdeal Cert.PoolBwdIdeal.Gen
namespace Cert.PoolBwdIdeal.Blocks
open Cert.Pool
variable (m : (ℓ : Loc nD τ sig) → Buf (Elt Ideal) ℓ) (c : Dev nD)
variable (X Y S : ℕ → ℕ → ℝ) (W : ℕ → ℕ → ℕ → ℕ → ℝ)
theorem coord : ∀ t : Fin cfg0.N, 7 - t.val = 7 - (grid0.coords t 0).val :=
  (by decide +kernel : ∀ t : Fin grid0.N, 7 - t.val = 7 - (grid0.coords t 0).val)
theorem idx0 : ∀ t : Fin cfg0.N, win0_0.index t = ![7 - t.val, 7] :=
  (by decide +kernel : ∀ t : Fin grid0.N, win0_0.index t = ![7 - t.val, 7])
theorem idx1 : ∀ t : Fin cfg0.N, win0_1.index t = ![(7 - t.val) * 64 - 1, 7] :=
  (by decide +kernel : ∀ t : Fin grid0.N, win0_1.index t = ![(7 - t.val) * 64 - 1, 7])
theorem idx2 : ∀ t : Fin cfg0.N, win0_2.index t = ![7 - t.val, 8] :=
  (by decide +kernel : ∀ t : Fin grid0.N, win0_2.index t = ![7 - t.val, 8])
theorem idx3 : ∀ t : Fin cfg0.N, win0_3.index t = ![7 - t.val, 0] :=
  (by decide +kernel : ∀ t : Fin grid0.N, win0_3.index t = ![7 - t.val, 0])
theorem idx4 : ∀ t : Fin cfg0.N, win0_4.index t = ![1, 0, 0] :=
  (by decide +kernel : ∀ t : Fin grid0.N, win0_4.index t = ![1, 0, 0])
theorem idx5 : ∀ t : Fin cfg0.N, win0_5.index t = ![1, 0, 0] :=
  (by decide +kernel : ∀ t : Fin grid0.N, win0_5.index t = ![1, 0, 0])
theorem idx6 : ∀ t : Fin cfg0.N, win0_6.index t = ![7 - t.val, 0] :=
  (by decide +kernel : ∀ t : Fin grid0.N, win0_6.index t = ![7 - t.val, 0])
theorem idx7 : ∀ t : Fin cfg0.N, win0_7.index t = ![7 - t.val, 0] :=
  (by decide +kernel : ∀ t : Fin grid0.N, win0_7.index t = ![7 - t.val, 0])
theorem idx8 : ∀ t : Fin cfg0.N, win0_8.index t = ![0, 0] :=
  (by decide +kernel : ∀ t : Fin grid0.N, win0_8.index t = ![0, 0])
theorem idx9 : ∀ t : Fin cfg0.N, win0_9.index t = ![0, 0] :=
  (by decide +kernel : ∀ t : Fin grid0.N, win0_9.index t = ![0, 0])
variable (hX : m ((c : Thread nD τ).loc main_arg0) = nm X) (hW : m ((c : Thread nD τ).loc main_arg1) = nq W)
  (hS : m ((c : Thread nD τ).loc main_arg2) = nm S) (hY : m ((c : Thread nD τ).loc main_arg3) = nm Y)
theorem piece (u0 : Vec Ideal S8192x584 .f32) (u1 : Vec Ideal S8192x568 .f32) (u2 : Vec Ideal S8192x312 .f32) (u3 : Vec Ideal S8192x72 .f32)
    (u4 : Vec Ideal S8192x16 .f32) (u5 : Vec Ideal S8192x240 .f32) (u6 : Vec Ideal S8192x512 .f32) (u7 : Vec Ideal S8192x64 .f32)
    (u8 u9 : Vec Ideal S8192x32 .f32) (h) (n : Fin 8192) (l : Fin 512) :
    concatenate S8192x2432 1 [⟨S8192x584, u0⟩, ⟨S8192x568, u1⟩, ⟨S8192x312, u2⟩, ⟨S8192x72, u3⟩, ⟨S8192x16, u4⟩, ⟨S8192x240, u5⟩,
      ⟨S8192x512, u6⟩, ⟨S8192x64, u7⟩, ⟨S8192x32, u8⟩, ⟨S8192x32, u9⟩] h (ix2 n ⟨1792 + l.val, by omega⟩) = u6 (ix2 n l) :=
  concatenate_apply_piece (t := S8192x2432) 1 [⟨S8192x584, u0⟩, ⟨S8192x568, u1⟩, ⟨S8192x312, u2⟩, ⟨S8192x72, u3⟩, ⟨S8192x16, u4⟩,
      ⟨S8192x240, u5⟩, ⟨S8192x512, u6⟩, ⟨S8192x64, u7⟩, ⟨S8192x32, u8⟩, ⟨S8192x32, u9⟩] h (ix2 n ⟨1792 + l.val, by omega⟩)
    6 (by simp) S8192x512 u6 rfl rfl 1792 rfl (ix2 n l) (fun b hb => match b with
    | ⟨0, _⟩ => rfl
    | ⟨1, _⟩ => absurd rfl hb) rfl
include hX in
set_option maxHeartbeats 4000000 in
theorem lanes (n : Fin 8192) (l : Fin 512) :
    (V m c main_v13 : Vec Ideal S8192x2432 .f32) (ix2 n ⟨1792 + l.val, by omega⟩) = ((X n.val (1824 + l.val) : ℝ) : EReal) := by
  show (StableHlo.after hostOps0 (fun b => m (c, b)) (Proc.devRef .tc main_v13) : Vec Ideal S8192x2432 .f32) _ = _
  after_reads_simp
  refine Eq.trans (piece _ _ _ _ _ _ _ _ _ _ _ n l) ?_
  change (StableHlo.unary main_v3 main_v9 _ _ _).result _ (Proc.devRef .tc main_v9) _ = _
  after_reads_simp
  pointwise []
  show m ((c : Thread nD τ).loc main_arg0) _ = _
  rw [hX, nm_apply]
  dsimp only
  rw [show 1752 + (72 + l.val) = 1824 + l.val by omega]
include hW in
theorem weight (l i j : ℕ) (hl : l < 4) (hi : i < 256) (hj : j < 256) :
    (V m c main_v26 : Vec Ideal S4x256x256 .bf16) (ix3 ⟨l, hl⟩ ⟨i, hi⟩ ⟨j, hj⟩) = ((Cert.Pool.blk (W l) i j : ℝ) : EReal) := by
  entry_read
  pointwise []
  rw [hW]
  simp only [nq_apply, Cert.Pool.blk]
  have e : ∀ a b : Fin 4, (FloatOps.uitofp (F := Ideal) FTy.f32 (IntOp.cmpi .eq (IntOp.addi (BitVec.ofNat 32 a.val) 0#32) (BitVec.ofNat 32 b.val)) : EReal)
      = (((if a.val = b.val then 1 else 0 : ℝ)) : EReal) := by
    intro a b
    show (((IntOp.cmpi .eq (IntOp.addi (BitVec.ofNat 32 a.val) 0#32) (BitVec.ofNat 32 b.val)).toNat : ℝ) : EReal) = _
    have h : ∀ a b : Fin 4, (IntOp.cmpi .eq (IntOp.addi (BitVec.ofNat 32 a.val) 0#32) (BitVec.ofNat 32 b.val)).toNat = if a.val = b.val then 1 else 0 := by decide +kernel
    rw [h]
    split_ifs <;> simp
  have e' := e ⟨i / 64, by omega⟩ ⟨j / 64, by omega⟩
  dsimp only at e'
  rw [e', ← EReal.coe_mul]
  split_ifs with h
  · rw [mul_one, h]
  · rw [mul_zero]
include hY in
theorem iblk3 (t : Fin cfg0.N) : (iblk m c 3 t : Vec Ideal S1024x256 .f32) = nm fun r l => Y (1024 * (7 - t.val) + r) l := by
  funext j; idx_vars j
  have e : (win0_3.blk t).view.emb (ix2 j0 j1) = ix2 ⟨1024 * (7 - t.val) + j0.val, by omega⟩ j1 := by blk_ext [idx3 t]
  blk_simp [iblk]
  rw [e, V_main_arg3, hY]
  rfl
include hS in
theorem iblk5 (t : Fin cfg0.N) : (iblk m c 5 t : Vec Ideal S1x1x256 .f32) = nc fun _ _ l => S 1 l := by
  funext j; idx_vars j
  rw [nc_apply]
  have e : (win0_5.blk t).view.emb (ix3 j0 j1 j2) = ix3 ⟨1, by omega⟩ 0 j2 := by blk_ext [idx5 t]
  blk_simp [iblk, e]
  entry_read; pointwise []
  rw [hS]
  rfl
include hX
theorem X0 (t : Fin cfg0.N) : (X0_0 m c t : Vec Ideal S1024x256 .f32) = nm fun r l => zc X (1024 * (7 - t.val) + r) l := by
  funext j; idx_vars j
  rw [nm_apply]
  unfold X0_0 Pipeline.Window.fill
  rw [dif_pos (moved0_0 t _)]
  have e : ∀ h : ∀ a, (ix2 j0 j1 a).val < (win0_0.xblock (grid0.coords t)).size a, (win0_0.blk t).view.emb (fun a => ⟨(ix2 j0 j1 a).val, h a⟩)
      = ix2 ⟨1024 * (7 - t.val) + j0.val, by omega⟩ ⟨1792 + j1.val, by omega⟩ := by intro h; blk_ext [idx0 t]
  have e2 := lanes m c X hX ⟨1024 * (7 - t.val) + j0.val, by omega⟩ ⟨j1.val, by omega⟩
  rw [← e fun a => (Pipeline.Window.moved_iff _ _ _).mp (moved0_0 t (ix2 j0 j1)) a] at e2
  exact e2
theorem X1 (t : Fin cfg0.N) : (X0_1 m c t : Vec Ideal S16x256 .f32) = nm fun r l => zc X (((7 - t.val) * 64 - 1) * 16 + r) l := by
  funext j; idx_vars j
  rw [nm_apply]
  unfold X0_1 Pipeline.Window.fill
  rw [dif_pos (moved0_1 t _)]
  have e : ∀ h : ∀ a, (ix2 j0 j1 a).val < (win0_1.xblock (grid0.coords t)).size a, (win0_1.blk t).view.emb (fun a => ⟨(ix2 j0 j1 a).val, h a⟩)
      = ix2 ⟨((7 - t.val) * 64 - 1) * 16 + j0.val, by omega⟩ ⟨1792 + j1.val, by omega⟩ := by intro h; blk_ext [idx1 t]
  have e2 := lanes m c X hX ⟨((7 - t.val) * 64 - 1) * 16 + j0.val, by omega⟩ ⟨j1.val, by omega⟩
  rw [← e fun a => (Pipeline.Window.moved_iff _ _ _).mp (moved0_1 t (ix2 j0 j1)) a] at e2
  exact e2
theorem X2 (t : Fin cfg0.N) : (X0_2 m c t : Vec Ideal S1024x256 .f32) = nm fun r l => gc X (1024 * (7 - t.val) + r) l := by
  funext j; idx_vars j
  rw [nm_apply]
  unfold X0_2 Pipeline.Window.fill
  rw [dif_pos (moved0_2 t _)]
  have e : ∀ h : ∀ a, (ix2 j0 j1 a).val < (win0_2.xblock (grid0.coords t)).size a, (win0_2.blk t).view.emb (fun a => ⟨(ix2 j0 j1 a).val, h a⟩)
      = ix2 ⟨1024 * (7 - t.val) + j0.val, by omega⟩ ⟨1792 + (256 + j1.val), by omega⟩ := by intro h; blk_ext [idx2 t]
  have e2 := lanes m c X hX ⟨1024 * (7 - t.val) + j0.val, by omega⟩ ⟨256 + j1.val, by omega⟩
  rw [← e fun a => (Pipeline.Window.moved_iff _ _ _).mp (moved0_2 t (ix2 j0 j1)) a] at e2
  exact e2.trans (by rw [gc, show 1824 + (256 + j1.val) = 2080 + j1.val by omega])
omit hX
include hW in
theorem iblk4 (t : Fin cfg0.N) : (iblk m c 4 t : Vec Ideal S1x256x256 .bf16) = nc fun _ i j => Cert.Pool.blk (W 1) i j := by
  funext j; idx_vars j
  have e : (win0_4.blk t).view.emb (ix3 j0 j1 j2) = ix3 ⟨1, by omega⟩ j1 j2 := by blk_ext [idx4 t]
  blk_simp [iblk]
  rw [e]
  exact weight m c W hW 1 j1.val j2.val (by omega) j1.isLt j2.isLt

theorem pay345 : (k0_pay3 (F := Ideal) : Vec Ideal S16x256 .f32) = nm (fun _ _ => 0) ∧ (k0_pay4 (F := Ideal) : Vec Ideal S256x256 .f32) = nm (fun _ _ => 0)
    ∧ (k0_pay5 (F := Ideal) : Vec Ideal S1x256 .f32) = nm (fun _ _ => 0) := by
  refine ⟨?_, ?_, ?_⟩ <;> funext j <;> idx_vars j <;> pointwise [k0_pay3, k0_pay4, k0_pay5] <;> simp only [nm_apply, ofBits_zero, EReal.coe_zero]

omit hX hW hS hY
/-- Eight tiles summed from the last to the first are the sum over all rows. -/
theorem sum_tiles (f : ℕ → ℝ) : ∑ k ∈ Finset.range 8, ∑ r : Fin 1024, f (1024 * (7 - k) + r.val) = ∑ t : Fin 8192, f t.val := by
  rw [Finset.sum_range_reflect (fun k => ∑ r : Fin 1024, f (1024 * k + r.val)) 8, Finset.sum_range, ← (finProdFinEquiv (m := 8) (n := 1024)).sum_comp, Fintype.sum_prod_type]
  exact Finset.sum_congr rfl fun k _ => Finset.sum_congr rfl fun r _ => congrArg f (by rw [finProdFinEquiv_apply_val]; exact Nat.add_comm _ _)
/-- The group means before the weight, of one tile. -/
theorem pooled_tile (t : Fin cfg0.N) : (k0_pay10 (F := Ideal) (k0_pay6 (nm fun r l => zc X (1024 * (7 - t.val) + r) l))
      (iota .tc S1024x256 32 [1] iota_S1024x256_d1_w32) (k0_pay7 (grid0.coords t))
      (k0_pay8 (grid0.coords t) (nm fun r l => zc X (1024 * (7 - t.val) + r) l) (nm fun r l => zc X (((7 - t.val) * 64 - 1) * 16 + r) l))
      (k0_pay9 (grid0.coords t) (nm fun r l => zc X (1024 * (7 - t.val) + r) l) (nm fun r l => zc X (((7 - t.val) * 64 - 1) * 16 + r) l)) : Vec Ideal S1024x256 .f32)
    = nm fun r l => pooled (zc X) (1024 * (7 - t.val) + r) l := by
  have hc := coord t
  have p8 := pay8_eq (grid0.coords t) _ hc (zc X)
  rw [p8, pay9_eq _ _ _ _ _ p8, pay6_eq, pay7_eq _ _ hc, pay10_eq]

include hX hW hY hS
theorem final7 : (dats m 0 c).arrAt 7 cfg0.N = nm (dgate (zc X) (gc X) Y (W 1) (S 1)) := by
  refine (dats m 0 c).arrAt_eq_of_covers 7 _ (by decide +kernel) fun t hf y => ?_
  blk_simp
  rw [after0_7]
  have key : ∀ y, (nm fun r l => dgate (zc X) (gc X) Y (W 1) (S 1) (1024 * (7 - t.val) + r) l : Vec Ideal S1024x256 .bf16) y
      = nm (dgate (zc X) (gc X) Y (W 1) (S 1)) ((win0_7.blk t).view.emb y) := by
    intro y
    idx_vars y
    have e : (win0_7.blk t).view.emb (ix2 y0 y1) = ix2 ⟨1024 * (7 - t.val) + y0.val, by omega⟩ y1 := by blk_ext [idx7 t]
    rw [e, nm_apply, nm_apply]
  by_cases h0 : t.val % 8 = 0
  · rw [outsAt0_A m c t h0]; frame_out; rw [X0 m c X hX, X1 m c X hX, X2 m c X hX, iblk3 m c Y hY, iblk4 m c W hW, iblk5 m c S hS]
    rw [pay12_eq, pay13_eq, pay16_eq _ (zc X) Y (W 1) (S 1) _ _ _ _ _ _ (pay11_eq _ _ _ _ _ _ _ _ (pooled_tile X t)), pay17_eq]
    exact key y
  · rw [outsAt0_B m c t h0]; frame_out; rw [X0 m c X hX, X1 m c X hX, X2 m c X hX, iblk3 m c Y hY, iblk4 m c W hW, iblk5 m c S hS]
    rw [pay12_eq, pay13_eq, pay16_eq _ (zc X) Y (W 1) (S 1) _ _ _ _ _ _ (pay11_eq _ _ _ _ _ _ _ _ (pooled_tile X t)), pay17_eq]
    exact key y
omit hW hS
variable (hZ : ∀ i j, 8192 ≤ i → Y i j = 0)
include hW hS
/-- The carried scratch after a point: the first sixteen rows of that tile's mean gradient. -/
theorem carried (t : Fin cfg0.N) : (outsAt0 m c t.val t.isLt).2.2.2.2 = nm fun r l => dmean (gc X) Y (W 1) (S 1) (1024 * (7 - t.val) + r) l := by
  by_cases h0 : t.val % 8 = 0
  · rw [outsAt0_A m c t h0]; frame_out; rw [X2 m c X hX, iblk3 m c Y hY, iblk4 m c W hW, iblk5 m c S hS]
    rw [pay7_eq _ _ (coord t), pay14_eq, pay15_eq, pay22_eq, pay2_eq]
  · rw [outsAt0_B m c t h0]; frame_out; rw [X2 m c X hX, iblk3 m c Y hY, iblk4 m c W hW, iblk5 m c S hS]
    rw [pay7_eq _ _ (coord t), pay14_eq, pay15_eq, pay22_eq, pay2_eq]
include hZ
theorem final6 : (dats m 0 c).arrAt 6 cfg0.N = nm (drow (gc X) Y (W 1) (S 1)) := by
  refine (dats m 0 c).arrAt_eq_of_covers 6 _ (by decide +kernel) fun t hf y => ?_
  blk_simp
  rw [after0_6]
  have key : ∀ y, (nm fun r l => drow (gc X) Y (W 1) (S 1) (1024 * (7 - t.val) + r) l : Vec Ideal S1024x256 .bf16) y
      = nm (drow (gc X) Y (W 1) (S 1)) ((win0_6.blk t).view.emb y) := by
    intro y
    idx_vars y
    have e : (win0_6.blk t).view.emb (ix2 y0 y1) = ix2 ⟨1024 * (7 - t.val) + y0.val, by omega⟩ y1 := by blk_ext [idx6 t]
    rw [e, nm_apply, nm_apply]
  by_cases h0 : t.val % 8 = 0
  · have z : (nm fun _ _ => 0 : Vec Ideal S16x256 .f32) = nm fun r l => dmean (gc X) Y (W 1) (S 1) (1024 * (7 - t.val + 1) + r) l := by
      refine nm_congr fun i j _ _ => ?_
      have : t.val < 8 := t.isLt
      simp only [dmean, dpooled, dpc, hZ _ _ (show 8192 ≤ 1024 * (7 - t.val + 1) + i by omega), zero_mul, Finset.sum_const_zero, zero_div]
    rw [outsAt0_A m c t h0]; frame_out; rw [X2 m c X hX, iblk3 m c Y hY, iblk4 m c W hW, iblk5 m c S hS]
    rw [pay7_eq _ _ (coord t), pay14_eq, pay15_eq, pay345.1, z, pay21_eq, pay23_eq, pay1_eq]
    exact key y
  · have z := carried m c X Y S W hX hW hS hY ⟨t.val - 1, Nat.lt_of_le_of_lt (Nat.sub_le _ _) t.isLt⟩
    have ht : t.val < 8 := t.isLt
    rw [show 7 - (t.val - 1) = 7 - t.val + 1 by omega] at z
    rw [outsAt0_B m c t h0]; frame_out; rw [X2 m c X hX, iblk3 m c Y hY, iblk4 m c W hW, iblk5 m c S hS]
    rw [pay7_eq _ _ (coord t), pay14_eq, pay15_eq, show View.read (Elt Ideal) (View.whole cc0_scratch0) _ = _ from Memref.IsWhole.read_unread _ _, z, pay21_eq, pay23_eq, pay1_eq]
    exact key y
omit hZ
theorem acc8 (n : ℕ) (hn : n < cfg0.N) : (outsAt0 m c n hn).2.2.1 = nm fun a b => ∑ k ∈ Finset.range (n + 1), ∑ r : Fin 1024,
    pooled (zc X) (1024 * (7 - k) + r.val) a * dpc (gc X) Y (S 1) (1024 * (7 - k) + r.val) b := by
  induction n with
  | zero =>
    rw [outsAt0_A m c ⟨0, hn⟩ rfl]; frame_out; rw [X0 m c X hX, X1 m c X hX, X2 m c X hX, iblk3 m c Y hY, iblk5 m c S hS]
    rw [pooled_tile, pay14_eq, pay15_eq, pay345.2.1, pay20_eq]
    simp only [Finset.sum_range_one, zero_add]
  | succ n ih =>
    have h : n + 1 < 8 := hn
    rw [outsAt0_B m c ⟨n + 1, hn⟩ (show ¬ (n + 1) % 8 = 0 by omega)]; frame_out; rw [X0 m c X hX, X1 m c X hX, X2 m c X hX, iblk3 m c Y hY, iblk5 m c S hS]
    rw [pooled_tile, pay14_eq, pay15_eq]
    simp only [Nat.add_sub_cancel]
    rw [ih, pay20_eq]
    simp only [Finset.sum_range_succ _ (n + 1)]
theorem acc9 (n : ℕ) (hn : n < cfg0.N) : (outsAt0 m c n hn).2.2.2.1 = nm fun _ l => ∑ k ∈ Finset.range (n + 1), ∑ r : Fin 1024,
    Y (1024 * (7 - k) + r.val) l * pc (zc X) (W 1) (1024 * (7 - k) + r.val) l * silu (gc X) (1024 * (7 - k) + r.val) l := by
  induction n with
  | zero =>
    rw [outsAt0_A m c ⟨0, hn⟩ rfl]; frame_out; rw [X0 m c X hX, X1 m c X hX, X2 m c X hX, iblk3 m c Y hY, iblk4 m c W hW]
    rw [pay11_eq _ _ _ _ _ _ _ _ (pooled_tile X ⟨0, hn⟩), pay14_eq, pay345.2.2, pay18_eq]
    simp only [Finset.sum_range_one, zero_add]
  | succ n ih =>
    have h : n + 1 < 8 := hn
    rw [outsAt0_B m c ⟨n + 1, hn⟩ (show ¬ (n + 1) % 8 = 0 by omega)]; frame_out; rw [X0 m c X hX, X1 m c X hX, X2 m c X hX, iblk3 m c Y hY, iblk4 m c W hW]
    rw [pay11_eq _ _ _ _ _ _ _ _ (pooled_tile X ⟨n + 1, hn⟩), pay14_eq]
    simp only [Nat.add_sub_cancel]
    rw [ih, pay18_eq]
    simp only [Finset.sum_range_succ _ (n + 1)]
theorem final8 : (dats m 0 c).arrAt 8 cfg0.N = nm fun a b => ∑ t : Fin 8192, pooled (zc X) t.val a * dpc (gc X) Y (S 1) t.val b := by
  refine (dats m 0 c).arrAt_eq_of_covers 8 _ (by decide +kernel) fun t hf y => ?_
  have h7 : t.val = 7 := by have := (flush0_8 t).mp hf; have : t.val < 8 := t.isLt; omega
  blk_simp
  rw [after0_8, acc8 m c X Y S W hX hW hS hY]
  idx_vars y
  have e : (win0_8.blk t).view.emb (ix2 y0 y1) = ix2 y0 y1 := by blk_ext [idx8 t]
  rw [e, nm_apply, nm_apply, h7, sum_tiles fun r => pooled (zc X) r y0.val * dpc (gc X) Y (S 1) r y1.val]
theorem final9 : (dats m 0 c).arrAt 9 cfg0.N = nm fun _ l => ∑ t : Fin 8192, Y t.val l * pc (zc X) (W 1) t.val l * silu (gc X) t.val l := by
  refine (dats m 0 c).arrAt_eq_of_covers 9 _ (by decide +kernel) fun t hf y => ?_
  have h7 : t.val = 7 := by have := (flush0_9 t).mp hf; have : t.val < 8 := t.isLt; omega
  blk_simp
  rw [after0_9, acc9 m c X Y S W hX hW hS hY]
  idx_vars y
  have e : (win0_9.blk t).view.emb (ix2 y0 y1) = ix2 y0 y1 := by blk_ext [idx9 t]
  rw [e, nm_apply, nm_apply, h7, sum_tiles fun r => Y r y1.val * pc (zc X) (W 1) r y1.val * silu (gc X) r y1.val]
end Cert.PoolBwdIdeal.Blocks
-- ==== Proof.PoolRef.lean ====
/-
  The plain gradient of the pooling branch, read stage by stage as tables of reals.
-/
module
public import proofs.«01_k».proof.Proof.PoolMath
public import proofs.«01_k».proof.Proof.Gen.PoolBwdRefIdeal.Read
@[expose] public section
set_option maxRecDepth 16384
noncomputable section
open Cert.Reals Cert.Tables Cert.Pool Idealize.ShloMosaic Cert.PoolBwdRefIdeal Cert.PoolBwdRefIdeal.Read
namespace Cert.PoolBwdRefIdeal.Stages

theorem foldl_add {α : Type} (l : List α) (f : α → ℝ) (z : ℝ) :
    l.foldl (fun (r : EReal) n => r + ((f n : ℝ) : EReal)) (z : EReal) = ((z + (l.map f).sum : ℝ) : EReal) := by
  induction l generalizing z with
  | nil => simp
  | cons a l ih => rw [List.foldl_cons, ← EReal.coe_add, ih, List.map_cons, List.sum_cons, add_assoc]

theorem numel_col (N : ℕ) : (⟨2, ![N, 1]⟩ : Shape).numel = N := by
  show ∏ a : Fin 2, (![N, 1] : Fin 2 → Nat) a = N
  rw [Fin.prod_univ_two]; exact Nat.mul_one N
theorem symm_col {N : ℕ} (n : Fin (⟨2, ![N, 1]⟩ : Shape).numel) :
    (⟨2, ![N, 1]⟩ : Shape).rowMajor.symm n = ix2 (n.cast (numel_col N)) (0 : Fin 1) :=
  ((⟨2, ![N, 1]⟩ : Shape).rowMajor.symm_apply_eq).2 (Fin.ext (by
    rw [Shape.rowMajor_val_two]; show n.val = n.val * 1 + 0; omega))

/-- A window down the whole column, padded `L` low, as a sum over its positions. -/
theorem window_sum {N C L H : ℕ} (F : ℕ → ℕ → ℝ) (init : FVec Ideal ⟨0, ![]⟩ .f32) (hi : ∀ i, init i = 0)
    (h : (⟨2, ![N, C]⟩ : Shape).ReduceWindows (![N, 1] : Fin 2 → Nat) ![1, 1] ![L, 0] ![H, 0] ⟨2, ![N, C]⟩) (hu : 0 < (⟨0, ![]⟩ : Shape).numel) :
    (Host.reduceWindowAdd (F := Ideal) (φ := .f32) (s := ⟨2, ![N, C]⟩) ![N, 1] ![1, 1] ![L, 0] ![H, 0] (nm F) init h hu : FVec Ideal ⟨2, ![N, C]⟩ .f32)
      = nm fun j l => ∑ n : Fin N, if L ≤ j + n.val ∧ j + n.val - L < N then F (j + n.val - L) l else 0 := by
  funext y
  show Host.reduceWindow (· + ·) _ _ _ _ (nm F : (⟨2, ![N, C]⟩ : Shape).Idx → EReal) (fun _ : (⟨0, ![]⟩ : Shape).Idx => init (Shape.Idx.first hu)) h (by decide) y = _
  unfold Host.reduceWindow
  dsimp only
  refine (congrArg₂ (fun f z => (List.finRange (⟨2, ![N, 1]⟩ : Shape).numel).foldl f z) (funext fun r => funext fun n =>
    congrArg (r + ·) (?_ : _ = (((if L ≤ (y 0).val + n.val ∧ (y 0).val + n.val - L < N then F ((y 0).val + n.val - L) (y 1).val else 0 : ℝ)) : EReal)))
    (hi (Shape.Idx.first hu))).trans ?_
  · have w0 : ((⟨2, ![N, 1]⟩ : Shape).rowMajor.symm n 0).val = n.val := by rw [symm_col]; rfl
    have w1 : ((⟨2, ![N, 1]⟩ : Shape).rowMajor.symm n 1).val = 0 := by rw [symm_col]; rfl
    have y1 : (y 1).val < C := (y 1).isLt
    split
    · next hin =>
      have h0 := hin 0
      change L ≤ (y 0).val * 1 + ((⟨2, ![N, 1]⟩ : Shape).rowMajor.symm n 0).val ∧ (y 0).val * 1 + ((⟨2, ![N, 1]⟩ : Shape).rowMajor.symm n 0).val - L < N at h0
      rw [w0, Nat.mul_one] at h0
      rw [if_pos h0]
      show ((F ((y 0).val * 1 + ((⟨2, ![N, 1]⟩ : Shape).rowMajor.symm n 0).val - L) ((y 1).val * 1 + ((⟨2, ![N, 1]⟩ : Shape).rowMajor.symm n 1).val - 0) : ℝ) : EReal) = _
      rw [w0, w1, Nat.mul_one, Nat.mul_one, Nat.add_zero, Nat.sub_zero]
    · next hin =>
      rw [if_neg, hi]
      · rfl
      · intro hle
        refine hin fun a => ?_
        match a with
        | ⟨0, _⟩ =>
          show L ≤ (y 0).val * 1 + ((⟨2, ![N, 1]⟩ : Shape).rowMajor.symm n 0).val ∧ (y 0).val * 1 + ((⟨2, ![N, 1]⟩ : Shape).rowMajor.symm n 0).val - L < N
          rw [w0, Nat.mul_one]; exact hle
        | ⟨1, _⟩ =>
          show 0 ≤ (y 1).val * 1 + ((⟨2, ![N, 1]⟩ : Shape).rowMajor.symm n 1).val ∧ (y 1).val * 1 + ((⟨2, ![N, 1]⟩ : Shape).rowMajor.symm n 1).val - 0 < C
          rw [w1]; omega
  refine (foldl_add _ _ 0).trans ?_
  show _ = ((_ : ℝ) : EReal)
  rw [zero_add, ← Fin.sum_univ_def]
  exact congrArg _ ((finCongr (numel_col N)).sum_comp fun n : Fin N => if L ≤ (y 0).val + n.val ∧ (y 0).val + n.val - L < N then F ((y 0).val + n.val - L) (y 1).val else 0)

theorem prefix_sum (f : ℕ → ℝ) (N M j : ℕ) (hM : M = N + 1) (hj : j < M) :
    (∑ n : Fin M, if N ≤ j + n.val ∧ j + n.val - N < M then f (j + n.val - N) else 0) = P f (j + 1) := by
  subst hM
  rw [Fin.sum_univ_eq_sum_range fun n => if N ≤ j + n ∧ j + n - N < N + 1 then f (j + n - N) else 0,
    show N + 1 = (N - j) + (j + 1) by omega, Finset.sum_range_add, Finset.sum_eq_zero, zero_add, P]
  · refine Finset.sum_congr rfl fun k hk => ?_
    have := Finset.mem_range.1 hk
    rw [if_pos (by omega)]; congr 1; omega
  · intro k hk
    have := Finset.mem_range.1 hk
    rw [if_neg (by omega)]
theorem suffix_sum (f : ℕ → ℝ) (N j : ℕ) (hj : j ≤ N) :
    (∑ n : Fin N, if 0 ≤ j + n.val ∧ j + n.val - 0 < N then f (j + n.val - 0) else 0) = P f N - P f j := by
  obtain ⟨k, rfl⟩ := Nat.exists_eq_add_of_le hj
  rw [Fin.sum_univ_eq_sum_range fun n => if 0 ≤ j + n ∧ j + n - 0 < j + k then f (j + n - 0) else 0, eq_sub_iff_add_eq', P, P,
    Finset.sum_range_add f j k]
  congr 1
  rw [Nat.add_comm j k, Finset.sum_range_add _ k j, Finset.sum_eq_zero (s := Finset.range j), add_zero]
  · refine Finset.sum_congr rfl fun n hn => ?_
    have := Finset.mem_range.1 hn
    rw [if_pos (by omega)]; rfl
  · intro n _
    rw [if_neg (by omega)]

/-- Running sums down a column, from the top and from the bottom. -/
theorem cumsum {N C L : ℕ} (hN : N = L + 1) (F : ℕ → ℕ → ℝ) (init : FVec Ideal ⟨0, ![]⟩ .f32) (hi : ∀ i, init i = 0)
    (h : (⟨2, ![N, C]⟩ : Shape).ReduceWindows (![N, 1] : Fin 2 → Nat) ![1, 1] ![L, 0] ![0, 0] ⟨2, ![N, C]⟩) (hu : 0 < (⟨0, ![]⟩ : Shape).numel) :
    (Host.reduceWindowAdd (F := Ideal) (φ := .f32) (s := ⟨2, ![N, C]⟩) ![N, 1] ![1, 1] ![L, 0] ![0, 0] (nm F) init h hu : FVec Ideal ⟨2, ![N, C]⟩ .f32)
      = nm fun j l => P (fun n => F n l) (j + 1) :=
  (window_sum F init hi h hu).trans (nm_congr fun j hj l _ => prefix_sum (fun n => F n l) L N j hN hj)
theorem cumsum_rev {N C H : ℕ} (F : ℕ → ℕ → ℝ) (init : FVec Ideal ⟨0, ![]⟩ .f32) (hi : ∀ i, init i = 0)
    (h : (⟨2, ![N, C]⟩ : Shape).ReduceWindows (![N, 1] : Fin 2 → Nat) ![1, 1] ![0, 0] ![H, 0] ⟨2, ![N, C]⟩) (hu : 0 < (⟨0, ![]⟩ : Shape).numel) :
    (Host.reduceWindowAdd (F := Ideal) (φ := .f32) (s := ⟨2, ![N, C]⟩) ![N, 1] ![1, 1] ![0, 0] ![H, 0] (nm F) init h hu : FVec Ideal ⟨2, ![N, C]⟩ .f32)
      = nm fun j l => P (fun n => F n l) N - P (fun n => F n l) j :=
  (window_sum F init hi h hu).trans (nm_congr fun j hj l _ => suffix_sum (fun n => F n l) N j hj.le)

variable (X Y S : ℕ → ℕ → ℝ) (W : ℕ → ℕ → ℕ → ℕ → ℝ)
abbrev aX : FVec Ideal S8192x2336 .f32 := nm X
abbrev aW : FVec Ideal S4x4x64x64 .f32 := nq W
abbrev aS : FVec Ideal S4x256 .f32 := nm S
abbrev aY : FVec Ideal S8192x256 .f32 := nm Y

theorem v0 : (val_main_v0 (F := Ideal) (aX X) : FVec Ideal S8192x256 .f32) = nm (zc X) := by
  funext j; idx_vars j; pointwise [val_main_v0]; simp only [nm_apply, zc]
theorem v1 : (val_main_v1 (F := Ideal) (aX X) : FVec Ideal S8192x256 .f32) = nm (gc X) := by
  funext j; idx_vars j; pointwise [val_main_v1]; simp only [nm_apply, gc]
theorem v3 : (val_main_v3 (F := Ideal) (aW W) : FVec Ideal S4x64x64 .f32) = nc (W 1) := by
  funext j; idx_vars j; pointwise [val_main_v3, val_main_v2]
  rfl
theorem v5 : (val_main_v5 (F := Ideal) (aS S) : FVec Ideal S256 .f32) = nv (S 1) := by
  funext j; idx_vars j; pointwise [val_main_v5, val_main_v4]
  rfl

theorem one_add (t : Fin 8192) : (1 + FloatOps.sitofp (F := Ideal) FTy.f32 (BitVec.ofNat 32 t.val) : EReal) = (((t.val + 1 : ℕ) : ℝ) : EReal) := by
  show 1 + (((BitVec.ofNat 32 t.val).toInt : ℝ) : EReal) = _
  rw [toInt_ofNat _ (by omega), ← EReal.coe_one, ← EReal.coe_add, Int.cast_natCast, Nat.cast_add, Nat.cast_one, add_comm]
theorem min_coe (a b : ℕ) (r : ℝ) (h : (b : ℝ) = r) : min (((a : ℕ) : ℝ) : EReal) (r : EReal) = (((min a b : ℕ) : ℝ) : EReal) := by
  rw [← h, Nat.cast_min]; exact (EReal.coe_strictMono.monotone.map_min).symm

/-- A group of lanes, its running sum, the sum as it stood a window before, the count and the mean. -/
theorem lanes : (val_main_v9 (F := Ideal) (aX X) : FVec Ideal S8192x64 .f32) = (nm fun t l => zc X t (64 * 0 + l))
    ∧ (val_main_v22 (F := Ideal) (aX X) : FVec Ideal S8192x64 .f32) = (nm fun t l => zc X t (64 * 1 + l))
    ∧ (val_main_v35 (F := Ideal) (aX X) : FVec Ideal S8192x64 .f32) = (nm fun t l => zc X t (64 * 2 + l))
    ∧ (val_main_v48 (F := Ideal) (aX X) : FVec Ideal S8192x64 .f32) = (nm fun t l => zc X t (64 * 3 + l)) := by
  refine ⟨?_, ?_, ?_, ?_⟩ <;>
  · simp only [val_main_v9, val_main_v22, val_main_v35, val_main_v48, v0]
    funext j; idx_vars j; pointwise []; simp only [nm_apply, Nat.reduceMul, Nat.zero_add]
theorem running : (val_main_v10 (F := Ideal) (aX X) : FVec Ideal S8192x64 .f32) = (nm fun t l => P (fun n => zc X n (64 * 0 + l)) (t + 1))
    ∧ (val_main_v23 (F := Ideal) (aX X) : FVec Ideal S8192x64 .f32) = (nm fun t l => P (fun n => zc X n (64 * 1 + l)) (t + 1))
    ∧ (val_main_v36 (F := Ideal) (aX X) : FVec Ideal S8192x64 .f32) = (nm fun t l => P (fun n => zc X n (64 * 2 + l)) (t + 1))
    ∧ (val_main_v49 (F := Ideal) (aX X) : FVec Ideal S8192x64 .f32) = (nm fun t l => P (fun n => zc X n (64 * 3 + l)) (t + 1)) := by
  obtain ⟨a0, a1, a2, a3⟩ := lanes X
  refine ⟨?_, ?_, ?_, ?_⟩ <;>
  · simp only [val_main_v10, val_main_v23, val_main_v36, val_main_v49, a0, a1, a2, a3]
    exact cumsum (by norm_num) _ _ (fun i => ofBits_zero) _ _
theorem counts : (val_main_v19 (F := Ideal) : FVec Ideal S8192x64 .f32) = (nm fun t l => cnt t (64 * 0 + l))
    ∧ (val_main_v32 (F := Ideal) : FVec Ideal S8192x64 .f32) = (nm fun t l => cnt t (64 * 1 + l))
    ∧ (val_main_v45 (F := Ideal) : FVec Ideal S8192x64 .f32) = (nm fun t l => cnt t (64 * 2 + l))
    ∧ (val_main_v58 (F := Ideal) : FVec Ideal S8192x64 .f32) = (nm fun t l => cnt t (64 * 3 + l)) := by
  refine ⟨?_, ?_, ?_, ?_⟩ <;>
  · funext j; idx_vars j; pointwise [val_main_v19, val_main_v32, val_main_v45, val_main_v58, val_main_v17, val_main_v30, val_main_v43, val_main_v56, val_main_v16, val_main_v29,
      val_main_v42, val_main_v55, val_main_v15, val_main_v28, val_main_v41, val_main_v54, val_main_v8, val_main_v7, val_main_v6, val_main_cst, val_main_cst_2, val_main_cst_5, val_main_cst_8, val_main_cst_11]
    rw [one_add, nm_apply]
    simp only [ofBits_two, ofBits_4, ofBits_8, ofBits_16, cnt, win]
    split_ifs <;> first | omega | exact min_coe _ _ _ rfl
theorem earlier : (val_main_v13 (F := Ideal) (aX X) : FVec Ideal S8192x64 .f32) = (nm fun t l => P (fun n => zc X n (64 * 0 + l)) (t + 1 - 2))
    ∧ (val_main_v26 (F := Ideal) (aX X) : FVec Ideal S8192x64 .f32) = (nm fun t l => P (fun n => zc X n (64 * 1 + l)) (t + 1 - 4))
    ∧ (val_main_v39 (F := Ideal) (aX X) : FVec Ideal S8192x64 .f32) = (nm fun t l => P (fun n => zc X n (64 * 2 + l)) (t + 1 - 8))
    ∧ (val_main_v52 (F := Ideal) (aX X) : FVec Ideal S8192x64 .f32) = (nm fun t l => P (fun n => zc X n (64 * 3 + l)) (t + 1 - 16)) := by
  obtain ⟨a0, a1, a2, a3⟩ := running X
  refine ⟨?_, ?_, ?_, ?_⟩ <;>
  · simp only [val_main_v13, val_main_v26, val_main_v39, val_main_v52, val_main_v12, val_main_v25, val_main_v38, val_main_v51, a0, a1, a2, a3]
    funext j; idx_vars j; pointwise [val_main_v11, val_main_v24, val_main_v37, val_main_v50]
    split
    · next h => rw [nm_apply, show j0.val + 1 - _ = 0 from Nat.sub_eq_zero_of_le h]; exact ofBits_zero
    · next h => simp only [a0, a1, a2, a3, nm_apply, ← Nat.sub_add_comm (Nat.not_lt.1 h), Nat.reduceMul, Nat.zero_add]
theorem means : (val_main_v21 (F := Ideal) (aX X) : FVec Ideal S8192x64 .f32) = (nm fun t l => pooled (zc X) t (64 * 0 + l))
    ∧ (val_main_v34 (F := Ideal) (aX X) : FVec Ideal S8192x64 .f32) = (nm fun t l => pooled (zc X) t (64 * 1 + l))
    ∧ (val_main_v47 (F := Ideal) (aX X) : FVec Ideal S8192x64 .f32) = (nm fun t l => pooled (zc X) t (64 * 2 + l))
    ∧ (val_main_v60 (F := Ideal) (aX X) : FVec Ideal S8192x64 .f32) = (nm fun t l => pooled (zc X) t (64 * 3 + l)) := by
  obtain ⟨a0, a1, a2, a3⟩ := lanes X
  obtain ⟨b0, b1, b2, b3⟩ := running X
  obtain ⟨c0, c1, c2, c3⟩ := counts
  obtain ⟨d0, d1, d2, d3⟩ := earlier X
  refine ⟨?_, ?_, ?_, ?_⟩ <;>
  · simp only [val_main_v21, val_main_v34, val_main_v47, val_main_v60, val_main_v20, val_main_v33, val_main_v46, val_main_v59, val_main_v18, val_main_v31,
      val_main_v44, val_main_v57, a0, a1, a2, a3, b0, b1, b2, b3, c0, c1, c2, c3, d0, d1, d2, d3]
    funext j; idx_vars j; pointwise []
    simp only [nm_apply, ← EReal.coe_sub, div_coe _ _ (cnt_pos _ _).ne', pooled]
    congr 5
    simp only [win]
    split_ifs <;> omega
/-- Four pieces side by side are one function of the group. -/
theorem by_group (g : ℕ) (hg : g < 4) (f : ℕ → EReal) :
    (if _h : g < 1 then f 0 else if _h : g - 1 < 1 then f 1 else if _h : g - 1 - 1 < 1 then f 2 else f 3) = f g := by
  have h : g = 0 ∨ g = 1 ∨ g = 2 ∨ g = 3 := by omega
  rcases h with rfl | rfl | rfl | rfl <;> rfl
theorem v65 : (val_main_v65 (F := Ideal) (aX X) : FVec Ideal S8192x4x64 .f32) = nc fun t g l => pooled (zc X) t (64 * g + l) := by
  obtain ⟨a0, a1, a2, a3⟩ := means X
  funext j; idx_vars j; pointwise [val_main_v65, val_main_v61, val_main_v62, val_main_v63, val_main_v64]
  simp only [a0, a1, a2, a3, nm_apply, nc_apply]
  exact by_group j1.val j1.isLt fun g => ((pooled (zc X) j0.val (64 * g + j2.val) : ℝ) : EReal)
theorem v68 : (val_main_v68 (F := Ideal) (aX X) (aW W) : FVec Ideal S8192x256 .f32) = nm (pc (zc X) (W 1)) := by
  unfold val_main_v68 val_main_v67 val_main_v66
  rw [v65, v3]
  funext j; idx_vars j; pointwise []
  simp only [nm_apply, nc_apply, ← EReal.coe_mul, sum_coe, pc, mul_comm (W 1 _ _ _)]
theorem sig : (val_main_v72_2 (F := Ideal) (aX X) : FVec Ideal S8192x256 .f32) = nm fun t l => sg (gc X t l) := by
  unfold val_main_v72_2 val_main_call4_v3 val_main_call4_v1 val_main_call4_v0
  rw [v1]
  funext j; idx_vars j; pointwise [val_main_call4_v4, val_main_call4_v2, val_main_call4_cst, val_main_call4_cst_0]
  rw [nm_apply, nm_apply, ← EReal.coe_neg, show Ideal.exp ((-gc X j0.val j1.val : ℝ) : EReal) = ((Real.exp (-gc X j0.val j1.val) : ℝ) : EReal) from rfl,
    ← EReal.coe_one, ← EReal.coe_add, div_coe _ _ (one_add_exp_pos _).ne', sg]
theorem sig1 : (val_main_v72_1 (F := Ideal) (aX X) : FVec Ideal S8192x256 .f32) = nm fun t l => sg (gc X t l) * (1 - sg (gc X t l)) := by
  unfold val_main_v72_1 val_main_call4_v7
  rw [sig]
  funext j; idx_vars j; pointwise [val_main_call4_v6, val_main_call4_cst_1]
  simp only [nm_apply, ← EReal.coe_one, ← EReal.coe_sub, ← EReal.coe_mul]
theorem sil : (val_main_v72_0 (F := Ideal) (aX X) : FVec Ideal S8192x256 .f32) = nm (silu (gc X)) := by
  unfold val_main_v72_0; rw [v1, sig]
  funext j; idx_vars j; pointwise []
  simp only [nm_apply, ← EReal.coe_mul, silu]
theorem v76 : (val_main_v76 (F := Ideal) (aX X) (aW W) (aS S) (aY Y) : FVec Ideal S8192x256 .f32) = nm (dgate (zc X) (gc X) Y (W 1) (S 1)) := by
  unfold val_main_v76 val_main_call5_v1 val_main_call5_v2 val_main_call5_v0 val_main_v74 val_main_v71 val_main_v70 val_main_v69
  rw [v1, sig, sig1, v68, v5]
  funext j; idx_vars j; pointwise []
  simp only [nm_apply, nv_apply, ← EReal.coe_mul, ← EReal.coe_add, dgate]
  congr 1; ring
theorem v79 : (val_main_v79 (F := Ideal) (aX X) (aW W) (aY Y) : FVec Ideal S1x256 .f32)
    = nm fun _ l => ∑ t : Fin 8192, Y t.val l * pc (zc X) (W 1) t.val l * silu (gc X) t.val l := by
  unfold val_main_v79 val_main_v78 val_main_v77 val_main_v75
  rw [v68, sil]
  funext j; idx_vars j; pointwise [val_main_cst_12]
  simp only [nm_apply, ofBits_zero, ← EReal.coe_mul, sum_coe, ← EReal.coe_add, zero_add, mul_left_comm (pc _ _ _ _), mul_assoc]
theorem v81 : (val_main_v81 (F := Ideal) (aX X) (aS S) (aY Y) : FVec Ideal S8192x256 .f32) = nm (dpc (gc X) Y (S 1)) := by
  unfold val_main_v81 val_main_v75 val_main_v80 val_main_v69
  rw [sil, v5]
  funext j; idx_vars j; pointwise []
  simp only [nm_apply, nv_apply, ← EReal.coe_mul, dpc]
  congr 1; ring
theorem v84 : (val_main_v84 (F := Ideal) (aX X) (aS S) (aY Y) : FVec Ideal S4x64x8192 .f32) = nc fun g l t => dpc (gc X) Y (S 1) t (64 * g + l) := by
  unfold val_main_v84 val_main_v83
  rw [v81]
  funext j; idx_vars j; pointwise []
  simp only [nm_apply, nc_apply, Nat.mul_comm j0.val 64]
theorem v86 : (val_main_v86 (F := Ideal) (aX X) (aW W) (aS S) (aY Y) : FVec Ideal S8192x4x64 .f32) = nc fun t g l => dpooled (gc X) Y (W 1) (S 1) t (64 * g + l) := by
  unfold val_main_v86 val_main_v85
  rw [v84, v3]
  funext j; idx_vars j; pointwise []
  simp only [nc_apply, ← EReal.coe_mul, sum_coe, dpooled]
  rw [show (64 * j1.val + j2.val) / 64 = j1.val by omega, show (64 * j1.val + j2.val) % 64 = j2.val by omega]
/-- The product of the means with the image's gradient. -/
def dwt (a b : ℕ) : ℝ := ∑ t : Fin 8192, pooled (zc X) t.val a * dpc (gc X) Y (S 1) t.val b
theorem v88 : (val_main_v88 (F := Ideal) (aX X) (aS S) (aY Y) : FVec Ideal S4x64x64 .f32)
    = nc fun g a b => dwt X Y S (64 * g + a) (64 * g + b) := by
  unfold val_main_v88 val_main_v87
  rw [v84, v65]
  funext j; idx_vars j; pointwise []
  simp only [nc_apply, ← EReal.coe_mul, sum_coe, dwt, mul_comm]
theorem slices : (val_main_v90 (F := Ideal) (aX X) (aW W) (aS S) (aY Y) : FVec Ideal S8192x64 .f32) = (nm fun t l => dpooled (gc X) Y (W 1) (S 1) t (64 * 0 + l))
    ∧ (val_main_v92 (F := Ideal) (aX X) (aW W) (aS S) (aY Y) : FVec Ideal S8192x64 .f32) = (nm fun t l => dpooled (gc X) Y (W 1) (S 1) t (64 * 1 + l))
    ∧ (val_main_v94 (F := Ideal) (aX X) (aW W) (aS S) (aY Y) : FVec Ideal S8192x64 .f32) = (nm fun t l => dpooled (gc X) Y (W 1) (S 1) t (64 * 2 + l))
    ∧ (val_main_v96 (F := Ideal) (aX X) (aW W) (aS S) (aY Y) : FVec Ideal S8192x64 .f32) = (nm fun t l => dpooled (gc X) Y (W 1) (S 1) t (64 * 3 + l)) := by
  refine ⟨?_, ?_, ?_, ?_⟩ <;>
  · simp only [val_main_v90, val_main_v92, val_main_v94, val_main_v96, val_main_v89, val_main_v91, val_main_v93, val_main_v95, v86]
    funext j; idx_vars j; pointwise []
    refine congrArg (fun z : ℕ => ((dpooled (gc X) Y (W 1) (S 1) j0.val z : ℝ) : EReal)) ?_
    first | exact Nat.zero_add _ | rfl
/-- A row less the row a window later, summed from the bottom, is the window's sum. -/
theorem tele (f : ℕ → ℝ) (N w t : ℕ) (hf : ∀ n, N ≤ n → f n = 0) :
    P (fun n => f n - f (n + w)) N - P (fun n => f n - f (n + w)) t = P f (t + w) - P f t := by
  have e : ∀ n, P (fun n => f n - f (n + w)) n = P f n - P f (n + w) + P f w := by
    intro n
    induction n with
    | zero => rw [P_zero, P_zero, Nat.zero_add]; ring
    | succ n ih => rw [P_succ, ih, P_succ, Nat.add_right_comm, P_succ]; ring
  have z : ∀ k, P f (N + k) = P f N := by
    intro k
    induction k with
    | zero => rfl
    | succ k ih => rw [← Nat.add_assoc, P_succ, ih, hf _ (Nat.le_add_right _ _), add_zero]
  rw [e, e, z]; ring
theorem dmean_late (hZ : ∀ i j, 8192 ≤ i → Y i j = 0) (G : ℕ → ℕ → ℝ) (V : ℕ → ℕ → ℕ → ℝ) (s : ℕ → ℝ) (n l : ℕ) (h : 8192 ≤ n) : dmean G Y V s n l = 0 := by
  simp only [dmean, dpooled, dpc, hZ n _ h, zero_mul, Finset.sum_const_zero, zero_div]
theorem quotients : (val_main_v134 (F := Ideal) (aX X) (aW W) (aS S) (aY Y) : FVec Ideal S8192x64 .f32) = (nm fun t l => dmean (gc X) Y (W 1) (S 1) t (64 * 0 + l))
    ∧ (val_main_v122 (F := Ideal) (aX X) (aW W) (aS S) (aY Y) : FVec Ideal S8192x64 .f32) = (nm fun t l => dmean (gc X) Y (W 1) (S 1) t (64 * 1 + l))
    ∧ (val_main_v110 (F := Ideal) (aX X) (aW W) (aS S) (aY Y) : FVec Ideal S8192x64 .f32) = (nm fun t l => dmean (gc X) Y (W 1) (S 1) t (64 * 2 + l))
    ∧ (val_main_v99 (F := Ideal) (aX X) (aW W) (aS S) (aY Y) : FVec Ideal S8192x64 .f32) = (nm fun t l => dmean (gc X) Y (W 1) (S 1) t (64 * 3 + l)) := by
  obtain ⟨a0, a1, a2, a3⟩ := slices X Y S W
  obtain ⟨c0, c1, c2, c3⟩ := counts
  refine ⟨?_, ?_, ?_, ?_⟩ <;>
  · simp only [val_main_v134, val_main_v122, val_main_v110, val_main_v99, a0, a1, a2, a3, show val_main_v133 (F := Ideal) = _ from c0,
      show val_main_v121 (F := Ideal) = _ from c1, show val_main_v109 (F := Ideal) = _ from c2, show val_main_v98 (F := Ideal) = _ from c3]
    funext j; idx_vars j; pointwise []
    simp only [nm_apply, div_coe _ _ (cnt_pos _ _).ne', dmean]
variable (hZ : ∀ i j, 8192 ≤ i → Y i j = 0)
include hZ
theorem differences : (val_main_v139 (F := Ideal) (aX X) (aW W) (aS S) (aY Y) : FVec Ideal S8192x64 .f32) = (nm fun t l => dmean (gc X) Y (W 1) (S 1) t (64 * 0 + l) - dmean (gc X) Y (W 1) (S 1) (t + 2) (64 * 0 + l))
    ∧ (val_main_v127 (F := Ideal) (aX X) (aW W) (aS S) (aY Y) : FVec Ideal S8192x64 .f32) = (nm fun t l => dmean (gc X) Y (W 1) (S 1) t (64 * 1 + l) - dmean (gc X) Y (W 1) (S 1) (t + 4) (64 * 1 + l))
    ∧ (val_main_v115 (F := Ideal) (aX X) (aW W) (aS S) (aY Y) : FVec Ideal S8192x64 .f32) = (nm fun t l => dmean (gc X) Y (W 1) (S 1) t (64 * 2 + l) - dmean (gc X) Y (W 1) (S 1) (t + 8) (64 * 2 + l))
    ∧ (val_main_v104 (F := Ideal) (aX X) (aW W) (aS S) (aY Y) : FVec Ideal S8192x64 .f32) = (nm fun t l => dmean (gc X) Y (W 1) (S 1) t (64 * 3 + l) - dmean (gc X) Y (W 1) (S 1) (t + 16) (64 * 3 + l)) := by
  obtain ⟨a0, a1, a2, a3⟩ := quotients X Y S W
  refine ⟨?_, ?_, ?_, ?_⟩ <;>
  · simp only [val_main_v139, val_main_v127, val_main_v115, val_main_v104, val_main_v138, val_main_v126, val_main_v114, val_main_v103, val_main_v137, val_main_v125,
      val_main_v113, val_main_v102, val_main_v135, val_main_v123, val_main_v111, val_main_v100, a0, a1, a2, a3]
    funext j; idx_vars j; pointwise [val_main_cst_14, val_main_cst_16, val_main_cst_18, val_main_cst_20]
    split
    · simp only [nm_apply, ← EReal.coe_neg, ← EReal.coe_add, ← sub_eq_add_neg]
      rw [Nat.add_comm _ j0.val]
    · next h =>
      rw [nm_apply, nm_apply, dmean_late Y hZ _ _ _ (j0.val + _) _ (by omega), sub_zero, add_zero]
theorem rows : (val_main_v141 (F := Ideal) (aX X) (aW W) (aS S) (aY Y) : FVec Ideal S8192x64 .f32) = (nm fun t l => drow (gc X) Y (W 1) (S 1) t (64 * 0 + l))
    ∧ (val_main_v129 (F := Ideal) (aX X) (aW W) (aS S) (aY Y) : FVec Ideal S8192x64 .f32) = (nm fun t l => drow (gc X) Y (W 1) (S 1) t (64 * 1 + l))
    ∧ (val_main_v117 (F := Ideal) (aX X) (aW W) (aS S) (aY Y) : FVec Ideal S8192x64 .f32) = (nm fun t l => drow (gc X) Y (W 1) (S 1) t (64 * 2 + l))
    ∧ (val_main_v106 (F := Ideal) (aX X) (aW W) (aS S) (aY Y) : FVec Ideal S8192x64 .f32) = (nm fun t l => drow (gc X) Y (W 1) (S 1) t (64 * 3 + l)) := by
  obtain ⟨a0, a1, a2, a3⟩ := slices X Y S W
  obtain ⟨d0, d1, d2, d3⟩ := differences X Y S W hZ
  have e := fun l => tele (fun n => dmean (gc X) Y (W 1) (S 1) n l) 8192
  refine ⟨?_, ?_, ?_, ?_⟩ <;>
  · simp only [val_main_v141, val_main_v129, val_main_v117, val_main_v106, val_main_v132, val_main_v120, val_main_v108, val_main_v97, val_main_v140, val_main_v128,
      val_main_v116, val_main_v105, a0, a1, a2, a3, d0, d1, d2, d3]
    refine (congrArg (addf _) (cumsum_rev _ _ (fun i => ofBits_zero) _ _)).trans ?_
    funext j; idx_vars j; pointwise []
    rw [nm_apply, nm_apply, nm_apply, e _ _ _ fun n hn => dmean_late Y hZ _ _ _ n _ hn, ← EReal.coe_neg, ← EReal.coe_add, drow]
    congr 1
    simp only [win]
    split_ifs <;> first | omega | ring
theorem v143 : (val_main_v143 (F := Ideal) (aX X) (aW W) (aS S) (aY Y) : FVec Ideal S8192x256 .f32) = nm (drow (gc X) Y (W 1) (S 1)) := by
  obtain ⟨a0, a1, a2, a3⟩ := rows X Y S W hZ
  unfold val_main_v143 val_main_v142 val_main_v131 val_main_v130 val_main_v119 val_main_v118 val_main_v107
  rw [a0, a1, a2, a3]
  funext j; idx_vars j; pointwise [val_main_cst_15, val_main_cst_17, val_main_cst_19, val_main_cst_21]
  split_ifs <;> first | omega | simp (disch := omega) only [nm_apply, add_zero, zero_add, Nat.add_sub_cancel']
omit hZ
theorem bands : (val_main_v146 (F := Ideal) (aX X) (aS S) (aY Y) : FVec Ideal S64x256 .f32) = (nm fun t l => if l / 64 = 0 then dwt X Y S (64 * 0 + t) l else 0)
    ∧ (val_main_v149 (F := Ideal) (aX X) (aS S) (aY Y) : FVec Ideal S64x256 .f32) = (nm fun t l => if l / 64 = 1 then dwt X Y S (64 * 1 + t) l else 0)
    ∧ (val_main_v152 (F := Ideal) (aX X) (aS S) (aY Y) : FVec Ideal S64x256 .f32) = (nm fun t l => if l / 64 = 2 then dwt X Y S (64 * 2 + t) l else 0)
    ∧ (val_main_v155 (F := Ideal) (aX X) (aS S) (aY Y) : FVec Ideal S64x256 .f32) = (nm fun t l => if l / 64 = 3 then dwt X Y S (64 * 3 + t) l else 0) := by
  have z : FloatOps.sitofp (F := Ideal) FTy.f32 (0#32) = ((0 : ℝ) : EReal) := by
    show (((0#32).toInt : ℝ) : EReal) = _
    norm_num
  refine ⟨?_, ?_, ?_, ?_⟩ <;>
  · simp only [val_main_v146, val_main_v149, val_main_v152, val_main_v155, val_main_v145, val_main_v148, val_main_v151, val_main_v154,
      val_main_v144, val_main_v147, val_main_v150, val_main_v153, v88]
    funext j; idx_vars j
    pointwise [val_main_call10_v0, val_main_call11_v0, val_main_call12_v0, val_main_call13_v0, val_main_c, val_main_c_22, val_main_c_23, val_main_c_24]
    rw [nm_apply]
    split
    · rw [nc_apply, if_pos (by omega)]
      refine congrArg₂ (fun a b : ℕ => ((dwt X Y S a b : ℝ) : EReal)) ?_ ?_ <;> norm_num <;> omega
    · rw [z, if_neg (by omega)]
theorem v156 : (val_main_v156 (F := Ideal) (aX X) (aS S) (aY Y) : FVec Ideal S256x256 .f32)
    = nm fun a b => if a / 64 = b / 64 then dwt X Y S a b else 0 := by
  obtain ⟨a0, a1, a2, a3⟩ := bands X Y S
  unfold val_main_v156
  rw [a0, a1, a2, a3]
  funext j; idx_vars j; pointwise []
  simp only [nm_apply]
  split_ifs <;> first | omega | rfl | exact congrArg (fun z : ℕ => ((dwt X Y S z j1.val : ℝ) : EReal)) (by omega)
end Cert.PoolBwdRefIdeal.Stages
-- ==== Proof.PoolBwd.lean ====
module
public import proofs.«01_k».proof.Defs
public import proofs.«01_k».proof.Proof.Gen.PoolBwd.Frame
public import proofs.«01_k».proof.Proof.PoolValue
public import proofs.«01_k».proof.Proof.PoolRef
@[expose] public section
set_option maxRecDepth 16384
noncomputable section
/-! The claims about the pooling gradient: its frames, and its four results against the reference's. -/
namespace Cert.PoolBwdRefIdeal.Stages
open Cert.Reals Cert.Tables Cert.Pool Idealize.ShloMosaic Cert.PoolBwdRefIdeal Cert.PoolBwdRefIdeal.Read

variable (X Y : ℕ → ℕ → ℝ) (W : ℕ → ℕ → ℕ → ℕ → ℝ) (S : ℕ → ℕ → ℝ)
theorem v157 (hZ : ∀ i j, 8192 ≤ i → Y i j = 0) :
    (val_main_v157 (F := Ideal) (aX X) (aW W) (aS S) (aY Y) : S8192x256.Idx → EReal) = (nm (drow (gc X) Y (W 1) (S 1)) : FVec Ideal S8192x256 .f32) := by
  unfold val_main_v157
  rw [v143 X Y S W hZ]; rfl
theorem v158 : (val_main_v158 (F := Ideal) (aX X) (aW W) (aS S) (aY Y) : S8192x256.Idx → EReal) = (nm (dgate (zc X) (gc X) Y (W 1) (S 1)) : FVec Ideal S8192x256 .f32) := by
  unfold val_main_v158
  rw [v76 X Y S W]; rfl
theorem v159 : (val_main_v159 (F := Ideal) (aX X) (aW W) (aY Y) : FVec Ideal S1x256 .f32)
    = nm fun _ l => ∑ t : Fin 8192, Y t.val l * pc (zc X) (W 1) t.val l * silu (gc X) t.val l := by
  unfold val_main_v159 val_main_v82
  rw [v79]
  funext j; idx_vars j; pointwise [val_main_cst_13]
  simp only [nm_apply, ofBits_zero, sum_coe, zero_add, Finset.univ_unique, Finset.sum_singleton]
end Cert.PoolBwdRefIdeal.Stages

namespace Cert.Proof.PoolBwd
open Cert.Reals Cert.Tables Cert.Pool Cert.PoolBwd Idealize.ShloMosaic Idealize.SL.Sem Idealize.ShloMosaic.TcCoe

instance facts : Cert.PoolBwd.Facts := Cert.PoolBwd.Gen.facts
instance factsIdeal : Cert.PoolBwdIdeal.Facts := Cert.PoolBwdIdeal.Gen.facts
instance factsRef : Cert.PoolBwdRefIdeal.Facts := Cert.PoolBwdRefIdeal.Gen.facts
instance factsPre : Cert.Pre_pool_finite.Facts := ⟨by decide, by decide, by decide, by decide⟩
instance factsOn : Cert.On_pool_blocks.Facts := ⟨by decide, by decide, by decide, by decide, by decide, by decide, by decide⟩

theorem frame_kernel : Cert.quiescent_PoolBwd := fun m ρ _ => Cert.PoolBwd.Gen.frame m ρ
theorem frame_ideal : Cert.quiescent_PoolBwdIdeal := fun m ρ _ => Cert.PoolBwdIdeal.Gen.frame m ρ
theorem frame_ideal_pre : Cert.quiescent_PoolBwdIdeal_pre_pool_finite := fun m ρ _ => Cert.PoolBwdIdeal.Gen.frame m ρ
theorem frame_ref : Cert.quiescent_PoolBwdRefIdeal := fun m ρ _ =>
  (θ_run Cert.PoolBwdRefIdeal.defs _ _).mono (fun r h => ⟨fun c => (h c).2.2.2.2, sem_eq_zero_of_no_sems (by decide) r.2⟩)
    (Cert.PoolBwdRefIdeal.Value.run m ρ)
theorem frame_ref_pre : Cert.quiescent_PoolBwdRefIdeal_pre_pool_finite := fun m ρ _ => frame_ref m ρ trivial

/-- The four arguments are real arrays; past its last row the cotangent's table is zero. -/
theorem args (m : (ℓ : Loc Cert.PoolBwdIdeal.nD Cert.PoolBwdIdeal.τ Cert.PoolBwdIdeal.sig) → Buf (Elt Ideal) ℓ)
    (hpre : Cert.Pre_PoolBwdIdeal_pool_finite m) (c : Dev Cert.PoolBwdIdeal.nD) :
    ∃ (X : ℕ → ℕ → ℝ) (W : ℕ → ℕ → ℕ → ℕ → ℝ) (S Y : ℕ → ℕ → ℝ),
      m (c.tc.loc Cert.PoolBwdIdeal.main_arg0) = (nm X : FVec Ideal ⟨2, ![8192, 2336]⟩ .f32)
      ∧ m (c.tc.loc Cert.PoolBwdIdeal.main_arg1) = (nq W : FVec Ideal ⟨4, ![4, 4, 64, 64]⟩ .f32)
      ∧ m (c.tc.loc Cert.PoolBwdIdeal.main_arg2) = (nm S : FVec Ideal ⟨2, ![4, 256]⟩ .f32)
      ∧ m (c.tc.loc Cert.PoolBwdIdeal.main_arg3) = (nm Y : FVec Ideal ⟨2, ![8192, 256]⟩ .f32) ∧ ∀ i j, 8192 ≤ i → Y i j = 0 := by
  obtain ⟨h0, h1, h2, h3⟩ := hpre c
  obtain ⟨X, hX, _⟩ := nm_of_finite (m (c.tc.loc Cert.PoolBwdIdeal.main_arg0)) _ h0
  obtain ⟨W, hW⟩ := nq_of_finite (m (c.tc.loc Cert.PoolBwdIdeal.main_arg1)) _ h1
  obtain ⟨S, hS, _⟩ := nm_of_finite (m (c.tc.loc Cert.PoolBwdIdeal.main_arg2)) _ h2
  obtain ⟨Y, hY, hZ⟩ := nm_of_finite (m (c.tc.loc Cert.PoolBwdIdeal.main_arg3)) _ h3
  exact ⟨X, W, S, Y, hX, hW, hS, hY, hZ⟩

/-- The group of a column, as the mask reckons it. -/
theorem group (a : Fin 256) : Cert.On_pool_blocks.fn_floor_divide (F := Ideal) (iotaInDim Cert.On_pool_blocks.S256 32 0) (constantI Cert.On_pool_blocks.S_ 32 64#32) (ix1 a)
    = BitVec.ofNat 32 (a.val / 64) := by
  revert a
  decide +kernel

/-- Where the mask is set, row and column lie in the same group of sixty-four. -/
theorem mask (x0 x1 x2 x3) (i : Cert.On_pool_blocks.S256x256.Idx) (h : (Cert.On_pool_blocks.fn (F := Ideal) x0 x1 x2 x3).2.2.1 i = 1#1) :
    (i 0).val / 64 = (i 1).val / 64 := by
  have hi0 : (i 0).val < 256 := (i 0).isLt
  have hi1 : (i 1).val < 256 := (i 1).isLt
  have e : (BitVec.ofNat 32 ((i 0).val / 64) == BitVec.ofNat 32 ((i 1).val / 64)) = true := by
    have g0 := group (i 0)
    have g1 := group (i 1)
    by_contra hne
    have : (Cert.On_pool_blocks.fn (F := Ideal) x0 x1 x2 x3).2.2.1 i
        = cmpi .eq (fun _ : (⟨0, ![]⟩ : Shape).Idx => BitVec.ofNat 32 ((i 0).val / 64)) (fun _ => BitVec.ofNat 32 ((i 1).val / 64)) (fun a => a.elim0) := by
      rw [← g0, ← g1]; rfl
    rw [this] at h
    change BitVec.ofBool (BitVec.ofNat 32 ((i 0).val / 64) == BitVec.ofNat 32 ((i 1).val / 64)) = 1#1 at h
    rw [Bool.eq_false_iff.2 hne] at h
    exact absurd h (by decide)
  have := congrArg BitVec.toNat (eq_of_beq e)
  rw [BitVec.toNat_ofNat, BitVec.toNat_ofNat, Nat.mod_eq_of_lt (by omega), Nat.mod_eq_of_lt (by omega)] at this
  exact this

theorem algebraic : Cert.algebraic_PoolBwdIdeal_PoolBwdRefIdeal_on_pool_blocks_pre_pool_finite := by
  intro m g m' g' hpre hagree
  choose X W S Y hX hW hS hY hZ using args m hpre
  refine ⟨fun c => (nm (drow (gc (X c)) (Y c) (W c 1) (S c 1)) : FVec Ideal ⟨2, ![8192, 256]⟩ .f32),
    fun c => (nm (dgate (zc (X c)) (gc (X c)) (Y c) (W c 1) (S c 1)) : FVec Ideal ⟨2, ![8192, 256]⟩ .f32),
    fun c => (nm (Cert.PoolBwdRefIdeal.Stages.dwt (X c) (Y c) (S c)) : FVec Ideal ⟨2, ![256, 256]⟩ .f32),
    fun c => (nm fun _ l => ∑ t : Fin 8192, Y c t.val l * pc (zc (X c)) (W c 1) t.val l * silu (gc (X c)) t.val l : FVec Ideal ⟨2, ![1, 256]⟩ .f32), ?_, ?_⟩
  · exact (θ_run Cert.PoolBwdIdeal.defs _ _).mono (fun _ h c =>
      ⟨fun i _ => congrFun ((h c).1.trans (Cert.PoolBwdIdeal.Blocks.final6 m c _ _ _ _ (hX c) (hW c) (hS c) (hY c) (hZ c))) i,
        fun i _ => congrFun ((h c).2.1.trans (Cert.PoolBwdIdeal.Blocks.final7 m c _ _ _ _ (hX c) (hW c) (hS c) (hY c))) i,
        fun i _ => congrFun ((h c).2.2.1.trans (Cert.PoolBwdIdeal.Blocks.final8 m c _ _ _ _ (hX c) (hW c) (hS c) (hY c))) i,
        fun i _ => congrFun ((h c).2.2.2.1.trans (Cert.PoolBwdIdeal.Blocks.final9 m c _ _ _ _ (hX c) (hW c) (hS c) (hY c))) i, (h c).2.2.2.2⟩)
      (Cert.PoolBwdIdeal.Value.run_blocks m g)
  · refine (θ_run Cert.PoolBwdRefIdeal.defs _ _).mono (fun _ h c => ?_) (Cert.PoolBwdRefIdeal.Value.run m' g')
    obtain ⟨a0, a1, a2, a3⟩ := hagree c
    refine ⟨fun i _ => congrFun ((h c).1.trans ?_) i, fun i _ => congrFun ((h c).2.1.trans ?_) i, fun i hi => (congrFun (h c).2.2.1 i).trans ?_,
      fun i _ => congrFun ((h c).2.2.2.1.trans ?_) i, (h c).2.2.2.2⟩
    · rw [Cert.PoolBwdRefIdeal.Read.val_main_v157_eq]
      change Cert.PoolBwdRefIdeal.Read.val_main_v157 (m' (c.tc.loc Cert.PoolBwdRefIdeal.main_arg0)) (m' (c.tc.loc Cert.PoolBwdRefIdeal.main_arg1)) (m' (c.tc.loc Cert.PoolBwdRefIdeal.main_arg2)) (m' (c.tc.loc Cert.PoolBwdRefIdeal.main_arg3)) = _
      rw [a0, a1, a2, a3, hX, hW, hS, hY]
      exact Cert.PoolBwdRefIdeal.Stages.v157 (X c) (Y c) (W c) (S c) (hZ c)
    · rw [Cert.PoolBwdRefIdeal.Read.val_main_v158_eq]
      change Cert.PoolBwdRefIdeal.Read.val_main_v158 (m' (c.tc.loc Cert.PoolBwdRefIdeal.main_arg0)) (m' (c.tc.loc Cert.PoolBwdRefIdeal.main_arg1)) (m' (c.tc.loc Cert.PoolBwdRefIdeal.main_arg2)) (m' (c.tc.loc Cert.PoolBwdRefIdeal.main_arg3)) = _
      rw [a0, a1, a2, a3, hX, hW, hS, hY]
      exact Cert.PoolBwdRefIdeal.Stages.v158 (X c) (Y c) (W c) (S c)
    · rw [Cert.PoolBwdRefIdeal.Read.val_main_v156_eq]
      change ( Cert.PoolBwdRefIdeal.Read.val_main_v156 (m' (c.tc.loc Cert.PoolBwdRefIdeal.main_arg0)) (m' (c.tc.loc Cert.PoolBwdRefIdeal.main_arg2)) (m' (c.tc.loc Cert.PoolBwdRefIdeal.main_arg3)) : Cert.PoolBwdRefIdeal.S256x256.Idx → EReal) i = _
      rw [a0, a2, a3, hX, hS, hY]
      refine (congrFun (Cert.PoolBwdRefIdeal.Stages.v156 (X c) (Y c) (S c)) i).trans ?_
      exact congrArg (fun r : ℝ => (r : EReal)) (if_pos (mask _ _ _ _ i hi))
    · rw [Cert.PoolBwdRefIdeal.Read.val_main_v159_eq]
      change Cert.PoolBwdRefIdeal.Read.val_main_v159 (m' (c.tc.loc Cert.PoolBwdRefIdeal.main_arg0)) (m' (c.tc.loc Cert.PoolBwdRefIdeal.main_arg1)) (m' (c.tc.loc Cert.PoolBwdRefIdeal.main_arg3)) = _
      rw [a0, a1, a3, hX, hW, hY]
      exact Cert.PoolBwdRefIdeal.Stages.v159 (X c) (Y c) (W c)

end Cert.Proof.PoolBwd
-- ==== Proof.Lanes.lean ====
/-
  The order of the columns of the projected rows in the lanes of a kernel: the columns of one branch lie side by side,
  and the rotary key fills thirty-two lanes of a last, otherwise empty, group.
-/
module
public import proofs.«01_k».proof.Proof.Tables
public import Idealize.ShloMosaic.Lib.Pipeline.ValueKit.Point
@[expose] public section
set_option maxRecDepth 16384
noncomputable section
open Cert.Reals Cert.Tables Idealize.ShloMosaic
namespace Cert.Lanes

/-- What a lane holds, of a row by columns. -/
def lane (w : ℕ → ℝ) (k : ℕ) : ℝ :=
  if k < 1152 then w k else if k < 1536 then w (k + 288) else if k < 1792 then w (k - 384) else if k < 2304 then w (k + 32)
  else if k < 2368 then 0 else if k < 2400 then w (k - 960) else 0

set_option maxHeartbeats 4000000 in
theorem cat2 (X : ℕ → ℕ → ℝ) (u0 : FVec Ideal ⟨2, ![8192, 584]⟩ .f32) (u1 : FVec Ideal ⟨2, ![8192, 568]⟩ .f32) (u2 : FVec Ideal ⟨2, ![8192, 312]⟩ .f32)
    (u3 : FVec Ideal ⟨2, ![8192, 72]⟩ .f32) (u4 : FVec Ideal ⟨2, ![8192, 16]⟩ .f32) (u5 : FVec Ideal ⟨2, ![8192, 240]⟩ .f32)
    (u6 : FVec Ideal ⟨2, ![8192, 512]⟩ .f32) (u7 : FVec Ideal ⟨2, ![8192, 64]⟩ .f32) (u8 u9 : FVec Ideal ⟨2, ![8192, 32]⟩ .f32) (h)
    (h0 : u0 = nm X) (h1 : u1 = nm fun a k => X a (584 + k)) (h2 : u2 = nm fun a k => X a (1440 + k)) (h3 : u3 = nm fun a k => X a (1752 + k))
    (h4 : u4 = nm fun a k => X a (1152 + k)) (h5 : u5 = nm fun a k => X a (1168 + k)) (h6 : u6 = nm fun a k => X a (1824 + k))
    (h7 : u7 = nm fun _ _ => 0) (h8 : u8 = nm fun a k => X a (1408 + k)) (h9 : u9 = nm fun _ _ => 0) :
    concatenate ⟨2, ![8192, 2432]⟩ 1 [⟨⟨2, ![8192, 584]⟩, u0⟩, ⟨⟨2, ![8192, 568]⟩, u1⟩, ⟨⟨2, ![8192, 312]⟩, u2⟩, ⟨⟨2, ![8192, 72]⟩, u3⟩, ⟨⟨2, ![8192, 16]⟩, u4⟩,
      ⟨⟨2, ![8192, 240]⟩, u5⟩, ⟨⟨2, ![8192, 512]⟩, u6⟩, ⟨⟨2, ![8192, 64]⟩, u7⟩, ⟨⟨2, ![8192, 32]⟩, u8⟩, ⟨⟨2, ![8192, 32]⟩, u9⟩] h = nm fun a => lane (X a) := by
  subst h0 h1 h2 h3 h4 h5 h6 h7 h8 h9
  funext j; idx_vars j; pointwise []
  simp only [nm_apply, lane]
  repeat' split
  all_goals first | rfl | (exfalso; omega) | exact congrArg (fun z : ℕ => ((X j0.val z : ℝ) : EReal)) (by omega)
set_option maxHeartbeats 4000000 in
theorem cat3 (X : ℕ → ℕ → ℕ → ℝ) (u0 : FVec Ideal ⟨3, ![4, 1024, 584]⟩ .f32) (u1 : FVec Ideal ⟨3, ![4, 1024, 568]⟩ .f32) (u2 : FVec Ideal ⟨3, ![4, 1024, 312]⟩ .f32)
    (u3 : FVec Ideal ⟨3, ![4, 1024, 72]⟩ .f32) (u4 : FVec Ideal ⟨3, ![4, 1024, 16]⟩ .f32) (u5 : FVec Ideal ⟨3, ![4, 1024, 240]⟩ .f32)
    (u6 : FVec Ideal ⟨3, ![4, 1024, 512]⟩ .f32) (u7 : FVec Ideal ⟨3, ![4, 1024, 64]⟩ .f32) (u8 u9 : FVec Ideal ⟨3, ![4, 1024, 32]⟩ .f32) (h)
    (h0 : u0 = nc X) (h1 : u1 = nc fun a b k => X a b (584 + k)) (h2 : u2 = nc fun a b k => X a b (1440 + k)) (h3 : u3 = nc fun a b k => X a b (1752 + k))
    (h4 : u4 = nc fun a b k => X a b (1152 + k)) (h5 : u5 = nc fun a b k => X a b (1168 + k)) (h6 : u6 = nc fun a b k => X a b (1824 + k))
    (h7 : u7 = nc fun _ _ _ => 0) (h8 : u8 = nc fun a b k => X a b (1408 + k)) (h9 : u9 = nc fun _ _ _ => 0) :
    concatenate ⟨3, ![4, 1024, 2432]⟩ 2 [⟨⟨3, ![4, 1024, 584]⟩, u0⟩, ⟨⟨3, ![4, 1024, 568]⟩, u1⟩, ⟨⟨3, ![4, 1024, 312]⟩, u2⟩, ⟨⟨3, ![4, 1024, 72]⟩, u3⟩,
      ⟨⟨3, ![4, 1024, 16]⟩, u4⟩, ⟨⟨3, ![4, 1024, 240]⟩, u5⟩, ⟨⟨3, ![4, 1024, 512]⟩, u6⟩, ⟨⟨3, ![4, 1024, 64]⟩, u7⟩, ⟨⟨3, ![4, 1024, 32]⟩, u8⟩,
      ⟨⟨3, ![4, 1024, 32]⟩, u9⟩] h = nc fun a b => lane (X a b) := by
  subst h0 h1 h2 h3 h4 h5 h6 h7 h8 h9
  funext j; idx_vars j; pointwise []
  simp only [nc_apply, lane]
  repeat' split
  all_goals first | rfl | (exfalso; omega) | exact congrArg (fun z : ℕ => ((X j0.val j1.val z : ℝ) : EReal)) (by omega)

/-- A contraction over the lanes is the contraction over the columns. -/
theorem sum_lane (u v : ℕ → ℝ) : ∑ k : Fin 2432, lane u k.val * lane v k.val = ∑ k : Fin 2336, u k.val * v k.val := by
  have e : ∀ (a n b : ℕ) (f g : ℕ → ℝ), (∀ k < n, f (a + k) = g (b + k)) → ∑ k ∈ Finset.Ico a (a + n), f k = ∑ k ∈ Finset.Ico b (b + n), g k := by
    intro a n b f g h
    rw [Finset.sum_Ico_eq_sum_range, Finset.sum_Ico_eq_sum_range, Nat.add_sub_cancel_left, Nat.add_sub_cancel_left]
    exact Finset.sum_congr rfl fun k hk => h k (Finset.mem_range.1 hk)
  have z : ∀ a n : ℕ, (∀ k < n, lane u (a + k) = 0) → ∑ k ∈ Finset.Ico a (a + n), lane u k * lane v k = 0 := fun a n h =>
    Finset.sum_eq_zero fun k hk => by
      have hk := Finset.mem_Ico.1 hk
      have := h (k - a) (by omega)
      rw [show a + (k - a) = k by omega] at this
      rw [this, zero_mul]
  have l0 := e 0 1152 0 (fun k => lane u k * lane v k) (fun k => u k * v k) (fun k hk => by simp only [lane, if_pos (show 0 + k < 1152 by omega)])
  have l1 := e 1152 384 1440 (fun k => lane u k * lane v k) (fun k => u k * v k) (fun k hk => by
    simp only [lane, if_neg (show ¬ 1152 + k < 1152 by omega), if_pos (show 1152 + k < 1536 by omega), show 1152 + k + 288 = 1440 + k by omega])
  have l2 := e 1536 256 1152 (fun k => lane u k * lane v k) (fun k => u k * v k) (fun k hk => by
    simp only [lane, if_neg (show ¬ 1536 + k < 1152 by omega), if_neg (show ¬ 1536 + k < 1536 by omega), if_pos (show 1536 + k < 1792 by omega),
      show 1536 + k - 384 = 1152 + k by omega])
  have l3 := e 1792 512 1824 (fun k => lane u k * lane v k) (fun k => u k * v k) (fun k hk => by
    simp only [lane, if_neg (show ¬ 1792 + k < 1152 by omega), if_neg (show ¬ 1792 + k < 1536 by omega), if_neg (show ¬ 1792 + k < 1792 by omega),
      if_pos (show 1792 + k < 2304 by omega), show 1792 + k + 32 = 1824 + k by omega])
  have l4 := z 2304 64 (fun k hk => by
    simp only [lane, if_neg (show ¬ 2304 + k < 1152 by omega), if_neg (show ¬ 2304 + k < 1536 by omega), if_neg (show ¬ 2304 + k < 1792 by omega),
      if_neg (show ¬ 2304 + k < 2304 by omega), if_pos (show 2304 + k < 2368 by omega)])
  have l5 := e 2368 32 1408 (fun k => lane u k * lane v k) (fun k => u k * v k) (fun k hk => by
    simp only [lane, if_neg (show ¬ 2368 + k < 1152 by omega), if_neg (show ¬ 2368 + k < 1536 by omega), if_neg (show ¬ 2368 + k < 1792 by omega),
      if_neg (show ¬ 2368 + k < 2304 by omega), if_neg (show ¬ 2368 + k < 2368 by omega), if_pos (show 2368 + k < 2400 by omega), show 2368 + k - 960 = 1408 + k by omega])
  have l6 := z 2400 32 (fun k hk => by
    simp only [lane, if_neg (show ¬ 2400 + k < 1152 by omega), if_neg (show ¬ 2400 + k < 1536 by omega), if_neg (show ¬ 2400 + k < 1792 by omega),
      if_neg (show ¬ 2400 + k < 2304 by omega), if_neg (show ¬ 2400 + k < 2368 by omega), if_neg (show ¬ 2400 + k < 2400 by omega)])
  rw [Fin.sum_univ_eq_sum_range (fun k => lane u k * lane v k) 2432, Fin.sum_univ_eq_sum_range (fun k => u k * v k) 2336, Finset.range_eq_Ico, Finset.range_eq_Ico,
    ← Finset.sum_Ico_consecutive _ (Nat.zero_le 1152) (by norm_num : 1152 ≤ 2432), ← Finset.sum_Ico_consecutive _ (by norm_num : 1152 ≤ 1536) (by norm_num : 1536 ≤ 2432),
    ← Finset.sum_Ico_consecutive _ (by norm_num : 1536 ≤ 1792) (by norm_num : 1792 ≤ 2432), ← Finset.sum_Ico_consecutive _ (by norm_num : 1792 ≤ 2304) (by norm_num : 2304 ≤ 2432),
    ← Finset.sum_Ico_consecutive _ (by norm_num : 2304 ≤ 2368) (by norm_num : 2368 ≤ 2432), ← Finset.sum_Ico_consecutive _ (by norm_num : 2368 ≤ 2400) (by norm_num : 2400 ≤ 2432),
    ← Finset.sum_Ico_consecutive _ (Nat.zero_le 1152) (by norm_num : 1152 ≤ 2336), ← Finset.sum_Ico_consecutive _ (by norm_num : 1152 ≤ 1408) (by norm_num : 1408 ≤ 2336),
    ← Finset.sum_Ico_consecutive _ (by norm_num : 1408 ≤ 1440) (by norm_num : 1440 ≤ 2336), ← Finset.sum_Ico_consecutive _ (by norm_num : 1440 ≤ 1824) (by norm_num : 1824 ≤ 2336)]
  norm_num at l0 l1 l2 l3 l4 l5 l6
  rw [Finset.range_eq_Ico] at l0
  rw [l0, l1, l2, l3, l4, l5, l6]
  ring
end Cert.Lanes
end
-- ==== Proof.OutProjValue.lean ====
/-
  The gradient of the output product and the attention gate, in reals, and what the kernel's region writes.
-/
module
public import proofs.«01_k».proof.Proof.Lanes
public import proofs.«01_k».proof.Proof.Gen.OutProjBwdIdeal.Value
public import Idealize.ShloMosaic.Lib.Pipeline.ValueKit.Point
public import Idealize.ShloMosaic.Lib.StableHlo.RunRead
public import Idealize.ShloMosaic.Lib.Pipeline.ReadBack
@[expose] public section
set_option maxRecDepth 16384
noncomputable section
open Cert.Reals Cert.Tables Cert.Lanes Idealize.ShloMosaic Idealize.ShloMosaic.TcCoe Idealize.SL.Sem
open Idealize.ShloMosaic.Pipeline (Dat)
namespace Cert.OutProj
variable (X O g Y : ℕ → ℕ → ℝ) (W : ℕ → ℕ → ℝ) (A C : ℕ → ℕ → EReal)
/-- The image of the cotangent by the weight. -/
def dy (t l : ℕ) : ℝ := ∑ k : Fin 1024, X t k.val * W l k.val
/-- The attention's output times its gate. -/
def yb (t l : ℕ) : ℝ := O t l * (g t l * sg (g t l))
/-- The three branches side by side. -/
def mix (t k : ℕ) : EReal := if k < 384 then A t k else if k < 768 then ((yb O g t (k - 384) : ℝ) : EReal) else C t (k - 768)
/-- The cotangents of the attention's output and of its gate, for the image `Y`. -/
def dout (t l : ℕ) : ℝ := Y t (384 + l) * (g t l * sg (g t l))
def dgate (t l : ℕ) : ℝ := Y t (384 + l) * O t l * (sg (g t l) * (1 + g t l * (1 - sg (g t l))))
/-- The sum over the sixty-four columns of head `2 p + s`; rows from the third on are padding. -/
def delta (p s t : ℕ) : ℝ := if s < 2 then ∑ d : Fin 64, dout g Y t (64 * (2 * p + s) + d.val) * O t (64 * (2 * p + s) + d.val) else 0
end Cert.OutProj

open Cert.OutProjBwdIdeal Cert.OutProjBwdIdeal.Gen
namespace Cert.OutProjBwdIdeal.Blocks
open Cert.OutProj
variable (X O g Y : ℕ → ℕ → ℝ) (W : ℕ → ℕ → ℝ) (A U : ℕ → ℕ → EReal)

theorem pay5_eq : (k0_pay5 (F := Ideal) (nm X) : Vec Ideal S512x1024 .bf16) = nm X := by
  funext j; idx_vars j; pointwise [k0_pay5]
theorem pay6_eq : (k0_pay6 (F := Ideal) (nm X) (nc fun _ => W) : Vec Ideal S512x1024 .f32) = nm (dy X W) := by
  funext j; idx_vars j; pointwise [k0_pay6]
  rw [pay5_eq]
  simp only [nm_apply, nc_apply, ofBits_zero, ← EReal.coe_mul, sum_coe, ← EReal.coe_add, zero_add, dy]
theorem pay7_eq : (k0_pay7 (F := Ideal) (nm X) (em A) (em U) : Vec Ideal S384x1024 .f32)
    = em fun a l => A a l + ∑ r : Fin 512, U r.val a * ((X r.val l : ℝ) : EReal) := by
  funext j; idx_vars j; pointwise [k0_pay7]
  rw [pay5_eq]
  simp only [nm_apply, em_apply, ofBits_zero, zero_add]
theorem pay8_eq : (k0_pay8 (F := Ideal) (nm X) (em A) (em U) : Vec Ideal S384x1024 .f32)
    = em fun a l => A a l + ∑ r : Fin 512, U r.val a * ((X r.val l : ℝ) : EReal) := pay7_eq X A U
theorem pay9_eq : (k0_pay9 (F := Ideal) (nm X) (em A) (em U) : Vec Ideal S256x1024 .f32)
    = em fun a l => A a l + ∑ r : Fin 512, U r.val a * ((X r.val l : ℝ) : EReal) := by
  funext j; idx_vars j; pointwise [k0_pay9]
  rw [pay5_eq]
  simp only [nm_apply, em_apply, ofBits_zero, zero_add]
theorem pay10_eq : (k0_pay10 (F := Ideal) (nm Y) : Vec Ideal S512x384 .f32) = nm Y := by
  funext j; idx_vars j; pointwise [k0_pay10]
  simp only [nm_apply]
theorem pay11_eq : (k0_pay11 (F := Ideal) (nm Y) : Vec Ideal S512x256 .f32) = nm fun r l => Y r (768 + l) := by
  funext j; idx_vars j; pointwise [k0_pay11]
  simp only [nm_apply]
theorem pay14_eq : (k0_pay14 (F := Ideal) (nm g) : Vec Ideal S512x384 .f32) = nm fun r l => sg (g r l) := by
  funext j; idx_vars j; pointwise [k0_pay14, k0_pay13]
  simp only [nm_apply, ofBits_half, ← EReal.coe_mul]
  show ((1 / 2 : ℝ) : EReal) * ((Real.tanh (1 / 2 * g j0.val j1.val) : ℝ) : EReal) + ((1 / 2 : ℝ) : EReal) = _
  rw [← EReal.coe_mul, ← EReal.coe_add, sg_tanh]
theorem pay15_eq : (k0_pay15 (F := Ideal) (nm Y) (nm g) : Vec Ideal S512x384 .f32) = nm (dout g Y) := by
  unfold k0_pay15
  rw [pay14_eq]
  funext j; idx_vars j; pointwise [k0_pay12, k0_pay13]
  simp only [nm_apply, ← EReal.coe_mul, dout]
theorem pay16_eq : (k0_pay16 (F := Ideal) (nm Y) (nm g) : Vec Ideal S512x384 .bf16) = nm (dout g Y) := pay15_eq g Y
theorem pay17_eq : (k0_pay17 (F := Ideal) (nm Y) (nm g) (nm O) : Vec Ideal S512x384 .bf16) = nm (dgate O g Y) := by
  unfold k0_pay17
  rw [pay14_eq]
  funext j; idx_vars j; pointwise [k0_pay12, k0_pay13]
  simp only [nm_apply, ← EReal.coe_one, ← EReal.coe_mul, ← EReal.coe_add, ← EReal.coe_sub, dgate]
theorem pay4_eq : (k0_pay4 (F := Ideal) : Vec Ideal S1024x1024 .f32) = em fun _ _ => 0 := by
  funext j; idx_vars j; pointwise [k0_pay4]; simp only [em_apply, ofBits_zero]
theorem pay23_eq : (k0_pay23 (F := Ideal) (nm O) (nm (dout g Y)) (k0_pay20 (iota .tc S24x384 32 [0] iota_S24x384_d0_w32) 8#32 k0_pay18 k0_pay19)
      (Scalar.select (Scalar.cmpi .eq 8#32 0#32) 1#32 8#32) (k0_pay21 (iota .tc S24x384 32 [0] iota_S24x384_d0_w32)) k0_pay22 : Vec Ideal S24x512 .f32)
    = nm fun q r => delta O g Y (q / 8) (q % 8) r := by
  funext j; idx_vars j; pointwise [k0_pay23, k0_pay20, k0_pay21, k0_pay22, k0_pay18, k0_pay19]
  simp only [nm_apply, ofBits_zero, zero_add]
  have hj := j0.isLt
  refine Eq.trans (Finset.sum_congr rfl fun k _ => (congrArg₂ (· * ·) (congrArg (fun b : BitVec 32 => ((b.toInt : ℝ) : EReal))
    (?_ : _ = if j0.val % 8 < 2 ∧ k.val / 64 = 2 * (j0.val / 8) + j0.val % 8 then 1#32 else 0#32)) (EReal.coe_mul _ _).symm)) ?_
  · clear hj
    revert j0 k
    decide +kernel
  · have e : ∀ k : Fin 384, (((if j0.val % 8 < 2 ∧ k.val / 64 = 2 * (j0.val / 8) + j0.val % 8 then 1#32 else 0#32 : BitVec 32).toInt : ℝ) : EReal)
        * ((dout g Y j1.val k.val * O j1.val k.val : ℝ) : EReal)
        = (((if j0.val % 8 < 2 then dout g Y j1.val k.val * O j1.val k.val * (if k.val / 64 = 2 * (j0.val / 8) + j0.val % 8 then 1 else 0) else 0 : ℝ)) : EReal) := by
      intro k
      by_cases h1 : j0.val % 8 < 2
      · by_cases h2 : k.val / 64 = 2 * (j0.val / 8) + j0.val % 8
        · rw [if_pos ⟨h1, h2⟩, if_pos h1, if_pos h2, mul_one]; simp
        · rw [if_neg fun h => h2 h.2, if_pos h1, if_neg h2, mul_zero]; simp
      · rw [if_neg fun h => h1 h.1, if_neg h1]; simp
    simp only [e, sum_coe, delta]
    refine congrArg (fun r : ℝ => (r : EReal)) ?_
    by_cases h1 : j0.val % 8 < 2
    · simp only [if_pos h1]
      refine (sum_block (h := 6) (d := 64) (by norm_num) (fun k => dout g Y j1.val k * O j1.val k) (fun _ => 1) (2 * (j0.val / 8) + j0.val % 8) (by omega)).trans ?_
      exact Finset.sum_congr rfl fun _ _ => mul_one _
    · simp only [if_neg h1, Finset.sum_const_zero]
variable (m : (ℓ : Loc nD τ sig) → Buf (Elt Ideal) ℓ) (c : Dev nD)
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 3] :=
  (by decide +kernel : ∀ t : Fin grid0.N, win0_5.index t = ![t.val, 3])
theorem idx6 : ∀ t : Fin cfg0.N, win0_6.index t = ![1, 0, 0] :=
  (by decide +kernel : ∀ t : Fin grid0.N, win0_6.index t = ![1, 0, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![t.val, 0] :=
  (by decide +kernel : ∀ t : Fin grid0.N, win0_8.index t = ![t.val, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![t.val, 0] :=
  (by decide +kernel : ∀ t : Fin grid0.N, win0_10.index t = ![t.val, 0])
theorem idx11 : ∀ t : Fin cfg0.N, win0_11.index t = ![0, t.val, 0, 0] :=
  (by decide +kernel : ∀ t : Fin grid0.N, win0_11.index t = ![0, t.val, 0, 0])
theorem idx12 : ∀ t : Fin cfg0.N, win0_12.index t = ![0, 0] :=
  (by decide +kernel : ∀ t : Fin grid0.N, win0_12.index t = ![0, 0])
variable (C : ℕ → ℕ → EReal) (Z : ℕ → ℕ → ℝ) (M : ℕ → ℕ → ℕ → ℝ)
/-- The gate's columns of the projected row. -/
abbrev gb (Z : ℕ → ℕ → ℝ) (t l : ℕ) : ℝ := Z t (1440 + l)
set_option maxHeartbeats 4000000 in
theorem lanes (hZ : m ((c : Thread nD τ).loc main_arg4) = nm Z) : (V m c main_v13 : Vec Ideal S8192x2432 .f32) = nm fun a => lane (Z a) := by
  have hZ' : m (c, Proc.tc.devRef main_arg4) = (nm Z : FVec Ideal S8192x2336 .f32) := hZ
  show (StableHlo.after [hostOps0, hostOps0_1, hostOps0_2].flatten (fun b => m (c, b)) (Proc.devRef .tc main_v13) : Vec Ideal S8192x2432 .f32) = _
  simp only [List.flatten_cons, List.flatten_nil, List.append_nil, StableHlo.after_append]
  after_reads_simp
  refine cat2 Z _ _ _ _ _ _ _ _ _ _
    concatenates_S8192x584_S8192x568_S8192x312_S8192x72_S8192x16_S8192x240_S8192x512_S8192x64_S8192x32_S8192x32_S8192x2432_d1
    ?_ ?_ ?_ ?_ ?_ ?_ ?_ ?_ ?_ ?_
  · show StableHlo.upto hostOps0 (fun b => m (c, b)) 15 (Proc.tc.devRef main_v0) = _
    after_reads_simp
    funext j; idx_vars j; pointwise []
    rw [hZ', nm_apply, nm_apply]
  · show StableHlo.upto hostOps0 (fun b => m (c, b)) 15 (Proc.tc.devRef main_v4) = _
    after_reads_simp
    funext j; idx_vars j; pointwise []
    rw [hZ', nm_apply, nm_apply]
  · show StableHlo.upto hostOps0 (fun b => m (c, b)) 15 (Proc.tc.devRef main_v5) = _
    after_reads_simp
    funext j; idx_vars j; pointwise []
    rw [hZ', nm_apply, nm_apply]; exact congrArg (fun z : ℕ => ((Z j0.val z : ℝ) : EReal)) (by dsimp only; omega)
  · show StableHlo.upto hostOps0 (fun b => m (c, b)) 15 (Proc.tc.devRef main_v6) = _
    after_reads_simp
    funext j; idx_vars j; pointwise []
    rw [hZ', nm_apply, nm_apply]
  · show StableHlo.upto hostOps0 (fun b => m (c, b)) 15 (Proc.tc.devRef main_v7) = _
    after_reads_simp
    funext j; idx_vars j; pointwise []
    rw [hZ', nm_apply, nm_apply]; exact congrArg (fun z : ℕ => ((Z j0.val z : ℝ) : EReal)) (by dsimp only; omega)
  · show StableHlo.upto hostOps0 (fun b => m (c, b)) 15 (Proc.tc.devRef main_v8) = _
    after_reads_simp
    funext j; idx_vars j; pointwise []
    rw [hZ', nm_apply, nm_apply]
  · show StableHlo.upto hostOps0 (fun b => m (c, b)) 15 (Proc.tc.devRef main_v9) = _
    after_reads_simp
    funext j; idx_vars j; pointwise []
    rw [hZ', nm_apply, nm_apply]; exact congrArg (fun z : ℕ => ((Z j0.val z : ℝ) : EReal)) (by dsimp only; omega)
  · show StableHlo.upto hostOps0 (fun b => m (c, b)) 15 (Proc.tc.devRef main_v10) = _
    after_reads_simp
    funext j; idx_vars j; pointwise []
    rw [nm_apply, EReal.coe_zero]
  · show StableHlo.upto hostOps0 (fun b => m (c, b)) 15 (Proc.tc.devRef main_v11) = _
    after_reads_simp
    funext j; idx_vars j; pointwise []
    rw [hZ', nm_apply, nm_apply]; exact congrArg (fun z : ℕ => ((Z j0.val z : ℝ) : EReal)) (by dsimp only; omega)
  · show StableHlo.upto hostOps0 (fun b => m (c, b)) 15 (Proc.tc.devRef main_v12) = _
    after_reads_simp
    funext j; idx_vars j; pointwise []
    rw [nm_apply, EReal.coe_zero]
theorem iblk0 (h : m ((c : Thread nD τ).loc main_arg0) = nm X) (t : Fin cfg0.N) : (iblk m c 0 t : Vec Ideal S512x1024 .f32) = nm fun r => X (512 * t.val + r) := by
  funext j; idx_vars j
  rw [nm_apply]
  have ht : t.val < 16 := t.isLt
  have e : (win0_0.blk t).view.emb (ix2 j0 j1) = ix2 ⟨512 * t.val + j0.val, by omega⟩ j1 := by blk_ext [idx0 t]
  blk_simp [iblk, e]
  rw [V_main_arg0, h]; rfl
theorem iblk1 (h : m ((c : Thread nD τ).loc main_arg1) = em A) (t : Fin cfg0.N) : (iblk m c 1 t : Vec Ideal S512x384 .bf16) = em fun r => A (512 * t.val + r) := by
  funext j; idx_vars j
  rw [em_apply]
  have ht : t.val < 16 := t.isLt
  have e : (win0_1.blk t).view.emb (ix2 j0 j1) = ix2 ⟨512 * t.val + j0.val, by omega⟩ j1 := by blk_ext [idx1 t]
  blk_simp [iblk, e]
  entry_read
  simp only [List.flatten_cons, List.flatten_nil, List.append_nil, StableHlo.after_append]; after_reads_simp; pointwise []
  change m ((c : Thread nD τ).loc main_arg1) _ = _
  rw [h]; rfl
theorem iblk3 (h : m ((c : Thread nD τ).loc main_arg2) = em C) (t : Fin cfg0.N) : (iblk m c 3 t : Vec Ideal S512x256 .bf16) = em fun r => C (512 * t.val + r) := by
  funext j; idx_vars j
  rw [em_apply]
  have ht : t.val < 16 := t.isLt
  have e : (win0_3.blk t).view.emb (ix2 j0 j1) = ix2 ⟨512 * t.val + j0.val, by omega⟩ j1 := by blk_ext [idx3 t]
  blk_simp [iblk, e]
  entry_read
  simp only [List.flatten_cons, List.flatten_nil, List.append_nil, StableHlo.after_append]; after_reads_simp; pointwise []
  change m ((c : Thread nD τ).loc main_arg2) _ = _
  rw [h]; rfl
theorem iblk4 (h : m ((c : Thread nD τ).loc main_arg3) = nm O) (t : Fin cfg0.N) : (iblk m c 4 t : Vec Ideal S512x384 .f32) = nm fun r => O (512 * t.val + r) := by
  funext j; idx_vars j
  rw [nm_apply]
  have ht : t.val < 16 := t.isLt
  have e : (win0_4.blk t).view.emb (ix2 j0 j1) = ix2 ⟨512 * t.val + j0.val, by omega⟩ j1 := by blk_ext [idx4 t]
  blk_simp [iblk, e]
  rw [V_main_arg3, h]; rfl
theorem iblk2 (hO : m ((c : Thread nD τ).loc main_arg3) = nm O) (hZ : m ((c : Thread nD τ).loc main_arg4) = nm Z) (t : Fin cfg0.N) :
    (iblk m c 2 t : Vec Ideal S512x384 .bf16) = nm fun r => yb O (gb Z) (512 * t.val + r) := by
  funext j; idx_vars j
  rw [nm_apply]
  have ht : t.val < 16 := t.isLt
  have e : (win0_2.blk t).view.emb (ix2 j0 j1) = ix2 ⟨512 * t.val + j0.val, by omega⟩ j1 := by blk_ext [idx2 t]
  blk_simp [iblk, e]
  entry_read
  simp only [List.flatten_cons, List.flatten_nil, List.append_nil, StableHlo.after_append]; after_reads_simp; pointwise []
  change mulf (m ((c : Thread nD τ).loc main_arg3) : FVec Ideal S8192x384 .f32)
    (mulf (extractStridedSlice S8192x384 ![0, 1440] (m ((c : Thread nD τ).loc main_arg4) : FVec Ideal S8192x2336 .f32) slices_S8192x2336_S8192x384_0_1440 : FVec Ideal S8192x384 .f32)
      (Host.divf (broadcastInDim S8192x384 ![] bcast_S_S8192x384 (constant S_ .f32 0x3F800000#32 : FVec Ideal S_ .f32))
        (addf (broadcastInDim S8192x384 ![] bcast_S_S8192x384 (constant S_ .f32 0x3F800000#32 : FVec Ideal S_ .f32)) (Host.exp (Host.negf
          (extractStridedSlice S8192x384 ![0, 1440] (m ((c : Thread nD τ).loc main_arg4) : FVec Ideal S8192x2336 .f32) slices_S8192x2336_S8192x384_0_1440 : FVec Ideal S8192x384 .f32))))))
    (ix2 ⟨512 * t.val + j0.val, by omega⟩ j1) = _
  rw [hO, hZ]; pointwise []
  simp only [nm_apply, show ∀ x : ℝ, Ideal.exp ((x : ℝ) : EReal) = ((Real.exp x : ℝ) : EReal) from fun _ => rfl, ← EReal.coe_neg, ← EReal.coe_one, ← EReal.coe_add,
    div_coe _ _ (one_add_exp_pos _).ne', ← EReal.coe_mul, yb, gb, sg]
theorem iblk6 (hM : m ((c : Thread nD τ).loc main_arg5) = nc M) (t : Fin cfg0.N) : (iblk m c 6 t : Vec Ideal S1x1024x1024 .bf16) = nc fun _ => M 1 := by
  funext j; idx_vars j
  rw [nc_apply]
  have ht : t.val < 16 := t.isLt
  have e : (win0_6.blk t).view.emb (ix3 j0 j1 j2) = ix3 ⟨1, by omega⟩ j1 j2 := by blk_ext [idx6 t]
  blk_simp [iblk, e]
  entry_read
  simp only [List.flatten_cons, List.flatten_nil, List.append_nil, StableHlo.after_append]; after_reads_simp; pointwise []
  change m ((c : Thread nD τ).loc main_arg5) _ = _
  rw [hM]; rfl
theorem X5 (hZ : m ((c : Thread nD τ).loc main_arg4) = nm Z) (t : Fin cfg0.N) : (X0_5 m c t : Vec Ideal S512x384 .f32) = nm fun r => gb Z (512 * t.val + r) := by
  funext j; idx_vars j
  rw [nm_apply]
  have ht : t.val < 16 := t.isLt
  unfold X0_5 Pipeline.Window.fill
  rw [dif_pos (moved0_5 t _)]
  have e : ∀ h : ∀ a, (ix2 j0 j1 a).val < (win0_5.xblock (grid0.coords t)).size a, (win0_5.blk t).view.emb (fun a => ⟨(ix2 j0 j1 a).val, h a⟩)
      = ix2 ⟨512 * t.val + j0.val, by omega⟩ ⟨1152 + j1.val, by omega⟩ := by intro h; blk_ext [idx5 t]
  have e2 : (V m c main_v13 : Vec Ideal S8192x2432 .f32) (ix2 ⟨512 * t.val + j0.val, by omega⟩ ⟨1152 + j1.val, by omega⟩)
      = ((gb Z (512 * t.val + j0.val) j1.val : ℝ) : EReal) := by
    rw [lanes m c Z hZ, nm_apply]
    unfold lane gb
    rw [if_neg (by dsimp only; omega), if_pos (by dsimp only; omega)]
    exact congrArg (fun z : ℕ => ((Z _ z : ℝ) : EReal)) (by dsimp only; omega)
  rw [← e fun a => (Pipeline.Window.moved_iff _ _ _).mp (moved0_5 t (ix2 j0 j1)) a] at e2
  exact e2
abbrev rA : Rect S1024x1024 := Rect.unit ![0, 0] ![384, 1024] inb_S1024x1024_S384x1024_0_0
abbrev rB : Rect S1024x1024 := Rect.unit ![384, 0] ![384, 1024] inb_S1024x1024_S384x1024_384_0
abbrev rC : Rect S1024x1024 := Rect.unit ![768, 0] ![256, 1024] inb_S1024x1024_S256x1024_768_0
theorem ld0 (P : ℕ → ℕ → EReal) : (View.ld (Val := Elt Ideal) (e' := .f32) (em P) rA : Vec Ideal S384x1024 .f32) = (em P : Vec Ideal S384x1024 .f32) := by
  funext x; idx_vars x
  exact congrArg₂ P (by show 0 + 1 * _ = _; simp) (by show 0 + 1 * _ = _; simp)
theorem ld384 (P : ℕ → ℕ → EReal) : (View.ld (Val := Elt Ideal) (e' := .f32) (em P) rB : Vec Ideal S384x1024 .f32)
    = (em fun a => P (384 + a) : Vec Ideal S384x1024 .f32) := by
  funext x; idx_vars x
  exact congrArg₂ P (by show 384 + 1 * _ = _; simp) (by show 0 + 1 * _ = _; simp)
theorem ld768 (P : ℕ → ℕ → EReal) : (View.ld (Val := Elt Ideal) (e' := .f32) (em P) rC : Vec Ideal S256x1024 .f32)
    = (em fun a => P (768 + a) : Vec Ideal S256x1024 .f32) := by
  funext x; idx_vars x
  exact congrArg₂ P (by show 768 + 1 * _ = _; simp) (by show 0 + 1 * _ = _; simp)
theorem cov12 (w w' w'') (y : S1024x1024.Idx) : ∃ p ∈ [(⟨Rect.unit ![768, 0] ![256, 1024] inb_S1024x1024_S256x1024_768_0, w⟩ : View.Piece (Elt Ideal) S1024x1024 .f32),
    ⟨Rect.unit ![384, 0] ![384, 1024] inb_S1024x1024_S384x1024_384_0, w'⟩, ⟨Rect.unit ![0, 0] ![384, 1024] inb_S1024x1024_S384x1024_0_0, w''⟩], y ∈ p.1.set := by
  idx_vars y
  have h0 : y0.val < 1024 := y0.isLt
  have h1 : y1.val < 1024 := y1.isLt
  have hy : y0.val < 384 ∨ (384 ≤ y0.val ∧ y0.val < 768) ∨ 768 ≤ y0.val := by omega
  rcases hy with h | h | h
  · refine ⟨_, List.mem_cons_of_mem _ (List.mem_cons_of_mem _ List.mem_cons_self), ?_⟩
    refine (Rect.mem_set_unit (inb := inb_S1024x1024_S384x1024_0_0)).mpr fun a => ?_
    match a with
    | ⟨0, _⟩ => exact ⟨Nat.zero_le _, by show y0.val < 0 + 384; omega⟩
    | ⟨1, _⟩ => exact ⟨Nat.zero_le _, by show y1.val < 0 + 1024; omega⟩
  · refine ⟨_, List.mem_cons_of_mem _ List.mem_cons_self, ?_⟩
    refine (Rect.mem_set_unit (inb := inb_S1024x1024_S384x1024_384_0)).mpr fun a => ?_
    match a with
    | ⟨0, _⟩ => exact ⟨h.1, by show y0.val < 384 + 384; omega⟩
    | ⟨1, _⟩ => exact ⟨Nat.zero_le _, by show y1.val < 0 + 1024; omega⟩
  · refine ⟨_, List.mem_cons_self, ?_⟩
    refine (Rect.mem_set_unit (inb := inb_S1024x1024_S256x1024_768_0)).mpr fun a => ?_
    match a with
    | ⟨0, _⟩ => exact ⟨h, by show y0.val < 768 + 256; omega⟩
    | ⟨1, _⟩ => exact ⟨Nat.zero_le _, by show y1.val < 0 + 1024; omega⟩
/-- Three bands of rows, stored over anything. -/
theorem bands (G : ℕ → ℕ → EReal) (L' : List (View.Piece (Elt Ideal) S1024x1024 .f32)) (w w' w'') (h0 : w = (em fun a => G (768 + a) : Vec Ideal S256x1024 .f32)) (h1 : w' = (em fun a => G (384 + a) : Vec Ideal S384x1024 .f32))
    (h2 : w'' = (em G : Vec Ideal S384x1024 .f32)) : View.canon ((⟨Rect.unit ![768, 0] ![256, 1024] inb_S1024x1024_S256x1024_768_0, w⟩ : View.Piece (Elt Ideal) S1024x1024 .f32)
      :: ⟨Rect.unit ![384, 0] ![384, 1024] inb_S1024x1024_S384x1024_384_0, w'⟩ :: ⟨Rect.unit ![0, 0] ![384, 1024] inb_S1024x1024_S384x1024_0_0, w''⟩ :: L') = (em G : Vec Ideal S1024x1024 .f32) := by
  subst h0 h1 h2
  funext y
  refine View.canon_append_of_piecesOf (em G) L' [⟨Rect.unit ![768, 0] ![256, 1024] inb_S1024x1024_S256x1024_768_0, _⟩,
    ⟨Rect.unit ![384, 0] ![384, 1024] inb_S1024x1024_S384x1024_384_0, _⟩, ⟨Rect.unit ![0, 0] ![384, 1024] inb_S1024x1024_S384x1024_0_0, _⟩] ⟨fun x => ?_, fun x => ?_, fun x => ?_, trivial⟩ y (cov12 _ _ _ y)
  · exact (congrFun (ld768 G) x).symm
  · exact (congrFun (ld384 G) x).symm
  · exact (congrFun (ld0 G) x).symm
variable (hX : m ((c : Thread nD τ).loc main_arg0) = nm X) (hA : m ((c : Thread nD τ).loc main_arg1) = em A) (hC : m ((c : Thread nD τ).loc main_arg2) = em C)
  (hO : m ((c : Thread nD τ).loc main_arg3) = nm O) (hZ : m ((c : Thread nD τ).loc main_arg4) = nm Z) (hM : m ((c : Thread nD τ).loc main_arg5) = nc M)
include hX hA hC hO hZ
theorem step12 (t : Fin cfg0.N) (P : ℕ → ℕ → EReal) (hP : ∀ h : ¬ t.val % 16 = 0, (outsAt0 m c (t.val - 1) (Nat.lt_of_le_of_lt (Nat.sub_le _ _) t.isLt)).2.2.2.2.2 = em P)
    (h0 : t.val % 16 = 0 → P = fun _ _ => 0) : (outsAt0 m c t.val t.isLt).2.2.2.2.2
      = em fun k l => P k l + ∑ r : Fin 512, mix O (gb Z) A C (512 * t.val + r.val) k * ((X (512 * t.val + r.val) l : ℝ) : EReal) := by
  by_cases hc : t.val % 16 = 0
  · rw [outsAt0_A m c t hc]; frame_out
    simp (disch := decide) only [↓View.readCov_skip, View.readCov_fill]
    rw [pay4_eq, ← h0 hc, ld0, ld384, ld768, iblk0 X m c hX]
    refine bands _ [_] _ _ _ ?_ ?_ ?_
    · rw [iblk3 m c C hC]
      refine (pay9_eq _ _ _).trans (congrArg em (funext fun a => funext fun l => ?_))
      refine congrArg (P (768 + a) l + ·) (Finset.sum_congr rfl fun r _ => ?_)
      unfold mix
      rw [if_neg (by omega), if_neg (by omega), Nat.add_sub_cancel_left]
    · rw [iblk2 O m c Z hO hZ]
      have q := pay8_eq (fun r => X (512 * t.val + r)) (fun a => P (384 + a)) (fun r l => ((yb O (gb Z) (512 * t.val + r) l : ℝ) : EReal))
      refine Eq.trans q ?_
      funext y; idx_vars y
      rw [em_apply, em_apply]
      refine congrArg (P (384 + y0.val) y1.val + ·) (Finset.sum_congr rfl fun r _ => ?_)
      unfold mix
      have hy : y0.val < 384 := y0.isLt
      rw [if_neg (by omega), if_pos (by omega), Nat.add_sub_cancel_left]
    · rw [iblk1 A m c hA]
      refine (pay7_eq _ _ _).trans ?_
      funext y; idx_vars y
      rw [em_apply, em_apply]
      refine congrArg (P y0.val y1.val + ·) (Finset.sum_congr rfl fun r _ => ?_)
      unfold mix
      rw [if_pos y0.isLt]
  · rw [outsAt0_B m c t hc]; frame_out
    rw [hP hc, ld0, ld384, ld768, iblk0 X m c hX]
    refine bands _ [] _ _ _ ?_ ?_ ?_
    · rw [iblk3 m c C hC]
      refine (pay9_eq _ _ _).trans (congrArg em (funext fun a => funext fun l => ?_))
      refine congrArg (P (768 + a) l + ·) (Finset.sum_congr rfl fun r _ => ?_)
      unfold mix
      rw [if_neg (by omega), if_neg (by omega), Nat.add_sub_cancel_left]
    · rw [iblk2 O m c Z hO hZ]
      have q := pay8_eq (fun r => X (512 * t.val + r)) (fun a => P (384 + a)) (fun r l => ((yb O (gb Z) (512 * t.val + r) l : ℝ) : EReal))
      refine Eq.trans q ?_
      funext y; idx_vars y
      rw [em_apply, em_apply]
      refine congrArg (P (384 + y0.val) y1.val + ·) (Finset.sum_congr rfl fun r _ => ?_)
      unfold mix
      have hy : y0.val < 384 := y0.isLt
      rw [if_neg (by omega), if_pos (by omega), Nat.add_sub_cancel_left]
    · rw [iblk1 A m c hA]
      refine (pay7_eq _ _ _).trans ?_
      funext y; idx_vars y
      rw [em_apply, em_apply]
      refine congrArg (P y0.val y1.val + ·) (Finset.sum_congr rfl fun r _ => ?_)
      unfold mix
      rw [if_pos y0.isLt]
theorem acc12 (n : ℕ) (hn : n < cfg0.N) : (outsAt0 m c n hn).2.2.2.2.2
    = em fun k l => ∑ i ∈ Finset.range (n + 1), ∑ r : Fin 512, mix O (gb Z) A C (512 * i + r.val) k * ((X (512 * i + r.val) l : ℝ) : EReal) := by
  induction n with
  | zero =>
    rw [step12 X O A m c C Z hX hA hC hO hZ ⟨0, hn⟩ (fun _ _ => 0) (fun h => absurd rfl h) fun _ => rfl]
    simp only [Finset.sum_range_one, zero_add]
  | succ n ih =>
    have h : n + 1 < 16 := hn
    rw [step12 X O A m c C Z hX hA hC hO hZ ⟨n + 1, hn⟩ _ (fun _ => ih (Nat.lt_of_succ_lt hn)) fun h0 => absurd h0 (by show ¬ (n + 1) % 16 = 0; omega)]
    simp only [Finset.sum_range_succ _ (n + 1)]
theorem final12 : (dats m 0 c).arrAt 12 cfg0.N = em fun k l => ∑ t : Fin 8192, mix O (gb Z) A C t.val k * ((X t.val l : ℝ) : EReal) := by
  refine (dats m 0 c).arrAt_eq_of_covers 12 _ (by decide +kernel) fun t hf y => ?_
  have h15 : t.val = 15 := by have := (flush0_12 t).mp hf; have : t.val < 16 := t.isLt; omega
  blk_simp
  rw [after0_12, acc12 X O A m c C Z hX hA hC hO hZ]
  idx_vars y
  have ht : t.val < 16 := t.isLt
  have e : (win0_12.blk t).view.emb (ix2 y0 y1) = ix2 y0 y1 := by blk_ext [idx12 t]
  rw [e, em_apply, em_apply, h15, sum_tiles fun r => mix O (gb Z) A C r y0.val * ((X r y1.val : ℝ) : EReal)]
omit hA hC hO hZ
include hM
theorem row (t : Fin cfg0.N) : (k0_pay6 (F := Ideal) (iblk m c 0 t) (iblk m c 6 t) : Vec Ideal S512x1024 .f32) = nm fun r => dy X (M 1) (512 * t.val + r) := by
  rw [iblk0 X m c hX, iblk6 m c M hM]
  exact pay6_eq (fun r => X (512 * t.val + r)) (M 1)
theorem final7 : (dats m 0 c).arrAt 7 cfg0.N = nm fun t l => dy X (M 1) t l := by
  refine (dats m 0 c).arrAt_eq_of_covers 7 _ (by decide +kernel) fun t hf y => ?_
  blk_simp
  rw [after0_7]
  have key : ∀ y, (nm fun r l => dy X (M 1) (512 * t.val + r) l : Vec Ideal S512x384 .f32) y
      = nm (fun t l => dy X (M 1) t l) ((win0_7.blk t).view.emb y) := by
    intro y
    idx_vars y
    have ht : t.val < 16 := t.isLt
    have e : (win0_7.blk t).view.emb (ix2 y0 y1) = ix2 ⟨512 * t.val + y0.val, by omega⟩ y1 := by blk_ext [idx7 t]
    rw [e, nm_apply, nm_apply]
  by_cases hc : t.val % 16 = 0
  · rw [outsAt0_A m c t hc]; frame_out
    rw [row X m c M hX hM, pay10_eq]
    exact key y
  · rw [outsAt0_B m c t hc]; frame_out
    rw [row X m c M hX hM, pay10_eq]
    exact key y
theorem final8 : (dats m 0 c).arrAt 8 cfg0.N = nm fun t l => dy X (M 1) t (768 + l) := by
  refine (dats m 0 c).arrAt_eq_of_covers 8 _ (by decide +kernel) fun t hf y => ?_
  blk_simp
  rw [after0_8]
  have key : ∀ y, (nm fun r l => dy X (M 1) (512 * t.val + r) (768 + l) : Vec Ideal S512x256 .f32) y
      = nm (fun t l => dy X (M 1) t (768 + l)) ((win0_8.blk t).view.emb y) := by
    intro y
    idx_vars y
    have ht : t.val < 16 := t.isLt
    have e : (win0_8.blk t).view.emb (ix2 y0 y1) = ix2 ⟨512 * t.val + y0.val, by omega⟩ y1 := by blk_ext [idx8 t]
    rw [e, nm_apply, nm_apply]
  by_cases hc : t.val % 16 = 0
  · rw [outsAt0_A m c t hc]; frame_out
    rw [row X m c M hX hM, pay11_eq]
    exact key y
  · rw [outsAt0_B m c t hc]; frame_out
    rw [row X m c M hX hM, pay11_eq]
    exact key y
include hZ
theorem final9 : (dats m 0 c).arrAt 9 cfg0.N = nm fun t l => dout (gb Z) (dy X (M 1)) t l := by
  refine (dats m 0 c).arrAt_eq_of_covers 9 _ (by decide +kernel) fun t hf y => ?_
  blk_simp
  rw [after0_9]
  have key : ∀ y, (nm fun r l => dout (gb Z) (dy X (M 1)) (512 * t.val + r) l : Vec Ideal S512x384 .bf16) y
      = nm (fun t l => dout (gb Z) (dy X (M 1)) t l) ((win0_9.blk t).view.emb y) := by
    intro y
    idx_vars y
    have ht : t.val < 16 := t.isLt
    have e : (win0_9.blk t).view.emb (ix2 y0 y1) = ix2 ⟨512 * t.val + y0.val, by omega⟩ y1 := by blk_ext [idx9 t]
    rw [e, nm_apply, nm_apply]
  by_cases hc : t.val % 16 = 0
  · rw [outsAt0_A m c t hc]; frame_out
    rw [row X m c M hX hM, X5 m c Z hZ]
    refine (congrFun (pay16_eq (fun r => gb Z (512 * t.val + r)) (fun r => dy X (M 1) (512 * t.val + r))) y).trans ?_
    exact key y
  · rw [outsAt0_B m c t hc]; frame_out
    rw [row X m c M hX hM, X5 m c Z hZ]
    refine (congrFun (pay16_eq (fun r => gb Z (512 * t.val + r)) (fun r => dy X (M 1) (512 * t.val + r))) y).trans ?_
    exact key y
include hO
theorem final10 : (dats m 0 c).arrAt 10 cfg0.N = nm fun t l => dgate O (gb Z) (dy X (M 1)) t l := by
  refine (dats m 0 c).arrAt_eq_of_covers 10 _ (by decide +kernel) fun t hf y => ?_
  blk_simp
  rw [after0_10]
  have key : ∀ y, (nm fun r l => dgate O (gb Z) (dy X (M 1)) (512 * t.val + r) l : Vec Ideal S512x384 .bf16) y
      = nm (fun t l => dgate O (gb Z) (dy X (M 1)) t l) ((win0_10.blk t).view.emb y) := by
    intro y
    idx_vars y
    have ht : t.val < 16 := t.isLt
    have e : (win0_10.blk t).view.emb (ix2 y0 y1) = ix2 ⟨512 * t.val + y0.val, by omega⟩ y1 := by blk_ext [idx10 t]
    rw [e, nm_apply, nm_apply]
  by_cases hc : t.val % 16 = 0
  · rw [outsAt0_A m c t hc]; frame_out
    rw [row X m c M hX hM, X5 m c Z hZ, iblk4 O m c hO]
    refine (congrFun (pay17_eq (fun r => O (512 * t.val + r)) (fun r => gb Z (512 * t.val + r)) (fun r => dy X (M 1) (512 * t.val + r))) y).trans ?_
    exact key y
  · rw [outsAt0_B m c t hc]; frame_out
    rw [row X m c M hX hM, X5 m c Z hZ, iblk4 O m c hO]
    refine (congrFun (pay17_eq (fun r => O (512 * t.val + r)) (fun r => gb Z (512 * t.val + r)) (fun r => dy X (M 1) (512 * t.val + r))) y).trans ?_
    exact key y
omit hX hO hZ hM
theorem slice1 (F : ℕ → ℕ → ℝ) : (k0_pay2 (F := Ideal) (nm F) : Vec Ideal S1x1x8x512 .f32) = nq fun _ _ s r => F (8 + s) r := by
  funext j; idx_vars j; pointwise [k0_pay2]
  rw [nm_apply, nq_apply]
theorem slice2 (F : ℕ → ℕ → ℝ) : (k0_pay3 (F := Ideal) (nm F) : Vec Ideal S1x1x8x512 .f32) = nq fun _ _ s r => F (16 + s) r := by
  funext j; idx_vars j; pointwise [k0_pay3]
  rw [nm_apply, nq_apply]
theorem slice0 (F : ℕ → ℕ → ℝ) : (k0_pay1 (F := Ideal) (extractStridedSlice S8x512 ![0, 0] (nm F : FVec Ideal S24x512 .f32) slices_S24x512_o0_0_S8x512) : Vec Ideal S1x1x8x512 .f32)
    = nq fun _ _ s r => F s r := by
  funext j; idx_vars j; pointwise [k0_pay1]
  rw [nm_apply, nq_apply]
theorem cov11 (w w' w'') (y : S3x1x8x512.Idx) : ∃ p ∈ [(⟨Rect.unit ![2, 0, 0, 0] ![1, 1, 8, 512] inb_S3x1x8x512_S1x1x8x512_2_0_0_0, w⟩ : View.Piece (Elt Ideal) S3x1x8x512 .f32),
      ⟨Rect.unit ![1, 0, 0, 0] ![1, 1, 8, 512] inb_S3x1x8x512_S1x1x8x512_1_0_0_0, w'⟩, ⟨Rect.unit ![0, 0, 0, 0] ![1, 1, 8, 512] inb_S3x1x8x512_S1x1x8x512_0_0_0_0, w''⟩], y ∈ p.1.set := by
  idx_vars y
  have h0 : y0.val < 3 := y0.isLt
  have h1 : y1.val < 1 := y1.isLt
  have h2 : y2.val < 8 := y2.isLt
  have h3 : y3.val < 512 := y3.isLt
  have hy : y0.val = 0 ∨ y0.val = 1 ∨ y0.val = 2 := by omega
  rcases hy with h | h | h
  · refine ⟨_, List.mem_cons_of_mem _ (List.mem_cons_of_mem _ List.mem_cons_self), ?_⟩
    refine (Rect.mem_set_unit (inb := inb_S3x1x8x512_S1x1x8x512_0_0_0_0)).mpr fun a => ?_
    match a with
    | ⟨0, _⟩ => exact ⟨h.ge, by show y0.val < 0 + 1; omega⟩
    | ⟨1, _⟩ => exact ⟨Nat.zero_le _, by show y1.val < 0 + 1; omega⟩
    | ⟨2, _⟩ => exact ⟨Nat.zero_le _, by show y2.val < 0 + 8; omega⟩
    | ⟨3, _⟩ => exact ⟨Nat.zero_le _, by show y3.val < 0 + 512; omega⟩
  · refine ⟨_, List.mem_cons_of_mem _ List.mem_cons_self, ?_⟩
    refine (Rect.mem_set_unit (inb := inb_S3x1x8x512_S1x1x8x512_1_0_0_0)).mpr fun a => ?_
    match a with
    | ⟨0, _⟩ => exact ⟨h.ge, by show y0.val < 1 + 1; omega⟩
    | ⟨1, _⟩ => exact ⟨Nat.zero_le _, by show y1.val < 0 + 1; omega⟩
    | ⟨2, _⟩ => exact ⟨Nat.zero_le _, by show y2.val < 0 + 8; omega⟩
    | ⟨3, _⟩ => exact ⟨Nat.zero_le _, by show y3.val < 0 + 512; omega⟩
  · refine ⟨_, List.mem_cons_self, ?_⟩
    refine (Rect.mem_set_unit (inb := inb_S3x1x8x512_S1x1x8x512_2_0_0_0)).mpr fun a => ?_
    match a with
    | ⟨0, _⟩ => exact ⟨h.ge, by show y0.val < 2 + 1; omega⟩
    | ⟨1, _⟩ => exact ⟨Nat.zero_le _, by show y1.val < 0 + 1; omega⟩
    | ⟨2, _⟩ => exact ⟨Nat.zero_le _, by show y2.val < 0 + 8; omega⟩
    | ⟨3, _⟩ => exact ⟨Nat.zero_le _, by show y3.val < 0 + 512; omega⟩
abbrev rG0 : Rect S3x1x8x512 := Rect.unit ![0, 0, 0, 0] ![1, 1, 8, 512] inb_S3x1x8x512_S1x1x8x512_0_0_0_0
theorem ldG0 (G : ℕ → ℕ → ℕ → ℝ) : (View.ld (Val := Elt Ideal) (e' := .f32) (nq fun p _ s r => G p s r) rG0 : Vec Ideal S1x1x8x512 .f32) = nq fun _ _ s r => G 0 s r := by
  funext x; idx_vars x
  have b : x0.val < 1 := x0.isLt
  have e0 : 0 + 1 * x0.val = 0 := by omega
  have e2 : 0 + 1 * x2.val = x2.val := by omega
  have e3 : 0 + 1 * x3.val = x3.val := by omega
  show ((G (0 + 1 * x0.val) (0 + 1 * x2.val) (0 + 1 * x3.val) : ℝ) : EReal) = _
  rw [e0, e2, e3]; rfl
abbrev rG1 : Rect S3x1x8x512 := Rect.unit ![1, 0, 0, 0] ![1, 1, 8, 512] inb_S3x1x8x512_S1x1x8x512_1_0_0_0
theorem ldG1 (G : ℕ → ℕ → ℕ → ℝ) : (View.ld (Val := Elt Ideal) (e' := .f32) (nq fun p _ s r => G p s r) rG1 : Vec Ideal S1x1x8x512 .f32) = nq fun _ _ s r => G 1 s r := by
  funext x; idx_vars x
  have b : x0.val < 1 := x0.isLt
  have e0 : 1 + 1 * x0.val = 1 := by omega
  have e2 : 0 + 1 * x2.val = x2.val := by omega
  have e3 : 0 + 1 * x3.val = x3.val := by omega
  show ((G (1 + 1 * x0.val) (0 + 1 * x2.val) (0 + 1 * x3.val) : ℝ) : EReal) = _
  rw [e0, e2, e3]; rfl
abbrev rG2 : Rect S3x1x8x512 := Rect.unit ![2, 0, 0, 0] ![1, 1, 8, 512] inb_S3x1x8x512_S1x1x8x512_2_0_0_0
theorem ldG2 (G : ℕ → ℕ → ℕ → ℝ) : (View.ld (Val := Elt Ideal) (e' := .f32) (nq fun p _ s r => G p s r) rG2 : Vec Ideal S1x1x8x512 .f32) = nq fun _ _ s r => G 2 s r := by
  funext x; idx_vars x
  have b : x0.val < 1 := x0.isLt
  have e0 : 2 + 1 * x0.val = 2 := by omega
  have e2 : 0 + 1 * x2.val = x2.val := by omega
  have e3 : 0 + 1 * x3.val = x3.val := by omega
  show ((G (2 + 1 * x0.val) (0 + 1 * x2.val) (0 + 1 * x3.val) : ℝ) : EReal) = _
  rw [e0, e2, e3]; rfl
/-- Three groups of two heads, stored one at a time. -/
theorem groups (G : ℕ → ℕ → ℕ → ℝ) (w : rG2.shape.Idx → Elt Ideal .f32) (w' : rG1.shape.Idx → Elt Ideal .f32) (w'' : rG0.shape.Idx → Elt Ideal .f32)
    (h0 : w = (nq fun _ _ s r => G 2 s r : Vec Ideal S1x1x8x512 .f32)) (h1 : w' = (nq fun _ _ s r => G 1 s r : Vec Ideal S1x1x8x512 .f32))
    (h2 : w'' = (nq fun _ _ s r => G 0 s r : Vec Ideal S1x1x8x512 .f32)) : View.canon [(⟨rG2, w⟩ : View.Piece (Elt Ideal) S3x1x8x512 .f32), ⟨rG1, w'⟩, ⟨rG0, w''⟩]
    = (nq fun p _ s r => G p s r : Vec Ideal S3x1x8x512 .f32) := by
  funext y
  have p2 : ∀ x, w x = (nq fun p _ s r => G p s r : Vec Ideal S3x1x8x512 .f32) (rG2.emb x) := fun x => by rw [h0]; exact (congrFun (ldG2 G) x).symm
  have p1 : ∀ x, w' x = (nq fun p _ s r => G p s r : Vec Ideal S3x1x8x512 .f32) (rG1.emb x) := fun x => by rw [h1]; exact (congrFun (ldG1 G) x).symm
  have p0 : ∀ x, w'' x = (nq fun p _ s r => G p s r : Vec Ideal S3x1x8x512 .f32) (rG0.emb x) := fun x => by rw [h2]; exact (congrFun (ldG0 G) x).symm
  exact View.canon_append_of_piecesOf (nq fun p _ s r => G p s r) [] [⟨rG2, w⟩, ⟨rG1, w'⟩, ⟨rG0, w''⟩] ⟨p2, p1, p0, trivial⟩ y (cov11 w w' w'' y)
include hX hO hZ hM
theorem sums (t : Fin cfg0.N) : (k0_pay23 (F := Ideal) (iblk m c 4 t) (k0_pay15 (F := Ideal) (k0_pay6 (F := Ideal) (iblk m c 0 t) (iblk m c 6 t)) (X0_5 m c t))
      (k0_pay20 (iota .tc S24x384 32 [0] iota_S24x384_d0_w32) 8#32 k0_pay18 k0_pay19) 8#32 (k0_pay21 (iota .tc S24x384 32 [0] iota_S24x384_d0_w32)) k0_pay22 : Vec Ideal S24x512 .f32)
    = nm fun q r => delta O (gb Z) (dy X (M 1)) (q / 8) (q % 8) (512 * t.val + r) := by
  rw [row X m c M hX hM, X5 m c Z hZ, iblk4 O m c hO, pay15_eq]
  exact pay23_eq (fun r => O (512 * t.val + r)) (fun r => gb Z (512 * t.val + r)) (fun r => dy X (M 1) (512 * t.val + r))
theorem out11 (t : Fin cfg0.N) : (outsAt0 m c t.val t.isLt).2.2.2.2.1 = (nq fun p _ s r => delta O (gb Z) (dy X (M 1)) p s (512 * t.val + r) : Vec Ideal S3x1x8x512 .f32) := by
  have k1 : ∀ {w w' w''}, w = (k0_pay3 (F := Ideal) (nm fun q r => delta O (gb Z) (dy X (M 1)) (q / 8) (q % 8) (512 * t.val + r)) : Vec Ideal S1x1x8x512 .f32) →
      w' = (k0_pay2 (F := Ideal) (nm fun q r => delta O (gb Z) (dy X (M 1)) (q / 8) (q % 8) (512 * t.val + r)) : Vec Ideal S1x1x8x512 .f32) →
      w'' = (k0_pay1 (F := Ideal) (extractStridedSlice S8x512 ![0, 0] (nm fun q r => delta O (gb Z) (dy X (M 1)) (q / 8) (q % 8) (512 * t.val + r) : FVec Ideal S24x512 .f32) slices_S24x512_o0_0_S8x512) : Vec Ideal S1x1x8x512 .f32) →
      View.canon [(⟨Rect.unit ![2, 0, 0, 0] ![1, 1, 8, 512] inb_S3x1x8x512_S1x1x8x512_2_0_0_0, w⟩ : View.Piece (Elt Ideal) S3x1x8x512 .f32),
      ⟨Rect.unit ![1, 0, 0, 0] ![1, 1, 8, 512] inb_S3x1x8x512_S1x1x8x512_1_0_0_0, w'⟩, ⟨Rect.unit ![0, 0, 0, 0] ![1, 1, 8, 512] inb_S3x1x8x512_S1x1x8x512_0_0_0_0, w''⟩]
      = (nq fun p _ s r => delta O (gb Z) (dy X (M 1)) p s (512 * t.val + r) : Vec Ideal S3x1x8x512 .f32) := by
    intro w w' w'' e e' e''
    refine groups (fun p s r => delta O (gb Z) (dy X (M 1)) p s (512 * t.val + r)) _ _ _ (e.trans ((slice2 _).trans ?_)) (e'.trans ((slice1 _).trans ?_)) (e''.trans ((slice0 _).trans ?_))
    all_goals
      funext x; idx_vars x
      rw [nq_apply, nq_apply]
      have b : x2.val < 8 := x2.isLt
      refine congrArg (fun r : ℝ => (r : EReal)) (congrArg₂ (fun p s => delta O (gb Z) (dy X (M 1)) p s (512 * t.val + x3.val)) ?_ ?_) <;> omega
  by_cases hc : t.val % 16 = 0
  · rw [outsAt0_A m c t hc]; frame_out
    unfold k0_pay24; rw [sums X O m c Z M hX hO hZ hM t]; exact k1 rfl rfl rfl
  · rw [outsAt0_B m c t hc]; frame_out
    unfold k0_pay24; rw [sums X O m c Z M hX hO hZ hM t]; exact k1 rfl rfl rfl
theorem final11 : (dats m 0 c).arrAt 11 cfg0.N = (nq fun p i s r => delta O (gb Z) (dy X (M 1)) p s (512 * i + r) : Vec Ideal S3x16x8x512 .f32) := by
  refine (dats m 0 c).arrAt_eq_of_covers 11 _ (by decide +kernel) fun t hf y => ?_
  blk_simp
  rw [after0_11, out11 X O m c Z M hX hO hZ hM]
  idx_vars y
  have ht : t.val < 16 := t.isLt
  have e : (win0_11.blk t).view.emb (ix4 y0 y1 y2 y3) = ix4 y0 ⟨t.val, ht⟩ y2 y3 := by blk_ext [idx11 t]
  rw [e, nq_apply, nq_apply]
end Cert.OutProjBwdIdeal.Blocks
-- ==== Proof.OutProjRef.lean ====
/-
  The plain gradient of the output product and the attention gate, read stage by stage as tables.
-/
module
public import proofs.«01_k».proof.Proof.OutProjValue
public import proofs.«01_k».proof.Proof.Gen.OutProjBwdRefIdeal.Read
@[expose] public section
set_option maxRecDepth 16384
noncomputable section
open Cert.Reals Cert.Tables Cert.OutProj Idealize.ShloMosaic Cert.OutProjBwdRefIdeal Cert.OutProjBwdRefIdeal.Read
namespace Cert.OutProjBwdRefIdeal.Stages
variable (X O Z : ℕ → ℕ → ℝ) (M : ℕ → ℕ → ℕ → ℝ) (A C : ℕ → ℕ → EReal)
/-- The gate's columns of the projected row. -/
abbrev gb (Z : ℕ → ℕ → ℝ) (t l : ℕ) : ℝ := Z t (1440 + l)
abbrev aX : FVec Ideal ⟨2, ![8192, 1024]⟩ .f32 := nm X
abbrev aA : FVec Ideal ⟨2, ![8192, 384]⟩ .f32 := em A
abbrev aC : FVec Ideal ⟨2, ![8192, 256]⟩ .f32 := em C
abbrev aO : FVec Ideal ⟨2, ![8192, 384]⟩ .f32 := nm O
abbrev aZ : FVec Ideal ⟨2, ![8192, 2336]⟩ .f32 := nm Z
abbrev aM : FVec Ideal ⟨3, ![4, 1024, 1024]⟩ .f32 := nc M

theorem v0 : (val_main_v0 (F := Ideal) (aZ Z) : FVec Ideal S8192x384 .f32) = nm (gb Z) := by
  unfold val_main_v0
  funext j; idx_vars j; pointwise []; rfl
theorem v2 : (val_main_v2 (F := Ideal) (aM M) : FVec Ideal S1024x1024 .f32) = nm (M 1) := by
  unfold val_main_v2 val_main_v1
  funext j; idx_vars j; pointwise []; rfl
theorem v3_2 : (val_main_v3_2 (F := Ideal) (aZ Z) : FVec Ideal S8192x384 .f32) = nm fun t l => sg (gb Z t l) := by
  unfold val_main_v3_2 val_main_call0_v3 val_main_call0_v1 val_main_call0_v0 val_main_call0_v2 val_main_call0_v4
  rw [v0]
  funext j; idx_vars j; pointwise [val_main_call0_cst, val_main_call0_cst_0]
  simp only [nm_apply, show ∀ x : ℝ, Ideal.exp ((x : ℝ) : EReal) = ((Real.exp x : ℝ) : EReal) from fun _ => rfl, ← EReal.coe_neg, ← EReal.coe_one, ← EReal.coe_add,
    div_coe _ _ (one_add_exp_pos _).ne', gb, sg]
theorem v3_1 : (val_main_v3_1 (F := Ideal) (aZ Z) : FVec Ideal S8192x384 .f32) = nm fun t l => sg (gb Z t l) * (1 - sg (gb Z t l)) := by
  unfold val_main_v3_1 val_main_call0_v7 val_main_call0_v6
  rw [v3_2]
  funext j; idx_vars j; pointwise [val_main_call0_cst_1]
  simp only [nm_apply, ← EReal.coe_one, ← EReal.coe_sub, ← EReal.coe_mul]
theorem v3_0 : (val_main_v3_0 (F := Ideal) (aZ Z) : FVec Ideal S8192x384 .f32) = nm fun t l => gb Z t l * sg (gb Z t l) := by
  unfold val_main_v3_0
  rw [v3_2, v0]
  funext j; idx_vars j; pointwise []
  simp only [nm_apply, ← EReal.coe_mul]
theorem v4 : (val_main_v4 (F := Ideal) (aO O) (aZ Z) : FVec Ideal S8192x384 .f32) = nm (yb O (gb Z)) := by
  unfold val_main_v4
  rw [v3_0]
  funext j; idx_vars j; pointwise []
  simp only [nm_apply, ← EReal.coe_mul, yb]
set_option maxHeartbeats 4000000 in
theorem v5 : (val_main_v5 (F := Ideal) (aA A) (aC C) (aO O) (aZ Z) : FVec Ideal S8192x1024 .f32) = em (mix O (gb Z) A C) := by
  unfold val_main_v5
  rw [v4]
  funext j; idx_vars j; pointwise []
  simp only [nm_apply, em_apply]
  have hj : j1.val < 384 ∨ (384 ≤ j1.val ∧ j1.val < 768) ∨ 768 ≤ j1.val := by omega
  rcases hj with hj | hj | hj <;> simp (disch := omega) only [mix, if_pos, if_neg, dif_pos, dif_neg]
  exact congrArg (C j0.val) (by omega)
theorem v8 : (val_main_v8 (F := Ideal) (aX X) (aA A) (aC C) (aO O) (aZ Z) : FVec Ideal S1024x1024 .f32)
    = em fun k l => ∑ t : Fin 8192, mix O (gb Z) A C t.val k * ((X t.val l : ℝ) : EReal) := by
  unfold val_main_v8 val_main_v7
  rw [v5]
  funext j; idx_vars j; pointwise []
  simp only [nm_apply, em_apply, zero_add]
  exact Finset.sum_congr rfl fun _ _ => mul_comm _ _
theorem v9 : (val_main_v9 (F := Ideal) (aX X) (aM M) : FVec Ideal S8192x1024 .f32) = nm (dy X (M 1)) := by
  unfold val_main_v9
  rw [v2]
  funext j; idx_vars j; pointwise []
  simp only [nm_apply, ← EReal.coe_mul, sum_coe, zero_add, dy]
theorem v10 : (val_main_v10 (F := Ideal) (aX X) (aM M) : FVec Ideal S8192x384 .f32) = nm (fun t l => dy X (M 1) t l) := by
  unfold val_main_v10
  rw [v9]
  funext j; idx_vars j; pointwise []; rfl
theorem v11 : (val_main_v11 (F := Ideal) (aX X) (aM M) : FVec Ideal S8192x384 .f32) = nm (fun t l => dy X (M 1) t (384 + l)) := by
  unfold val_main_v11
  rw [v9]
  funext j; idx_vars j; pointwise []; rfl
theorem v12 : (val_main_v12 (F := Ideal) (aX X) (aM M) : FVec Ideal S8192x256 .f32) = nm (fun t l => dy X (M 1) t (768 + l)) := by
  unfold val_main_v12
  rw [v9]
  funext j; idx_vars j; pointwise []; rfl
theorem v14 : (val_main_v14 (F := Ideal) (aX X) (aZ Z) (aM M) : FVec Ideal S8192x384 .f32) = nm (dout (gb Z) (dy X (M 1))) := by
  unfold val_main_v14
  rw [v11, v3_0]
  funext j; idx_vars j; pointwise []
  simp only [nm_apply, ← EReal.coe_mul, dout]
theorem v21 : (val_main_v21 (F := Ideal) (aX X) (aZ Z) (aM M) : FVec Ideal S8192x384 .bf16) = nm (dout (gb Z) (dy X (M 1))) := v14 X Z M
theorem v15 : (val_main_v15 (F := Ideal) (aX X) (aO O) (aZ Z) (aM M) : FVec Ideal S8192x384 .f32) = nm (dgate O (gb Z) (dy X (M 1))) := by
  unfold val_main_v15 val_main_call1_v1 val_main_call1_v2 val_main_call1_v0 val_main_v13
  rw [v11, v3_1, v3_2, v0]
  funext j; idx_vars j; pointwise []
  simp only [nm_apply, ← EReal.coe_mul, ← EReal.coe_add, dgate]
  exact congrArg (fun r : ℝ => (r : EReal)) (by ring)
theorem v22 : (val_main_v22 (F := Ideal) (aX X) (aO O) (aZ Z) (aM M) : FVec Ideal S8192x384 .bf16) = nm (dgate O (gb Z) (dy X (M 1))) := v15 X O Z M
theorem v16 : (val_main_v16 (F := Ideal) (aX X) (aO O) (aZ Z) (aM M) : FVec Ideal S8192x384 .f32) = nm fun t l => dout (gb Z) (dy X (M 1)) t l * O t l := by
  unfold val_main_v16
  rw [v14]
  funext j; idx_vars j; pointwise []
  simp only [nm_apply, ← EReal.coe_mul]
theorem v18 : (val_main_v18 (F := Ideal) (aX X) (aO O) (aZ Z) (aM M) : FVec Ideal S16x512x3x2 .f32)
    = nq fun i r p s => ∑ d : Fin 64, dout (gb Z) (dy X (M 1)) (512 * i + r) (64 * (2 * p + s) + d.val) * O (512 * i + r) (64 * (2 * p + s) + d.val) := by
  unfold val_main_v18 val_main_v17
  rw [v16]
  funext j; idx_vars j; pointwise [val_main_cst]
  simp only [nm_apply, ofBits_zero, sum_coe, zero_add]
  rw [nq_apply]
  refine congrArg (fun r : ℝ => (r : EReal)) (Finset.sum_congr rfl fun k _ => ?_)
  rw [show j0.val * 512 + j1.val = 512 * j0.val + j1.val by omega, show j2.val * 128 + j3.val * 64 + k.val = 64 * (2 * j2.val + j3.val) + k.val by omega]
theorem v19 : (val_main_v19 (F := Ideal) (aX X) (aO O) (aZ Z) (aM M) : FVec Ideal S3x16x2x512 .f32)
    = nq fun p i s r => ∑ d : Fin 64, dout (gb Z) (dy X (M 1)) (512 * i + r) (64 * (2 * p + s) + d.val) * O (512 * i + r) (64 * (2 * p + s) + d.val) := by
  unfold val_main_v19
  rw [v18]
  funext j; idx_vars j; pointwise []; rfl
theorem v20 : (val_main_v20 (F := Ideal) (aX X) (aO O) (aZ Z) (aM M) : FVec Ideal S3x16x8x512 .f32)
    = nq fun p i s r => delta O (gb Z) (dy X (M 1)) p s (512 * i + r) := by
  unfold val_main_v20
  rw [v19]
  funext j; idx_vars j; pointwise []
  by_cases q : j2.val < 2
  · rw [dif_pos q, nq_apply, nq_apply, delta, if_pos q]
  · rw [dif_neg q, nq_apply, delta, if_neg q]
    show (((0#32).toInt : ℝ) : EReal) = _
    simp
end Cert.OutProjBwdRefIdeal.Stages
-- ==== Proof.OutProjBwd.lean ====
module
public import proofs.«01_k».proof.Defs
public import proofs.«01_k».proof.Proof.Gen.OutProjBwd.Frame
public import proofs.«01_k».proof.Proof.OutProjRef
@[expose] public section
set_option maxRecDepth 16384
noncomputable section
/-! The claims about the gradient of the output product and the attention gate: its frames, and its six results against the reference's. -/
namespace Cert.Proof.OutProjBwd
open Cert.Reals Cert.Tables Cert.OutProj Idealize.ShloMosaic Idealize.SL.Sem Idealize.ShloMosaic.TcCoe

instance facts : Cert.OutProjBwd.Facts := Cert.OutProjBwd.Gen.facts
instance factsIdeal : Cert.OutProjBwdIdeal.Facts := Cert.OutProjBwdIdeal.Gen.facts
instance factsRef : Cert.OutProjBwdRefIdeal.Facts := Cert.OutProjBwdRefIdeal.Gen.facts
instance factsPre : Cert.Pre_outproj_finite.Facts := ⟨by decide, by decide, by decide, by decide⟩

theorem frame_kernel : Cert.quiescent_OutProjBwd := fun m ρ _ => Cert.OutProjBwd.Gen.frame m ρ
theorem frame_ideal : Cert.quiescent_OutProjBwdIdeal := fun m ρ _ => Cert.OutProjBwdIdeal.Gen.frame m ρ
theorem frame_ideal_pre : Cert.quiescent_OutProjBwdIdeal_pre_outproj_finite := fun m ρ _ => Cert.OutProjBwdIdeal.Gen.frame m ρ
theorem frame_ref : Cert.quiescent_OutProjBwdRefIdeal := fun m ρ _ =>
  (θ_run Cert.OutProjBwdRefIdeal.defs _ _).mono (fun r h => ⟨fun c => (h c).2.2.2.2.2.2, sem_eq_zero_of_no_sems (by decide) r.2⟩)
    (Cert.OutProjBwdRefIdeal.Value.run m ρ)
theorem frame_ref_pre : Cert.quiescent_OutProjBwdRefIdeal_pre_outproj_finite := fun m ρ _ => frame_ref m ρ trivial

/-- The arguments but the two other branches of the mix are real arrays. -/
theorem args (m : (ℓ : Loc Cert.OutProjBwdIdeal.nD Cert.OutProjBwdIdeal.τ Cert.OutProjBwdIdeal.sig) → Buf (Elt Ideal) ℓ)
    (hpre : Cert.Pre_OutProjBwdIdeal_outproj_finite m) (c : Dev Cert.OutProjBwdIdeal.nD) :
    ∃ (X O Z : ℕ → ℕ → ℝ) (M : ℕ → ℕ → ℕ → ℝ) (A C : ℕ → ℕ → EReal),
      m (c.tc.loc Cert.OutProjBwdIdeal.main_arg0) = (nm X : FVec Ideal ⟨2, ![8192, 1024]⟩ .f32)
      ∧ m (c.tc.loc Cert.OutProjBwdIdeal.main_arg1) = (em A : FVec Ideal ⟨2, ![8192, 384]⟩ .f32)
      ∧ m (c.tc.loc Cert.OutProjBwdIdeal.main_arg2) = (em C : FVec Ideal ⟨2, ![8192, 256]⟩ .f32)
      ∧ m (c.tc.loc Cert.OutProjBwdIdeal.main_arg3) = (nm O : FVec Ideal ⟨2, ![8192, 384]⟩ .f32)
      ∧ m (c.tc.loc Cert.OutProjBwdIdeal.main_arg4) = (nm Z : FVec Ideal ⟨2, ![8192, 2336]⟩ .f32)
      ∧ m (c.tc.loc Cert.OutProjBwdIdeal.main_arg5) = (nc M : FVec Ideal ⟨3, ![4, 1024, 1024]⟩ .f32) := by
  obtain ⟨p0, p3, p4, p5⟩ := hpre c
  obtain ⟨X, h0, _⟩ := nm_of_finite (m (c.tc.loc Cert.OutProjBwdIdeal.main_arg0)) _ p0
  obtain ⟨O, h3, _⟩ := nm_of_finite (m (c.tc.loc Cert.OutProjBwdIdeal.main_arg3)) _ p3
  obtain ⟨Z, h4, _⟩ := nm_of_finite (m (c.tc.loc Cert.OutProjBwdIdeal.main_arg4)) _ p4
  obtain ⟨M, h5⟩ := nc_of_finite (m (c.tc.loc Cert.OutProjBwdIdeal.main_arg5)) _ p5
  obtain ⟨A, h1⟩ := exists_em (m (c.tc.loc Cert.OutProjBwdIdeal.main_arg1))
  obtain ⟨C, h2⟩ := exists_em (m (c.tc.loc Cert.OutProjBwdIdeal.main_arg2))
  exact ⟨X, O, Z, M, A, C, h0, h1, h2, h3, h4, h5⟩

theorem algebraic : Cert.algebraic_OutProjBwdIdeal_OutProjBwdRefIdeal_pre_outproj_finite := by
  intro m g m' g' hpre hagree
  choose X O Z M A C h0 h1 h2 h3 h4 h5 using args m hpre
  refine ⟨fun c => (nm fun t l => dy (X c) (M c 1) t l : FVec Ideal ⟨2, ![8192, 384]⟩ .f32),
    fun c => (nm fun t l => dy (X c) (M c 1) t (768 + l) : FVec Ideal ⟨2, ![8192, 256]⟩ .f32),
    fun c => (nm (dout (fun t l => Z c t (1440 + l)) (dy (X c) (M c 1))) : FVec Ideal ⟨2, ![8192, 384]⟩ .bf16),
    fun c => (nm (dgate (O c) (fun t l => Z c t (1440 + l)) (dy (X c) (M c 1))) : FVec Ideal ⟨2, ![8192, 384]⟩ .bf16),
    fun c => (nq fun p i s r => delta (O c) (fun t l => Z c t (1440 + l)) (dy (X c) (M c 1)) p s (512 * i + r) : FVec Ideal ⟨4, ![3, 16, 8, 512]⟩ .f32),
    fun c => (em fun k l => ∑ t : Fin 8192, mix (O c) (fun t l => Z c t (1440 + l)) (A c) (C c) t.val k * ((X c t.val l : ℝ) : EReal) : FVec Ideal ⟨2, ![1024, 1024]⟩ .f32), ?_, ?_⟩
  · exact (θ_run Cert.OutProjBwdIdeal.defs _ _).mono (fun _ h c =>
      ⟨(h c).1.trans (Cert.OutProjBwdIdeal.Blocks.final7 (X c) m c (M c) (h0 c) (h5 c)),
        (h c).2.1.trans (Cert.OutProjBwdIdeal.Blocks.final8 (X c) m c (M c) (h0 c) (h5 c)),
        (h c).2.2.1.trans (Cert.OutProjBwdIdeal.Blocks.final9 (X c) m c (Z c) (M c) (h0 c) (h4 c) (h5 c)),
        (h c).2.2.2.1.trans (Cert.OutProjBwdIdeal.Blocks.final10 (X c) (O c) m c (Z c) (M c) (h0 c) (h3 c) (h4 c) (h5 c)),
        (h c).2.2.2.2.1.trans (Cert.OutProjBwdIdeal.Blocks.final11 (X c) (O c) m c (Z c) (M c) (h0 c) (h3 c) (h4 c) (h5 c)),
        (h c).2.2.2.2.2.1.trans (Cert.OutProjBwdIdeal.Blocks.final12 (X c) (O c) (A c) m c (C c) (Z c) (h0 c) (h1 c) (h2 c) (h3 c) (h4 c)), (h c).2.2.2.2.2.2⟩)
      (Cert.OutProjBwdIdeal.Value.run_blocks m g)
  · refine (θ_run Cert.OutProjBwdRefIdeal.defs _ _).mono (fun _ h c => ?_) (Cert.OutProjBwdRefIdeal.Value.run m' g')
    obtain ⟨a0, a1, a2, a3, a4, a5⟩ := hagree c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · rw [Cert.OutProjBwdRefIdeal.Read.val_main_v10_eq]
      change Cert.OutProjBwdRefIdeal.Read.val_main_v10 (m' (c.tc.loc Cert.OutProjBwdRefIdeal.main_arg0)) (m' (c.tc.loc Cert.OutProjBwdRefIdeal.main_arg5)) = _
      rw [a0, a5, h0, h5]
      exact Cert.OutProjBwdRefIdeal.Stages.v10 (X c) (M c)
    · rw [Cert.OutProjBwdRefIdeal.Read.val_main_v12_eq]
      change Cert.OutProjBwdRefIdeal.Read.val_main_v12 (m' (c.tc.loc Cert.OutProjBwdRefIdeal.main_arg0)) (m' (c.tc.loc Cert.OutProjBwdRefIdeal.main_arg5)) = _
      rw [a0, a5, h0, h5]
      exact Cert.OutProjBwdRefIdeal.Stages.v12 (X c) (M c)
    · rw [Cert.OutProjBwdRefIdeal.Read.val_main_v21_eq]
      change Cert.OutProjBwdRefIdeal.Read.val_main_v21 (m' (c.tc.loc Cert.OutProjBwdRefIdeal.main_arg0)) (m' (c.tc.loc Cert.OutProjBwdRefIdeal.main_arg4)) (m' (c.tc.loc Cert.OutProjBwdRefIdeal.main_arg5)) = _
      rw [a0, a4, a5, h0, h4, h5]
      exact Cert.OutProjBwdRefIdeal.Stages.v21 (X c) (Z c) (M c)
    · rw [Cert.OutProjBwdRefIdeal.Read.val_main_v22_eq]
      change Cert.OutProjBwdRefIdeal.Read.val_main_v22 (m' (c.tc.loc Cert.OutProjBwdRefIdeal.main_arg0)) (m' (c.tc.loc Cert.OutProjBwdRefIdeal.main_arg3)) (m' (c.tc.loc Cert.OutProjBwdRefIdeal.main_arg4)) (m' (c.tc.loc Cert.OutProjBwdRefIdeal.main_arg5)) = _
      rw [a0, a3, a4, a5, h0, h3, h4, h5]
      exact Cert.OutProjBwdRefIdeal.Stages.v22 (X c) (O c) (Z c) (M c)
    · rw [Cert.OutProjBwdRefIdeal.Read.val_main_v20_eq]
      change Cert.OutProjBwdRefIdeal.Read.val_main_v20 (m' (c.tc.loc Cert.OutProjBwdRefIdeal.main_arg0)) (m' (c.tc.loc Cert.OutProjBwdRefIdeal.main_arg3)) (m' (c.tc.loc Cert.OutProjBwdRefIdeal.main_arg4)) (m' (c.tc.loc Cert.OutProjBwdRefIdeal.main_arg5)) = _
      rw [a0, a3, a4, a5, h0, h3, h4, h5]
      exact Cert.OutProjBwdRefIdeal.Stages.v20 (X c) (O c) (Z c) (M c)
    · rw [Cert.OutProjBwdRefIdeal.Read.val_main_v8_eq]
      change Cert.OutProjBwdRefIdeal.Read.val_main_v8 (m' (c.tc.loc Cert.OutProjBwdRefIdeal.main_arg0)) (m' (c.tc.loc Cert.OutProjBwdRefIdeal.main_arg1)) (m' (c.tc.loc Cert.OutProjBwdRefIdeal.main_arg2)) (m' (c.tc.loc Cert.OutProjBwdRefIdeal.main_arg3)) (m' (c.tc.loc Cert.OutProjBwdRefIdeal.main_arg4)) = _
      rw [a0, a1, a2, a3, a4, h0, h1, h2, h3, h4]
      exact Cert.OutProjBwdRefIdeal.Stages.v8 (X c) (O c) (Z c) (A c) (C c)

end Cert.Proof.OutProjBwd
-- ==== Proof.InProjValue.lean ====
/-
  The gradient of the input product and its norm, in reals, and what the kernel's region writes.
-/
module
public import proofs.«01_k».proof.Proof.Lanes
public import proofs.«01_k».proof.Proof.Gen.InProjBwdIdeal.Value
public import Idealize.ShloMosaic.Lib.Pipeline.ValueKit.Point
public import Idealize.ShloMosaic.Lib.StableHlo.RunRead
@[expose] public section
set_option maxRecDepth 16384
noncomputable section
open Cert.Reals Cert.Tables Cert.Lanes Idealize.ShloMosaic Idealize.ShloMosaic.TcCoe Idealize.SL.Sem
open Idealize.ShloMosaic.Pipeline (Dat)
namespace Cert.InProj
variable (X : ℕ → ℕ → ℝ) (g : ℕ → ℝ) (W : ℕ → ℕ → ℝ) (D : ℕ → ℕ → ℕ → ℝ)
/-- The cotangent of the projected row, by columns: the eight branches side by side. -/
def dz (t k : ℕ) : ℝ :=
  if k < 384 then D 0 t k else if k < 768 then D 1 t (k - 384) else if k < 1152 then D 2 t (k - 768) else if k < 1408 then D 3 t (k - 1152)
  else if k < 1440 then D 4 t (k - 1408) else if k < 1824 then D 5 t (k - 1440) else if k < 2080 then D 6 t (k - 1824) else D 7 t (k - 2080)
/-- Its image by the weight. -/
def dh (t j : ℕ) : ℝ := ∑ k : Fin 2336, dz D t k.val * W j k.val
def ms (t : ℕ) : ℝ := (∑ k : Fin 1024, X t k.val * X t k.val) / 1024 + eps
def rs (t : ℕ) : ℝ := (Real.sqrt (ms X t))⁻¹
theorem ms_pos (t : ℕ) : 0 < ms X t :=
  add_pos_of_nonneg_of_pos (div_nonneg (Finset.sum_nonneg fun k _ => mul_self_nonneg _) (by norm_num)) eps_pos
/-- The gradient in the rows, less the cotangent that passes by, for an image `H`. -/
def dx (H : ℕ → ℕ → ℝ) (t l : ℕ) : ℝ :=
  rs X t * (H t l * g l - X t l * rs X t * ((∑ k : Fin 1024, H t k.val * g k.val * (X t k.val * rs X t)) / 1024))
end Cert.InProj

open Cert.InProjBwdIdeal Cert.InProjBwdIdeal.Gen
namespace Cert.InProjBwdIdeal.Blocks
open Cert.InProj
variable (X : ℕ → ℕ → ℝ) (g : ℕ → ℝ) (W : ℕ → ℕ → ℝ) (D : ℕ → ℕ → ℕ → ℝ) (H : ℕ → ℕ → ℝ)

theorem pay7_eq : (k0_pay7 (F := Ideal) (nm X) : Vec Ideal S512x1 .f32) = nm fun r _ => ms X r := by
  funext j; idx_vars j; pointwise [k0_pay7]
  simp only [nm_apply, ofBits_1024, ofBits_eps, ← EReal.coe_mul, sum_coe, div_1024, ← EReal.coe_add, ms]
theorem pay1_eq : (k0_pay1 (F := Ideal) (nm fun r _ => ms X r) : Vec Ideal S512x1 .f32) = nm fun r _ => rs X r := by
  funext j; idx_vars j; pointwise [k0_pay1]
  exact rsqrt_coe _ (ms_pos X j0)
theorem pay2_eq : (k0_pay2 (F := Ideal) (nm X) (nm fun r _ => ms X r) : Vec Ideal S512x1024 .f32) = nm fun r l => X r l * rs X r := by
  funext j; idx_vars j; pointwise [k0_pay2]
  rw [pay1_eq]; simp only [nm_apply, ← EReal.coe_mul]
theorem pay3_eq (A : ℕ → ℕ → ℝ) : (k0_pay3 (F := Ideal) (nm H) (nm X) (nm fun r _ => ms X r) (nm A) : Vec Ideal S1x1024 .f32)
    = nm fun a l => A a l + ∑ r : Fin 512, H r.val l * (X r.val l * rs X r.val) := by
  funext j; idx_vars j; pointwise [k0_pay3]
  rw [pay2_eq]; simp only [nm_apply, ← EReal.coe_mul, sum_coe, ← EReal.coe_add]
theorem pay4_eq (E : ℕ → ℕ → EReal) : (k0_pay4 (F := Ideal) (nm H) (nm X) (nm fun r _ => ms X r) (nc fun _ _ l => g l) (em E) : Vec Ideal S512x1024 .f32)
    = em fun r l => E r l + ((dx X g H r l : ℝ) : EReal) := by
  funext j; idx_vars j; pointwise [k0_pay4]
  rw [pay2_eq, pay1_eq]
  simp only [nm_apply, nc_apply, em_apply, ofBits_1024, ← EReal.coe_mul, sum_coe, div_1024, ← EReal.coe_sub, dx]
theorem pay5_eq : (k0_pay5 (F := Ideal) : Vec Ideal S1x1024 .f32) = nm fun _ _ => 0 := by
  funext j; idx_vars j; pointwise [k0_pay5]; simp only [nm_apply, ofBits_zero, EReal.coe_zero]
set_option maxHeartbeats 4000000 in
theorem cat (h) : concatenate S512x2432 1 [⟨S512x384, (nm (D 0) : Vec Ideal S512x384 .bf16)⟩, ⟨S512x384, (nm (D 1) : Vec Ideal S512x384 .bf16)⟩,
      ⟨S512x384, (nm (D 2) : Vec Ideal S512x384 .bf16)⟩, ⟨S512x384, (nm (D 5) : Vec Ideal S512x384 .bf16)⟩, ⟨S512x256, (nm (D 3) : Vec Ideal S512x256 .bf16)⟩,
      ⟨S512x256, (nm (D 6) : Vec Ideal S512x256 .bf16)⟩, ⟨S512x256, (nm (D 7) : Vec Ideal S512x256 .bf16)⟩,
      ⟨S512x128, (nm fun r l => if 64 ≤ l ∧ l < 96 then D 4 r (l - 64) else 0 : Vec Ideal S512x128 .bf16)⟩] h = nm fun r => lane (dz D r) := by
  funext j; idx_vars j; pointwise []
  simp only [nm_apply]
  have hj : j1.val < 384 ∨ (384 ≤ j1.val ∧ j1.val < 768) ∨ (768 ≤ j1.val ∧ j1.val < 1152) ∨ (1152 ≤ j1.val ∧ j1.val < 1536) ∨ (1536 ≤ j1.val ∧ j1.val < 1792)
    ∨ (1792 ≤ j1.val ∧ j1.val < 2048) ∨ (2048 ≤ j1.val ∧ j1.val < 2304) ∨ (2304 ≤ j1.val ∧ j1.val < 2368) ∨ (2368 ≤ j1.val ∧ j1.val < 2400) ∨ (2400 ≤ j1.val ∧ j1.val < 2432) := by omega
  rcases hj with hj | hj | hj | hj | hj | hj | hj | hj | hj | hj <;> simp (disch := omega) only [lane, dz, if_pos, if_neg, dif_pos, dif_neg]
  all_goals refine congrArg (fun z : ℕ => ((D _ j0.val z : ℝ) : EReal)) ?_
  all_goals omega
theorem pay6_eq : (k0_pay6 (F := Ideal) (nm (D 0)) (nm (D 1)) (nm (D 2)) (nm (D 5)) (nm (D 3)) (nm (D 6)) (nm (D 7))
      (nm fun r l => if 64 ≤ l ∧ l < 96 then D 4 r (l - 64) else 0) (nc fun _ b => lane (W b)) : Vec Ideal S512x1024 .f32) = nm (dh W D) := by
  unfold k0_pay6
  repeat rw [shapeCast_self]
  dsimp only
  rw [cat]
  funext j; idx_vars j; pointwise []
  simp only [nm_apply, nc_apply, ofBits_zero, ← EReal.coe_mul, sum_coe, ← EReal.coe_add, zero_add, sum_lane, dh]
variable (m : (ℓ : Loc nD τ sig) → Buf (Elt Ideal) ℓ) (c : Dev nD)
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])
theorem idx8 : ∀ t : Fin cfg0.N, win0_8.index t = ![1, 0, 0] :=
  (by decide +kernel : ∀ t : Fin grid0.N, win0_8.index t = ![1, 0, 0])
theorem idx9 : ∀ t : Fin cfg0.N, win0_9.index t = ![t.val, 0] :=
  (by decide +kernel : ∀ t : Fin grid0.N, win0_9.index t = ![t.val, 0])
theorem idx10 : ∀ t : Fin cfg0.N, win0_10.index t = ![1, 0, 0] :=
  (by decide +kernel : ∀ t : Fin grid0.N, win0_10.index t = ![1, 0, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![0, 0] :=
  (by decide +kernel : ∀ t : Fin grid0.N, win0_13.index t = ![0, 0])
variable (G : ℕ → ℕ → ℝ) (M : ℕ → ℕ → ℕ → ℝ) (E : ℕ → ℕ → EReal)
set_option maxHeartbeats 4000000 in
theorem weight (hM : m ((c : Thread nD τ).loc main_arg2) = nc M) : (V m c main_v14 : Vec Ideal S4x1024x2432 .bf16) = nc fun a b => lane (M a b) := by
  have hM' : m (c, Proc.tc.devRef main_arg2) = (nc M : FVec Ideal S4x1024x2336 .f32) := hM
  show (StableHlo.after [hostOps0, hostOps0_1, hostOps0_2].flatten (fun b => m (c, b)) (Proc.devRef .tc main_v14) : Vec Ideal S4x1024x2432 .bf16) = _
  simp only [List.flatten_cons, List.flatten_nil, List.append_nil, StableHlo.after_append]
  after_reads_simp
  refine cat3 M _ _ _ _ _ _ _ _ _ _
    concatenates_S4x1024x584_S4x1024x568_S4x1024x312_S4x1024x72_S4x1024x16_S4x1024x240_S4x1024x512_S4x1024x64_S4x1024x32_S4x1024x32_S4x1024x2432_d2
    ?_ ?_ ?_ ?_ ?_ ?_ ?_ ?_ ?_ ?_
  · show StableHlo.upto hostOps0 (fun b => m (c, b)) 15 (Proc.tc.devRef main_v0) = _
    after_reads_simp
    funext j; idx_vars j; pointwise []
    rw [hM', nc_apply, nc_apply]
  · show StableHlo.upto hostOps0 (fun b => m (c, b)) 15 (Proc.tc.devRef main_v4) = _
    after_reads_simp
    funext j; idx_vars j; pointwise []
    rw [hM', nc_apply, nc_apply]
  · show StableHlo.upto hostOps0 (fun b => m (c, b)) 15 (Proc.tc.devRef main_v5) = _
    after_reads_simp
    funext j; idx_vars j; pointwise []
    rw [hM', nc_apply, nc_apply]; exact congrArg (fun z : ℕ => ((M j0.val j1.val z : ℝ) : EReal)) (by dsimp only; omega)
  · show StableHlo.upto hostOps0 (fun b => m (c, b)) 15 (Proc.tc.devRef main_v6) = _
    after_reads_simp
    funext j; idx_vars j; pointwise []
    rw [hM', nc_apply, nc_apply]
  · show StableHlo.upto hostOps0 (fun b => m (c, b)) 15 (Proc.tc.devRef main_v7) = _
    after_reads_simp
    funext j; idx_vars j; pointwise []
    rw [hM', nc_apply, nc_apply]; exact congrArg (fun z : ℕ => ((M j0.val j1.val z : ℝ) : EReal)) (by dsimp only; omega)
  · show StableHlo.upto hostOps0 (fun b => m (c, b)) 15 (Proc.tc.devRef main_v8) = _
    after_reads_simp
    funext j; idx_vars j; pointwise []
    rw [hM', nc_apply, nc_apply]
  · show StableHlo.upto hostOps0 (fun b => m (c, b)) 15 (Proc.tc.devRef main_v9) = _
    after_reads_simp
    funext j; idx_vars j; pointwise []
    rw [hM', nc_apply, nc_apply]; exact congrArg (fun z : ℕ => ((M j0.val j1.val z : ℝ) : EReal)) (by dsimp only; omega)
  · show StableHlo.upto hostOps0 (fun b => m (c, b)) 15 (Proc.tc.devRef main_v10) = _
    after_reads_simp
    funext j; idx_vars j; pointwise []
    rw [nc_apply, EReal.coe_zero]
  · show StableHlo.upto hostOps0 (fun b => m (c, b)) 15 (Proc.tc.devRef main_v11) = _
    after_reads_simp
    funext j; idx_vars j; pointwise []
    rw [hM', nc_apply, nc_apply]; exact congrArg (fun z : ℕ => ((M j0.val j1.val z : ℝ) : EReal)) (by dsimp only; omega)
  · show StableHlo.upto hostOps0 (fun b => m (c, b)) 15 (Proc.tc.devRef main_v12) = _
    after_reads_simp
    funext j; idx_vars j; pointwise []
    rw [nc_apply, EReal.coe_zero]
theorem iblk0 (h : m ((c : Thread nD τ).loc main_arg3) = nm (D 0)) (t : Fin cfg0.N) : (iblk m c 0 t : Vec Ideal S512x384 .bf16) = nm fun r => D 0 (512 * t.val + r) := by
  funext j; idx_vars j
  rw [nm_apply]
  have ht : t.val < 16 := t.isLt
  have e : (win0_0.blk t).view.emb (ix2 j0 j1) = ix2 ⟨512 * t.val + j0.val, by omega⟩ j1 := by blk_ext [idx0 t]
  blk_simp [iblk, e]
  entry_read
  simp only [List.flatten_cons, List.flatten_nil, List.append_nil, StableHlo.after_append]; after_reads_simp; pointwise []
  change m ((c : Thread nD τ).loc main_arg3) _ = _
  rw [h]; rfl
theorem iblk1 (h : m ((c : Thread nD τ).loc main_arg4) = nm (D 1)) (t : Fin cfg0.N) : (iblk m c 1 t : Vec Ideal S512x384 .bf16) = nm fun r => D 1 (512 * t.val + r) := by
  funext j; idx_vars j
  rw [nm_apply]
  have ht : t.val < 16 := t.isLt
  have e : (win0_1.blk t).view.emb (ix2 j0 j1) = ix2 ⟨512 * t.val + j0.val, by omega⟩ j1 := by blk_ext [idx1 t]
  blk_simp [iblk, e]
  entry_read
  simp only [List.flatten_cons, List.flatten_nil, List.append_nil, StableHlo.after_append]; after_reads_simp; pointwise []
  change m ((c : Thread nD τ).loc main_arg4) _ = _
  rw [h]; rfl
theorem iblk2 (h : m ((c : Thread nD τ).loc main_arg5) = nm (D 2)) (t : Fin cfg0.N) : (iblk m c 2 t : Vec Ideal S512x384 .bf16) = nm fun r => D 2 (512 * t.val + r) := by
  funext j; idx_vars j
  rw [nm_apply]
  have ht : t.val < 16 := t.isLt
  have e : (win0_2.blk t).view.emb (ix2 j0 j1) = ix2 ⟨512 * t.val + j0.val, by omega⟩ j1 := by blk_ext [idx2 t]
  blk_simp [iblk, e]
  entry_read
  simp only [List.flatten_cons, List.flatten_nil, List.append_nil, StableHlo.after_append]; after_reads_simp; pointwise []
  change m ((c : Thread nD τ).loc main_arg5) _ = _
  rw [h]; rfl
theorem iblk4 (h : m ((c : Thread nD τ).loc main_arg6) = nm (D 3)) (t : Fin cfg0.N) : (iblk m c 4 t : Vec Ideal S512x256 .bf16) = nm fun r => D 3 (512 * t.val + r) := by
  funext j; idx_vars j
  rw [nm_apply]
  have ht : t.val < 16 := t.isLt
  have e : (win0_4.blk t).view.emb (ix2 j0 j1) = ix2 ⟨512 * t.val + j0.val, by omega⟩ j1 := by blk_ext [idx4 t]
  blk_simp [iblk, e]
  entry_read
  simp only [List.flatten_cons, List.flatten_nil, List.append_nil, StableHlo.after_append]; after_reads_simp; pointwise []
  change m ((c : Thread nD τ).loc main_arg6) _ = _
  rw [h]; rfl
theorem iblk3 (h : m ((c : Thread nD τ).loc main_arg8) = nm (D 5)) (t : Fin cfg0.N) : (iblk m c 3 t : Vec Ideal S512x384 .bf16) = nm fun r => D 5 (512 * t.val + r) := by
  funext j; idx_vars j
  rw [nm_apply]
  have ht : t.val < 16 := t.isLt
  have e : (win0_3.blk t).view.emb (ix2 j0 j1) = ix2 ⟨512 * t.val + j0.val, by omega⟩ j1 := by blk_ext [idx3 t]
  blk_simp [iblk, e]
  entry_read
  simp only [List.flatten_cons, List.flatten_nil, List.append_nil, StableHlo.after_append]; after_reads_simp; pointwise []
  change m ((c : Thread nD τ).loc main_arg8) _ = _
  rw [h]; rfl
theorem iblk5 (h : m ((c : Thread nD τ).loc main_arg9) = nm (D 6)) (t : Fin cfg0.N) : (iblk m c 5 t : Vec Ideal S512x256 .bf16) = nm fun r => D 6 (512 * t.val + r) := by
  funext j; idx_vars j
  rw [nm_apply]
  have ht : t.val < 16 := t.isLt
  have e : (win0_5.blk t).view.emb (ix2 j0 j1) = ix2 ⟨512 * t.val + j0.val, by omega⟩ j1 := by blk_ext [idx5 t]
  blk_simp [iblk, e]
  entry_read
  simp only [List.flatten_cons, List.flatten_nil, List.append_nil, StableHlo.after_append]; after_reads_simp; pointwise []
  change m ((c : Thread nD τ).loc main_arg9) _ = _
  rw [h]; rfl
theorem iblk6 (h : m ((c : Thread nD τ).loc main_arg10) = nm (D 7)) (t : Fin cfg0.N) : (iblk m c 6 t : Vec Ideal S512x256 .bf16) = nm fun r => D 7 (512 * t.val + r) := by
  funext j; idx_vars j
  rw [nm_apply]
  have ht : t.val < 16 := t.isLt
  have e : (win0_6.blk t).view.emb (ix2 j0 j1) = ix2 ⟨512 * t.val + j0.val, by omega⟩ j1 := by blk_ext [idx6 t]
  blk_simp [iblk, e]
  entry_read
  simp only [List.flatten_cons, List.flatten_nil, List.append_nil, StableHlo.after_append]; after_reads_simp; pointwise []
  change m ((c : Thread nD τ).loc main_arg10) _ = _
  rw [h]; rfl
theorem iblk7 (h : m ((c : Thread nD τ).loc main_arg7) = nm (D 4)) (t : Fin cfg0.N) : (iblk m c 7 t : Vec Ideal S512x128 .bf16)
    = nm fun r l => if 64 ≤ l ∧ l < 96 then D 4 (512 * t.val + r) (l - 64) else 0 := by
  funext j; idx_vars j
  rw [nm_apply]
  have ht : t.val < 16 := t.isLt
  have e : (win0_7.blk t).view.emb (ix2 j0 j1) = ix2 ⟨512 * t.val + j0.val, by omega⟩ j1 := by blk_ext [idx7 t]
  blk_simp [iblk, e]
  entry_read
  simp only [List.flatten_cons, List.flatten_nil, List.append_nil, StableHlo.after_append]; after_reads_simp; pointwise []
  change pad S8192x128 ![0, 64] ![0, 32] ![0, 0] (m ((c : Thread nD τ).loc main_arg7) : FVec Ideal S8192x32 .f32) (sitofp .f32 (constantI S_ 32 0#32) : FVec Ideal S_ .f32)
    pads_S8192x32_S8192x128_000_64320 h_S_ _ = _
  rw [h]; pointwise []
  by_cases q : 64 ≤ j1.val ∧ j1.val < 96
  · rw [if_pos q]
    refine (dif_pos fun a => ?_).trans rfl
    match a with
    | ⟨0, _⟩ => exact ⟨Nat.zero_le _, Nat.mod_one _, by show (512 * t.val + j0.val - 0) / 1 < 8192; omega⟩
    | ⟨1, _⟩ => exact ⟨q.1, Nat.mod_one _, by show (j1.val - 64) / 1 < 32; omega⟩
  · rw [if_neg q]
    refine (dif_neg fun hh => q ?_).trans ?_
    · have h1 := hh (1 : Fin 2)
      have h2 : (j1.val - 64) / 1 < 32 := h1.2.2
      have h3 : 64 ≤ j1.val := h1.1
      omega
    · show (((0#32).toInt : ℝ) : EReal) = _
      simp
theorem iblk8 (hM : m ((c : Thread nD τ).loc main_arg2) = nc M) (t : Fin cfg0.N) : (iblk m c 8 t : Vec Ideal S1x1024x2432 .bf16) = nc fun _ b => lane (M 1 b) := by
  funext j; idx_vars j
  rw [nc_apply]
  have ht : t.val < 16 := t.isLt
  have e : (win0_8.blk t).view.emb (ix3 j0 j1 j2) = ix3 ⟨1, by omega⟩ j1 j2 := by blk_ext [idx8 t]
  blk_simp [iblk, e]
  rw [weight m c M hM]; rfl
theorem iblk9 (h : m ((c : Thread nD τ).loc main_arg0) = nm X) (t : Fin cfg0.N) : (iblk m c 9 t : Vec Ideal S512x1024 .f32) = nm fun r => X (512 * t.val + r) := by
  funext j; idx_vars j
  have ht : t.val < 16 := t.isLt
  have e : (win0_9.blk t).view.emb (ix2 j0 j1) = ix2 ⟨512 * t.val + j0.val, by omega⟩ j1 := by blk_ext [idx9 t]
  blk_simp [iblk]
  rw [e, V_main_arg0, h]; rfl
theorem iblk10 (h : m ((c : Thread nD τ).loc main_arg1) = nm G) (t : Fin cfg0.N) : (iblk m c 10 t : Vec Ideal S1x1x1024 .f32) = nc fun _ _ l => G 1 l := by
  funext j; idx_vars j
  rw [nc_apply]
  have ht : t.val < 16 := t.isLt
  have e : (win0_10.blk t).view.emb (ix3 j0 j1 j2) = ix3 ⟨1, by omega⟩ 0 j2 := by blk_ext [idx10 t]
  blk_simp [iblk, e]
  entry_read
  simp only [List.flatten_cons, List.flatten_nil, List.append_nil, StableHlo.after_append]; after_reads_simp; pointwise []
  change m ((c : Thread nD τ).loc main_arg1) _ = _
  rw [h]; rfl
theorem iblk11 (h : m ((c : Thread nD τ).loc main_arg11) = em E) (t : Fin cfg0.N) : (iblk m c 11 t : Vec Ideal S512x1024 .f32) = em fun r => E (512 * t.val + r) := by
  funext j; idx_vars j
  have ht : t.val < 16 := t.isLt
  have e : (win0_11.blk t).view.emb (ix2 j0 j1) = ix2 ⟨512 * t.val + j0.val, by omega⟩ j1 := by blk_ext [idx11 t]
  blk_simp [iblk]
  rw [e, V_main_arg11, h]; rfl
variable (hX : m ((c : Thread nD τ).loc main_arg0) = nm X) (hG : m ((c : Thread nD τ).loc main_arg1) = nm G) (hM : m ((c : Thread nD τ).loc main_arg2) = nc M)
  (h0 : m ((c : Thread nD τ).loc main_arg3) = nm (D 0)) (h1 : m ((c : Thread nD τ).loc main_arg4) = nm (D 1)) (h2 : m ((c : Thread nD τ).loc main_arg5) = nm (D 2))
  (h3 : m ((c : Thread nD τ).loc main_arg6) = nm (D 3)) (h4 : m ((c : Thread nD τ).loc main_arg7) = nm (D 4)) (h5 : m ((c : Thread nD τ).loc main_arg8) = nm (D 5))
  (h6 : m ((c : Thread nD τ).loc main_arg9) = nm (D 6)) (h7 : m ((c : Thread nD τ).loc main_arg10) = nm (D 7)) (hE : m ((c : Thread nD τ).loc main_arg11) = em E)
include hX hM h0 h1 h2 h3 h4 h5 h6 h7
/-- The image of the cotangent, in one tile. -/
theorem tile (t : Fin cfg0.N) : (k0_pay6 (F := Ideal) (iblk m c 0 t) (iblk m c 1 t) (iblk m c 2 t) (iblk m c 3 t) (iblk m c 4 t) (iblk m c 5 t) (iblk m c 6 t)
    (iblk m c 7 t) (iblk m c 8 t) : Vec Ideal S512x1024 .f32) = nm fun r => dh (M 1) D (512 * t.val + r) := by
  rw [iblk0 D m c h0, iblk1 D m c h1, iblk2 D m c h2, iblk3 D m c h5, iblk4 D m c h3, iblk5 D m c h6, iblk6 D m c h7, iblk7 D m c h4, iblk8 m c M hM]
  exact pay6_eq (M 1) fun k r => D k (512 * t.val + r)
include hG hE in
theorem final12 : (dats m 0 c).arrAt 12 cfg0.N = em fun t l => E t l + ((dx X (G 1) (dh (M 1) D) t l : ℝ) : EReal) := by
  refine (dats m 0 c).arrAt_eq_of_covers 12 _ (by decide +kernel) fun t hf y => ?_
  blk_simp
  rw [after0_12]
  have key : ∀ y, (em fun r l => E (512 * t.val + r) l + ((dx X (G 1) (dh (M 1) D) (512 * t.val + r) l : ℝ) : EReal) : Vec Ideal S512x1024 .f32) y
      = em (fun t l => E t l + ((dx X (G 1) (dh (M 1) D) t l : ℝ) : EReal)) ((win0_12.blk t).view.emb y) := by
    intro y
    idx_vars y
    have ht : t.val < 16 := t.isLt
    have e : (win0_12.blk t).view.emb (ix2 y0 y1) = ix2 ⟨512 * t.val + y0.val, by omega⟩ y1 := by blk_ext [idx12 t]
    rw [e, em_apply, em_apply]
  have p : (k0_pay4 (F := Ideal) (k0_pay6 (F := Ideal) (iblk m c 0 t) (iblk m c 1 t) (iblk m c 2 t) (iblk m c 3 t) (iblk m c 4 t) (iblk m c 5 t) (iblk m c 6 t)
      (iblk m c 7 t) (iblk m c 8 t)) (iblk m c 9 t) (k0_pay7 (F := Ideal) (iblk m c 9 t)) (iblk m c 10 t) (iblk m c 11 t) : Vec Ideal S512x1024 .f32)
      = em fun r l => E (512 * t.val + r) l + ((dx X (G 1) (dh (M 1) D) (512 * t.val + r) l : ℝ) : EReal) := by
    rw [tile X D m c M hX hM h0 h1 h2 h3 h4 h5 h6 h7, iblk9 X m c hX, iblk10 m c G hG, iblk11 m c E hE, pay7_eq]
    exact pay4_eq (fun r => X (512 * t.val + r)) (G 1) (fun r => dh (M 1) D (512 * t.val + r)) fun r => E (512 * t.val + r)
  by_cases hc : t.val % 16 = 0
  · rw [outsAt0_A m c t hc]; frame_out; rw [p]; exact key y
  · rw [outsAt0_B m c t hc]; frame_out; rw [p]; exact key y
theorem acc13 (n : ℕ) (hn : n < cfg0.N) : (outsAt0 m c n hn).2 = nm fun _ l => ∑ k ∈ Finset.range (n + 1), ∑ r : Fin 512,
    dh (M 1) D (512 * k + r.val) l * (X (512 * k + r.val) l * rs X (512 * k + r.val)) := by
  have q : ∀ (t : Fin cfg0.N) (A : ℕ → ℕ → ℝ), (k0_pay3 (F := Ideal) (k0_pay6 (F := Ideal) (iblk m c 0 t) (iblk m c 1 t) (iblk m c 2 t) (iblk m c 3 t) (iblk m c 4 t)
      (iblk m c 5 t) (iblk m c 6 t) (iblk m c 7 t) (iblk m c 8 t)) (iblk m c 9 t) (k0_pay7 (F := Ideal) (iblk m c 9 t)) (nm A) : Vec Ideal S1x1024 .f32)
      = nm fun a l => A a l + ∑ r : Fin 512, dh (M 1) D (512 * t.val + r.val) l * (X (512 * t.val + r.val) l * rs X (512 * t.val + r.val)) := by
    intro t A
    rw [tile X D m c M hX hM h0 h1 h2 h3 h4 h5 h6 h7, iblk9 X m c hX, pay7_eq]
    exact pay3_eq (fun r => X (512 * t.val + r)) (fun r => dh (M 1) D (512 * t.val + r)) A
  induction n with
  | zero =>
    rw [outsAt0_A m c ⟨0, hn⟩ rfl]; frame_out
    rw [pay5_eq, q]
    simp only [Finset.sum_range_one, zero_add]
  | succ n ih =>
    have h : n + 1 < 16 := hn
    rw [outsAt0_B m c ⟨n + 1, hn⟩ (show ¬ (n + 1) % 16 = 0 by omega)]; frame_out
    simp only [Nat.add_sub_cancel]
    rw [ih, q]
    simp only [Finset.sum_range_succ _ (n + 1)]
theorem final13 : (dats m 0 c).arrAt 13 cfg0.N = nm fun _ l => ∑ t : Fin 8192, dh (M 1) D t.val l * (X t.val l * rs X t.val) := by
  refine (dats m 0 c).arrAt_eq_of_covers 13 _ (by decide +kernel) fun t hf y => ?_
  have h15 : t.val = 15 := by have := (flush0_13 t).mp hf; have : t.val < 16 := t.isLt; omega
  blk_simp
  rw [after0_13, acc13 X D m c M hX hM h0 h1 h2 h3 h4 h5 h6 h7]
  idx_vars y
  have ht : t.val < 16 := t.isLt
  have e : (win0_13.blk t).view.emb (ix2 y0 y1) = ix2 y0 y1 := by blk_ext [idx13 t]
  rw [e, nm_apply, nm_apply, h15, sum_tiles fun r => dh (M 1) D r y1.val * (X r y1.val * rs X r)]
end Cert.InProjBwdIdeal.Blocks
-- ==== Proof.InProjRef.lean ====
/-
  The plain gradient of the input product and its norm, read stage by stage as tables of reals.
-/
module
public import proofs.«01_k».proof.Proof.InProjValue
public import proofs.«01_k».proof.Proof.Gen.InProjBwdRefIdeal.Read
@[expose] public section
set_option maxRecDepth 16384
noncomputable section
open Cert.Reals Cert.Tables Cert.InProj Idealize.ShloMosaic Cert.InProjBwdRefIdeal Cert.InProjBwdRefIdeal.Read
namespace Cert.InProj
variable (X : ℕ → ℕ → ℝ) (g : ℕ → ℝ) (H : ℕ → ℕ → ℝ)
theorem rs_div_ms (t : ℕ) : rs X t / ms X t = rs X t * rs X t * rs X t := by
  have h : rs X t * rs X t = (ms X t)⁻¹ := by
    rw [rs, ← mul_inv, Real.mul_self_sqrt (ms_pos X t).le]
  rw [h, div_eq_mul_inv, mul_comm]
/-- The gradient through the mean square, as the chain rule gives it. -/
def mean (t : ℕ) : ℝ := (∑ k : Fin 1024, X t k.val * (H t k.val * g k.val)) * (-1 / 2 * (rs X t / ms X t)) / 1024
theorem dx_chain (t l : ℕ) : H t l * g l * rs X t + X t l * mean X g H t + mean X g H t * X t l = dx X g H t l := by
  have e : ∑ k : Fin 1024, H t k.val * g k.val * (X t k.val * rs X t) = (∑ k : Fin 1024, X t k.val * (H t k.val * g k.val)) * rs X t := by
    rw [Finset.sum_mul]; exact Finset.sum_congr rfl fun _ _ => by ring
  rw [dx, e, mean, rs_div_ms]
  ring
end Cert.InProj
namespace Cert.InProjBwdRefIdeal.Stages
variable (X G : ℕ → ℕ → ℝ) (M : ℕ → ℕ → ℕ → ℝ) (D : ℕ → ℕ → ℕ → ℝ) (E : ℕ → ℕ → EReal)
abbrev aX : FVec Ideal ⟨2, ![8192, 1024]⟩ .f32 := nm X
abbrev aG : FVec Ideal ⟨2, ![4, 1024]⟩ .f32 := nm G
abbrev aM : FVec Ideal ⟨3, ![4, 1024, 2336]⟩ .f32 := nc M
abbrev aE : FVec Ideal ⟨2, ![8192, 1024]⟩ .f32 := em E
abbrev d0 : FVec Ideal ⟨2, ![8192, 384]⟩ .f32 := nm (D 0)
abbrev d1 : FVec Ideal ⟨2, ![8192, 384]⟩ .f32 := nm (D 1)
abbrev d2 : FVec Ideal ⟨2, ![8192, 384]⟩ .f32 := nm (D 2)
abbrev d3 : FVec Ideal ⟨2, ![8192, 256]⟩ .f32 := nm (D 3)
abbrev d4 : FVec Ideal ⟨2, ![8192, 32]⟩ .f32 := nm (D 4)
abbrev d5 : FVec Ideal ⟨2, ![8192, 384]⟩ .f32 := nm (D 5)
abbrev d6 : FVec Ideal ⟨2, ![8192, 256]⟩ .f32 := nm (D 6)
abbrev d7 : FVec Ideal ⟨2, ![8192, 256]⟩ .f32 := nm (D 7)

set_option maxHeartbeats 4000000 in
theorem v0 : (val_main_v0 (F := Ideal) (d0 D) (d1 D) (d2 D) (d3 D) (d4 D) (d5 D) (d6 D) (d7 D) : FVec Ideal S8192x2336 .f32) = nm (dz D) := by
  unfold val_main_v0
  funext j; idx_vars j; pointwise []
  simp only [nm_apply]
  have hj : j1.val < 384 ∨ (384 ≤ j1.val ∧ j1.val < 768) ∨ (768 ≤ j1.val ∧ j1.val < 1152) ∨ (1152 ≤ j1.val ∧ j1.val < 1408) ∨ (1408 ≤ j1.val ∧ j1.val < 1440)
    ∨ (1440 ≤ j1.val ∧ j1.val < 1824) ∨ (1824 ≤ j1.val ∧ j1.val < 2080) ∨ (2080 ≤ j1.val ∧ j1.val < 2336) := by omega
  rcases hj with hj | hj | hj | hj | hj | hj | hj | hj <;> simp (disch := omega) only [dz, if_pos, if_neg, dif_pos, dif_neg]
  all_goals refine congrArg (fun z : ℕ => ((D _ j0.val z : ℝ) : EReal)) ?_
  all_goals omega
theorem v2 : (val_main_v2 (F := Ideal) (aG G) : FVec Ideal S1024 .f32) = nv (G 1) := by
  unfold val_main_v2 val_main_v1
  funext j; idx_vars j; pointwise []; rfl
theorem v20 : (val_main_v20 (F := Ideal) (aM M) : FVec Ideal S1024x2336 .f32) = nm (M 1) := by
  unfold val_main_v20 val_main_v19
  funext j; idx_vars j; pointwise []; rfl
theorem v9 : (val_main_v9 (F := Ideal) (aX X) : FVec Ideal S8192x1 .f32) = nm fun t _ => ms X t := by
  unfold val_main_v9 val_main_v7 val_main_v5 val_main_v4 val_main_v3 val_main_v6 val_main_v8
  funext j; idx_vars j; pointwise [val_main_cst, val_main_cst_0, val_main_cst_1]
  simp only [nm_apply, ofBits_zero, ofBits_1024, ofBits_eps, ← EReal.coe_mul, sum_coe, zero_add, div_1024, ← EReal.coe_add, ms]
theorem v10 : (val_main_v10 (F := Ideal) (aX X) : FVec Ideal S8192x1 .f32) = nm fun t _ => rs X t := by
  unfold val_main_v10
  rw [v9]
  funext j; idx_vars j; pointwise []
  exact rsqrt_coe _ (ms_pos X j0)
theorem v13 : (val_main_v13 (F := Ideal) (aX X) : FVec Ideal S8192x1 .f32) = nm fun t _ => -1 / 2 * (rs X t / ms X t) := by
  unfold val_main_v13 val_main_v11 val_main_v12
  rw [v10, v9]
  funext j; idx_vars j; pointwise [val_main_cst_2]
  simp only [nm_apply, ofBits_neg_half, div_coe _ _ (ms_pos X j0.val).ne', ← EReal.coe_mul]
theorem v15 : (val_main_v15 (F := Ideal) (aX X) : FVec Ideal S8192x1024 .f32) = nm fun t l => X t l * rs X t := by
  unfold val_main_v15 val_main_v14
  rw [v10]
  funext j; idx_vars j; pointwise []
  simp only [nm_apply, ← EReal.coe_mul]
theorem v22 : (val_main_v22 (F := Ideal) (aM M) (d0 D) (d1 D) (d2 D) (d3 D) (d4 D) (d5 D) (d6 D) (d7 D) : FVec Ideal S8192x1024 .f32) = nm (dh (M 1) D) := by
  unfold val_main_v22
  rw [v0, v20]
  funext j; idx_vars j; pointwise []
  simp only [nm_apply, ← EReal.coe_mul, sum_coe, zero_add, dh]
theorem v25 : (val_main_v25 (F := Ideal) (aX X) (aM M) (d0 D) (d1 D) (d2 D) (d3 D) (d4 D) (d5 D) (d6 D) (d7 D) : FVec Ideal S1x1024 .f32)
    = nm fun _ l => ∑ t : Fin 8192, dh (M 1) D t.val l * (X t.val l * rs X t.val) := by
  unfold val_main_v25 val_main_v24 val_main_v23
  rw [v22, v15]
  funext j; idx_vars j; pointwise [val_main_cst_3]
  simp only [nm_apply, ofBits_zero, ← EReal.coe_mul, sum_coe, zero_add]
  exact congrArg (fun r : ℝ => (r : EReal)) (Finset.sum_congr rfl fun _ _ => mul_comm _ _)
theorem v27 : (val_main_v27 (F := Ideal) (aG G) (aM M) (d0 D) (d1 D) (d2 D) (d3 D) (d4 D) (d5 D) (d6 D) (d7 D) : FVec Ideal S8192x1024 .f32) = nm fun t l => dh (M 1) D t l * G 1 l := by
  unfold val_main_v27 val_main_v26 val_main_v16
  rw [v22, v2]
  funext j; idx_vars j; pointwise []
  simp only [nm_apply, nv_apply, ← EReal.coe_mul]
theorem v31 : (val_main_v31 (F := Ideal) (aX X) (aG G) (aM M) (d0 D) (d1 D) (d2 D) (d3 D) (d4 D) (d5 D) (d6 D) (d7 D) : FVec Ideal S8192x1 .f32)
    = nm fun t _ => ∑ k : Fin 1024, X t k.val * (dh (M 1) D t k.val * G 1 k.val) := by
  unfold val_main_v31 val_main_v30 val_main_v29
  rw [v27]
  funext j; idx_vars j; pointwise [val_main_cst_5]
  simp only [nm_apply, ofBits_zero, ← EReal.coe_mul, sum_coe, zero_add]
theorem v37 : (val_main_v37 (F := Ideal) (aX X) (aG G) (aM M) (d0 D) (d1 D) (d2 D) (d3 D) (d4 D) (d5 D) (d6 D) (d7 D) : FVec Ideal S8192x1 .f32) = nm fun t _ => mean X (G 1) (dh (M 1) D) t := by
  unfold val_main_v37 val_main_v35 val_main_v36
  rw [v31, v13]
  funext j; idx_vars j; pointwise [val_main_cst_6]
  simp only [nm_apply, ofBits_1024, ← EReal.coe_mul, div_1024, mean]
theorem v39 : (val_main_v39 (F := Ideal) (aX X) (aG G) (aM M) (d0 D) (d1 D) (d2 D) (d3 D) (d4 D) (d5 D) (d6 D) (d7 D) : FVec Ideal S8192x1024 .f32) = nm fun t _ => mean X (G 1) (dh (M 1) D) t := by
  unfold val_main_v39 val_main_v38
  rw [v37]
  funext j; idx_vars j; pointwise [val_main_cst_7]
  simp only [nm_apply, ofBits_zero, sum_coe, zero_add, Finset.univ_unique, Finset.sum_singleton]
theorem v43 : (val_main_v43 (F := Ideal) (aX X) (aG G) (aM M) (d0 D) (d1 D) (d2 D) (d3 D) (d4 D) (d5 D) (d6 D) (d7 D) (aE E) : FVec Ideal S8192x1024 .f32)
    = em fun t l => E t l + ((dx X (G 1) (dh (M 1) D) t l : ℝ) : EReal) := by
  unfold val_main_v43 val_main_v41 val_main_v42 val_main_v40 val_main_v34 val_main_v33 val_main_v32
  rw [v27, v10, v39]
  funext j; idx_vars j; pointwise []
  simp only [nm_apply, em_apply, ← EReal.coe_mul, add_assoc, ← EReal.coe_add]
  rw [← dx_chain, add_assoc]
theorem v44 : (val_main_v44 (F := Ideal) (aX X) (aM M) (d0 D) (d1 D) (d2 D) (d3 D) (d4 D) (d5 D) (d6 D) (d7 D) : FVec Ideal S1x1024 .f32)
    = nm fun _ l => ∑ t : Fin 8192, dh (M 1) D t.val l * (X t.val l * rs X t.val) := by
  unfold val_main_v44 val_main_v28
  rw [v25]
  funext j; idx_vars j; pointwise [val_main_cst_4]
  simp only [nm_apply, ofBits_zero, sum_coe, zero_add, Finset.univ_unique, Finset.sum_singleton]
end Cert.InProjBwdRefIdeal.Stages
-- ==== Proof.InProjBwd.lean ====
module
public import proofs.«01_k».proof.Defs
public import proofs.«01_k».proof.Proof.Gen.InProjBwd.Frame
public import proofs.«01_k».proof.Proof.InProjRef
@[expose] public section
set_option maxRecDepth 16384
noncomputable section
/-! The claims about the gradient of the input product and its norm: its frames, and its two results against the reference's. -/
namespace Cert.Proof.InProjBwd
open Cert.Reals Cert.Tables Cert.InProj Idealize.ShloMosaic Idealize.SL.Sem Idealize.ShloMosaic.TcCoe

instance facts : Cert.InProjBwd.Facts := Cert.InProjBwd.Gen.facts
instance factsIdeal : Cert.InProjBwdIdeal.Facts := Cert.InProjBwdIdeal.Gen.facts
instance factsRef : Cert.InProjBwdRefIdeal.Facts := Cert.InProjBwdRefIdeal.Gen.facts
instance factsPre : Cert.Pre_inproj_finite.Facts := ⟨by decide, by decide, by decide, by decide, by decide, by decide⟩

theorem frame_kernel : Cert.quiescent_InProjBwd := fun m ρ _ => Cert.InProjBwd.Gen.frame m ρ
theorem frame_ideal : Cert.quiescent_InProjBwdIdeal := fun m ρ _ => Cert.InProjBwdIdeal.Gen.frame m ρ
theorem frame_ideal_pre : Cert.quiescent_InProjBwdIdeal_pre_inproj_finite := fun m ρ _ => Cert.InProjBwdIdeal.Gen.frame m ρ
theorem frame_ref : Cert.quiescent_InProjBwdRefIdeal := fun m ρ _ =>
  (θ_run Cert.InProjBwdRefIdeal.defs _ _).mono (fun r h => ⟨fun c => (h c).2.2, sem_eq_zero_of_no_sems (by decide) r.2⟩)
    (Cert.InProjBwdRefIdeal.Value.run m ρ)
theorem frame_ref_pre : Cert.quiescent_InProjBwdRefIdeal_pre_inproj_finite := fun m ρ _ => frame_ref m ρ trivial

/-- The arguments but the cotangent that passes by are real arrays. -/
theorem args (m : (ℓ : Loc Cert.InProjBwdIdeal.nD Cert.InProjBwdIdeal.τ Cert.InProjBwdIdeal.sig) → Buf (Elt Ideal) ℓ)
    (hpre : Cert.Pre_InProjBwdIdeal_inproj_finite m) (c : Dev Cert.InProjBwdIdeal.nD) :
    ∃ (X G : ℕ → ℕ → ℝ) (M : ℕ → ℕ → ℕ → ℝ) (D : ℕ → ℕ → ℕ → ℝ) (E : ℕ → ℕ → EReal),
      m (c.tc.loc Cert.InProjBwdIdeal.main_arg0) = (nm X : FVec Ideal ⟨2, ![8192, 1024]⟩ .f32)
      ∧ m (c.tc.loc Cert.InProjBwdIdeal.main_arg1) = (nm G : FVec Ideal ⟨2, ![4, 1024]⟩ .f32)
      ∧ m (c.tc.loc Cert.InProjBwdIdeal.main_arg2) = (nc M : FVec Ideal ⟨3, ![4, 1024, 2336]⟩ .f32)
      ∧ m (c.tc.loc Cert.InProjBwdIdeal.main_arg3) = (nm (D 0) : FVec Ideal ⟨2, ![8192, 384]⟩ .f32)
      ∧ m (c.tc.loc Cert.InProjBwdIdeal.main_arg4) = (nm (D 1) : FVec Ideal ⟨2, ![8192, 384]⟩ .f32)
      ∧ m (c.tc.loc Cert.InProjBwdIdeal.main_arg5) = (nm (D 2) : FVec Ideal ⟨2, ![8192, 384]⟩ .f32)
      ∧ m (c.tc.loc Cert.InProjBwdIdeal.main_arg6) = (nm (D 3) : FVec Ideal ⟨2, ![8192, 256]⟩ .f32)
      ∧ m (c.tc.loc Cert.InProjBwdIdeal.main_arg7) = (nm (D 4) : FVec Ideal ⟨2, ![8192, 32]⟩ .f32)
      ∧ m (c.tc.loc Cert.InProjBwdIdeal.main_arg8) = (nm (D 5) : FVec Ideal ⟨2, ![8192, 384]⟩ .f32)
      ∧ m (c.tc.loc Cert.InProjBwdIdeal.main_arg9) = (nm (D 6) : FVec Ideal ⟨2, ![8192, 256]⟩ .f32)
      ∧ m (c.tc.loc Cert.InProjBwdIdeal.main_arg10) = (nm (D 7) : FVec Ideal ⟨2, ![8192, 256]⟩ .f32)
      ∧ m (c.tc.loc Cert.InProjBwdIdeal.main_arg11) = (em E : FVec Ideal ⟨2, ![8192, 1024]⟩ .f32) := by
  obtain ⟨p0, p1, p2, p3, p4, p5, p6, p7, p8, p9, p10⟩ := hpre c
  obtain ⟨X, h0, _⟩ := nm_of_finite (m (c.tc.loc Cert.InProjBwdIdeal.main_arg0)) _ p0
  obtain ⟨G, h1, _⟩ := nm_of_finite (m (c.tc.loc Cert.InProjBwdIdeal.main_arg1)) _ p1
  obtain ⟨M, h2⟩ := nc_of_finite (m (c.tc.loc Cert.InProjBwdIdeal.main_arg2)) _ p2
  obtain ⟨D0, h3, _⟩ := nm_of_finite (m (c.tc.loc Cert.InProjBwdIdeal.main_arg3)) _ p3
  obtain ⟨D1, h4, _⟩ := nm_of_finite (m (c.tc.loc Cert.InProjBwdIdeal.main_arg4)) _ p4
  obtain ⟨D2, h5, _⟩ := nm_of_finite (m (c.tc.loc Cert.InProjBwdIdeal.main_arg5)) _ p5
  obtain ⟨D3, h6, _⟩ := nm_of_finite (m (c.tc.loc Cert.InProjBwdIdeal.main_arg6)) _ p6
  obtain ⟨D4, h7, _⟩ := nm_of_finite (m (c.tc.loc Cert.InProjBwdIdeal.main_arg7)) _ p7
  obtain ⟨D5, h8, _⟩ := nm_of_finite (m (c.tc.loc Cert.InProjBwdIdeal.main_arg8)) _ p8
  obtain ⟨D6, h9, _⟩ := nm_of_finite (m (c.tc.loc Cert.InProjBwdIdeal.main_arg9)) _ p9
  obtain ⟨D7, h10, _⟩ := nm_of_finite (m (c.tc.loc Cert.InProjBwdIdeal.main_arg10)) _ p10
  obtain ⟨E, h11⟩ := exists_em (m (c.tc.loc Cert.InProjBwdIdeal.main_arg11))
  exact ⟨X, G, M, fun k => match k with | 0 => D0 | 1 => D1 | 2 => D2 | 3 => D3 | 4 => D4 | 5 => D5 | 6 => D6 | _ => D7, E, h0, h1, h2, h3, h4, h5, h6, h7, h8, h9, h10, h11⟩

theorem algebraic : Cert.algebraic_InProjBwdIdeal_InProjBwdRefIdeal_pre_inproj_finite := by
  intro m g m' g' hpre hagree
  choose X G M D E h0 h1 h2 h3 h4 h5 h6 h7 h8 h9 h10 h11 using args m hpre
  refine ⟨fun c => (em fun t l => E c t l + ((dx (X c) (G c 1) (dh (M c 1) (D c)) t l : ℝ) : EReal) : FVec Ideal ⟨2, ![8192, 1024]⟩ .f32),
    fun c => (nm fun _ l => ∑ t : Fin 8192, dh (M c 1) (D c) t.val l * (X c t.val l * rs (X c) t.val) : FVec Ideal ⟨2, ![1, 1024]⟩ .f32), ?_, ?_⟩
  · exact (θ_run Cert.InProjBwdIdeal.defs _ _).mono (fun _ h c =>
      ⟨(h c).1.trans (Cert.InProjBwdIdeal.Blocks.final12 (X c) (D c) m c (G c) (M c) (E c) (h0 c) (h1 c) (h2 c) (h3 c) (h4 c) (h5 c) (h6 c) (h7 c) (h8 c) (h9 c) (h10 c) (h11 c)),
        (h c).2.1.trans (Cert.InProjBwdIdeal.Blocks.final13 (X c) (D c) m c (M c) (h0 c) (h2 c) (h3 c) (h4 c) (h5 c) (h6 c) (h7 c) (h8 c) (h9 c) (h10 c)), (h c).2.2⟩)
      (Cert.InProjBwdIdeal.Value.run_blocks m g)
  · refine (θ_run Cert.InProjBwdRefIdeal.defs _ _).mono (fun _ h c => ?_) (Cert.InProjBwdRefIdeal.Value.run m' g')
    obtain ⟨a0, a1, a2, a3, a4, a5, a6, a7, a8, a9, a10, a11⟩ := hagree c
    refine ⟨(h c).1.trans ?_, (h c).2.1.trans ?_, (h c).2.2⟩
    · rw [Cert.InProjBwdRefIdeal.Read.val_main_v43_eq]
      change Cert.InProjBwdRefIdeal.Read.val_main_v43 (m' (c.tc.loc Cert.InProjBwdRefIdeal.main_arg0)) (m' (c.tc.loc Cert.InProjBwdRefIdeal.main_arg1)) (m' (c.tc.loc Cert.InProjBwdRefIdeal.main_arg2)) (m' (c.tc.loc Cert.InProjBwdRefIdeal.main_arg3)) (m' (c.tc.loc Cert.InProjBwdRefIdeal.main_arg4)) (m' (c.tc.loc Cert.InProjBwdRefIdeal.main_arg5)) (m' (c.tc.loc Cert.InProjBwdRefIdeal.main_arg6)) (m' (c.tc.loc Cert.InProjBwdRefIdeal.main_arg7)) (m' (c.tc.loc Cert.InProjBwdRefIdeal.main_arg8)) (m' (c.tc.loc Cert.InProjBwdRefIdeal.main_arg9)) (m' (c.tc.loc Cert.InProjBwdRefIdeal.main_arg10)) (m' (c.tc.loc Cert.InProjBwdRefIdeal.main_arg11)) = _
      rw [a0, a1, a2, a3, a4, a5, a6, a7, a8, a9, a10, a11, h0, h1, h2, h3, h4, h5, h6, h7, h8, h9, h10, h11]
      exact Cert.InProjBwdRefIdeal.Stages.v43 (X c) (G c) (M c) (D c) (E c)
    · rw [Cert.InProjBwdRefIdeal.Read.val_main_v44_eq]
      change Cert.InProjBwdRefIdeal.Read.val_main_v44 (m' (c.tc.loc Cert.InProjBwdRefIdeal.main_arg0)) (m' (c.tc.loc Cert.InProjBwdRefIdeal.main_arg2)) (m' (c.tc.loc Cert.InProjBwdRefIdeal.main_arg3)) (m' (c.tc.loc Cert.InProjBwdRefIdeal.main_arg4)) (m' (c.tc.loc Cert.InProjBwdRefIdeal.main_arg5)) (m' (c.tc.loc Cert.InProjBwdRefIdeal.main_arg6)) (m' (c.tc.loc Cert.InProjBwdRefIdeal.main_arg7)) (m' (c.tc.loc Cert.InProjBwdRefIdeal.main_arg8)) (m' (c.tc.loc Cert.InProjBwdRefIdeal.main_arg9)) (m' (c.tc.loc Cert.InProjBwdRefIdeal.main_arg10)) = _
      rw [a0, a2, a3, a4, a5, a6, a7, a8, a9, a10, h0, h2, h3, h4, h5, h6, h7, h8, h9, h10]
      exact Cert.InProjBwdRefIdeal.Stages.v44 (X c) (M c) (D c)

end Cert.Proof.InProjBwd
-- ==== Proof.FlashRun.lean ====
/- One grid point of the attention backward kernel, run by hand: its two counted loops have no generated invariant,
   because each trip loads back from the buffer it has just stored into. A trip is run once at a symbolic trip number,
   what it leaves in the accumulated block and in the carried sums is found by that run, and the loops' invariants say
   that trip `k` starts from what `k` trips have left. -/
module

public import proofs.«01_k».proof.Proof.Gen.FlashBwdIdeal.Frame
public import proofs.«01_k».proof.Proof.Gen.FlashBwdIdeal.Loops

@[expose] public section

set_option maxRecDepth 16384

noncomputable section

namespace Cert.FlashBwdIdeal.Hand

open Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The offsets in closed form -/

/-- The point's second coordinate is the tile of keys it handles, the first the pair of heads. The first loop goes in fours from the next tile of queries on; -/
theorem trips1 : ∀ i : grid0.Coords, (k0_t1_loop i).trips = (15 - (i 1).val) / 4 := by decide +kernel
/-- what is left over is the third loop's; -/
theorem trips3 : ∀ i : grid0.Coords, (k0_t3_loop i).trips = (15 - (i 1).val) % 4 := by decide +kernel
/-- the two loops in between have no trip. -/
theorem trips2 : ∀ i : grid0.Coords, (k0_t2_loop i).trips = 0 := by decide +kernel
theorem trips4 : ∀ i : grid0.Coords, (k0_t4_loop i).trips = 0 := by decide +kernel

theorem off11_eq : ∀ (i : grid0.Coords) (k : Fin (k0_t1_loop i).trips) (u : Fin 4),
    k0_off11 i k (BitVec.ofNat 32 u.val) = ![512 * ((i 1).val + 1 + 4 * k.val + u.val), 0] := by decide +kernel
theorem off12_eq : ∀ (i : grid0.Coords) (k : Fin (k0_t1_loop i).trips) (u : Fin 4),
    k0_off12 i k (BitVec.ofNat 32 u.val) = ![512 * ((i 1).val + 1 + 4 * k.val + u.val), 128] := by decide +kernel
theorem off23_eq : ∀ (i : grid0.Coords) (k : Fin (k0_t3_loop i).trips),
    k0_off23 i k = ![512 * ((i 1).val + 1 + 4 * ((15 - (i 1).val) / 4) + k.val), 0] := by decide +kernel
theorem off24_eq : ∀ (i : grid0.Coords) (k : Fin (k0_t3_loop i).trips),
    k0_off24 i k = ![512 * ((i 1).val + 1 + 4 * ((15 - (i 1).val) / 4) + k.val), 128] := by decide +kernel
theorem off5_eq : ∀ i : grid0.Coords, k0_off5 i = ![512 * (i 1).val, 0] := by decide +kernel
theorem off6_eq : ∀ i : grid0.Coords, k0_off6 i = ![512 * (i 1).val, 128] := by decide +kernel

instance (i : grid0.Coords) (k : Fin (k0_t1_loop i).trips) : ClosedOff (k0_off11 i k 0#32) := ⟨_, off11_eq i k 0⟩
instance (i : grid0.Coords) (k : Fin (k0_t1_loop i).trips) : ClosedOff (k0_off11 i k 1#32) := ⟨_, off11_eq i k 1⟩
instance (i : grid0.Coords) (k : Fin (k0_t1_loop i).trips) : ClosedOff (k0_off11 i k 2#32) := ⟨_, off11_eq i k 2⟩
instance (i : grid0.Coords) (k : Fin (k0_t1_loop i).trips) : ClosedOff (k0_off11 i k 3#32) := ⟨_, off11_eq i k 3⟩
instance (i : grid0.Coords) (k : Fin (k0_t1_loop i).trips) : ClosedOff (k0_off12 i k 0#32) := ⟨_, off12_eq i k 0⟩
instance (i : grid0.Coords) (k : Fin (k0_t1_loop i).trips) : ClosedOff (k0_off12 i k 1#32) := ⟨_, off12_eq i k 1⟩
instance (i : grid0.Coords) (k : Fin (k0_t1_loop i).trips) : ClosedOff (k0_off12 i k 2#32) := ⟨_, off12_eq i k 2⟩
instance (i : grid0.Coords) (k : Fin (k0_t1_loop i).trips) : ClosedOff (k0_off12 i k 3#32) := ⟨_, off12_eq i k 3⟩
instance (i : grid0.Coords) (k : Fin (k0_t3_loop i).trips) : ClosedOff (k0_off23 i k) := ⟨_, off23_eq i k⟩
instance (i : grid0.Coords) (k : Fin (k0_t3_loop i).trips) : ClosedOff (k0_off24 i k) := ⟨_, off24_eq i k⟩
instance (i : grid0.Coords) : ClosedOff (k0_off5 i) := ⟨_, off5_eq i⟩
instance (i : grid0.Coords) : ClosedOff (k0_off6 i) := ⟨_, off6_eq i⟩

/-- `g`, its first value written out: what a buffer holds before a loop is in sight. -/
def from0 {α : Type} (a : α) (g : ℕ → α) : ℕ → α
  | 0 => a
  | k + 1 => g (k + 1)
theorem from0_eq {α : Type} {a : α} (g : ℕ → α) (h : g 0 = a) : from0 a g = g := by
  funext k; cases k with
  | zero => exact h.symm
  | succ k => rfl

/-! ## One trip of each loop -/

/-- The three sums a loop carries: the two heads' gradients of the keys, and the gradient of the values. -/
abbrev Acc (F : FTy → Type) [FloatOps F] := FVec F S512x128 .f32 × FVec F S512x128 .f32 × FVec F S512x128 .f32

section Trips

variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
  (x0 : Vec F S8192x256 .bf16) (x1 : Vec F S8192x128 .bf16) (x2 : Vec F S1x16x8x512 .f32) (x3 : Vec F S1x16x8x512 .f32)

/-- What a trip touches: the queries, the incoming gradient, the two rows of sums, and the accumulated gradient of the queries at `f8`. -/
abbrev Held (f8 : Buf (Elt F) (arg8.view.loc (c : Thread nD τ))) : sProp 𝕄 :=
  iprop((arg2.view.loc (c : Thread nD τ) ↦[arg2.view.set]{fullShare} harg2.unread x0)
    ∗ (arg3.view.loc (c : Thread nD τ) ↦[arg3.view.set]{fullShare} harg3.unread x1)
    ∗ (arg4.view.loc (c : Thread nD τ) ↦[arg4.view.set]{fullShare} harg4.unread x2)
    ∗ (arg5.view.loc (c : Thread nD τ) ↦[arg5.view.set]{fullShare} harg5.unread x3) ∗ (arg8.view.loc (c : Thread nD τ) ↦[arg8.view.set]{fullShare} f8))

set_option backward.proofsInPublic true in
set_option maxHeartbeats 4000000 in
/-- One trip of the last loop: one tile of queries against the point's tile of keys. -/
def trip3 (v5 v6 v8 : FVec F S512x128 .bf16) (v120 : BitVec 32) (k : Fin (k0_t3_loop i).trips)
    (f8 : Buf (Elt F) (arg8.view.loc (c : Thread nD τ))) (a : Acc F) :
    { r : Buf (Elt F) (arg8.view.loc (c : Thread nD τ)) × Acc F // ∀ E : Set ℕ,
      Held c arg2 harg2 arg3 harg3 arg4 harg4 arg5 harg5 arg8 x0 x1 x2 x3 f8
        ⊢ wp frame (wpE (defs₀ (F := F)) Variants.none (c : Thread nD τ) none) E
            (k0_t3_body (F := F) i arg2 harg2 arg3 harg3 arg4 harg4 arg5 harg5 arg6 harg6 arg7 harg7 arg8 harg8 arg9 harg9 arg10 harg10 v5 v6 v8 v120 k (a.1, a.2.1, a.2.2))
            (fun b => iprop(⌜b = r.2⌝ ∗ Held c arg2 harg2 arg3 harg3 arg4 harg4 arg5 harg5 arg8 x0 x1 x2 x3 r.1)) } := by
  refine ⟨(?_, (?_, ?_, ?_)), fun E => ?run⟩
  case run =>
    unfold k0_t3_body
    simp only [k0_part15_eq_skeleton]
    unfold Held
    iintro ⟨H0, H1, H2, H3, H8⟩
    sl_exec
    sl_step
    isplitr; · ipureintro; rfl
    isplitl [H0]; · iexact H0
    isplitl [H1]; · iexact H1
    isplitl [H2]; · iexact H2
    isplitl [H3]; · iexact H3
    iexact H8

set_option backward.proofsInPublic true in
set_option maxHeartbeats 4000000 in
/-- One trip of the first loop: four tiles of queries, one after the other. -/
def trip1 (arg1 : BitVec 32) (v5 v6 v8 : FVec F S512x128 .bf16) (v9 : FVec F S512x128 .f32) (v11 : BitVec 32) (v44 v50 v51 v69 v75 v76 : FVec F S512x128 .f32) (v93 : BitVec 32) (k : Fin (k0_t1_loop i).trips)
    (f8 : Buf (Elt F) (arg8.view.loc (c : Thread nD τ))) (a : Acc F) :
    { r : Buf (Elt F) (arg8.view.loc (c : Thread nD τ)) × Acc F // ∀ E : Set ℕ,
      Held c arg2 harg2 arg3 harg3 arg4 harg4 arg5 harg5 arg8 x0 x1 x2 x3 f8
        ⊢ wp frame (wpE (defs₀ (F := F)) Variants.none (c : Thread nD τ) none) E
            (k0_t1_body (F := F) i arg2 harg2 arg3 harg3 arg4 harg4 arg5 harg5 arg6 harg6 arg7 harg7 arg8 harg8 arg9 harg9 arg10 harg10 arg1 v5 v6 v8 v9 v11 v44 v50 v51 v69 v75 v76 v93 k (a.1, a.2.1, a.2.2))
            (fun b => iprop(⌜b = r.2⌝ ∗ Held c arg2 harg2 arg3 harg3 arg4 harg4 arg5 harg5 arg8 x0 x1 x2 x3 r.1)) } := by
  refine ⟨(?_, (?_, ?_, ?_)), fun E => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton]
    unfold Held
    iintro ⟨H0, H1, H2, H3, H8⟩
    sl_exec
    sl_step
    isplitr; · ipureintro; rfl
    isplitl [H0]; · iexact H0
    isplitl [H1]; · iexact H1
    isplitl [H2]; · iexact H2
    isplitl [H3]; · iexact H3
    iexact H8

/-- What `k` trips of the loop leave, from `s`. -/
def st3 (v5 v6 v8 : FVec F S512x128 .bf16) (v120 : BitVec 32) (s : Buf (Elt F) (arg8.view.loc (c : Thread nD τ)) × Acc F) :
    ℕ → Buf (Elt F) (arg8.view.loc (c : Thread nD τ)) × Acc F
  | 0 => s
  | k + 1 => if h : k < (k0_t3_loop i).trips then
      (trip3 c i arg2 harg2 arg3 harg3 arg4 harg4 arg5 harg5 arg6 harg6 arg7 harg7 arg8 harg8 arg9 harg9 arg10 harg10 x0 x1 x2 x3 v5 v6 v8 v120 ⟨k, h⟩ (st3 v5 v6 v8 v120 s k).1 (st3 v5 v6 v8 v120 s k).2).1 else st3 v5 v6 v8 v120 s k

theorem st3_succ (v5 v6 v8 : FVec F S512x128 .bf16) (v120 : BitVec 32) (s : Buf (Elt F) (arg8.view.loc (c : Thread nD τ)) × Acc F) (k : Fin (k0_t3_loop i).trips) :
    st3 c i arg2 harg2 arg3 harg3 arg4 harg4 arg5 harg5 arg6 harg6 arg7 harg7 arg8 harg8 arg9 harg9 arg10 harg10 x0 x1 x2 x3 v5 v6 v8 v120 s (k.val + 1)
      = (trip3 c i arg2 harg2 arg3 harg3 arg4 harg4 arg5 harg5 arg6 harg6 arg7 harg7 arg8 harg8 arg9 harg9 arg10 harg10 x0 x1 x2 x3 v5 v6 v8 v120 k (st3 c i arg2 harg2 arg3 harg3 arg4 harg4 arg5 harg5 arg6 harg6 arg7 harg7 arg8 harg8 arg9 harg9 arg10 harg10 x0 x1 x2 x3 v5 v6 v8 v120 s k.val).1 (st3 c i arg2 harg2 arg3 harg3 arg4 harg4 arg5 harg5 arg6 harg6 arg7 harg7 arg8 harg8 arg9 harg9 arg10 harg10 x0 x1 x2 x3 v5 v6 v8 v120 s k.val).2).1 := by
  rw [st3, dif_pos k.isLt]

set_option warn.classDefReducibility false in
/-- The loop's invariant: before trip `k` the carried sums and the accumulated block are what `k` trips have left. -/
@[sl_loop] def loopInv3 (v5 v6 v8 : FVec F S512x128 .bf16) (v120 : BitVec 32) (E : Set ℕ) (f8 : Buf (Elt F) (arg8.view.loc (c : Thread nD τ))) (init : Acc F) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 v5 v6 v8 v120 init where
  inv k acc := iprop(⌜acc = (st3 c i arg2 harg2 arg3 harg3 arg4 harg4 arg5 harg5 arg6 harg6 arg7 harg7 arg8 harg8 arg9 harg9 arg10 harg10 x0 x1 x2 x3 v5 v6 v8 v120 (f8, init) k).2⌝
    ∗ Held c arg2 harg2 arg3 harg3 arg4 harg4 arg5 harg5 arg8 x0 x1 x2 x3 (from0 f8 (fun k => (st3 c i arg2 harg2 arg3 harg3 arg4 harg4 arg5 harg5 arg6 harg6 arg7 harg7 arg8 harg8 arg9 harg9 arg10 harg10 x0 x1 x2 x3 v5 v6 v8 v120 (f8, init) k).1) k))
  step k acc := by
    have e : ∀ n, from0 f8 (fun k => (st3 c i arg2 harg2 arg3 harg3 arg4 harg4 arg5 harg5 arg6 harg6 arg7 harg7 arg8 harg8 arg9 harg9 arg10 harg10 x0 x1 x2 x3 v5 v6 v8 v120 (f8, init) k).1) n = (st3 c i arg2 harg2 arg3 harg3 arg4 harg4 arg5 harg5 arg6 harg6 arg7 harg7 arg8 harg8 arg9 harg9 arg10 harg10 x0 x1 x2 x3 v5 v6 v8 v120 (f8, init) n).1 :=
      congrFun (from0_eq (fun k => (st3 c i arg2 harg2 arg3 harg3 arg4 harg4 arg5 harg5 arg6 harg6 arg7 harg7 arg8 harg8 arg9 harg9 arg10 harg10 x0 x1 x2 x3 v5 v6 v8 v120 (f8, init) k).1) (by simp only [st3]))
    rw [e, e, st3_succ]
    iintro ⟨%h, H⟩
    subst h
    iapply (trip3 c i arg2 harg2 arg3 harg3 arg4 harg4 arg5 harg5 arg6 harg6 arg7 harg7 arg8 harg8 arg9 harg9 arg10 harg10 x0 x1 x2 x3 v5 v6 v8 v120 k (st3 c i arg2 harg2 arg3 harg3 arg4 harg4 arg5 harg5 arg6 harg6 arg7 harg7 arg8 harg8 arg9 harg9 arg10 harg10 x0 x1 x2 x3 v5 v6 v8 v120 (f8, init) k.val).1 (st3 c i arg2 harg2 arg3 harg3 arg4 harg4 arg5 harg5 arg6 harg6 arg7 harg7 arg8 harg8 arg9 harg9 arg10 harg10 x0 x1 x2 x3 v5 v6 v8 v120 (f8, init) k.val).2).2 E
    iexact H

/-- What `k` trips of the loop leave, from `s`. -/
def st1 (arg1 : BitVec 32) (v5 v6 v8 : FVec F S512x128 .bf16) (v9 : FVec F S512x128 .f32) (v11 : BitVec 32) (v44 v50 v51 v69 v75 v76 : FVec F S512x128 .f32) (v93 : BitVec 32) (s : Buf (Elt F) (arg8.view.loc (c : Thread nD τ)) × Acc F) :
    ℕ → Buf (Elt F) (arg8.view.loc (c : Thread nD τ)) × Acc F
  | 0 => s
  | k + 1 => if h : k < (k0_t1_loop i).trips then
      (trip1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 ⟨k, h⟩ (st1 arg1 v5 v6 v8 v9 v11 v44 v50 v51 v69 v75 v76 v93 s k).1 (st1 arg1 v5 v6 v8 v9 v11 v44 v50 v51 v69 v75 v76 v93 s k).2).1 else st1 arg1 v5 v6 v8 v9 v11 v44 v50 v51 v69 v75 v76 v93 s k

theorem st1_succ (arg1 : BitVec 32) (v5 v6 v8 : FVec F S512x128 .bf16) (v9 : FVec F S512x128 .f32) (v11 : BitVec 32) (v44 v50 v51 v69 v75 v76 : FVec F S512x128 .f32) (v93 : BitVec 32) (s : Buf (Elt F) (arg8.view.loc (c : Thread nD τ)) × Acc F) (k : Fin (k0_t1_loop i).trips) :
    st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 s (k.val + 1)
      = (trip1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 k (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 s k.val).1 (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 s k.val).2).1 := by
  rw [st1, dif_pos k.isLt]

set_option warn.classDefReducibility false in
/-- The loop's invariant: before trip `k` the carried sums and the accumulated block are what `k` trips have left. -/
@[sl_loop] def loopInv1 (arg1 : BitVec 32) (v5 v6 v8 : FVec F S512x128 .bf16) (v9 : FVec F S512x128 .f32) (v11 : BitVec 32) (v44 v50 v51 v69 v75 v76 : FVec F S512x128 .f32) (v93 : BitVec 32) (E : Set ℕ) (f8 : Buf (Elt F) (arg8.view.loc (c : Thread nD τ))) (init : Acc F) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg1 v5 v6 v8 v9 v11 v44 v50 v51 v69 v75 v76 v93 init where
  inv k acc := iprop(⌜acc = (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) k).2⌝
    ∗ Held c arg2 harg2 arg3 harg3 arg4 harg4 arg5 harg5 arg8 x0 x1 x2 x3 (from0 f8 (fun k => (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) k).1) k))
  step k acc := by
    have e : ∀ n, from0 f8 (fun k => (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) k).1) n = (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) n).1 :=
      congrFun (from0_eq (fun k => (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) k).1) (by simp only [st1]))
    rw [e, e, st1_succ]
    iintro ⟨%h, H⟩
    subst h
    iapply (trip1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 k (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) k.val).1 (st1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 (f8, init) k.val).2).2 E
    iexact H

set_option warn.classDefReducibility false in
/-- A loop without a trip leaves everything as it found it. -/
@[sl_loop] def loopInv2 (arg1 : BitVec 32) (v5 v6 v8 : FVec F S512x128 .bf16) (v9 : FVec F S512x128 .f32) (v11 : BitVec 32) (v44 v50 v51 v69 v75 v76 : FVec F S512x128 .f32) (v93 : BitVec 32) (v116 : BitVec 32) (E : Set ℕ) (f8 : Buf (Elt F) (arg8.view.loc (c : Thread nD τ))) (init : Acc F) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg1 v5 v6 v8 v9 v11 v44 v50 v51 v69 v75 v76 v93 v116 init where
  inv _ acc := iprop(⌜acc = init⌝ ∗ Held c arg2 harg2 arg3 harg3 arg4 harg4 arg5 harg5 arg8 x0 x1 x2 x3 f8)
  step k _ := (Nat.not_lt_zero _ (Nat.lt_of_lt_of_eq k.isLt (trips2 i))).elim

set_option warn.classDefReducibility false in
/-- A loop without a trip leaves everything as it found it. -/
@[sl_loop] def loopInv4 (v5 v6 v8 : FVec F S512x128 .bf16) (v125 : BitVec 32) (E : Set ℕ) (f8 : Buf (Elt F) (arg8.view.loc (c : Thread nD τ))) (init : Acc F) :
    LoopInvTy_k0_t4 (F := F) Unit ℕ (UR sig nD τ) ℕ Variants.none c none E i arg2 harg2 arg3 harg3 arg4 harg4 arg5 harg5 arg6 harg6 arg7 harg7 arg8 harg8 arg9 harg9 arg10 harg10 v5 v6 v8 v125 init where
  inv _ acc := iprop(⌜acc = init⌝ ∗ Held c arg2 harg2 arg3 harg3 arg4 harg4 arg5 harg5 arg8 x0 x1 x2 x3 f8)
  step k _ := (Nat.not_lt_zero _ (Nat.lt_of_lt_of_eq k.isLt (trips4 i))).elim

end Trips

/-! ## The body -/

/-- The point is its pair's first: its tile of keys is tile 0. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 := by decide +kernel

set_option backward.proofsInPublic true in
set_option maxHeartbeats 4000000 in
/-- The body at a later tile of keys, over what the tiles before have accumulated: what it leaves in the accumulated block, and the stores it makes into the two other results. -/
def kernelRunB (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (hc0 : ¬cond0 i)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) (xo : Vec F S8192x256 .f32) :
    Σ' (R8 : Buf (Elt F) (arg8.view.loc (c : Thread nD τ))), Σ' (L9 : List (View.Piece (Elt F) S512x256 .f32)), { L10 : List (View.Piece (Elt F) S512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ owns (c : Thread nD τ) arg8 fullShare xo ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (arg8.view.loc (c : Thread nD τ) ↦[arg8.view.set]{fullShare} R8)
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10)) -∗ K ⟨⟩))
          ⊢ wp frame (wpE (defs₀ (F := F)) Variants.none (c : Thread nD τ) none) E (cc0_flash_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_flash_bwd_eq_skeleton]; unfold cc0_flash_bwd_skel
    simp only [k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexact H8
    isplitl [H9]; · iexists _; iexact H9
    iexists _; iexact H10

set_option backward.proofsInPublic true in
set_option maxHeartbeats 4000000 in
/-- The body at a pair's first tile of keys, where the accumulated block is zeroed first: what it leaves in the accumulated block, and the stores it makes into the two other results. -/
def kernelRunA (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (hc0 : cond0 i)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) :
    Σ' (R8 : Buf (Elt F) (arg8.view.loc (c : Thread nD τ))), Σ' (L9 : List (View.Piece (Elt F) S512x256 .f32)), { L10 : List (View.Piece (Elt F) S512x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (arg8.view.loc (c : Thread nD τ) ↦[arg8.view.set]{fullShare} R8)
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10)) -∗ K ⟨⟩))
          ⊢ wp frame (wpE (defs₀ (F := F)) Variants.none (c : Thread nD τ) none) E (cc0_flash_bwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_flash_bwd_eq_skeleton]; unfold cc0_flash_bwd_skel
    simp only [k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H8]; · iexact H8
    isplitl [H9]; · iexists _; iexact H9
    iexists _; iexact H10

end Cert.FlashBwdIdeal.Hand

end
-- ==== Proof.FlashFrame.lean ====
/- The attention backward kernel over its whole grid: three pairs of heads, and for each the sixteen tiles of keys in
   order. The block that accumulates the gradient of the queries is zeroed at a pair's first tile and carried from one
   tile to the next; the two other results are written afresh at every point. -/
module

public import proofs.«01_k».proof.Proof.FlashRun
public import Idealize.ShloMosaic.Lib.Claim

@[expose] public section

set_option maxRecDepth 16384

noncomputable section

namespace Cert.FlashBwdIdeal.Hand

open Cert.FlashBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The results' pieces cover their blocks -/

theorem coverA9 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (hc0 : cond0 i)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) (y : S512x256.Idx) :
    ∃ pc ∈ (kernelRunA c i arg2 harg2 arg3 harg3 arg4 harg4 arg5 harg5 arg6 harg6 arg7 harg7 arg8 harg8 arg9 harg9 arg10 harg10 hc0 x0 x1 x2 x3 x4 x5).2.1, y ∈ pc.1.set :=
  View.cover_of_tiledL (s := S512x256) (kernelRunA c i arg2 harg2 arg3 harg3 arg4 harg4 arg5 harg5 arg6 harg6 arg7 harg7 arg8 harg8 arg9 harg9 arg10 harg10 hc0 x0 x1 x2 x3 x4 x5).2.1 ![512, 128] (by sl_kernel_rfl) y
theorem coverA10 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (hc0 : cond0 i)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) (y : S512x128.Idx) :
    ∃ pc ∈ (kernelRunA c i arg2 harg2 arg3 harg3 arg4 harg4 arg5 harg5 arg6 harg6 arg7 harg7 arg8 harg8 arg9 harg9 arg10 harg10 hc0 x0 x1 x2 x3 x4 x5).2.2.1, y ∈ pc.1.set :=
  View.cover_of_tiledL (s := S512x128) (kernelRunA c i arg2 harg2 arg3 harg3 arg4 harg4 arg5 harg5 arg6 harg6 arg7 harg7 arg8 harg8 arg9 harg9 arg10 harg10 hc0 x0 x1 x2 x3 x4 x5).2.2.1 ![512, 128] (by sl_kernel_rfl) y
theorem coverB9 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (hc0 : ¬cond0 i)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) (xo : Vec F S8192x256 .f32) (y : S512x256.Idx) :
    ∃ pc ∈ (kernelRunB c i arg2 harg2 arg3 harg3 arg4 harg4 arg5 harg5 arg6 harg6 arg7 harg7 arg8 harg8 arg9 harg9 arg10 harg10 hc0 x0 x1 x2 x3 x4 x5 xo).2.1, y ∈ pc.1.set :=
  View.cover_of_tiledL (s := S512x256) (kernelRunB c i arg2 harg2 arg3 harg3 arg4 harg4 arg5 harg5 arg6 harg6 arg7 harg7 arg8 harg8 arg9 harg9 arg10 harg10 hc0 x0 x1 x2 x3 x4 x5 xo).2.1 ![512, 128] (by sl_kernel_rfl) y
theorem coverB10 (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole) (hc0 : ¬cond0 i)
    (x0 : Vec F S8192x256 .bf16) (x1 : Vec F S8192x128 .bf16) (x2 : Vec F S1x16x8x512 .f32) (x3 : Vec F S1x16x8x512 .f32) (x4 : Vec F S512x256 .bf16) (x5 : Vec F S512x128 .bf16) (xo : Vec F S8192x256 .f32) (y : S512x128.Idx) :
    ∃ pc ∈ (kernelRunB c i arg2 harg2 arg3 harg3 arg4 harg4 arg5 harg5 arg6 harg6 arg7 harg7 arg8 harg8 arg9 harg9 arg10 harg10 hc0 x0 x1 x2 x3 x4 x5 xo).2.2.1, y ∈ pc.1.set :=
  View.cover_of_tiledL (s := S512x128) (kernelRunB c i arg2 harg2 arg3 harg3 arg4 harg4 arg5 harg5 arg6 harg6 arg7 harg7 arg8 harg8 arg9 harg9 arg10 harg10 hc0 x0 x1 x2 x3 x4 x5 xo).2.2.1 ![512, 128] (by sl_kernel_rfl) y

/-! ## Point by point -/

abbrev ms0 (t : Fin cfg0.N) : Memref sig .tc .vmem S8192x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x128 .bf16 := win0_8.stage (cfg0.slots t 8)
abbrev hs8 (t : Fin cfg0.N) : (ms8 t).IsWhole := hstage0_8 ((cfg0.slots t 8).cast nbuf0_8)

variable (m : (ℓ : Loc nD τ sig) → Buf (Elt F) ℓ) (ρ : Dev nD → PrngReg)

/-- What the body leaves in the three results' blocks at a pair's first point, -/
def outA (c : Dev nD) (t : Fin cfg0.N) (h : t.val % 16 = 0) : Vec F S8192x256 .f32 × Vec F S512x256 .f32 × Vec F S512x128 .bf16 :=
  ((ms6 t).view.read (Elt F) (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond0 t).mpr h) (iblk m c 0 t) (iblk m c 1 t) (iblk m c 2 t) (iblk m c 3 t) (iblk m c 4 t) (iblk m c 5 t)).1,
    (ms7 t).view.read (Elt F) ((ms7 t).view.writes (Elt F) (ms7 t).view.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond0 t).mpr h) (iblk m c 0 t) (iblk m c 1 t) (iblk m c 2 t) (iblk m c 3 t) (iblk m c 4 t) (iblk m c 5 t)).2.1),
    (ms8 t).view.read (Elt F) ((ms8 t).view.writes (Elt F) (ms8 t).view.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond0 t).mpr h) (iblk m c 0 t) (iblk m c 1 t) (iblk m c 2 t) (iblk m c 3 t) (iblk m c 4 t) (iblk m c 5 t)).2.2.1))
/-- and at a later one, over what the accumulated block holds. -/
def outB (c : Dev nD) (t : Fin cfg0.N) (h : ¬t.val % 16 = 0) (xo : Vec F S8192x256 .f32) : Vec F S8192x256 .f32 × Vec F S512x256 .f32 × Vec F S512x128 .bf16 :=
  ((ms6 t).view.read (Elt F) (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h' => h ((hcond0 t).mp h')) (iblk m c 0 t) (iblk m c 1 t) (iblk m c 2 t) (iblk m c 3 t) (iblk m c 4 t) (iblk m c 5 t) xo).1,
    (ms7 t).view.read (Elt F) ((ms7 t).view.writes (Elt F) (ms7 t).view.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h' => h ((hcond0 t).mp h')) (iblk m c 0 t) (iblk m c 1 t) (iblk m c 2 t) (iblk m c 3 t) (iblk m c 4 t) (iblk m c 5 t) xo).2.1),
    (ms8 t).view.read (Elt F) ((ms8 t).view.writes (Elt F) (ms8 t).view.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h' => h ((hcond0 t).mp h')) (iblk m c 0 t) (iblk m c 1 t) (iblk m c 2 t) (iblk m c 3 t) (iblk m c 4 t) (iblk m c 5 t) xo).2.2.1))

/-- What the three blocks hold after point `n`. -/
def outsAt (c : Dev nD) : (n : ℕ) → n < cfg0.N → Vec F S8192x256 .f32 × Vec F S512x256 .f32 × Vec F S512x128 .bf16
  | 0, hn => outA m c ⟨0, hn⟩ (Nat.zero_mod _)
  | n + 1, hn =>
    if h : (n + 1) % 16 = 0 then outA m c ⟨n + 1, hn⟩ h
    else outB m c ⟨n + 1, hn⟩ h (outsAt c n (Nat.lt_of_succ_lt hn)).1

theorem outsAt_A (c : Dev nD) (t : Fin cfg0.N) (h : t.val % 16 = 0) : outsAt m c t.val t.isLt = outA m c t h := by
  obtain ⟨n, hn⟩ := t
  cases n with
  | zero => rfl
  | succ k => exact dif_pos h
theorem outsAt_B (c : Dev nD) (t : Fin cfg0.N) (h : ¬t.val % 16 = 0) :
    outsAt m c t.val t.isLt = outB m c t h (outsAt m c (t.val - 1) (Nat.lt_of_le_of_lt (Nat.sub_le _ _) t.isLt)).1 := by
  obtain ⟨n, hn⟩ := t
  cases n with
  | zero => exact absurd rfl h
  | succ k => exact dif_neg h

/-- The pipeline's data: the arrays as the launch leaves them, the inputs' blocks untouched by the body. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2.1 := by dsimp only [dats]
theorem after8 (c : Dev nD) (t : Fin cfg0.N) : (dats m 0 c).after 8 t = (outsAt m c t.val t.isLt).2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- Within a pair the accumulated block is what the point before has left. -/
theorem before6_B (c : Dev nD) (t : Fin cfg0.N) (h : ¬t.val % 16 = 0) (d) :
    (dats m 0 c).before 6 t d = (outsAt m c (t.val - 1) (Nat.lt_of_le_of_lt (Nat.sub_le _ _) t.isLt)).1 := by
  have hN : t.val < 48 := lt_of_lt_of_eq t.isLt (show cfg0.N = 48 from N_0)
  rw [Dat.before_out_kept _ 6 rfl t (by omega) (Bool.eq_false_iff.mpr fun h => by have := (flush0_6 _).mp h; dsimp only at this; omega)
    (fun _ => rfl) (fun _ _ => rfl)]
  dsimp only [dats]

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- and what it leaves. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 4000000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h : t.val % 16 = 0
  · rw [outsAt_A m c t h]
    unfold outA; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunA c (grid0.coords t) _ _ _ _ _ _ _ _ _ _ _ _ _ _ _ _ _ _ ((hcond0 t).mpr h) (iblk m c 0 t) (iblk m c 1 t) (iblk m c 2 t) (iblk m c 3 t) (iblk m c 4 t) (iblk m c 5 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rfl
    isplitl [H7]
    · unfold owns; iexists _; isplitr
      swap; · iexact H7
      ipureintro; exact View.read_writes_of_cover _ _ _ _ _ (coverA9 c _ _ _ _ _ _ _ _ _ _ _ _ _ _ _ _ _ _ _ _ _ _ _ _ _ _)
    unfold owns; iexists _; isplitr
    swap; · iexact H8
    ipureintro; exact View.read_writes_of_cover _ _ _ _ _ (coverA10 c _ _ _ _ _ _ _ _ _ _ _ _ _ _ _ _ _ _ _ _ _ _ _ _ _ _)
  · rw [outsAt_B m c t h]
    simp only [before6_B m c t h]
    unfold outB; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) _ _ _ _ _ _ _ _ _ _ _ _ _ _ _ _ _ _ (fun h' => h ((hcond0 t).mp h')) (iblk m c 0 t) (iblk m c 1 t) (iblk m c 2 t) (iblk m c 3 t) (iblk m c 4 t) (iblk m c 5 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rfl
    isplitl [H7]
    · unfold owns; iexists _; isplitr
      swap; · iexact H7
      ipureintro; exact View.read_writes_of_cover _ _ _ _ _ (coverB9 c _ _ _ _ _ _ _ _ _ _ _ _ _ _ _ _ _ _ _ _ _ _ _ _ _ _ _)
    unfold owns; iexists _; isplitr
    swap; · iexact H8
    ipureintro; exact View.read_writes_of_cover _ _ _ _ _ (coverB10 c _ _ _ _ _ _ _ _ _ _ _ _ _ _ _ _ _ _ _ _ _ _ _ _ _ _ _)

theorem row (t : Fin cfg0.N) : defs₀ (F := F) .tc cfg0.body (cfg0.bodyArgs t (cfg0.slots t)) = bodyAt0 t := by
  unfold defs₀; rw [Defs.onTc_tc]
theorem obligation (c : Dev nD) : BodyObligation (dats (F := F) m 0 c) (defs₀ (F := F)) Variants.none () Set.univ := fun t => by
  rw [bigSep_W0, bigSep_W0, row]
  exact triple_restated (sound_body m c t) rfl .rfl fun _ => .rfl

/-! ## The run and the frame -/

-- the implicit arguments are found by unifying the conclusion, through plain definitions in a metavariable's type
set_option backward.isDefEq.respectTransparency.types false in
/-- Every weakly fair execution ends, with the arrays as the pipeline's data say and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)
theorem run_main : θ_run defs (onTc (τ := τ) (main (F := F))) (s₀ m ρ) (Pipeline.FramePost cfgs (dats m) 0 (V m)) :=
  (θ_run defs _ _).mono (fun _ h => h.1) (run_quiescent m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.FlashBwdIdeal.Hand

end
-- ==== Proof.FlashStep.lean ====
/-
  One tile of queries against one tile of keys in the attention's gradient: what the kernel's region computes of it,
  as real tables, for the tile on the diagonal (masked) and for a tile below it.
-/
module
public import proofs.«01_k».proof.Proof.Tables
public import proofs.«01_k».proof.Proof.FlashFrame
@[expose] public section
set_option maxRecDepth 16384
noncomputable section
open Cert.Reals Cert.Tables Idealize.ShloMosaic Idealize.ShloMosaic.TcCoe Idealize.SL.Sem
namespace Cert.Flash
/-- Scores of a tile: row `j` of keys against row `t` of queries. -/
def sc (A B : ℕ → ℕ → ℝ) (j t : ℕ) : ℝ := ∑ c : Fin 128, A j c.val * B t c.val
/-- Weights: two to the score less the query's logarithm, -/
def pt (A B : ℕ → ℕ → ℝ) (L : ℕ → ℝ) (j t : ℕ) : ℝ := Real.rpow 2 (sc A B j t - L t)
/-- nothing where the query comes before the key. -/
def ptm (A B : ℕ → ℕ → ℝ) (L : ℕ → ℝ) (j t : ℕ) : ℝ := if j ≤ t then pt A B L j t else 0
/-- The columns of one of the two heads. -/
def lo (G : ℕ → ℕ → ℝ) (t c : ℕ) : ℝ := if c < 64 then G t c else 0
def hi (G : ℕ → ℕ → ℝ) (t c : ℕ) : ℝ := if c < 64 then 0 else G t c
/-- The scores' gradient, for weights `P`. -/
def ds (P V G : ℕ → ℕ → ℝ) (D : ℕ → ℝ) (j t : ℕ) : ℝ := P j t * (sc V G j t - D t)
/-- Products with a tile, over its columns and over its rows. -/
def mm (X Y : ℕ → ℕ → ℝ) (j c : ℕ) : ℝ := ∑ t : Fin 512, X j t.val * Y t.val c
def md (X Y : ℕ → ℕ → ℝ) (t c : ℕ) : ℝ := ∑ j : Fin 512, X j.val t * Y j.val c
end Cert.Flash

namespace Cert.FlashBwdIdeal.Step
open Cert.FlashBwdIdeal.Gen Cert.FlashBwdIdeal.Hand Cert.Flash
variable (A B V G Q W : ℕ → ℕ → ℝ) (L D : ℕ → ℝ)

theorem pay159_eq : (k0_pay159 (F := Ideal) (nm G) : Vec Ideal S512x128 .bf16) = nm G := by
  funext j; idx_vars j; pointwise [k0_pay159]
theorem select_sge {α : Type} (l k : ℕ) (a b : α) (hl : l < 2 ^ 31) (hk : k < 2 ^ 31) :
    Scalar.select (IntOp.cmpi .sge (BitVec.ofNat 32 l) (BitVec.ofNat 32 k)) a b = if l < k then b else a := by
  have e : IntOp.cmpi .sge (BitVec.ofNat 32 l) (BitVec.ofNat 32 k) = BitVec.ofBool (decide (k ≤ l)) := by
    show BitVec.ofBool ((BitVec.ofNat 32 k).sle (BitVec.ofNat 32 l)) = _
    rw [BitVec.sle_eq_decide, toInt_ofNat l hl, toInt_ofNat k hk]
    congr 1
    exact decide_eq_decide.2 (by omega)
  rw [e]
  by_cases h : l < k
  · rw [if_pos h, decide_eq_false (by omega)]; rfl
  · rw [if_neg h, decide_eq_true (by omega)]; rfl
theorem select_sle {α : Type} (l k : ℕ) (a b : α) (hl : l < 2 ^ 31) (hk : k < 2 ^ 31) :
    Scalar.select (IntOp.cmpi .sle (BitVec.ofNat 32 l) (BitVec.ofNat 32 k)) a b = if l ≤ k then a else b := by
  have e : IntOp.cmpi .sle (BitVec.ofNat 32 l) (BitVec.ofNat 32 k) = BitVec.ofBool (decide (l ≤ k)) := by
    show BitVec.ofBool ((BitVec.ofNat 32 l).sle (BitVec.ofNat 32 k)) = _
    rw [BitVec.sle_eq_decide, toInt_ofNat l hl, toInt_ofNat k hk]
    congr 1
    exact decide_eq_decide.2 (by omega)
  rw [e]
  by_cases h : l ≤ k
  · rw [if_pos h, decide_eq_true h]; rfl
  · rw [if_neg h, decide_eq_false h]; rfl

theorem pay160_eq : (k0_pay160 (F := Ideal) (nm G) : Vec Ideal S512x128 .bf16) = nm (lo G) := by
  unfold k0_pay160; rw [pay159_eq]
  funext j; idx_vars j; pointwise []
  rw [select_slt j1.val 64 _ _ (by omega) (by omega)]
  simp only [nm_apply, lo]; split <;> rfl
theorem pay161_eq : (k0_pay161 (F := Ideal) (nm G) : Vec Ideal S512x128 .bf16) = nm (hi G) := by
  unfold k0_pay161; rw [pay159_eq]
  funext j; idx_vars j; pointwise []
  rw [select_sge j1.val 64 _ _ (by omega) (by omega)]
  simp only [nm_apply, hi]; split <;> rfl
theorem pay162_eq : (k0_pay162 (F := Ideal) (nm Q) : Vec Ideal S512x128 .bf16) = nm Q := by
  funext j; idx_vars j; pointwise [k0_pay162, k0_pay158]; rfl
theorem pay168_eq : (k0_pay168 (F := Ideal) (nm Q) : Vec Ideal S512x128 .bf16) = nm fun t c => Q t (128 + c) := by
  funext j; idx_vars j; pointwise [k0_pay168, k0_pay158]; rfl
theorem pay163_eq : (k0_pay163 (F := Ideal) (nm A) (nm Q) (nq fun _ _ _ t => L t) : Vec Ideal S512x512 .f32) = nm (pt A Q L) := by
  unfold k0_pay163; rw [pay162_eq]
  funext j; idx_vars j; pointwise []
  simp only [nm_apply, nq_apply, ← EReal.coe_mul, sum_coe, ← EReal.coe_sub]
  rfl
theorem pay1_eq : (k0_pay1 (F := Ideal) (nm A) (nm B) (nq fun _ _ _ t => L t) : Vec Ideal S512x512 .f32) = nm (pt A B L) := by
  funext j; idx_vars j; pointwise [k0_pay1]
  simp only [nm_apply, nq_apply, ← EReal.coe_mul, sum_coe, ← EReal.coe_sub]
  rfl
theorem pay2_eq : (k0_pay2 (F := Ideal) (nm A) (nm V) (nm G) (nm B) (nq fun _ _ _ t => L t) (nq fun _ _ _ t => D t) : Vec Ideal S512x512 .bf16)
    = nm (ds (pt A B L) V G D) := by
  unfold k0_pay2; rw [pay1_eq]
  funext j; idx_vars j; pointwise []
  simp only [nm_apply, nq_apply, ← EReal.coe_mul, sum_coe, ← EReal.coe_sub]
  rfl
theorem pay165_eq : (k0_pay165 (F := Ideal) (nm A) (nm V) (nm Q) (nm G) (nq fun _ _ _ t => L t) (nq fun _ _ _ t => D t) : Vec Ideal S512x512 .bf16)
    = nm (ds (pt A Q L) V (lo G) D) := by
  unfold k0_pay165; rw [pay163_eq, pay160_eq]
  funext j; idx_vars j; pointwise []
  simp only [nm_apply, nq_apply, ← EReal.coe_mul, sum_coe, ← EReal.coe_sub]
  rfl
theorem pay164_eq : (k0_pay164 (F := Ideal) (nm A) (nm Q) (nm G) (nq fun _ _ _ t => L t) : Vec Ideal S512x128 .f32)
    = nm (mm (pt A Q L) (lo G)) := by
  unfold k0_pay164; rw [pay163_eq, pay160_eq]
  funext j; idx_vars j; pointwise []
  simp only [nm_apply, ← EReal.coe_mul, sum_coe, mm]
theorem pay166_eq : (k0_pay166 (F := Ideal) (nm A) (nm V) (nm Q) (nm G) (nq fun _ _ _ t => L t) (nq fun _ _ _ t => D t) : Vec Ideal S512x128 .f32)
    = nm (mm (ds (pt A Q L) V (lo G) D) Q) := by
  unfold k0_pay166; rw [pay165_eq, pay162_eq]
  funext j; idx_vars j; pointwise []
  simp only [nm_apply, ← EReal.coe_mul, sum_coe, mm]
theorem pay167_eq : (k0_pay167 (F := Ideal) (nm A) (nm V) (nm Q) (nm G) (nq fun _ _ _ t => L t) (nq fun _ _ _ t => D t) : Vec Ideal S512x128 .f32)
    = nm (md (ds (pt A Q L) V (lo G) D) A) := by
  unfold k0_pay167; rw [pay165_eq]
  funext j; idx_vars j; pointwise []
  simp only [nm_apply, ← EReal.coe_mul, sum_coe, md]
theorem pay3_eq : (k0_pay3 (F := Ideal) (nm W) (nm Q) : Vec Ideal S512x128 .f32) = nm fun t c => Q t c + W t c := by
  funext j; idx_vars j; pointwise [k0_pay3]
  simp only [nm_apply, ← EReal.coe_add]
theorem pay4_eq : (k0_pay4 (F := Ideal) (nm A) (nm V) (nm G) (nm B) (nq fun _ _ _ t => L t) (nq fun _ _ _ t => D t) (nm W) : Vec Ideal S512x128 .f32)
    = nm fun t c => W t c + md (ds (pt A B L) V G D) A t c := by
  unfold k0_pay4; rw [pay2_eq]
  funext j; idx_vars j; pointwise []
  simp only [nm_apply, ← EReal.coe_mul, sum_coe, ← EReal.coe_add, md]
theorem pay5_eq : (k0_pay5 (F := Ideal) (nm Q) (nm W) : Vec Ideal S512x128 .f32) = nm fun t c => Q t c + W t c := by
  funext j; idx_vars j; pointwise [k0_pay5]
  simp only [nm_apply, ← EReal.coe_add]
theorem pay6_eq : (k0_pay6 (F := Ideal) (nm A) (nm V) (nm W) (nm G) (nm B) (nq fun _ _ _ t => L t) (nq fun _ _ _ t => D t) : Vec Ideal S512x128 .f32)
    = nm fun j c => W j c + mm (ds (pt A B L) V G D) B j c := by
  unfold k0_pay6; rw [pay2_eq]
  funext j; idx_vars j; pointwise []
  simp only [nm_apply, ← EReal.coe_mul, sum_coe, ← EReal.coe_add, mm]
theorem pay7_eq : (k0_pay7 (F := Ideal) (nm A) (nm W) (nm G) (nm Q) (nm B) (nq fun _ _ _ t => L t) : Vec Ideal S512x128 .f32)
    = nm fun j c => W j c + Q j c + mm (pt A B L) G j c := by
  unfold k0_pay7; rw [pay1_eq]
  funext j; idx_vars j; pointwise []
  simp only [nm_apply, ← EReal.coe_mul, sum_coe, ← EReal.coe_add, mm]

/-! ### The tile on the diagonal -/
theorem mask_eq : (Named.named κ "mask" (φ := .f32) 0xF149F2CA#32 : Ideal .f32) = (⊥ : EReal) := rfl
theorem ln_2_eq : (Named.named κ "ln_2" (φ := .f32) 0x3F317218#32 : Ideal .f32) = ((Real.log 2 : ℝ) : EReal) := rfl
/-- A masked weight: nothing where the score is minus infinity. -/
theorem exp2_mask (j t : ℕ) (s l : ℝ) : (FloatOps.exp2 (F := Ideal) (φ := .f32) ((if j ≤ t then ((s : ℝ) : EReal) else ⊥) - ((l : ℝ) : EReal)) : EReal)
    = (((if j ≤ t then Real.rpow 2 (s - l) else 0) : ℝ) : EReal) := by
  by_cases h : j ≤ t
  · rw [if_pos h, if_pos h, ← EReal.coe_sub]; rfl
  · rw [if_neg h, if_neg h, EReal.bot_sub]; rfl
theorem pay182_eq : (k0_pay182 (F := Ideal) (nm Q) : Vec Ideal S512x128 .bf16) = nm Q := by
  funext j; idx_vars j; pointwise [k0_pay182, k0_pay181]; rfl
theorem pay183_eq : (k0_pay183 (F := Ideal) (nm Q) : Vec Ideal S512x128 .bf16) = nm fun t c => Q t (128 + c) := by
  funext j; idx_vars j; pointwise [k0_pay183, k0_pay181]; rfl
theorem pay184_eq : (k0_pay184 (F := Ideal) (nm G) : Vec Ideal S512x128 .bf16) = nm G := by
  funext j; idx_vars j; pointwise [k0_pay184]
theorem pay185_eq : (k0_pay185 (F := Ideal) : Vec Ideal S512x128 .f32) = nm fun _ _ => 0 := by
  funext j; idx_vars j; pointwise [k0_pay185]; rfl
theorem pay186_eq : (k0_pay186 (F := Ideal) (nm Q) : Vec Ideal S512x256 .bf16) = nm Q := by
  funext j; idx_vars j; pointwise [k0_pay186]
theorem pay188_eq : (k0_pay188 (F := Ideal) (nm G) : Vec Ideal S512x128 .bf16) = nm (lo G) := pay160_eq G
theorem pay189_eq : (k0_pay189 (F := Ideal) (nm G) : Vec Ideal S512x128 .bf16) = nm (hi G) := pay161_eq G
theorem pay190_eq : (k0_pay190 (F := Ideal) (nm Q) : Vec Ideal S512x128 .bf16) = nm Q := pay162_eq Q
theorem pay191_eq : (k0_pay191 (F := Ideal) (nq fun _ _ _ t => L t) : Vec Ideal S1x512 .f32) = nm fun _ t => L t := by
  funext j; idx_vars j; pointwise [k0_pay191]; rfl
theorem pay192_eq : (k0_pay192 (F := Ideal) (nq fun _ _ _ t => L t) : Vec Ideal S1x512 .f32) = nm fun _ t => L t := pay191_eq L
theorem pay193_eq : (k0_pay193 (F := Ideal) (nm A) (nm Q) : Vec Ideal S512x512 .f32) = nm (sc A Q) := by
  unfold k0_pay193; rw [pay182_eq, pay190_eq]
  funext j; idx_vars j; pointwise []
  simp only [nm_apply, ← EReal.coe_mul, sum_coe, sc]
theorem pay194_eq : (k0_pay194 (F := Ideal) (nm fun _ t => L t) (nm (sc A Q)) (iota .tc S512x512 32 [0] iota_S512x512_d0_w32) : Vec Ideal S512x512 .f32)
    = nm (ptm A Q L) := by
  funext j; idx_vars j; pointwise [k0_pay194]
  rw [select_sle j0.val j1.val _ _ (by omega) (by omega), mask_eq]
  simp only [nm_apply]
  exact exp2_mask _ _ _ _
theorem pay195_eq : (k0_pay195 (F := Ideal) (nm G) (nm fun _ t => L t) (nm (sc A Q)) (iota .tc S512x512 32 [0] iota_S512x512_d0_w32) : Vec Ideal S512x128 .f32)
    = nm (mm (ptm A Q L) G) := by
  unfold k0_pay195; rw [pay194_eq]
  funext j; idx_vars j; pointwise []
  simp only [nm_apply, ← EReal.coe_mul, sum_coe, mm]
theorem pay196_eq : (k0_pay196 (F := Ideal) (nm V) (nm G) (nm fun _ t => L t) (nm fun _ t => D t) (nm (sc A Q)) (iota .tc S512x512 32 [0] iota_S512x512_d0_w32) : Vec Ideal S512x512 .bf16)
    = nm (ds (ptm A Q L) V G D) := by
  unfold k0_pay196; rw [pay194_eq]
  funext j; idx_vars j; pointwise []
  simp only [nm_apply, ← EReal.coe_mul, sum_coe, ← EReal.coe_sub]
  rfl
theorem pay197_eq : (k0_pay197 (F := Ideal) (nm V) (nm G) (nm Q) (nm fun _ t => L t) (nm fun _ t => D t) (nm (sc A Q)) (iota .tc S512x512 32 [0] iota_S512x512_d0_w32) : Vec Ideal S512x128 .f32)
    = nm (mm (ds (ptm A Q L) V G D) Q) := by
  unfold k0_pay197; rw [pay196_eq]
  funext j; idx_vars j; pointwise []
  simp only [nm_apply, ← EReal.coe_mul, sum_coe, mm]
theorem pay198_eq : (k0_pay198 (F := Ideal) (nm A) (nm V) (nm G) (nm fun _ t => L t) (nm fun _ t => D t) (nm (sc A Q)) (iota .tc S512x512 32 [0] iota_S512x512_d0_w32) : Vec Ideal S512x128 .f32)
    = nm (md (ds (ptm A Q L) V G D) A) := by
  unfold k0_pay198; rw [pay196_eq]
  funext j; idx_vars j; pointwise []
  simp only [nm_apply, ← EReal.coe_mul, sum_coe, md]
theorem pay199_eq : (k0_pay199 (F := Ideal) (nm Q) : Vec Ideal S512x128 .bf16) = nm fun t c => Q t (128 + c) := by
  funext j; idx_vars j; pointwise [k0_pay199]; rfl
theorem pay200_eq : (k0_pay200 (F := Ideal) (nm A) (nm Q) (nq fun _ _ _ t => L t) : Vec Ideal S512x512 .f32)
    = nm (ptm A (fun t c => Q t (128 + c)) L) := by
  unfold k0_pay200; rw [pay199_eq]
  funext j; idx_vars j; pointwise []
  rw [select_sle j0.val j1.val _ _ (by omega) (by omega), mask_eq]
  simp only [nm_apply, nq_apply, ← EReal.coe_mul, sum_coe]
  exact exp2_mask _ _ _ _
theorem pay201_eq : (k0_pay201 (F := Ideal) (nm A) (nm Q) (nm G) (nq fun _ _ _ t => L t) : Vec Ideal S512x128 .f32)
    = nm (mm (ptm A (fun t c => Q t (128 + c)) L) G) := by
  unfold k0_pay201; rw [pay200_eq]
  funext j; idx_vars j; pointwise []
  simp only [nm_apply, ← EReal.coe_mul, sum_coe, mm]
theorem pay202_eq : (k0_pay202 (F := Ideal) (nm A) (nm V) (nm Q) (nm G) (nq fun _ _ _ t => L t) (nq fun _ _ _ t => D t) : Vec Ideal S512x512 .bf16)
    = nm (ds (ptm A (fun t c => Q t (128 + c)) L) V G D) := by
  unfold k0_pay202; rw [pay200_eq]
  funext j; idx_vars j; pointwise []
  simp only [nm_apply, nq_apply, ← EReal.coe_mul, sum_coe, ← EReal.coe_sub]
  rfl
theorem pay203_eq : (k0_pay203 (F := Ideal) (nm A) (nm V) (nm Q) (nm G) (nq fun _ _ _ t => L t) (nq fun _ _ _ t => D t) : Vec Ideal S512x128 .f32)
    = nm (mm (ds (ptm A (fun t c => Q t (128 + c)) L) V G D) fun t c => Q t (128 + c)) := by
  unfold k0_pay203; rw [pay202_eq, pay199_eq]
  funext j; idx_vars j; pointwise []
  simp only [nm_apply, ← EReal.coe_mul, sum_coe, mm]
theorem pay204_eq : (k0_pay204 (F := Ideal) (nm A) (nm V) (nm Q) (nm G) (nq fun _ _ _ t => L t) (nq fun _ _ _ t => D t) : Vec Ideal S512x128 .f32)
    = nm (md (ds (ptm A (fun t c => Q t (128 + c)) L) V G D) A) := by
  unfold k0_pay204; rw [pay202_eq]
  funext j; idx_vars j; pointwise []
  simp only [nm_apply, ← EReal.coe_mul, sum_coe, md]
theorem pay205_eq : (k0_pay205 (F := Ideal) (nm W) (nm Q) : Vec Ideal S512x128 .f32) = nm fun t c => Q t c + W t c := pay3_eq Q W
theorem pay206_eq : (k0_pay206 (F := Ideal) (nm W) (nm Q) : Vec Ideal S512x128 .f32) = nm fun t c => Q t c + W t c := pay3_eq Q W
theorem pay207_eq : (k0_pay207 (F := Ideal) (nm Q) (nm W) : Vec Ideal S512x128 .f32) = nm fun t c => Q t c + W t c := pay5_eq Q W
theorem pay208_eq : (k0_pay208 (F := Ideal) (nm Q) (nm W) : Vec Ideal S512x128 .f32) = nm fun t c => Q t c + W t c := pay5_eq Q W
theorem pay209_eq : (k0_pay209 (F := Ideal) (nm Q) (nm W) (nm G) : Vec Ideal S512x128 .f32) = nm fun t c => Q t c + W t c + G t c := by
  funext j; idx_vars j; pointwise [k0_pay209]
  simp only [nm_apply, ← EReal.coe_add]
theorem pay15_eq : (k0_pay15 (F := Ideal) (nm W) : Vec Ideal S512x128 .f32) = nm fun t c => W t c * Real.log 2 := by
  funext j; idx_vars j; pointwise [k0_pay15]
  rw [ln_2_eq, nm_apply, ← EReal.coe_mul]; rfl
theorem pay16_eq : (k0_pay16 (F := Ideal) (nm W) : Vec Ideal S512x128 .f32) = nm fun t c => W t c * Real.log 2 := pay15_eq W
theorem pay17_eq : (k0_pay17 (F := Ideal) (nm W) : Vec Ideal S512x128 .bf16) = nm W := by
  funext j; idx_vars j; pointwise [k0_pay17]
theorem pay180_eq : (k0_pay180 (F := Ideal) : Vec Ideal S8192x256 .f32) = nm fun _ _ => 0 := by
  funext j; idx_vars j; pointwise [k0_pay180]; rfl

end Cert.FlashBwdIdeal.Step
end
-- ==== Proof.FlashHost.lean ====
/-
  The causal attention and its gradient in reals, and the operations around the kernel's call as tables of them.
-/
module
public import proofs.«01_k».proof.Proof.FlashStep
public import proofs.«01_k».proof.Proof.Gen.FlashBwdRefIdeal
public import Idealize.ShloMosaic.PureOps.Reduce
public import Idealize.ShloMosaic.PureOps.Ideal.Laws
@[expose] public section
set_option maxRecDepth 16384
noncomputable section
open Cert.Reals Cert.Tables Idealize.ShloMosaic
namespace Cert.Flash

/-- The factor of the scores. -/
def att : ℝ := (8388608 + 5309932 : ℕ) * (2 : ℝ) ^ (-27 : ℤ)
theorem att_pos : 0 < att := by unfold att; positivity
theorem ofBits_att : Ideal.ofBits .f32 0x3DD105EC#32 = (att : EReal) := by
  simp [Ideal.ofBits, Ideal.ieee, att]
theorem ofBits_ninf : Ideal.ofBits .f32 0xFF800000#32 = ⊥ := by
  simp [Ideal.ofBits, Ideal.ieee]

variable (q k v : ℕ → ℕ → ℕ → ℝ) (g : ℕ → ℕ → ℝ) (T : ℕ → ℕ → ℝ)
/-- The score of query `r` and key `j` in head `h`, -/
def score (h r j : ℕ) : ℝ := (∑ c : Fin 96, q r h c.val * k j h c.val) * att
/-- its exponential less `T`'s, zero for a later key, and the sum of a query's; -/
def ex (h r j : ℕ) : ℝ := if j ≤ r then Real.exp (score q k h r j - T h r) else 0
def nrm (h r : ℕ) : ℝ := ∑ j : Fin 8192, ex q k T h r j.val
/-- the weight. -/
def wt (h r j : ℕ) : ℝ := ex q k (fun _ _ => 0) h r j / nrm q k (fun _ _ => 0) h r
/-- The gradient of the weight, its mean over a query's keys, and the gradient of the score. -/
def dw (h r j : ℕ) : ℝ := ∑ d : Fin 64, g r (64 * h + d.val) * v j h d.val
def mean (h r : ℕ) : ℝ := ∑ j : Fin 8192, wt q k h r j.val * dw v g h r j.val
def dsc (h r j : ℕ) : ℝ := wt q k h r j * (dw v g h r j - mean q k v g h r)

theorem ex_shift (h r j : ℕ) : ex q k T h r j = ex q k (fun _ _ => 0) h r j * Real.exp (-T h r) := by
  unfold ex
  split
  · rw [← Real.exp_add]; congr 1; ring
  · rw [zero_mul]
theorem nrm_shift (h r : ℕ) : nrm q k T h r = nrm q k (fun _ _ => 0) h r * Real.exp (-T h r) := by
  unfold nrm; rw [Finset.sum_mul]; exact Finset.sum_congr rfl fun j _ => ex_shift q k T h r j
theorem ex_nonneg (h r j : ℕ) : 0 ≤ ex q k T h r j := by unfold ex; split <;> positivity
theorem nrm_pos (h r : ℕ) : 0 < nrm q k T h r := by
  unfold nrm
  refine Finset.sum_pos' (fun j _ => ex_nonneg q k T h r j) ⟨⟨0, by omega⟩, Finset.mem_univ _, ?_⟩
  unfold ex; rw [if_pos (Nat.zero_le _)]; positivity
theorem ex_div_nrm (h r j : ℕ) : ex q k T h r j / nrm q k T h r = wt q k h r j := by
  rw [ex_shift, nrm_shift, mul_div_mul_right _ _ (Real.exp_pos _).ne', wt]

/-- A value per head and row, for the two heads of pair `p`. -/
def lp (L : ℕ → ℕ → ℝ) (p h r : ℕ) : ℝ := if h < 2 then L (2 * p + h) r else 0

/-- The greatest of a set of reals and `-∞`s, with a real among them, is a real. -/
theorem fold_max_real {ι : Type} (s : Finset ι) (f : ι → EReal) (h : ∀ i ∈ s, f i ≠ ⊤) (i : ι) (hi : i ∈ s) (hf : f i ≠ ⊥) :
    ∃ t : ℝ, s.fold max ⊥ f = (t : EReal) := by
  have h1 : s.sup f < ⊤ := (Finset.sup_lt_iff bot_lt_top).mpr fun x hx => lt_top_iff_ne_top.mpr (h x hx)
  have h2 : ⊥ < s.sup f := Finset.lt_sup_iff.mpr ⟨i, hi, bot_lt_iff_ne_bot.mpr hf⟩
  exact ⟨_, (EReal.coe_toReal h1.ne h2.ne').symm⟩
end Cert.Flash

namespace Cert.FlashBwdRefIdeal.Stages
open Cert.FlashBwdRefIdeal Cert.FlashBwdRefIdeal.Gen Cert.Flash
variable (q k v : ℕ → ℕ → ℕ → ℝ) (g : ℕ → ℕ → ℝ) (T : ℕ → ℕ → ℝ)

/-- The scores with the later keys at `-∞`. -/
def masked : FVec Ideal S6x8192x8192 .f32 := fun i => if (i 2).val ≤ (i 1).val then ((score q k (i 0).val (i 1).val (i 2).val : ℝ) : EReal) else ⊥
theorem masked_apply (h : Fin 6) (r j : Fin 8192) : masked q k (ix3 h r j) = if j.val ≤ r.val then ((score q k h.val r.val j.val : ℝ) : EReal) else ⊥ := rfl

theorem scores : (mulf (Host.dotGeneral (φ₁ := .f32) (φ₂ := .f32) dot_S8192x6x96_S8192x6x96_S6x8192x8192_2_2_0_0_1_1 none (nc q : FVec Ideal S8192x6x96 .f32) (nc k : FVec Ideal S8192x6x96 .f32) : FVec Ideal S6x8192x8192 .f32)
    (broadcastInDim S6x8192x8192 ![] bcast_S_S6x8192x8192 (constant S_ .f32 0x3DD105EC#32 : FVec Ideal S_ .f32)) : FVec Ideal S6x8192x8192 .f32) = nc (score q k) := by
  funext j; idx_vars j; pointwise []
  simp only [nc_apply, ofBits_att, ← EReal.coe_mul, sum_coe, score]

abbrev causal : IVec S6x8192x8192 1 := broadcastInDim S6x8192x8192 ![1, 2] bcast_S8192x8192_S6x8192x8192_1_2 (cmpi .sle (broadcastInDim S8192x8192 ![0, 1] bcast_S1x8192_S8192x8192_0_1 (broadcastInDim S1x8192 ![1] bcast_S8192_S1x8192_1 (iotaInDim S8192 32 0)))
  (broadcastInDim S8192x8192 ![0, 1] bcast_S8192x1_S8192x8192_0_1 (broadcastInDim S8192x1 ![0] bcast_S8192_S8192x1_0 (iotaInDim S8192 32 0))))

theorem select_causal {α : Type} (a b : S6x8192x8192.Idx → α) : select causal a b = fun i => if (i 2).val ≤ (i 1).val then a i else b i := by
  funext j; idx_vars j; pointwise [causal]
  exact Cert.FlashBwdIdeal.Step.select_sle j2.val j1.val _ _ (by omega) (by omega)

theorem mask (x : FVec Ideal S6x8192x8192 .f32) (hx : x = nc (score q k)) :
    select causal x (broadcastInDim S6x8192x8192 ![] bcast_S_S6x8192x8192 (constant S_ .f32 0xFF800000#32 : FVec Ideal S_ .f32)) = masked q k := by
  rw [select_causal, hx]
  funext j; idx_vars j; pointwise [masked]
  rw [ofBits_ninf]; rfl

theorem top : ∃ T : ℕ → ℕ → ℝ, (Host.reduce FloatOps.maximumf (masked q k) (constant S_ .f32 0xFF800000#32 : FVec Ideal S_ .f32) reducesTo_S6x8192x8192_S6x8192_d2 h_S_ : FVec Ideal S6x8192 .f32) = nm T := by
  have h : ∀ j : S6x8192.Idx, ∃ t : ℝ, (Host.reduce FloatOps.maximumf (masked q k) (constant S_ .f32 0xFF800000#32 : FVec Ideal S_ .f32) reducesTo_S6x8192x8192_S6x8192_d2 h_S_ : FVec Ideal S6x8192 .f32) j = (t : EReal) := by
    intro j
    idx_vars j
    rw [Host.reduce_eq_fold]
    have e : (constant S_ .f32 0xFF800000#32 : FVec Ideal S_ .f32) (Shape.Idx.first h_S_) = ⊥ := ofBits_ninf
    rw [e]
    refine fold_max_real _ _ (fun i _ => ?_) (ix3 j0 j1 ⟨0, by omega⟩) (Finset.mem_filter.mpr ⟨Finset.mem_univ _, ?_⟩) ?_
    · unfold masked; split
      · exact EReal.coe_ne_top _
      · exact bot_ne_top
    · funext a; match a with | ⟨0, _⟩ => rfl | ⟨1, _⟩ => rfl
    · rw [masked_apply, if_pos (Nat.zero_le _)]; exact EReal.coe_ne_bot _
  choose t ht using h
  refine ⟨fun a b => if h : a < 6 ∧ b < 8192 then t (ix2 ⟨a, h.1⟩ ⟨b, h.2⟩) else 0, ?_⟩
  funext j; idx_vars j
  rw [ht, nm_apply, dif_pos ⟨j0.isLt, j1.isLt⟩]

theorem exps (y : FVec Ideal S6x8192x8192 .f32) (hy : ∀ h r j, y (ix3 h r j) = ((T h.val r.val : ℝ) : EReal)) : (Host.exp (subf (masked q k) y) : FVec Ideal S6x8192x8192 .f32) = nc (ex q k T) := by
  funext j; idx_vars j; pointwise []
  rw [hy, nc_apply, masked_apply]; unfold ex
  split
  · rw [← EReal.coe_sub]; rfl
  · rw [EReal.bot_sub]; rfl

theorem nrms : (Host.reduceAdd (nc (ex q k T)) (constant S_ .f32 0x00000000#32 : FVec Ideal S_ .f32) reducesTo_S6x8192x8192_S6x8192_d2 h_S_ : FVec Ideal S6x8192 .f32) = nm (nrm q k T) := by
  funext j; idx_vars j; pointwise []
  simp only [nc_apply, nm_apply, ofBits_zero, sum_coe, ← EReal.coe_add, zero_add, nrm]
end Cert.FlashBwdRefIdeal.Stages
end
-- ==== Proof.FlashRef.lean ====
/-
  The gradient of the causal attention as the reference's operations compute it, over the reals.
-/
module
public import proofs.«01_k».proof.Proof.FlashHost
public import proofs.«01_k».proof.Proof.Gen.FlashBwdRefIdeal.Run
@[expose] public section
set_option maxRecDepth 16384
noncomputable section
open Cert.Reals Cert.Tables Idealize.ShloMosaic Idealize.ShloMosaic.TcCoe Idealize.SL.Sem
namespace Cert.FlashBwdRefIdeal.Stages
open Cert.FlashBwdRefIdeal Cert.FlashBwdRefIdeal.Gen Cert.Flash
variable (q k v : ℕ → ℕ → ℕ → ℝ) (g : ℕ → ℕ → ℝ) (T : ℕ → ℕ → ℝ)

/-- The stages of the operations: the masked scores, their greatest, the exponentials, their sum, the weights, -/
def sMask (a b : FVec Ideal S8192x6x96 .f32) : FVec Ideal S6x8192x8192 .f32 :=
  select causal (mulf (Host.dotGeneral (φ₁ := .f32) (φ₂ := .f32) dot_S8192x6x96_S8192x6x96_S6x8192x8192_2_2_0_0_1_1 none a b)
    (broadcastInDim S6x8192x8192 ![] bcast_S_S6x8192x8192 (constant S_ .f32 0x3DD105EC#32)))
    (broadcastInDim S6x8192x8192 ![] bcast_S_S6x8192x8192 (constant S_ .f32 0xFF800000#32))
def sTop (a b : FVec Ideal S8192x6x96 .f32) : FVec Ideal S6x8192 .f32 :=
  Host.reduce FloatOps.maximumf (sMask a b) (constant S_ .f32 0xFF800000#32) reducesTo_S6x8192x8192_S6x8192_d2 h_S_
def keep (y : FVec Ideal S6x8192 .f32) : FVec Ideal S6x8192x1 .f32 := broadcastInDim S6x8192x1 ![0, 1] bcast_S6x8192_S6x8192x1_0_1 y
def wide (y : FVec Ideal S6x8192x1 .f32) : FVec Ideal S6x8192x8192 .f32 := broadcastInDim S6x8192x8192 ![0, 1, 2] bcast_S6x8192x1_S6x8192x8192_0_1_2 y
def sExp (a b : FVec Ideal S8192x6x96 .f32) : FVec Ideal S6x8192x8192 .f32 :=
  Host.exp (subf (sMask a b) (wide (keep (maximumf (broadcastInDim S6x8192 ![] bcast_S_S6x8192 (constant S_ .f32 0xFF800000#32)) (sTop a b)))))
def add (x : FVec Ideal S6x8192x8192 .f32) : FVec Ideal S6x8192 .f32 :=
  Host.reduceAdd x (constant S_ .f32 0x00000000#32) reducesTo_S6x8192x8192_S6x8192_d2 h_S_
def sWt (a b : FVec Ideal S8192x6x96 .f32) : FVec Ideal S6x8192x8192 .f32 := Host.divf (sExp a b) (wide (keep (add (sExp a b))))
/-- the arriving gradient by heads, the gradient of the weights, and the gradient of the products with its parts. -/
def sGr (d : FVec Ideal S8192x384 .f32) : FVec Ideal S6x64x8192 .f32 :=
  transpose S6x64x8192 [1, 2, 0] (shapeCast _ d shapeCasts_S8192x384_S8192x6x64) transposes_S8192x6x64_S6x64x8192_1_2_0
def sDw (w : FVec Ideal S8192x6x64 .f32) (d : FVec Ideal S8192x384 .f32) : FVec Ideal S6x8192x8192 .f32 :=
  Host.dotGeneral (φ₁ := .f32) (φ₂ := .f32) dot_S6x64x8192_S8192x6x64_S6x8192x8192_1_2_2_0_0_1 none (sGr d) w
def sIn (e w : FVec Ideal S6x8192x8192 .f32) : FVec Ideal S6x8192x8192 .f32 :=
  mulf (mulf w (wide (Host.divf (broadcastInDim S6x8192x1 ![] bcast_S_S6x8192x1 (constant S_ .f32 0x3F800000#32)) (mulf (keep (add e)) (keep (add e)))))) e
def sMean (e w : FVec Ideal S6x8192x8192 .f32) : FVec Ideal S6x8192 .f32 :=
  Host.reduceAdd (Host.negf (shapeCast S6x8192x1 (add (sIn e w)) shapeCasts_S6x8192_S6x8192x1)) (constant S_ .f32 0x00000000#32) reducesTo_S6x8192x1_S6x8192_d2 h_S_
def sDs (e w : FVec Ideal S6x8192x8192 .f32) : FVec Ideal S6x8192x8192 .f32 :=
  mulf (select causal (mulf (addf (Host.divf w (wide (keep (add e))))
    (broadcastInDim S6x8192x8192 ![0, 1] bcast_S6x8192_S6x8192x8192_0_1 (sMean e w))) e)
    (broadcastInDim S6x8192x8192 ![] bcast_S_S6x8192x8192 (constant S_ .f32 0x00000000#32)))
    (broadcastInDim S6x8192x8192 ![] bcast_S_S6x8192x8192 (constant S_ .f32 0x3DD105EC#32))
/-- Heads of 96 features in 128 lanes side by side. -/
def lanes (x : FVec Ideal S8192x6x96 .f32) : FVec Ideal S8192x768 .f32 :=
  shapeCast _ (pad S8192x6x128 ![0, 0, 0] ![0, 0, 32] ![0, 0, 0] x (sitofp .f32 (constantI S_ 32 0#32)) pads_S8192x6x96_S8192x6x128_000_000_0320 h_S_) shapeCasts_S8192x6x128_S8192x768
def sDq (s : FVec Ideal S6x8192x8192 .f32) (b : FVec Ideal S8192x6x96 .f32) : FVec Ideal S8192x6x96 .f32 :=
  Host.divf (transpose S8192x6x96 [1, 0, 2] (Host.dotGeneral (φ₁ := .f32) (φ₂ := .f32) dot_S6x8192x8192_S8192x6x96_S6x8192x96_2_0_1_2_0_1 none s b) transposes_S6x8192x96_S8192x6x96_1_0_2)
    (broadcastInDim S8192x6x96 ![] bcast_S_S8192x6x96 (constant S_ .f32 0x3DD105EC#32))
def sDk (s : FVec Ideal S6x8192x8192 .f32) (a : FVec Ideal S8192x6x96 .f32) : FVec Ideal S8192x6x96 .f32 :=
  transpose S8192x6x96 [1, 0, 2] (Host.dotGeneral (φ₁ := .f32) (φ₂ := .f32) dot_S6x8192x8192_S8192x6x96_S6x8192x96_1_0_2_2_0_1 none s a) transposes_S6x8192x96_S8192x6x96_1_0_2
def sDv (p : FVec Ideal S6x8192x8192 .f32) (d : FVec Ideal S8192x384 .f32) : FVec Ideal S8192x384 .bf16 :=
  truncf .bf16 (shapeCast S8192x384 (transpose S8192x6x64 [2, 0, 1] (Host.dotGeneral (φ₁ := .f32) (φ₂ := .f32) dot_S6x64x8192_S6x8192x8192_S6x64x8192_2_1_1_2_0_0 none (sGr d) p) transposes_S6x64x8192_S8192x6x64_2_0_1) shapeCasts_S8192x6x64_S8192x384) bitsLt_bf16_f32

/-- The scores less any real per query have the same weights. -/
theorem exp_table : ∃ T : ℕ → ℕ → ℝ, sExp (nc q) (nc k) = nc (ex q k T) := by
  obtain ⟨T, hT⟩ := top q k
  refine ⟨T, ?_⟩
  have e : sMask (nc q) (nc k) = masked q k := mask q k _ (scores q k)
  unfold sExp sTop
  rw [e, hT]
  refine exps q k T _ fun h r j => ?_
  pointwise [wide, keep]
  rw [ofBits_ninf, nm_apply]
  exact bot_sup_eq _

theorem add_table (f : ℕ → ℕ → ℕ → ℝ) : add (nc f) = nm fun h r => ∑ j : Fin 8192, f h r j.val := by
  funext j; idx_vars j; pointwise [add]
  simp only [nc_apply, nm_apply, ofBits_zero, sum_coe, ← EReal.coe_add, zero_add]

theorem wide_table (f : ℕ → ℕ → ℝ) : wide (keep (nm f)) = nc fun h r _ => f h r := by
  funext j; idx_vars j; pointwise [wide, keep]
  simp only [nc_apply, nm_apply]

theorem wt_table : sWt (nc q) (nc k) = nc (wt q k) := by
  obtain ⟨T, hT⟩ := exp_table q k
  unfold sWt
  rw [hT, add_table, wide_table]
  funext j; idx_vars j; pointwise []
  rw [nc_apply, nc_apply, nc_apply]
  exact (div_coe _ _ (nrm_pos q k T _ _).ne').trans (congrArg _ (ex_div_nrm q k T _ _ _))

theorem gr_table : sGr (nm g) = nc fun h d r => g r (64 * h + d) := by
  funext j; idx_vars j; pointwise [sGr]
  simp only [nc_apply, nm_apply, Nat.mul_comm 64]

theorem dw_table : sDw (nc v) (nm g) = nc (dw v g) := by
  unfold sDw
  rw [gr_table]
  funext j; idx_vars j; pointwise []
  simp only [nc_apply, ← EReal.coe_mul, sum_coe, dw]

theorem in_table (e w : ℕ → ℕ → ℕ → ℝ) (z : ℕ → ℕ → ℝ) (hz : ∀ h r, ∑ j : Fin 8192, e h r j.val = z h r) (pos : ∀ h r, 0 < z h r) :
    sIn (nc e) (nc w) = nc fun h r j => w h r j * (1 / (z h r * z h r)) * e h r j := by
  unfold sIn
  rw [add_table]
  simp only [hz]
  funext j; idx_vars j; pointwise [wide, keep]
  simp only [nc_apply, nm_apply, ofBits_one, ← EReal.coe_mul]
  rw [← EReal.coe_one, div_coe _ _ (mul_pos (pos _ _) (pos _ _)).ne', ← EReal.coe_mul, ← EReal.coe_mul]

theorem mean_table (e w : ℕ → ℕ → ℕ → ℝ) (z : ℕ → ℕ → ℝ) (hz : ∀ h r, ∑ j : Fin 8192, e h r j.val = z h r) (pos : ∀ h r, 0 < z h r) :
    sMean (nc e) (nc w) = nm fun h r => -∑ j : Fin 8192, w h r j.val * (1 / (z h r * z h r)) * e h r j.val := by
  unfold sMean
  rw [in_table e w z hz pos, add_table]
  funext j; idx_vars j; pointwise []
  simp only [nm_apply, ofBits_zero]
  rw [Fintype.sum_unique, ← EReal.coe_neg]

theorem ds_real (h r j : ℕ) :
    ((dw v g h r j / nrm q k T h r + -∑ i : Fin 8192, dw v g h r i.val * (1 / (nrm q k T h r * nrm q k T h r)) * ex q k T h r i.val) * ex q k T h r j) = dsc q k v g h r j := by
  have p := (nrm_pos q k T h r).ne'
  have e : ∑ i : Fin 8192, dw v g h r i.val * (1 / (nrm q k T h r * nrm q k T h r)) * ex q k T h r i.val = mean q k v g h r / nrm q k T h r := by
    unfold mean; rw [Finset.sum_div]
    refine Finset.sum_congr rfl fun i _ => ?_
    rw [← ex_div_nrm q k T]; field_simp
  rw [e, dsc, ← ex_div_nrm q k T h r j]
  field_simp
  ring

theorem ds_table : sDs (sExp (nc q) (nc k)) (sDw (nc v) (nm g)) = nc fun h r j => dsc q k v g h r j * att := by
  obtain ⟨T, hT⟩ := exp_table q k
  rw [hT, dw_table]
  unfold sDs
  rw [mean_table _ _ (nrm q k T) (fun _ _ => rfl) (nrm_pos q k T), add_table, wide_table, select_causal]
  funext j; idx_vars j; pointwise []
  simp only [nc_apply, nm_apply, ofBits_zero, ofBits_att]
  change (if j2.val ≤ j1.val then (Ideal.div _ ((nrm q k T j0.val j1.val : ℝ) : EReal) + _) * _ else 0) * _ = _
  rw [div_coe _ _ (nrm_pos q k T _ _).ne', ← EReal.coe_add, ← EReal.coe_mul, ds_real q k v g T j0.val j1.val j2.val]
  by_cases h : j2.val ≤ j1.val
  · rw [if_pos h, ← EReal.coe_mul]
  · rw [if_neg h, dsc, wt, ex, if_neg h, zero_mul, zero_div, zero_mul, zero_mul, EReal.coe_zero]

/-- The gradients in reals. -/
def gq (r h c : ℕ) : ℝ := ∑ j : Fin 8192, dsc q k v g h r j.val * k j.val h c
def gk (j h c : ℕ) : ℝ := (∑ r : Fin 8192, dsc q k v g h r.val j * q r.val h c) * att
def gv (j h d : ℕ) : ℝ := ∑ r : Fin 8192, wt q k h r.val j * g r.val (64 * h + d)
def lane (f : ℕ → ℕ → ℕ → ℝ) (r x : ℕ) : ℝ := if x % 128 < 96 then f r (x / 128) (x % 128) else 0

theorem sitofp_zero : FloatOps.sitofp (F := Ideal) FTy.f32 (0#32) = 0 := by
  show ((((0#32 : BitVec 32).toInt : ℤ) : ℝ) : EReal) = 0
  simp
theorem lanes_table (f : ℕ → ℕ → ℕ → ℝ) : lanes (nc f) = nm (lane f) := by
  funext j; idx_vars j; pointwise [lanes]
  rw [nm_apply, lane]
  have h6 : j1.val / 128 < 6 := by omega
  by_cases h : j1.val % 128 < 96
  · rw [dif_pos ⟨h6, h⟩, if_pos h]; rfl
  · rw [dif_neg fun e => h e.2, if_neg h, EReal.coe_zero]
    exact sitofp_zero

theorem q_table : sDq (nc fun h r j => dsc q k v g h r j * att) (nc k) = nc (gq q k v g) := by
  unfold sDq
  funext j; idx_vars j; pointwise []
  simp only [nc_apply, ← EReal.coe_mul, sum_coe, ofBits_att]
  rw [div_coe _ _ att_pos.ne', gq, Finset.sum_div]
  refine congrArg _ (Finset.sum_congr rfl fun x _ => ?_)
  have := att_pos.ne'
  field_simp

theorem k_table : sDk (nc fun h r j => dsc q k v g h r j * att) (nc q) = nc (gk q k v g) := by
  unfold sDk
  funext j; idx_vars j; pointwise []
  simp only [nc_apply, ← EReal.coe_mul, sum_coe]
  rw [gk, Finset.sum_mul]
  exact congrArg _ (Finset.sum_congr rfl fun x _ => by ring)

theorem v_table : sDv (nc (wt q k)) (nm g) = nm fun r x => gv q k g r (x / 64) (x % 64) := by
  unfold sDv
  rw [gr_table]
  funext j; idx_vars j; pointwise []
  simp only [nc_apply, nm_apply, ← EReal.coe_mul, sum_coe]
  exact congrArg _ (Finset.sum_congr rfl fun x _ => mul_comm _ _)

variable (m : (ℓ : Loc nD τ sig) → Buf (Elt Ideal) ℓ) (c : Dev nD)
theorem out_dq (hq : m ((c.tc : Thread nD τ).loc main_arg0) = nc q) (hk : m ((c.tc : Thread nD τ).loc main_arg1) = nc k) (hv : m ((c.tc : Thread nD τ).loc main_arg2) = nc v) (hg : m ((c.tc : Thread nD τ).loc main_arg3) = nm g) :
    Value.res_main_v69 m c = nm (lane (gq q k v g)) := by
  have e : Value.res_main_v69 m c = lanes (sDq (sDs (sExp (m ((c.tc : Thread nD τ).loc main_arg0)) (m ((c.tc : Thread nD τ).loc main_arg1))) (sDw (m ((c.tc : Thread nD τ).loc main_arg2)) (m ((c.tc : Thread nD τ).loc main_arg3)))) (m ((c.tc : Thread nD τ).loc main_arg1))) := by sl_kernel_rfl
  rw [e, hq, hk, hv, hg, ds_table, q_table, lanes_table]
theorem out_dk (hq : m ((c.tc : Thread nD τ).loc main_arg0) = nc q) (hk : m ((c.tc : Thread nD τ).loc main_arg1) = nc k) (hv : m ((c.tc : Thread nD τ).loc main_arg2) = nc v) (hg : m ((c.tc : Thread nD τ).loc main_arg3) = nm g) :
    Value.res_main_v71 m c = nm (lane (gk q k v g)) := by
  have e : Value.res_main_v71 m c = lanes (sDk (sDs (sExp (m ((c.tc : Thread nD τ).loc main_arg0)) (m ((c.tc : Thread nD τ).loc main_arg1))) (sDw (m ((c.tc : Thread nD τ).loc main_arg2)) (m ((c.tc : Thread nD τ).loc main_arg3)))) (m ((c.tc : Thread nD τ).loc main_arg0))) := by sl_kernel_rfl
  rw [e, hq, hk, hv, hg, ds_table, k_table, lanes_table]
theorem out_dv (hq : m ((c.tc : Thread nD τ).loc main_arg0) = nc q) (hk : m ((c.tc : Thread nD τ).loc main_arg1) = nc k) (hg : m ((c.tc : Thread nD τ).loc main_arg3) = nm g) :
    Value.res_main_v73 m c = nm fun r x => gv q k g r (x / 64) (x % 64) := by
  have e : Value.res_main_v73 m c = sDv (sWt (m ((c.tc : Thread nD τ).loc main_arg0)) (m ((c.tc : Thread nD τ).loc main_arg1))) (m ((c.tc : Thread nD τ).loc main_arg3)) := by sl_kernel_rfl
  rw [e, hq, hk, hg, wt_table, v_table]
end Cert.FlashBwdRefIdeal.Stages
end
-- ==== Proof.FlashEntry.lean ====
/-
  The arrays that enter the attention's gradient, as the operations before the call compute them.
-/
module
public import proofs.«01_k».proof.Proof.FlashRef
public import proofs.«01_k».proof.Proof.FlashFrame
public import Idealize.ShloMosaic.Lib.Pipeline.ValueKit.Point
public import Idealize.ShloMosaic.Lib.StableHlo.RunRead
public import Idealize.ShloMosaic.Lib.Pipeline.ReadBack
@[expose] public section
set_option maxRecDepth 16384
noncomputable section
open Cert.Reals Cert.Tables Idealize.ShloMosaic Idealize.ShloMosaic.TcCoe Idealize.SL.Sem
namespace Cert.FlashBwdIdeal.Entry
open Cert.FlashBwdIdeal Cert.FlashBwdIdeal.Gen Cert.Flash
open Cert.FlashBwdRefIdeal.Stages (sMask sTop keep wide sExp add sWt lanes lane)
variable (q k v : ℕ → ℕ → ℕ → ℝ) (g : ℕ → ℕ → ℝ) (T : ℕ → ℕ → ℝ)

/-- The logarithm of the sum of exponentials, to the base two; -/
def lse (a b : FVec Ideal S8192x6x96 .f32) : FVec Ideal S6x8192 .f32 :=
  Host.divf (addf (sTop a b) (Host.log (add (Host.exp (subf (sMask a b) (wide (keep (sTop a b)))))))) (broadcastInDim S6x8192 ![] bcast_S_S6x8192 (Host.log (constant S_ .f32 0x40000000#32)))
/-- the attention's output, and the sum of its products with the arriving gradient; -/
def out (a b : FVec Ideal S8192x6x96 .f32) (w : FVec Ideal S8192x6x64 .f32) : FVec Ideal S8192x384 .f32 :=
  shapeCast S8192x384 (transpose S8192x6x64 [2, 0, 1] (Host.dotGeneral (φ₁ := .f32) (φ₂ := .f32) dot_S8192x6x64_S6x8192x8192_S6x64x8192_0_2_2_1_1_0 none w (sWt a b)) transposes_S6x64x8192_S8192x6x64_2_0_1) shapeCasts_S8192x6x64_S8192x384
def delta (o d : FVec Ideal S8192x384 .f32) : FVec Ideal S6x8192 .f32 :=
  transpose S6x8192 [1, 0] (Host.reduceAdd (shapeCast S8192x6x64 (mulf d o) shapeCasts_S8192x384_S8192x6x64) (constant S_ .f32 0x00000000#32) reducesTo_S8192x6x64_S8192x6_d2 h_S_) transposes_S8192x6_S6x8192_1_0
/-- a value per head and row as tiles of rows, two heads to a tile of eight rows; the scaled queries. -/
def tiles (x : FVec Ideal S6x8192 .f32) : FVec Ideal S3x16x8x512 .f32 :=
  pad S3x16x8x512 ![0, 0, 0, 0] ![0, 0, 6, 0] ![0, 0, 0, 0] (transpose S3x16x2x512 [0, 2, 1, 3] (shapeCast S3x2x16x512 x shapeCasts_S6x8192_S3x2x16x512) transposes_S3x2x16x512_S3x16x2x512_0_2_1_3)
    (sitofp .f32 (constantI S_ 32 0#32)) pads_S3x16x2x512_S3x16x8x512_000_000_060_000 h_S_
def scaled (a : FVec Ideal S8192x6x96 .f32) : FVec Ideal S8192x6x96 .f32 :=
  Host.divf (mulf a (broadcastInDim S8192x6x96 ![] bcast_S_S8192x6x96 (constant S_ .f32 0x3DD105EC#32))) (broadcastInDim S8192x6x96 ![] bcast_S_S8192x6x96 (Host.log (constant S_ .f32 0x40000000#32)))

theorem log_coe (x : ℝ) (h : 0 < x) : Ideal.log ((x : ℝ) : EReal) = ((Real.log x : ℝ) : EReal) := if_neg (not_le.mpr h)
theorem log_two : Ideal.log (Ideal.ofBits .f32 0x40000000#32) = ((Real.log 2 : ℝ) : EReal) := by
  rw [ofBits_two, log_coe 2 two_pos]
theorem log_pos : 0 < Real.log 2 := Real.log_pos one_lt_two

theorem lse_table : lse (nc q) (nc k) = nm fun h r => Real.log (nrm q k (fun _ _ => 0) h r) / Real.log 2 := by
  obtain ⟨T, hT⟩ := Cert.FlashBwdRefIdeal.Stages.top q k
  have e : sMask (nc q) (nc k) = Cert.FlashBwdRefIdeal.Stages.masked q k := Cert.FlashBwdRefIdeal.Stages.mask q k _ (Cert.FlashBwdRefIdeal.Stages.scores q k)
  have t : sTop (nc q) (nc k) = nm T := by unfold sTop; rw [e, hT]
  unfold lse
  rw [t, e, Cert.FlashBwdRefIdeal.Stages.exps q k T _ fun h r j => by rw [Cert.FlashBwdRefIdeal.Stages.wide_table, nc_apply], Cert.FlashBwdRefIdeal.Stages.add_table]
  funext j; idx_vars j; pointwise []
  simp only [nm_apply]
  change Ideal.div (_ + Ideal.log ((nrm q k T j0.val j1.val : ℝ) : EReal)) _ = _
  rw [log_two, log_coe _ (nrm_pos q k T _ _), ← EReal.coe_add, div_coe _ _ log_pos.ne', nrm_shift q k T,
    Real.log_mul (nrm_pos q k _ _ _).ne' (Real.exp_pos _).ne', Real.log_exp]
  exact congrArg (fun x : ℝ => ((x / Real.log 2 : ℝ) : EReal)) (by ring)

theorem out_table : out (nc q) (nc k) (nc v) = nm fun r x => ∑ j : Fin 8192, v j.val (x / 64) (x % 64) * wt q k (x / 64) r j.val := by
  unfold out
  rw [Cert.FlashBwdRefIdeal.Stages.wt_table]
  funext j; idx_vars j; pointwise []
  simp only [nc_apply, nm_apply, ← EReal.coe_mul, sum_coe]
theorem delta_table : delta (out (nc q) (nc k) (nc v)) (nm g) = nm (mean q k v g) := by
  rw [out_table]
  funext j; idx_vars j; pointwise [delta]
  simp only [nc_apply, nm_apply, ← EReal.coe_mul, sum_coe, ofBits_zero, ← EReal.coe_add]
  refine congrArg _ ?_
  unfold mean dw
  simp only [Finset.mul_sum]
  rw [Finset.sum_comm]
  refine Finset.sum_congr rfl fun x _ => Finset.sum_congr rfl fun d _ => ?_
  rw [show (j0.val * 64 + d.val) / 64 = j0.val by omega, show (j0.val * 64 + d.val) % 64 = d.val by omega, Nat.mul_comm j0.val 64]
  ring
theorem tiles_table (f : ℕ → ℕ → ℝ) : tiles (nm f) = nq fun p R h t => lp f p h (512 * R + t) := by
  funext j; idx_vars j; pointwise [tiles]
  rw [nq_apply, lp]
  by_cases h : j2.val < 2
  · rw [dif_pos h, if_pos h, nm_apply]
    dsimp only
    rw [Nat.mul_comm 2, Nat.mul_comm 512]
  · rw [dif_neg h, if_neg h, EReal.coe_zero]
    exact Cert.FlashBwdRefIdeal.Stages.sitofp_zero
theorem scaled_table : scaled (nc q) = nc fun r h c => q r h c * att / Real.log 2 := by
  funext j; idx_vars j; pointwise [scaled]
  simp only [nc_apply, ofBits_att, ← EReal.coe_mul]
  rw [log_two, div_coe _ _ log_pos.ne']

variable (m : (ℓ : Loc nD τ sig) → Buf (Elt Ideal) ℓ) (c : Dev nD)
set_option maxHeartbeats 4000000
theorem V57 : (Gen.V m c main_v57 : Vec Ideal S8192x768 .bf16) = lanes (scaled (m ((c : Thread nD τ).loc main_arg0))) := by
  show (StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v57) : Vec Ideal S8192x768 .bf16) = _
  simp only [List.flatten_cons, List.flatten_nil, List.append_nil, StableHlo.after_append]
  after_reads_simp
  sl_kernel_rfl
theorem V60 : (Gen.V m c main_v60 : Vec Ideal S8192x768 .bf16) = lanes (m ((c : Thread nD τ).loc main_arg1)) := by
  show (StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v60) : Vec Ideal S8192x768 .bf16) = _
  simp only [List.flatten_cons, List.flatten_nil, List.append_nil, StableHlo.after_append]
  after_reads_simp
  sl_kernel_rfl
theorem V62 : (Gen.V m c main_v62 : Vec Ideal S8192x384 .bf16) = (shapeCast S8192x384 (m ((c : Thread nD τ).loc main_arg2) : FVec Ideal S8192x6x64 .f32) shapeCasts_S8192x6x64_S8192x384 : FVec Ideal S8192x384 .f32) := by
  show (StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v62) : Vec Ideal S8192x384 .bf16) = _
  simp only [List.flatten_cons, List.flatten_nil, List.append_nil, StableHlo.after_append]
  after_reads_simp
  sl_kernel_rfl
theorem V63 : (Gen.V m c main_v63 : Vec Ideal S8192x384 .bf16) = m ((c : Thread nD τ).loc main_arg3) := by
  show (StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v63) : Vec Ideal S8192x384 .bf16) = _
  simp only [List.flatten_cons, List.flatten_nil, List.append_nil, StableHlo.after_append]
  after_reads_simp
  sl_kernel_rfl
theorem V66 : (Gen.V m c main_v66 : Vec Ideal S3x16x8x512 .f32) = tiles (lse (m ((c : Thread nD τ).loc main_arg0)) (m ((c : Thread nD τ).loc main_arg1))) := by
  show (StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v66) : Vec Ideal S3x16x8x512 .f32) = _
  simp only [List.flatten_cons, List.flatten_nil, List.append_nil, StableHlo.after_append]
  after_reads_simp
  sl_kernel_rfl
theorem V69 : (Gen.V m c main_v69 : Vec Ideal S3x16x8x512 .f32)
    = tiles (delta (out (m ((c : Thread nD τ).loc main_arg0)) (m ((c : Thread nD τ).loc main_arg1)) (m ((c : Thread nD τ).loc main_arg2))) (m ((c : Thread nD τ).loc main_arg3))) := by
  show (StableHlo.after (List.flatten [hostOps0, hostOps0_1, hostOps0_2, hostOps0_3, hostOps0_4, hostOps0_5, hostOps0_6, hostOps0_7, hostOps0_8, hostOps0_9, hostOps0_10, hostOps0_11]) (fun b => m (c, b)) (Proc.devRef .tc main_v69) : Vec Ideal S3x16x8x512 .f32) = _
  simp only [List.flatten_cons, List.flatten_nil, List.append_nil, StableHlo.after_append]
  after_reads_simp
  sl_kernel_rfl
end Cert.FlashBwdIdeal.Entry
end
-- ==== Proof.FlashTrip.lean ====
/-
  The two counted loops of the attention's gradient as tables: what some trips, each a tile of queries or four of them,
  add to the accumulated block and to the carried sums.
-/
module
public import proofs.«01_k».proof.Proof.FlashStep
public import Idealize.ShloMosaic.Lib.VecWindow
@[expose] public section
set_option maxRecDepth 16384
noncomputable section
open Cert.Reals Cert.Tables Idealize.ShloMosaic Idealize.ShloMosaic.TcCoe Idealize.SL.Sem

/-! ## Windows of tables -/
namespace Cert.Flash
theorem window_nm {a b m n : ℕ} (T : ℕ → ℕ → ℝ) (o p : ℕ) (inb : ∀ x, (![o, p] : Fin 2 → ℕ) x + (![m, n] : Fin 2 → ℕ) x ≤ (⟨2, ![a, b]⟩ : Shape).size x) :
    VecWindow.window (s := ⟨2, ![a, b]⟩) (nm T) ![o, p] ![m, n] inb = (nm fun r c => T (o + r) (p + c) : (⟨2, ![m, n]⟩ : Shape).Idx → EReal) := by
  funext y
  show ((T (o + 1 * (y 0).val) (p + 1 * (y 1).val) : ℝ) : EReal) = ((T (o + (y 0).val) (p + (y 1).val) : ℝ) : EReal)
  rw [one_mul, one_mul]
theorem window_nq {a b c d : ℕ} (T : ℕ → ℕ → ℕ → ℕ → ℝ) (R h : ℕ) (inb : ∀ x, (![0, R, h, 0] : Fin 4 → ℕ) x + (![1, 1, 1, 512] : Fin 4 → ℕ) x ≤ (⟨4, ![a, b, c, d]⟩ : Shape).size x) :
    VecWindow.window (s := ⟨4, ![a, b, c, d]⟩) (nq T) ![0, R, h, 0] ![1, 1, 1, 512] inb = (nq fun _ _ _ t => T 0 R h t : (⟨4, ![1, 1, 1, 512]⟩ : Shape).Idx → EReal) := by
  funext y
  have h0 : (y 0).val = 0 := by have : (y 0).val < 1 := (y 0).isLt; omega
  have h1 : (y 1).val = 0 := by have : (y 1).val < 1 := (y 1).isLt; omega
  have h2 : (y 2).val = 0 := by have : (y 2).val < 1 := (y 2).isLt; omega
  show ((T (0 + 1 * (y 0).val) (R + 1 * (y 1).val) (h + 1 * (y 2).val) (0 + 1 * (y 3).val) : ℝ) : EReal) = ((T 0 R h (y 3).val : ℝ) : EReal)
  rw [h0, h1, h2]
  simp only [mul_zero, add_zero, zero_add, one_mul]
theorem put_nm {a b m n : ℕ} (T X : ℕ → ℕ → ℝ) (o p : ℕ) :
    VecWindow.put (s := ⟨2, ![a, b]⟩) (nm T) ![o, p] ![m, n] (nm X : (⟨2, ![m, n]⟩ : Shape).Idx → EReal)
      = nm fun r c => if o ≤ r ∧ r < o + m ∧ p ≤ c ∧ c < p + n then X (r - o) (c - p) else T r c := by
  funext y
  unfold VecWindow.put
  by_cases h : ∀ x, (![o, p] : Fin 2 → ℕ) x ≤ (y x).val ∧ (y x).val < (![o, p] : Fin 2 → ℕ) x + (![m, n] : Fin 2 → ℕ) x
  · have h0 := h 0; have h1 := h 1
    dsimp at h0 h1
    rw [dif_pos h]
    show ((X ((y 0).val - o) ((y 1).val - p) : ℝ) : EReal) = (((if o ≤ (y 0).val ∧ (y 0).val < o + m ∧ p ≤ (y 1).val ∧ (y 1).val < p + n then _ else _) : ℝ) : EReal)
    rw [if_pos ⟨h0.1, h0.2, h1⟩]
  · rw [dif_neg h]
    show ((T (y 0).val (y 1).val : ℝ) : EReal) = (((if o ≤ (y 0).val ∧ (y 0).val < o + m ∧ p ≤ (y 1).val ∧ (y 1).val < p + n then _ else _) : ℝ) : EReal)
    rw [if_neg fun q => h fun x => by
      match x with
      | ⟨0, _⟩ => exact ⟨q.1, q.2.1⟩
      | ⟨1, _⟩ => exact q.2.2]

/-- The accumulated block with tile `R` taken from `T` and added to. -/
def addT (R : ℕ) (T W X Y : ℕ → ℕ → ℝ) (r c : ℕ) : ℝ :=
  if 512 * R ≤ r ∧ r < 512 * R + 512 then T r c + (if c < 128 then X r c else Y r (c - 128)) else W r c
/-- A product over the rows of tile `R`. -/
def mr (R : ℕ) (X Y : ℕ → ℕ → ℝ) (j c : ℕ) : ℝ := ∑ t : Fin 512, X j (512 * R + t.val) * Y (512 * R + t.val) c

theorem put_add (R : ℕ) (T W X Y : ℕ → ℕ → ℝ) :
    VecWindow.put (s := ⟨2, ![8192, 256]⟩) (VecWindow.put (s := ⟨2, ![8192, 256]⟩) (nm W) ![512 * R, 0] ![512, 128]
        (nm fun r c => T (512 * R + r) (0 + c) + X (512 * R + r) c : (⟨2, ![512, 128]⟩ : Shape).Idx → EReal)) ![512 * R, 128] ![512, 128]
        (nm fun r c => T (512 * R + r) (128 + c) + Y (512 * R + r) c : (⟨2, ![512, 128]⟩ : Shape).Idx → EReal)
      = nm (addT R T W X Y) := by
  rw [put_nm, put_nm]
  refine nm_congr fun r hr c hc => ?_
  unfold addT
  by_cases h : 512 * R ≤ r ∧ r < 512 * R + 512
  · rw [if_pos h]
    have e : 512 * R + (r - 512 * R) = r := by omega
    by_cases hc' : c < 128
    · rw [if_neg (by omega), if_pos (by omega), if_pos hc', e]
      simp only [zero_add, Nat.sub_zero]
    · rw [if_pos (by omega), if_neg hc', e, show 128 + (c - 128) = c by omega]
  · rw [if_neg h, if_neg (by omega), if_neg (by omega)]
end Cert.Flash

namespace Cert.FlashBwdIdeal.Hand
open Cert.FlashBwdIdeal.Gen Cert.Flash Cert.FlashBwdIdeal.Step

section
variable {F : FTy → Type} [FloatOps F] [Named F]
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
  (x0 : Vec F S8192x256 .bf16) (x1 : Vec F S8192x128 .bf16) (x2 : Vec F S1x16x8x512 .f32) (x3 : Vec F S1x16x8x512 .f32)

/-- The first head's part of the block after one tile of queries: what it writes, over `w`, having read `f`. -/
def mid (o2 : Fin 2 → ℕ) (b2 : ∀ a, o2 a + S512x256.size a ≤ S8192x256.size a) (o3 : Fin 2 → ℕ) (b3 : ∀ a, o3 a + S512x128.size a ≤ S8192x128.size a)
    (o4 : Fin 4 → ℕ) (b4 : ∀ a, o4 a + S1x1x1x512.size a ≤ S1x16x8x512.size a)
    (oa : Fin 2 → ℕ) (ba : ∀ a, oa a + S512x128.size a ≤ S8192x256.size a)
    (v5 v8 : FVec F S512x128 .bf16) (f w : Buf (Elt F) (arg8.view.loc (c : Thread nD τ))) : Buf (Elt F) (arg8.view.loc (c : Thread nD τ)) :=
  let q := arg2.view.readAt (Elt F) (Rect.unit (s := S8192x256) o2 S512x256.size b2).toLoadRect (harg2.unread x0)
  let d := arg3.view.readAt (Elt F) (Rect.unit (s := S8192x128) o3 S512x128.size b3).toLoadRect (harg3.unread x1)
  let l0 := arg4.view.readAt (Elt F) (Rect.unit (s := S1x16x8x512) o4 S1x1x1x512.size b4).toLoadRect (harg4.unread x2)
  let d0 := arg5.view.readAt (Elt F) (Rect.unit (s := S1x16x8x512) o4 S1x1x1x512.size b4).toLoadRect (harg5.unread x3)
  arg8.view.writes (Elt F) w
    [⟨Rect.unit (s := S8192x256) oa S512x128.size ba, k0_pay3 (k0_pay167 v5 v8 q d l0 d0) (arg8.view.readAt (Elt F) (Rect.unit (s := S8192x256) oa S512x128.size ba).toLoadRect f)⟩]

/-- One tile of queries: what it makes of the carried sums and of the block it writes over, `w`, having read the first head's part in `f` and the second's in `g`. -/
def step (o2 : Fin 2 → ℕ) (b2 : ∀ a, o2 a + S512x256.size a ≤ S8192x256.size a) (o3 : Fin 2 → ℕ) (b3 : ∀ a, o3 a + S512x128.size a ≤ S8192x128.size a)
    (o4 : Fin 4 → ℕ) (b4 : ∀ a, o4 a + S1x1x1x512.size a ≤ S1x16x8x512.size a) (o5 : Fin 4 → ℕ) (b5 : ∀ a, o5 a + S1x1x1x512.size a ≤ S1x16x8x512.size a)
    (oa : Fin 2 → ℕ) (ba : ∀ a, oa a + S512x128.size a ≤ S8192x256.size a) (ob : Fin 2 → ℕ) (bb : ∀ a, ob a + S512x128.size a ≤ S8192x256.size a)
    (v5 v6 v8 : FVec F S512x128 .bf16) (f g w : Buf (Elt F) (arg8.view.loc (c : Thread nD τ))) (a : Acc F) :
    Buf (Elt F) (arg8.view.loc (c : Thread nD τ)) × Acc F :=
  let q := arg2.view.readAt (Elt F) (Rect.unit (s := S8192x256) o2 S512x256.size b2).toLoadRect (harg2.unread x0)
  let d := arg3.view.readAt (Elt F) (Rect.unit (s := S8192x128) o3 S512x128.size b3).toLoadRect (harg3.unread x1)
  let l0 := arg4.view.readAt (Elt F) (Rect.unit (s := S1x16x8x512) o4 S1x1x1x512.size b4).toLoadRect (harg4.unread x2)
  let d0 := arg5.view.readAt (Elt F) (Rect.unit (s := S1x16x8x512) o4 S1x1x1x512.size b4).toLoadRect (harg5.unread x3)
  let l1 := arg4.view.readAt (Elt F) (Rect.unit (s := S1x16x8x512) o5 S1x1x1x512.size b5).toLoadRect (harg4.unread x2)
  let d1 := arg5.view.readAt (Elt F) (Rect.unit (s := S1x16x8x512) o5 S1x1x1x512.size b5).toLoadRect (harg5.unread x3)
  (arg8.view.writes (Elt F) (mid c arg2 harg2 arg3 harg3 arg4 harg4 arg5 harg5 arg8 x0 x1 x2 x3 o2 b2 o3 b3 o4 b4 oa ba v5 v8 f w)
      [⟨Rect.unit (s := S8192x256) ob S512x128.size bb, k0_pay4 v6 v8 (k0_pay161 d) (k0_pay168 q) l1 d1 (arg8.view.readAt (Elt F) (Rect.unit (s := S8192x256) ob S512x128.size bb).toLoadRect g)⟩],
    k0_pay5 a.1 (k0_pay166 v5 v8 q d l0 d0), k0_pay6 v6 v8 a.2.1 (k0_pay161 d) (k0_pay168 q) l1 d1, k0_pay7 v6 a.2.2 (k0_pay161 d) (k0_pay164 v5 q d l0) (k0_pay168 q) l1)

theorem trip3_eq (v5 v6 v8 : FVec F S512x128 .bf16) (v120 : BitVec 32) (k : Fin (k0_t3_loop i).trips)
    (f8 : Buf (Elt F) (arg8.view.loc (c : Thread nD τ))) (a : Acc F) :
    (trip3 c i arg2 harg2 arg3 harg3 arg4 harg4 arg5 harg5 arg6 harg6 arg7 harg7 arg8 harg8 arg9 harg9 arg10 harg10 x0 x1 x2 x3 v5 v6 v8 v120 k f8 a).1
      = step c arg2 harg2 arg3 harg3 arg4 harg4 arg5 harg5 arg8 x0 x1 x2 x3 (k0_off19 i k) (k0_off19_inb i k) (k0_off20 i k) (k0_off20_inb i k) (k0_off21 i k) (k0_off21_inb i k) (k0_off22 i k) (k0_off22_inb i k)
          (k0_off23 i k) (k0_off23_inb i k) (k0_off24 i k) (k0_off24_inb i k) v5 v6 v8 f8 f8 f8 a := by
  sl_kernel_rfl

/-- The tile of unrolled step `u` of a trip of the first loop, the second head's part read in `g`, -/
def step1 (k : Fin (k0_t1_loop i).trips) (u : Fin 4) (v5 v6 v8 : FVec F S512x128 .bf16) (g w : Buf (Elt F) (arg8.view.loc (c : Thread nD τ))) (a : Acc F) :=
  step c arg2 harg2 arg3 harg3 arg4 harg4 arg5 harg5 arg8 x0 x1 x2 x3 (k0_off7 i k (BitVec.ofNat 32 u.val)) (k0_off7_inb i k u) (k0_off8 i k (BitVec.ofNat 32 u.val)) (k0_off8_inb i k u) (k0_off9 i k (BitVec.ofNat 32 u.val)) (k0_off9_inb i k u) (k0_off10 i k (BitVec.ofNat 32 u.val)) (k0_off10_inb i k u)
    (k0_off11 i k (BitVec.ofNat 32 u.val)) (k0_off11_inb i k u) (k0_off12 i k (BitVec.ofNat 32 u.val)) (k0_off12_inb i k u) v5 v6 v8 w g w a
/-- which is what the step has written of the first head's. -/
def mid1 (k : Fin (k0_t1_loop i).trips) (u : Fin 4) (v5 v8 : FVec F S512x128 .bf16) (w : Buf (Elt F) (arg8.view.loc (c : Thread nD τ))) :=
  mid c arg2 harg2 arg3 harg3 arg4 harg4 arg5 harg5 arg8 x0 x1 x2 x3 (k0_off7 i k (BitVec.ofNat 32 u.val)) (k0_off7_inb i k u) (k0_off8 i k (BitVec.ofNat 32 u.val)) (k0_off8_inb i k u) (k0_off9 i k (BitVec.ofNat 32 u.val)) (k0_off9_inb i k u)
    (k0_off11 i k (BitVec.ofNat 32 u.val)) (k0_off11_inb i k u) v5 v8 w w

theorem trip1_eq (arg1 : BitVec 32) (v5 v6 v8 : FVec F S512x128 .bf16) (v9 : FVec F S512x128 .f32) (v11 : BitVec 32) (v44 v50 v51 v69 v75 v76 : FVec F S512x128 .f32) (v93 : BitVec 32) (k : Fin (k0_t1_loop i).trips)
    (f8 : Buf (Elt F) (arg8.view.loc (c : Thread nD τ))) (a : Acc F) :
    (trip1 c i arg2 harg2 arg3 harg3 arg4 harg4 arg5 harg5 arg6 harg6 arg7 harg7 arg8 harg8 arg9 harg9 arg10 harg10 x0 x1 x2 x3 arg1 v5 v6 v8 v9 v11 v44 v50 v51 v69 v75 v76 v93 k f8 a).1
      = (let s0 := step1 c i arg2 harg2 arg3 harg3 arg4 harg4 arg5 harg5 arg8 x0 x1 x2 x3 k 0 v5 v6 v8 f8 f8 a
         let s1 := step1 c i arg2 harg2 arg3 harg3 arg4 harg4 arg5 harg5 arg8 x0 x1 x2 x3 k 1 v5 v6 v8 (mid1 c i arg2 harg2 arg3 harg3 arg4 harg4 arg5 harg5 arg8 x0 x1 x2 x3 k 1 v5 v8 s0.1) s0.1 s0.2
         let s2 := step1 c i arg2 harg2 arg3 harg3 arg4 harg4 arg5 harg5 arg8 x0 x1 x2 x3 k 2 v5 v6 v8 (mid1 c i arg2 harg2 arg3 harg3 arg4 harg4 arg5 harg5 arg8 x0 x1 x2 x3 k 2 v5 v8 s1.1) s1.1 s1.2
         step1 c i arg2 harg2 arg3 harg3 arg4 harg4 arg5 harg5 arg8 x0 x1 x2 x3 k 3 v5 v6 v8 (mid1 c i arg2 harg2 arg3 harg3 arg4 harg4 arg5 harg5 arg8 x0 x1 x2 x3 k 3 v5 v8 s2.1) s2.1 s2.2) := by
  sl_kernel_rfl
end

/-! ## A tile's tables -/
section
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
variable (Q G K V T W a0 a1 a2 : ℕ → ℕ → ℝ) (L D : ℕ → ℕ → ℝ)

/-- The second head's columns of a table of two heads. -/
abbrev sec (X : ℕ → ℕ → ℝ) (r c : ℕ) : ℝ := X r (128 + c)
/-- The weights of the two heads, -/
abbrev P0 : ℕ → ℕ → ℝ := pt K Q (L 0)
abbrev P1 : ℕ → ℕ → ℝ := pt (sec K) (sec Q) (L 1)
/-- and the gradients of their scores. -/
abbrev S0 : ℕ → ℕ → ℝ := ds (P0 Q K L) V (lo G) (D 0)
abbrev S1 : ℕ → ℕ → ℝ := ds (P1 Q K L) V (hi G) (D 1)

/-- The sums after tile `R`. -/
abbrev acc (R : ℕ) : Acc Ideal :=
  (nm fun j c => a0 j c + mr R (S0 Q G K V L D) Q j c, nm fun j c => a1 j c + mr R (S1 Q G K V L D) (sec Q) j c,
    nm fun j c => a2 j c + mr R (P0 Q K L) (lo G) j c + mr R (P1 Q K L) (hi G) j c)

theorem step_table (R : ℕ) (hR : R < 16) (o2 : Fin 2 → ℕ) (b2 : ∀ a, o2 a + S512x256.size a ≤ S8192x256.size a) (o3 : Fin 2 → ℕ) (b3 : ∀ a, o3 a + S512x128.size a ≤ S8192x128.size a)
    (o4 : Fin 4 → ℕ) (b4 : ∀ a, o4 a + S1x1x1x512.size a ≤ S1x16x8x512.size a) (o5 : Fin 4 → ℕ) (b5 : ∀ a, o5 a + S1x1x1x512.size a ≤ S1x16x8x512.size a)
    (oa : Fin 2 → ℕ) (ba : ∀ a, oa a + S512x128.size a ≤ S8192x256.size a) (ob : Fin 2 → ℕ) (bb : ∀ a, ob a + S512x128.size a ≤ S8192x256.size a)
    (h2 : o2 = ![512 * R, 0]) (h3 : o3 = ![512 * R, 0]) (h4 : o4 = ![0, R, 0, 0]) (h5 : o5 = ![0, R, 1, 0]) (ha : oa = ![512 * R, 0]) (hb : ob = ![512 * R, 128])
    (f g w : Buf (Elt Ideal) (arg8.view.loc (c : Thread nD τ))) (hf : arg8.view.read (Elt Ideal) f = nm T)
    (hg : ∀ inb, VecWindow.window (arg8.view.read (Elt Ideal) g) ![512 * R, 128] ![512, 128] inb = (nm fun r c => T (512 * R + r) (128 + c) : (⟨2, ![512, 128]⟩ : Shape).Idx → EReal)) (hw : arg8.view.read (Elt Ideal) w = nm W) :
    arg8.view.read (Elt Ideal) (step c arg2 harg2 arg3 harg3 arg4 harg4 arg5 harg5 arg8 (nm Q) (nm G) (nq fun _ R h t => L h (512 * R + t)) (nq fun _ R h t => D h (512 * R + t)) o2 b2 o3 b3 o4 b4 o5 b5 oa ba ob bb
        (nm K) (nm (sec K)) (nm V) f g w (nm a0, nm a1, nm a2)).1 = nm (addT R T W (md (S0 Q G K V L D) K) (md (S1 Q G K V L D) (sec K)))
      ∧ (step c arg2 harg2 arg3 harg3 arg4 harg4 arg5 harg5 arg8 (nm Q) (nm G) (nq fun _ R h t => L h (512 * R + t)) (nq fun _ R h t => D h (512 * R + t)) o2 b2 o3 b3 o4 b4 o5 b5 oa ba ob bb
        (nm K) (nm (sec K)) (nm V) f g w (nm a0, nm a1, nm a2)).2 = acc Q G K V a0 a1 a2 L D R := by
  subst h2; subst h3; subst h4; subst h5; subst ha; subst hb
  unfold step mid; dsimp only
  rw [View.readAt_unit arg2.view _ b2 rfl b2, View.readAt_unit arg3.view _ b3 rfl b3, View.readAt_unit arg4.view _ b4 rfl b4, View.readAt_unit arg4.view _ b5 rfl b5,
    View.readAt_unit arg5.view _ b4 rfl b4, View.readAt_unit arg5.view _ b5 rfl b5, View.readAt_unit arg8.view _ ba rfl ba, View.readAt_unit arg8.view _ bb rfl bb,
    harg2.read_unread, harg3.read_unread, harg4.read_unread, harg5.read_unread, hf, hg,
    window_nm, window_nm, window_nm, window_nq, window_nq, window_nq, window_nq]
  simp only [zero_add]
  rw [pay161_eq, pay168_eq, pay164_eq, pay166_eq, pay167_eq, pay4_eq, pay3_eq, pay5_eq, pay6_eq, pay7_eq]
  refine ⟨?_, rfl⟩
  rw [View.read_writes_cons_put arg8.view _ bb _ _ rfl, View.writes_nil, View.read_writes_cons_put arg8.view w ba _ _ rfl, View.writes_nil, hw]
  refine Eq.trans ?_ (put_add R T W (md (S0 Q G K V L D) K) (md (S1 Q G K V L D) (sec K)))
  simp only [zero_add]
  rfl
end
end Cert.FlashBwdIdeal.Hand
end
-- ==== Proof.FlashLoop.lean ====
/-
  The attention backward's counted loops: after each trip the accumulated block and the carried sums are the tables of
  the tiles of queries handled so far.
-/
module
public import proofs.«01_k».proof.Proof.FlashTrip
@[expose] public section
set_option maxRecDepth 16384
noncomputable section
open Cert.Reals Cert.Tables Idealize.ShloMosaic Idealize.ShloMosaic.TcCoe Idealize.SL.Sem
namespace Cert.FlashBwdIdeal.Hand
open Cert.FlashBwdIdeal.Gen Cert.Flash Cert.FlashBwdIdeal.Step

theorem off7_eq : ∀ (i : grid0.Coords) (k : Fin (k0_t1_loop i).trips) (u : Fin 4),
    k0_off7 i k (BitVec.ofNat 32 u.val) = ![512 * ((i 1).val + 1 + 4 * k.val + u.val), 0] := by decide +kernel
theorem off8_eq : ∀ (i : grid0.Coords) (k : Fin (k0_t1_loop i).trips) (u : Fin 4),
    k0_off8 i k (BitVec.ofNat 32 u.val) = ![512 * ((i 1).val + 1 + 4 * k.val + u.val), 0] := by decide +kernel
theorem off9_eq : ∀ (i : grid0.Coords) (k : Fin (k0_t1_loop i).trips) (u : Fin 4),
    k0_off9 i k (BitVec.ofNat 32 u.val) = ![0, (i 1).val + 1 + 4 * k.val + u.val, 0, 0] := by decide +kernel
theorem off10_eq : ∀ (i : grid0.Coords) (k : Fin (k0_t1_loop i).trips) (u : Fin 4),
    k0_off10 i k (BitVec.ofNat 32 u.val) = ![0, (i 1).val + 1 + 4 * k.val + u.val, 1, 0] := by decide +kernel
theorem off19_eq : ∀ (i : grid0.Coords) (k : Fin (k0_t3_loop i).trips),
    k0_off19 i k = ![512 * ((i 1).val + 1 + 4 * ((15 - (i 1).val) / 4) + k.val), 0] := by decide +kernel
theorem off20_eq : ∀ (i : grid0.Coords) (k : Fin (k0_t3_loop i).trips),
    k0_off20 i k = ![512 * ((i 1).val + 1 + 4 * ((15 - (i 1).val) / 4) + k.val), 0] := by decide +kernel
theorem off21_eq : ∀ (i : grid0.Coords) (k : Fin (k0_t3_loop i).trips),
    k0_off21 i k = ![0, (i 1).val + 1 + 4 * ((15 - (i 1).val) / 4) + k.val, 0, 0] := by decide +kernel
theorem off22_eq : ∀ (i : grid0.Coords) (k : Fin (k0_t3_loop i).trips),
    k0_off22 i k = ![0, (i 1).val + 1 + 4 * ((15 - (i 1).val) / 4) + k.val, 1, 0] := by decide +kernel

/-! ## The tables of the tiles handled so far -/
section
variable (J : ℕ) (Q G K V T : ℕ → ℕ → ℝ) (L D : ℕ → ℕ → ℝ)
/-- Weights, nothing where the query comes before the key: key `j` of tile `J` is number `512 * J + j`. -/
def causal (P : ℕ → ℕ → ℝ) (j r : ℕ) : ℝ := if 512 * J + j ≤ r then P j r else 0
abbrev C0 : ℕ → ℕ → ℝ := causal J (P0 Q K L)
abbrev C1 : ℕ → ℕ → ℝ := causal J (P1 Q K L)
abbrev E0 : ℕ → ℕ → ℝ := ds (C0 J Q K L) V (lo G) (D 0)
abbrev E1 : ℕ → ℕ → ℝ := ds (C1 J Q K L) V (hi G) (D 1)
/-- What the point's tile of keys adds to the gradient of the queries. -/
def Z (r c : ℕ) : ℝ := if c < 128 then md (E0 J Q G K V L D) K r c else md (E1 J Q G K V L D) (sec K) r (c - 128)
/-- The block once the tiles of queries from the point's own up to `n` are done, -/
def blk (n : ℕ) (r c : ℕ) : ℝ := T r c + if 512 * J ≤ r ∧ r < 512 * n then Z J Q G K V L D r c else 0
/-- and the carried sums. -/
def acc0 (n : ℕ) (j c : ℕ) : ℝ := ∑ R ∈ Finset.Ico J n, mr R (E0 J Q G K V L D) Q j c
def acc1 (n : ℕ) (j c : ℕ) : ℝ := ∑ R ∈ Finset.Ico J n, mr R (E1 J Q G K V L D) (sec Q) j c
def acc2 (n : ℕ) (j c : ℕ) : ℝ := ∑ R ∈ Finset.Ico J n, (mr R (C0 J Q K L) (lo G) j c + mr R (C1 J Q K L) (hi G) j c)

theorem causal_eq (P : ℕ → ℕ → ℝ) {R j r : ℕ} (hR : J < R) (hj : j < 512) (hr : 512 * R ≤ r) : causal J P j r = P j r := by
  unfold causal; exact if_pos (by omega)
theorem mr_causal (P : ℕ → ℕ → ℝ) (Y : ℕ → ℕ → ℝ) {R j c : ℕ} (hR : J < R) (hj : j < 512) : mr R P Y j c = mr R (causal J P) Y j c := by
  unfold mr; exact Finset.sum_congr rfl fun t _ => by rw [causal_eq J P hR hj (Nat.le_add_right _ _)]
theorem mr_ds (P Y V G : ℕ → ℕ → ℝ) (D : ℕ → ℝ) {R j c : ℕ} (hR : J < R) (hj : j < 512) : mr R (ds P V G D) Y j c = mr R (ds (causal J P) V G D) Y j c := by
  unfold mr ds; exact Finset.sum_congr rfl fun t _ => by rw [causal_eq J P hR hj (Nat.le_add_right _ _)]
theorem md_ds (P Y V G : ℕ → ℕ → ℝ) (D : ℕ → ℝ) {R r c : ℕ} (hR : J < R) (hr : 512 * R ≤ r) : md (ds P V G D) Y r c = md (ds (causal J P) V G D) Y r c := by
  unfold md ds; exact Finset.sum_congr rfl fun t _ => by rw [causal_eq J P hR t.isLt hr]

theorem blk_succ (R : ℕ) (hR : J < R) : addT R (blk J Q G K V T L D R) (blk J Q G K V T L D R) (md (S0 Q G K V L D) K) (md (S1 Q G K V L D) (sec K))
    = blk J Q G K V T L D (R + 1) := by
  funext r c
  unfold addT blk
  by_cases h : 512 * R ≤ r ∧ r < 512 * R + 512
  · rw [if_pos h, if_neg (show ¬(512 * J ≤ r ∧ r < 512 * R) by omega), if_pos (show 512 * J ≤ r ∧ r < 512 * (R + 1) by omega), add_zero]
    unfold Z
    congr 1
    split
    · exact md_ds J _ _ _ _ _ hR h.1
    · exact md_ds J _ _ _ _ _ hR h.1
  · rw [if_neg h]
    congr 1
    by_cases h' : 512 * J ≤ r ∧ r < 512 * R
    · rw [if_pos h', if_pos (by omega)]
    · rw [if_neg h', if_neg (by omega)]

/-- The sums, as the loop carries them. -/
abbrev accs (n : ℕ) : Acc Ideal := (nm (acc0 J Q G K V L D n), nm (acc1 J Q G K V L D n), nm (acc2 J Q G K L n))
theorem accs_succ (R : ℕ) (hR : J < R) : acc Q G K V (acc0 J Q G K V L D R) (acc1 J Q G K V L D R) (acc2 J Q G K L R) L D R = accs J Q G K V L D (R + 1) := by
  unfold acc accs
  refine congrArg₂ Prod.mk (nm_congr fun j hj c _ => ?_) (congrArg₂ Prod.mk (nm_congr fun j hj c _ => ?_) (nm_congr fun j hj c _ => ?_))
  · unfold acc0; rw [Finset.sum_Ico_succ_top hR.le, mr_ds J _ _ _ _ _ hR hj]
  · unfold acc1; rw [Finset.sum_Ico_succ_top hR.le, mr_ds J _ _ _ _ _ hR hj]
  · unfold acc2; rw [Finset.sum_Ico_succ_top hR.le, mr_causal J (P0 Q K L) _ hR hj, mr_causal J (P1 Q K L) _ hR hj, add_assoc]
end

section
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
variable (Q G K V T : ℕ → ℕ → ℝ) (L D : ℕ → ℕ → ℝ)

/-- The tiles of queries up to `n` are done. -/
def Done (n : ℕ) (s : Buf (Elt Ideal) (arg8.view.loc (c : Thread nD τ)) × Acc Ideal) : Prop :=
  arg8.view.read (Elt Ideal) s.1 = nm (blk (i 1).val Q G K V T L D n) ∧ s.2 = accs (i 1).val Q G K V L D n

theorem step_done (R : ℕ) (hJ : (i 1).val < R) (hR : R < 16) (o2 : Fin 2 → ℕ) (b2 : ∀ a, o2 a + S512x256.size a ≤ S8192x256.size a) (o3 : Fin 2 → ℕ) (b3 : ∀ a, o3 a + S512x128.size a ≤ S8192x128.size a)
    (o4 : Fin 4 → ℕ) (b4 : ∀ a, o4 a + S1x1x1x512.size a ≤ S1x16x8x512.size a) (o5 : Fin 4 → ℕ) (b5 : ∀ a, o5 a + S1x1x1x512.size a ≤ S1x16x8x512.size a)
    (oa : Fin 2 → ℕ) (ba : ∀ a, oa a + S512x128.size a ≤ S8192x256.size a) (ob : Fin 2 → ℕ) (bb : ∀ a, ob a + S512x128.size a ≤ S8192x256.size a)
    (h2 : o2 = ![512 * R, 0]) (h3 : o3 = ![512 * R, 0]) (h4 : o4 = ![0, R, 0, 0]) (h5 : o5 = ![0, R, 1, 0]) (ha : oa = ![512 * R, 0]) (hb : ob = ![512 * R, 128])
    (g : Buf (Elt Ideal) (arg8.view.loc (c : Thread nD τ))) (s : Buf (Elt Ideal) (arg8.view.loc (c : Thread nD τ)) × Acc Ideal)
    (hg : ∀ inb, VecWindow.window (arg8.view.read (Elt Ideal) g) ![512 * R, 128] ![512, 128] inb = VecWindow.window (arg8.view.read (Elt Ideal) s.1) ![512 * R, 128] ![512, 128] inb)
    (h : Done c i arg8 Q G K V T L D R s) :
    Done c i arg8 Q G K V T L D (R + 1) (step c arg2 harg2 arg3 harg3 arg4 harg4 arg5 harg5 arg8 (nm Q) (nm G) (nq fun _ R h t => L h (512 * R + t)) (nq fun _ R h t => D h (512 * R + t)) o2 b2 o3 b3 o4 b4 o5 b5 oa ba ob bb (nm K) (nm (sec K)) (nm V) s.1 g s.1 s.2) := by
  obtain ⟨f, a⟩ := s
  obtain ⟨hf, ha'⟩ := h
  dsimp only at hf ha' hg ⊢
  subst ha'
  have := step_table c arg2 harg2 arg3 harg3 arg4 harg4 arg5 harg5 arg8 Q G K V (blk (i 1).val Q G K V T L D R) (blk (i 1).val Q G K V T L D R)
    (acc0 (i 1).val Q G K V L D R) (acc1 (i 1).val Q G K V L D R) (acc2 (i 1).val Q G K L R) L D R hR o2 b2 o3 b3 o4 b4 o5 b5 oa ba ob bb h2 h3 h4 h5 ha hb f g f hf
    (fun inb => by rw [hg inb, hf]; exact window_nm _ _ _ _) hf
  exact ⟨this.1.trans (congrArg nm (blk_succ _ Q G K V T L D R hJ)), this.2.trans (accs_succ _ Q G K V L D R hJ)⟩

theorem mid1_window (k : Fin (k0_t1_loop i).trips) (u : Fin 4) (x0) (x1) (x2) (x3) (v5 v8 : FVec Ideal S512x128 .bf16) (w : Buf (Elt Ideal) (arg8.view.loc (c : Thread nD τ))) (inb) :
    VecWindow.window (arg8.view.read (Elt Ideal) (mid1 c i arg2 harg2 arg3 harg3 arg4 harg4 arg5 harg5 arg8 x0 x1 x2 x3 k u v5 v8 w)) ![512 * ((i 1).val + 1 + 4 * k.val + u.val), 128] ![512, 128] inb
      = VecWindow.window (arg8.view.read (Elt Ideal) w) ![512 * ((i 1).val + 1 + 4 * k.val + u.val), 128] ![512, 128] inb := by
  unfold mid1 mid; dsimp only
  rw [View.read_writes_cons_put arg8.view w _ _ _ (off11_eq i k u), View.writes_nil]
  exact VecWindow.window_put_of_disjoint _ _ _ _ _ _ _ 1 (Or.inr (le_refl 128))

theorem step1_done (k : Fin (k0_t1_loop i).trips) (u : Fin 4) (g : Buf (Elt Ideal) (arg8.view.loc (c : Thread nD τ))) (s : Buf (Elt Ideal) (arg8.view.loc (c : Thread nD τ)) × Acc Ideal)
    (hg : ∀ inb, VecWindow.window (arg8.view.read (Elt Ideal) g) ![512 * ((i 1).val + 1 + 4 * k.val + u.val), 128] ![512, 128] inb
      = VecWindow.window (arg8.view.read (Elt Ideal) s.1) ![512 * ((i 1).val + 1 + 4 * k.val + u.val), 128] ![512, 128] inb)
    (h : Done c i arg8 Q G K V T L D ((i 1).val + 1 + 4 * k.val + u.val) s) :
    Done c i arg8 Q G K V T L D ((i 1).val + 1 + 4 * k.val + u.val + 1) (step1 c i arg2 harg2 arg3 harg3 arg4 harg4 arg5 harg5 arg8 (nm Q) (nm G) (nq fun _ R h t => L h (512 * R + t)) (nq fun _ R h t => D h (512 * R + t)) k u (nm K) (nm (sec K)) (nm V) g s.1 s.2) := by
  have hk := lt_of_lt_of_eq k.isLt (trips1 i)
  exact step_done c i arg2 harg2 arg3 harg3 arg4 harg4 arg5 harg5 arg8 Q G K V T L D _ (by omega) (by omega) _ _ _ _ _ _ _ _ _ _ _ _ (off7_eq i k u) (off8_eq i k u) (off9_eq i k u) (off10_eq i k u) (off11_eq i k u) (off12_eq i k u) g s hg h

theorem trip1_done (arg1 : BitVec 32) (v9 : FVec Ideal S512x128 .f32) (v11 : BitVec 32) (v44 v50 v51 v69 v75 v76 : FVec Ideal S512x128 .f32) (v93 : BitVec 32) (k : Fin (k0_t1_loop i).trips)
    (s : Buf (Elt Ideal) (arg8.view.loc (c : Thread nD τ)) × Acc Ideal) (h : Done c i arg8 Q G K V T L D ((i 1).val + 1 + 4 * k.val) s) :
    Done c i arg8 Q G K V T L D ((i 1).val + 1 + 4 * (k.val + 1)) (trip1 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) arg1 (nm K) (nm (sec K)) (nm V) v9 v11 v44 v50 v51 v69 v75 v76 v93 k s.1 s.2).1 := by
  rw [trip1_eq, show (i 1).val + 1 + 4 * (k.val + 1) = (i 1).val + 1 + 4 * k.val + (3 : Fin 4).val + 1 from rfl]
  have d0 := step1_done c i arg2 harg2 arg3 harg3 arg4 harg4 arg5 harg5 arg8 Q G K V T L D k 0 s.1 s (fun _ => rfl) h
  have d1 := step1_done c i arg2 harg2 arg3 harg3 arg4 harg4 arg5 harg5 arg8 Q G K V T L D k 1 _ _ (mid1_window c i arg2 harg2 arg3 harg3 arg4 harg4 arg5 harg5 arg8 k 1 (nm Q) (nm G) (nq fun _ R h t => L h (512 * R + t)) (nq fun _ R h t => D h (512 * R + t)) (nm K) (nm V) _) d0
  have d2 := step1_done c i arg2 harg2 arg3 harg3 arg4 harg4 arg5 harg5 arg8 Q G K V T L D k 2 _ _ (mid1_window c i arg2 harg2 arg3 harg3 arg4 harg4 arg5 harg5 arg8 k 2 (nm Q) (nm G) (nq fun _ R h t => L h (512 * R + t)) (nq fun _ R h t => D h (512 * R + t)) (nm K) (nm V) _) d1
  exact step1_done c i arg2 harg2 arg3 harg3 arg4 harg4 arg5 harg5 arg8 Q G K V T L D k 3 _ _ (mid1_window c i arg2 harg2 arg3 harg3 arg4 harg4 arg5 harg5 arg8 k 3 (nm Q) (nm G) (nq fun _ R h t => L h (512 * R + t)) (nq fun _ R h t => D h (512 * R + t)) (nm K) (nm V) _) d2

theorem st1_done (arg1 : BitVec 32) (v9 : FVec Ideal S512x128 .f32) (v11 : BitVec 32) (v44 v50 v51 v69 v75 v76 : FVec Ideal S512x128 .f32) (v93 : BitVec 32)
    (s : Buf (Elt Ideal) (arg8.view.loc (c : Thread nD τ)) × Acc Ideal) (h : Done c i arg8 Q G K V T L D ((i 1).val + 1) s) :
    ∀ k ≤ (k0_t1_loop i).trips, Done c i arg8 Q G K V T L D ((i 1).val + 1 + 4 * k) (st1 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) arg1 (nm K) (nm (sec K)) (nm V) v9 v11 v44 v50 v51 v69 v75 v76 v93 s k)
  | 0, _ => h
  | k + 1, hk => by
    rw [st1_succ c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) arg1 (nm K) (nm (sec K)) (nm V) v9 v11 v44 v50 v51 v69 v75 v76 v93 s ⟨k, hk⟩]
    exact trip1_done c i arg2 harg2 arg3 harg3 arg4 harg4 arg5 harg5 arg6 harg6 arg7 harg7 arg8 harg8 arg9 harg9 arg10 harg10 Q G K V T L D arg1 v9 v11 v44 v50 v51 v69 v75 v76 v93 ⟨k, hk⟩ _ (st1_done arg1 v9 v11 v44 v50 v51 v69 v75 v76 v93 s h k (Nat.le_of_succ_le hk))

theorem trip3_done (v120 : BitVec 32) (k : Fin (k0_t3_loop i).trips)
    (s : Buf (Elt Ideal) (arg8.view.loc (c : Thread nD τ)) × Acc Ideal) (h : Done c i arg8 Q G K V T L D ((i 1).val + 1 + 4 * ((15 - (i 1).val) / 4) + k.val) s) :
    Done c i arg8 Q G K V T L D ((i 1).val + 1 + 4 * ((15 - (i 1).val) / 4) + k.val + 1) (trip3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm (sec K)) (nm V) v120 k s.1 s.2).1 := by
  have hk := lt_of_lt_of_eq k.isLt (trips3 i)
  rw [trip3_eq]
  exact step_done c i arg2 harg2 arg3 harg3 arg4 harg4 arg5 harg5 arg8 Q G K V T L D _ (by omega) (by omega) _ _ _ _ _ _ _ _ _ _ _ _ (off19_eq i k) (off20_eq i k) (off21_eq i k) (off22_eq i k) (off23_eq i k) (off24_eq i k) _ s (fun _ => rfl) h

theorem st3_done (v120 : BitVec 32)
    (s : Buf (Elt Ideal) (arg8.view.loc (c : Thread nD τ)) × Acc Ideal) (h : Done c i arg8 Q G K V T L D ((i 1).val + 1 + 4 * ((15 - (i 1).val) / 4)) s) :
    ∀ k ≤ (k0_t3_loop i).trips, Done c i arg8 Q G K V T L D ((i 1).val + 1 + 4 * ((15 - (i 1).val) / 4) + k) (st3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm (sec K)) (nm V) v120 s k)
  | 0, _ => h
  | k + 1, hk => by
    rw [st3_succ c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm (sec K)) (nm V) v120 s ⟨k, hk⟩]
    exact trip3_done c i arg2 harg2 arg3 harg3 arg4 harg4 arg5 harg5 arg6 harg6 arg7 harg7 arg8 harg8 arg9 harg9 arg10 harg10 Q G K V T L D v120 ⟨k, hk⟩ _ (st3_done v120 s h k (Nat.le_of_succ_le hk))
end
end Cert.FlashBwdIdeal.Hand
end
-- ==== Proof.FlashBody.lean ====
/-
  One grid point of the attention's gradient: the tile on the diagonal, then the two loops, then the two results of the
  point, as tables.
-/
module
public import proofs.«01_k».proof.Proof.FlashLoop
@[expose] public section
set_option maxRecDepth 16384
noncomputable section
open Cert.Reals Cert.Tables Idealize.ShloMosaic Idealize.ShloMosaic.TcCoe Idealize.SL.Sem
namespace Cert.FlashBwdIdeal.Hand
open Cert.FlashBwdIdeal.Gen Cert.Flash Cert.FlashBwdIdeal.Step

/-! ## What a point leaves, in the order of its steps -/
/-- The numbers the loops start from. -/
abbrev n1 (i : grid0.Coords) : BitVec 32 := BitVec.ofNat 32 (i 1).val
abbrev n11 (i : grid0.Coords) : BitVec 32 := Scalar.muli (n1 i) 512#32
abbrev n93 (i : grid0.Coords) : BitVec 32 := Scalar.addi (n1 i) 1#32
abbrev n94 (i : grid0.Coords) : BitVec 32 := Scalar.subi 16#32 (n93 i)
abbrev n111 (i : grid0.Coords) : BitVec 32 :=
  Scalar.select (Scalar.andi (Scalar.cmpi .ne (Scalar.subi (Scalar.extui (Scalar.cmpi .sgt (n94 i) 0#32)) (Scalar.extui (Scalar.cmpi .slt (n94 i) 0#32)))
      (Scalar.subi (Scalar.extui (Scalar.cmpi .sgt 4#32 0#32)) (Scalar.extui (Scalar.cmpi .slt 4#32 0#32)))) (Scalar.cmpi .ne (Scalar.remsi (n94 i) 4#32) 0#32))
    (Scalar.subi (Scalar.divsi (n94 i) 4#32) 1#32) (Scalar.divsi (n94 i) 4#32)
abbrev n120 (i : grid0.Coords) : BitVec 32 := Scalar.addi (n93 i) (Scalar.muli 4#32 (n111 i))

section
variable {F : FTy → Type} [FloatOps F] [Named F]
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
  (x0 : Vec F S8192x256 .bf16) (x1 : Vec F S8192x128 .bf16) (x2 : Vec F S1x16x8x512 .f32) (x3 : Vec F S1x16x8x512 .f32) (x4 : Vec F S512x256 .bf16) (x5 : Vec F S512x128 .bf16)

abbrev kt : Vec F S512x256 .bf16 := arg6.view.readAt (Elt F) (Rect.unit (s := S512x256) ![0, 0] S512x256.size inb_S512x256_S512x256_0_0).toLoadRect (harg6.unread x4)
abbrev vt : Vec F S512x128 .bf16 := arg7.view.readAt (Elt F) (Rect.unit (s := S512x128) ![0, 0] S512x128.size inb_S512x128_S512x128_0_0).toLoadRect (harg7.unread x5)
abbrev qt : Vec F S512x256 .bf16 := arg2.view.readAt (Elt F) (Rect.unit (s := S8192x256) (k0_off1 i) S512x256.size (k0_off1_inb i)).toLoadRect (harg2.unread x0)
abbrev gt : Vec F S512x128 .bf16 := arg3.view.readAt (Elt F) (Rect.unit (s := S8192x128) (k0_off2 i) S512x128.size (k0_off2_inb i)).toLoadRect (harg3.unread x1)
abbrev l0t : Vec F S1x1x1x512 .f32 := arg4.view.readAt (Elt F) (Rect.unit (s := S1x16x8x512) (k0_off3 i) S1x1x1x512.size (k0_off3_inb i)).toLoadRect (harg4.unread x2)
abbrev d0t : Vec F S1x1x1x512 .f32 := arg5.view.readAt (Elt F) (Rect.unit (s := S1x16x8x512) (k0_off3 i) S1x1x1x512.size (k0_off3_inb i)).toLoadRect (harg5.unread x3)
abbrev l1t : Vec F S1x1x1x512 .f32 := arg4.view.readAt (Elt F) (Rect.unit (s := S1x16x8x512) (k0_off4 i) S1x1x1x512.size (k0_off4_inb i)).toLoadRect (harg4.unread x2)
abbrev d1t : Vec F S1x1x1x512 .f32 := arg5.view.readAt (Elt F) (Rect.unit (s := S1x16x8x512) (k0_off4 i) S1x1x1x512.size (k0_off4_inb i)).toLoadRect (harg5.unread x3)

/-- The diagonal's six tables, from the point's tiles. -/
structure Diag (F : FTy → Type) [FloatOps F] where
  (v44 v50 v51 v69 v75 v76 : FVec F S512x128 .f32)
abbrev diag (k : Vec F S512x256 .bf16) (v : Vec F S512x128 .bf16) (q : Vec F S512x256 .bf16) (g : Vec F S512x128 .bf16) (l0 d0 l1 d1 : Vec F S1x1x1x512 .f32) : Diag F :=
  ⟨k0_pay195 (k0_pay188 g) (k0_pay191 l0) (k0_pay193 k q) (iota .tc S512x512 32 [0] iota_S512x512_d0_w32),
    k0_pay197 (k0_pay184 v) (k0_pay188 g) (k0_pay190 q) (k0_pay191 l0) (k0_pay192 d0) (k0_pay193 k q) (iota .tc S512x512 32 [0] iota_S512x512_d0_w32),
    k0_pay198 (k0_pay182 k) (k0_pay184 v) (k0_pay188 g) (k0_pay191 l0) (k0_pay192 d0) (k0_pay193 k q) (iota .tc S512x512 32 [0] iota_S512x512_d0_w32),
    k0_pay201 (k0_pay183 k) (k0_pay186 q) (k0_pay189 g) l1,
    k0_pay203 (k0_pay183 k) (k0_pay184 v) (k0_pay186 q) (k0_pay189 g) l1 d1,
    k0_pay204 (k0_pay183 k) (k0_pay184 v) (k0_pay186 q) (k0_pay189 g) l1 d1⟩
abbrev dg : Diag F := diag (kt arg6 harg6 x4) (vt arg7 harg7 x5) (qt i arg2 harg2 x0) (gt i arg3 harg3 x1) (l0t i arg4 harg4 x2) (d0t i arg5 harg5 x3) (l1t i arg4 harg4 x2) (d1t i arg5 harg5 x3)

/-- The first head's part of the block after the diagonal, over `f`; -/
def pre0 (f : Buf (Elt F) (arg8.view.loc (c : Thread nD τ))) : Buf (Elt F) (arg8.view.loc (c : Thread nD τ)) :=
  arg8.view.writes (Elt F) f [⟨Rect.unit (s := S8192x256) (k0_off5 i) S512x128.size (k0_off5_inb i), k0_pay205 (dg i arg2 harg2 arg3 harg3 arg4 harg4 arg5 harg5 arg6 harg6 arg7 harg7 x0 x1 x2 x3 x4 x5).v51 (arg8.view.readAt (Elt F) (Rect.unit (s := S8192x256) (k0_off5 i) S512x128.size (k0_off5_inb i)).toLoadRect f)⟩]
/-- both heads', the second's read in `g`; -/
def buf0 (f g : Buf (Elt F) (arg8.view.loc (c : Thread nD τ))) : Buf (Elt F) (arg8.view.loc (c : Thread nD τ)) :=
  arg8.view.writes (Elt F) (pre0 c i arg2 harg2 arg3 harg3 arg4 harg4 arg5 harg5 arg6 harg6 arg7 harg7 arg8 x0 x1 x2 x3 x4 x5 f) [⟨Rect.unit (s := S8192x256) (k0_off6 i) S512x128.size (k0_off6_inb i), k0_pay206 (dg i arg2 harg2 arg3 harg3 arg4 harg4 arg5 harg5 arg6 harg6 arg7 harg7 x0 x1 x2 x3 x4 x5).v76 (arg8.view.readAt (Elt F) (Rect.unit (s := S8192x256) (k0_off6 i) S512x128.size (k0_off6_inb i)).toLoadRect g)⟩]
/-- the sums after the diagonal; -/
def sum0 : Acc F := (k0_pay207 k0_pay185 (dg i arg2 harg2 arg3 harg3 arg4 harg4 arg5 harg5 arg6 harg6 arg7 harg7 x0 x1 x2 x3 x4 x5).v50, k0_pay208 k0_pay185 (dg i arg2 harg2 arg3 harg3 arg4 harg4 arg5 harg5 arg6 harg6 arg7 harg7 x0 x1 x2 x3 x4 x5).v75, k0_pay209 k0_pay185 (dg i arg2 harg2 arg3 harg3 arg4 harg4 arg5 harg5 arg6 harg6 arg7 harg7 x0 x1 x2 x3 x4 x5).v44 (dg i arg2 harg2 arg3 harg3 arg4 harg4 arg5 harg5 arg6 harg6 arg7 harg7 x0 x1 x2 x3 x4 x5).v69)
/-- after the first loop, from the block `b` the diagonal has left, -/
def mid3 (b : Buf (Elt F) (arg8.view.loc (c : Thread nD τ))) : ℕ → Buf (Elt F) (arg8.view.loc (c : Thread nD τ)) × Acc F :=
  st1 c i arg2 harg2 arg3 harg3 arg4 harg4 arg5 harg5 arg6 harg6 arg7 harg7 arg8 harg8 arg9 harg9 arg10 harg10 x0 x1 x2 x3 (n1 i) (k0_pay182 (kt arg6 harg6 x4)) (k0_pay183 (kt arg6 harg6 x4)) (k0_pay184 (vt arg7 harg7 x5)) k0_pay185 (n11 i)
    (dg i arg2 harg2 arg3 harg3 arg4 harg4 arg5 harg5 arg6 harg6 arg7 harg7 x0 x1 x2 x3 x4 x5).v44 (dg i arg2 harg2 arg3 harg3 arg4 harg4 arg5 harg5 arg6 harg6 arg7 harg7 x0 x1 x2 x3 x4 x5).v50 (dg i arg2 harg2 arg3 harg3 arg4 harg4 arg5 harg5 arg6 harg6 arg7 harg7 x0 x1 x2 x3 x4 x5).v51 (dg i arg2 harg2 arg3 harg3 arg4 harg4 arg5 harg5 arg6 harg6 arg7 harg7 x0 x1 x2 x3 x4 x5).v69 (dg i arg2 harg2 arg3 harg3 arg4 harg4 arg5 harg5 arg6 harg6 arg7 harg7 x0 x1 x2 x3 x4 x5).v75 (dg i arg2 harg2 arg3 harg3 arg4 harg4 arg5 harg5 arg6 harg6 arg7 harg7 x0 x1 x2 x3 x4 x5).v76 (n93 i) (b, sum0 i arg2 harg2 arg3 harg3 arg4 harg4 arg5 harg5 arg6 harg6 arg7 harg7 x0 x1 x2 x3 x4 x5)
def buf1 (b : Buf (Elt F) (arg8.view.loc (c : Thread nD τ))) : Buf (Elt F) (arg8.view.loc (c : Thread nD τ)) :=
  from0 b (fun k => (mid3 c i arg2 harg2 arg3 harg3 arg4 harg4 arg5 harg5 arg6 harg6 arg7 harg7 arg8 harg8 arg9 harg9 arg10 harg10 x0 x1 x2 x3 x4 x5 b k).1) (k0_t1_loop i).trips
/-- and after the second. -/
def end3 (b : Buf (Elt F) (arg8.view.loc (c : Thread nD τ))) : ℕ → Buf (Elt F) (arg8.view.loc (c : Thread nD τ)) × Acc F :=
  st3 c i arg2 harg2 arg3 harg3 arg4 harg4 arg5 harg5 arg6 harg6 arg7 harg7 arg8 harg8 arg9 harg9 arg10 harg10 x0 x1 x2 x3 (k0_pay182 (kt arg6 harg6 x4)) (k0_pay183 (kt arg6 harg6 x4)) (k0_pay184 (vt arg7 harg7 x5)) (n120 i)
    (buf1 c i arg2 harg2 arg3 harg3 arg4 harg4 arg5 harg5 arg6 harg6 arg7 harg7 arg8 harg8 arg9 harg9 arg10 harg10 x0 x1 x2 x3 x4 x5 b, (mid3 c i arg2 harg2 arg3 harg3 arg4 harg4 arg5 harg5 arg6 harg6 arg7 harg7 arg8 harg8 arg9 harg9 arg10 harg10 x0 x1 x2 x3 x4 x5 b (k0_t1_loop i).trips).2)
def buf3 (b : Buf (Elt F) (arg8.view.loc (c : Thread nD τ))) : Buf (Elt F) (arg8.view.loc (c : Thread nD τ)) :=
  from0 (buf1 c i arg2 harg2 arg3 harg3 arg4 harg4 arg5 harg5 arg6 harg6 arg7 harg7 arg8 harg8 arg9 harg9 arg10 harg10 x0 x1 x2 x3 x4 x5 b) (fun k => (end3 c i arg2 harg2 arg3 harg3 arg4 harg4 arg5 harg5 arg6 harg6 arg7 harg7 arg8 harg8 arg9 harg9 arg10 harg10 x0 x1 x2 x3 x4 x5 b k).1) (k0_t3_loop i).trips
def sum3 (b : Buf (Elt F) (arg8.view.loc (c : Thread nD τ))) : Acc F := (end3 c i arg2 harg2 arg3 harg3 arg4 harg4 arg5 harg5 arg6 harg6 arg7 harg7 arg8 harg8 arg9 harg9 arg10 harg10 x0 x1 x2 x3 x4 x5 b (k0_t3_loop i).trips).2

theorem buf1_eq (b : Buf (Elt F) (arg8.view.loc (c : Thread nD τ))) : buf1 c i arg2 harg2 arg3 harg3 arg4 harg4 arg5 harg5 arg6 harg6 arg7 harg7 arg8 harg8 arg9 harg9 arg10 harg10 x0 x1 x2 x3 x4 x5 b = (mid3 c i arg2 harg2 arg3 harg3 arg4 harg4 arg5 harg5 arg6 harg6 arg7 harg7 arg8 harg8 arg9 harg9 arg10 harg10 x0 x1 x2 x3 x4 x5 b (k0_t1_loop i).trips).1 := by
  unfold buf1
  generalize (k0_t1_loop i).trips = n
  cases n with
  | zero => unfold mid3 from0; rw [st1]
  | succ n => rw [from0]
theorem buf3_eq (b : Buf (Elt F) (arg8.view.loc (c : Thread nD τ))) : buf3 c i arg2 harg2 arg3 harg3 arg4 harg4 arg5 harg5 arg6 harg6 arg7 harg7 arg8 harg8 arg9 harg9 arg10 harg10 x0 x1 x2 x3 x4 x5 b = (end3 c i arg2 harg2 arg3 harg3 arg4 harg4 arg5 harg5 arg6 harg6 arg7 harg7 arg8 harg8 arg9 harg9 arg10 harg10 x0 x1 x2 x3 x4 x5 b (k0_t3_loop i).trips).1 := by
  unfold buf3
  generalize (k0_t3_loop i).trips = n
  cases n with
  | zero => unfold end3 from0; rw [st3]
  | succ n => rw [from0]

/-- A pair's first point zeroes the block. -/
abbrev zero8 : Buf (Elt F) (arg8.view.loc (c : Thread nD τ)) :=
  arg8.view.writes (Elt F) arg8.view.junk [⟨Rect.unit (s := S8192x256) ![0, 0] S8192x256.size inb_S8192x256_S8192x256_0_0, k0_pay180⟩]
theorem runB_buf (hc0 : ¬cond0 i) (xo : Vec F S8192x256 .f32) :
    (kernelRunB c i arg2 harg2 arg3 harg3 arg4 harg4 arg5 harg5 arg6 harg6 arg7 harg7 arg8 harg8 arg9 harg9 arg10 harg10 hc0 x0 x1 x2 x3 x4 x5 xo).1 = buf3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (harg8.unread xo) (harg8.unread xo)) := by
  sl_kernel_rfl
theorem runB_keys (hc0 : ¬cond0 i) (xo : Vec F S8192x256 .f32) :
    (kernelRunB c i arg2 harg2 arg3 harg3 arg4 harg4 arg5 harg5 arg6 harg6 arg7 harg7 arg8 harg8 arg9 harg9 arg10 harg10 hc0 x0 x1 x2 x3 x4 x5 xo).2.1
      = [⟨Rect.unit (s := S512x256) ![0, 128] S512x128.size inb_S512x256_S512x128_0_128, k0_pay16 (sum3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (harg8.unread xo) (harg8.unread xo))).2.1⟩,
        ⟨Rect.unit (s := S512x256) ![0, 0] S512x128.size inb_S512x256_S512x128_0_0, k0_pay15 (sum3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (harg8.unread xo) (harg8.unread xo))).1⟩] := by
  sl_kernel_rfl
theorem runB_values (hc0 : ¬cond0 i) (xo : Vec F S8192x256 .f32) :
    (kernelRunB c i arg2 harg2 arg3 harg3 arg4 harg4 arg5 harg5 arg6 harg6 arg7 harg7 arg8 harg8 arg9 harg9 arg10 harg10 hc0 x0 x1 x2 x3 x4 x5 xo).2.2.1
      = [⟨Rect.unit (s := S512x128) ![0, 0] S512x128.size inb_S512x128_S512x128_0_0, k0_pay17 (sum3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (harg8.unread xo) (harg8.unread xo))).2.2⟩] := by
  sl_kernel_rfl
theorem runA_buf (hc0 : cond0 i) :
    (kernelRunA c i arg2 harg2 arg3 harg3 arg4 harg4 arg5 harg5 arg6 harg6 arg7 harg7 arg8 harg8 arg9 harg9 arg10 harg10 hc0 x0 x1 x2 x3 x4 x5).1 = buf3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (zero8 c arg8) (pre0 c i arg2 harg2 arg3 harg3 arg4 harg4 arg5 harg5 arg6 harg6 arg7 harg7 arg8 x0 x1 x2 x3 x4 x5 (zero8 c arg8))) := by
  sl_kernel_rfl
theorem runA_keys (hc0 : cond0 i) :
    (kernelRunA c i arg2 harg2 arg3 harg3 arg4 harg4 arg5 harg5 arg6 harg6 arg7 harg7 arg8 harg8 arg9 harg9 arg10 harg10 hc0 x0 x1 x2 x3 x4 x5).2.1
      = [⟨Rect.unit (s := S512x256) ![0, 128] S512x128.size inb_S512x256_S512x128_0_128, k0_pay16 (sum3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (zero8 c arg8) (pre0 c i arg2 harg2 arg3 harg3 arg4 harg4 arg5 harg5 arg6 harg6 arg7 harg7 arg8 x0 x1 x2 x3 x4 x5 (zero8 c arg8)))).2.1⟩,
        ⟨Rect.unit (s := S512x256) ![0, 0] S512x128.size inb_S512x256_S512x128_0_0, k0_pay15 (sum3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (zero8 c arg8) (pre0 c i arg2 harg2 arg3 harg3 arg4 harg4 arg5 harg5 arg6 harg6 arg7 harg7 arg8 x0 x1 x2 x3 x4 x5 (zero8 c arg8)))).1⟩] := by
  sl_kernel_rfl
theorem runA_values (hc0 : cond0 i) :
    (kernelRunA c i arg2 harg2 arg3 harg3 arg4 harg4 arg5 harg5 arg6 harg6 arg7 harg7 arg8 harg8 arg9 harg9 arg10 harg10 hc0 x0 x1 x2 x3 x4 x5).2.2.1
      = [⟨Rect.unit (s := S512x128) ![0, 0] S512x128.size inb_S512x128_S512x128_0_0, k0_pay17 (sum3 c i arg2 harg2 arg3 harg3 arg4 harg4 arg5 harg5 arg6 harg6 arg7 harg7 arg8 harg8 arg9 harg9 arg10 harg10 x0 x1 x2 x3 x4 x5 (buf0 c i arg2 harg2 arg3 harg3 arg4 harg4 arg5 harg5 arg6 harg6 arg7 harg7 arg8 x0 x1 x2 x3 x4 x5 (zero8 c arg8) (pre0 c i arg2 harg2 arg3 harg3 arg4 harg4 arg5 harg5 arg6 harg6 arg7 harg7 arg8 x0 x1 x2 x3 x4 x5 (zero8 c arg8)))).2.2⟩] := by
  sl_kernel_rfl
end

/-! ## The tables -/
theorem off1_eq : ∀ i : grid0.Coords, k0_off1 i = ![512 * (i 1).val, 0] := by decide +kernel
theorem off2_eq : ∀ i : grid0.Coords, k0_off2 i = ![512 * (i 1).val, 0] := by decide +kernel
theorem off3_eq : ∀ i : grid0.Coords, k0_off3 i = ![0, (i 1).val, 0, 0] := by decide +kernel
theorem off4_eq : ∀ i : grid0.Coords, k0_off4 i = ![0, (i 1).val, 1, 0] := by decide +kernel

theorem ptm_causal (J : ℕ) (A B : ℕ → ℕ → ℝ) (L : ℕ → ℝ) :
    ptm A (fun t c => B (512 * J + t) c) (fun t => L (512 * J + t)) = fun j t => causal J (pt A B L) j (512 * J + t) := by
  funext j t
  unfold ptm causal
  simp only [Nat.add_le_add_iff_left]
  rfl
theorem put_halves (x : (⟨2, ![512, 256]⟩ : Shape).Idx → EReal) (X Y : ℕ → ℕ → ℝ) :
    VecWindow.put (s := ⟨2, ![512, 256]⟩) (VecWindow.put (s := ⟨2, ![512, 256]⟩) x ![0, 0] ![512, 128] (nm X : (⟨2, ![512, 128]⟩ : Shape).Idx → EReal)) ![0, 128] ![512, 128]
      (nm Y : (⟨2, ![512, 128]⟩ : Shape).Idx → EReal) = nm fun j c => if c < 128 then X j c else Y j (c - 128) := by
  funext y
  have r0 : (y 0).val < 512 := (y 0).isLt
  have r1 : (y 1).val < 256 := (y 1).isLt
  unfold VecWindow.put
  by_cases h : (y 1).val < 128
  · rw [dif_neg fun q => by have := q 1; dsimp at this; omega, dif_pos fun a => by
      match a with
      | ⟨0, _⟩ => exact ⟨Nat.zero_le _, by show (y 0).val < 0 + 512; omega⟩
      | ⟨1, _⟩ => exact ⟨Nat.zero_le _, by show (y 1).val < 0 + 128; omega⟩]
    show ((X ((y 0).val - 0) ((y 1).val - 0) : ℝ) : EReal) = (((if (y 1).val < 128 then X (y 0).val (y 1).val else _) : ℝ) : EReal)
    rw [if_pos h, Nat.sub_zero, Nat.sub_zero]
  · rw [dif_pos fun a => by
      match a with
      | ⟨0, _⟩ => exact ⟨Nat.zero_le _, by show (y 0).val < 0 + 512; omega⟩
      | ⟨1, _⟩ => exact ⟨by show 128 ≤ (y 1).val; omega, by show (y 1).val < 128 + 128; omega⟩]
    show ((Y ((y 0).val - 0) ((y 1).val - 128) : ℝ) : EReal) = (((if (y 1).val < 128 then _ else Y (y 0).val ((y 1).val - 128)) : ℝ) : EReal)
    rw [if_neg h, Nat.sub_zero]

theorem blk_first (J : ℕ) (Q G K V T : ℕ → ℕ → ℝ) (L D : ℕ → ℕ → ℝ) :
    addT J T T (md (E0 J Q G K V L D) K) (md (E1 J Q G K V L D) (sec K)) = blk J Q G K V T L D (J + 1) := by
  funext r c
  unfold addT blk Z
  by_cases h : 512 * J ≤ r ∧ r < 512 * J + 512
  · rw [if_pos h, if_pos (show 512 * J ≤ r ∧ r < 512 * (J + 1) by omega)]
  · rw [if_neg h, if_neg (show ¬(512 * J ≤ r ∧ r < 512 * (J + 1)) by omega), add_zero]

section
variable (c : Dev nD) (i : grid0.Coords) (arg2 : Memref sig .tc .vmem S8192x256 .bf16) (harg2 : arg2.IsWhole) (arg3 : Memref sig .tc .vmem S8192x128 .bf16) (harg3 : arg3.IsWhole) (arg4 : Memref sig .tc .vmem S1x16x8x512 .f32) (harg4 : arg4.IsWhole) (arg5 : Memref sig .tc .vmem S1x16x8x512 .f32) (harg5 : arg5.IsWhole) (arg6 : Memref sig .tc .vmem S512x256 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .bf16) (harg10 : arg10.IsWhole)
variable (Q G K V T : ℕ → ℕ → ℝ) (L D : ℕ → ℕ → ℝ)

theorem dg_eq : dg (F := Ideal) i arg2 harg2 arg3 harg3 arg4 harg4 arg5 harg5 arg6 harg6 arg7 harg7 (nm Q) (nm G) (nq fun _ R h t => L h (512 * R + t)) (nq fun _ R h t => D h (512 * R + t)) (nm K) (nm V)
    = (⟨nm (mr (i 1).val (C0 (i 1).val Q K L) (lo G)), nm (mr (i 1).val (E0 (i 1).val Q G K V L D) Q), nm fun t c => md (E0 (i 1).val Q G K V L D) K (512 * (i 1).val + t) c,
      nm (mr (i 1).val (C1 (i 1).val Q K L) (hi G)), nm (mr (i 1).val (E1 (i 1).val Q G K V L D) (sec Q)), nm fun t c => md (E1 (i 1).val Q G K V L D) (sec K) (512 * (i 1).val + t) c⟩ : Diag Ideal) := by
  have i2 : ∀ a, (![512 * (i 1).val, 0] : Fin 2 → ℕ) a + S512x256.size a ≤ S8192x256.size a := off1_eq i ▸ k0_off1_inb i
  have i3 : ∀ a, (![512 * (i 1).val, 0] : Fin 2 → ℕ) a + S512x128.size a ≤ S8192x128.size a := off2_eq i ▸ k0_off2_inb i
  have i4 : ∀ a, (![0, (i 1).val, 0, 0] : Fin 4 → ℕ) a + S1x1x1x512.size a ≤ S1x16x8x512.size a := off3_eq i ▸ k0_off3_inb i
  have i5 : ∀ a, (![0, (i 1).val, 1, 0] : Fin 4 → ℕ) a + S1x1x1x512.size a ≤ S1x16x8x512.size a := off4_eq i ▸ k0_off4_inb i
  unfold dg diag kt vt qt gt l0t d0t l1t d1t
  rw [View.readAt_full arg6.view, View.readAt_full arg7.view,
    View.readAt_unit arg2.view _ _ (off1_eq i) i2, View.readAt_unit arg3.view _ _ (off2_eq i) i3, View.readAt_unit arg4.view _ _ (off3_eq i) i4, View.readAt_unit arg4.view _ _ (off4_eq i) i5,
    View.readAt_unit arg5.view _ _ (off3_eq i) i4, View.readAt_unit arg5.view _ _ (off4_eq i) i5,
    harg2.read_unread, harg3.read_unread, harg4.read_unread, harg5.read_unread, harg6.read_unread, harg7.read_unread,
    window_nm, window_nm, window_nq, window_nq, window_nq, window_nq]
  simp only [zero_add]
  rw [pay182_eq, pay183_eq, pay184_eq, pay186_eq, pay188_eq, pay189_eq, pay190_eq, pay191_eq, pay192_eq, pay193_eq, pay195_eq, pay197_eq, pay198_eq, pay201_eq, pay203_eq, pay204_eq]
  have p0 := ptm_causal (i 1).val K Q (L 0)
  have p1 : ptm (fun t c => K t (128 + c)) (fun t c => Q (512 * (i 1).val + t) (128 + c)) (fun t => L 1 (512 * (i 1).val + t)) = _ := ptm_causal (i 1).val (sec K) (sec Q) (L 1)
  rw [p0, p1]
  rfl

theorem body_done (f g : Buf (Elt Ideal) (arg8.view.loc (c : Thread nD τ))) (hf : arg8.view.read (Elt Ideal) f = nm T)
    (hg : ∀ inb, VecWindow.window (arg8.view.read (Elt Ideal) g) ![512 * (i 1).val, 128] ![512, 128] inb = VecWindow.window (arg8.view.read (Elt Ideal) f) ![512 * (i 1).val, 128] ![512, 128] inb) :
    Done c i arg8 Q G K V T L D ((i 1).val + 1) (buf0 c i arg2 harg2 arg3 harg3 arg4 harg4 arg5 harg5 arg6 harg6 arg7 harg7 arg8 (nm Q) (nm G) (nq fun _ R h t => L h (512 * R + t)) (nq fun _ R h t => D h (512 * R + t)) (nm K) (nm V) f g, sum0 i arg2 harg2 arg3 harg3 arg4 harg4 arg5 harg5 arg6 harg6 arg7 harg7 (nm Q) (nm G) (nq fun _ R h t => L h (512 * R + t)) (nq fun _ R h t => D h (512 * R + t)) (nm K) (nm V)) := by
  constructor
  · have i5 : ∀ a, (![512 * (i 1).val, 0] : Fin 2 → ℕ) a + S512x128.size a ≤ S8192x256.size a := off5_eq i ▸ k0_off5_inb i
    have i6 : ∀ a, (![512 * (i 1).val, 128] : Fin 2 → ℕ) a + S512x128.size a ≤ S8192x256.size a := off6_eq i ▸ k0_off6_inb i
    unfold buf0 pre0
    rw [dg_eq]
    dsimp only
    rw [View.read_writes_cons_put arg8.view _ _ _ _ (off6_eq i), View.writes_nil, View.read_writes_cons_put arg8.view f _ _ _ (off5_eq i), View.writes_nil,
      View.readAt_unit arg8.view _ _ (off5_eq i) i5, View.readAt_unit arg8.view _ _ (off6_eq i) i6]
    erw [hg]
    rw [hf]
    erw [window_nm, window_nm]
    rw [pay205_eq, pay206_eq]
    refine Eq.trans ?_ ((put_add (i 1).val T T (md (E0 (i 1).val Q G K V L D) K) (md (E1 (i 1).val Q G K V L D) (sec K))).trans (congrArg nm (blk_first _ Q G K V T L D)))
    rfl
  · unfold sum0
    rw [dg_eq]
    dsimp only
    rw [pay185_eq, pay207_eq, pay208_eq, pay209_eq]
    unfold accs acc0 acc1 acc2
    simp only [Finset.sum_Ico_succ_top (Nat.le_refl _), Finset.Ico_self, Finset.sum_empty, zero_add]

theorem loops_done (b : Buf (Elt Ideal) (arg8.view.loc (c : Thread nD τ))) (h : Done c i arg8 Q G K V T L D ((i 1).val + 1) (b, sum0 i arg2 harg2 arg3 harg3 arg4 harg4 arg5 harg5 arg6 harg6 arg7 harg7 (nm Q) (nm G) (nq fun _ R h t => L h (512 * R + t)) (nq fun _ R h t => D h (512 * R + t)) (nm K) (nm V))) :
    arg8.view.read (Elt Ideal) (buf3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b) = nm (blk (i 1).val Q G K V T L D 16) ∧ sum3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b = accs (i 1).val Q G K V L D 16 := by
  have e4 : kt (F := Ideal) arg6 harg6 (nm K) = nm K := by unfold kt; rw [View.readAt_full arg6.view, harg6.read_unread]
  have e5 : vt (F := Ideal) arg7 harg7 (nm V) = nm V := by unfold vt; rw [View.readAt_full arg7.view, harg7.read_unread]
  have m : ∀ k ≤ (k0_t1_loop i).trips, Done c i arg8 Q G K V T L D ((i 1).val + 1 + 4 * k) (mid3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b k) := by
    unfold mid3
    rw [e4, e5, pay182_eq, pay183_eq, pay184_eq]
    exact st1_done c i arg2 harg2 arg3 harg3 arg4 harg4 arg5 harg5 arg6 harg6 arg7 harg7 arg8 harg8 arg9 harg9 arg10 harg10 Q G K V T L D _ _ _ _ _ _ _ _ _ _ _ h
  have eb := buf1_eq c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b
  have e : ∀ k ≤ (k0_t3_loop i).trips, Done c i arg8 Q G K V T L D ((i 1).val + 1 + 4 * ((15 - (i 1).val) / 4) + k) (end3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b k) := by
    unfold end3
    rw [eb, e4, e5, pay182_eq, pay183_eq, pay184_eq]
    exact st3_done c i arg2 harg2 arg3 harg3 arg4 harg4 arg5 harg5 arg6 harg6 arg7 harg7 arg8 harg8 arg9 harg9 arg10 harg10 Q G K V T L D _ _ (by rw [← trips1]; exact m _ le_rfl)
  have e' := e _ le_rfl
  have h16 : (i 1).val + 1 + 4 * ((15 - (i 1).val) / 4) + (k0_t3_loop i).trips = 16 := by
    have : (i 1).val < 16 := (i 1).isLt
    rw [trips3]; omega
  rw [h16] at e'
  unfold sum3
  rw [buf3_eq]
  exact e'

/-- The gradient of the point's tile of keys, the two heads side by side. -/
def keys (J : ℕ) (j c : ℕ) : ℝ := (if c < 128 then acc0 J Q G K V L D 16 j c else acc1 J Q G K V L D 16 j (c - 128)) * Real.log 2

theorem tails (b : Buf (Elt Ideal) (arg8.view.loc (c : Thread nD τ))) (h : Done c i arg8 Q G K V T L D ((i 1).val + 1) (b, sum0 i arg2 harg2 arg3 harg3 arg4 harg4 arg5 harg5 arg6 harg6 arg7 harg7 (nm Q) (nm G) (nq fun _ R h t => L h (512 * R + t)) (nq fun _ R h t => D h (512 * R + t)) (nm K) (nm V))) :
    arg9.view.read (Elt Ideal) (arg9.view.writes (Elt Ideal) arg9.view.junk
        [⟨Rect.unit (s := S512x256) ![0, 128] S512x128.size inb_S512x256_S512x128_0_128, k0_pay16 (sum3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b).2.1⟩,
        ⟨Rect.unit (s := S512x256) ![0, 0] S512x128.size inb_S512x256_S512x128_0_0, k0_pay15 (sum3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b).1⟩]) = nm (keys Q G K V L D (i 1).val)
      ∧ arg10.view.read (Elt Ideal) (arg10.view.writes (Elt Ideal) arg10.view.junk
        [⟨Rect.unit (s := S512x128) ![0, 0] S512x128.size inb_S512x128_S512x128_0_0, k0_pay17 (sum3 c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) b).2.2⟩]) = nm (acc2 (i 1).val Q G K L 16) := by
  rw [(loops_done c i arg2 harg2 arg3 harg3 arg4 harg4 arg5 harg5 arg6 harg6 arg7 harg7 arg8 harg8 arg9 harg9 arg10 harg10 Q G K V T L D b h).2]
  dsimp only [accs]
  rw [pay15_eq, pay16_eq, pay17_eq]
  constructor
  · rw [View.read_writes_cons_put arg9.view _ _ _ _ rfl, View.read_writes_cons_put arg9.view _ _ _ _ rfl]
    refine (put_halves _ _ _).trans (congrArg nm ?_)
    funext j c
    unfold keys
    split <;> rfl
  · exact View.read_writes_full arg10.view _ _ _ _

theorem runB_table (hc0 : ¬cond0 i) :
    arg8.view.read (Elt Ideal) (kernelRunB c i arg2 harg2 arg3 harg3 arg4 harg4 arg5 harg5 arg6 harg6 arg7 harg7 arg8 harg8 arg9 harg9 arg10 harg10 hc0 (nm Q) (nm G) (nq fun _ R h t => L h (512 * R + t)) (nq fun _ R h t => D h (512 * R + t)) (nm K) (nm V) (nm T)).1 = nm (blk (i 1).val Q G K V T L D 16)
      ∧ arg9.view.read (Elt Ideal) (arg9.view.writes (Elt Ideal) arg9.view.junk (kernelRunB c i arg2 harg2 arg3 harg3 arg4 harg4 arg5 harg5 arg6 harg6 arg7 harg7 arg8 harg8 arg9 harg9 arg10 harg10 hc0 (nm Q) (nm G) (nq fun _ R h t => L h (512 * R + t)) (nq fun _ R h t => D h (512 * R + t)) (nm K) (nm V) (nm T)).2.1) = nm (keys Q G K V L D (i 1).val)
      ∧ arg10.view.read (Elt Ideal) (arg10.view.writes (Elt Ideal) arg10.view.junk (kernelRunB c i arg2 harg2 arg3 harg3 arg4 harg4 arg5 harg5 arg6 harg6 arg7 harg7 arg8 harg8 arg9 harg9 arg10 harg10 hc0 (nm Q) (nm G) (nq fun _ R h t => L h (512 * R + t)) (nq fun _ R h t => D h (512 * R + t)) (nm K) (nm V) (nm T)).2.2.1) = nm (acc2 (i 1).val Q G K L 16) := by
  have h := body_done c i arg2 harg2 arg3 harg3 arg4 harg4 arg5 harg5 arg6 harg6 arg7 harg7 arg8 Q G K V T L D (harg8.unread (nm T)) (harg8.unread (nm T)) (harg8.read_unread _) (fun _ => rfl)
  have t := tails c i arg2 harg2 arg3 harg3 arg4 harg4 arg5 harg5 arg6 harg6 arg7 harg7 arg8 harg8 arg9 harg9 arg10 harg10 Q G K V T L D _ h
  refine ⟨?_, ?_, ?_⟩
  · rw [runB_buf (F := Ideal) c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) hc0 (nm T)]
    exact (loops_done c i arg2 harg2 arg3 harg3 arg4 harg4 arg5 harg5 arg6 harg6 arg7 harg7 arg8 harg8 arg9 harg9 arg10 harg10 Q G K V T L D _ h).1
  · rw [runB_keys (F := Ideal) c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) hc0 (nm T)]
    exact t.1
  · rw [runB_values (F := Ideal) c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) hc0 (nm T)]
    exact t.2

theorem runA_table (hc0 : cond0 i) :
    arg8.view.read (Elt Ideal) (kernelRunA c i arg2 harg2 arg3 harg3 arg4 harg4 arg5 harg5 arg6 harg6 arg7 harg7 arg8 harg8 arg9 harg9 arg10 harg10 hc0 (nm Q) (nm G) (nq fun _ R h t => L h (512 * R + t)) (nq fun _ R h t => D h (512 * R + t)) (nm K) (nm V)).1 = nm (blk (i 1).val Q G K V (fun _ _ => 0) L D 16)
      ∧ arg9.view.read (Elt Ideal) (arg9.view.writes (Elt Ideal) arg9.view.junk (kernelRunA c i arg2 harg2 arg3 harg3 arg4 harg4 arg5 harg5 arg6 harg6 arg7 harg7 arg8 harg8 arg9 harg9 arg10 harg10 hc0 (nm Q) (nm G) (nq fun _ R h t => L h (512 * R + t)) (nq fun _ R h t => D h (512 * R + t)) (nm K) (nm V)).2.1) = nm (keys Q G K V L D (i 1).val)
      ∧ arg10.view.read (Elt Ideal) (arg10.view.writes (Elt Ideal) arg10.view.junk (kernelRunA c i arg2 harg2 arg3 harg3 arg4 harg4 arg5 harg5 arg6 harg6 arg7 harg7 arg8 harg8 arg9 harg9 arg10 harg10 hc0 (nm Q) (nm G) (nq fun _ R h t => L h (512 * R + t)) (nq fun _ R h t => D h (512 * R + t)) (nm K) (nm V)).2.2.1) = nm (acc2 (i 1).val Q G K L 16) := by
  have hz : arg8.view.read (Elt Ideal) (zero8 c arg8) = nm fun _ _ => 0 := by
    unfold zero8; exact (View.read_writes_full arg8.view _ _ _ _).trans pay180_eq
  have h := body_done c i arg2 harg2 arg3 harg3 arg4 harg4 arg5 harg5 arg6 harg6 arg7 harg7 arg8 Q G K V (fun _ _ => 0) L D (zero8 c arg8) (pre0 c i arg2 harg2 arg3 harg3 arg4 harg4 arg5 harg5 arg6 harg6 arg7 harg7 arg8 (nm Q) (nm G) (nq fun _ R h t => L h (512 * R + t)) (nq fun _ R h t => D h (512 * R + t)) (nm K) (nm V) (zero8 c arg8)) hz (fun inb => by
    unfold pre0
    rw [View.read_writes_cons_put arg8.view _ _ _ _ (off5_eq i), View.writes_nil]
    exact VecWindow.window_put_of_disjoint _ _ _ _ _ _ _ 1 (Or.inr (le_refl 128)))
  have t := tails c i arg2 harg2 arg3 harg3 arg4 harg4 arg5 harg5 arg6 harg6 arg7 harg7 arg8 harg8 arg9 harg9 arg10 harg10 Q G K V _ L D _ h
  refine ⟨?_, ?_, ?_⟩
  · rw [runA_buf (F := Ideal) c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) hc0]
    exact (loops_done c i arg2 harg2 arg3 harg3 arg4 harg4 arg5 harg5 arg6 harg6 arg7 harg7 arg8 harg8 arg9 harg9 arg10 harg10 Q G K V _ L D _ h).1
  · rw [runA_keys (F := Ideal) c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) hc0]
    exact t.1
  · rw [runA_values (F := Ideal) c i arg2 harg2 arg3 harg3 arg4 harg4 arg5 harg5 arg6 harg6 arg7 harg7 arg8 harg8 arg9 harg9 arg10 harg10 (nm Q) (nm G) (nq fun _ R h t => L h (512 * R + t)) (nq fun _ R h t => D h (512 * R + t)) (nm K) (nm V) hc0]
    exact t.2
end
end Cert.FlashBwdIdeal.Hand
end
-- ==== Proof.FlashValue.lean ====
/-
  The attention's gradient at the end of the grid: the three results as tables of the arrays that enter the region.
-/
module
public import proofs.«01_k».proof.Proof.FlashBody
public import proofs.«01_k».proof.Proof.FlashFrame
public import proofs.«01_k».proof.Proof.FlashHost
public import Idealize.ShloMosaic.Lib.Pipeline.ValueKit.Point
public import Idealize.ShloMosaic.Lib.StableHlo.RunRead
public import Idealize.ShloMosaic.Lib.Pipeline.ReadBack
@[expose] public section
set_option maxRecDepth 16384
noncomputable section
open Cert.Reals Cert.Tables Idealize.ShloMosaic Idealize.ShloMosaic.TcCoe Idealize.SL.Sem
open Idealize.ShloMosaic.Pipeline (Dat)
namespace Cert.Flash
variable (Q G K V L D : ℕ → ℕ → ℝ)
/-- The weight of query `r` and key `i` in head `h`, from the columns of the padded heads, -/
def gw (h r i : ℕ) : ℝ := if i ≤ r then Real.rpow 2 ((∑ c : Fin 128, K i (128 * h + c.val) * Q r (128 * h + c.val)) - L h r) else 0
/-- and the gradient of its score. -/
def gs (h r i : ℕ) : ℝ := gw Q K L h r i * ((∑ d : Fin 64, V i (64 * h + d.val) * G r (64 * h + d.val)) - D h r)
theorem gw_late (h r i : ℕ) (hr : r < i) : gw Q K L h r i = 0 := if_neg (by omega)
theorem gs_late (h r i : ℕ) (hr : r < i) : gs Q G K V L D h r i = 0 := by rw [gs, gw_late _ _ _ _ _ _ hr, zero_mul]

/-- The tables of pair `p`, and of its tile `J` of keys. -/
def qp (p r c : ℕ) : ℝ := Q r (256 * p + c)
def gp (p r c : ℕ) : ℝ := G r (128 * p + c)
def kp (p J j c : ℕ) : ℝ := K (512 * J + j) (256 * p + c)
def vp (p J j c : ℕ) : ℝ := V (512 * J + j) (128 * p + c)

theorem sum_half (f : ℕ → ℝ) : ∑ c : Fin 128, f c.val = ∑ d : Fin 64, f d.val + ∑ d : Fin 64, f (64 + d.val) :=
  Fin.sum_univ_add (a := 64) (b := 64) fun c : Fin (64 + 64) => f c.val
theorem sc_lo (A B : ℕ → ℕ → ℝ) (j r : ℕ) : sc A (lo B) j r = ∑ d : Fin 64, A j d.val * B r d.val := by
  unfold sc
  rw [sum_half fun c => A j c * lo B r c]
  simp only [lo, Fin.is_lt, if_true, show ∀ d : Fin 64, ¬ 64 + d.val < 64 from fun d => by omega, if_false, mul_zero, Finset.sum_const_zero, add_zero]
theorem sc_hi (A B : ℕ → ℕ → ℝ) (j r : ℕ) : sc A (hi B) j r = ∑ d : Fin 64, A j (64 + d.val) * B r (64 + d.val) := by
  unfold sc
  rw [sum_half fun c => A j c * hi B r c]
  simp only [hi, Fin.is_lt, if_true, show ∀ d : Fin 64, ¬ 64 + d.val < 64 from fun d => by omega, if_false, mul_zero, Finset.sum_const_zero, zero_add]
end Cert.Flash

namespace Cert.FlashBwdIdeal.Hand
open Cert.FlashBwdIdeal.Gen Cert.Flash
section
variable (Q G K V L D : ℕ → ℕ → ℝ) (p J : ℕ)
theorem C0_eq (j r : ℕ) : C0 J (qp Q p) (kp K p J) (lp L p) j r = gw Q K L (2 * p) r (512 * J + j) := by
  unfold C0 causal P0 pt gw sc qp kp lp
  have e : ∀ c, 256 * p + c = 128 * (2 * p) + c := fun c => by ring
  simp only [e, Nat.zero_lt_two, if_true, Nat.add_zero]
theorem C1_eq (j r : ℕ) : C1 J (qp Q p) (kp K p J) (lp L p) j r = gw Q K L (2 * p + 1) r (512 * J + j) := by
  unfold C1 causal P1 pt gw sc sec qp kp lp
  have e : ∀ c, 256 * p + (128 + c) = 128 * (2 * p + 1) + c := fun c => by ring
  simp only [e, Nat.one_lt_two, if_true]
theorem E0_eq (j r : ℕ) : E0 J (qp Q p) (gp G p) (kp K p J) (vp V p J) (lp L p) (lp D p) j r = gs Q G K V L D (2 * p) r (512 * J + j) := by
  unfold E0 ds gs
  rw [C0_eq, sc_lo]
  unfold vp gp lp
  have e : ∀ c, 128 * p + c = 64 * (2 * p) + c := fun c => by ring
  simp only [e, Nat.zero_lt_two, if_true, Nat.add_zero]
theorem E1_eq (j r : ℕ) : E1 J (qp Q p) (gp G p) (kp K p J) (vp V p J) (lp L p) (lp D p) j r = gs Q G K V L D (2 * p + 1) r (512 * J + j) := by
  unfold E1 ds gs
  rw [C1_eq, sc_hi]
  unfold vp gp lp
  have e : ∀ c, 128 * p + (64 + c) = 64 * (2 * p + 1) + c := fun c => by ring
  simp only [e, Nat.one_lt_two, if_true]

/-- What tile `J` of keys adds. -/
theorem Z_eq (r c : ℕ) (hc : c < 256) : Z J (qp Q p) (gp G p) (kp K p J) (vp V p J) (lp L p) (lp D p) r c
    = ∑ j : Fin 512, gs Q G K V L D ((256 * p + c) / 128) r (512 * J + j.val) * K (512 * J + j.val) (256 * p + c) := by
  unfold Z
  by_cases h : c < 128
  · rw [if_pos h, md, show (256 * p + c) / 128 = 2 * p by omega]
    exact Finset.sum_congr rfl fun j _ => by rw [E0_eq, kp]
  · rw [if_neg h, md, show (256 * p + c) / 128 = 2 * p + 1 by omega]
    exact Finset.sum_congr rfl fun j _ => by rw [E1_eq, sec, kp, show 128 + (c - 128) = c by omega]
theorem Z_zero (r c : ℕ) (hc : c < 256) (hr : r < 512 * J) : Z J (qp Q p) (gp G p) (kp K p J) (vp V p J) (lp L p) (lp D p) r c = 0 := by
  rw [Z_eq _ _ _ _ _ _ _ _ _ _ hc]
  exact Finset.sum_eq_zero fun j _ => by rw [gs_late _ _ _ _ _ _ _ _ _ (by omega), zero_mul]
theorem blk_eq (T : ℕ → ℕ → ℝ) (r c : ℕ) (hr : r < 8192) (hc : c < 256) :
    blk J (qp Q p) (gp G p) (kp K p J) (vp V p J) T (lp L p) (lp D p) 16 r c
      = T r c + ∑ j : Fin 512, gs Q G K V L D ((256 * p + c) / 128) r (512 * J + j.val) * K (512 * J + j.val) (256 * p + c) := by
  unfold blk
  by_cases h : 512 * J ≤ r
  · rw [if_pos ⟨h, by omega⟩, Z_eq _ _ _ _ _ _ _ _ _ _ hc]
  · rw [if_neg fun h' => h h'.1, ← Z_eq _ _ _ _ _ _ _ _ _ _ hc, Z_zero _ _ _ _ _ _ _ _ _ _ hc (by omega)]

/-- The tiles of queries before the keys' own add nothing. -/
theorem sum_late (f : ℕ → ℝ) (hJ : J < 16) (h : ∀ r < 512 * J, f r = 0) : ∑ R ∈ Finset.Ico J 16, ∑ t : Fin 512, f (512 * R + t.val) = ∑ r : Fin 8192, f r.val := by
  rw [← sum_tiles f, ← Finset.sum_range_add_sum_Ico _ hJ.le, Finset.sum_eq_zero (s := Finset.range J), zero_add]
  intro R hR
  have := Finset.mem_range.mp hR
  exact Finset.sum_eq_zero fun t _ => h _ (by omega)
theorem keys_eq (hJ : J < 16) (j c : ℕ) (hc : c < 256) : keys (qp Q p) (gp G p) (kp K p J) (vp V p J) (lp L p) (lp D p) J j c
    = (∑ r : Fin 8192, gs Q G K V L D ((256 * p + c) / 128) r.val (512 * J + j) * Q r.val (256 * p + c)) * Real.log 2 := by
  unfold keys
  congr 1
  rw [← sum_late J (fun r => gs Q G K V L D ((256 * p + c) / 128) r (512 * J + j) * Q r (256 * p + c)) hJ fun r hr => by rw [gs_late _ _ _ _ _ _ _ _ _ (by omega), zero_mul]]
  by_cases h : c < 128
  · rw [if_pos h, acc0, show (256 * p + c) / 128 = 2 * p by omega]
    exact Finset.sum_congr rfl fun R _ => Finset.sum_congr rfl fun t _ => by rw [E0_eq, qp]
  · rw [if_neg h, acc1, show (256 * p + c) / 128 = 2 * p + 1 by omega]
    exact Finset.sum_congr rfl fun R _ => Finset.sum_congr rfl fun t _ => by rw [E1_eq, sec, qp, show 128 + (c - 128) = c by omega]
theorem vals_eq (hJ : J < 16) (j c : ℕ) (hc : c < 128) : acc2 J (qp Q p) (gp G p) (kp K p J) (lp L p) 16 j c
    = ∑ r : Fin 8192, gw Q K L ((128 * p + c) / 64) r.val (512 * J + j) * G r.val (128 * p + c) := by
  rw [← sum_late J (fun r => gw Q K L ((128 * p + c) / 64) r (512 * J + j) * G r (128 * p + c)) hJ fun r hr => by rw [gw_late _ _ _ _ _ _ (by omega), zero_mul]]
  unfold acc2
  refine Finset.sum_congr rfl fun R _ => ?_
  unfold mr
  rw [← Finset.sum_add_distrib]
  refine Finset.sum_congr rfl fun t _ => ?_
  rw [C0_eq, C1_eq, lo, hi, gp]
  by_cases h : c < 64
  · rw [if_pos h, if_pos h, mul_zero, add_zero, show (128 * p + c) / 64 = 2 * p by omega]
  · rw [if_neg h, if_neg h, mul_zero, zero_add, show (128 * p + c) / 64 = 2 * p + 1 by omega]
end

variable (m : (ℓ : Loc nD τ sig) → Buf (Elt Ideal) ℓ) (c : Dev nD) {A B X Y T M N : ℕ → ℕ → ℝ}
theorem idx0 : ∀ t : Fin cfg0.N, win0_0.index t = ![0, t.val / 16] := (by decide +kernel : ∀ t : Fin grid0.N, win0_0.index t = ![0, t.val / 16])
theorem idx1 : ∀ t : Fin cfg0.N, win0_1.index t = ![0, t.val / 16] := (by decide +kernel : ∀ t : Fin grid0.N, win0_1.index t = ![0, t.val / 16])
theorem idx2 : ∀ t : Fin cfg0.N, win0_2.index t = ![t.val / 16, 0, 0, 0] := (by decide +kernel : ∀ t : Fin grid0.N, win0_2.index t = ![t.val / 16, 0, 0, 0])
theorem idx3 : ∀ t : Fin cfg0.N, win0_3.index t = ![t.val / 16, 0, 0, 0] := (by decide +kernel : ∀ t : Fin grid0.N, win0_3.index t = ![t.val / 16, 0, 0, 0])
theorem idx4 : ∀ t : Fin cfg0.N, win0_4.index t = ![t.val % 16, t.val / 16] := (by decide +kernel : ∀ t : Fin grid0.N, win0_4.index t = ![t.val % 16, t.val / 16])
theorem idx5 : ∀ t : Fin cfg0.N, win0_5.index t = ![t.val % 16, t.val / 16] := (by decide +kernel : ∀ t : Fin grid0.N, win0_5.index t = ![t.val % 16, t.val / 16])
theorem idx6 : ∀ t : Fin cfg0.N, win0_6.index t = ![0, t.val / 16] := (by decide +kernel : ∀ t : Fin grid0.N, win0_6.index t = ![0, t.val / 16])
theorem idx7 : ∀ t : Fin cfg0.N, win0_7.index t = ![t.val % 16, t.val / 16] := (by decide +kernel : ∀ t : Fin grid0.N, win0_7.index t = ![t.val % 16, t.val / 16])
theorem idx8 : ∀ t : Fin cfg0.N, win0_8.index t = ![t.val % 16, t.val / 16] := (by decide +kernel : ∀ t : Fin grid0.N, win0_8.index t = ![t.val % 16, t.val / 16])
theorem crd : ∀ t : Fin cfg0.N, (grid0.coords t 1).val = t.val % 16 := (by decide +kernel : ∀ t : Fin grid0.N, (grid0.coords t 1).val = t.val % 16)
theorem lt48 (t : Fin cfg0.N) : t.val < 48 := lt_of_lt_of_eq t.isLt (show cfg0.N = 48 from N_0)

/-- The two cases of a point, on any blocks that are tables. -/
theorem tableA (t : Fin cfg0.N) (h : t.val % 16 = 0) (x0 : Vec Ideal S8192x256 .bf16) (x1 : Vec Ideal S8192x128 .bf16) (x2 x3 : Vec Ideal S1x16x8x512 .f32) (x4 : Vec Ideal S512x256 .bf16) (x5 : Vec Ideal S512x128 .bf16)
    (e0 : x0 = nm A) (e1 : x1 = nm B) (e2 : x2 = nq fun _ R h r => M h (512 * R + r)) (e3 : x3 = nq fun _ R h r => N h (512 * R + r)) (e4 : x4 = nm X) (e5 : x5 = nm Y) :
    (ms6 t).view.read (Elt Ideal) (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond0 t).mpr h) x0 x1 x2 x3 x4 x5).1 = nm (blk (t.val % 16) A B X Y (fun _ _ => 0) M N 16)
      ∧ (ms7 t).view.read (Elt Ideal) ((ms7 t).view.writes (Elt Ideal) (ms7 t).view.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond0 t).mpr h) x0 x1 x2 x3 x4 x5).2.1) = nm (keys A B X Y M N (t.val % 16))
      ∧ (ms8 t).view.read (Elt Ideal) ((ms8 t).view.writes (Elt Ideal) (ms8 t).view.junk (kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((hcond0 t).mpr h) x0 x1 x2 x3 x4 x5).2.2.1) = nm (acc2 (t.val % 16) A B X M 16) := by
  subst e0 e1 e2 e3 e4 e5
  have r := runA_table c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) A B X Y M N ((hcond0 t).mpr h)
  rw [crd t] at r
  exact r
theorem tableB (t : Fin cfg0.N) (h : ¬t.val % 16 = 0) (x0 : Vec Ideal S8192x256 .bf16) (x1 : Vec Ideal S8192x128 .bf16) (x2 x3 : Vec Ideal S1x16x8x512 .f32) (x4 : Vec Ideal S512x256 .bf16) (x5 : Vec Ideal S512x128 .bf16) (xo : Vec Ideal S8192x256 .f32)
    (e0 : x0 = nm A) (e1 : x1 = nm B) (e2 : x2 = nq fun _ R h r => M h (512 * R + r)) (e3 : x3 = nq fun _ R h r => N h (512 * R + r)) (e4 : x4 = nm X) (e5 : x5 = nm Y) (eo : xo = nm T) :
    (ms6 t).view.read (Elt Ideal) (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h' => h ((hcond0 t).mp h')) x0 x1 x2 x3 x4 x5 xo).1 = nm (blk (t.val % 16) A B X Y T M N 16)
      ∧ (ms7 t).view.read (Elt Ideal) ((ms7 t).view.writes (Elt Ideal) (ms7 t).view.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h' => h ((hcond0 t).mp h')) x0 x1 x2 x3 x4 x5 xo).2.1) = nm (keys A B X Y M N (t.val % 16))
      ∧ (ms8 t).view.read (Elt Ideal) ((ms8 t).view.writes (Elt Ideal) (ms8 t).view.junk (kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h' => h ((hcond0 t).mp h')) x0 x1 x2 x3 x4 x5 xo).2.2.1) = nm (acc2 (t.val % 16) A B X M 16) := by
  subst e0 e1 e2 e3 e4 e5 eo
  have r := runB_table c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) A B X Y T M N (fun h' => h ((hcond0 t).mp h'))
  rw [crd t] at r
  exact r

/-- The six arrays that enter the region as tables. -/
structure Enter (m : (ℓ : Loc nD τ sig) → Buf (Elt Ideal) ℓ) (c : Dev nD) (Q G K V L D : ℕ → ℕ → ℝ) : Prop where
  q : (Gen.V m c main_v57 : Vec Ideal S8192x768 .bf16) = nm Q
  g : (Gen.V m c main_v63 : Vec Ideal S8192x384 .bf16) = nm G
  k : (Gen.V m c main_v60 : Vec Ideal S8192x768 .bf16) = nm K
  v : (Gen.V m c main_v62 : Vec Ideal S8192x384 .bf16) = nm V
  l : (Gen.V m c main_v66 : Vec Ideal S3x16x8x512 .f32) = nq fun p R h t => lp L p h (512 * R + t)
  d : (Gen.V m c main_v69 : Vec Ideal S3x16x8x512 .f32) = nq fun p R h t => lp D p h (512 * R + t)

variable {Q G K V L D : ℕ → ℕ → ℝ} {m} {c} (E : Enter m c Q G K V L D)
include E
theorem iblk0 (t : Fin cfg0.N) : (iblk m c 0 t : Vec Ideal S8192x256 .bf16) = nm (qp Q (t.val / 16)) := by
  funext j; idx_vars j
  have ht := lt48 t
  have e : (win0_0.blk t).view.emb (ix2 j0 j1) = ix2 j0 ⟨256 * (t.val / 16) + j1.val, by omega⟩ := by blk_ext [idx0 t]
  blk_simp [iblk, e]
  exact congrFun E.q _
theorem iblk1 (t : Fin cfg0.N) : (iblk m c 1 t : Vec Ideal S8192x128 .bf16) = nm (gp G (t.val / 16)) := by
  funext j; idx_vars j
  have ht := lt48 t
  have e : (win0_1.blk t).view.emb (ix2 j0 j1) = ix2 j0 ⟨128 * (t.val / 16) + j1.val, by omega⟩ := by blk_ext [idx1 t]
  blk_simp [iblk, e]
  exact congrFun E.g _
theorem iblk2 (t : Fin cfg0.N) : (iblk m c 2 t : Vec Ideal S1x16x8x512 .f32) = nq fun _ R h r => lp L (t.val / 16) h (512 * R + r) := by
  funext j; idx_vars j
  have ht := lt48 t
  have e : (win0_2.blk t).view.emb (ix4 j0 j1 j2 j3) = ix4 ⟨t.val / 16, by omega⟩ j1 j2 j3 := by blk_ext [idx2 t]
  blk_simp [iblk, e]
  exact congrFun E.l _
theorem iblk3 (t : Fin cfg0.N) : (iblk m c 3 t : Vec Ideal S1x16x8x512 .f32) = nq fun _ R h r => lp D (t.val / 16) h (512 * R + r) := by
  funext j; idx_vars j
  have ht := lt48 t
  have e : (win0_3.blk t).view.emb (ix4 j0 j1 j2 j3) = ix4 ⟨t.val / 16, by omega⟩ j1 j2 j3 := by blk_ext [idx3 t]
  blk_simp [iblk, e]
  exact congrFun E.d _
theorem iblk4 (t : Fin cfg0.N) : (iblk m c 4 t : Vec Ideal S512x256 .bf16) = nm (kp K (t.val / 16) (t.val % 16)) := by
  funext j; idx_vars j
  have ht := lt48 t
  have e : (win0_4.blk t).view.emb (ix2 j0 j1) = ix2 ⟨512 * (t.val % 16) + j0.val, by omega⟩ ⟨256 * (t.val / 16) + j1.val, by omega⟩ := by blk_ext [idx4 t]
  blk_simp [iblk, e]
  exact congrFun E.k _
theorem iblk5 (t : Fin cfg0.N) : (iblk m c 5 t : Vec Ideal S512x128 .bf16) = nm (vp V (t.val / 16) (t.val % 16)) := by
  funext j; idx_vars j
  have ht := lt48 t
  have e : (win0_5.blk t).view.emb (ix2 j0 j1) = ix2 ⟨512 * (t.val % 16) + j0.val, by omega⟩ ⟨128 * (t.val / 16) + j1.val, by omega⟩ := by blk_ext [idx5 t]
  blk_simp [iblk, e]
  exact congrFun E.v _

set_option maxHeartbeats 4000000 in
/-- What a point leaves, where the accumulated block holds `T` before it. -/
theorem outs (t : Fin cfg0.N) (T : ℕ → ℕ → ℝ) (h0 : t.val % 16 = 0 → T = fun _ _ => 0)
    (hT : ¬t.val % 16 = 0 → (outsAt m c (t.val - 1) (Nat.lt_of_le_of_lt (Nat.sub_le _ _) t.isLt)).1 = nm T) :
    outsAt m c t.val t.isLt
      = (nm (blk (t.val % 16) (qp Q (t.val / 16)) (gp G (t.val / 16)) (kp K (t.val / 16) (t.val % 16)) (vp V (t.val / 16) (t.val % 16)) T (lp L (t.val / 16)) (lp D (t.val / 16)) 16),
        nm (keys (qp Q (t.val / 16)) (gp G (t.val / 16)) (kp K (t.val / 16) (t.val % 16)) (vp V (t.val / 16) (t.val % 16)) (lp L (t.val / 16)) (lp D (t.val / 16)) (t.val % 16)),
        nm (acc2 (t.val % 16) (qp Q (t.val / 16)) (gp G (t.val / 16)) (kp K (t.val / 16) (t.val % 16)) (lp L (t.val / 16)) 16)) := by
  by_cases h : t.val % 16 = 0
  · rw [outsAt_A m c t h]
    rw [h0 h]
    have r := tableA c t h (iblk m c 0 t) (iblk m c 1 t) (iblk m c 2 t) (iblk m c 3 t) (iblk m c 4 t) (iblk m c 5 t) (iblk0 E t) (iblk1 E t) (iblk2 E t) (iblk3 E t) (iblk4 E t) (iblk5 E t)
    exact congrArg₂ Prod.mk r.1 (congrArg₂ Prod.mk r.2.1 r.2.2)
  · rw [outsAt_B m c t h, hT h]
    have r := tableB c t h (iblk m c 0 t) (iblk m c 1 t) (iblk m c 2 t) (iblk m c 3 t) (iblk m c 4 t) (iblk m c 5 t) (nm T) (iblk0 E t) (iblk1 E t) (iblk2 E t) (iblk3 E t) (iblk4 E t) (iblk5 E t) rfl
    exact congrArg₂ Prod.mk r.1 (congrArg₂ Prod.mk r.2.1 r.2.2)

/-- The accumulated block after a point: the keys' tiles up to the point's own. -/
theorem acc6 (n : ℕ) (hn : n < cfg0.N) : (outsAt m c n hn).1
    = nm fun r x => ∑ J ∈ Finset.range (n % 16 + 1), ∑ j : Fin 512, gs Q G K V L D ((256 * (n / 16) + x) / 128) r (512 * J + j.val) * K (512 * J + j.val) (256 * (n / 16) + x) := by
  induction n with
  | zero =>
    rw [outs E ⟨0, hn⟩ (fun _ _ => 0) (fun _ => rfl) fun h => absurd rfl h]
    refine nm_congr fun r hr x hx => ?_
    rw [blk_eq _ _ _ _ _ _ _ _ _ _ _ hr hx, zero_add, Finset.sum_range_one]
    rfl
  | succ n ih =>
    by_cases h : (n + 1) % 16 = 0
    · rw [outs E ⟨n + 1, hn⟩ (fun _ _ => 0) (fun _ => rfl) fun h' => absurd h h']
      refine nm_congr fun r hr x hx => ?_
      rw [blk_eq _ _ _ _ _ _ _ _ _ _ _ hr hx, zero_add]
      dsimp only
      rw [h, Finset.sum_range_one]
    · rw [outs E ⟨n + 1, hn⟩ _ (fun h' => absurd h' h) fun _ => ih (Nat.lt_of_succ_lt hn)]
      refine nm_congr fun r hr x hx => ?_
      rw [blk_eq _ _ _ _ _ _ _ _ _ _ _ hr hx]
      dsimp only
      rw [show n / 16 = (n + 1) / 16 by omega, show n % 16 + 1 = (n + 1) % 16 by omega, ← Finset.sum_range_succ]

theorem rest (t : Fin cfg0.N) : (outsAt m c t.val t.isLt).2
    = (nm (keys (qp Q (t.val / 16)) (gp G (t.val / 16)) (kp K (t.val / 16) (t.val % 16)) (vp V (t.val / 16) (t.val % 16)) (lp L (t.val / 16)) (lp D (t.val / 16)) (t.val % 16)),
        nm (acc2 (t.val % 16) (qp Q (t.val / 16)) (gp G (t.val / 16)) (kp K (t.val / 16) (t.val % 16)) (lp L (t.val / 16)) 16)) := by
  by_cases h : t.val % 16 = 0
  · rw [outs E t (fun _ _ => 0) (fun _ => rfl) fun h' => absurd h h']
  · rw [outs E t _ (fun h' => absurd h' h) fun _ => acc6 E _ _]

theorem final6 : (dats m 0 c).arrAt 6 cfg0.N = (nm fun r x => ∑ i : Fin 8192, gs Q G K V L D (x / 128) r i.val * K i.val x : Vec Ideal S8192x768 .f32) := by
  refine (dats m 0 c).arrAt_eq_of_covers 6 _ (by decide +kernel) fun t hf y => ?_
  have h15 := (flush0_6 t).mp hf
  blk_simp
  rw [after6, acc6 E]
  idx_vars y
  have ht := lt48 t
  have e : (win0_6.blk t).view.emb (ix2 y0 y1) = ix2 y0 ⟨256 * (t.val / 16) + y1.val, by omega⟩ := by blk_ext [idx6 t]
  rw [e, nm_apply, nm_apply, h15, sum_tiles fun i => gs Q G K V L D ((256 * (t.val / 16) + y1.val) / 128) y0.val i * K i (256 * (t.val / 16) + y1.val)]
theorem final7 : (dats m 0 c).arrAt 7 cfg0.N = (nm fun i x => (∑ r : Fin 8192, gs Q G K V L D (x / 128) r.val i * Q r.val x) * Real.log 2 : Vec Ideal S8192x768 .f32) := by
  refine (dats m 0 c).arrAt_eq_of_covers 7 _ (by decide +kernel) fun t hf y => ?_
  blk_simp
  rw [after7, rest E]
  idx_vars y
  have ht := lt48 t
  have e : (win0_7.blk t).view.emb (ix2 y0 y1) = ix2 ⟨512 * (t.val % 16) + y0.val, by omega⟩ ⟨256 * (t.val / 16) + y1.val, by omega⟩ := by blk_ext [idx7 t]
  rw [e, nm_apply, nm_apply, keys_eq _ _ _ _ _ _ _ _ (by omega) _ _ y1.isLt]
theorem final8 : (dats m 0 c).arrAt 8 cfg0.N = (nm fun i x => ∑ r : Fin 8192, gw Q K L (x / 64) r.val i * G r.val x : Vec Ideal S8192x384 .bf16) := by
  refine (dats m 0 c).arrAt_eq_of_covers 8 _ (by decide +kernel) fun t hf y => ?_
  blk_simp
  rw [after8, rest E]
  idx_vars y
  have ht := lt48 t
  have e : (win0_8.blk t).view.emb (ix2 y0 y1) = ix2 ⟨512 * (t.val % 16) + y0.val, by omega⟩ ⟨128 * (t.val / 16) + y1.val, by omega⟩ := by blk_ext [idx8 t]
  rw [e, nm_apply, nm_apply, vals_eq _ _ _ _ _ _ (by omega) _ _ y1.isLt]
end Cert.FlashBwdIdeal.Hand
end
-- ==== Proof.FlashClose.lean ====
/-
  The attention's gradient from the padded heads, with the saved logarithms and sums, is the plain gradient.
-/
module
public import proofs.«01_k».proof.Proof.FlashEntry
public import proofs.«01_k».proof.Proof.FlashValue
@[expose] public section
set_option maxRecDepth 16384
noncomputable section
open Cert.Reals Cert.Tables Idealize.ShloMosaic Idealize.ShloMosaic.TcCoe Idealize.SL.Sem
namespace Cert.Flash
open Cert.FlashBwdRefIdeal.Stages (lane gq gk gv)
variable (q k v : ℕ → ℕ → ℕ → ℝ) (g : ℕ → ℕ → ℝ)

/-- What the call is given: scaled and padded queries, padded keys, the values, the logarithms to the base two. -/
abbrev cq : ℕ → ℕ → ℝ := lane fun r h c => q r h c * att / Real.log 2
abbrev ck : ℕ → ℕ → ℝ := lane k
abbrev cv (r x : ℕ) : ℝ := v r (x / 64) (x % 64)
abbrev cl (h r : ℕ) : ℝ := Real.log (nrm q k (fun _ _ => 0) h r) / Real.log 2

theorem lane_at (f : ℕ → ℕ → ℕ → ℝ) (r h c : ℕ) (hc : c < 128) : lane f r (128 * h + c) = if c < 96 then f r h c else 0 := by
  unfold lane
  rw [show (128 * h + c) % 128 = c by omega, show (128 * h + c) / 128 = h by omega]
theorem sum_lanes (f : ℕ → ℝ) (h : ∀ c, 96 ≤ c → f c = 0) : ∑ c : Fin 128, f c.val = ∑ c : Fin 96, f c.val := by
  refine (Fin.sum_univ_add (a := 96) (b := 32) fun c : Fin (96 + 32) => f c.val).trans ?_
  refine (congrArg₂ (· + ·) rfl (Finset.sum_eq_zero fun d _ => h _ (Nat.le_add_right _ _))).trans (add_zero _)

theorem gw_eq (h r i : ℕ) : gw (cq q) (ck k) (cl q k) h r i = wt q k h r i := by
  have l2 : Real.log 2 ≠ 0 := (Real.log_pos one_lt_two).ne'
  have e : ∑ c : Fin 128, ck k i (128 * h + c.val) * cq q r (128 * h + c.val) = score q k h r i / Real.log 2 := by
    have e1 : ∀ c : Fin 128, ck k i (128 * h + c.val) * cq q r (128 * h + c.val) = (fun c => if c < 96 then k i h c * (q r h c * att / Real.log 2) else 0) c.val := fun c => by
      refine (congrArg₂ (· * ·) (lane_at _ _ _ _ c.isLt) (lane_at _ _ _ _ c.isLt)).trans ?_
      by_cases hc : c.val < 96
      · simp only [if_pos hc]
      · simp only [if_neg hc, mul_zero]
    refine ((Finset.sum_congr rfl fun c _ => e1 c).trans (sum_lanes (fun c => if c < 96 then k i h c * (q r h c * att / Real.log 2) else 0) fun c hc => if_neg (by omega))).trans ?_
    rw [score, Finset.sum_mul, Finset.sum_div]
    refine Finset.sum_congr rfl fun c _ => ?_
    simp only [if_pos c.isLt]
    ring
  unfold gw wt ex
  by_cases hr : i ≤ r
  · rw [if_pos hr, if_pos hr, e, cl, ← sub_div]
    show (2 : ℝ) ^ ((score q k h r i - Real.log (nrm q k (fun _ _ => 0) h r)) / Real.log 2) = _
    rw [Real.rpow_def_of_pos two_pos, mul_div_cancel₀ _ l2, Real.exp_sub, Real.exp_log (nrm_pos q k _ h r), sub_zero]
  · rw [if_neg hr, if_neg hr, zero_div]
theorem gs_eq (h r i : ℕ) : gs (cq q) g (ck k) (cv v) (cl q k) (mean q k v g) h r i = dsc q k v g h r i := by
  unfold gs dsc dw
  rw [gw_eq]
  refine congrArg (fun x => wt q k h r i * (x - mean q k v g h r)) (Finset.sum_congr rfl fun d _ => ?_)
  rw [cv, show (64 * h + d.val) / 64 = h by omega, show (64 * h + d.val) % 64 = d.val by omega, mul_comm]

theorem close_q (r x : ℕ) : ∑ i : Fin 8192, gs (cq q) g (ck k) (cv v) (cl q k) (mean q k v g) (x / 128) r i.val * ck k i.val x = lane (gq q k v g) r x := by
  simp only [gs_eq]
  unfold ck lane gq
  by_cases h : x % 128 < 96
  · simp only [if_pos h]
  · simp only [if_neg h, mul_zero, Finset.sum_const_zero]
theorem close_k (i x : ℕ) : (∑ r : Fin 8192, gs (cq q) g (ck k) (cv v) (cl q k) (mean q k v g) (x / 128) r.val i * cq q r.val x) * Real.log 2 = lane (gk q k v g) i x := by
  have l2 : Real.log 2 ≠ 0 := (Real.log_pos one_lt_two).ne'
  simp only [gs_eq]
  unfold cq lane gk
  by_cases h : x % 128 < 96
  · simp only [if_pos h]
    rw [Finset.sum_mul, Finset.sum_mul]
    refine Finset.sum_congr rfl fun r _ => ?_
    field_simp
  · simp only [if_neg h, mul_zero, Finset.sum_const_zero, zero_mul]
theorem close_v (i x : ℕ) : ∑ r : Fin 8192, gw (cq q) (ck k) (cl q k) (x / 64) r.val i * g r.val x = gv q k g i (x / 64) (x % 64) := by
  unfold gv
  exact Finset.sum_congr rfl fun r _ => by rw [gw_eq, show 64 * (x / 64) + x % 64 = x by omega]
end Cert.Flash

namespace Cert.FlashBwdIdeal.Hand
open Cert.FlashBwdIdeal.Gen Cert.Flash
open Cert.FlashBwdRefIdeal.Stages (lane gq gk gv lanes_table)
variable (q k v : ℕ → ℕ → ℕ → ℝ) (g : ℕ → ℕ → ℝ) (m : (ℓ : Loc nD τ sig) → Buf (Elt Ideal) ℓ) (c : Dev nD)
  (hq : m ((c : Thread nD τ).loc main_arg0) = nc q) (hk : m ((c : Thread nD τ).loc main_arg1) = nc k)
  (hv : m ((c : Thread nD τ).loc main_arg2) = nc v) (hg : m ((c : Thread nD τ).loc main_arg3) = nm g)
include hq hk hv hg
theorem enter : Enter m c (cq q) g (ck k) (cv v) (cl q k) (mean q k v g) where
  q := by rw [Entry.V57, hq, Entry.scaled_table, lanes_table]
  g := by rw [Entry.V63, hg]
  k := by rw [Entry.V60, hk, lanes_table]
  v := by
    rw [Entry.V62, hv]
    funext j; idx_vars j; pointwise []
    rw [nm_apply, nc_apply]
  l := by rw [Entry.V66, hq, hk, Entry.lse_table, Entry.tiles_table]
  d := by rw [Entry.V69, hq, hk, hv, hg, Entry.delta_table, Entry.tiles_table]
theorem done6 : (dats m 0 c).arrAt 6 cfg0.N = (nm (lane (gq q k v g)) : Vec Ideal S8192x768 .f32) :=
  (final6 (enter q k v g m c hq hk hv hg)).trans (nm_congr fun r _ x _ => close_q q k v g r x)
theorem done7 : (dats m 0 c).arrAt 7 cfg0.N = (nm (lane (gk q k v g)) : Vec Ideal S8192x768 .f32) :=
  (final7 (enter q k v g m c hq hk hv hg)).trans (nm_congr fun i _ x _ => close_k q k v g i x)
theorem done8 : (dats m 0 c).arrAt 8 cfg0.N = (nm fun r x => gv q k g r (x / 64) (x % 64) : Vec Ideal S8192x384 .bf16) :=
  (final8 (enter q k v g m c hq hk hv hg)).trans (nm_congr fun i _ x _ => close_v q k g i x)
end Cert.FlashBwdIdeal.Hand
end
-- ==== Proof.FlashBwd.lean ====
module
public import proofs.«01_k».proof.Defs
public import proofs.«01_k».proof.Proof.Gen.FlashBwd
public import proofs.«01_k».proof.Proof.Gen.FlashBwdRefIdeal
public import proofs.«01_k».proof.Proof.Gen.FlashBwdRefIdeal.Run
public import proofs.«01_k».proof.Proof.FlashClose
@[expose] public section
set_option maxRecDepth 16384
noncomputable section
/-! The claims about the gradient of the attention: its frames, and its three results against the reference's. -/
namespace Cert.Proof.FlashBwd
open Cert.Tables Cert.FlashBwdRefIdeal.Stages Idealize.ShloMosaic Idealize.SL.Sem Idealize.ShloMosaic.TcCoe

instance facts : Cert.FlashBwd.Facts := Cert.FlashBwd.Gen.facts
instance factsIdeal : Cert.FlashBwdIdeal.Facts := Cert.FlashBwdIdeal.Gen.facts
instance factsRef : Cert.FlashBwdRefIdeal.Facts := Cert.FlashBwdRefIdeal.Gen.facts
instance factsPre : Cert.Pre_flash_finite.Facts := ⟨by decide, by decide, by decide⟩

/-- On bit patterns a named constant is the pattern printed, so the idealized text read there is the kernel's own. -/
abbrev printed : Named Bits := ⟨fun _ _ {φ} b => Scalar.ofBits φ b⟩

/-- The statement of the frame over any scalars, where every named constant has a value. -/
def Quiet (F : FTy → Type) [FloatOps F] [Named F] : Prop :=
  ∀ (m : (ℓ : Loc Cert.FlashBwdIdeal.nD Cert.FlashBwdIdeal.τ Cert.FlashBwdIdeal.sig) → Buf (Elt F) ℓ)
    (g : Dev Cert.FlashBwdIdeal.nD → PrngReg), True →
    θ_run (Cert.FlashBwdIdeal.defs (F := F)) (onTc (τ := Cert.FlashBwdIdeal.τ) (Cert.FlashBwdIdeal.main (F := F)))
      ⟨m, fun _ => 0, g⟩ (fun r => (∀ c : Dev Cert.FlashBwdIdeal.nD,
        r.2.mem ((c.tc : Thread Cert.FlashBwdIdeal.nD Cert.FlashBwdIdeal.τ).loc Cert.FlashBwdIdeal.main_arg0) = m ((c.tc : Thread Cert.FlashBwdIdeal.nD Cert.FlashBwdIdeal.τ).loc Cert.FlashBwdIdeal.main_arg0)
        ∧ r.2.mem ((c.tc : Thread Cert.FlashBwdIdeal.nD Cert.FlashBwdIdeal.τ).loc Cert.FlashBwdIdeal.main_arg1) = m ((c.tc : Thread Cert.FlashBwdIdeal.nD Cert.FlashBwdIdeal.τ).loc Cert.FlashBwdIdeal.main_arg1)
        ∧ r.2.mem ((c.tc : Thread Cert.FlashBwdIdeal.nD Cert.FlashBwdIdeal.τ).loc Cert.FlashBwdIdeal.main_arg2) = m ((c.tc : Thread Cert.FlashBwdIdeal.nD Cert.FlashBwdIdeal.τ).loc Cert.FlashBwdIdeal.main_arg2)
        ∧ r.2.mem ((c.tc : Thread Cert.FlashBwdIdeal.nD Cert.FlashBwdIdeal.τ).loc Cert.FlashBwdIdeal.main_arg3) = m ((c.tc : Thread Cert.FlashBwdIdeal.nD Cert.FlashBwdIdeal.τ).loc Cert.FlashBwdIdeal.main_arg3))
        ∧ r.2.sem = fun _ => 0)

theorem quiet (F : FTy → Type) [FloatOps F] [Named F] : Quiet F := fun m ρ _ => Cert.FlashBwdIdeal.Hand.frame m ρ

theorem quiet_eq : (letI := printed; Quiet Bits) = Cert.quiescent_FlashBwd := by sl_kernel_rfl

theorem frame_kernel : Cert.quiescent_FlashBwd := quiet_eq.mp (letI := printed; quiet Bits)
theorem frame_ideal : Cert.quiescent_FlashBwdIdeal := fun m ρ _ => Cert.FlashBwdIdeal.Hand.frame m ρ
theorem frame_ref : Cert.quiescent_FlashBwdRefIdeal := fun m ρ _ =>
  (θ_run Cert.FlashBwdRefIdeal.defs _ _).mono
    (fun r h => ⟨fun c => (h c).2.2.2, sem_eq_zero_of_no_sems (by decide) r.2⟩) (Cert.FlashBwdRefIdeal.Value.run m ρ)

theorem frame_ideal_pre : Cert.quiescent_FlashBwdIdeal_pre_flash_finite := fun m ρ _ => Cert.FlashBwdIdeal.Hand.frame m ρ
theorem frame_ref_pre : Cert.quiescent_FlashBwdRefIdeal_pre_flash_finite := fun m ρ _ => frame_ref m ρ trivial

theorem preserves : Cert.preserves_FlashBwd_FlashBwdIdeal :=
  ⟨IdealRules.named_const.statement _ _ _ _ _ rfl, IdealRules.named_const.statement _ _ _ _ _ rfl⟩

/-- The arguments are real arrays. -/
theorem args (m : (ℓ : Loc Cert.FlashBwdIdeal.nD Cert.FlashBwdIdeal.τ Cert.FlashBwdIdeal.sig) → Buf (Elt Ideal) ℓ)
    (hpre : Cert.Pre_FlashBwdIdeal_flash_finite m) (c : Dev Cert.FlashBwdIdeal.nD) :
    ∃ (q k v : ℕ → ℕ → ℕ → ℝ) (g : ℕ → ℕ → ℝ),
      m (c.tc.loc Cert.FlashBwdIdeal.main_arg0) = nc q ∧ m (c.tc.loc Cert.FlashBwdIdeal.main_arg1) = nc k
      ∧ m (c.tc.loc Cert.FlashBwdIdeal.main_arg2) = nc v ∧ m (c.tc.loc Cert.FlashBwdIdeal.main_arg3) = nm g := by
  obtain ⟨p0, p1, p2, p3⟩ := hpre c
  obtain ⟨q, h0⟩ := nc_of_finite (m (c.tc.loc Cert.FlashBwdIdeal.main_arg0)) _ p0
  obtain ⟨k, h1⟩ := nc_of_finite (m (c.tc.loc Cert.FlashBwdIdeal.main_arg1)) _ p1
  obtain ⟨v, h2⟩ := nc_of_finite (m (c.tc.loc Cert.FlashBwdIdeal.main_arg2)) _ p2
  obtain ⟨g, h3, _⟩ := nm_of_finite (m (c.tc.loc Cert.FlashBwdIdeal.main_arg3)) _ p3
  exact ⟨q, k, v, g, h0, h1, h2, h3⟩

theorem algebraic : Cert.algebraic_FlashBwdIdeal_FlashBwdRefIdeal_pre_flash_finite := by
  intro m r m' r' hpre hagree
  choose q k v g h0 h1 h2 h3 using args m hpre
  refine ⟨fun c => nm (lane (gq (q c) (k c) (v c) (g c))), fun c => nm (lane (gk (q c) (k c) (v c) (g c))),
    fun c => nm fun t x => gv (q c) (k c) (g c) t (x / 64) (x % 64), ?_, ?_⟩
  · refine (θ_run Cert.FlashBwdIdeal.defs _ _).mono (fun _ h c => ?_)
      (θ_run_and (Cert.FlashBwdIdeal.Hand.run_main m r) (Cert.FlashBwdIdeal.Hand.frame m r))
    obtain ⟨w, kept, _⟩ := h
    exact ⟨((w c).1 6).trans (Cert.FlashBwdIdeal.Hand.done6 (q c) (k c) (v c) (g c) m c (h0 c) (h1 c) (h2 c) (h3 c)),
      ((w c).1 7).trans (Cert.FlashBwdIdeal.Hand.done7 (q c) (k c) (v c) (g c) m c (h0 c) (h1 c) (h2 c) (h3 c)),
      ((w c).1 8).trans (Cert.FlashBwdIdeal.Hand.done8 (q c) (k c) (v c) (g c) m c (h0 c) (h1 c) (h2 c) (h3 c)), kept c⟩
  · refine (θ_run Cert.FlashBwdRefIdeal.defs _ _).mono (fun _ h c => ?_) (Cert.FlashBwdRefIdeal.Value.run m' r')
    obtain ⟨a0, a1, a2, a3⟩ := hagree c
    exact ⟨(h c).1.trans (out_dq (q c) (k c) (v c) (g c) m' c (a0.trans (h0 c)) (a1.trans (h1 c)) (a2.trans (h2 c)) (a3.trans (h3 c))),
      (h c).2.1.trans (out_dk (q c) (k c) (v c) (g c) m' c (a0.trans (h0 c)) (a1.trans (h1 c)) (a2.trans (h2 c)) (a3.trans (h3 c))),
      (h c).2.2.1.trans (out_dv (q c) (k c) (g c) m' c (a0.trans (h0 c)) (a1.trans (h1 c)) (a3.trans (h3 c))), (h c).2.2.2⟩

end Cert.Proof.FlashBwd
-- ==== Proof.MlaMath.lean ====
/-
  The gradient of the query, key and value products in reals: the rotary turn undone, the sums over padded heads, and the
  gradient of a norm of any width.
-/
module
public import proofs.«01_k».proof.Proof.Lanes
@[expose] public section
set_option maxRecDepth 16384
noncomputable section
open Cert.Reals Cert.Tables Cert.Lanes Idealize.ShloMosaic
namespace Cert.Mla
/-- A cotangent of one head's lanes turned back: sixty-four lanes pass, two halves of sixteen turn, the rest is nothing. -/
def rot (cs sn u : ℕ → ℝ) (l : ℕ) : ℝ :=
  if l < 64 then u l else if l < 80 then u l * cs (l - 64) + u (l + 16) * sn (l - 64)
  else if l < 96 then u l * cs (l - 80) - u (l - 16) * sn (l - 80) else 0
/-- The three tables by lanes: what a lane keeps, what it takes from below and from above. -/
def tc (cs : ℕ → ℝ) (l : ℕ) : ℝ := if l < 64 then 1 else if l < 80 then cs (l - 64) else if l < 96 then cs (l - 80) else 0
def tb (sn : ℕ → ℝ) (l : ℕ) : ℝ := if l < 64 then 0 else if l < 80 then -sn (l - 64) else 0
def ta (sn : ℕ → ℝ) (l : ℕ) : ℝ := if l < 80 then 0 else if l < 96 then sn (l - 80) else 0
theorem rot_lanes (cs sn u : ℕ → ℝ) (l : ℕ) (h : l < 128) :
    u l * tc cs l + u ((l + 128 - 16) % 128) * tb sn ((l + 128 - 16) % 128) + u ((l + 128 - 112) % 128) * ta sn ((l + 128 - 112) % 128) = rot cs sn u l := by
  have hl : l < 16 ∨ (16 ≤ l ∧ l < 64) ∨ (64 ≤ l ∧ l < 80) ∨ (80 ≤ l ∧ l < 96) ∨ (96 ≤ l ∧ l < 112) ∨ 112 ≤ l := by omega
  rcases hl with h1 | h1 | h1 | h1 | h1 | h1
  · rw [show (l + 128 - 16) % 128 = l + 112 by omega, show (l + 128 - 112) % 128 = l + 16 by omega]
    simp (disch := omega) only [rot, tc, tb, ta, if_pos, if_neg]; ring
  · rw [show (l + 128 - 16) % 128 = l - 16 by omega, show (l + 128 - 112) % 128 = l + 16 by omega]
    simp (disch := omega) only [rot, tc, tb, ta, if_pos, if_neg]; ring
  · rw [show (l + 128 - 16) % 128 = l - 16 by omega, show (l + 128 - 112) % 128 = l + 16 by omega]
    simp (disch := omega) only [rot, tc, tb, ta, if_pos, if_neg, show l + 16 - 80 = l - 64 by omega]; ring
  · rw [show (l + 128 - 16) % 128 = l - 16 by omega, show (l + 128 - 112) % 128 = l + 16 by omega]
    simp (disch := omega) only [rot, tc, tb, ta, if_pos, if_neg, show l - 16 - 64 = l - 80 by omega]; ring
  · rw [show (l + 128 - 16) % 128 = l - 16 by omega, show (l + 128 - 112) % 128 = l + 16 by omega]
    simp (disch := omega) only [rot, tc, tb, ta, if_pos, if_neg]; ring
  · rw [show (l + 128 - 16) % 128 = l - 16 by omega, show (l + 128 - 112) % 128 = l - 112 by omega]
    simp (disch := omega) only [rot, tc, tb, ta, if_pos, if_neg]; ring
theorem rot_congr (cs sn u v : ℕ → ℝ) (h : ∀ y < 96, u y = v y) (l : ℕ) : rot cs sn u l = rot cs sn v l := by
  unfold rot
  split_ifs with h0 h1 h2
  · exact h l (by omega)
  · rw [h l (by omega), h (l + 16) (by omega)]
  · rw [h l (by omega), h (l - 16) (by omega)]
  · rfl

/-- Heads of `a` lanes, each in the first of a hundred and twenty-eight. -/
def spread (a : ℕ) (f : ℕ → ℕ → ℝ) (k : ℕ) : ℝ := if k % 128 < a then f (k / 128) (k % 128) else 0
theorem sum_heads {n : ℕ} (f : ℕ → ℕ → ℝ) (hn : 0 < n) : ∑ k : Fin (6 * n), f (k.val / n) (k.val % n) = ∑ h : Fin 6, ∑ x : Fin n, f h.val x.val := by
  rw [← finProdFinEquiv.sum_comp, Fintype.sum_prod_type]
  refine Finset.sum_congr rfl fun h _ => Finset.sum_congr rfl fun x _ => ?_
  have e : (finProdFinEquiv (h, x)).val = n * h.val + x.val := by rw [finProdFinEquiv_apply_val]; exact Nat.add_comm _ _
  rw [e, Nat.mul_add_div hn, Nat.div_eq_of_lt x.isLt, Nat.add_zero, Nat.mul_add_mod, Nat.mod_eq_of_lt x.isLt]
theorem sum_short (a b : ℕ) (f : ℕ → ℝ) (hf : ∀ x, a ≤ x → x < a + b → f x = 0) : ∑ x : Fin (a + b), f x.val = ∑ x : Fin a, f x.val := by
  rw [Fin.sum_univ_add]
  have : ∑ i : Fin b, f (Fin.natAdd a i).val = 0 := Finset.sum_eq_zero fun i _ => hf _ (by simp) (by simp)
  rw [this, add_zero]; rfl
theorem sum_spread (a b : ℕ) (hab : a + b = 128) (ha : 0 < a) (f : ℕ → ℕ → ℝ) (hf : ∀ h x, a ≤ x → x < 128 → f h x = 0) :
    ∑ k : Fin 768, f (k.val / 128) (k.val % 128) = ∑ k : Fin (6 * a), f (k.val / a) (k.val % a) := by
  rw [sum_heads (n := a) f ha]
  refine (sum_heads (n := 128) f (by norm_num)).trans (Finset.sum_congr rfl fun h _ => ?_)
  subst_vars
  have := sum_short a b (f h.val) fun x hx hb => hf _ x hx (by omega)
  rw [← this, hab]

variable (n : ℕ) (X : ℕ → ℕ → ℝ) (g : ℕ → ℝ) (H : ℕ → ℕ → ℝ)
/-- The mean square of a row of `n` entries, one over its root, and the gradient in the row for an image `H`. -/
def ms (t : ℕ) : ℝ := (∑ k : Fin n, X t k.val * X t k.val) / n + eps
def rs (t : ℕ) : ℝ := (Real.sqrt (ms n X t))⁻¹
theorem ms_pos (t : ℕ) : 0 < ms n X t :=
  add_pos_of_nonneg_of_pos (div_nonneg (Finset.sum_nonneg fun k _ => mul_self_nonneg _) (Nat.cast_nonneg n)) eps_pos
def dx (t l : ℕ) : ℝ := rs n X t * (H t l * g l - X t l * rs n X t * ((∑ k : Fin n, H t k.val * g k.val * (X t k.val * rs n X t)) / n))
theorem rs_div_ms (t : ℕ) : rs n X t / ms n X t = rs n X t * rs n X t * rs n X t := by
  have h : rs n X t * rs n X t = (ms n X t)⁻¹ := by
    rw [rs, ← mul_inv, Real.mul_self_sqrt (ms_pos n X t).le]
  rw [h, div_eq_mul_inv, mul_comm]
/-- The gradient through the mean square, as the chain rule gives it. -/
def mean (t : ℕ) : ℝ := (∑ k : Fin n, X t k.val * (H t k.val * g k.val)) * (-1 / 2 * (rs n X t / ms n X t)) / n
theorem dx_chain (t l : ℕ) : H t l * g l * rs n X t + X t l * mean n X g H t + mean n X g H t * X t l = dx n X g H t l := by
  have e : ∑ k : Fin n, H t k.val * g k.val * (X t k.val * rs n X t) = (∑ k : Fin n, X t k.val * (H t k.val * g k.val)) * rs n X t := by
    rw [Finset.sum_mul]; exact Finset.sum_congr rfl fun _ _ => by ring
  rw [dx, e, mean, rs_div_ms]
  ring

theorem sum_tiles8 (f : ℕ → ℝ) : ∑ k ∈ Finset.range 8, ∑ r : Fin 1024, f (1024 * k + r.val) = ∑ t : Fin 8192, f t.val := by
  rw [Finset.sum_range, ← (finProdFinEquiv (m := 8) (n := 1024)).sum_comp, Fintype.sum_prod_type]
  exact Finset.sum_congr rfl fun k _ => Finset.sum_congr rfl fun r _ => congrArg f (by rw [finProdFinEquiv_apply_val]; exact Nat.add_comm _ _)

theorem ofBits_384 : Ideal.ofBits .f32 0x43C00000#32 = ((384 : ℝ) : EReal) := by
  simp [Ideal.ofBits, Ideal.ieee]; norm_num; rw [← EReal.coe_mul]; norm_num
theorem ofBits_256 : Ideal.ofBits .f32 0x43800000#32 = ((256 : ℝ) : EReal) := by
  simp [Ideal.ofBits, Ideal.ieee]; norm_num; rw [← EReal.coe_mul]; norm_num
theorem div_384 (a : ℝ) : Ideal.div (a : EReal) ((384 : ℝ) : EReal) = ((a / 384 : ℝ) : EReal) := div_coe _ _ (by norm_num)
theorem div_256 (a : ℝ) : Ideal.div (a : EReal) ((256 : ℝ) : EReal) = ((a / 256 : ℝ) : EReal) := div_coe _ _ (by norm_num)

/-- The scale of the queries. -/
def att : ℝ := (13698540 : ℕ) * (2 : ℝ) ^ (-27 : ℤ)
theorem ofBits_att : Ideal.ofBits .f32 0x3DD105EC#32 = (att : EReal) := by simp [Ideal.ofBits, Ideal.ieee, att]

/-- The rotated cotangent of the queries, by lanes; the cotangents of keys and values side by side. -/
def dqu (cs sn A : ℕ → ℕ → ℝ) (t k : ℕ) : ℝ := rot (cs t) (sn t) (fun y => A t (128 * (k / 128) + y) * att) (k % 128)
def dkv (B V : ℕ → ℕ → ℝ) (t k : ℕ) : ℝ := if k < 768 then B t k else V t (k - 768)
/-- The cotangent of the rotary key: the heads' sum, turned back. -/
def krs (B : ℕ → ℕ → ℝ) (t y : ℕ) : ℝ := B t y + B t (128 + y) + B t (256 + y) + B t (384 + y) + B t (512 + y) + B t (640 + y)
def dkr (cs sn B : ℕ → ℕ → ℝ) (t : ℕ) : ℕ → ℝ := rot (cs t) (sn t) fun y => if 64 ≤ y ∧ y < 96 then krs B t y else 0
end Cert.Mla
end
-- ==== Proof.MlaValue.lean ====
/-
  What the kernel's region writes: the gradient of the query, key and value products as tables of reals.
-/
module
public import proofs.«01_k».proof.Proof.MlaMath
public import proofs.«01_k».proof.Proof.Gen.MlaPrepBwdIdeal.Value
public import Idealize.ShloMosaic.Lib.Pipeline.ValueKit.Point
public import Idealize.ShloMosaic.Lib.StableHlo.RunRead
public import Idealize.ShloMosaic.Lib.Pipeline.ReadBack
@[expose] public section
set_option maxRecDepth 16384
noncomputable section
open Cert.Reals Cert.Tables Cert.Lanes Cert.Mla Idealize.ShloMosaic Idealize.ShloMosaic.TcCoe Idealize.SL.Sem
open Idealize.ShloMosaic.Pipeline (Dat)
open Cert.MlaPrepBwdIdeal Cert.MlaPrepBwdIdeal.Gen
namespace Cert.MlaPrepBwdIdeal.Blocks
variable (X : ℕ → ℕ → ℝ) (g : ℕ → ℝ) (W : ℕ → ℕ → ℝ) (cs sn u : ℕ → ℕ → ℝ) (P Q : ℕ → ℕ → ℝ)

theorem pay39_eq : (k0_pay39 (F := Ideal) (nm X) : Vec Ideal S1024x1 .f32) = nm fun r _ => rs 384 X r := by
  funext j; idx_vars j; pointwise [k0_pay39, k0_pay37]
  simp only [nm_apply, ofBits_384, ofBits_eps, ← EReal.coe_mul, sum_coe, div_384, ← EReal.coe_add]
  have h := ms_pos 384 X j0.val
  simp only [ms, Nat.cast_ofNat] at h
  rw [rsqrt_coe _ h]
  simp only [rs, ms, Nat.cast_ofNat]
theorem pay45_eq : (k0_pay45 (F := Ideal) (nm X) : Vec Ideal S1024x1 .f32) = nm fun r _ => rs 256 X r := by
  funext j; idx_vars j; pointwise [k0_pay45, k0_pay43]
  simp only [nm_apply, ofBits_256, ofBits_eps, ← EReal.coe_mul, sum_coe, div_256, ← EReal.coe_add]
  have h := ms_pos 256 X j0.val
  simp only [ms, Nat.cast_ofNat] at h
  rw [rsqrt_coe _ h]
  simp only [rs, ms, Nat.cast_ofNat]
theorem pay40_eq : (k0_pay40 (F := Ideal) (nm X) : Vec Ideal S1024x384 .f32) = nm fun r l => X r l * rs 384 X r := by
  unfold k0_pay40; dsimp only; rw [pay39_eq]
  funext j; idx_vars j; pointwise [k0_pay37]
  simp only [nm_apply, ← EReal.coe_mul]
theorem pay46_eq : (k0_pay46 (F := Ideal) (nm X) : Vec Ideal S1024x256 .f32) = nm fun r l => X r l * rs 256 X r := by
  unfold k0_pay46; dsimp only; rw [pay45_eq]
  funext j; idx_vars j; pointwise [k0_pay43]
  simp only [nm_apply, ← EReal.coe_mul]
theorem pay38_eq : (k0_pay38 (F := Ideal) (nm P) (nc fun _ => W) : Vec Ideal S1024x384 .f32) = nm fun r j => ∑ k : Fin 768, P r k.val * W j k.val := by
  funext j; idx_vars j; pointwise [k0_pay38]
  simp only [nm_apply, nc_apply, ofBits_zero, ← EReal.coe_mul, sum_coe, ← EReal.coe_add, zero_add]
theorem pay44_eq : (k0_pay44 (F := Ideal) (nm P) (nc fun _ => W) : Vec Ideal S1024x256 .f32) = nm fun r j => ∑ k : Fin 1152, P r k.val * W j k.val := by
  funext j; idx_vars j; pointwise [k0_pay44]
  simp only [nm_apply, nc_apply, ofBits_zero, ← EReal.coe_mul, sum_coe, ← EReal.coe_add, zero_add]
theorem pay41_eq : (k0_pay41 (F := Ideal) (nm P) (nm X) (nc fun _ => W) (nm Q) : Vec Ideal S1x384 .f32)
    = nm fun a l => Q a l + ∑ r : Fin 1024, (∑ k : Fin 768, P r.val k.val * W l k.val) * (X r.val l * rs 384 X r.val) := by
  unfold k0_pay41; dsimp only; rw [pay38_eq, pay40_eq]
  funext j; idx_vars j; pointwise []
  simp only [nm_apply, ← EReal.coe_mul, sum_coe, ← EReal.coe_add]
theorem pay47_eq : (k0_pay47 (F := Ideal) (nm P) (nm X) (nc fun _ => W) (nm Q) : Vec Ideal S1x256 .f32)
    = nm fun a l => Q a l + ∑ r : Fin 1024, (∑ k : Fin 1152, P r.val k.val * W l k.val) * (X r.val l * rs 256 X r.val) := by
  unfold k0_pay47; dsimp only; rw [pay44_eq, pay46_eq]
  funext j; idx_vars j; pointwise []
  simp only [nm_apply, ← EReal.coe_mul, sum_coe, ← EReal.coe_add]
theorem pay42_eq : (k0_pay42 (F := Ideal) (nm P) (nm X) (nc fun _ _ => g) (nc fun _ => W) : Vec Ideal S1024x384 .bf16)
    = nm (dx 384 X g fun r j => ∑ k : Fin 768, P r k.val * W j k.val) := by
  unfold k0_pay42; dsimp only; rw [pay38_eq, pay40_eq, pay39_eq]
  funext j; idx_vars j; pointwise []
  simp only [nm_apply, nc_apply, ofBits_384, ← EReal.coe_mul, sum_coe, div_384, ← EReal.coe_sub, dx, Nat.cast_ofNat]
theorem pay48_eq : (k0_pay48 (F := Ideal) (nm P) (nm X) (nc fun _ _ => g) (nc fun _ => W) : Vec Ideal S1024x256 .bf16)
    = nm (dx 256 X g fun r j => ∑ k : Fin 1152, P r k.val * W j k.val) := by
  unfold k0_pay48; dsimp only; rw [pay44_eq, pay46_eq, pay45_eq]
  funext j; idx_vars j; pointwise []
  simp only [nm_apply, nc_apply, ofBits_256, ← EReal.coe_mul, sum_coe, div_256, ← EReal.coe_sub, dx, Nat.cast_ofNat]
theorem pay35_eq : (k0_pay35 (F := Ideal) (nm P) (nm Q) (nm X) : Vec Ideal S384x768 .f32) = nm fun a l => Q a l + ∑ r : Fin 1024, X r.val a * P r.val l := by
  funext j; idx_vars j; pointwise [k0_pay35]
  simp only [nm_apply, ofBits_zero, ← EReal.coe_mul, sum_coe, ← EReal.coe_add, zero_add]
theorem pay36_eq : (k0_pay36 (F := Ideal) (nm P) (nm Q) (nm X) : Vec Ideal S256x1152 .f32) = nm fun a l => Q a l + ∑ r : Fin 1024, X r.val a * P r.val l := by
  funext j; idx_vars j; pointwise [k0_pay36]
  simp only [nm_apply, ofBits_zero, ← EReal.coe_mul, sum_coe, ← EReal.coe_add, zero_add]
theorem pay1_eq : (k0_pay1 (F := Ideal) : Vec Ideal S384x768 .f32) = nm fun _ _ => 0 := by
  funext j; idx_vars j; pointwise [k0_pay1]; simp only [nm_apply, ofBits_zero, EReal.coe_zero]
theorem pay2_eq : (k0_pay2 (F := Ideal) : Vec Ideal S256x1152 .f32) = nm fun _ _ => 0 := by
  funext j; idx_vars j; pointwise [k0_pay2]; simp only [nm_apply, ofBits_zero, EReal.coe_zero]
theorem pay3_eq : (k0_pay3 (F := Ideal) : Vec Ideal S1x384 .f32) = nm fun _ _ => 0 := by
  funext j; idx_vars j; pointwise [k0_pay3]; simp only [nm_apply, ofBits_zero, EReal.coe_zero]
theorem pay4_eq : (k0_pay4 (F := Ideal) : Vec Ideal S1x256 .f32) = nm fun _ _ => 0 := by
  funext j; idx_vars j; pointwise [k0_pay4]; simp only [nm_apply, ofBits_zero, EReal.coe_zero]

abbrev C1 : Vec Ideal S1024x128 .f32 := nm fun r => tc (cs r)
abbrev C2 : Vec Ideal S1024x128 .f32 := nm fun r => tb (sn r)
abbrev C3 : Vec Ideal S1024x128 .f32 := nm fun r => ta (sn r)
theorem pay16_eq : (k0_pay16 (F := Ideal) (C1 cs) (C2 sn) (C3 sn) (nm u) : Vec Ideal S1024x128 .bf16) = nm fun r => rot (cs r) (sn r) fun y => u r y * att := by
  funext j; idx_vars j; pointwise [k0_pay16]
  simp only [nm_apply, ofBits_att, ← EReal.coe_mul, ← EReal.coe_add]
  rw [← rot_lanes _ _ _ _ j1.isLt]
theorem pay5_eq : (k0_pay5 (F := Ideal) (nm u) : Vec Ideal S1024x128 .f32) = nm u := shapeCast_self _ _
theorem pay6_eq : (k0_pay6 (F := Ideal) (nm u) : Vec Ideal S1024x128 .f32) = nm u := shapeCast_self _ _
theorem pay7_eq : (k0_pay7 (F := Ideal) (nm u) : Vec Ideal S1024x128 .f32) = nm u := shapeCast_self _ _
theorem pay8_eq : (k0_pay8 (F := Ideal) (C1 cs) (C2 sn) (C3 sn) (nm u) : Vec Ideal S1024x128 .bf16) = nm fun r => rot (cs r) (sn r) fun y => u r y * att := by
  unfold k0_pay8; rw [pay5_eq, pay6_eq, pay7_eq]; exact pay16_eq cs sn u
theorem pay13_eq : (k0_pay13 (F := Ideal) (C1 cs) (C2 sn) (C3 sn) (k0_pay12 (nm u)) : Vec Ideal S1024x128 .bf16) = nm fun r => rot (cs r) (sn r) fun y => u r y * att :=
  pay16_eq cs sn u
theorem pay21_eq : (k0_pay21 (F := Ideal) (C1 cs) (C2 sn) (C3 sn) (nm u) : Vec Ideal S1024x128 .bf16) = nm fun r => rot (cs r) (sn r) fun y => u r y * att :=
  pay16_eq cs sn u
theorem pay26_eq : (k0_pay26 (k0_pay25 (F := Ideal) (C1 cs) (C2 sn) (C3 sn) (nm u)) : Vec Ideal S1024x128 .bf16) = nm fun r => rot (cs r) (sn r) fun y => u r y * att :=
  pay16_eq cs sn u
theorem pay29_eq : (k0_pay29 (F := Ideal) (C1 cs) (C2 sn) (C3 sn) (nm u) : Vec Ideal S1024x128 .bf16) = nm fun r => rot (cs r) (sn r) fun y => u r y * att :=
  pay16_eq cs sn u
theorem mask (l : ℕ) (h : l < 128) (a : EReal) : Scalar.select (IntOp.andi (IntOp.cmpi .sge (BitVec.ofNat 32 l) 64#32) (IntOp.cmpi .slt (BitVec.ofNat 32 l) 96#32)) a 0
    = if 64 ≤ l ∧ l < 96 then a else 0 := by
  have e := (by decide +kernel : ∀ l : Fin 128, IntOp.andi (IntOp.cmpi .sge (BitVec.ofNat 32 l.val) 64#32) (IntOp.cmpi .slt (BitVec.ofNat 32 l.val) 96#32)
    = if 64 ≤ l.val ∧ l.val < 96 then 1#1 else 0#1) ⟨l, h⟩
  dsimp only at e
  rw [e]
  split_ifs <;> rfl
theorem pay34_eq : (k0_pay34 (F := Ideal) (C1 cs) (C2 sn) (C3 sn) (nm u) : Vec Ideal S1024x128 .bf16)
    = nm fun r => rot (cs r) (sn r) fun y => if 64 ≤ y ∧ y < 96 then u r y else 0 := by
  funext j; idx_vars j; pointwise [k0_pay34]
  simp only [nm_apply]
  rw [← rot_lanes _ _ _ _ j1.isLt]
  rw [mask _ j1.isLt, mask _ (Nat.mod_lt _ (by norm_num)), mask _ (Nat.mod_lt _ (by norm_num))]
  have e : ∀ (q : Prop) [Decidable q] (a b : ℝ), (if q then (a : EReal) * (b : EReal) else 0) = (((if q then a else 0) * b : ℝ) : EReal) := by
    intro q _ a b
    split_ifs
    · rw [EReal.coe_mul]
    · rw [zero_mul, EReal.coe_zero]
  rw [e, e, e, ← EReal.coe_add, ← EReal.coe_add]
theorem sum_heads_eq (b0 b1 b2 b3 b4 b5 : ℕ → ℕ → ℝ) : (k0_pay31 (F := Ideal) (k0_pay23 (k0_pay18 (k0_pay10 (nm b0)) (nm b1) (nm b2)) (nm b3)) (nm b4) (nm b5) : Vec Ideal S1024x128 .f32)
    = nm fun r y => b0 r y + b1 r y + b2 r y + b3 r y + b4 r y + b5 r y := by
  funext j; idx_vars j; pointwise [k0_pay31, k0_pay23, k0_pay18, k0_pay10, k0_pay9, k0_pay14, k0_pay17, k0_pay22, k0_pay27, k0_pay30]
  simp only [nm_apply, ofBits_zero, ← EReal.coe_add, zero_add]

theorem ld_cols (T : ℕ → ℕ → ℝ) (o : ℕ) (inb) : (View.ld (Val := Elt Ideal) (e' := .f32) (nm T : Vec Ideal S1024x768 .f32) (Rect.unit ![0, o] ![1024, 128] inb) : Vec Ideal S1024x128 .f32)
    = nm fun r l => T r (o + l) := by
  funext x; idx_vars x
  refine congrArg (fun z : ℝ => (z : EReal)) (congrArg₂ T ?_ ?_)
  · show 0 + 1 * _ = _; simp
  · show o + 1 * _ = _; simp
theorem part (T : ℕ → ℕ → ℝ) (a b o w : ℕ) (inb) (v : (⟨2, ![a, w]⟩ : Shape).Idx → EReal)
    (h : v = nm fun r l => T r (o + l)) (x) : v x = (nm T : (⟨2, ![a, b]⟩ : Shape).Idx → EReal) ((Rect.unit (s := ⟨2, ![a, b]⟩) ![0, o] ![a, w] inb).emb x) := by
  subst h
  refine congrArg (fun z : ℝ => (z : EReal)) (congrArg₂ T ?_ ?_)
  · show _ = 0 + 1 * _; simp
  · show _ = o + 1 * _; simp
variable {sp : Space}
set_option maxHeartbeats 4000000 in
/-- Six blocks of columns, stored side by side and read back whole; -/
theorem cols6 (T : ℕ → ℕ → ℝ) (v : View sig .tc sp ⟨2, ![1024, 768]⟩ .bf16) (w0 w1 w2 w3 w4 w5)
    (h0 : w0 = (nm fun r l => T r (0 + l) : Vec Ideal S1024x128 .bf16))
    (h1 : w1 = (nm fun r l => T r (128 + l) : Vec Ideal S1024x128 .bf16))
    (h2 : w2 = (nm fun r l => T r (256 + l) : Vec Ideal S1024x128 .bf16))
    (h3 : w3 = (nm fun r l => T r (384 + l) : Vec Ideal S1024x128 .bf16))
    (h4 : w4 = (nm fun r l => T r (512 + l) : Vec Ideal S1024x128 .bf16))
    (h5 : w5 = (nm fun r l => T r (640 + l) : Vec Ideal S1024x128 .bf16))
    : v.readCov [(⟨Rect.unit ![0, 640] ![1024, 128] inb_S1024x768_S1024x128_0_640, w5⟩ : View.Piece (Elt Ideal) S1024x768 .bf16),
      ⟨Rect.unit ![0, 512] ![1024, 128] inb_S1024x768_S1024x128_0_512, w4⟩,
      ⟨Rect.unit ![0, 384] ![1024, 128] inb_S1024x768_S1024x128_0_384, w3⟩,
      ⟨Rect.unit ![0, 256] ![1024, 128] inb_S1024x768_S1024x128_0_256, w2⟩,
      ⟨Rect.unit ![0, 128] ![1024, 128] inb_S1024x768_S1024x128_0_128, w1⟩,
      ⟨Rect.unit ![0, 0] ![1024, 128] inb_S1024x768_S1024x128_0_0, w0⟩] (Rect.unit ![0, 0] ![1024, 768] inb_S1024x768_S1024x768_0_0).toLoadRect = (nm T : Vec Ideal S1024x768 .bf16) := by
  have cov : ∀ y : S1024x768.Idx, ∃ p ∈ [(⟨Rect.unit ![0, 640] ![1024, 128] inb_S1024x768_S1024x128_0_640, w5⟩ : View.Piece (Elt Ideal) S1024x768 .bf16),
      ⟨Rect.unit ![0, 512] ![1024, 128] inb_S1024x768_S1024x128_0_512, w4⟩,
      ⟨Rect.unit ![0, 384] ![1024, 128] inb_S1024x768_S1024x128_0_384, w3⟩,
      ⟨Rect.unit ![0, 256] ![1024, 128] inb_S1024x768_S1024x128_0_256, w2⟩,
      ⟨Rect.unit ![0, 128] ![1024, 128] inb_S1024x768_S1024x128_0_128, w1⟩,
      ⟨Rect.unit ![0, 0] ![1024, 128] inb_S1024x768_S1024x128_0_0, w0⟩], y ∈ p.1.set := by
    intro y; idx_vars y
    have q0 : y0.val < 1024 := y0.isLt
    have q1 : y1.val < 768 := y1.isLt
    have hy : (0 ≤ y1.val ∧ y1.val < 128) ∨ (128 ≤ y1.val ∧ y1.val < 256) ∨ (256 ≤ y1.val ∧ y1.val < 384) ∨ (384 ≤ y1.val ∧ y1.val < 512) ∨ (512 ≤ y1.val ∧ y1.val < 640) ∨ (640 ≤ y1.val ∧ y1.val < 768) := by omega
    rcases hy with h | h | h | h | h | h
    · exact ⟨_, List.mem_cons_of_mem _ (List.mem_cons_of_mem _ (List.mem_cons_of_mem _ (List.mem_cons_of_mem _ (List.mem_cons_of_mem _ List.mem_cons_self)))), (Rect.mem_set_unit (inb := inb_S1024x768_S1024x128_0_0)).mpr fun a => match a with
      | ⟨0, _⟩ => ⟨Nat.zero_le _, by show y0.val < 0 + 1024; omega⟩
      | ⟨1, _⟩ => ⟨by show 0 ≤ y1.val; omega, by show y1.val < 0 + 128; omega⟩⟩
    · exact ⟨_, List.mem_cons_of_mem _ (List.mem_cons_of_mem _ (List.mem_cons_of_mem _ (List.mem_cons_of_mem _ List.mem_cons_self))), (Rect.mem_set_unit (inb := inb_S1024x768_S1024x128_0_128)).mpr fun a => match a with
      | ⟨0, _⟩ => ⟨Nat.zero_le _, by show y0.val < 0 + 1024; omega⟩
      | ⟨1, _⟩ => ⟨by show 128 ≤ y1.val; omega, by show y1.val < 128 + 128; omega⟩⟩
    · exact ⟨_, List.mem_cons_of_mem _ (List.mem_cons_of_mem _ (List.mem_cons_of_mem _ List.mem_cons_self)), (Rect.mem_set_unit (inb := inb_S1024x768_S1024x128_0_256)).mpr fun a => match a with
      | ⟨0, _⟩ => ⟨Nat.zero_le _, by show y0.val < 0 + 1024; omega⟩
      | ⟨1, _⟩ => ⟨by show 256 ≤ y1.val; omega, by show y1.val < 256 + 128; omega⟩⟩
    · exact ⟨_, List.mem_cons_of_mem _ (List.mem_cons_of_mem _ List.mem_cons_self), (Rect.mem_set_unit (inb := inb_S1024x768_S1024x128_0_384)).mpr fun a => match a with
      | ⟨0, _⟩ => ⟨Nat.zero_le _, by show y0.val < 0 + 1024; omega⟩
      | ⟨1, _⟩ => ⟨by show 384 ≤ y1.val; omega, by show y1.val < 384 + 128; omega⟩⟩
    · exact ⟨_, List.mem_cons_of_mem _ List.mem_cons_self, (Rect.mem_set_unit (inb := inb_S1024x768_S1024x128_0_512)).mpr fun a => match a with
      | ⟨0, _⟩ => ⟨Nat.zero_le _, by show y0.val < 0 + 1024; omega⟩
      | ⟨1, _⟩ => ⟨by show 512 ≤ y1.val; omega, by show y1.val < 512 + 128; omega⟩⟩
    · exact ⟨_, List.mem_cons_self, (Rect.mem_set_unit (inb := inb_S1024x768_S1024x128_0_640)).mpr fun a => match a with
      | ⟨0, _⟩ => ⟨Nat.zero_le _, by show y0.val < 0 + 1024; omega⟩
      | ⟨1, _⟩ => ⟨by show 640 ≤ y1.val; omega, by show y1.val < 640 + 128; omega⟩⟩
  have pc : View.PiecesOf (nm T : Vec Ideal S1024x768 .bf16) [(⟨Rect.unit ![0, 640] ![1024, 128] inb_S1024x768_S1024x128_0_640, w5⟩ : View.Piece (Elt Ideal) S1024x768 .bf16),
      ⟨Rect.unit ![0, 512] ![1024, 128] inb_S1024x768_S1024x128_0_512, w4⟩,
      ⟨Rect.unit ![0, 384] ![1024, 128] inb_S1024x768_S1024x128_0_384, w3⟩,
      ⟨Rect.unit ![0, 256] ![1024, 128] inb_S1024x768_S1024x128_0_256, w2⟩,
      ⟨Rect.unit ![0, 128] ![1024, 128] inb_S1024x768_S1024x128_0_128, w1⟩,
      ⟨Rect.unit ![0, 0] ![1024, 128] inb_S1024x768_S1024x128_0_0, w0⟩] := ⟨part T 1024 768 640 128 inb_S1024x768_S1024x128_0_640 w5 h5, part T 1024 768 512 128 inb_S1024x768_S1024x128_0_512 w4 h4, part T 1024 768 384 128 inb_S1024x768_S1024x128_0_384 w3 h3, part T 1024 768 256 128 inb_S1024x768_S1024x128_0_256 w2 h2, part T 1024 768 128 128 inb_S1024x768_S1024x128_0_128 w1 h1, part T 1024 768 0 128 inb_S1024x768_S1024x128_0_0 w0 h0, trivial⟩
  rw [View.readCov_eq_canon']
  funext y
  refine (congrFun (congrArg View.canon (List.append_nil _).symm) _).trans ((View.canon_append_of_piecesOf (nm T) [] _ pc _ (cov _)).trans ?_)
  refine congrArg (fun z : ℝ => (z : EReal)) (congrArg₂ T ?_ ?_)
  · show 0 + 1 * _ = _; simp
  · show 0 + 1 * _ = _; simp
set_option maxHeartbeats 4000000 in
/-- the same with a broad block at the end. -/
theorem cols7 (T : ℕ → ℕ → ℝ) (v : View sig .tc sp ⟨2, ![1024, 1152]⟩ .bf16) (w0 w1 w2 w3 w4 w5 w6)
    (h0 : w0 = (nm fun r l => T r (0 + l) : Vec Ideal S1024x128 .bf16))
    (h1 : w1 = (nm fun r l => T r (128 + l) : Vec Ideal S1024x128 .bf16))
    (h2 : w2 = (nm fun r l => T r (256 + l) : Vec Ideal S1024x128 .bf16))
    (h3 : w3 = (nm fun r l => T r (384 + l) : Vec Ideal S1024x128 .bf16))
    (h4 : w4 = (nm fun r l => T r (512 + l) : Vec Ideal S1024x128 .bf16))
    (h5 : w5 = (nm fun r l => T r (640 + l) : Vec Ideal S1024x128 .bf16))
    (h6 : w6 = (nm fun r l => T r (768 + l) : Vec Ideal S1024x384 .bf16))
    : v.readCov [(⟨Rect.unit ![0, 768] ![1024, 384] inb_S1024x1152_S1024x384_0_768, w6⟩ : View.Piece (Elt Ideal) S1024x1152 .bf16),
      ⟨Rect.unit ![0, 640] ![1024, 128] inb_S1024x1152_S1024x128_0_640, w5⟩,
      ⟨Rect.unit ![0, 512] ![1024, 128] inb_S1024x1152_S1024x128_0_512, w4⟩,
      ⟨Rect.unit ![0, 384] ![1024, 128] inb_S1024x1152_S1024x128_0_384, w3⟩,
      ⟨Rect.unit ![0, 256] ![1024, 128] inb_S1024x1152_S1024x128_0_256, w2⟩,
      ⟨Rect.unit ![0, 128] ![1024, 128] inb_S1024x1152_S1024x128_0_128, w1⟩,
      ⟨Rect.unit ![0, 0] ![1024, 128] inb_S1024x1152_S1024x128_0_0, w0⟩] (Rect.unit ![0, 0] ![1024, 1152] inb_S1024x1152_S1024x1152_0_0).toLoadRect = (nm T : Vec Ideal S1024x1152 .bf16) := by
  have cov : ∀ y : S1024x1152.Idx, ∃ p ∈ [(⟨Rect.unit ![0, 768] ![1024, 384] inb_S1024x1152_S1024x384_0_768, w6⟩ : View.Piece (Elt Ideal) S1024x1152 .bf16),
      ⟨Rect.unit ![0, 640] ![1024, 128] inb_S1024x1152_S1024x128_0_640, w5⟩,
      ⟨Rect.unit ![0, 512] ![1024, 128] inb_S1024x1152_S1024x128_0_512, w4⟩,
      ⟨Rect.unit ![0, 384] ![1024, 128] inb_S1024x1152_S1024x128_0_384, w3⟩,
      ⟨Rect.unit ![0, 256] ![1024, 128] inb_S1024x1152_S1024x128_0_256, w2⟩,
      ⟨Rect.unit ![0, 128] ![1024, 128] inb_S1024x1152_S1024x128_0_128, w1⟩,
      ⟨Rect.unit ![0, 0] ![1024, 128] inb_S1024x1152_S1024x128_0_0, w0⟩], y ∈ p.1.set := by
    intro y; idx_vars y
    have q0 : y0.val < 1024 := y0.isLt
    have q1 : y1.val < 1152 := y1.isLt
    have hy : (0 ≤ y1.val ∧ y1.val < 128) ∨ (128 ≤ y1.val ∧ y1.val < 256) ∨ (256 ≤ y1.val ∧ y1.val < 384) ∨ (384 ≤ y1.val ∧ y1.val < 512) ∨ (512 ≤ y1.val ∧ y1.val < 640) ∨ (640 ≤ y1.val ∧ y1.val < 768) ∨ (768 ≤ y1.val ∧ y1.val < 1152) := by omega
    rcases hy with h | h | h | h | h | h | h
    · exact ⟨_, List.mem_cons_of_mem _ (List.mem_cons_of_mem _ (List.mem_cons_of_mem _ (List.mem_cons_of_mem _ (List.mem_cons_of_mem _ (List.mem_cons_of_mem _ List.mem_cons_self))))), (Rect.mem_set_unit (inb := inb_S1024x1152_S1024x128_0_0)).mpr fun a => match a with
      | ⟨0, _⟩ => ⟨Nat.zero_le _, by show y0.val < 0 + 1024; omega⟩
      | ⟨1, _⟩ => ⟨by show 0 ≤ y1.val; omega, by show y1.val < 0 + 128; omega⟩⟩
    · exact ⟨_, List.mem_cons_of_mem _ (List.mem_cons_of_mem _ (List.mem_cons_of_mem _ (List.mem_cons_of_mem _ (List.mem_cons_of_mem _ List.mem_cons_self)))), (Rect.mem_set_unit (inb := inb_S1024x1152_S1024x128_0_128)).mpr fun a => match a with
      | ⟨0, _⟩ => ⟨Nat.zero_le _, by show y0.val < 0 + 1024; omega⟩
      | ⟨1, _⟩ => ⟨by show 128 ≤ y1.val; omega, by show y1.val < 128 + 128; omega⟩⟩
    · exact ⟨_, List.mem_cons_of_mem _ (List.mem_cons_of_mem _ (List.mem_cons_of_mem _ (List.mem_cons_of_mem _ List.mem_cons_self))), (Rect.mem_set_unit (inb := inb_S1024x1152_S1024x128_0_256)).mpr fun a => match a with
      | ⟨0, _⟩ => ⟨Nat.zero_le _, by show y0.val < 0 + 1024; omega⟩
      | ⟨1, _⟩ => ⟨by show 256 ≤ y1.val; omega, by show y1.val < 256 + 128; omega⟩⟩
    · exact ⟨_, List.mem_cons_of_mem _ (List.mem_cons_of_mem _ (List.mem_cons_of_mem _ List.mem_cons_self)), (Rect.mem_set_unit (inb := inb_S1024x1152_S1024x128_0_384)).mpr fun a => match a with
      | ⟨0, _⟩ => ⟨Nat.zero_le _, by show y0.val < 0 + 1024; omega⟩
      | ⟨1, _⟩ => ⟨by show 384 ≤ y1.val; omega, by show y1.val < 384 + 128; omega⟩⟩
    · exact ⟨_, List.mem_cons_of_mem _ (List.mem_cons_of_mem _ List.mem_cons_self), (Rect.mem_set_unit (inb := inb_S1024x1152_S1024x128_0_512)).mpr fun a => match a with
      | ⟨0, _⟩ => ⟨Nat.zero_le _, by show y0.val < 0 + 1024; omega⟩
      | ⟨1, _⟩ => ⟨by show 512 ≤ y1.val; omega, by show y1.val < 512 + 128; omega⟩⟩
    · exact ⟨_, List.mem_cons_of_mem _ List.mem_cons_self, (Rect.mem_set_unit (inb := inb_S1024x1152_S1024x128_0_640)).mpr fun a => match a with
      | ⟨0, _⟩ => ⟨Nat.zero_le _, by show y0.val < 0 + 1024; omega⟩
      | ⟨1, _⟩ => ⟨by show 640 ≤ y1.val; omega, by show y1.val < 640 + 128; omega⟩⟩
    · exact ⟨_, List.mem_cons_self, (Rect.mem_set_unit (inb := inb_S1024x1152_S1024x384_0_768)).mpr fun a => match a with
      | ⟨0, _⟩ => ⟨Nat.zero_le _, by show y0.val < 0 + 1024; omega⟩
      | ⟨1, _⟩ => ⟨by show 768 ≤ y1.val; omega, by show y1.val < 768 + 384; omega⟩⟩
  have pc : View.PiecesOf (nm T : Vec Ideal S1024x1152 .bf16) [(⟨Rect.unit ![0, 768] ![1024, 384] inb_S1024x1152_S1024x384_0_768, w6⟩ : View.Piece (Elt Ideal) S1024x1152 .bf16),
      ⟨Rect.unit ![0, 640] ![1024, 128] inb_S1024x1152_S1024x128_0_640, w5⟩,
      ⟨Rect.unit ![0, 512] ![1024, 128] inb_S1024x1152_S1024x128_0_512, w4⟩,
      ⟨Rect.unit ![0, 384] ![1024, 128] inb_S1024x1152_S1024x128_0_384, w3⟩,
      ⟨Rect.unit ![0, 256] ![1024, 128] inb_S1024x1152_S1024x128_0_256, w2⟩,
      ⟨Rect.unit ![0, 128] ![1024, 128] inb_S1024x1152_S1024x128_0_128, w1⟩,
      ⟨Rect.unit ![0, 0] ![1024, 128] inb_S1024x1152_S1024x128_0_0, w0⟩] := ⟨part T 1024 1152 768 384 inb_S1024x1152_S1024x384_0_768 w6 h6, part T 1024 1152 640 128 inb_S1024x1152_S1024x128_0_640 w5 h5, part T 1024 1152 512 128 inb_S1024x1152_S1024x128_0_512 w4 h4, part T 1024 1152 384 128 inb_S1024x1152_S1024x128_0_384 w3 h3, part T 1024 1152 256 128 inb_S1024x1152_S1024x128_0_256 w2 h2, part T 1024 1152 128 128 inb_S1024x1152_S1024x128_0_128 w1 h1, part T 1024 1152 0 128 inb_S1024x1152_S1024x128_0_0 w0 h0, trivial⟩
  rw [View.readCov_eq_canon']
  funext y
  refine (congrFun (congrArg View.canon (List.append_nil _).symm) _).trans ((View.canon_append_of_piecesOf (nm T) [] _ pc _ (cov _)).trans ?_)
  refine congrArg (fun z : ℝ => (z : EReal)) (congrArg₂ T ?_ ?_)
  · show 0 + 1 * _ = _; simp
  · show 0 + 1 * _ = _; simp
end Cert.MlaPrepBwdIdeal.Blocks
end
-- ==== Proof.MlaHost.lean ====
/-
  The arrays the host prepares for the kernel, as tables of reals: padded heads, weights, rotary tables.
-/
module
public import proofs.«01_k».proof.Proof.MlaMath
public import Idealize.ShloMosaic.Lib.Pipeline.ValueKit.Point
@[expose] public section
set_option maxRecDepth 16384
noncomputable section
open Cert.Reals Cert.Tables Cert.Lanes Cert.Mla Idealize.ShloMosaic
namespace Cert.Mla
/-- The angle of a position in one of the sixteen pairs, its cosine and sine. -/
def ang (t y : ℕ) : ℝ := t * Real.rpow 10000 (-(2 * y) / 32)
def cst (t y : ℕ) : ℝ := Real.cos (ang t y)
def snt (t y : ℕ) : ℝ := Real.sin (ang t y)
theorem toInt_small (n : ℕ) (h : n < 8192) : (BitVec.ofNat 32 n).toInt = n := by
  rw [BitVec.toInt_eq_toNat_of_lt] <;> rw [BitVec.toNat_ofNat] <;> omega
theorem ofBits_2 : Ideal.ofBits .f32 0x40000000#32 = ((2 : ℝ) : EReal) := by
  simp [Ideal.ofBits, Ideal.ieee]; norm_num; rw [← EReal.coe_mul]; norm_num
theorem ofBits_32 : Ideal.ofBits .f32 0x42000000#32 = ((32 : ℝ) : EReal) := by
  simp [Ideal.ofBits, Ideal.ieee]; norm_num; rw [← EReal.coe_mul]; norm_num
theorem ofBits_10000 : Ideal.ofBits .f32 0x461C4000#32 = ((10000 : ℝ) : EReal) := by
  simp [Ideal.ofBits, Ideal.ieee]; norm_num; rw [← EReal.coe_mul]; norm_num
abbrev angles (b1 : (⟨2, ![8192, 1]⟩ : Shape).BroadcastsInDim ⟨2, ![8192, 16]⟩ ![0, 1]) (b2 : (⟨1, ![8192]⟩ : Shape).BroadcastsInDim ⟨2, ![8192, 1]⟩ ![0])
    (b3 : (⟨2, ![1, 16]⟩ : Shape).BroadcastsInDim ⟨2, ![8192, 16]⟩ ![0, 1]) (b4 : (⟨1, ![16]⟩ : Shape).BroadcastsInDim ⟨2, ![1, 16]⟩ ![1])
    (b5 b6 b7 b8 : (⟨0, ![]⟩ : Shape).BroadcastsInDim ⟨1, ![16]⟩ ![]) : FVec Ideal ⟨2, ![8192, 16]⟩ .f32 :=
  mulf (broadcastInDim ⟨2, ![8192, 16]⟩ ![0, 1] b1 (broadcastInDim ⟨2, ![8192, 1]⟩ ![0] b2 (sitofp .f32 (iotaInDim ⟨1, ![8192]⟩ 32 0) : FVec Ideal ⟨1, ![8192]⟩ .f32)))
    (broadcastInDim ⟨2, ![8192, 16]⟩ ![0, 1] b3 (broadcastInDim ⟨2, ![1, 16]⟩ ![1] b4
      (Host.powf (broadcastInDim ⟨1, ![16]⟩ ![] b5 (constant ⟨0, ![]⟩ .f32 0x461C4000#32)) (Host.divf (Host.negf (addf (broadcastInDim ⟨1, ![16]⟩ ![] b6
        (constant ⟨0, ![]⟩ .f32 0x00000000#32)) (mulf (broadcastInDim ⟨1, ![16]⟩ ![] b7 (constant ⟨0, ![]⟩ .f32 0x40000000#32))
        (sitofp .f32 (iotaInDim ⟨1, ![16]⟩ 32 0) : FVec Ideal ⟨1, ![16]⟩ .f32)))) (broadcastInDim ⟨1, ![16]⟩ ![] b8 (constant ⟨0, ![]⟩ .f32 0x42000000#32))))))
theorem angles_eq (b1 b2 b3 b4 b5 b6 b7 b8) : angles b1 b2 b3 b4 b5 b6 b7 b8 = nm ang := by
  funext j; idx_vars j; pointwise []
  have q0 := j0.isLt; have q1 := j1.isLt
  rw [ofBits_10000, ofBits_2, ofBits_32]
  show (((BitVec.ofNat 32 j0.val).toInt : ℝ) : EReal) * Ideal.pow _ (Ideal.div (-(_ * (((BitVec.ofNat 32 j1.val).toInt : ℝ) : EReal))) _) = _
  rw [toInt_small _ (by omega), toInt_small _ (by omega), ← EReal.coe_mul, ← EReal.coe_neg, div_coe _ _ (by norm_num)]
  show _ * ((Real.rpow _ _ : ℝ) : EReal) = _
  rw [← EReal.coe_mul, nm_apply, ang]
  push_cast
  rfl
theorem cos_eq : (Host.cos (nm ang : FVec Ideal ⟨2, ![8192, 16]⟩ .f32) : FVec Ideal ⟨2, ![8192, 16]⟩ .f32) = nm cst := by
  funext j; idx_vars j; rfl
theorem sin_eq : (Host.sin (nm ang : FVec Ideal ⟨2, ![8192, 16]⟩ .f32) : FVec Ideal ⟨2, ![8192, 16]⟩ .f32) = nm snt := by
  funext j; idx_vars j; rfl

theorem catc (u0 : FVec Ideal ⟨2, ![8192, 64]⟩ .f32) (u1 u2 : FVec Ideal ⟨2, ![8192, 16]⟩ .f32) (u3 : FVec Ideal ⟨2, ![8192, 32]⟩ .f32) (h)
    (h0 : u0 = nm fun _ _ => 1) (h1 : u1 = nm cst) (h2 : u2 = nm cst) (h3 : u3 = nm fun _ _ => 0) :
    concatenate ⟨2, ![8192, 128]⟩ 1 [⟨⟨2, ![8192, 64]⟩, u0⟩, ⟨⟨2, ![8192, 16]⟩, u1⟩, ⟨⟨2, ![8192, 16]⟩, u2⟩, ⟨⟨2, ![8192, 32]⟩, u3⟩] h = nm fun t => tc (cst t) := by
  subst h0 h1 h2 h3
  funext j; idx_vars j; pointwise []
  simp only [nm_apply, tc]
  repeat' split
  all_goals first | rfl | (exfalso; omega)
theorem catb (u0 : FVec Ideal ⟨2, ![8192, 64]⟩ .f32) (u1 u2 : FVec Ideal ⟨2, ![8192, 16]⟩ .f32) (u3 : FVec Ideal ⟨2, ![8192, 32]⟩ .f32) (h)
    (h0 : u0 = nm fun _ _ => 0) (h1 : u1 = nm fun t y => -snt t y) (h2 : u2 = nm fun _ _ => 0) (h3 : u3 = nm fun _ _ => 0) :
    concatenate ⟨2, ![8192, 128]⟩ 1 [⟨⟨2, ![8192, 64]⟩, u0⟩, ⟨⟨2, ![8192, 16]⟩, u1⟩, ⟨⟨2, ![8192, 16]⟩, u2⟩, ⟨⟨2, ![8192, 32]⟩, u3⟩] h = nm fun t => tb (snt t) := by
  subst h0 h1 h2 h3
  funext j; idx_vars j; pointwise []
  simp only [nm_apply, tb]
  repeat' split
  all_goals first | rfl | (exfalso; omega)
theorem cata (u0 : FVec Ideal ⟨2, ![8192, 64]⟩ .f32) (u1 u2 : FVec Ideal ⟨2, ![8192, 16]⟩ .f32) (u3 : FVec Ideal ⟨2, ![8192, 32]⟩ .f32) (h)
    (h0 : u0 = nm fun _ _ => 0) (h1 : u1 = nm fun _ _ => 0) (h2 : u2 = nm snt) (h3 : u3 = nm fun _ _ => 0) :
    concatenate ⟨2, ![8192, 128]⟩ 1 [⟨⟨2, ![8192, 64]⟩, u0⟩, ⟨⟨2, ![8192, 16]⟩, u1⟩, ⟨⟨2, ![8192, 16]⟩, u2⟩, ⟨⟨2, ![8192, 32]⟩, u3⟩] h = nm fun t => ta (snt t) := by
  subst h0 h1 h2 h3
  funext j; idx_vars j; pointwise []
  simp only [nm_apply, ta]
  repeat' split
  all_goals first | rfl | (exfalso; omega)

/-- Heads padded to a hundred and twenty-eight lanes and laid side by side. -/
theorem pad3 (A : ℕ → ℕ → ℕ → ℝ) (h) (h') (h2) : (shapeCast ⟨2, ![8192, 768]⟩ (pad ⟨3, ![8192, 6, 128]⟩ ![0, 0, 0] ![0, 0, 32] ![0, 0, 0]
    (nc A : FVec Ideal ⟨3, ![8192, 6, 96]⟩ .f32) (sitofp .f32 (constantI ⟨0, ![]⟩ 32 0#32) : FVec Ideal ⟨0, ![]⟩ .f32) h h') h2 : FVec Ideal ⟨2, ![8192, 768]⟩ .f32)
    = nm fun t => spread 96 (A t) := by
  funext j; idx_vars j; pointwise []
  have q1 := j1.isLt
  by_cases q : j1.val % 128 < 96
  · refine (dif_pos ⟨by omega, q⟩).trans ?_
    simp only [nm_apply, nc_apply, spread, if_pos q]
  · refine (dif_neg (fun hh => q hh.2)).trans ?_
    simp only [nm_apply, nc_apply, spread, if_neg q]
    show (((0#32).toInt : ℝ) : EReal) = _
    simp
theorem pad4q (W : ℕ → ℕ → ℕ → ℝ) (h0) (h) (h') (h2) : (shapeCast ⟨3, ![4, 384, 768]⟩ (pad ⟨4, ![4, 384, 6, 128]⟩ ![0, 0, 0, 0] ![0, 0, 0, 32] ![0, 0, 0, 0]
    (shapeCast ⟨4, ![4, 384, 6, 96]⟩ (nc W : FVec Ideal ⟨3, ![4, 384, 576]⟩ .f32) h0)
    (sitofp .f32 (constantI ⟨0, ![]⟩ 32 0#32) : FVec Ideal ⟨0, ![]⟩ .f32) h h') h2 : FVec Ideal ⟨3, ![4, 384, 768]⟩ .f32)
    = nc fun l a => spread 96 fun b x => W l a (b * 96 + x) := by
  funext j; idx_vars j; pointwise []
  have q1 := j2.isLt
  by_cases q : j2.val % 128 < 96
  · refine (dif_pos ⟨by omega, q⟩).trans ?_
    simp only [nm_apply, nc_apply, spread, if_pos q]
  · refine (dif_neg (fun hh => q hh.2)).trans ?_
    simp only [nm_apply, nc_apply, spread, if_neg q]
    show (((0#32).toInt : ℝ) : EReal) = _
    simp
theorem pad4k (W : ℕ → ℕ → ℕ → ℝ) (h0 hs) (h) (h') (h2) : (shapeCast ⟨3, ![4, 256, 768]⟩ (pad ⟨4, ![4, 256, 6, 128]⟩ ![0, 0, 0, 0] ![0, 0, 0, 64] ![0, 0, 0, 0]
    (extractStridedSlice ⟨4, ![4, 256, 6, 64]⟩ ![0, 0, 0, 0] (shapeCast ⟨4, ![4, 256, 6, 128]⟩ (nc W : FVec Ideal ⟨3, ![4, 256, 768]⟩ .f32) h0) hs)
    (sitofp .f32 (constantI ⟨0, ![]⟩ 32 0#32) : FVec Ideal ⟨0, ![]⟩ .f32) h h') h2 : FVec Ideal ⟨3, ![4, 256, 768]⟩ .f32)
    = nc fun l a => spread 64 fun b x => W l a (b * 128 + x) := by
  funext j; idx_vars j; pointwise []
  have q1 := j2.isLt
  by_cases q : j2.val % 128 < 64
  · refine (dif_pos ⟨by omega, q⟩).trans ?_
    simp only [nc_apply, spread, if_pos q]
    rw [show j2.val / 128 * 128 + j2.val % 128 = j2.val by omega]
  · refine (dif_neg (fun hh => q hh.2)).trans ?_
    simp only [nm_apply, nc_apply, spread, if_neg q]
    show (((0#32).toInt : ℝ) : EReal) = _
    simp
theorem vals (W : ℕ → ℕ → ℕ → ℝ) (h0 hs) (h2) : (shapeCast ⟨3, ![4, 256, 384]⟩
    (extractStridedSlice ⟨4, ![4, 256, 6, 64]⟩ ![0, 0, 0, 64] (shapeCast ⟨4, ![4, 256, 6, 128]⟩ (nc W : FVec Ideal ⟨3, ![4, 256, 768]⟩ .f32) h0) hs)
    h2 : FVec Ideal ⟨3, ![4, 256, 384]⟩ .f32) = nc fun l a k => W l a (k / 64 * 128 + (64 + k % 64)) := by
  funext j; idx_vars j; pointwise []
  rw [nc_apply, nc_apply]
/-- The keys' weight by lanes and the values' after it. -/
def wkv (W : ℕ → ℕ → ℝ) (a k : ℕ) : ℝ := if k < 768 then spread 64 (fun b x => W a (b * 128 + x)) k else W a ((k - 768) / 64 * 128 + (64 + (k - 768) % 64))
theorem catw (W : ℕ → ℕ → ℕ → ℝ) (u0 : FVec Ideal ⟨3, ![4, 256, 768]⟩ .f32) (u1 : FVec Ideal ⟨3, ![4, 256, 384]⟩ .f32) (h)
    (h0 : u0 = nc fun l a => spread 64 fun b x => W l a (b * 128 + x)) (h1 : u1 = nc fun l a k => W l a (k / 64 * 128 + (64 + k % 64))) :
    concatenate ⟨3, ![4, 256, 1152]⟩ 2 [⟨⟨3, ![4, 256, 768]⟩, u0⟩, ⟨⟨3, ![4, 256, 384]⟩, u1⟩] h = nc fun l => wkv (W l) := by
  subst h0 h1
  funext j; idx_vars j; pointwise []
  simp only [nc_apply, wkv]
  repeat' split
  all_goals first | rfl | (exfalso; omega)
end Cert.Mla
end
-- ==== Proof.MlaReads.lean ====
/-
  What the kernel's windows read: the arrays the host prepares, tile by tile, as tables of reals.
-/
module
public import proofs.«01_k».proof.Proof.MlaHost
public import proofs.«01_k».proof.Proof.Gen.MlaPrepBwdIdeal.Value
public import Idealize.ShloMosaic.Lib.Pipeline.ValueKit.Point
public import Idealize.ShloMosaic.Lib.StableHlo.RunRead
@[expose] public section
set_option maxRecDepth 16384
noncomputable section
open Cert.Reals Cert.Tables Cert.Lanes Cert.Mla Idealize.ShloMosaic Idealize.ShloMosaic.TcCoe Idealize.SL.Sem
open Idealize.ShloMosaic.Pipeline (Dat)
open Cert.MlaPrepBwdIdeal Cert.MlaPrepBwdIdeal.Gen
namespace Cert.MlaPrepBwdIdeal.Blocks
variable (m : (ℓ : Loc nD τ sig) → Buf (Elt Ideal) ℓ) (c : Dev nD)
theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 2] :=
  (by decide +kernel : ∀ t : Fin grid0.N, win0_3.index t = ![t.val, 2])
theorem idx4 : ∀ t : Fin cfg0.N, win0_4.index t = ![t.val, 6] :=
  (by decide +kernel : ∀ t : Fin grid0.N, win0_4.index t = ![t.val, 6])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![1, 0, 0] :=
  (by decide +kernel : ∀ t : Fin grid0.N, win0_7.index t = ![1, 0, 0])
theorem idx8 : ∀ t : Fin cfg0.N, win0_8.index t = ![1, 0, 0] :=
  (by decide +kernel : ∀ t : Fin grid0.N, win0_8.index t = ![1, 0, 0])
theorem idx9 : ∀ t : Fin cfg0.N, win0_9.index t = ![1, 0, 0] :=
  (by decide +kernel : ∀ t : Fin grid0.N, win0_9.index t = ![1, 0, 0])
theorem idx10 : ∀ t : Fin cfg0.N, win0_10.index t = ![1, 0, 0] :=
  (by decide +kernel : ∀ t : Fin grid0.N, win0_10.index t = ![1, 0, 0])
theorem idx11 : ∀ t : Fin cfg0.N, win0_11.index t = ![t.val, 0] :=
  (by decide +kernel : ∀ t : Fin grid0.N, win0_11.index t = ![t.val, 0])
theorem idx12 : ∀ t : Fin cfg0.N, win0_12.index t = ![t.val, 0] :=
  (by decide +kernel : ∀ t : Fin grid0.N, win0_12.index t = ![t.val, 0])
theorem idx13 : ∀ t : Fin cfg0.N, win0_13.index t = ![t.val, 0] :=
  (by decide +kernel : ∀ t : Fin grid0.N, win0_13.index t = ![t.val, 0])
theorem idx14 : ∀ t : Fin cfg0.N, win0_14.index t = ![t.val, 0] :=
  (by decide +kernel : ∀ t : Fin grid0.N, win0_14.index t = ![t.val, 0])
theorem idx15 : ∀ t : Fin cfg0.N, win0_15.index t = ![t.val, 0] :=
  (by decide +kernel : ∀ t : Fin grid0.N, win0_15.index t = ![t.val, 0])
theorem idx16 : ∀ t : Fin cfg0.N, win0_16.index t = ![t.val, 0] :=
  (by decide +kernel : ∀ t : Fin grid0.N, win0_16.index t = ![t.val, 0])
theorem idx17 : ∀ t : Fin cfg0.N, win0_17.index t = ![0, 0] :=
  (by decide +kernel : ∀ t : Fin grid0.N, win0_17.index t = ![0, 0])
theorem idx18 : ∀ t : Fin cfg0.N, win0_18.index t = ![0, 0] :=
  (by decide +kernel : ∀ t : Fin grid0.N, win0_18.index t = ![0, 0])
theorem idx19 : ∀ t : Fin cfg0.N, win0_19.index t = ![0, 0] :=
  (by decide +kernel : ∀ t : Fin grid0.N, win0_19.index t = ![0, 0])
theorem idx20 : ∀ t : Fin cfg0.N, win0_20.index t = ![0, 0] :=
  (by decide +kernel : ∀ t : Fin grid0.N, win0_20.index t = ![0, 0])
variable (Z Gq Gk U : ℕ → ℕ → ℝ) (Wq Wk A B : ℕ → ℕ → ℕ → ℝ)
set_option maxHeartbeats 4000000 in
theorem lanes (h : m ((c : Thread nD τ).loc main_arg0) = nm Z): (V m c main_v13 : Vec Ideal S8192x2432 .f32) = nm fun a => lane (Z a) := by
  show (StableHlo.after [hostOps0, hostOps0_1, hostOps0_2, hostOps0_3, hostOps0_4, hostOps0_5, hostOps0_6, hostOps0_7, hostOps0_8].flatten (fun b => m (c, b)) (Proc.devRef .tc main_v13) : Vec Ideal S8192x2432 .f32) = _
  simp only [List.flatten_cons, List.flatten_nil, List.append_nil, StableHlo.after_append]
  after_reads_simp
  have h' : m (c, Proc.tc.devRef main_arg0) = (nm Z : FVec Ideal S8192x2336 .f32) := h
  refine cat2 Z _ _ _ _ _ _ _ _ _ _
    concatenates_S8192x584_S8192x568_S8192x312_S8192x72_S8192x16_S8192x240_S8192x512_S8192x64_S8192x32_S8192x32_S8192x2432_d1
    ?_ ?_ ?_ ?_ ?_ ?_ ?_ ?_ ?_ ?_
  · show StableHlo.upto hostOps0 (fun b => m (c, b)) 15 (Proc.tc.devRef main_v0) = _
    after_reads_simp
    funext j; idx_vars j; pointwise []
    rw [h', nm_apply, nm_apply]
  · show StableHlo.upto hostOps0 (fun b => m (c, b)) 15 (Proc.tc.devRef main_v4) = _
    after_reads_simp
    funext j; idx_vars j; pointwise []
    rw [h', nm_apply, nm_apply]
  · show StableHlo.upto hostOps0 (fun b => m (c, b)) 15 (Proc.tc.devRef main_v5) = _
    after_reads_simp
    funext j; idx_vars j; pointwise []
    rw [h', nm_apply, nm_apply]; exact congrArg (fun z : ℕ => ((Z j0.val z : ℝ) : EReal)) (by dsimp only; omega)
  · show StableHlo.upto hostOps0 (fun b => m (c, b)) 15 (Proc.tc.devRef main_v6) = _
    after_reads_simp
    funext j; idx_vars j; pointwise []
    rw [h', nm_apply, nm_apply]
  · show StableHlo.upto hostOps0 (fun b => m (c, b)) 15 (Proc.tc.devRef main_v7) = _
    after_reads_simp
    funext j; idx_vars j; pointwise []
    rw [h', nm_apply, nm_apply]; exact congrArg (fun z : ℕ => ((Z j0.val z : ℝ) : EReal)) (by dsimp only; omega)
  · show StableHlo.upto hostOps0 (fun b => m (c, b)) 15 (Proc.tc.devRef main_v8) = _
    after_reads_simp
    funext j; idx_vars j; pointwise []
    rw [h', nm_apply, nm_apply]
  · show StableHlo.upto hostOps0 (fun b => m (c, b)) 15 (Proc.tc.devRef main_v9) = _
    after_reads_simp
    funext j; idx_vars j; pointwise []
    rw [h', nm_apply, nm_apply]; exact congrArg (fun z : ℕ => ((Z j0.val z : ℝ) : EReal)) (by dsimp only; omega)
  · show StableHlo.upto hostOps0 (fun b => m (c, b)) 15 (Proc.tc.devRef main_v10) = _
    after_reads_simp
    funext j; idx_vars j; pointwise []
    rw [nm_apply, EReal.coe_zero]
  · show StableHlo.upto hostOps0 (fun b => m (c, b)) 15 (Proc.tc.devRef main_v11) = _
    after_reads_simp
    funext j; idx_vars j; pointwise []
    rw [h', nm_apply, nm_apply]; exact congrArg (fun z : ℕ => ((Z j0.val z : ℝ) : EReal)) (by dsimp only; omega)
  · show StableHlo.upto hostOps0 (fun b => m (c, b)) 15 (Proc.tc.devRef main_v12) = _
    after_reads_simp
    funext j; idx_vars j; pointwise []
    rw [nm_apply, EReal.coe_zero]
set_option maxHeartbeats 4000000 in
theorem norm384 (h : m ((c : Thread nD τ).loc main_arg0) = nm Z) (hg : m ((c : Thread nD τ).loc main_arg1) = nm Gq) : (V m c main_v30 : Vec Ideal S8192x384 .bf16) = nm fun t l => Z t (768 + l) * rs 384 (fun t k => Z t (768 + k)) t * Gq 1 l := by
  show (StableHlo.after [hostOps0, hostOps0_1, hostOps0_2, hostOps0_3, hostOps0_4, hostOps0_5, hostOps0_6, hostOps0_7, hostOps0_8].flatten (fun b => m (c, b)) (Proc.devRef .tc main_v30) : Vec Ideal S8192x384 .bf16) = _
  simp only [List.flatten_cons, List.flatten_nil, List.append_nil, StableHlo.after_append]
  after_reads_simp
  have h' : m (c, Proc.tc.devRef main_arg0) = (nm Z : FVec Ideal S8192x2336 .f32) := h
  have g' : m (c, Proc.tc.devRef main_arg1) = (nm Gq : FVec Ideal S4x384 .f32) := hg
  rw [h', g']
  funext j; idx_vars j; pointwise []
  simp only [nm_apply, ofBits_384, ofBits_eps, ofBits_zero, ← EReal.coe_mul, sum_coe, zero_add, div_384, ← EReal.coe_add]
  have q := ms_pos 384 (fun t k => Z t (768 + k)) j0.val
  simp only [ms, Nat.cast_ofNat] at q
  rw [rsqrt_coe _ q]
  simp only [rs, ms, Nat.cast_ofNat, ← EReal.coe_mul]
  rfl
set_option maxHeartbeats 4000000 in
theorem norm256 (h : m ((c : Thread nD τ).loc main_arg0) = nm Z) (hg : m ((c : Thread nD τ).loc main_arg2) = nm Gk) : (V m c main_v47 : Vec Ideal S8192x256 .bf16) = nm fun t l => Z t (1152 + l) * rs 256 (fun t k => Z t (1152 + k)) t * Gk 1 l := by
  show (StableHlo.after [hostOps0, hostOps0_1, hostOps0_2, hostOps0_3, hostOps0_4, hostOps0_5, hostOps0_6, hostOps0_7, hostOps0_8].flatten (fun b => m (c, b)) (Proc.devRef .tc main_v47) : Vec Ideal S8192x256 .bf16) = _
  simp only [List.flatten_cons, List.flatten_nil, List.append_nil, StableHlo.after_append]
  after_reads_simp
  have h' : m (c, Proc.tc.devRef main_arg0) = (nm Z : FVec Ideal S8192x2336 .f32) := h
  have g' : m (c, Proc.tc.devRef main_arg2) = (nm Gk : FVec Ideal S4x256 .f32) := hg
  rw [h', g']
  funext j; idx_vars j; pointwise []
  simp only [nm_apply, ofBits_256, ofBits_eps, ofBits_zero, ← EReal.coe_mul, sum_coe, zero_add, div_256, ← EReal.coe_add]
  have q := ms_pos 256 (fun t k => Z t (1152 + k)) j0.val
  simp only [ms, Nat.cast_ofNat] at q
  rw [rsqrt_coe _ q]
  simp only [rs, ms, Nat.cast_ofNat, ← EReal.coe_mul]
  rfl
set_option maxHeartbeats 4000000 in
theorem flatq (h : m ((c : Thread nD τ).loc main_arg5) = nc A): (V m c main_v49 : Vec Ideal S8192x768 .f32) = nm fun t => spread 96 (A t) := by
  show (StableHlo.after [hostOps0, hostOps0_1, hostOps0_2, hostOps0_3, hostOps0_4, hostOps0_5, hostOps0_6, hostOps0_7, hostOps0_8].flatten (fun b => m (c, b)) (Proc.devRef .tc main_v49) : Vec Ideal S8192x768 .f32) = _
  simp only [List.flatten_cons, List.flatten_nil, List.append_nil, StableHlo.after_append]
  after_reads_simp
  have h' : m (c, Proc.tc.devRef main_arg5) = (nc A : FVec Ideal S8192x6x96 .f32) := h
  rw [h']
  exact pad3 A pads_S8192x6x96_S8192x6x128_000_000_0320 h_S_ shapeCasts_S8192x6x128_S8192x768
set_option maxHeartbeats 4000000 in
theorem flatk (h : m ((c : Thread nD τ).loc main_arg6) = nc B): (V m c main_v51 : Vec Ideal S8192x768 .f32) = nm fun t => spread 96 (B t) := by
  show (StableHlo.after [hostOps0, hostOps0_1, hostOps0_2, hostOps0_3, hostOps0_4, hostOps0_5, hostOps0_6, hostOps0_7, hostOps0_8].flatten (fun b => m (c, b)) (Proc.devRef .tc main_v51) : Vec Ideal S8192x768 .f32) = _
  simp only [List.flatten_cons, List.flatten_nil, List.append_nil, StableHlo.after_append]
  after_reads_simp
  have h' : m (c, Proc.tc.devRef main_arg6) = (nc B : FVec Ideal S8192x6x96 .f32) := h
  rw [h']
  exact pad3 B pads_S8192x6x96_S8192x6x128_000_000_0320 h_S_ shapeCasts_S8192x6x128_S8192x768
set_option maxHeartbeats 4000000 in
theorem wq (h : m ((c : Thread nD τ).loc main_arg3) = nc Wq): (V m c main_v58 : Vec Ideal S4x384x768 .bf16) = nc fun l a => spread 96 fun b x => Wq l a (b * 96 + x) := by
  show (StableHlo.after [hostOps0, hostOps0_1, hostOps0_2, hostOps0_3, hostOps0_4, hostOps0_5, hostOps0_6, hostOps0_7, hostOps0_8].flatten (fun b => m (c, b)) (Proc.devRef .tc main_v58) : Vec Ideal S4x384x768 .bf16) = _
  simp only [List.flatten_cons, List.flatten_nil, List.append_nil, StableHlo.after_append]
  after_reads_simp
  have h' : m (c, Proc.tc.devRef main_arg3) = (nc Wq : FVec Ideal S4x384x576 .f32) := h
  rw [h']
  exact pad4q Wq shapeCasts_S4x384x576_S4x384x6x96 pads_S4x384x6x96_S4x384x6x128_000_000_000_0320 h_S_ shapeCasts_S4x384x6x128_S4x384x768
set_option maxHeartbeats 4000000 in
theorem wk (h : m ((c : Thread nD τ).loc main_arg4) = nc Wk): (V m c main_v66 : Vec Ideal S4x256x1152 .bf16) = nc fun l => wkv (Wk l) := by
  show (StableHlo.after [hostOps0, hostOps0_1, hostOps0_2, hostOps0_3, hostOps0_4, hostOps0_5, hostOps0_6, hostOps0_7, hostOps0_8].flatten (fun b => m (c, b)) (Proc.devRef .tc main_v66) : Vec Ideal S4x256x1152 .bf16) = _
  simp only [List.flatten_cons, List.flatten_nil, List.append_nil, StableHlo.after_append]
  after_reads_simp
  have h' : m (c, Proc.tc.devRef main_arg4) = (nc Wk : FVec Ideal S4x256x768 .f32) := h
  refine catw Wk _ _ concatenates_S4x256x768_S4x256x384_S4x256x1152_d2 ?_ ?_
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 3 (Proc.tc.devRef main_v62) = _
    after_reads_simp
    rw [h']
    exact pad4k Wk shapeCasts_S4x256x768_S4x256x6x128 slices_S4x256x6x128_S4x256x6x64_0_0_0_0 pads_S4x256x6x64_S4x256x6x128_000_000_000_0640 h_S_ shapeCasts_S4x256x6x128_S4x256x768
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 3 (Proc.tc.devRef main_v64) = _
    after_reads_simp
    rw [h']
    exact vals Wk shapeCasts_S4x256x768_S4x256x6x128 slices_S4x256x6x128_S4x256x6x64_0_0_0_64 shapeCasts_S4x256x6x64_S4x256x384
set_option maxHeartbeats 4000000 in
theorem cosines : (V m c main_v89 : Vec Ideal S8192x128 .f32) = nm fun t => tc (cst t) := by
  show (StableHlo.after [hostOps0, hostOps0_1, hostOps0_2, hostOps0_3, hostOps0_4, hostOps0_5, hostOps0_6, hostOps0_7, hostOps0_8].flatten (fun b => m (c, b)) (Proc.devRef .tc main_v89) : Vec Ideal S8192x128 .f32) = _
  simp only [List.flatten_cons, List.flatten_nil, List.append_nil, StableHlo.after_append]
  after_reads_simp
  refine catc _ _ _ _ concatenates_S8192x64_S8192x16_S8192x16_S8192x32_S8192x128_d1 ?_ ?_ ?_ ?_
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 35 (Proc.tc.devRef main_v85) = _
    after_reads_simp
    funext j; idx_vars j; pointwise []
    simp only [nm_apply, ofBits_zero, ofBits_one, EReal.coe_zero, EReal.coe_one]
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 35 (Proc.tc.devRef main_v83) = _
    after_reads_simp
    exact (congrArg Host.cos (angles_eq _ _ _ _ _ _ _ _)).trans cos_eq
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 35 (Proc.tc.devRef main_v83) = _
    after_reads_simp
    exact (congrArg Host.cos (angles_eq _ _ _ _ _ _ _ _)).trans cos_eq
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 35 (Proc.tc.devRef main_v88) = _
    after_reads_simp
    funext j; idx_vars j; pointwise []
    simp only [nm_apply, ofBits_zero, ofBits_one, EReal.coe_zero, EReal.coe_one]
set_option maxHeartbeats 4000000 in
theorem below : (V m c main_v91 : Vec Ideal S8192x128 .f32) = nm fun t => tb (snt t) := by
  show (StableHlo.after [hostOps0, hostOps0_1, hostOps0_2, hostOps0_3, hostOps0_4, hostOps0_5, hostOps0_6, hostOps0_7, hostOps0_8].flatten (fun b => m (c, b)) (Proc.devRef .tc main_v91) : Vec Ideal S8192x128 .f32) = _
  simp only [List.flatten_cons, List.flatten_nil, List.append_nil, StableHlo.after_append]
  after_reads_simp
  refine catb _ _ _ _ concatenates_S8192x64_S8192x16_S8192x16_S8192x32_S8192x128_d1 ?_ ?_ ?_ ?_
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 37 (Proc.tc.devRef main_v86) = _
    after_reads_simp
    funext j; idx_vars j; pointwise []
    simp only [nm_apply, ofBits_zero, ofBits_one, EReal.coe_zero, EReal.coe_one]
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 37 (Proc.tc.devRef main_v90) = _
    after_reads_simp
    refine (congrArg (fun v => Host.negf (Host.sin v)) (angles_eq _ _ _ _ _ _ _ _)).trans ?_
    rw [sin_eq]
    funext j; idx_vars j; pointwise []
    simp only [nm_apply, ← EReal.coe_neg]
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 37 (Proc.tc.devRef main_v87) = _
    after_reads_simp
    funext j; idx_vars j; pointwise []
    simp only [nm_apply, ofBits_zero, ofBits_one, EReal.coe_zero, EReal.coe_one]
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 37 (Proc.tc.devRef main_v88) = _
    after_reads_simp
    funext j; idx_vars j; pointwise []
    simp only [nm_apply, ofBits_zero, ofBits_one, EReal.coe_zero, EReal.coe_one]
set_option maxHeartbeats 4000000 in
theorem above : (V m c main_v92 : Vec Ideal S8192x128 .f32) = nm fun t => ta (snt t) := by
  show (StableHlo.after [hostOps0, hostOps0_1, hostOps0_2, hostOps0_3, hostOps0_4, hostOps0_5, hostOps0_6, hostOps0_7, hostOps0_8].flatten (fun b => m (c, b)) (Proc.devRef .tc main_v92) : Vec Ideal S8192x128 .f32) = _
  simp only [List.flatten_cons, List.flatten_nil, List.append_nil, StableHlo.after_append]
  after_reads_simp
  refine cata _ _ _ _ concatenates_S8192x64_S8192x16_S8192x16_S8192x32_S8192x128_d1 ?_ ?_ ?_ ?_
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 38 (Proc.tc.devRef main_v86) = _
    after_reads_simp
    funext j; idx_vars j; pointwise []
    simp only [nm_apply, ofBits_zero, ofBits_one, EReal.coe_zero, EReal.coe_one]
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 38 (Proc.tc.devRef main_v87) = _
    after_reads_simp
    funext j; idx_vars j; pointwise []
    simp only [nm_apply, ofBits_zero, ofBits_one, EReal.coe_zero, EReal.coe_one]
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 38 (Proc.tc.devRef main_v84) = _
    after_reads_simp
    exact (congrArg Host.sin (angles_eq _ _ _ _ _ _ _ _)).trans sin_eq
  · show StableHlo.upto hostOps0_8 (StableHlo.after hostOps0_7 (StableHlo.after hostOps0_6 (StableHlo.after hostOps0_5 (StableHlo.after hostOps0_4 (StableHlo.after hostOps0_3 (StableHlo.after hostOps0_2 (StableHlo.after hostOps0_1 (StableHlo.after hostOps0 (fun b => m (c, b)))))))))) 38 (Proc.tc.devRef main_v88) = _
    after_reads_simp
    funext j; idx_vars j; pointwise []
    simp only [nm_apply, ofBits_zero, ofBits_one, EReal.coe_zero, EReal.coe_one]
theorem iblk0 (h : m ((c : Thread nD τ).loc main_arg5) = nc A) (t : Fin cfg0.N) : (iblk m c 0 t : Vec Ideal S1024x768 .f32) = nm fun r => spread 96 (A (1024 * t.val + r)) := by
  funext j; idx_vars j
  rw [nm_apply]
  have ht : t.val < 8 := t.isLt
  have e : (win0_0.blk t).view.emb (ix2 j0 j1) = ix2 ⟨1024 * t.val + j0.val, by omega⟩ j1 := by blk_ext [idx0 t]
  blk_simp [iblk, e]
  rw [flatq m c A h]; rfl
theorem iblk1 (h : m ((c : Thread nD τ).loc main_arg6) = nc B) (t : Fin cfg0.N) : (iblk m c 1 t : Vec Ideal S1024x768 .f32) = nm fun r => spread 96 (B (1024 * t.val + r)) := by
  funext j; idx_vars j
  rw [nm_apply]
  have ht : t.val < 8 := t.isLt
  have e : (win0_1.blk t).view.emb (ix2 j0 j1) = ix2 ⟨1024 * t.val + j0.val, by omega⟩ j1 := by blk_ext [idx1 t]
  blk_simp [iblk, e]
  rw [flatk m c B h]; rfl
theorem iblk2 (h : m ((c : Thread nD τ).loc main_arg7) = nm U) (t : Fin cfg0.N) : (iblk m c 2 t : Vec Ideal S1024x384 .bf16) = nm fun r => U (1024 * t.val + r) := by
  funext j; idx_vars j
  rw [nm_apply]
  have ht : t.val < 8 := t.isLt
  have e : (win0_2.blk t).view.emb (ix2 j0 j1) = ix2 ⟨1024 * t.val + j0.val, by omega⟩ j1 := by blk_ext [idx2 t]
  blk_simp [iblk, e]
  entry_read
  simp only [List.flatten_cons, List.flatten_nil, List.append_nil, StableHlo.after_append]; after_reads_simp; pointwise []
  change m ((c : Thread nD τ).loc main_arg7) _ = _
  rw [h]; rfl
theorem X3 (h : m ((c : Thread nD τ).loc main_arg0) = nm Z) (t : Fin cfg0.N) : (X0_3 m c t : Vec Ideal S1024x384 .f32) = nm fun r l => Z (1024 * t.val + r) (768 + l) := by
  funext j; idx_vars j
  rw [nm_apply]
  have ht : t.val < 8 := t.isLt
  unfold X0_3 Pipeline.Window.fill
  rw [dif_pos (moved0_3 t _)]
  have e : ∀ h : ∀ a, (ix2 j0 j1 a).val < (win0_3.xblock (grid0.coords t)).size a, (win0_3.blk t).view.emb (fun a => ⟨(ix2 j0 j1 a).val, h a⟩)
      = ix2 ⟨1024 * t.val + j0.val, by omega⟩ ⟨768 + j1.val, by omega⟩ := by intro h; blk_ext [idx3 t]
  have e2 : (V m c main_v13 : Vec Ideal S8192x2432 .f32) (ix2 ⟨1024 * t.val + j0.val, by omega⟩ ⟨768 + j1.val, by omega⟩)
      = ((Z (1024 * t.val + j0.val) (768 + j1.val) : ℝ) : EReal) := by
    rw [lanes m c Z h, nm_apply]
    unfold lane
    simp (disch := omega) only [if_pos, if_neg]

  rw [← e fun a => (Pipeline.Window.moved_iff _ _ _).mp (moved0_3 t (ix2 j0 j1)) a] at e2
  exact e2
theorem X4 (h : m ((c : Thread nD τ).loc main_arg0) = nm Z) (t : Fin cfg0.N) : (X0_4 m c t : Vec Ideal S1024x256 .f32) = nm fun r l => Z (1024 * t.val + r) (1152 + l) := by
  funext j; idx_vars j
  rw [nm_apply]
  have ht : t.val < 8 := t.isLt
  unfold X0_4 Pipeline.Window.fill
  rw [dif_pos (moved0_4 t _)]
  have e : ∀ h : ∀ a, (ix2 j0 j1 a).val < (win0_4.xblock (grid0.coords t)).size a, (win0_4.blk t).view.emb (fun a => ⟨(ix2 j0 j1 a).val, h a⟩)
      = ix2 ⟨1024 * t.val + j0.val, by omega⟩ ⟨1536 + j1.val, by omega⟩ := by intro h; blk_ext [idx4 t]
  have e2 : (V m c main_v13 : Vec Ideal S8192x2432 .f32) (ix2 ⟨1024 * t.val + j0.val, by omega⟩ ⟨1536 + j1.val, by omega⟩)
      = ((Z (1024 * t.val + j0.val) (1152 + j1.val) : ℝ) : EReal) := by
    rw [lanes m c Z h, nm_apply]
    unfold lane
    simp (disch := omega) only [if_pos, if_neg]
    rw [show 1536 + j1.val - 384 = 1152 + j1.val by omega]
  rw [← e fun a => (Pipeline.Window.moved_iff _ _ _).mp (moved0_4 t (ix2 j0 j1)) a] at e2
  exact e2
theorem iblk5 (h : m ((c : Thread nD τ).loc main_arg0) = nm Z) (hg : m ((c : Thread nD τ).loc main_arg1) = nm Gq) (t : Fin cfg0.N) : (iblk m c 5 t : Vec Ideal S1024x384 .bf16) = nm fun r l => Z (1024 * t.val + r) (768 + l) * rs 384 (fun t k => Z t (768 + k)) (1024 * t.val + r) * Gq 1 l := by
  funext j; idx_vars j
  rw [nm_apply]
  have ht : t.val < 8 := t.isLt
  have e : (win0_5.blk t).view.emb (ix2 j0 j1) = ix2 ⟨1024 * t.val + j0.val, by omega⟩ j1 := by blk_ext [idx5 t]
  blk_simp [iblk, e]
  rw [norm384 m c Z Gq h hg]; rfl
theorem iblk6 (h : m ((c : Thread nD τ).loc main_arg0) = nm Z) (hg : m ((c : Thread nD τ).loc main_arg2) = nm Gk) (t : Fin cfg0.N) : (iblk m c 6 t : Vec Ideal S1024x256 .bf16) = nm fun r l => Z (1024 * t.val + r) (1152 + l) * rs 256 (fun t k => Z t (1152 + k)) (1024 * t.val + r) * Gk 1 l := by
  funext j; idx_vars j
  rw [nm_apply]
  have ht : t.val < 8 := t.isLt
  have e : (win0_6.blk t).view.emb (ix2 j0 j1) = ix2 ⟨1024 * t.val + j0.val, by omega⟩ j1 := by blk_ext [idx6 t]
  blk_simp [iblk, e]
  rw [norm256 m c Z Gk h hg]; rfl
theorem iblk7 (h : m ((c : Thread nD τ).loc main_arg1) = nm Gq) (t : Fin cfg0.N) : (iblk m c 7 t : Vec Ideal S1x1x384 .f32) = nc fun _ _ l => Gq 1 l := by
  funext j; idx_vars j
  rw [nc_apply]
  have ht : t.val < 8 := t.isLt
  have e : (win0_7.blk t).view.emb (ix3 j0 j1 j2) = ix3 ⟨1, by omega⟩ 0 j2 := by blk_ext [idx7 t]
  blk_simp [iblk, e]
  entry_read
  simp only [List.flatten_cons, List.flatten_nil, List.append_nil, StableHlo.after_append]; after_reads_simp; pointwise []
  change m ((c : Thread nD τ).loc main_arg1) _ = _
  rw [h]; rfl
theorem iblk8 (h : m ((c : Thread nD τ).loc main_arg2) = nm Gk) (t : Fin cfg0.N) : (iblk m c 8 t : Vec Ideal S1x1x256 .f32) = nc fun _ _ l => Gk 1 l := by
  funext j; idx_vars j
  rw [nc_apply]
  have ht : t.val < 8 := t.isLt
  have e : (win0_8.blk t).view.emb (ix3 j0 j1 j2) = ix3 ⟨1, by omega⟩ 0 j2 := by blk_ext [idx8 t]
  blk_simp [iblk, e]
  entry_read
  simp only [List.flatten_cons, List.flatten_nil, List.append_nil, StableHlo.after_append]; after_reads_simp; pointwise []
  change m ((c : Thread nD τ).loc main_arg2) _ = _
  rw [h]; rfl
theorem iblk9 (h : m ((c : Thread nD τ).loc main_arg3) = nc Wq) (t : Fin cfg0.N) : (iblk m c 9 t : Vec Ideal S1x384x768 .bf16) = nc fun _ a => spread 96 fun b x => Wq 1 a (b * 96 + x) := by
  funext j; idx_vars j
  rw [nc_apply]
  have ht : t.val < 8 := t.isLt
  have e : (win0_9.blk t).view.emb (ix3 j0 j1 j2) = ix3 ⟨1, by omega⟩ j1 j2 := by blk_ext [idx9 t]
  blk_simp [iblk, e]
  rw [wq m c Wq h]; rfl
theorem iblk10 (h : m ((c : Thread nD τ).loc main_arg4) = nc Wk) (t : Fin cfg0.N) : (iblk m c 10 t : Vec Ideal S1x256x1152 .bf16) = nc fun _ => wkv (Wk 1) := by
  funext j; idx_vars j
  rw [nc_apply]
  have ht : t.val < 8 := t.isLt
  have e : (win0_10.blk t).view.emb (ix3 j0 j1 j2) = ix3 ⟨1, by omega⟩ j1 j2 := by blk_ext [idx10 t]
  blk_simp [iblk, e]
  rw [wk m c Wk h]; rfl
theorem iblk11 (t : Fin cfg0.N) : (iblk m c 11 t : Vec Ideal S1024x128 .f32) = nm fun r => tc (cst (1024 * t.val + r)) := by
  funext j; idx_vars j
  rw [nm_apply]
  have ht : t.val < 8 := t.isLt
  have e : (win0_11.blk t).view.emb (ix2 j0 j1) = ix2 ⟨1024 * t.val + j0.val, by omega⟩ j1 := by blk_ext [idx11 t]
  blk_simp [iblk, e]
  rw [cosines m c]; rfl
theorem iblk12 (t : Fin cfg0.N) : (iblk m c 12 t : Vec Ideal S1024x128 .f32) = nm fun r => tb (snt (1024 * t.val + r)) := by
  funext j; idx_vars j
  rw [nm_apply]
  have ht : t.val < 8 := t.isLt
  have e : (win0_12.blk t).view.emb (ix2 j0 j1) = ix2 ⟨1024 * t.val + j0.val, by omega⟩ j1 := by blk_ext [idx12 t]
  blk_simp [iblk, e]
  rw [below m c]; rfl
theorem iblk13 (t : Fin cfg0.N) : (iblk m c 13 t : Vec Ideal S1024x128 .f32) = nm fun r => ta (snt (1024 * t.val + r)) := by
  funext j; idx_vars j
  rw [nm_apply]
  have ht : t.val < 8 := t.isLt
  have e : (win0_13.blk t).view.emb (ix2 j0 j1) = ix2 ⟨1024 * t.val + j0.val, by omega⟩ j1 := by blk_ext [idx13 t]
  blk_simp [iblk, e]
  rw [above m c]; rfl
end Cert.MlaPrepBwdIdeal.Blocks
end
-- ==== Proof.MlaFinal.lean ====
/-
  What the kernel writes over all tiles: the gradient of the query, key and value products.
-/
module
public import proofs.«01_k».proof.Proof.MlaValue
public import proofs.«01_k».proof.Proof.MlaReads
@[expose] public section
set_option maxRecDepth 16384
noncomputable section
open Cert.Reals Cert.Tables Cert.Lanes Cert.Mla Idealize.ShloMosaic Idealize.ShloMosaic.TcCoe Idealize.SL.Sem
open Idealize.ShloMosaic.Pipeline (Dat)
open Cert.MlaPrepBwdIdeal Cert.MlaPrepBwdIdeal.Gen
namespace Cert.Mla
variable (Z Gq Gk U : ℕ → ℕ → ℝ) (Wq Wk A B : ℕ → ℕ → ℕ → ℝ)
/-- The two normed parts of a row, what their norms give, and the padded weight of the queries. -/
def zq (t k : ℕ) : ℝ := Z t (768 + k)
def zk (t k : ℕ) : ℝ := Z t (1152 + k)
def qn (t l : ℕ) : ℝ := zq Z t l * rs 384 (zq Z) t * Gq 1 l
def kn (t l : ℕ) : ℝ := zk Z t l * rs 256 (zk Z) t * Gk 1 l
def wq (W : ℕ → ℕ → ℝ) (a : ℕ) : ℕ → ℝ := spread 96 fun b x => W a (b * 96 + x)
/-- The cotangents of the products, by lanes, and their images by the weights. -/
def DQ : ℕ → ℕ → ℝ := dqu cst snt fun t => spread 96 (A t)
def DK : ℕ → ℕ → ℝ := dkv (fun t => spread 96 (B t)) U
def hq (t j : ℕ) : ℝ := ∑ k : Fin 768, DQ A t k.val * wq (Wq 1) j k.val
def hk (t j : ℕ) : ℝ := ∑ k : Fin 1152, DK U B t k.val * wkv (Wk 1) j k.val
theorem piece (cs sn F : ℕ → ℕ → ℝ) (o b : ℕ) (ho : o = 128 * b) : (nm fun r => rot (cs r) (sn r) fun y => F r (o + y) * att : Vec Ideal ⟨2, ![1024, 128]⟩ .bf16)
    = nm fun r l => dqu cs sn F r (o + l) := by
  subst ho
  funext j; idx_vars j
  have q := j1.isLt
  rw [nm_apply, nm_apply, dqu, show (128 * b + j1.val) / 128 = b by omega, show (128 * b + j1.val) % 128 = j1.val by omega]
theorem piecek (K V : ℕ → ℕ → ℝ) (o : ℕ) (ho : o + 128 ≤ 768) : (nm fun r l => K r (o + l) : Vec Ideal ⟨2, ![1024, 128]⟩ .bf16)
    = nm fun r l => dkv K V r (o + l) := by
  funext j; idx_vars j
  have q := j1.isLt
  rw [nm_apply, nm_apply, dkv, if_pos (by omega)]
theorem piecev (K V : ℕ → ℕ → ℝ) : (nm V : Vec Ideal ⟨2, ![1024, 384]⟩ .bf16) = nm fun r l => dkv K V r (768 + l) := by
  funext j; idx_vars j
  rw [nm_apply, nm_apply, dkv, if_neg (by omega), Nat.add_sub_cancel_left]
end Cert.Mla

namespace Cert.MlaPrepBwdIdeal.Blocks
variable (m : (ℓ : Loc nD τ sig) → Buf (Elt Ideal) ℓ) (c : Dev nD)
variable (Z Gq Gk U : ℕ → ℕ → ℝ) (Wq Wk A B : ℕ → ℕ → ℕ → ℝ)
theorem pay33_eq (u : ℕ → ℕ → ℝ) : (k0_pay33 (F := Ideal) (nm u) : Vec Ideal S1024x384 .bf16) = nm u := by
  funext j; idx_vars j; pointwise [k0_pay33]
theorem pay11_eq (u : ℕ → ℕ → ℝ) : (k0_pay11 (F := Ideal) (nm u) : Vec Ideal S1024x128 .bf16) = nm u := by
  funext j; idx_vars j; pointwise [k0_pay11, k0_pay9]
theorem pay15_eq (u : ℕ → ℕ → ℝ) : (k0_pay15 (F := Ideal) (nm u) : Vec Ideal S1024x128 .bf16) = nm u := by
  funext j; idx_vars j; pointwise [k0_pay15, k0_pay14]
theorem pay20_eq (u : ℕ → ℕ → ℝ) : (k0_pay20 (k0_pay19 (F := Ideal) (nm u)) : Vec Ideal S1024x128 .bf16) = nm u := by
  funext j; idx_vars j; pointwise [k0_pay20, k0_pay19, k0_pay17]
theorem pay24_eq (u : ℕ → ℕ → ℝ) : (k0_pay24 (F := Ideal) (nm u) : Vec Ideal S1024x128 .bf16) = nm u := by
  funext j; idx_vars j; pointwise [k0_pay24, k0_pay22]
theorem pay28_eq (u : ℕ → ℕ → ℝ) : (k0_pay28 (F := Ideal) (nm u) : Vec Ideal S1024x128 .bf16) = nm u := by
  funext j; idx_vars j; pointwise [k0_pay28, k0_pay27]
theorem pay32_eq (u : ℕ → ℕ → ℝ) : (k0_pay32 (F := Ideal) (nm u) : Vec Ideal S1024x128 .bf16) = nm u := by
  funext j; idx_vars j; pointwise [k0_pay32, k0_pay30]
theorem s0 (h : m ((c : Thread nD τ).loc main_arg5) = nc A) (t : Fin cfg0.N) : (View.whole cc0_scratch0).readCov [
      (⟨Rect.unit ![0, 640] ![1024, 128] inb_S1024x768_S1024x128_0_640, k0_pay29 (k0_pay5 (iblk m c 11 t)) (k0_pay6 (iblk m c 12 t)) (k0_pay7 (iblk m c 13 t)) (View.ld (iblk m c 0 t) (Rect.unit ![0, 640] ![1024, 128] inb_S1024x768_S1024x128_0_640))⟩ : View.Piece (Elt Ideal) S1024x768 .bf16),
      ⟨Rect.unit ![0, 512] ![1024, 128] inb_S1024x768_S1024x128_0_512, k0_pay26 (k0_pay25 (k0_pay5 (iblk m c 11 t)) (k0_pay6 (iblk m c 12 t)) (k0_pay7 (iblk m c 13 t)) (View.ld (iblk m c 0 t) (Rect.unit ![0, 512] ![1024, 128] inb_S1024x768_S1024x128_0_512)))⟩,
      ⟨Rect.unit ![0, 384] ![1024, 128] inb_S1024x768_S1024x128_0_384, k0_pay21 (k0_pay5 (iblk m c 11 t)) (k0_pay6 (iblk m c 12 t)) (k0_pay7 (iblk m c 13 t)) (View.ld (iblk m c 0 t) (Rect.unit ![0, 384] ![1024, 128] inb_S1024x768_S1024x128_0_384))⟩,
      ⟨Rect.unit ![0, 256] ![1024, 128] inb_S1024x768_S1024x128_0_256, k0_pay16 (k0_pay5 (iblk m c 11 t)) (k0_pay6 (iblk m c 12 t)) (k0_pay7 (iblk m c 13 t)) (View.ld (iblk m c 0 t) (Rect.unit ![0, 256] ![1024, 128] inb_S1024x768_S1024x128_0_256))⟩,
      ⟨Rect.unit ![0, 128] ![1024, 128] inb_S1024x768_S1024x128_0_128, k0_pay13 (k0_pay5 (iblk m c 11 t)) (k0_pay6 (iblk m c 12 t)) (k0_pay7 (iblk m c 13 t)) (k0_pay12 (View.ld (iblk m c 0 t) (Rect.unit ![0, 128] ![1024, 128] inb_S1024x768_S1024x128_0_128)))⟩,
      ⟨Rect.unit ![0, 0] ![1024, 128] inb_S1024x768_S1024x128_0_0, k0_pay8 (iblk m c 11 t) (iblk m c 12 t) (iblk m c 13 t) (View.ld (iblk m c 0 t) (Rect.unit ![0, 0] ![1024, 128] inb_S1024x768_S1024x128_0_0))⟩] (Rect.unit ![0, 0] ![1024, 768] inb_S1024x768_S1024x768_0_0).toLoadRect = (nm fun r => DQ A (1024 * t.val + r) : Vec Ideal S1024x768 .bf16) := by
  rw [iblk0 m c A h, iblk11, iblk12, iblk13, pay5_eq, pay6_eq, pay7_eq, ld_cols, ld_cols, ld_cols, ld_cols, ld_cols, ld_cols]
  have p := fun o b ho => piece (fun r => cst (1024 * t.val + r)) (fun r => snt (1024 * t.val + r)) (fun r => spread 96 (A (1024 * t.val + r))) o b ho
  refine cols6 (fun r => DQ A (1024 * t.val + r)) _ _ _ _ _ _ _ ?_ ?_ ?_ ?_ ?_ ?_
  · exact (pay8_eq _ _ _).trans (p 0 0 rfl)
  · exact (pay13_eq _ _ _).trans (p 128 1 rfl)
  · exact (pay16_eq _ _ _).trans (p 256 2 rfl)
  · exact (pay21_eq _ _ _).trans (p 384 3 rfl)
  · exact (pay26_eq _ _ _).trans (p 512 4 rfl)
  · exact (pay29_eq _ _ _).trans (p 640 5 rfl)
theorem s1 (h : m ((c : Thread nD τ).loc main_arg6) = nc B) (hU : m ((c : Thread nD τ).loc main_arg7) = nm U) (t : Fin cfg0.N) : (View.whole cc0_scratch1).readCov [
      (⟨Rect.unit ![0, 768] ![1024, 384] inb_S1024x1152_S1024x384_0_768, k0_pay33 (iblk m c 2 t)⟩ : View.Piece (Elt Ideal) S1024x1152 .bf16),
      ⟨Rect.unit ![0, 640] ![1024, 128] inb_S1024x1152_S1024x128_0_640, k0_pay32 (View.ld (iblk m c 1 t) (Rect.unit ![0, 640] ![1024, 128] inb_S1024x768_S1024x128_0_640))⟩,
      ⟨Rect.unit ![0, 512] ![1024, 128] inb_S1024x1152_S1024x128_0_512, k0_pay28 (View.ld (iblk m c 1 t) (Rect.unit ![0, 512] ![1024, 128] inb_S1024x768_S1024x128_0_512))⟩,
      ⟨Rect.unit ![0, 384] ![1024, 128] inb_S1024x1152_S1024x128_0_384, k0_pay24 (View.ld (iblk m c 1 t) (Rect.unit ![0, 384] ![1024, 128] inb_S1024x768_S1024x128_0_384))⟩,
      ⟨Rect.unit ![0, 256] ![1024, 128] inb_S1024x1152_S1024x128_0_256, k0_pay20 (k0_pay19 (View.ld (iblk m c 1 t) (Rect.unit ![0, 256] ![1024, 128] inb_S1024x768_S1024x128_0_256)))⟩,
      ⟨Rect.unit ![0, 128] ![1024, 128] inb_S1024x1152_S1024x128_0_128, k0_pay15 (View.ld (iblk m c 1 t) (Rect.unit ![0, 128] ![1024, 128] inb_S1024x768_S1024x128_0_128))⟩,
      ⟨Rect.unit ![0, 0] ![1024, 128] inb_S1024x1152_S1024x128_0_0, k0_pay11 (View.ld (iblk m c 1 t) (Rect.unit ![0, 0] ![1024, 128] inb_S1024x768_S1024x128_0_0))⟩] (Rect.unit ![0, 0] ![1024, 1152] inb_S1024x1152_S1024x1152_0_0).toLoadRect = (nm fun r => DK U B (1024 * t.val + r) : Vec Ideal S1024x1152 .bf16) := by
  rw [iblk1 m c B h, iblk2 m c U hU, ld_cols, ld_cols, ld_cols, ld_cols, ld_cols, ld_cols]
  have p := piecek (fun r => spread 96 (B (1024 * t.val + r))) (fun r => U (1024 * t.val + r))
  refine cols7 (fun r => DK U B (1024 * t.val + r)) _ _ _ _ _ _ _ _ ?_ ?_ ?_ ?_ ?_ ?_ ?_
  · exact (pay11_eq _).trans (p 0 (by norm_num))
  · exact (pay15_eq _).trans (p 128 (by norm_num))
  · exact (pay20_eq _).trans (p 256 (by norm_num))
  · exact (pay24_eq _).trans (p 384 (by norm_num))
  · exact (pay28_eq _).trans (p 512 (by norm_num))
  · exact (pay32_eq _).trans (p 640 (by norm_num))
  · exact (pay33_eq _).trans (piecev (fun r => spread 96 (B (1024 * t.val + r))) fun r => U (1024 * t.val + r))
variable (hZ : m ((c : Thread nD τ).loc main_arg0) = nm Z) (hGq : m ((c : Thread nD τ).loc main_arg1) = nm Gq) (hGk : m ((c : Thread nD τ).loc main_arg2) = nm Gk)
  (hWq : m ((c : Thread nD τ).loc main_arg3) = nc Wq) (hWk : m ((c : Thread nD τ).loc main_arg4) = nc Wk) (hA : m ((c : Thread nD τ).loc main_arg5) = nc A)
  (hB : m ((c : Thread nD τ).loc main_arg6) = nc B) (hU : m ((c : Thread nD τ).loc main_arg7) = nm U)
include hZ hGq hWq hA in
set_option maxHeartbeats 4000000 in
theorem final14 : (dats m 0 c).arrAt 14 cfg0.N = nm (dx 384 (zq Z) (Gq 1) (hq Wq A)) := by
  refine (dats m 0 c).arrAt_eq_of_covers 14 _ (by decide +kernel) fun t hf y => ?_
  blk_simp
  rw [after0_14]
  have key : ∀ y, (nm fun r => (dx 384 (zq Z) (Gq 1) (hq Wq A)) (1024 * t.val + r) : Vec Ideal S1024x384 .bf16) y = nm (dx 384 (zq Z) (Gq 1) (hq Wq A)) ((win0_14.blk t).view.emb y) := by
    intro y
    idx_vars y
    have ht : t.val < 8 := t.isLt
    have e : (win0_14.blk t).view.emb (ix2 y0 y1) = ix2 ⟨1024 * t.val + y0.val, by omega⟩ y1 := by blk_ext [idx14 t]
    rw [e, nm_apply, nm_apply]
  by_cases hc : t.val % 8 = 0
  · rw [outsAt0_A m c t hc]; frame_out
    refine (congrFun (congrArg (fun v => k0_pay42 (F := Ideal) v _ _ _) (s0 m c A hA t)) y).trans ?_; rw [X3 m c Z hZ, iblk7 m c Gq hGq, iblk9 m c Wq hWq]; refine (congrFun (pay42_eq _ _ _ _) y).trans (key y)
  · rw [outsAt0_B m c t hc]; frame_out
    refine (congrFun (congrArg (fun v => k0_pay42 (F := Ideal) v _ _ _) (s0 m c A hA t)) y).trans ?_; rw [X3 m c Z hZ, iblk7 m c Gq hGq, iblk9 m c Wq hWq]; refine (congrFun (pay42_eq _ _ _ _) y).trans (key y)
include hZ hGk hWk hB hU in
set_option maxHeartbeats 4000000 in
theorem final15 : (dats m 0 c).arrAt 15 cfg0.N = nm (dx 256 (zk Z) (Gk 1) (hk U Wk B)) := by
  refine (dats m 0 c).arrAt_eq_of_covers 15 _ (by decide +kernel) fun t hf y => ?_
  blk_simp
  rw [after0_15]
  have key : ∀ y, (nm fun r => (dx 256 (zk Z) (Gk 1) (hk U Wk B)) (1024 * t.val + r) : Vec Ideal S1024x256 .bf16) y = nm (dx 256 (zk Z) (Gk 1) (hk U Wk B)) ((win0_15.blk t).view.emb y) := by
    intro y
    idx_vars y
    have ht : t.val < 8 := t.isLt
    have e : (win0_15.blk t).view.emb (ix2 y0 y1) = ix2 ⟨1024 * t.val + y0.val, by omega⟩ y1 := by blk_ext [idx15 t]
    rw [e, nm_apply, nm_apply]
  by_cases hc : t.val % 8 = 0
  · rw [outsAt0_A m c t hc]; frame_out
    refine (congrFun (congrArg (fun v => k0_pay48 (F := Ideal) v _ _ _) (s1 m c U B hB hU t)) y).trans ?_; rw [X4 m c Z hZ, iblk8 m c Gk hGk, iblk10 m c Wk hWk]; refine (congrFun (pay48_eq _ _ _ _) y).trans (key y)
  · rw [outsAt0_B m c t hc]; frame_out
    refine (congrFun (congrArg (fun v => k0_pay48 (F := Ideal) v _ _ _) (s1 m c U B hB hU t)) y).trans ?_; rw [X4 m c Z hZ, iblk8 m c Gk hGk, iblk10 m c Wk hWk]; refine (congrFun (pay48_eq _ _ _ _) y).trans (key y)
include hB in
set_option maxHeartbeats 4000000 in
theorem final16 : (dats m 0 c).arrAt 16 cfg0.N = nm (dkr cst snt fun t => spread 96 (B t)) := by
  refine (dats m 0 c).arrAt_eq_of_covers 16 _ (by decide +kernel) fun t hf y => ?_
  blk_simp
  rw [after0_16]
  have key : ∀ y, (nm fun r => (dkr cst snt fun t => spread 96 (B t)) (1024 * t.val + r) : Vec Ideal S1024x128 .bf16) y = nm (dkr cst snt fun t => spread 96 (B t)) ((win0_16.blk t).view.emb y) := by
    intro y
    idx_vars y
    have ht : t.val < 8 := t.isLt
    have e : (win0_16.blk t).view.emb (ix2 y0 y1) = ix2 ⟨1024 * t.val + y0.val, by omega⟩ y1 := by blk_ext [idx16 t]
    rw [e, nm_apply, nm_apply]
  by_cases hc : t.val % 8 = 0
  · rw [outsAt0_A m c t hc]; frame_out
    rw [iblk1 m c B hB, iblk11, iblk12, iblk13, pay5_eq, pay6_eq, pay7_eq, ld_cols, ld_cols, ld_cols, ld_cols, ld_cols, ld_cols, sum_heads_eq]; refine (congrFun (pay34_eq _ _ _) y).trans ((congrFun (congrArg nm ?_) y).trans (key y)); simp only [dkr, krs, Nat.zero_add]
  · rw [outsAt0_B m c t hc]; frame_out
    rw [iblk1 m c B hB, iblk11, iblk12, iblk13, pay5_eq, pay6_eq, pay7_eq, ld_cols, ld_cols, ld_cols, ld_cols, ld_cols, ld_cols, sum_heads_eq]; refine (congrFun (pay34_eq _ _ _) y).trans ((congrFun (congrArg nm ?_) y).trans (key y)); simp only [dkr, krs, Nat.zero_add]
include hZ hGq hA in
theorem acc17 (n : ℕ) (hn : n < cfg0.N) : (outsAt0 m c n hn).2.2.2.1 = nm fun a l => ∑ k ∈ Finset.range (n + 1), ∑ r : Fin 1024, qn Z Gq (1024 * k + r.val) a * DQ A (1024 * k + r.val) l  := by
  induction n with
  | zero =>
    rw [outsAt0_A m c ⟨0, hn⟩ rfl]; frame_out
    refine (congrArg (fun v => k0_pay35 (F := Ideal) v _ _) (s0 m c A hA ⟨0, hn⟩)).trans ?_
    dsimp only
    rw [pay1_eq, iblk5 m c Z Gq hZ hGq]
    refine (pay35_eq _ _ _).trans ?_
    simp only [Finset.sum_range_one, zero_add]
    rfl
  | succ n ih =>
    have h : n + 1 < 8 := hn
    rw [outsAt0_B m c ⟨n + 1, hn⟩ (show ¬ (n + 1) % 8 = 0 by omega)]; frame_out
    simp only [Nat.add_sub_cancel]
    refine (congrArg (fun v => k0_pay35 (F := Ideal) v _ _) (s0 m c A hA ⟨n + 1, hn⟩)).trans ?_
    dsimp only
    rw [ih, iblk5 m c Z Gq hZ hGq]
    refine (pay35_eq _ _ _).trans ?_
    simp only [Finset.sum_range_succ _ (n + 1)]
    rfl
include hZ hGq hA in
theorem final17 : (dats m 0 c).arrAt 17 cfg0.N = nm fun a l => ∑ t : Fin 8192, qn Z Gq t.val a * DQ A t.val l  := by
  refine (dats m 0 c).arrAt_eq_of_covers 17 _ (by decide +kernel) fun t hf y => ?_
  have h7 : t.val = 7 := by have := (flush0_17 t).mp hf; have : t.val < 8 := t.isLt; omega
  blk_simp
  rw [after0_17, acc17 m c Z Gq A hZ hGq hA]
  idx_vars y
  have ht : t.val < 8 := t.isLt
  have e : (win0_17.blk t).view.emb (ix2 y0 y1) = ix2 y0 y1 := by blk_ext [idx17 t]
  rw [e, nm_apply, nm_apply, h7]
  exact congrArg (fun z : ℝ => (z : EReal)) (sum_tiles8 fun t => qn Z Gq t y0.val * DQ A t y1.val )
include hZ hGk hB hU in
theorem acc18 (n : ℕ) (hn : n < cfg0.N) : (outsAt0 m c n hn).2.2.2.2.1 = nm fun a l => ∑ k ∈ Finset.range (n + 1), ∑ r : Fin 1024, kn Z Gk (1024 * k + r.val) a * DK U B (1024 * k + r.val) l  := by
  induction n with
  | zero =>
    rw [outsAt0_A m c ⟨0, hn⟩ rfl]; frame_out
    refine (congrArg (fun v => k0_pay36 (F := Ideal) v _ _) (s1 m c U B hB hU ⟨0, hn⟩)).trans ?_
    dsimp only
    rw [pay2_eq, iblk6 m c Z Gk hZ hGk]
    refine (pay36_eq _ _ _).trans ?_
    simp only [Finset.sum_range_one, zero_add]
    rfl
  | succ n ih =>
    have h : n + 1 < 8 := hn
    rw [outsAt0_B m c ⟨n + 1, hn⟩ (show ¬ (n + 1) % 8 = 0 by omega)]; frame_out
    simp only [Nat.add_sub_cancel]
    refine (congrArg (fun v => k0_pay36 (F := Ideal) v _ _) (s1 m c U B hB hU ⟨n + 1, hn⟩)).trans ?_
    dsimp only
    rw [ih, iblk6 m c Z Gk hZ hGk]
    refine (pay36_eq _ _ _).trans ?_
    simp only [Finset.sum_range_succ _ (n + 1)]
    rfl
include hZ hGk hB hU in
theorem final18 : (dats m 0 c).arrAt 18 cfg0.N = nm fun a l => ∑ t : Fin 8192, kn Z Gk t.val a * DK U B t.val l  := by
  refine (dats m 0 c).arrAt_eq_of_covers 18 _ (by decide +kernel) fun t hf y => ?_
  have h7 : t.val = 7 := by have := (flush0_18 t).mp hf; have : t.val < 8 := t.isLt; omega
  blk_simp
  rw [after0_18, acc18 m c Z Gk U B hZ hGk hB hU]
  idx_vars y
  have ht : t.val < 8 := t.isLt
  have e : (win0_18.blk t).view.emb (ix2 y0 y1) = ix2 y0 y1 := by blk_ext [idx18 t]
  rw [e, nm_apply, nm_apply, h7]
  exact congrArg (fun z : ℝ => (z : EReal)) (sum_tiles8 fun t => kn Z Gk t y0.val * DK U B t y1.val )
include hZ hWq hA in
theorem acc19 (n : ℕ) (hn : n < cfg0.N) : (outsAt0 m c n hn).2.2.2.2.2.1 = nm fun a l => ∑ k ∈ Finset.range (n + 1), ∑ r : Fin 1024, hq Wq A (1024 * k + r.val) l * (zq Z (1024 * k + r.val) l * rs 384 (zq Z) (1024 * k + r.val)) := by
  induction n with
  | zero =>
    rw [outsAt0_A m c ⟨0, hn⟩ rfl]; frame_out
    refine (congrArg (fun v => k0_pay41 (F := Ideal) v _ _ _) (s0 m c A hA ⟨0, hn⟩)).trans ?_
    dsimp only
    rw [pay3_eq, X3 m c Z hZ, iblk9 m c Wq hWq]
    refine (pay41_eq _ _ _ _).trans ?_
    simp only [Finset.sum_range_one, zero_add]
    rfl
  | succ n ih =>
    have h : n + 1 < 8 := hn
    rw [outsAt0_B m c ⟨n + 1, hn⟩ (show ¬ (n + 1) % 8 = 0 by omega)]; frame_out
    simp only [Nat.add_sub_cancel]
    refine (congrArg (fun v => k0_pay41 (F := Ideal) v _ _ _) (s0 m c A hA ⟨n + 1, hn⟩)).trans ?_
    dsimp only
    rw [ih, X3 m c Z hZ, iblk9 m c Wq hWq]
    refine (pay41_eq _ _ _ _).trans ?_
    simp only [Finset.sum_range_succ _ (n + 1)]
    rfl
include hZ hWq hA in
theorem final19 : (dats m 0 c).arrAt 19 cfg0.N = nm fun a l => ∑ t : Fin 8192, hq Wq A t.val l * (zq Z t.val l * rs 384 (zq Z) t.val) := by
  refine (dats m 0 c).arrAt_eq_of_covers 19 _ (by decide +kernel) fun t hf y => ?_
  have h7 : t.val = 7 := by have := (flush0_19 t).mp hf; have : t.val < 8 := t.isLt; omega
  blk_simp
  rw [after0_19, acc19 m c Z Wq A hZ hWq hA]
  idx_vars y
  have ht : t.val < 8 := t.isLt
  have e : (win0_19.blk t).view.emb (ix2 y0 y1) = ix2 y0 y1 := by blk_ext [idx19 t]
  rw [e, nm_apply, nm_apply, h7]
  exact congrArg (fun z : ℝ => (z : EReal)) (sum_tiles8 fun t => hq Wq A t y1.val * (zq Z t y1.val * rs 384 (zq Z) t))
include hZ hWk hB hU in
theorem acc20 (n : ℕ) (hn : n < cfg0.N) : (outsAt0 m c n hn).2.2.2.2.2.2 = nm fun a l => ∑ k ∈ Finset.range (n + 1), ∑ r : Fin 1024, hk U Wk B (1024 * k + r.val) l * (zk Z (1024 * k + r.val) l * rs 256 (zk Z) (1024 * k + r.val)) := by
  induction n with
  | zero =>
    rw [outsAt0_A m c ⟨0, hn⟩ rfl]; frame_out
    refine (congrArg (fun v => k0_pay47 (F := Ideal) v _ _ _) (s1 m c U B hB hU ⟨0, hn⟩)).trans ?_
    dsimp only
    rw [pay4_eq, X4 m c Z hZ, iblk10 m c Wk hWk]
    refine (pay47_eq _ _ _ _).trans ?_
    simp only [Finset.sum_range_one, zero_add]
    rfl
  | succ n ih =>
    have h : n + 1 < 8 := hn
    rw [outsAt0_B m c ⟨n + 1, hn⟩ (show ¬ (n + 1) % 8 = 0 by omega)]; frame_out
    simp only [Nat.add_sub_cancel]
    refine (congrArg (fun v => k0_pay47 (F := Ideal) v _ _ _) (s1 m c U B hB hU ⟨n + 1, hn⟩)).trans ?_
    dsimp only
    rw [ih, X4 m c Z hZ, iblk10 m c Wk hWk]
    refine (pay47_eq _ _ _ _).trans ?_
    simp only [Finset.sum_range_succ _ (n + 1)]
    rfl
include hZ hWk hB hU in
theorem final20 : (dats m 0 c).arrAt 20 cfg0.N = nm fun a l => ∑ t : Fin 8192, hk U Wk B t.val l * (zk Z t.val l * rs 256 (zk Z) t.val) := by
  refine (dats m 0 c).arrAt_eq_of_covers 20 _ (by decide +kernel) fun t hf y => ?_
  have h7 : t.val = 7 := by have := (flush0_20 t).mp hf; have : t.val < 8 := t.isLt; omega
  blk_simp
  rw [after0_20, acc20 m c Z U Wk B hZ hWk hB hU]
  idx_vars y
  have ht : t.val < 8 := t.isLt
  have e : (win0_20.blk t).view.emb (ix2 y0 y1) = ix2 y0 y1 := by blk_ext [idx20 t]
  rw [e, nm_apply, nm_apply, h7]
  exact congrArg (fun z : ℝ => (z : EReal)) (sum_tiles8 fun t => hk U Wk B t y1.val * (zk Z t y1.val * rs 256 (zk Z) t))
end Cert.MlaPrepBwdIdeal.Blocks
end
-- ==== Proof.MlaRef.lean ====
/-
  The reference gradient of the query, key and value products, by tables of reals, and its agreement with the padded form.
-/
module
public import proofs.«01_k».proof.Proof.MlaFinal
public import proofs.«01_k».proof.Proof.Gen.MlaPrepBwdRefIdeal.Read
@[expose] public section
set_option maxRecDepth 16384
noncomputable section
open Cert.Reals Cert.Tables Cert.Lanes Cert.Mla Idealize.ShloMosaic Idealize.ShloMosaic.TcCoe Idealize.SL.Sem
open Cert.MlaPrepBwdRefIdeal Cert.MlaPrepBwdRefIdeal.Read
namespace Cert.Mla
variable (Z Gq Gk U : ℕ → ℕ → ℝ) (Wq Wk A B : ℕ → ℕ → ℕ → ℝ)
/-- The cotangents by heads, without padding: the queries' turned back, the keys' next to the values'. -/
def RQ (t h x : ℕ) : ℝ := rot (cst t) (snt t) (fun y => A t h y * att) x
def RK (t h x : ℕ) : ℝ := if x < 64 then B t h x else U t (h * 64 + (x - 64))
def gq (t j : ℕ) : ℝ := ∑ k : Fin 576, RQ A t (k.val / 96) (k.val % 96) * Wq 1 j k.val
def gk (t j : ℕ) : ℝ := ∑ k : Fin 768, RK U B t (k.val / 128) (k.val % 128) * Wk 1 j k.val
theorem DQ_eq (t k : ℕ) : DQ A t k = RQ A t (k / 128) (k % 128) := by
  rw [DQ, dqu, RQ]
  refine rot_congr _ _ _ _ (fun y hy => ?_) _
  rw [spread, show (128 * (k / 128) + y) % 128 = y by omega, show (128 * (k / 128) + y) / 128 = k / 128 by omega, if_pos hy]
theorem RQ_zero (t h x : ℕ) (hx : 96 ≤ x) : RQ A t h x = 0 := by
  rw [RQ, rot, if_neg (by omega), if_neg (by omega), if_neg (by omega)]
theorem gq_eq : gq Wq A = hq Wq A := by
  funext t j
  have e := sum_spread 96 32 (by norm_num) (by norm_num) (fun h x => if x < 96 then RQ A t h x * Wq 1 j (h * 96 + x) else 0) fun h x hx _ => if_neg (by omega)
  refine Eq.trans (Finset.sum_congr rfl fun k _ => ?_) (e.symm.trans (Finset.sum_congr rfl fun k _ => ?_))
  · rw [if_pos (Nat.mod_lt _ (by norm_num)), Nat.div_add_mod']
  · rw [DQ_eq, wq, spread]
    split
    · rfl
    · rw [mul_zero]
theorem gk_eq : gk U Wk B = hk U Wk B := by
  funext t j
  have e1 := sum_heads (n := 128) (fun h x => RK U B t h x * Wk 1 j (h * 128 + x)) (by norm_num)
  have e2 := sum_heads (n := 128) (fun h x => if x < 64 then B t h x * Wk 1 j (h * 128 + x) else 0) (by norm_num)
  have e3 := sum_heads (n := 64) (fun h x => U t (h * 64 + x) * Wk 1 j (h * 128 + (64 + x))) (by norm_num)
  have l1 : gk U Wk B t j = ∑ h : Fin 6, ∑ x : Fin 128, RK U B t h.val x.val * Wk 1 j (h.val * 128 + x.val) := by
    rw [← e1]
    exact Finset.sum_congr rfl fun k _ => by rw [Nat.div_add_mod']
  have l2 : hk U Wk B t j = (∑ k : Fin 768, DK U B t k.val * wkv (Wk 1) j k.val) + ∑ k : Fin 384, DK U B t (768 + k.val) * wkv (Wk 1) j (768 + k.val) :=
    Fin.sum_univ_add (a := 768) (b := 384) fun k => DK U B t k.val * wkv (Wk 1) j k.val
  have l3 : ∑ k : Fin 768, DK U B t k.val * wkv (Wk 1) j k.val = ∑ h : Fin 6, ∑ x : Fin 128, if x.val < 64 then B t h.val x.val * Wk 1 j (h.val * 128 + x.val) else 0 := by
    rw [← e2]
    refine Finset.sum_congr rfl fun k _ => ?_
    have q := k.isLt
    rw [DK, dkv, if_pos q, wkv, if_pos q, spread, spread]
    by_cases h : k.val % 128 < 64
    · rw [if_pos h, if_pos h, if_pos (by omega)]
    · rw [if_neg h, if_neg h, mul_zero]
  have l4 : ∑ k : Fin 384, DK U B t (768 + k.val) * wkv (Wk 1) j (768 + k.val) = ∑ h : Fin 6, ∑ x : Fin 64, U t (h.val * 64 + x.val) * Wk 1 j (h.val * 128 + (64 + x.val)) := by
    rw [← e3]
    refine Finset.sum_congr rfl fun k _ => ?_
    rw [DK, dkv, if_neg (by omega), wkv, if_neg (by omega), Nat.add_sub_cancel_left, Nat.div_add_mod']
  rw [l1, l2, l3, l4, ← Finset.sum_add_distrib]
  refine Finset.sum_congr rfl fun h _ => ?_
  have a1 := Fin.sum_univ_add (a := 64) (b := 64) fun x : Fin (64 + 64) => RK U B t h.val x.val * Wk 1 j (h.val * 128 + x.val)
  have a2 := Fin.sum_univ_add (a := 64) (b := 64) fun x : Fin (64 + 64) => if x.val < 64 then B t h.val x.val * Wk 1 j (h.val * 128 + x.val) else 0
  refine a1.trans ((congrArg₂ (· + ·) ?_ ?_).trans (congrArg (· + _) a2.symm))
  · refine Eq.trans ?_ (add_zero _).symm |>.trans (congrArg (_ + ·) (Finset.sum_eq_zero fun x _ => ?_).symm)
    · refine Finset.sum_congr rfl fun x _ => ?_
      have q := x.isLt
      rw [Fin.val_castAdd, RK, if_pos q, if_pos q]
    · rw [Fin.val_natAdd, if_neg (by omega)]
  · refine Finset.sum_congr rfl fun x _ => ?_
    rw [Fin.val_natAdd, RK, if_neg (by omega), Nat.add_sub_cancel_left]
/-- The gradient of the rotary key from the heads' plain sum. -/
def kr (t y : ℕ) : ℝ := ∑ h : Fin 6, B t h.val (64 + y)
theorem kr_eq (t y : ℕ) (h : y < 32) : krs (fun t => spread 96 (B t)) t (64 + y) = kr B t y := by
  have e : ∀ b, spread 96 (B t) (128 * b + (64 + y)) = B t b (64 + y) := fun b => by
    rw [spread, if_pos (by omega), show (128 * b + (64 + y)) / 128 = b by omega, show (128 * b + (64 + y)) % 128 = 64 + y by omega]
  have := e 0; have := e 1; have := e 2; have := e 3; have := e 4; have := e 5
  simp only [Nat.reduceMul, Nat.zero_add] at *
  simp only [krs, kr, Fin.sum_univ_six, *]
  rfl
theorem dkr_low (t y : ℕ) (h : y < 16) : dkr cst snt (fun t => spread 96 (B t)) t (64 + y) = kr B t (16 + y) * snt t y + kr B t y * cst t y := by
  rw [dkr, rot, if_neg (by omega), if_pos (by omega), if_pos (by omega), if_pos (by omega), Nat.add_sub_cancel_left,
    show 64 + y + 16 = 64 + (16 + y) by omega, kr_eq _ _ _ (by omega), kr_eq _ _ _ (by omega), add_comm]
theorem dkr_high (t y : ℕ) (h : y < 16) : dkr cst snt (fun t => spread 96 (B t)) t (64 + (16 + y)) = kr B t (16 + y) * cst t y + -kr B t y * snt t y := by
  rw [dkr, rot, if_neg (by omega), if_neg (by omega), if_pos (by omega), if_pos (by omega), if_pos (by omega),
    show 64 + (16 + y) - 80 = y by omega, show 64 + (16 + y) - 16 = 64 + y by omega, kr_eq _ _ _ (by omega), kr_eq _ _ _ (by omega), neg_mul, sub_eq_add_neg]
theorem dkr_out (t l : ℕ) (h : l < 64 ∨ 96 ≤ l) : dkr cst snt (fun t => spread 96 (B t)) t l = 0 := by
  rw [dkr, rot]
  rcases h with h | h
  · rw [if_pos h, if_neg (by omega)]
  · rw [if_neg (by omega), if_neg (by omega), if_neg (by omega)]
/-- The gradient of the key and value weights in the layout of the padded products. -/
def dwk (a k : ℕ) : ℝ := if k < 768 then spread 64 (fun h x => ∑ t : Fin 8192, RK U B t.val h x * kn Z Gk t.val a) k
  else ∑ t : Fin 8192, RK U B t.val ((k - 768) / 64) (64 + (k - 768) % 64) * kn Z Gk t.val a
theorem dwk_eq (a k : ℕ) (h : 768 ≤ k ∨ k % 128 < 64) : dwk Z Gk U B a k = ∑ t : Fin 8192, kn Z Gk t.val a * DK U B t.val k := by
  rw [dwk]
  by_cases q : k < 768
  · have q' : k % 128 < 64 := by omega
    rw [if_pos q, spread, if_pos q']
    refine Finset.sum_congr rfl fun t _ => ?_
    rw [RK, if_pos q', DK, dkv, if_pos q, spread, if_pos (by omega), mul_comm]
  · rw [if_neg q]
    refine Finset.sum_congr rfl fun t _ => ?_
    rw [RK, if_neg (by omega), Nat.add_sub_cancel_left, Nat.div_add_mod', DK, dkv, if_neg q, mul_comm]
end Cert.Mla

namespace Cert.MlaPrepBwdRefIdeal.Stages
variable (Z Gq Gk U : ℕ → ℕ → ℝ) (Wq Wk A B : ℕ → ℕ → ℕ → ℝ)
abbrev aZ : FVec Ideal ⟨2, ![8192, 2336]⟩ .f32 := nm Z
abbrev aGq : FVec Ideal ⟨2, ![4, 384]⟩ .f32 := nm Gq
abbrev aGk : FVec Ideal ⟨2, ![4, 256]⟩ .f32 := nm Gk
abbrev aWq : FVec Ideal ⟨3, ![4, 384, 576]⟩ .f32 := nc Wq
abbrev aWk : FVec Ideal ⟨3, ![4, 256, 768]⟩ .f32 := nc Wk
abbrev aA : FVec Ideal ⟨3, ![8192, 6, 96]⟩ .f32 := nc A
abbrev aB : FVec Ideal ⟨3, ![8192, 6, 96]⟩ .f32 := nc B
abbrev aU : FVec Ideal ⟨2, ![8192, 384]⟩ .f32 := nm U
theorem v16 : (val_main_v16 (F := Ideal) : FVec Ideal S8192x16 .f32) = nm cst :=
  (congrArg (Host.cos (F := Ideal)) (angles_eq _ _ _ _ _ _ _ _)).trans cos_eq
theorem v17 : (val_main_v17 (F := Ideal) : FVec Ideal S8192x16 .f32) = nm snt :=
  (congrArg (Host.sin (F := Ideal)) (angles_eq _ _ _ _ _ _ _ _)).trans sin_eq
theorem v18 : (val_main_v18 (F := Ideal) (aZ Z) : FVec Ideal S8192x384 .f32) = nm (zq Z) := by
  unfold val_main_v18
  funext j; idx_vars j; pointwise []; rfl
theorem v19 : (val_main_v19 (F := Ideal) (aZ Z) : FVec Ideal S8192x256 .f32) = nm (zk Z) := by
  unfold val_main_v19
  funext j; idx_vars j; pointwise []; rfl
theorem v42 : (val_main_v42 (F := Ideal) (aGq Gq) : FVec Ideal S1x384 .f32) = nm fun _ => Gq 1 := by
  unfold val_main_v42 val_main_v22 val_main_v21
  funext j; idx_vars j; pointwise []; rfl
theorem v76 : (val_main_v76 (F := Ideal) (aGk Gk) : FVec Ideal S1x256 .f32) = nm fun _ => Gk 1 := by
  unfold val_main_v76 val_main_v26 val_main_v25
  funext j; idx_vars j; pointwise []; rfl
theorem v24 : (val_main_v24 (F := Ideal) (aWq Wq) : FVec Ideal S384x576 .f32) = nm (Wq 1) := by
  unfold val_main_v24 val_main_v23
  funext j; idx_vars j; pointwise []; rfl
theorem v28 : (val_main_v28 (F := Ideal) (aWk Wk) : FVec Ideal S256x768 .f32) = nm (Wk 1) := by
  unfold val_main_v28 val_main_v27
  funext j; idx_vars j; pointwise []; rfl
theorem v35 : (val_main_v35 (F := Ideal) (aZ Z) : FVec Ideal S8192x1 .f32) = nm fun t _ => ms 384 (zq Z) t := by
  unfold val_main_v35 val_main_v33 val_main_v31 val_main_v30 val_main_v29 val_main_v32 val_main_v34
  rw [v18]
  funext j; idx_vars j; pointwise [val_main_cst_3, val_main_cst_4, val_main_cst_5]
  simp only [nm_apply, ofBits_zero, ofBits_384, ofBits_eps, ← EReal.coe_mul, sum_coe, zero_add, div_384, ← EReal.coe_add, ms, Nat.cast_ofNat]
theorem v36 : (val_main_v36 (F := Ideal) (aZ Z) : FVec Ideal S8192x1 .f32) = nm fun t _ => rs 384 (zq Z) t := by
  unfold val_main_v36
  rw [v35]
  funext j; idx_vars j; pointwise []
  exact rsqrt_coe _ (ms_pos 384 (zq Z) j0)
theorem v39 : (val_main_v39 (F := Ideal) (aZ Z) : FVec Ideal S8192x1 .f32) = nm fun t _ => -1 / 2 * (rs 384 (zq Z) t / ms 384 (zq Z) t) := by
  unfold val_main_v39 val_main_v37 val_main_v38
  rw [v36, v35]
  funext j; idx_vars j; pointwise [val_main_cst_6]
  simp only [nm_apply, ofBits_neg_half, div_coe _ _ (ms_pos 384 (zq Z) j0.val).ne', ← EReal.coe_mul]
theorem v41 : (val_main_v41 (F := Ideal) (aZ Z) : FVec Ideal S8192x384 .f32) = nm fun t l => zq Z t l * rs 384 (zq Z) t := by
  unfold val_main_v41 val_main_v40
  rw [v36, v18]
  funext j; idx_vars j; pointwise []
  simp only [nm_apply, ← EReal.coe_mul]
theorem v44 : (val_main_v44 (F := Ideal) (aZ Z) (aGq Gq) : FVec Ideal S8192x384 .f32) = nm (qn Z Gq) := by
  unfold val_main_v44 val_main_v43
  rw [v41, v42]
  funext j; idx_vars j; pointwise []
  simp only [nm_apply, ← EReal.coe_mul, qn]
theorem v69 : (val_main_v69 (F := Ideal) (aZ Z) : FVec Ideal S8192x1 .f32) = nm fun t _ => ms 256 (zk Z) t := by
  unfold val_main_v69 val_main_v67 val_main_v65 val_main_v64 val_main_v63 val_main_v66 val_main_v68
  rw [v19]
  funext j; idx_vars j; pointwise [val_main_cst_7, val_main_cst_8, val_main_cst_9]
  simp only [nm_apply, ofBits_zero, ofBits_256, ofBits_eps, ← EReal.coe_mul, sum_coe, zero_add, div_256, ← EReal.coe_add, ms, Nat.cast_ofNat]
theorem v70 : (val_main_v70 (F := Ideal) (aZ Z) : FVec Ideal S8192x1 .f32) = nm fun t _ => rs 256 (zk Z) t := by
  unfold val_main_v70
  rw [v69]
  funext j; idx_vars j; pointwise []
  exact rsqrt_coe _ (ms_pos 256 (zk Z) j0)
theorem v73 : (val_main_v73 (F := Ideal) (aZ Z) : FVec Ideal S8192x1 .f32) = nm fun t _ => -1 / 2 * (rs 256 (zk Z) t / ms 256 (zk Z) t) := by
  unfold val_main_v73 val_main_v71 val_main_v72
  rw [v70, v69]
  funext j; idx_vars j; pointwise [val_main_cst_10]
  simp only [nm_apply, ofBits_neg_half, div_coe _ _ (ms_pos 256 (zk Z) j0.val).ne', ← EReal.coe_mul]
theorem v75 : (val_main_v75 (F := Ideal) (aZ Z) : FVec Ideal S8192x256 .f32) = nm fun t l => zk Z t l * rs 256 (zk Z) t := by
  unfold val_main_v75 val_main_v74
  rw [v70, v19]
  funext j; idx_vars j; pointwise []
  simp only [nm_apply, ← EReal.coe_mul]
theorem v78 : (val_main_v78 (F := Ideal) (aZ Z) (aGk Gk) : FVec Ideal S8192x256 .f32) = nm (kn Z Gk) := by
  unfold val_main_v78 val_main_v77
  rw [v75, v76]
  funext j; idx_vars j; pointwise []
  simp only [nm_apply, ← EReal.coe_mul, kn]
theorem v124 : (val_main_v124 (F := Ideal) (aB B) (aU U) : FVec Ideal S8192x768 .f32) = nm fun t k => RK U B t (k / 128) (k % 128) := by
  unfold val_main_v124 val_main_v105 val_main_v101 val_main_v104 val_main_v100 val_main_v102
  funext j; idx_vars j; pointwise [val_main_cst_12, val_main_cst_13]
  have q := j1.isLt
  by_cases h : j1.val % 128 < 64
  · refine (congrArg₂ (· + ·) (dif_neg fun hh => absurd hh.2.1 (by omega)) (dif_pos ⟨by omega, h⟩)).trans ?_
    simp only [nc_apply, nm_apply, zero_add, RK, if_pos h]
  · refine (congrArg₂ (· + ·) (dif_pos ⟨by omega, by omega, by omega⟩) (dif_neg fun hh => h hh.2)).trans ?_
    simp only [nm_apply, add_zero, RK, if_neg h]
theorem v163 : (val_main_v163 (F := Ideal) (aA A) : FVec Ideal S8192x6x96 .f32) = nc (RQ A) := by
  unfold val_main_v163 val_main_v110 val_main_v162 val_main_v161 val_main_v160 val_main_v157 val_main_v159 val_main_v156 val_main_v155 val_main_v154 val_main_v153
    val_main_v152 val_main_v151 val_main_v150 val_main_v158 val_main_v149 val_main_v148 val_main_v109 val_main_v108 val_main_v107 val_main_v106 val_main_v48 val_main_v49
  rw [v16, v17]
  funext j; idx_vars j; pointwise [val_main_cst_14, val_main_cst_15, val_main_cst_23]
  have q := j2.isLt
  simp only [nm_apply, nc_apply, ofBits_att, RQ, rot]
  by_cases h : j2.val < 64
  · rw [dif_pos h, dif_neg (by omega), add_zero, if_pos h, EReal.coe_mul]
  by_cases h2 : j2.val < 80
  · rw [dif_neg h, dif_pos ⟨by omega, by omega⟩, dif_pos (by omega), zero_add, if_neg h, if_pos h2, show 64 + (16 + (j2.val - 64)) = j2.val + 16 by omega,
      show 64 + (j2.val - 64) = j2.val by omega]
    simp only [← EReal.coe_mul, ← EReal.coe_add]
    rw [add_comm]
  · rw [dif_neg h, dif_pos ⟨by omega, by omega⟩, dif_neg (by omega), zero_add, if_neg h, if_neg h2, if_pos (by omega), show 64 + (16 + (j2.val - 64 - 16)) = j2.val by omega,
      show 64 + (j2.val - 64 - 16) = j2.val - 16 by omega, show j2.val - 64 - 16 = j2.val - 80 by omega]
    simp only [← EReal.coe_mul, ← EReal.coe_add, ← EReal.coe_neg]
    rw [neg_mul, ← sub_eq_add_neg]
theorem v164 : (val_main_v164 (F := Ideal) (aA A) : FVec Ideal S8192x576 .f32) = nm fun t k => RQ A t (k / 96) (k % 96) := by
  unfold val_main_v164
  rw [v163]
  funext j; idx_vars j; pointwise []
  rfl
theorem v113 : (val_main_v113 (F := Ideal) (aB B) : FVec Ideal S8192x32 .f32) = nm (kr B) := by
  unfold val_main_v113 val_main_v112 val_main_v111 val_main_v103
  funext j; idx_vars j; pointwise [val_main_cst_16, val_main_cst_17]
  simp only [nm_apply, nc_apply, sum_coe, zero_add, Finset.univ_unique, Finset.sum_singleton, kr]
theorem v198 : (val_main_v198 (F := Ideal) (aB B) : FVec Ideal S8192x128 .bf16) = nm (dkr cst snt fun t => spread 96 (B t)) := by
  unfold val_main_v198 val_main_v197 val_main_v123 val_main_v122 val_main_v121 val_main_v120 val_main_v119 val_main_v118 val_main_v117 val_main_v116 val_main_v115 val_main_v114
  rw [v113, v16, v17]
  funext j; idx_vars j; pointwise [val_main_call1_v0, val_main_c_29]
  have q := j1.isLt
  simp only [nm_apply]
  by_cases h : 64 ≤ j1.val ∧ j1.val - 64 < 32
  · by_cases h2 : j1.val - 64 < 16
    · have e := dkr_low B j0 (j1.val - 64) h2
      rw [show 64 + (j1.val - 64) = j1.val by omega] at e
      rw [dif_pos h, dif_pos h2, e]
      simp only [← EReal.coe_mul, ← EReal.coe_add]
    · have e := dkr_high B j0 (j1.val - 64 - 16) (by omega)
      rw [show 64 + (16 + (j1.val - 64 - 16)) = j1.val by omega] at e
      rw [dif_pos h, dif_neg h2, e]
      simp only [← EReal.coe_mul, ← EReal.coe_add, ← EReal.coe_neg]
  · rw [dif_neg h, dkr_out B j0 j1 (by omega)]
    show (((0#32).toInt : ℝ) : EReal) = _
    simp
theorem v166 : (val_main_v166 (F := Ideal) (aZ Z) (aGq Gq) (aA A) : FVec Ideal S384x576 .f32)
    = nm fun a k => ∑ t : Fin 8192, RQ A t.val (k / 96) (k % 96) * qn Z Gq t.val a := by
  unfold val_main_v166 val_main_v165
  rw [v164, v44]
  funext j; idx_vars j; pointwise []
  simp only [nm_apply, ← EReal.coe_mul, sum_coe, zero_add]
theorem v201 : (val_main_v201 (F := Ideal) (aZ Z) (aGq Gq) (aA A) : FVec Ideal S384x768 .f32) = nm fun a l => ∑ t : Fin 8192, qn Z Gq t.val a * DQ A t.val l := by
  unfold val_main_v201 val_main_v200 val_main_v199
  rw [v166]
  funext j; idx_vars j; pointwise [val_main_call2_v0, val_main_c_30]
  have q := j1.isLt
  simp only [nm_apply, DQ_eq]
  by_cases h : j1.val % 128 < 96
  · refine (dif_pos ⟨by omega, h⟩).trans ?_
    rw [show (j1.val / 128 * 96 + j1.val % 128) / 96 = j1.val / 128 by omega, show (j1.val / 128 * 96 + j1.val % 128) % 96 = j1.val % 128 by omega]
    exact congrArg (fun r : ℝ => (r : EReal)) (Finset.sum_congr rfl fun _ _ => mul_comm _ _)
  · refine (dif_neg (fun hh => h hh.2)).trans ?_
    rw [Finset.sum_eq_zero fun t _ => by rw [RQ_zero _ _ _ _ (by omega), mul_zero]]
    show (((0#32).toInt : ℝ) : EReal) = _
    simp
theorem v126 : (val_main_v126 (F := Ideal) (aZ Z) (aGk Gk) (aB B) (aU U) : FVec Ideal S256x768 .f32)
    = nm fun a k => ∑ t : Fin 8192, RK U B t.val (k / 128) (k % 128) * kn Z Gk t.val a := by
  unfold val_main_v126 val_main_v125
  rw [v124, v78]
  funext j; idx_vars j; pointwise []
  simp only [nm_apply, ← EReal.coe_mul, sum_coe, zero_add]
theorem v191 : (val_main_v191 (F := Ideal) (aZ Z) (aGk Gk) (aB B) (aU U) : FVec Ideal S256x768 .f32)
    = nm fun a => spread 64 fun h x => ∑ t : Fin 8192, RK U B t.val h x * kn Z Gk t.val a := by
  unfold val_main_v191 val_main_v190 val_main_v189 val_main_v188
  rw [v126]
  funext j; idx_vars j; pointwise [val_main_call0_v0, val_main_c]
  have q := j1.isLt
  simp only [nm_apply, spread]
  by_cases h : j1.val % 128 < 64
  · refine (dif_pos ⟨by omega, h⟩).trans ?_
    rw [if_pos h]
  · refine (dif_neg (fun hh => h hh.2)).trans ?_
    rw [if_neg h]
    show (((0#32).toInt : ℝ) : EReal) = _
    simp
theorem v193 : (val_main_v193 (F := Ideal) (aZ Z) (aGk Gk) (aB B) (aU U) : FVec Ideal S256x384 .f32)
    = nm fun a k => ∑ t : Fin 8192, RK U B t.val (k / 64) (64 + k % 64) * kn Z Gk t.val a := by
  unfold val_main_v193 val_main_v192 val_main_v188
  rw [v126]
  funext j; idx_vars j; pointwise []
  rw [nm_apply, nm_apply]
  have q := j1.isLt
  dsimp only
  rw [show (j1.val / 64 * 128 + (64 + j1.val % 64)) / 128 = j1.val / 64 by omega, show (j1.val / 64 * 128 + (64 + j1.val % 64)) % 128 = 64 + j1.val % 64 by omega]
theorem v194 : (val_main_v194 (F := Ideal) (aZ Z) (aGk Gk) (aB B) (aU U) : FVec Ideal S256x1152 .f32) = nm (dwk Z Gk U B) := by
  unfold val_main_v194
  rw [v191, v193]
  funext j; idx_vars j; pointwise []
  simp only [nm_apply, dwk]
  by_cases h : j1.val < 768
  · rw [dif_pos h, if_pos h]
  · rw [dif_neg h, if_neg h]
theorem v167 : (val_main_v167 (F := Ideal) (aWq Wq) (aA A) : FVec Ideal S8192x384 .f32) = nm (hq Wq A) := by
  rw [← gq_eq]
  unfold val_main_v167
  rw [v164, v24]
  funext j; idx_vars j; pointwise []
  simp only [nm_apply, ← EReal.coe_mul, sum_coe, zero_add, gq]
theorem v202 : (val_main_v202 (F := Ideal) (aZ Z) (aWq Wq) (aA A) : FVec Ideal S1x384 .f32)
    = nm fun _ l => ∑ t : Fin 8192, hq Wq A t.val l * (zq Z t.val l * rs 384 (zq Z) t.val) := by
  unfold val_main_v202 val_main_v173 val_main_v170 val_main_v169 val_main_v168
  rw [v167, v41]
  funext j; idx_vars j; pointwise [val_main_cst_24, val_main_cst_25]
  simp only [nm_apply, ofBits_zero, ← EReal.coe_mul, sum_coe, zero_add, Finset.univ_unique, Finset.sum_singleton]
  exact congrArg (fun r : ℝ => (r : EReal)) (Finset.sum_congr rfl fun _ _ => mul_comm _ _)
theorem v172 : (val_main_v172 (F := Ideal) (aGq Gq) (aWq Wq) (aA A) : FVec Ideal S8192x384 .f32) = nm fun t l => hq Wq A t l * Gq 1 l := by
  unfold val_main_v172 val_main_v171
  rw [v167, v42]
  funext j; idx_vars j; pointwise []
  simp only [nm_apply, ← EReal.coe_mul]
theorem v176 : (val_main_v176 (F := Ideal) (aZ Z) (aGq Gq) (aWq Wq) (aA A) : FVec Ideal S8192x1 .f32) = nm fun t _ => ∑ k : Fin 384, zq Z t k.val * (hq Wq A t k.val * Gq 1 k.val) := by
  unfold val_main_v176 val_main_v175 val_main_v174
  rw [v172, v18]
  funext j; idx_vars j; pointwise [val_main_cst_26]
  simp only [nm_apply, ofBits_zero, ← EReal.coe_mul, sum_coe, zero_add]
theorem v181 : (val_main_v181 (F := Ideal) (aZ Z) (aGq Gq) (aWq Wq) (aA A) : FVec Ideal S8192x1 .f32) = nm fun t _ => mean 384 (zq Z) (Gq 1) (hq Wq A) t := by
  unfold val_main_v181 val_main_v179 val_main_v180
  rw [v176, v39]
  funext j; idx_vars j; pointwise [val_main_cst_27]
  simp only [nm_apply, ofBits_384, ← EReal.coe_mul, div_384, mean, Nat.cast_ofNat]
theorem v183 : (val_main_v183 (F := Ideal) (aZ Z) (aGq Gq) (aWq Wq) (aA A) : FVec Ideal S8192x384 .f32) = nm fun t _ => mean 384 (zq Z) (Gq 1) (hq Wq A) t := by
  unfold val_main_v183 val_main_v182
  rw [v181]
  funext j; idx_vars j; pointwise [val_main_cst_28]
  simp only [nm_apply, ofBits_zero, sum_coe, zero_add, Finset.univ_unique, Finset.sum_singleton]
theorem v195 : (val_main_v195 (F := Ideal) (aZ Z) (aGq Gq) (aWq Wq) (aA A) : FVec Ideal S8192x384 .bf16) = nm (dx 384 (zq Z) (Gq 1) (hq Wq A)) := by
  unfold val_main_v195 val_main_v187 val_main_v186 val_main_v185 val_main_v184 val_main_v178 val_main_v177
  rw [v172, v36, v183, v18]
  funext j; idx_vars j; pointwise []
  simp only [nm_apply, ← EReal.coe_mul, ← EReal.coe_add]
  rw [← dx_chain]
theorem v127 : (val_main_v127 (F := Ideal) (aWk Wk) (aB B) (aU U) : FVec Ideal S8192x256 .f32) = nm (hk U Wk B) := by
  rw [← gk_eq]
  unfold val_main_v127
  rw [v124, v28]
  funext j; idx_vars j; pointwise []
  simp only [nm_apply, ← EReal.coe_mul, sum_coe, zero_add, gk]
theorem v203 : (val_main_v203 (F := Ideal) (aZ Z) (aWk Wk) (aB B) (aU U) : FVec Ideal S1x256 .f32)
    = nm fun _ l => ∑ t : Fin 8192, hk U Wk B t.val l * (zk Z t.val l * rs 256 (zk Z) t.val) := by
  unfold val_main_v203 val_main_v133 val_main_v130 val_main_v129 val_main_v128
  rw [v127, v75]
  funext j; idx_vars j; pointwise [val_main_cst_18, val_main_cst_19]
  simp only [nm_apply, ofBits_zero, ← EReal.coe_mul, sum_coe, zero_add, Finset.univ_unique, Finset.sum_singleton]
  exact congrArg (fun r : ℝ => (r : EReal)) (Finset.sum_congr rfl fun _ _ => mul_comm _ _)
theorem v132 : (val_main_v132 (F := Ideal) (aGk Gk) (aWk Wk) (aB B) (aU U) : FVec Ideal S8192x256 .f32) = nm fun t l => hk U Wk B t l * Gk 1 l := by
  unfold val_main_v132 val_main_v131
  rw [v127, v76]
  funext j; idx_vars j; pointwise []
  simp only [nm_apply, ← EReal.coe_mul]
theorem v136 : (val_main_v136 (F := Ideal) (aZ Z) (aGk Gk) (aWk Wk) (aB B) (aU U) : FVec Ideal S8192x1 .f32) = nm fun t _ => ∑ k : Fin 256, zk Z t k.val * (hk U Wk B t k.val * Gk 1 k.val) := by
  unfold val_main_v136 val_main_v135 val_main_v134
  rw [v132, v19]
  funext j; idx_vars j; pointwise [val_main_cst_20]
  simp only [nm_apply, ofBits_zero, ← EReal.coe_mul, sum_coe, zero_add]
theorem v141 : (val_main_v141 (F := Ideal) (aZ Z) (aGk Gk) (aWk Wk) (aB B) (aU U) : FVec Ideal S8192x1 .f32) = nm fun t _ => mean 256 (zk Z) (Gk 1) (hk U Wk B) t := by
  unfold val_main_v141 val_main_v139 val_main_v140
  rw [v136, v73]
  funext j; idx_vars j; pointwise [val_main_cst_21]
  simp only [nm_apply, ofBits_256, ← EReal.coe_mul, div_256, mean, Nat.cast_ofNat]
theorem v143 : (val_main_v143 (F := Ideal) (aZ Z) (aGk Gk) (aWk Wk) (aB B) (aU U) : FVec Ideal S8192x256 .f32) = nm fun t _ => mean 256 (zk Z) (Gk 1) (hk U Wk B) t := by
  unfold val_main_v143 val_main_v142
  rw [v141]
  funext j; idx_vars j; pointwise [val_main_cst_22]
  simp only [nm_apply, ofBits_zero, sum_coe, zero_add, Finset.univ_unique, Finset.sum_singleton]
theorem v196 : (val_main_v196 (F := Ideal) (aZ Z) (aGk Gk) (aWk Wk) (aB B) (aU U) : FVec Ideal S8192x256 .bf16) = nm (dx 256 (zk Z) (Gk 1) (hk U Wk B)) := by
  unfold val_main_v196 val_main_v147 val_main_v146 val_main_v145 val_main_v144 val_main_v138 val_main_v137
  rw [v132, v70, v143, v19]
  funext j; idx_vars j; pointwise []
  simp only [nm_apply, ← EReal.coe_mul, ← EReal.coe_add]
  rw [← dx_chain]
end Cert.MlaPrepBwdRefIdeal.Stages
end
-- ==== Proof.MlaPrepBwd.lean ====
module
public import proofs.«01_k».proof.Defs
public import proofs.«01_k».proof.Proof.Gen.MlaPrepBwd.Frame
public import proofs.«01_k».proof.Proof.Gen.MlaPrepBwdIdeal.Value
public import proofs.«01_k».proof.Proof.Gen.MlaPrepBwdRefIdeal.Read
public import proofs.«01_k».proof.Proof.MlaFinal
public import proofs.«01_k».proof.Proof.MlaRef
@[expose] public section
set_option maxRecDepth 16384
noncomputable section
/-! The claims about the gradient of the query, key and value products. -/
namespace Cert.Proof.MlaPrepBwd
open Cert.Reals Cert.Tables Cert.Mla Idealize.ShloMosaic Idealize.SL.Sem Idealize.ShloMosaic.TcCoe

instance facts : Cert.MlaPrepBwd.Facts := Cert.MlaPrepBwd.Gen.facts
instance factsIdeal : Cert.MlaPrepBwdIdeal.Facts := Cert.MlaPrepBwdIdeal.Gen.facts
instance factsRef : Cert.MlaPrepBwdRefIdeal.Facts := Cert.MlaPrepBwdRefIdeal.Gen.facts
instance factsPre : Cert.Pre_mla_finite.Facts := ⟨by decide, by decide, by decide, by decide, by decide, by decide, by decide⟩
instance factsOn : Cert.On_mla_columns.Facts := ⟨by decide, by decide, by decide, by decide, by decide, by decide, by decide, by decide⟩

theorem frame_kernel : Cert.quiescent_MlaPrepBwd := fun m ρ _ => Cert.MlaPrepBwd.Gen.frame m ρ
theorem frame_ideal : Cert.quiescent_MlaPrepBwdIdeal := fun m ρ _ => Cert.MlaPrepBwdIdeal.Gen.frame m ρ
theorem frame_ideal_pre : Cert.quiescent_MlaPrepBwdIdeal_pre_mla_finite := fun m ρ _ => Cert.MlaPrepBwdIdeal.Gen.frame m ρ
theorem frame_ref : Cert.quiescent_MlaPrepBwdRefIdeal := fun m ρ _ =>
  (θ_run Cert.MlaPrepBwdRefIdeal.defs _ _).mono (fun r h => ⟨fun c => (h c).2.2.2.2.2.2.2, sem_eq_zero_of_no_sems (by decide) r.2⟩)
    (Cert.MlaPrepBwdRefIdeal.Value.run m ρ)
theorem frame_ref_pre : Cert.quiescent_MlaPrepBwdRefIdeal_pre_mla_finite := fun m ρ _ => frame_ref m ρ trivial

/-- The eight arguments are real arrays. -/
theorem args (m : (ℓ : Loc Cert.MlaPrepBwdIdeal.nD Cert.MlaPrepBwdIdeal.τ Cert.MlaPrepBwdIdeal.sig) → Buf (Elt Ideal) ℓ)
    (hpre : Cert.Pre_MlaPrepBwdIdeal_mla_finite m) (c : Dev Cert.MlaPrepBwdIdeal.nD) :
    ∃ (Z Gq Gk U : ℕ → ℕ → ℝ) (Wq Wk A B : ℕ → ℕ → ℕ → ℝ),
      m (c.tc.loc Cert.MlaPrepBwdIdeal.main_arg0) = (nm Z : FVec Ideal ⟨2, ![8192, 2336]⟩ .f32)
      ∧ m (c.tc.loc Cert.MlaPrepBwdIdeal.main_arg1) = (nm Gq : FVec Ideal ⟨2, ![4, 384]⟩ .f32)
      ∧ m (c.tc.loc Cert.MlaPrepBwdIdeal.main_arg2) = (nm Gk : FVec Ideal ⟨2, ![4, 256]⟩ .f32)
      ∧ m (c.tc.loc Cert.MlaPrepBwdIdeal.main_arg3) = (nc Wq : FVec Ideal ⟨3, ![4, 384, 576]⟩ .f32)
      ∧ m (c.tc.loc Cert.MlaPrepBwdIdeal.main_arg4) = (nc Wk : FVec Ideal ⟨3, ![4, 256, 768]⟩ .f32)
      ∧ m (c.tc.loc Cert.MlaPrepBwdIdeal.main_arg5) = (nc A : FVec Ideal ⟨3, ![8192, 6, 96]⟩ .f32)
      ∧ m (c.tc.loc Cert.MlaPrepBwdIdeal.main_arg6) = (nc B : FVec Ideal ⟨3, ![8192, 6, 96]⟩ .f32)
      ∧ m (c.tc.loc Cert.MlaPrepBwdIdeal.main_arg7) = (nm U : FVec Ideal ⟨2, ![8192, 384]⟩ .f32) := by
  obtain ⟨h0, h1, h2, h3, h4, h5, h6, h7⟩ := hpre c
  obtain ⟨Z, q0, _⟩ := nm_of_finite (m (c.tc.loc Cert.MlaPrepBwdIdeal.main_arg0)) _ h0
  obtain ⟨Gq, q1, _⟩ := nm_of_finite (m (c.tc.loc Cert.MlaPrepBwdIdeal.main_arg1)) _ h1
  obtain ⟨Gk, q2, _⟩ := nm_of_finite (m (c.tc.loc Cert.MlaPrepBwdIdeal.main_arg2)) _ h2
  obtain ⟨Wq, q3⟩ := nc_of_finite (m (c.tc.loc Cert.MlaPrepBwdIdeal.main_arg3)) _ h3
  obtain ⟨Wk, q4⟩ := nc_of_finite (m (c.tc.loc Cert.MlaPrepBwdIdeal.main_arg4)) _ h4
  obtain ⟨A, q5⟩ := nc_of_finite (m (c.tc.loc Cert.MlaPrepBwdIdeal.main_arg5)) _ h5
  obtain ⟨B, q6⟩ := nc_of_finite (m (c.tc.loc Cert.MlaPrepBwdIdeal.main_arg6)) _ h6
  obtain ⟨U, q7, _⟩ := nm_of_finite (m (c.tc.loc Cert.MlaPrepBwdIdeal.main_arg7)) _ h7
  exact ⟨Z, Gq, Gk, U, Wq, Wk, A, B, q0, q1, q2, q3, q4, q5, q6, q7⟩

/-- Where the mask is set, a column is one of the values' or among the first sixty-four of its head. -/
theorem mask (x0 x1 x2 x3 x4 x5 x6 x7) (i : Cert.On_mla_columns.S256x1152.Idx) (h : (Cert.On_mla_columns.fn (F := Ideal) x0 x1 x2 x3 x4 x5 x6 x7).2.2.2.2.1 i = 1#1) :
    768 ≤ (i 1).val ∨ (i 1).val % 128 < 64 := by
  have key : ∀ k : Fin 1152, ori (cmpi .sge (broadcastInDim Cert.On_mla_columns.S256x1152 ![1] Cert.On_mla_columns.Facts.bcast_S1152_S256x1152_1 (iotaInDim Cert.On_mla_columns.S1152 32 0))
        (broadcastInDim Cert.On_mla_columns.S256x1152 ![] Cert.On_mla_columns.Facts.bcast_S_S256x1152 (constantI Cert.On_mla_columns.S_ 32 768#32)))
      (cmpi .slt (Cert.On_mla_columns.fn_remainder (F := Ideal) (broadcastInDim Cert.On_mla_columns.S256x1152 ![1] Cert.On_mla_columns.Facts.bcast_S1152_S256x1152_1 (iotaInDim Cert.On_mla_columns.S1152 32 0))
          (constantI Cert.On_mla_columns.S_ 32 128#32))
        (broadcastInDim Cert.On_mla_columns.S256x1152 ![] Cert.On_mla_columns.Facts.bcast_S_S256x1152 (constantI Cert.On_mla_columns.S_ 32 64#32))) (ix2 0 k) = 1#1
      → 768 ≤ k.val ∨ k.val % 128 < 64 := by decide +kernel
  exact key (i 1) h

theorem algebraic : Cert.algebraic_MlaPrepBwdIdeal_MlaPrepBwdRefIdeal_on_mla_columns_pre_mla_finite := by
  intro m g m' g' hpre hagree
  choose Z Gq Gk U Wq Wk A B hZ hGq hGk hWq hWk hA hB hU using args m hpre
  refine ⟨fun c => (nm (dx 384 (zq (Z c)) (Gq c 1) (hq (Wq c) (A c))) : FVec Ideal ⟨2, ![8192, 384]⟩ .bf16),
    fun c => (nm (dx 256 (zk (Z c)) (Gk c 1) (hk (U c) (Wk c) (B c))) : FVec Ideal ⟨2, ![8192, 256]⟩ .bf16),
    fun c => (nm (dkr cst snt fun t => spread 96 (B c t)) : FVec Ideal ⟨2, ![8192, 128]⟩ .bf16),
    fun c => (nm fun a l => ∑ t : Fin 8192, qn (Z c) (Gq c) t.val a * DQ (A c) t.val l : FVec Ideal ⟨2, ![384, 768]⟩ .f32),
    fun c => (nm fun a l => ∑ t : Fin 8192, kn (Z c) (Gk c) t.val a * DK (U c) (B c) t.val l : FVec Ideal ⟨2, ![256, 1152]⟩ .f32),
    fun c => (nm fun _ l => ∑ t : Fin 8192, hq (Wq c) (A c) t.val l * (zq (Z c) t.val l * rs 384 (zq (Z c)) t.val) : FVec Ideal ⟨2, ![1, 384]⟩ .f32),
    fun c => (nm fun _ l => ∑ t : Fin 8192, hk (U c) (Wk c) (B c) t.val l * (zk (Z c) t.val l * rs 256 (zk (Z c)) t.val) : FVec Ideal ⟨2, ![1, 256]⟩ .f32), ?_, ?_⟩
  · exact (θ_run Cert.MlaPrepBwdIdeal.defs _ _).mono (fun _ h c =>
      ⟨fun i _ => congrFun ((h c).1.trans (Cert.MlaPrepBwdIdeal.Blocks.final14 m c _ _ _ _ (hZ c) (hGq c) (hWq c) (hA c))) i,
        fun i _ => congrFun ((h c).2.1.trans (Cert.MlaPrepBwdIdeal.Blocks.final15 m c _ _ _ _ _ (hZ c) (hGk c) (hWk c) (hB c) (hU c))) i,
        fun i _ => congrFun ((h c).2.2.1.trans (Cert.MlaPrepBwdIdeal.Blocks.final16 m c _ (hB c))) i,
        fun i _ => congrFun ((h c).2.2.2.1.trans (Cert.MlaPrepBwdIdeal.Blocks.final17 m c _ _ _ (hZ c) (hGq c) (hA c))) i,
        fun i _ => congrFun ((h c).2.2.2.2.1.trans (Cert.MlaPrepBwdIdeal.Blocks.final18 m c _ _ _ _ (hZ c) (hGk c) (hB c) (hU c))) i,
        fun i _ => congrFun ((h c).2.2.2.2.2.1.trans (Cert.MlaPrepBwdIdeal.Blocks.final19 m c _ _ _ (hZ c) (hWq c) (hA c))) i,
        fun i _ => congrFun ((h c).2.2.2.2.2.2.1.trans (Cert.MlaPrepBwdIdeal.Blocks.final20 m c _ _ _ _ (hZ c) (hWk c) (hB c) (hU c))) i, (h c).2.2.2.2.2.2.2⟩)
      (Cert.MlaPrepBwdIdeal.Value.run_blocks m g)
  · refine (θ_run Cert.MlaPrepBwdRefIdeal.defs _ _).mono (fun _ h c => ?_) (Cert.MlaPrepBwdRefIdeal.Value.run m' g')
    obtain ⟨a0, a1, a2, a3, a4, a5, a6, a7⟩ := hagree c
    refine ⟨fun i _ => congrFun ((h c).1.trans ?_) i,
      fun i _ => congrFun ((h c).2.1.trans ?_) i,
      fun i _ => congrFun ((h c).2.2.1.trans ?_) i,
      fun i _ => congrFun ((h c).2.2.2.1.trans ?_) i,
      fun i hi => (congrFun (h c).2.2.2.2.1 i).trans ?_,
      fun i _ => congrFun ((h c).2.2.2.2.2.1.trans ?_) i,
      fun i _ => congrFun ((h c).2.2.2.2.2.2.1.trans ?_) i, (h c).2.2.2.2.2.2.2⟩
    · rw [Cert.MlaPrepBwdRefIdeal.Read.val_main_v195_eq]
      change Cert.MlaPrepBwdRefIdeal.Read.val_main_v195 (m' (c.tc.loc Cert.MlaPrepBwdRefIdeal.main_arg0)) (m' (c.tc.loc Cert.MlaPrepBwdRefIdeal.main_arg1)) (m' (c.tc.loc Cert.MlaPrepBwdRefIdeal.main_arg3)) (m' (c.tc.loc Cert.MlaPrepBwdRefIdeal.main_arg5)) = _
      rw [a0, a1, a3, a5, hZ, hGq, hWq, hA]
      exact Cert.MlaPrepBwdRefIdeal.Stages.v195 (Z c) (Gq c) (Wq c) (A c)
    · rw [Cert.MlaPrepBwdRefIdeal.Read.val_main_v196_eq]
      change Cert.MlaPrepBwdRefIdeal.Read.val_main_v196 (m' (c.tc.loc Cert.MlaPrepBwdRefIdeal.main_arg0)) (m' (c.tc.loc Cert.MlaPrepBwdRefIdeal.main_arg2)) (m' (c.tc.loc Cert.MlaPrepBwdRefIdeal.main_arg4)) (m' (c.tc.loc Cert.MlaPrepBwdRefIdeal.main_arg6)) (m' (c.tc.loc Cert.MlaPrepBwdRefIdeal.main_arg7)) = _
      rw [a0, a2, a4, a6, a7, hZ, hGk, hWk, hB, hU]
      exact Cert.MlaPrepBwdRefIdeal.Stages.v196 (Z c) (Gk c) (U c) (Wk c) (B c)
    · rw [Cert.MlaPrepBwdRefIdeal.Read.val_main_v198_eq]
      change Cert.MlaPrepBwdRefIdeal.Read.val_main_v198 (m' (c.tc.loc Cert.MlaPrepBwdRefIdeal.main_arg6)) = _
      rw [a6, hB]
      exact Cert.MlaPrepBwdRefIdeal.Stages.v198 (B c)
    · rw [Cert.MlaPrepBwdRefIdeal.Read.val_main_v201_eq]
      change Cert.MlaPrepBwdRefIdeal.Read.val_main_v201 (m' (c.tc.loc Cert.MlaPrepBwdRefIdeal.main_arg0)) (m' (c.tc.loc Cert.MlaPrepBwdRefIdeal.main_arg1)) (m' (c.tc.loc Cert.MlaPrepBwdRefIdeal.main_arg5)) = _
      rw [a0, a1, a5, hZ, hGq, hA]
      exact Cert.MlaPrepBwdRefIdeal.Stages.v201 (Z c) (Gq c) (A c)
    · rw [Cert.MlaPrepBwdRefIdeal.Read.val_main_v194_eq]
      change (Cert.MlaPrepBwdRefIdeal.Read.val_main_v194 (m' (c.tc.loc Cert.MlaPrepBwdRefIdeal.main_arg0)) (m' (c.tc.loc Cert.MlaPrepBwdRefIdeal.main_arg2)) (m' (c.tc.loc Cert.MlaPrepBwdRefIdeal.main_arg6)) (m' (c.tc.loc Cert.MlaPrepBwdRefIdeal.main_arg7)) : Cert.MlaPrepBwdRefIdeal.S256x1152.Idx → EReal) i = _
      rw [a0, a2, a6, a7, hZ, hGk, hB, hU]
      refine (congrFun (Cert.MlaPrepBwdRefIdeal.Stages.v194 (Z c) (Gk c) (U c) (B c)) i).trans ?_
      exact congrArg (fun r : ℝ => (r : EReal)) (dwk_eq _ _ _ _ _ _ (mask _ _ _ _ _ _ _ _ i hi))
    · rw [Cert.MlaPrepBwdRefIdeal.Read.val_main_v202_eq]
      change Cert.MlaPrepBwdRefIdeal.Read.val_main_v202 (m' (c.tc.loc Cert.MlaPrepBwdRefIdeal.main_arg0)) (m' (c.tc.loc Cert.MlaPrepBwdRefIdeal.main_arg3)) (m' (c.tc.loc Cert.MlaPrepBwdRefIdeal.main_arg5)) = _
      rw [a0, a3, a5, hZ, hWq, hA]
      exact Cert.MlaPrepBwdRefIdeal.Stages.v202 (Z c) (Wq c) (A c)
    · rw [Cert.MlaPrepBwdRefIdeal.Read.val_main_v203_eq]
      change Cert.MlaPrepBwdRefIdeal.Read.val_main_v203 (m' (c.tc.loc Cert.MlaPrepBwdRefIdeal.main_arg0)) (m' (c.tc.loc Cert.MlaPrepBwdRefIdeal.main_arg4)) (m' (c.tc.loc Cert.MlaPrepBwdRefIdeal.main_arg6)) (m' (c.tc.loc Cert.MlaPrepBwdRefIdeal.main_arg7)) = _
      rw [a0, a4, a6, a7, hZ, hWk, hB, hU]
      exact Cert.MlaPrepBwdRefIdeal.Stages.v203 (Z c) (U c) (Wk c) (B c)

end Cert.Proof.MlaPrepBwd
-- ==== Proof.InProjFwd.lean ====
/-
  The forward pass of the input product and its norm: its frames, and its two results against the reference's.
-/
module
public import proofs.«01_k».proof.Defs
public import proofs.«01_k».proof.Proof.InProjValue
public import proofs.«01_k».proof.Proof.Gen.InProjFwd.Frame
public import proofs.«01_k».proof.Proof.Gen.InProjFwdIdeal.Value
public import proofs.«01_k».proof.Proof.Gen.InProjFwdRefIdeal.Read
@[expose] public section
set_option maxRecDepth 16384
noncomputable section
open Cert.Reals Cert.Tables Cert.Lanes Cert.InProj Idealize.ShloMosaic Idealize.ShloMosaic.TcCoe Idealize.SL.Sem
namespace Cert.InProj
variable (X : ℕ → ℕ → ℝ) (g : ℕ → ℝ) (W : ℕ → ℕ → ℝ)
/-- The normed row. -/
def hn (t l : ℕ) : ℝ := X t l * rs X t * g l
/-- The projected row. -/
def zn (t k : ℕ) : ℝ := ∑ b : Fin 1024, hn X g t b.val * W b.val k
/-- A product with the columns in their lanes is the product in its lanes. -/
theorem lane_zn (t k : ℕ) : ∑ b : Fin 1024, hn X g t b.val * lane (W b.val) k = lane (zn X g W t) k := by
  unfold lane zn
  split_ifs <;> simp only [mul_zero, Finset.sum_const_zero]
end Cert.InProj

open Cert.InProjFwdIdeal Cert.InProjFwdIdeal.Gen
namespace Cert.InProjFwdIdeal.Blocks
variable (X : ℕ → ℕ → ℝ) (g : ℕ → ℝ) (W : ℕ → ℕ → ℝ)
theorem pay1_eq : (k0_pay1 (F := Ideal) (nm X) (nc fun _ _ l => g l) : Vec Ideal S512x1024 .bf16) = nm (hn X g) := by
  funext j; idx_vars j; pointwise [k0_pay1]
  simp only [nm_apply, nc_apply, ofBits_1024, ofBits_eps, ← EReal.coe_mul, sum_coe, div_1024, ← EReal.coe_add]
  have q := ms_pos X j0.val
  simp only [ms] at q
  rw [rsqrt_coe _ q]
  simp only [← EReal.coe_mul]; rfl
theorem pay2_eq : (k0_pay2 (F := Ideal) (nm X) (nc fun _ _ l => g l) (nc fun _ b => lane (W b)) : Vec Ideal S512x2432 .f32)
    = nm fun r => lane (zn X g W r) := by
  unfold k0_pay2
  rw [pay1_eq]
  funext j; idx_vars j; pointwise []
  simp only [nm_apply, nc_apply, ofBits_zero, ← EReal.coe_mul, sum_coe, ← EReal.coe_add, zero_add, lane_zn]
variable (m : (ℓ : Loc nD τ sig) → Buf (Elt Ideal) ℓ) (c : Dev nD)
theorem idx0 : ∀ t : Fin cfg0.N, win0_0.index t = ![t.val, 0] :=
  (by decide +kernel : ∀ t : Fin grid0.N, win0_0.index t = ![t.val, 0])
theorem idx1 : ∀ t : Fin cfg0.N, win0_1.index t = ![1, 0, 0] :=
  (by decide +kernel : ∀ t : Fin grid0.N, win0_1.index t = ![1, 0, 0])
theorem idx2 : ∀ t : Fin cfg0.N, win0_2.index t = ![1, 0, 0] :=
  (by decide +kernel : ∀ t : Fin grid0.N, win0_2.index t = ![1, 0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
variable (G : ℕ → ℕ → ℝ) (M : ℕ → ℕ → ℕ → ℝ)
set_option maxHeartbeats 4000000 in
/-- The weight's columns stand in their lanes. -/
theorem weight (hM : m ((c : Thread nD τ).loc main_arg2) = nc M) : (V m c main_v14 : Vec Ideal S4x1024x2432 .bf16) = nc fun a b => lane (M a b) := by
  have hM' : m (c, Proc.tc.devRef main_arg2) = (nc M : FVec Ideal S4x1024x2336 .f32) := hM
  show (StableHlo.after hostOps0 (fun b => m (c, b)) (Proc.devRef .tc main_v14) : Vec Ideal S4x1024x2432 .bf16) = _
  after_reads_simp
  refine cat3 M _ _ _ _ _ _ _ _ _ _
    concatenates_S4x1024x584_S4x1024x568_S4x1024x312_S4x1024x72_S4x1024x16_S4x1024x240_S4x1024x512_S4x1024x64_S4x1024x32_S4x1024x32_S4x1024x2432_d2
    (show StableHlo.upto hostOps0 (fun b => m (c, b)) 15 (Proc.tc.devRef main_v0) = _ from ?_)
    (show StableHlo.upto hostOps0 (fun b => m (c, b)) 15 (Proc.tc.devRef main_v4) = _ from ?_)
    (show StableHlo.upto hostOps0 (fun b => m (c, b)) 15 (Proc.tc.devRef main_v5) = _ from ?_)
    (show StableHlo.upto hostOps0 (fun b => m (c, b)) 15 (Proc.tc.devRef main_v6) = _ from ?_)
    (show StableHlo.upto hostOps0 (fun b => m (c, b)) 15 (Proc.tc.devRef main_v7) = _ from ?_)
    (show StableHlo.upto hostOps0 (fun b => m (c, b)) 15 (Proc.tc.devRef main_v8) = _ from ?_)
    (show StableHlo.upto hostOps0 (fun b => m (c, b)) 15 (Proc.tc.devRef main_v9) = _ from ?_)
    (show StableHlo.upto hostOps0 (fun b => m (c, b)) 15 (Proc.tc.devRef main_v10) = _ from ?_)
    (show StableHlo.upto hostOps0 (fun b => m (c, b)) 15 (Proc.tc.devRef main_v11) = _ from ?_)
    (show StableHlo.upto hostOps0 (fun b => m (c, b)) 15 (Proc.tc.devRef main_v12) = _ from ?_)
  all_goals
    after_reads_simp
    funext j; idx_vars j; pointwise []
    first
    | (rw [hM', nc_apply, nc_apply]; done)
    | rw [hM', nc_apply, nc_apply]; exact congrArg (fun z : ℕ => ((M j0.val j1.val z : ℝ) : EReal)) (by dsimp only; omega)
    | rw [nc_apply, EReal.coe_zero]
theorem iblk0 (h : m ((c : Thread nD τ).loc main_arg0) = nm X) (t : Fin cfg0.N) : (iblk m c 0 t : Vec Ideal S512x1024 .f32) = nm fun r => X (512 * t.val + r) := by
  funext j; idx_vars j
  have ht : t.val < 16 := t.isLt
  have e : (win0_0.blk t).view.emb (ix2 j0 j1) = ix2 ⟨512 * t.val + j0.val, by omega⟩ j1 := by blk_ext [idx0 t]
  blk_simp [iblk]
  rw [e, V_main_arg0, h]; rfl
theorem iblk1 (h : m ((c : Thread nD τ).loc main_arg1) = nm G) (t : Fin cfg0.N) : (iblk m c 1 t : Vec Ideal S1x1x1024 .f32) = nc fun _ _ l => G 1 l := by
  funext j; idx_vars j
  rw [nc_apply]
  have e : (win0_1.blk t).view.emb (ix3 j0 j1 j2) = ix3 ⟨1, by omega⟩ 0 j2 := by blk_ext [idx1 t]
  blk_simp [iblk, e]
  entry_read
  pointwise []
  change m ((c : Thread nD τ).loc main_arg1) _ = _
  rw [h]; rfl
theorem iblk2 (hM : m ((c : Thread nD τ).loc main_arg2) = nc M) (t : Fin cfg0.N) : (iblk m c 2 t : Vec Ideal S1x1024x2432 .bf16) = nc fun _ b => lane (M 1 b) := by
  funext j; idx_vars j
  rw [nc_apply]
  have e : (win0_2.blk t).view.emb (ix3 j0 j1 j2) = ix3 ⟨1, by omega⟩ j1 j2 := by blk_ext [idx2 t]
  blk_simp [iblk, e]
  rw [weight m c M hM]; rfl
variable (hX : m ((c : Thread nD τ).loc main_arg0) = nm X) (hG : m ((c : Thread nD τ).loc main_arg1) = nm G) (hM : m ((c : Thread nD τ).loc main_arg2) = nc M)
include hX hG in
theorem final3 : (dats m 0 c).arrAt 3 cfg0.N = nm (hn X (G 1)) := by
  refine (dats m 0 c).arrAt_eq_of_covers 3 _ (by decide +kernel) fun t hf y => ?_
  blk_simp
  rw [after0_3]; frame_out
  rw [iblk0 X m c hX, iblk1 m c G hG, pay1_eq]
  idx_vars y
  have ht : t.val < 16 := t.isLt
  have e : (win0_3.blk t).view.emb (ix2 y0 y1) = ix2 ⟨512 * t.val + y0.val, by omega⟩ y1 := by blk_ext [idx3 t]
  rw [e]; rfl
include hX hG hM in
theorem final4 : (dats m 0 c).arrAt 4 cfg0.N = nm fun t => lane (zn X (G 1) (M 1) t) := by
  refine (dats m 0 c).arrAt_eq_of_covers 4 _ (by decide +kernel) fun t hf y => ?_
  blk_simp
  rw [after0_4]; frame_out
  rw [iblk0 X m c hX, iblk1 m c G hG, iblk2 m c M hM, pay2_eq]
  idx_vars y
  have ht : t.val < 16 := t.isLt
  have e : (win0_4.blk t).view.emb (ix2 y0 y1) = ix2 ⟨512 * t.val + y0.val, by omega⟩ y1 := by blk_ext [idx4 t]
  rw [e]; rfl
end Cert.InProjFwdIdeal.Blocks

open Cert.InProjFwdRefIdeal Cert.InProjFwdRefIdeal.Read
namespace Cert.InProjFwdRefIdeal.Stages
variable (X G : ℕ → ℕ → ℝ) (M : ℕ → ℕ → ℕ → ℝ)
abbrev aX : FVec Ideal ⟨2, ![8192, 1024]⟩ .f32 := nm X
abbrev aG : FVec Ideal ⟨2, ![4, 1024]⟩ .f32 := nm G
abbrev aM : FVec Ideal ⟨3, ![4, 1024, 2336]⟩ .f32 := nc M
theorem v13 : (val_main_v13 (F := Ideal) (aG G) : FVec Ideal ⟨2, ![8192, 1024]⟩ .f32) = nm fun _ l => G 1 l := by
  unfold val_main_v13 val_main_v12 val_main_v1 val_main_v0
  funext j; idx_vars j; pointwise []; rfl
theorem v14 : (val_main_v14 (F := Ideal) (aX X) (aG G) : FVec Ideal ⟨2, ![8192, 1024]⟩ .f32) = nm (hn X (G 1)) := by
  unfold val_main_v14 val_main_v11 val_main_v10 val_main_v9 val_main_v8 val_main_v7 val_main_v6 val_main_v5 val_main_v4 val_main_v3 val_main_v2
  rw [v13]
  funext j; idx_vars j; pointwise [val_main_cst, val_main_cst_0, val_main_cst_1]
  simp only [nm_apply, ofBits_zero, ofBits_1024, ofBits_eps, ← EReal.coe_mul, sum_coe, zero_add, div_1024, ← EReal.coe_add]
  have q := ms_pos X j0.val
  simp only [ms] at q
  rw [rsqrt_coe _ q]
  simp only [← EReal.coe_mul]; rfl
theorem v16 : (val_main_v16 (F := Ideal) (aM M) : FVec Ideal ⟨2, ![1024, 2336]⟩ .f32) = nm (M 1) := by
  unfold val_main_v16 val_main_v15
  funext j; idx_vars j; pointwise []; rfl
theorem v17 : (val_main_v17 (F := Ideal) (aX X) (aG G) (aM M) : FVec Ideal ⟨2, ![8192, 2336]⟩ .f32) = nm (zn X (G 1) (M 1)) := by
  unfold val_main_v17
  rw [v14, v16]
  funext j; idx_vars j; pointwise []
  simp only [nm_apply, ← EReal.coe_mul, sum_coe, zero_add, zn]
theorem v26 : (val_main_v26 (F := Ideal) (aX X) (aG G) : FVec Ideal ⟨2, ![8192, 1024]⟩ .bf16) = nm (hn X (G 1)) := by
  unfold val_main_v26
  rw [v14]; rfl
set_option maxHeartbeats 4000000 in
theorem v25 : (val_main_v25 (F := Ideal) (aX X) (aG G) (aM M) : FVec Ideal ⟨2, ![8192, 2432]⟩ .f32) = nm fun t => lane (zn X (G 1) (M 1) t) := by
  unfold val_main_v25 val_main_v18 val_main_v19 val_main_v20 val_main_v21 val_main_v22 val_main_v23 val_main_v24
  rw [v17]
  generalize zn X (G 1) (M 1) = Z
  funext j; idx_vars j; pointwise [val_main_cst_2, val_main_cst_3]
  simp only [nm_apply, ofBits_zero]
  have hj : j1.val < 1152 ∨ (1152 ≤ j1.val ∧ j1.val < 1536) ∨ (1536 ≤ j1.val ∧ j1.val < 1792) ∨ (1792 ≤ j1.val ∧ j1.val < 2304)
    ∨ (2304 ≤ j1.val ∧ j1.val < 2368) ∨ (2368 ≤ j1.val ∧ j1.val < 2400) ∨ (2400 ≤ j1.val ∧ j1.val < 2432) := by omega
  rcases hj with hj | hj | hj | hj | hj | hj | hj <;> simp (disch := omega) only [lane, if_pos, if_neg, dif_pos, dif_neg, EReal.coe_zero]
  all_goals refine congrArg (fun z : ℕ => ((Z j0.val z : ℝ) : EReal)) ?_
  all_goals omega
end Cert.InProjFwdRefIdeal.Stages

namespace Cert.Proof.InProjFwd
instance facts : Cert.InProjFwd.Facts := Cert.InProjFwd.Gen.facts
instance factsIdeal : Cert.InProjFwdIdeal.Facts := Cert.InProjFwdIdeal.Gen.facts
instance factsRef : Cert.InProjFwdRefIdeal.Facts := Cert.InProjFwdRefIdeal.Gen.facts
instance factsPre : Cert.Pre_inproj_fwd_finite.Facts := ⟨by decide, by decide, by decide⟩

theorem frame_kernel : Cert.quiescent_InProjFwd := fun m ρ _ => Cert.InProjFwd.Gen.frame m ρ
theorem frame_ideal : Cert.quiescent_InProjFwdIdeal := fun m ρ _ => Cert.InProjFwdIdeal.Gen.frame m ρ
theorem frame_ideal_pre : Cert.quiescent_InProjFwdIdeal_pre_inproj_fwd_finite := fun m ρ _ => Cert.InProjFwdIdeal.Gen.frame m ρ
theorem frame_ref : Cert.quiescent_InProjFwdRefIdeal := fun m ρ _ =>
  (θ_run Cert.InProjFwdRefIdeal.defs _ _).mono (fun r h => ⟨fun c => (h c).2.2, sem_eq_zero_of_no_sems (by decide) r.2⟩)
    (Cert.InProjFwdRefIdeal.Value.run m ρ)
theorem frame_ref_pre : Cert.quiescent_InProjFwdRefIdeal_pre_inproj_fwd_finite := fun m ρ _ => frame_ref m ρ trivial

theorem algebraic : Cert.algebraic_InProjFwdIdeal_InProjFwdRefIdeal_pre_inproj_fwd_finite := by
  intro m g m' g' hpre hagree
  choose X h0 _ using fun c : Dev Cert.InProjFwdIdeal.nD => nm_of_finite (m (c.tc.loc Cert.InProjFwdIdeal.main_arg0)) _ (hpre c).1
  choose G h1 _ using fun c : Dev Cert.InProjFwdIdeal.nD => nm_of_finite (m (c.tc.loc Cert.InProjFwdIdeal.main_arg1)) _ (hpre c).2.1
  choose M h2 using fun c : Dev Cert.InProjFwdIdeal.nD => nc_of_finite (m (c.tc.loc Cert.InProjFwdIdeal.main_arg2)) _ (hpre c).2.2
  refine ⟨fun c => (nm (hn (X c) (G c 1)) : FVec Ideal ⟨2, ![8192, 1024]⟩ .bf16),
    fun c => (nm fun t => lane (zn (X c) (G c 1) (M c 1) t) : FVec Ideal ⟨2, ![8192, 2432]⟩ .f32), ?_, ?_⟩
  · exact (θ_run Cert.InProjFwdIdeal.defs _ _).mono (fun _ h c =>
      ⟨(h c).1.trans (Cert.InProjFwdIdeal.Blocks.final3 (X c) m c (G c) (h0 c) (h1 c)),
        (h c).2.1.trans (Cert.InProjFwdIdeal.Blocks.final4 (X c) m c (G c) (M c) (h0 c) (h1 c) (h2 c)), (h c).2.2⟩)
      (Cert.InProjFwdIdeal.Value.run_blocks m g)
  · refine (θ_run Cert.InProjFwdRefIdeal.defs _ _).mono (fun _ h c => ?_) (Cert.InProjFwdRefIdeal.Value.run m' g')
    obtain ⟨a0, a1, a2⟩ := hagree c
    refine ⟨(h c).1.trans ?_, (h c).2.1.trans ?_, (h c).2.2⟩
    · rw [Cert.InProjFwdRefIdeal.Read.val_main_v26_eq]
      change Cert.InProjFwdRefIdeal.Read.val_main_v26 (m' (c.tc.loc Cert.InProjFwdRefIdeal.main_arg0)) (m' (c.tc.loc Cert.InProjFwdRefIdeal.main_arg1)) = _
      rw [a0, a1, h0, h1]
      exact Cert.InProjFwdRefIdeal.Stages.v26 (X c) (G c)
    · rw [Cert.InProjFwdRefIdeal.Read.val_main_v25_eq]
      change Cert.InProjFwdRefIdeal.Read.val_main_v25 (m' (c.tc.loc Cert.InProjFwdRefIdeal.main_arg0)) (m' (c.tc.loc Cert.InProjFwdRefIdeal.main_arg1)) (m' (c.tc.loc Cert.InProjFwdRefIdeal.main_arg2)) = _
      rw [a0, a1, a2, h0, h1, h2]
      exact Cert.InProjFwdRefIdeal.Stages.v25 (X c) (G c) (M c)
end Cert.Proof.InProjFwd
-- ==== Proof.PoolFwd.lean ====
/-
  The forward pass of the multi-scale pooling: its frames, and its result against the reference's. The numbers are
  those of the gradient's proof; here the sixteen rows before a tile are carried from the tile before it.
-/
module
public import proofs.«01_k».proof.Defs
public import proofs.«01_k».proof.Proof.PoolValue
public import proofs.«01_k».proof.Proof.PoolRef
public import proofs.«01_k».proof.Proof.Gen.PoolFwd.Frame
public import proofs.«01_k».proof.Proof.Gen.PoolFwdIdeal.Value
public import proofs.«01_k».proof.Proof.Gen.PoolFwdRefIdeal.Read
@[expose] public section
set_option maxRecDepth 16384
noncomputable section
open Cert.Reals Cert.Tables Cert.Pool Idealize.ShloMosaic Idealize.ShloMosaic.TcCoe Idealize.SL.Sem
namespace Cert.Pool
/-- The gated, scaled image of the pooled rows. -/
def yc (Z G : ℕ → ℕ → ℝ) (W : ℕ → ℕ → ℕ → ℝ) (s : ℕ → ℝ) (t l : ℕ) : ℝ := pc Z W t l * s l * silu G t l
end Cert.Pool

open Cert.PoolFwdIdeal Cert.PoolFwdIdeal.Gen
namespace Cert.PoolFwdIdeal.Blocks
section
variable (i : grid0.Coords) (T : ℕ) (hT : T = (i 0).val) (Z : ℕ → ℕ → ℝ)
include hT in
theorem pay4_eq : (k0_pay4 (F := Ideal) i : Vec Ideal S1024x256 .f32) = nm (fun r l => cnt (1024 * T + r) l) := by
  funext j; idx_vars j; pointwise [k0_pay4]
  have hl := j1.isLt
  have hr := j0.isLt
  have hi : (i 0).val < 8 := (i 0).isLt
  have e : IntOp.addi (IntOp.addi (Scalar.muli (BitVec.ofNat 32 (i 0).val) 1024#32) (BitVec.ofNat 32 j0.val)) 1#32
      = BitVec.ofNat 32 (1024 * T + j0.val + 1) := by
    show BitVec.ofNat 32 (i 0).val * BitVec.ofNat 32 1024 + BitVec.ofNat 32 j0.val + BitVec.ofNat 32 1 = _
    rw [← BitVec.ofNat_mul, ← BitVec.ofNat_add, ← BitVec.ofNat_add, ← hT, Nat.mul_comm]
  have e' : (FloatOps.sitofp (F := Ideal) FTy.f32 (BitVec.ofNat 32 (1024 * T + j0.val + 1)) : EReal) = (((1024 * T + j0.val + 1 : ℕ) : ℝ) : EReal) := by
    show (((BitVec.ofNat 32 (1024 * T + j0.val + 1)).toInt : ℝ) : EReal) = _
    rw [toInt_ofNat _ (by omega)]
    norm_cast
  rw [e, e']
  simp (disch := omega) only [select_slt, ofBits_two, ofBits_4, ofBits_8, ofBits_16, nm_apply, cnt, win]
  rw [Nat.cast_min]
  split_ifs <;> simp [EReal.coe_strictMono.monotone.map_min]

/-- The tile behind the rows carried to it, doubled once. -/
theorem pay5_eq : (k0_pay5 (F := Ideal) (nm fun r l => Z (1024 * T + r) l) (nm fun r l => late Z (1024 * T + r) l) : Vec Ideal S1040x256 .f32)
    = nm (s2 Z T) := by
  funext j; idx_vars j; pointwise [k0_pay5, k0_pay3]
  have key : ∀ n, (if h : n < 16 then late Z (1024 * T + n) j1.val else Z (1024 * T + (n - 16)) j1.val) = late Z (1024 * T + n) j1.val := by
    intro n
    by_cases h : n < 16
    · rw [dif_pos h]
    · rw [dif_neg h, late, if_neg (by omega), show 1024 * T + (n - 16) = 1024 * T + n - 16 by omega]
  have k0 := key j0.val
  have k1 := key ((j0.val + 1039) % 1040)
  simp only [nm_apply, show j0.val + 1040 - 1 = j0.val + 1039 by omega]
  rw [s2, ← k0, ← k1, EReal.coe_add]
  congr 1 <;> split_ifs <;> rfl

/-- The kernel's tile is the gradient kernel's image of the tile, scaled and gated. -/
theorem pay11_image (v3 v26 v56 : Vec Ideal S1024x256 .f32) (v27 : Vec Ideal S16x256 .f32) (v52 : Vec Ideal S1x256x256 .bf16) (v58 : Vec Ideal S1x1x256 .f32) :
    k0_pay11 (F := Ideal) (k0_pay3 v3) (iota .tc S1024x256 32 [1] iota_S1024x256_d1_w32) v26 (k0_pay7 v3 v27) (k0_pay8 v3 v27) (k0_pay9 v3 v27) (k0_pay10 v3 v27) v52 v56 v58
      = truncf .bf16 (mulf (mulf (Cert.PoolBwdIdeal.Gen.k0_pay11 (Cert.PoolBwdIdeal.Gen.k0_pay6 v3) (iota .tc S1024x256 32 [1] iota_S1024x256_d1_w32) v26
          (k0_pay5 v3 v27) (dynamicRotate 0 2#32 none (k0_pay5 v3 v27) rotates_S1040x256_d0) v52)
        (broadcastTo S1024x256 (Cert.PoolBwdIdeal.Gen.k0_pay15 v58) broadcasts_S1x256_S1024x256)) (Cert.PoolBwdIdeal.Gen.k0_pay14 v56)) bitsLt_bf16_f32 := rfl
theorem rotated : (dynamicRotate 0 2#32 none (nm (s2 Z T) : Vec Ideal S1040x256 .f32) rotates_S1040x256_d0 : Vec Ideal S1040x256 .f32)
    = nm fun n l => s2 Z T ((n + 1038) % 1040) l := by
  funext j; idx_vars j; pointwise []
  simp only [nm_apply, show j0.val + 1040 - 2 = j0.val + 1038 by omega]
theorem pay11_eq (G : ℕ → ℕ → ℝ) (W : ℕ → ℕ → ℕ → ℝ) (s : ℕ → ℝ) :
    k0_pay11 (F := Ideal) (k0_pay3 (nm fun r l => Z (1024 * T + r) l)) (iota .tc S1024x256 32 [1] iota_S1024x256_d1_w32) (nm fun r l => cnt (1024 * T + r) l)
      (k0_pay7 (nm fun r l => Z (1024 * T + r) l) (nm fun r l => late Z (1024 * T + r) l)) (k0_pay8 (nm fun r l => Z (1024 * T + r) l) (nm fun r l => late Z (1024 * T + r) l))
      (k0_pay9 (nm fun r l => Z (1024 * T + r) l) (nm fun r l => late Z (1024 * T + r) l)) (k0_pay10 (nm fun r l => Z (1024 * T + r) l) (nm fun r l => late Z (1024 * T + r) l))
      (nc fun _ i j => blk W i j) (nm fun r l => G (1024 * T + r) l) (nc fun _ _ l => s l)
      = nm fun r l => yc Z G W s (1024 * T + r) l := by
  rw [pay11_image, pay5_eq, rotated, Cert.Pool.pay6_eq, Cert.Pool.pay11_eq T Z W _ _ _ _ _ (Cert.Pool.pay10_eq T Z), Cert.Pool.pay15_eq, Cert.Pool.pay14_eq]
  funext j; idx_vars j; pointwise []
  simp only [nm_apply, ← EReal.coe_mul, yc]
theorem pay2_eq : (k0_pay2 (F := Ideal) : Vec Ideal S16x256 .f32) = nm fun r l => late Z (1024 * 0 + r) l := by
  funext j; idx_vars j; pointwise [k0_pay2]
  rw [nm_apply, late, if_pos (by omega), EReal.coe_zero]
end

variable (m : (ℓ : Loc nD τ sig) → Buf (Elt Ideal) ℓ) (c : Dev nD)
variable (X S : ℕ → ℕ → ℝ) (W : ℕ → ℕ → ℕ → ℕ → ℝ)
theorem coord : ∀ t : Fin cfg0.N, t.val = (grid0.coords t 0).val :=
  (by decide +kernel : ∀ t : Fin grid0.N, t.val = (grid0.coords t 0).val)
theorem idx0 : ∀ t : Fin cfg0.N, win0_0.index t = ![t.val, 7] :=
  (by decide +kernel : ∀ t : Fin grid0.N, win0_0.index t = ![t.val, 7])
theorem idx1 : ∀ t : Fin cfg0.N, win0_1.index t = ![t.val, 8] :=
  (by decide +kernel : ∀ t : Fin grid0.N, win0_1.index t = ![t.val, 8])
theorem idx2 : ∀ t : Fin cfg0.N, win0_2.index t = ![1, 0, 0] :=
  (by decide +kernel : ∀ t : Fin grid0.N, win0_2.index t = ![1, 0, 0])
theorem idx3 : ∀ t : Fin cfg0.N, win0_3.index t = ![1, 0, 0] :=
  (by decide +kernel : ∀ t : Fin grid0.N, win0_3.index t = ![1, 0, 0])
theorem idx4 : ∀ t : Fin cfg0.N, win0_4.index t = ![t.val, 0] :=
  (by decide +kernel : ∀ t : Fin grid0.N, win0_4.index t = ![t.val, 0])
variable (hX : m ((c : Thread nD τ).loc main_arg0) = nm X) (hW : m ((c : Thread nD τ).loc main_arg1) = nq W)
  (hS : m ((c : Thread nD τ).loc main_arg2) = nm S)
include hX in
set_option maxHeartbeats 4000000 in
theorem lanes (n : Fin 8192) (l : Fin 512) :
    (V m c main_v13 : Vec Ideal S8192x2432 .f32) (ix2 n ⟨1792 + l.val, by omega⟩) = ((X n.val (1824 + l.val) : ℝ) : EReal) := by
  show (StableHlo.after hostOps0 (fun b => m (c, b)) (Proc.devRef .tc main_v13) : Vec Ideal S8192x2432 .f32) _ = _
  after_reads_simp
  refine Eq.trans (Cert.PoolBwdIdeal.Blocks.piece _ _ _ _ _ _ _ _ _ _ _ n l) ?_
  change (StableHlo.unary main_v3 main_v9 _ _ _).result _ (Proc.devRef .tc main_v9) _ = _
  after_reads_simp
  pointwise []
  show m ((c : Thread nD τ).loc main_arg0) _ = _
  rw [hX, nm_apply]
  dsimp only
  rw [show 1752 + (72 + l.val) = 1824 + l.val by omega]
/-- One where two groups agree, as the mask's word and its conversion give it. -/
theorem one_if_eq (a b : Fin 4) : (FloatOps.uitofp (F := Ideal) FTy.f32 (IntOp.cmpi .eq (IntOp.addi (BitVec.ofNat 32 a.val) 0#32) (BitVec.ofNat 32 b.val)) : EReal)
    = (((if a.val = b.val then 1 else 0 : ℝ)) : EReal) := by
  have h : ∀ a b : Fin 4, (IntOp.cmpi .eq (IntOp.addi (BitVec.ofNat 32 a.val) 0#32) (BitVec.ofNat 32 b.val)).toNat = if a.val = b.val then 1 else 0 := by decide +kernel
  show (((IntOp.cmpi .eq (IntOp.addi (BitVec.ofNat 32 a.val) 0#32) (BitVec.ofNat 32 b.val)).toNat : ℝ) : EReal) = _
  rw [h]; split_ifs <;> simp
include hW in
theorem iblk2 (t : Fin cfg0.N) : (iblk m c 2 t : Vec Ideal S1x256x256 .bf16) = nc fun _ i j => Cert.Pool.blk (W 1) i j := by
  funext j; idx_vars j
  have e : (win0_2.blk t).view.emb (ix3 j0 j1 j2) = ix3 ⟨1, by omega⟩ j1 j2 := by blk_ext [idx2 t]
  blk_simp [iblk, e]
  entry_read
  pointwise []
  rw [hW]
  have e' := one_if_eq ⟨j1.val / 64, by omega⟩ ⟨j2.val / 64, by omega⟩
  dsimp only at e'
  simp only [nq_apply, nc_apply, Cert.Pool.blk]
  rw [e', ← EReal.coe_mul]
  split_ifs with h
  · rw [mul_one, h]; rfl
  · rw [mul_zero]
include hS in
theorem iblk3 (t : Fin cfg0.N) : (iblk m c 3 t : Vec Ideal S1x1x256 .f32) = nc fun _ _ l => S 1 l := by
  funext j; idx_vars j
  rw [nc_apply]
  have e : (win0_3.blk t).view.emb (ix3 j0 j1 j2) = ix3 ⟨1, by omega⟩ 0 j2 := by blk_ext [idx3 t]
  blk_simp [iblk, e]
  entry_read; pointwise []
  rw [hS]
  rfl
include hX
theorem X0 (t : Fin cfg0.N) : (X0_0 m c t : Vec Ideal S1024x256 .f32) = nm fun r l => zc X (1024 * t.val + r) l := by
  funext j; idx_vars j
  rw [nm_apply]
  unfold X0_0 Pipeline.Window.fill
  rw [dif_pos (moved0_0 t _)]
  have ht : t.val < 8 := t.isLt
  have e : ∀ h : ∀ a, (ix2 j0 j1 a).val < (win0_0.xblock (grid0.coords t)).size a, (win0_0.blk t).view.emb (fun a => ⟨(ix2 j0 j1 a).val, h a⟩)
      = ix2 ⟨1024 * t.val + j0.val, by omega⟩ ⟨1792 + j1.val, by omega⟩ := by intro h; blk_ext [idx0 t]
  have e2 := lanes m c X hX ⟨1024 * t.val + j0.val, by omega⟩ ⟨j1.val, by omega⟩
  rw [← e fun a => (Pipeline.Window.moved_iff _ _ _).mp (moved0_0 t (ix2 j0 j1)) a] at e2
  exact e2
theorem X1 (t : Fin cfg0.N) : (X0_1 m c t : Vec Ideal S1024x256 .f32) = nm fun r l => gc X (1024 * t.val + r) l := by
  funext j; idx_vars j
  rw [nm_apply]
  unfold X0_1 Pipeline.Window.fill
  rw [dif_pos (moved0_1 t _)]
  have ht : t.val < 8 := t.isLt
  have e : ∀ h : ∀ a, (ix2 j0 j1 a).val < (win0_1.xblock (grid0.coords t)).size a, (win0_1.blk t).view.emb (fun a => ⟨(ix2 j0 j1 a).val, h a⟩)
      = ix2 ⟨1024 * t.val + j0.val, by omega⟩ ⟨1792 + (256 + j1.val), by omega⟩ := by intro h; blk_ext [idx1 t]
  have e2 := lanes m c X hX ⟨1024 * t.val + j0.val, by omega⟩ ⟨256 + j1.val, by omega⟩
  rw [← e fun a => (Pipeline.Window.moved_iff _ _ _).mp (moved0_1 t (ix2 j0 j1)) a] at e2
  exact e2.trans (by rw [gc, show 1824 + (256 + j1.val) = 2080 + j1.val by omega])
/-- The rows carried past a point: the last sixteen of its tile. -/
theorem carried (t : Fin cfg0.N) : (outsAt0 m c t.val t.isLt).2 = nm fun r l => late (zc X) (1024 * (t.val + 1) + r) l := by
  by_cases h0 : t.val % 8 = 0
  · rw [outsAt0_A m c t h0]; frame_out; rw [X0 m c X hX]
    funext j; idx_vars j; pointwise [k0_pay1, k0_pay12]
    simp only [nm_apply, late]
    rw [if_neg (by omega)]
    exact congrArg (fun n : ℕ => ((zc X n j1.val : ℝ) : EReal)) (by omega)
  · rw [outsAt0_B m c t h0]; frame_out; rw [X0 m c X hX]
    funext j; idx_vars j; pointwise [k0_pay1, k0_pay12]
    simp only [nm_apply, late]
    rw [if_neg (by omega)]
    exact congrArg (fun n : ℕ => ((zc X n j1.val : ℝ) : EReal)) (by omega)
include hW hS
theorem final4 : (dats m 0 c).arrAt 4 cfg0.N = nm (yc (zc X) (gc X) (W 1) (S 1)) := by
  refine (dats m 0 c).arrAt_eq_of_covers 4 _ (by decide +kernel) fun t hf y => ?_
  blk_simp
  rw [after0_4]
  have ht : t.val < 8 := t.isLt
  have key : ∀ y, (nm fun r l => yc (zc X) (gc X) (W 1) (S 1) (1024 * t.val + r) l : Vec Ideal S1024x256 .bf16) y
      = nm (yc (zc X) (gc X) (W 1) (S 1)) ((win0_4.blk t).view.emb y) := by
    intro y
    idx_vars y
    have e : (win0_4.blk t).view.emb (ix2 y0 y1) = ix2 ⟨1024 * t.val + y0.val, by omega⟩ y1 := by blk_ext [idx4 t]
    rw [e, nm_apply, nm_apply]
  by_cases h0 : t.val % 8 = 0
  · have z := pay2_eq (zc X)
    rw [← show t.val = 0 by omega] at z
    rw [outsAt0_A m c t h0]; frame_out; rw [X0 m c X hX, X1 m c X hX, iblk2 m c W hW, iblk3 m c S hS]
    rw [pay4_eq _ _ (coord t), z, pay11_eq]
    exact key y
  · have z := carried m c X hX ⟨t.val - 1, Nat.lt_of_le_of_lt (Nat.sub_le _ _) t.isLt⟩
    dsimp only at z
    rw [show t.val - 1 + 1 = t.val by omega] at z
    rw [outsAt0_B m c t h0]; frame_out; rw [X0 m c X hX, X1 m c X hX, iblk2 m c W hW, iblk3 m c S hS]
    rw [pay4_eq _ _ (coord t), show View.read (Elt Ideal) (View.whole cc0_scratch0) _ = _ from Memref.IsWhole.read_unread _ _, z, pay11_eq]
    exact key y
end Cert.PoolFwdIdeal.Blocks

namespace Cert.PoolFwdRefIdeal.Stages
open Cert.PoolFwdRefIdeal Cert.PoolFwdRefIdeal.Read
variable (X S : ℕ → ℕ → ℝ) (W : ℕ → ℕ → ℕ → ℕ → ℝ)
abbrev aX : FVec Ideal ⟨2, ![8192, 2336]⟩ .f32 := nm X
abbrev aW : FVec Ideal ⟨4, ![4, 4, 64, 64]⟩ .f32 := nq W
abbrev aS : FVec Ideal ⟨2, ![4, 256]⟩ .f32 := nm S
/-- Up to the group weights the reference is the one whose gradient was taken. -/
theorem v63 : (val_main_v63 (F := Ideal) (aX X) (aW W) : FVec Ideal ⟨2, ![8192, 256]⟩ .f32) = nm (pc (zc X) (W 1)) :=
  (show val_main_v63 (F := Ideal) (aX X) (aW W) = Cert.PoolBwdRefIdeal.Read.val_main_v68 (F := Ideal) (aX X) (aW W) from rfl).trans
    (Cert.PoolBwdRefIdeal.Stages.v68 X W)
theorem v67 : (val_main_v67 (F := Ideal) (aX X) : FVec Ideal ⟨2, ![8192, 256]⟩ .f32) = nm (gc X) := Cert.PoolBwdRefIdeal.Stages.v1 X
theorem v68 : (val_main_v68 (F := Ideal) (aX X) : FVec Ideal ⟨2, ![8192, 256]⟩ .f32) = nm (silu (gc X)) := by
  unfold val_main_v68 val_main_call4_v5 val_main_call4_v3 val_main_call4_v1 val_main_call4_v0
  rw [v67]
  funext j; idx_vars j; pointwise [val_main_call4_v4, val_main_call4_v2, val_main_call4_cst, val_main_call4_cst_0]
  rw [nm_apply, nm_apply, ← EReal.coe_neg, show Ideal.exp ((-gc X j0.val j1.val : ℝ) : EReal) = ((Real.exp (-gc X j0.val j1.val) : ℝ) : EReal) from rfl,
    ← EReal.coe_one, ← EReal.coe_add, div_coe _ _ (one_add_exp_pos _).ne', ← EReal.coe_mul]
  rfl
theorem v70 : (val_main_v70 (F := Ideal) (aX X) (aW W) (aS S) : FVec Ideal ⟨2, ![8192, 256]⟩ .bf16) = nm (yc (zc X) (gc X) (W 1) (S 1)) := by
  unfold val_main_v70 val_main_v69 val_main_v66
  rw [v63, v68]
  funext j; idx_vars j; pointwise [val_main_v65, val_main_v64, val_main_v4, val_main_v3]
  show nm _ _ * nm S _ * nm _ _ = _
  simp only [nm_apply, ← EReal.coe_mul, yc]
  rfl
end Cert.PoolFwdRefIdeal.Stages

namespace Cert.Proof.PoolFwd
instance facts : Cert.PoolFwd.Facts := Cert.PoolFwd.Gen.facts
instance factsIdeal : Cert.PoolFwdIdeal.Facts := Cert.PoolFwdIdeal.Gen.facts
instance factsRef : Cert.PoolFwdRefIdeal.Facts := Cert.PoolFwdRefIdeal.Gen.facts
instance factsPre : Cert.Pre_pool_fwd_finite.Facts := ⟨by decide, by decide, by decide⟩

theorem frame_kernel : Cert.quiescent_PoolFwd := fun m ρ _ => Cert.PoolFwd.Gen.frame m ρ
theorem frame_ideal : Cert.quiescent_PoolFwdIdeal := fun m ρ _ => Cert.PoolFwdIdeal.Gen.frame m ρ
theorem frame_ideal_pre : Cert.quiescent_PoolFwdIdeal_pre_pool_fwd_finite := fun m ρ _ => Cert.PoolFwdIdeal.Gen.frame m ρ
theorem frame_ref : Cert.quiescent_PoolFwdRefIdeal := fun m ρ _ =>
  (θ_run Cert.PoolFwdRefIdeal.defs _ _).mono (fun r h => ⟨fun c => (h c).2, sem_eq_zero_of_no_sems (by decide) r.2⟩)
    (Cert.PoolFwdRefIdeal.Value.run m ρ)
theorem frame_ref_pre : Cert.quiescent_PoolFwdRefIdeal_pre_pool_fwd_finite := fun m ρ _ => frame_ref m ρ trivial

theorem algebraic : Cert.algebraic_PoolFwdIdeal_PoolFwdRefIdeal_pre_pool_fwd_finite := by
  intro m g m' g' hpre hagree
  choose X h0 _ using fun c : Dev Cert.PoolFwdIdeal.nD => nm_of_finite (m (c.tc.loc Cert.PoolFwdIdeal.main_arg0)) _ (hpre c).1
  choose W h1 using fun c : Dev Cert.PoolFwdIdeal.nD => nq_of_finite (m (c.tc.loc Cert.PoolFwdIdeal.main_arg1)) _ (hpre c).2.1
  choose S h2 _ using fun c : Dev Cert.PoolFwdIdeal.nD => nm_of_finite (m (c.tc.loc Cert.PoolFwdIdeal.main_arg2)) _ (hpre c).2.2
  refine ⟨fun c => (nm (yc (zc (X c)) (gc (X c)) (W c 1) (S c 1)) : FVec Ideal ⟨2, ![8192, 256]⟩ .bf16), ?_, ?_⟩
  · exact (θ_run Cert.PoolFwdIdeal.defs _ _).mono (fun _ h c =>
      ⟨(h c).1.trans (Cert.PoolFwdIdeal.Blocks.final4 m c (X c) (S c) (W c) (h0 c) (h1 c) (h2 c)), (h c).2⟩)
      (Cert.PoolFwdIdeal.Value.run_blocks m g)
  · refine (θ_run Cert.PoolFwdRefIdeal.defs _ _).mono (fun _ h c => ?_) (Cert.PoolFwdRefIdeal.Value.run m' g')
    obtain ⟨a0, a1, a2⟩ := hagree c
    refine ⟨(h c).1.trans ?_, (h c).2⟩
    rw [Cert.PoolFwdRefIdeal.Read.val_main_v70_eq]
    change Cert.PoolFwdRefIdeal.Read.val_main_v70 (m' (c.tc.loc Cert.PoolFwdRefIdeal.main_arg0)) (m' (c.tc.loc Cert.PoolFwdRefIdeal.main_arg1)) (m' (c.tc.loc Cert.PoolFwdRefIdeal.main_arg2)) = _
    rw [a0, a1, a2, h0, h1, h2]
    exact Cert.PoolFwdRefIdeal.Stages.v70 (X c) (S c) (W c)
end Cert.Proof.PoolFwd
-- ==== Proof.MlaFwdValue.lean ====
/-
  What the kernel before the attention computes: normed rows, products by heads, rotary turn; and what its windows read.
-/
module
public import proofs.«01_k».proof.Proof.MlaFinal
public import proofs.«01_k».proof.Proof.Gen.MlaPrepFwdIdeal.Value
@[expose] public section
set_option maxRecDepth 16384
noncomputable section
open Cert.Reals Cert.Tables Cert.Lanes Cert.Mla Idealize.ShloMosaic Idealize.ShloMosaic.TcCoe Idealize.SL.Sem
open Idealize.ShloMosaic.Pipeline (Dat)
namespace Cert.Mla
/-- One head's lanes turned: sixty-four lanes pass, two halves of sixteen turn, the rest is nothing. -/
def turn (cs sn u : ℕ → ℝ) (l : ℕ) : ℝ :=
  if l < 64 then u l else if l < 80 then u l * cs (l - 64) - u (l + 16) * sn (l - 64)
  else if l < 96 then u (l - 16) * sn (l - 80) + u l * cs (l - 80) else 0
theorem turn_lanes (cs sn u : ℕ → ℝ) (l : ℕ) (h : l < 128) :
    u l * tc cs l + u ((l + 128 - 112) % 128) * tb sn l + u ((l + 128 - 16) % 128) * ta sn l = turn cs sn u l := by
  have hl : l < 64 ∨ (64 ≤ l ∧ l < 80) ∨ (80 ≤ l ∧ l < 96) ∨ 96 ≤ l := by omega
  rcases hl with h1 | h1 | h1 | h1
  · simp (disch := omega) only [turn, tc, tb, ta, if_pos, if_neg]; ring
  · rw [show (l + 128 - 112) % 128 = l + 16 by omega]
    simp (disch := omega) only [turn, tc, tb, ta, if_pos, if_neg]; ring
  · rw [show (l + 128 - 16) % 128 = l - 16 by omega]
    simp (disch := omega) only [turn, tc, tb, ta, if_pos, if_neg]; ring
  · simp (disch := omega) only [turn, tc, tb, ta, if_pos, if_neg]; ring
theorem turn_congr (cs sn u v : ℕ → ℝ) (h : ∀ y < 96, u y = v y) (l : ℕ) : turn cs sn u l = turn cs sn v l := by
  unfold turn
  split_ifs with h0 h1 h2
  · exact h l (by omega)
  · rw [h l (by omega), h (l + 16) (by omega)]
  · rw [h l (by omega), h (l - 16) (by omega)]
  · rfl
theorem turn_out (cs sn u : ℕ → ℝ) (l : ℕ) (h : 96 ≤ l) : turn cs sn u l = 0 := by
  rw [turn, if_neg (by omega), if_neg (by omega), if_neg (by omega)]
/-- The scale of the queries for exponentials of base two. -/
def att2 : ℝ := (9881408 : ℕ) * (2 : ℝ) ^ (-26 : ℤ)
theorem ofBits_att2 : Ideal.ofBits .f32 0x3E16C740#32 = (att2 : EReal) := by simp [Ideal.ofBits, Ideal.ieee, att2]

variable (Z Gq Gk : ℕ → ℕ → ℝ) (Wq Wk : ℕ → ℕ → ℕ → ℝ)
/-- The products of the normed rows by heads, and the rotary key. -/
def qh (t h x : ℕ) : ℝ := ∑ a : Fin 384, qn Z Gq t a.val * Wq 1 a.val (h * 96 + x)
def kh (t h x : ℕ) : ℝ := ∑ b : Fin 256, kn Z Gk t b.val * Wk 1 b.val (h * 128 + x)
def kt (t : ℕ) : ℕ → ℝ := turn (cst t) (snt t) fun y => Z t (1344 + y)
/-- The queries turned and scaled, and the keys: a head's own lanes, then the turned lanes all heads share. -/
def qf (t h x : ℕ) : ℝ := turn (cst t) (snt t) (qh Z Gq Wq t h) x * att2
def kf (t h x : ℕ) : ℝ := if x < 64 then kh Z Gk Wk t h x else kt Z t x
theorem sum_wq (n : ℕ) (f : ℕ → ℝ) (W : ℕ → ℕ → ℝ) (k : ℕ) : ∑ a : Fin n, f a.val * wq W a.val k = spread 96 (fun h x => ∑ a : Fin n, f a.val * W a.val (h * 96 + x)) k := by
  unfold wq spread
  split_ifs <;> simp only [mul_zero, Finset.sum_const_zero]
theorem sum_wkv (n : ℕ) (f : ℕ → ℝ) (W : ℕ → ℕ → ℝ) (k : ℕ) : ∑ a : Fin n, f a.val * wkv W a.val k
    = if k < 768 then spread 64 (fun h x => ∑ a : Fin n, f a.val * W a.val (h * 128 + x)) k
      else ∑ a : Fin n, f a.val * W a.val ((k - 768) / 64 * 128 + (64 + (k - 768) % 64)) := by
  unfold wkv spread
  split_ifs <;> simp only [mul_zero, Finset.sum_const_zero]
theorem q_lanes (t b l : ℕ) (h : l < 128) : turn (cst t) (snt t) (fun y => ∑ a : Fin 384, qn Z Gq t a.val * wq (Wq 1) a.val (128 * b + y)) l * att2
    = spread 96 (qf Z Gq Wq t) (128 * b + l) := by
  rw [spread, show (128 * b + l) / 128 = b by omega, show (128 * b + l) % 128 = l by omega]
  split_ifs with q
  · rw [qf, turn_congr _ _ _ (qh Z Gq Wq t b) fun y hy => ?_]
    rw [sum_wq, spread, show (128 * b + y) / 128 = b by omega, show (128 * b + y) % 128 = y by omega, if_pos hy]; rfl
  · rw [turn_out _ _ _ _ (by omega), zero_mul]
theorem k_lanes (t b l : ℕ) (h : l < 128) (hb : b < 6) : (∑ a : Fin 256, kn Z Gk t a.val * wkv (Wk 1) a.val (128 * b + l)) + turn (cst t) (snt t) (fun y => lane (Z t) (2304 + y)) l
    = spread 96 (kf Z Gk Wk t) (128 * b + l) := by
  rw [sum_wkv, if_pos (by omega), spread, spread, show (128 * b + l) / 128 = b by omega, show (128 * b + l) % 128 = l by omega]
  have z : ∀ y, y < 64 → lane (Z t) (2304 + y) = 0 := fun y hy => by unfold lane; simp (disch := omega) only [if_pos, if_neg]
  have s : ∀ y, 64 ≤ y → y < 96 → lane (Z t) (2304 + y) = Z t (1344 + y) := fun y h1 h2 => by
    unfold lane; simp (disch := omega) only [if_pos, if_neg]; exact congrArg (Z t) (by omega)
  by_cases q : l < 64
  · rw [if_pos q, if_pos (by omega), kf, if_pos q, turn, if_pos q, z l q, add_zero]; rfl
  by_cases q2 : l < 96
  · rw [if_neg q, if_pos q2, kf, if_neg q, zero_add, kt, turn, turn, if_neg q, if_neg q]
    split_ifs with q3
    · rw [s l (by omega) (by omega), s (l + 16) (by omega) (by omega)]
    · rw [s l (by omega) (by omega), s (l - 16) (by omega) (by omega)]
  · rw [if_neg q, if_neg q2, turn_out _ _ _ _ (by omega), zero_add]
end Cert.Mla

open Cert.MlaPrepFwdIdeal Cert.MlaPrepFwdIdeal.Gen
namespace Cert.MlaPrepFwdIdeal.Blocks
variable (X : ℕ → ℕ → ℝ) (g : ℕ → ℝ) (W : ℕ → ℕ → ℝ) (cs sn u : ℕ → ℕ → ℝ) (P R : ℕ → ℕ → ℝ)
theorem pay3_eq : (k0_pay3 (F := Ideal) (nm u) : Vec Ideal S1024x128 .f32) = nm u := shapeCast_self _ _
theorem pay4_eq : (k0_pay4 (F := Ideal) (nm u) : Vec Ideal S1024x128 .f32) = nm u := shapeCast_self _ _
theorem pay5_eq : (k0_pay5 (F := Ideal) (nm u) : Vec Ideal S1024x128 .f32) = nm u := shapeCast_self _ _
theorem pay8_eq : (k0_pay8 (F := Ideal) (nm u) : Vec Ideal S1024x256 .f32) = nm u := shapeCast_self _ _
theorem pay6_eq : (k0_pay6 (F := Ideal) (nm X) (nc fun _ _ l => g l) : Vec Ideal S1024x384 .bf16) = nm fun r l => X r l * rs 384 X r * g l := by
  funext j; idx_vars j; pointwise [k0_pay6]
  simp only [nm_apply, nc_apply, ofBits_384, ofBits_eps, ← EReal.coe_mul, sum_coe, div_384, ← EReal.coe_add]
  have h := ms_pos 384 X j0.val
  simp only [ms, Nat.cast_ofNat] at h
  rw [rsqrt_coe _ h]
  simp only [rs, ms, Nat.cast_ofNat, ← EReal.coe_mul]
theorem pay7_eq : (k0_pay7 (F := Ideal) (nm X) (nc fun _ _ l => g l) (nc fun _ => W) : Vec Ideal S1024x768 .f32)
    = nm fun r k => ∑ a : Fin 384, X r a.val * rs 384 X r * g a.val * W a.val k := by
  unfold k0_pay7; dsimp only; rw [pay6_eq]
  funext j; idx_vars j; pointwise []
  simp only [nm_apply, nc_apply, ofBits_zero, ← EReal.coe_mul, sum_coe, ← EReal.coe_add, zero_add]
theorem pay9_eq : (k0_pay9 (F := Ideal) (nm X) : Vec Ideal S1024x1 .f32) = nm fun r _ => (∑ k : Fin 256, X r k.val * X r k.val) / 256 := by
  unfold k0_pay9; dsimp only; rw [pay8_eq]
  funext j; idx_vars j; pointwise []
  simp only [nm_apply, ofBits_256, ← EReal.coe_mul, sum_coe, div_256]
theorem pay10_eq : (k0_pay10 (F := Ideal) (k0_pay8 (nm X)) (k0_pay9 (nm X)) (nc fun _ _ l => g l) : Vec Ideal S1024x256 .bf16) = nm fun r l => X r l * rs 256 X r * g l := by
  rw [pay8_eq, pay9_eq]
  funext j; idx_vars j; pointwise [k0_pay10]
  simp only [nm_apply, nc_apply, ofBits_eps, ← EReal.coe_add]
  have h := ms_pos 256 X j0.val
  simp only [ms, Nat.cast_ofNat] at h
  rw [rsqrt_coe _ h]
  simp only [rs, ms, Nat.cast_ofNat, ← EReal.coe_mul]
theorem pay11_eq : (k0_pay11 (F := Ideal) (k0_pay8 (nm X)) (k0_pay9 (nm X)) (nc fun _ _ l => g l) (nc fun _ => W) : Vec Ideal S1024x1152 .f32)
    = nm fun r k => ∑ a : Fin 256, X r a.val * rs 256 X r * g a.val * W a.val k := by
  unfold k0_pay11; dsimp only; rw [pay10_eq]
  funext j; idx_vars j; pointwise []
  simp only [nm_apply, nc_apply, ofBits_zero, ← EReal.coe_mul, sum_coe, ← EReal.coe_add, zero_add]
theorem pay12_eq : (k0_pay12 (F := Ideal) (nm fun r => tc (cs r)) (nm fun r => tb (sn r)) (nm fun r => ta (sn r)) (nm u) : Vec Ideal S1024x128 .f32)
    = nm fun r => turn (cs r) (sn r) (u r) := by
  funext j; idx_vars j; pointwise [k0_pay12]
  simp only [nm_apply, ← EReal.coe_mul, ← EReal.coe_add]
  rw [← turn_lanes _ _ _ _ j1.isLt]
/-- The turned and scaled queries of the heads but one, and the keys of the heads but the first. -/
theorem pays_q : (k0_pay13 (F := Ideal) (nm fun r => tc (cs r)) (nm fun r => tb (sn r)) (nm fun r => ta (sn r)) (nm P) : Vec Ideal S1024x128 .bf16) = nm (fun r l => turn (cs r) (sn r) (fun y => P r (0 + y)) l * att2) ∧
    (k0_pay15 (F := Ideal) (nm fun r => tc (cs r)) (nm fun r => tb (sn r)) (nm fun r => ta (sn r)) (nm P) : Vec Ideal S1024x128 .bf16) = nm (fun r l => turn (cs r) (sn r) (fun y => P r (128 + y)) l * att2) ∧
    (k0_pay17 (F := Ideal) (nm fun r => tc (cs r)) (nm fun r => tb (sn r)) (nm fun r => ta (sn r)) (nm P) : Vec Ideal S1024x128 .bf16) = nm (fun r l => turn (cs r) (sn r) (fun y => P r (256 + y)) l * att2) ∧
    (k0_pay23 (F := Ideal) (nm fun r => tc (cs r)) (nm fun r => tb (sn r)) (nm fun r => ta (sn r)) (nm P) : Vec Ideal S1024x128 .bf16) = nm (fun r l => turn (cs r) (sn r) (fun y => P r (512 + y)) l * att2) ∧
    (k0_pay25 (F := Ideal) (nm fun r => tc (cs r)) (nm fun r => tb (sn r)) (nm fun r => ta (sn r)) (nm P) : Vec Ideal S1024x128 .bf16) = nm (fun r l => turn (cs r) (sn r) (fun y => P r (640 + y)) l * att2) := by
  refine ⟨?_, ?_, ?_, ?_, ?_⟩
  all_goals
    funext j; idx_vars j; pointwise [k0_pay13, k0_pay15, k0_pay17, k0_pay23, k0_pay25]
    simp only [nm_apply, ofBits_att2, ← EReal.coe_mul, ← EReal.coe_add]
    rw [← turn_lanes _ _ _ _ j1.isLt]
theorem pay21_eq : (k0_pay21 (F := Ideal) (nm fun r => ta (sn r)) (k0_pay19 (nm P)) (k0_pay20 (nm fun r => tc (cs r)) (nm fun r => tb (sn r)) (nm P)) 16#32 : Vec Ideal S1024x128 .bf16)
    = nm fun r l => turn (cs r) (sn r) (fun y => P r (384 + y)) l * att2 := by
  funext j; idx_vars j; pointwise [k0_pay21, k0_pay20, k0_pay19]
  simp only [nm_apply, ofBits_att2, ← EReal.coe_mul, ← EReal.coe_add]
  rw [← turn_lanes _ _ _ _ j1.isLt]
theorem pays_k : (k0_pay16 (F := Ideal) (nm P) (nm R) : Vec Ideal S1024x128 .bf16) = nm (fun r l => P r (128 + l) + R r l) ∧
    (k0_pay18 (F := Ideal) (nm P) (nm R) : Vec Ideal S1024x128 .bf16) = nm (fun r l => P r (256 + l) + R r l) ∧
    (k0_pay22 (F := Ideal) (nm P) (nm R) : Vec Ideal S1024x128 .bf16) = nm (fun r l => P r (384 + l) + R r l) ∧
    (k0_pay24 (F := Ideal) (nm P) (nm R) : Vec Ideal S1024x128 .bf16) = nm (fun r l => P r (512 + l) + R r l) ∧
    (k0_pay1 (F := Ideal) (nm P) (nm R) : Vec Ideal S1024x128 .bf16) = nm (fun r l => P r (640 + l) + R r l) := by
  refine ⟨?_, ?_, ?_, ?_, ?_⟩
  all_goals
    funext j; idx_vars j; pointwise [k0_pay16, k0_pay18, k0_pay22, k0_pay24, k0_pay1]
    simp only [nm_apply, ← EReal.coe_add]
theorem pay2_eq : (k0_pay2 (F := Ideal) (nm P) : Vec Ideal S1024x384 .bf16) = nm fun r l => P r (768 + l) := by
  funext j; idx_vars j; pointwise [k0_pay2]
  simp only [nm_apply]
theorem pay14_eq (v1 v3 v5 v28 v33 v39 v45 v48) (h : k0_pay11 (F := Ideal) v28 v33 v39 v45 = nm P) (h' : k0_pay12 (F := Ideal) v1 v3 v5 v48 = nm R) :
    (k0_pay14 (F := Ideal) v1 v3 v5 v28 v33 v39 v45 v48 : Vec Ideal S1024x128 .bf16) = nm fun r l => P r (0 + l) + R r l := by
  unfold k0_pay14; dsimp only; rw [h, h']
  funext j; idx_vars j; pointwise []
  simp only [nm_apply, ← EReal.coe_add, Nat.zero_add]
/-- Six blocks of columns, stored side by side. -/
theorem six (T : ℕ → ℕ → ℝ) (w0 w1 w2 w3 w4 w5 : Vec Ideal S1024x128 .bf16)
    (h0 : w0 = nm fun r l => T r (0 + l)) (h1 : w1 = nm fun r l => T r (128 + l)) (h2 : w2 = nm fun r l => T r (256 + l))
    (h3 : w3 = nm fun r l => T r (384 + l)) (h4 : w4 = nm fun r l => T r (512 + l)) (h5 : w5 = nm fun r l => T r (640 + l)) :
    View.canon [(⟨Rect.unit ![0, 640] ![1024, 128] inb_S1024x768_S1024x128_0_640, w5⟩ : View.Piece (Elt Ideal) S1024x768 .bf16),
      ⟨Rect.unit ![0, 512] ![1024, 128] inb_S1024x768_S1024x128_0_512, w4⟩,
      ⟨Rect.unit ![0, 384] ![1024, 128] inb_S1024x768_S1024x128_0_384, w3⟩,
      ⟨Rect.unit ![0, 256] ![1024, 128] inb_S1024x768_S1024x128_0_256, w2⟩,
      ⟨Rect.unit ![0, 128] ![1024, 128] inb_S1024x768_S1024x128_0_128, w1⟩,
      ⟨Rect.unit ![0, 0] ![1024, 128] inb_S1024x768_S1024x128_0_0, w0⟩] = (nm T : Vec Ideal S1024x768 .bf16) := by
  have e := Cert.MlaPrepBwdIdeal.Blocks.cols6 T (View.whole Cert.MlaPrepBwdIdeal.cc0_scratch0) w0 w1 w2 w3 w4 w5 h0 h1 h2 h3 h4 h5
  rw [View.readCov_eq_canon'] at e
  funext y
  refine Eq.trans (congrArg _ ?_) (congrFun e y)
  funext a
  refine Fin.ext ?_
  match a with
  | ⟨0, _⟩ => show (y 0).val = 0 + 1 * (y 0).val; omega
  | ⟨1, _⟩ => show (y 1).val = 0 + 1 * (y 1).val; omega

variable (m : (ℓ : Loc nD τ sig) → Buf (Elt Ideal) ℓ) (c : Dev nD)
/-- The buffers before the last stretch of host lines. -/
abbrev base := StableHlo.after hostOps0_3 (StableHlo.after hostOps0_2 (StableHlo.after hostOps0_1 (StableHlo.after hostOps0 (fun b => m (c, b)))))
theorem idx0 : ∀ t : Fin grid0.N, win0_0.index t = ![t.val, 2] := by decide +kernel
theorem idx1 : ∀ t : Fin grid0.N, win0_1.index t = ![t.val, 6] := by decide +kernel
theorem idx2 : ∀ t : Fin grid0.N, win0_2.index t = ![t.val, 18] := by decide +kernel
theorem idx3 : ∀ t : Fin grid0.N, win0_3.index t = ![1, 0, 0] := by decide +kernel
theorem idx4 : ∀ t : Fin grid0.N, win0_4.index t = ![1, 0, 0] := by decide +kernel
theorem idx5 : ∀ t : Fin grid0.N, win0_5.index t = ![1, 0, 0] := by decide +kernel
theorem idx6 : ∀ t : Fin grid0.N, win0_6.index t = ![1, 0, 0] := by decide +kernel
theorem idx7 : ∀ t : Fin grid0.N, win0_7.index t = ![t.val, 0] := by decide +kernel
theorem idx8 : ∀ t : Fin grid0.N, win0_8.index t = ![t.val, 0] := by decide +kernel
theorem idx9 : ∀ t : Fin grid0.N, win0_9.index t = ![t.val, 0] := by decide +kernel
theorem idx10 : ∀ t : Fin grid0.N, win0_10.index t = ![t.val, 0] := by decide +kernel
theorem idx11 : ∀ t : Fin grid0.N, win0_11.index t = ![t.val, 0] := by decide +kernel
theorem idx12 : ∀ t : Fin grid0.N, win0_12.index t = ![t.val, 0] := by decide +kernel
theorem idx13 : ∀ t : Fin grid0.N, win0_13.index t = ![t.val, 0] := by decide +kernel
theorem idx14 : ∀ t : Fin grid0.N, win0_14.index t = ![t.val, 0] := by decide +kernel
variable (Z Gq Gk : ℕ → ℕ → ℝ) (Wq Wk : ℕ → ℕ → ℕ → ℝ)
set_option maxHeartbeats 4000000 in
theorem lanes (h : m ((c : Thread nD τ).loc main_arg0) = nm Z): (V m c main_v13 : Vec Ideal S8192x2432 .f32) = nm fun a => lane (Z a) := by
  show (StableHlo.after [hostOps0, hostOps0_1, hostOps0_2, hostOps0_3, hostOps0_4].flatten (fun b => m (c, b)) (Proc.devRef .tc main_v13) : Vec Ideal S8192x2432 .f32) = _
  simp only [List.flatten_cons, List.flatten_nil, List.append_nil, StableHlo.after_append]
  after_reads_simp
  have h' : m (c, Proc.tc.devRef main_arg0) = (nm Z : FVec Ideal S8192x2336 .f32) := h
  refine cat2 Z _ _ _ _ _ _ _ _ _ _
    concatenates_S8192x584_S8192x568_S8192x312_S8192x72_S8192x16_S8192x240_S8192x512_S8192x64_S8192x32_S8192x32_S8192x2432_d1
    (show StableHlo.upto hostOps0 (fun b => m (c, b)) 15 (Proc.tc.devRef main_v0) = _ from ?_)
    (show StableHlo.upto hostOps0 (fun b => m (c, b)) 15 (Proc.tc.devRef main_v4) = _ from ?_)
    (show StableHlo.upto hostOps0 (fun b => m (c, b)) 15 (Proc.tc.devRef main_v5) = _ from ?_)
    (show StableHlo.upto hostOps0 (fun b => m (c, b)) 15 (Proc.tc.devRef main_v6) = _ from ?_)
    (show StableHlo.upto hostOps0 (fun b => m (c, b)) 15 (Proc.tc.devRef main_v7) = _ from ?_)
    (show StableHlo.upto hostOps0 (fun b => m (c, b)) 15 (Proc.tc.devRef main_v8) = _ from ?_)
    (show StableHlo.upto hostOps0 (fun b => m (c, b)) 15 (Proc.tc.devRef main_v9) = _ from ?_)
    (show StableHlo.upto hostOps0 (fun b => m (c, b)) 15 (Proc.tc.devRef main_v10) = _ from ?_)
    (show StableHlo.upto hostOps0 (fun b => m (c, b)) 15 (Proc.tc.devRef main_v11) = _ from ?_)
    (show StableHlo.upto hostOps0 (fun b => m (c, b)) 15 (Proc.tc.devRef main_v12) = _ from ?_)
  all_goals
    after_reads_simp
    funext j; idx_vars j; pointwise []
    first
    | (rw [h', nm_apply, nm_apply]; done)
    | rw [h', nm_apply, nm_apply]; exact congrArg (fun z : ℕ => ((Z j0.val z : ℝ) : EReal)) (by dsimp only; omega)
    | rw [nm_apply, EReal.coe_zero]
set_option maxHeartbeats 4000000 in
theorem wqs (h : m ((c : Thread nD τ).loc main_arg3) = nc Wq) : (V m c main_v19 : Vec Ideal S4x384x768 .bf16) = nc fun l => wq (Wq l) := by
  show (StableHlo.after [hostOps0, hostOps0_1, hostOps0_2, hostOps0_3, hostOps0_4].flatten (fun b => m (c, b)) (Proc.devRef .tc main_v19) : Vec Ideal S4x384x768 .bf16) = _
  simp only [List.flatten_cons, List.flatten_nil, List.append_nil, StableHlo.after_append]
  after_reads_simp
  have h' : m (c, Proc.tc.devRef main_arg3) = (nc Wq : FVec Ideal S4x384x576 .f32) := h
  rw [h']
  exact pad4q Wq shapeCasts_S4x384x576_S4x384x6x96 pads_S4x384x6x96_S4x384x6x128_000_000_000_0320 h_S_ shapeCasts_S4x384x6x128_S4x384x768
set_option maxHeartbeats 4000000 in
theorem wks (h : m ((c : Thread nD τ).loc main_arg4) = nc Wk) : (V m c main_v27 : Vec Ideal S4x256x1152 .bf16) = nc fun l => wkv (Wk l) := by
  show (StableHlo.after [hostOps0, hostOps0_1, hostOps0_2, hostOps0_3, hostOps0_4].flatten (fun b => m (c, b)) (Proc.devRef .tc main_v27) : Vec Ideal S4x256x1152 .bf16) = _
  simp only [List.flatten_cons, List.flatten_nil, List.append_nil, StableHlo.after_append]
  after_reads_simp
  have h' : m (c, Proc.tc.devRef main_arg4) = (nc Wk : FVec Ideal S4x256x768 .f32) := h
  refine catw Wk _ _ concatenates_S4x256x768_S4x256x384_S4x256x1152_d2 ?_ ?_
  · show StableHlo.upto hostOps0_4 (base m c) 3 (Proc.tc.devRef main_v23) = _
    unfold base; after_reads_simp
    rw [h']
    exact pad4k Wk shapeCasts_S4x256x768_S4x256x6x128 slices_S4x256x6x128_S4x256x6x64_0_0_0_0 pads_S4x256x6x64_S4x256x6x128_000_000_000_0640 h_S_ shapeCasts_S4x256x6x128_S4x256x768
  · show StableHlo.upto hostOps0_4 (base m c) 3 (Proc.tc.devRef main_v25) = _
    unfold base; after_reads_simp
    rw [h']
    exact vals Wk shapeCasts_S4x256x768_S4x256x6x128 slices_S4x256x6x128_S4x256x6x64_0_0_0_64 shapeCasts_S4x256x6x64_S4x256x384
set_option maxHeartbeats 4000000 in
theorem cosines : (V m c main_v50 : Vec Ideal S8192x128 .f32) = nm fun t => tc (cst t) := by
  show (StableHlo.after [hostOps0, hostOps0_1, hostOps0_2, hostOps0_3, hostOps0_4].flatten (fun b => m (c, b)) (Proc.devRef .tc main_v50) : Vec Ideal S8192x128 .f32) = _
  simp only [List.flatten_cons, List.flatten_nil, List.append_nil, StableHlo.after_append]
  after_reads_simp
  refine catc _ _ _ _ concatenates_S8192x64_S8192x16_S8192x16_S8192x32_S8192x128_d1 ?_ ?_ ?_ ?_
  · show StableHlo.upto hostOps0_4 (base m c) 35 (Proc.tc.devRef main_v46) = _
    unfold base; after_reads_simp
    funext j; idx_vars j; pointwise []
    simp only [nm_apply, ofBits_zero, ofBits_one, EReal.coe_zero, EReal.coe_one]
  · show StableHlo.upto hostOps0_4 (base m c) 35 (Proc.tc.devRef main_v44) = _
    unfold base; after_reads_simp
    exact (congrArg Host.cos (angles_eq _ _ _ _ _ _ _ _)).trans cos_eq
  · show StableHlo.upto hostOps0_4 (base m c) 35 (Proc.tc.devRef main_v44) = _
    unfold base; after_reads_simp
    exact (congrArg Host.cos (angles_eq _ _ _ _ _ _ _ _)).trans cos_eq
  · show StableHlo.upto hostOps0_4 (base m c) 35 (Proc.tc.devRef main_v49) = _
    unfold base; after_reads_simp
    funext j; idx_vars j; pointwise []
    simp only [nm_apply, ofBits_zero, ofBits_one, EReal.coe_zero, EReal.coe_one]
set_option maxHeartbeats 4000000 in
theorem below : (V m c main_v52 : Vec Ideal S8192x128 .f32) = nm fun t => tb (snt t) := by
  show (StableHlo.after [hostOps0, hostOps0_1, hostOps0_2, hostOps0_3, hostOps0_4].flatten (fun b => m (c, b)) (Proc.devRef .tc main_v52) : Vec Ideal S8192x128 .f32) = _
  simp only [List.flatten_cons, List.flatten_nil, List.append_nil, StableHlo.after_append]
  after_reads_simp
  refine catb _ _ _ _ concatenates_S8192x64_S8192x16_S8192x16_S8192x32_S8192x128_d1 ?_ ?_ ?_ ?_
  · show StableHlo.upto hostOps0_4 (base m c) 37 (Proc.tc.devRef main_v47) = _
    unfold base; after_reads_simp
    funext j; idx_vars j; pointwise []
    simp only [nm_apply, ofBits_zero, ofBits_one, EReal.coe_zero, EReal.coe_one]
  · show StableHlo.upto hostOps0_4 (base m c) 37 (Proc.tc.devRef main_v51) = _
    unfold base; after_reads_simp
    refine (congrArg (fun v => Host.negf (Host.sin v)) (angles_eq _ _ _ _ _ _ _ _)).trans ?_
    rw [sin_eq]; funext j; idx_vars j; pointwise []
    simp only [nm_apply, ← EReal.coe_neg]
  · show StableHlo.upto hostOps0_4 (base m c) 37 (Proc.tc.devRef main_v48) = _
    unfold base; after_reads_simp
    funext j; idx_vars j; pointwise []
    simp only [nm_apply, ofBits_zero, ofBits_one, EReal.coe_zero, EReal.coe_one]
  · show StableHlo.upto hostOps0_4 (base m c) 37 (Proc.tc.devRef main_v49) = _
    unfold base; after_reads_simp
    funext j; idx_vars j; pointwise []
    simp only [nm_apply, ofBits_zero, ofBits_one, EReal.coe_zero, EReal.coe_one]
set_option maxHeartbeats 4000000 in
theorem above : (V m c main_v53 : Vec Ideal S8192x128 .f32) = nm fun t => ta (snt t) := by
  show (StableHlo.after [hostOps0, hostOps0_1, hostOps0_2, hostOps0_3, hostOps0_4].flatten (fun b => m (c, b)) (Proc.devRef .tc main_v53) : Vec Ideal S8192x128 .f32) = _
  simp only [List.flatten_cons, List.flatten_nil, List.append_nil, StableHlo.after_append]
  after_reads_simp
  refine cata _ _ _ _ concatenates_S8192x64_S8192x16_S8192x16_S8192x32_S8192x128_d1 ?_ ?_ ?_ ?_
  · show StableHlo.upto hostOps0_4 (base m c) 38 (Proc.tc.devRef main_v47) = _
    unfold base; after_reads_simp
    funext j; idx_vars j; pointwise []
    simp only [nm_apply, ofBits_zero, ofBits_one, EReal.coe_zero, EReal.coe_one]
  · show StableHlo.upto hostOps0_4 (base m c) 38 (Proc.tc.devRef main_v48) = _
    unfold base; after_reads_simp
    funext j; idx_vars j; pointwise []
    simp only [nm_apply, ofBits_zero, ofBits_one, EReal.coe_zero, EReal.coe_one]
  · show StableHlo.upto hostOps0_4 (base m c) 38 (Proc.tc.devRef main_v45) = _
    unfold base; after_reads_simp
    exact (congrArg Host.sin (angles_eq _ _ _ _ _ _ _ _)).trans sin_eq
  · show StableHlo.upto hostOps0_4 (base m c) 38 (Proc.tc.devRef main_v49) = _
    unfold base; after_reads_simp
    funext j; idx_vars j; pointwise []
    simp only [nm_apply, ofBits_zero, ofBits_one, EReal.coe_zero, EReal.coe_one]
theorem X0 (h : m ((c : Thread nD τ).loc main_arg0) = nm Z) (t : Fin cfg0.N) : (X0_0 m c t : Vec Ideal S1024x384 .f32) = nm fun r l => Z (1024 * t.val + r) (768 + l) := by
  funext j; idx_vars j
  rw [nm_apply]
  have ht : t.val < 8 := t.isLt
  unfold X0_0 Pipeline.Window.fill
  rw [dif_pos (moved0_0 t _)]
  have e : ∀ h : ∀ a, (ix2 j0 j1 a).val < (win0_0.xblock (grid0.coords t)).size a, (win0_0.blk t).view.emb (fun a => ⟨(ix2 j0 j1 a).val, h a⟩)
      = ix2 ⟨1024 * t.val + j0.val, by omega⟩ ⟨768 + j1.val, by omega⟩ := by intro h; blk_ext [idx0 t]
  have e2 : (V m c main_v13 : Vec Ideal S8192x2432 .f32) (ix2 ⟨1024 * t.val + j0.val, by omega⟩ ⟨768 + j1.val, by omega⟩)
      = ((Z (1024 * t.val + j0.val) (768 + j1.val) : ℝ) : EReal) := by
    rw [lanes m c Z h, nm_apply]
    unfold lane
    simp (disch := omega) only [if_pos, if_neg]
  rw [← e fun a => (Pipeline.Window.moved_iff _ _ _).mp (moved0_0 t (ix2 j0 j1)) a] at e2
  exact e2
theorem X1 (h : m ((c : Thread nD τ).loc main_arg0) = nm Z) (t : Fin cfg0.N) : (X0_1 m c t : Vec Ideal S1024x256 .f32) = nm fun r l => Z (1024 * t.val + r) (1152 + l) := by
  funext j; idx_vars j
  rw [nm_apply]
  have ht : t.val < 8 := t.isLt
  unfold X0_1 Pipeline.Window.fill
  rw [dif_pos (moved0_1 t _)]
  have e : ∀ h : ∀ a, (ix2 j0 j1 a).val < (win0_1.xblock (grid0.coords t)).size a, (win0_1.blk t).view.emb (fun a => ⟨(ix2 j0 j1 a).val, h a⟩)
      = ix2 ⟨1024 * t.val + j0.val, by omega⟩ ⟨1536 + j1.val, by omega⟩ := by intro h; blk_ext [idx1 t]
  have e2 : (V m c main_v13 : Vec Ideal S8192x2432 .f32) (ix2 ⟨1024 * t.val + j0.val, by omega⟩ ⟨1536 + j1.val, by omega⟩)
      = ((Z (1024 * t.val + j0.val) (1152 + j1.val) : ℝ) : EReal) := by
    rw [lanes m c Z h, nm_apply]
    unfold lane
    simp (disch := omega) only [if_pos, if_neg]
    rw [show 1536 + j1.val - 384 = 1152 + j1.val by omega]
  rw [← e fun a => (Pipeline.Window.moved_iff _ _ _).mp (moved0_1 t (ix2 j0 j1)) a] at e2
  exact e2
theorem iblk2 (h : m ((c : Thread nD τ).loc main_arg0) = nm Z) (t : Fin cfg0.N) : (iblk m c 2 t : Vec Ideal S1024x128 .f32) = nm fun r y => lane (Z (1024 * t.val + r)) (2304 + y) := by
  funext j; idx_vars j
  rw [nm_apply]
  have ht : t.val < 8 := t.isLt
  have e : (win0_2.blk t).view.emb (ix2 j0 j1) = ix2 ⟨1024 * t.val + j0.val, by omega⟩ ⟨2304 + j1.val, by omega⟩ := by blk_ext [idx2 t]
  blk_simp [iblk, e]
  rw [lanes m c Z h]; rfl
theorem iblk3 (h : m ((c : Thread nD τ).loc main_arg1) = nm Gq) (t : Fin cfg0.N) : (iblk m c 3 t : Vec Ideal S1x1x384 .f32) = nc fun _ _ l => Gq 1 l := by
  funext j; idx_vars j
  rw [nc_apply]
  have e : (win0_3.blk t).view.emb (ix3 j0 j1 j2) = ix3 ⟨1, by omega⟩ 0 j2 := by blk_ext [idx3 t]
  blk_simp [iblk, e]
  entry_read
  simp only [List.flatten_cons, List.flatten_nil, List.append_nil, StableHlo.after_append]; after_reads_simp; pointwise []
  change m ((c : Thread nD τ).loc main_arg1) _ = _
  rw [h]; rfl
theorem iblk4 (h : m ((c : Thread nD τ).loc main_arg2) = nm Gk) (t : Fin cfg0.N) : (iblk m c 4 t : Vec Ideal S1x1x256 .f32) = nc fun _ _ l => Gk 1 l := by
  funext j; idx_vars j
  rw [nc_apply]
  have e : (win0_4.blk t).view.emb (ix3 j0 j1 j2) = ix3 ⟨1, by omega⟩ 0 j2 := by blk_ext [idx4 t]
  blk_simp [iblk, e]
  entry_read
  simp only [List.flatten_cons, List.flatten_nil, List.append_nil, StableHlo.after_append]; after_reads_simp; pointwise []
  change m ((c : Thread nD τ).loc main_arg2) _ = _
  rw [h]; rfl
theorem iblk5 (h : m ((c : Thread nD τ).loc main_arg3) = nc Wq) (t : Fin cfg0.N) : (iblk m c 5 t : Vec Ideal S1x384x768 .bf16) = nc fun _ => wq (Wq 1) := by
  funext j; idx_vars j
  rw [nc_apply]
  have e : (win0_5.blk t).view.emb (ix3 j0 j1 j2) = ix3 ⟨1, by omega⟩ j1 j2 := by blk_ext [idx5 t]
  blk_simp [iblk, e]
  rw [wqs m c Wq h]; rfl
theorem iblk6 (h : m ((c : Thread nD τ).loc main_arg4) = nc Wk) (t : Fin cfg0.N) : (iblk m c 6 t : Vec Ideal S1x256x1152 .bf16) = nc fun _ => wkv (Wk 1) := by
  funext j; idx_vars j
  rw [nc_apply]
  have e : (win0_6.blk t).view.emb (ix3 j0 j1 j2) = ix3 ⟨1, by omega⟩ j1 j2 := by blk_ext [idx6 t]
  blk_simp [iblk, e]
  rw [wks m c Wk h]; rfl
theorem iblk7 (t : Fin cfg0.N) : (iblk m c 7 t : Vec Ideal S1024x128 .f32) = nm fun r => tc (cst (1024 * t.val + r)) := by
  funext j; idx_vars j
  rw [nm_apply]
  have ht : t.val < 8 := t.isLt
  have e : (win0_7.blk t).view.emb (ix2 j0 j1) = ix2 ⟨1024 * t.val + j0.val, by omega⟩ j1 := by blk_ext [idx7 t]
  blk_simp [iblk, e]
  rw [cosines m c]; rfl
theorem iblk8 (t : Fin cfg0.N) : (iblk m c 8 t : Vec Ideal S1024x128 .f32) = nm fun r => tb (snt (1024 * t.val + r)) := by
  funext j; idx_vars j
  rw [nm_apply]
  have ht : t.val < 8 := t.isLt
  have e : (win0_8.blk t).view.emb (ix2 j0 j1) = ix2 ⟨1024 * t.val + j0.val, by omega⟩ j1 := by blk_ext [idx8 t]
  blk_simp [iblk, e]
  rw [below m c]; rfl
theorem iblk9 (t : Fin cfg0.N) : (iblk m c 9 t : Vec Ideal S1024x128 .f32) = nm fun r => ta (snt (1024 * t.val + r)) := by
  funext j; idx_vars j
  rw [nm_apply]
  have ht : t.val < 8 := t.isLt
  have e : (win0_9.blk t).view.emb (ix2 j0 j1) = ix2 ⟨1024 * t.val + j0.val, by omega⟩ j1 := by blk_ext [idx9 t]
  blk_simp [iblk, e]
  rw [above m c]; rfl
variable (hZ : m ((c : Thread nD τ).loc main_arg0) = nm Z) (hGq : m ((c : Thread nD τ).loc main_arg1) = nm Gq) (hGk : m ((c : Thread nD τ).loc main_arg2) = nm Gk)
  (hWq : m ((c : Thread nD τ).loc main_arg3) = nc Wq) (hWk : m ((c : Thread nD τ).loc main_arg4) = nc Wk)
include hZ hGq hWq in
set_option maxHeartbeats 4000000 in
theorem final10 : (dats m 0 c).arrAt 10 cfg0.N = nm (fun t => spread 96 (qf Z Gq Wq t)) := by
  refine (dats m 0 c).arrAt_eq_of_covers 10 _ (by decide +kernel) fun t hf y => ?_
  blk_simp
  rw [after0_10]
  have key : ∀ y, (nm fun r => (fun t => spread 96 (qf Z Gq Wq t)) (1024 * t.val + r) : Vec Ideal S1024x768 .bf16) y = nm (fun t => spread 96 (qf Z Gq Wq t)) ((win0_10.blk t).view.emb y) := by
    intro y
    idx_vars y
    have ht : t.val < 8 := t.isLt
    have e : (win0_10.blk t).view.emb (ix2 y0 y1) = ix2 ⟨1024 * t.val + y0.val, by omega⟩ y1 := by blk_ext [idx10 t]
    rw [e, nm_apply, nm_apply]
  unfold outsAt0; dsimp only
  frame_out
  rw [X0 m c Z hZ, iblk3 m c Gq hGq, iblk5 m c Wq hWq, iblk7, iblk8, iblk9, pay3_eq, pay4_eq, pay5_eq, pay7_eq]
  refine (congrFun (six (fun r => spread 96 (qf Z Gq Wq (1024 * t.val + r))) _ _ _ _ _ _ ?_ ?_ ?_ ?_ ?_ ?_) y).trans (key y)
  · refine (pays_q _ _ _).1.trans ?_
    funext j; idx_vars j
    exact congrArg (fun r : ℝ => (r : EReal)) (q_lanes Z Gq Wq (1024 * t.val + j0.val) 0 j1.val j1.isLt)
  · refine (pays_q _ _ _).2.1.trans ?_
    funext j; idx_vars j
    exact congrArg (fun r : ℝ => (r : EReal)) (q_lanes Z Gq Wq (1024 * t.val + j0.val) 1 j1.val j1.isLt)
  · refine (pays_q _ _ _).2.2.1.trans ?_
    funext j; idx_vars j
    exact congrArg (fun r : ℝ => (r : EReal)) (q_lanes Z Gq Wq (1024 * t.val + j0.val) 2 j1.val j1.isLt)
  · refine (pay21_eq _ _ _).trans ?_
    funext j; idx_vars j
    exact congrArg (fun r : ℝ => (r : EReal)) (q_lanes Z Gq Wq (1024 * t.val + j0.val) 3 j1.val j1.isLt)
  · refine (pays_q _ _ _).2.2.2.1.trans ?_
    funext j; idx_vars j
    exact congrArg (fun r : ℝ => (r : EReal)) (q_lanes Z Gq Wq (1024 * t.val + j0.val) 4 j1.val j1.isLt)
  · refine (pays_q _ _ _).2.2.2.2.trans ?_
    funext j; idx_vars j
    exact congrArg (fun r : ℝ => (r : EReal)) (q_lanes Z Gq Wq (1024 * t.val + j0.val) 5 j1.val j1.isLt)

include hZ hGk hWk in
set_option maxHeartbeats 4000000 in
theorem final11 : (dats m 0 c).arrAt 11 cfg0.N = nm (fun t => spread 96 (kf Z Gk Wk t)) := by
  refine (dats m 0 c).arrAt_eq_of_covers 11 _ (by decide +kernel) fun t hf y => ?_
  blk_simp
  rw [after0_11]
  have key : ∀ y, (nm fun r => (fun t => spread 96 (kf Z Gk Wk t)) (1024 * t.val + r) : Vec Ideal S1024x768 .bf16) y = nm (fun t => spread 96 (kf Z Gk Wk t)) ((win0_11.blk t).view.emb y) := by
    intro y
    idx_vars y
    have ht : t.val < 8 := t.isLt
    have e : (win0_11.blk t).view.emb (ix2 y0 y1) = ix2 ⟨1024 * t.val + y0.val, by omega⟩ y1 := by blk_ext [idx11 t]
    rw [e, nm_apply, nm_apply]
  frame_out
  rw [X1 m c Z hZ, iblk2 m c Z hZ, iblk4 m c Gk hGk, iblk6 m c Wk hWk, iblk7, iblk8, iblk9, pay3_eq, pay4_eq, pay5_eq, pay11_eq, pay12_eq]
  refine (congrFun (six (fun r => spread 96 (kf Z Gk Wk (1024 * t.val + r))) _ _ _ _ _ _ ?_ ?_ ?_ ?_ ?_ ?_) y).trans (key y)
  · refine (pay14_eq _ _ _ _ _ _ _ _ _ _ (pay11_eq _ _ _) (pay12_eq _ _ _)).trans ?_
    funext j; idx_vars j
    exact congrArg (fun r : ℝ => (r : EReal)) (k_lanes Z Gk Wk (1024 * t.val + j0.val) 0 j1.val j1.isLt (by norm_num))
  · refine (pays_k _ _).1.trans ?_
    funext j; idx_vars j
    exact congrArg (fun r : ℝ => (r : EReal)) (k_lanes Z Gk Wk (1024 * t.val + j0.val) 1 j1.val j1.isLt (by norm_num))
  · refine (pays_k _ _).2.1.trans ?_
    funext j; idx_vars j
    exact congrArg (fun r : ℝ => (r : EReal)) (k_lanes Z Gk Wk (1024 * t.val + j0.val) 2 j1.val j1.isLt (by norm_num))
  · refine (pays_k _ _).2.2.1.trans ?_
    funext j; idx_vars j
    exact congrArg (fun r : ℝ => (r : EReal)) (k_lanes Z Gk Wk (1024 * t.val + j0.val) 3 j1.val j1.isLt (by norm_num))
  · refine (pays_k _ _).2.2.2.1.trans ?_
    funext j; idx_vars j
    exact congrArg (fun r : ℝ => (r : EReal)) (k_lanes Z Gk Wk (1024 * t.val + j0.val) 4 j1.val j1.isLt (by norm_num))
  · refine (pays_k _ _).2.2.2.2.trans ?_
    funext j; idx_vars j
    exact congrArg (fun r : ℝ => (r : EReal)) (k_lanes Z Gk Wk (1024 * t.val + j0.val) 5 j1.val j1.isLt (by norm_num))

include hZ hGk hWk in
set_option maxHeartbeats 4000000 in
theorem final12 : (dats m 0 c).arrAt 12 cfg0.N = nm (fun t k => kh Z Gk Wk t (k / 64) (64 + k % 64)) := by
  refine (dats m 0 c).arrAt_eq_of_covers 12 _ (by decide +kernel) fun t hf y => ?_
  blk_simp
  rw [after0_12]
  have key : ∀ y, (nm fun r => (fun t k => kh Z Gk Wk t (k / 64) (64 + k % 64)) (1024 * t.val + r) : Vec Ideal S1024x384 .bf16) y = nm (fun t k => kh Z Gk Wk t (k / 64) (64 + k % 64)) ((win0_12.blk t).view.emb y) := by
    intro y
    idx_vars y
    have ht : t.val < 8 := t.isLt
    have e : (win0_12.blk t).view.emb (ix2 y0 y1) = ix2 ⟨1024 * t.val + y0.val, by omega⟩ y1 := by blk_ext [idx12 t]
    rw [e, nm_apply, nm_apply]
  frame_out
  rw [X1 m c Z hZ, iblk4 m c Gk hGk, iblk6 m c Wk hWk, pay11_eq, pay2_eq]
  refine Eq.trans ?_ (key y)
  idx_vars y
  refine congrArg (fun r : ℝ => (r : EReal)) ((sum_wkv 256 (kn Z Gk (1024 * t.val + y0.val)) (Wk 1) (768 + y1.val)).trans ?_)
  rw [if_neg (by omega), Nat.add_sub_cancel_left]; rfl

include hZ hGq in
set_option maxHeartbeats 4000000 in
theorem final13 : (dats m 0 c).arrAt 13 cfg0.N = nm (qn Z Gq) := by
  refine (dats m 0 c).arrAt_eq_of_covers 13 _ (by decide +kernel) fun t hf y => ?_
  blk_simp
  rw [after0_13]
  have key : ∀ y, (nm fun r => (qn Z Gq) (1024 * t.val + r) : Vec Ideal S1024x384 .bf16) y = nm (qn Z Gq) ((win0_13.blk t).view.emb y) := by
    intro y
    idx_vars y
    have ht : t.val < 8 := t.isLt
    have e : (win0_13.blk t).view.emb (ix2 y0 y1) = ix2 ⟨1024 * t.val + y0.val, by omega⟩ y1 := by blk_ext [idx13 t]
    rw [e, nm_apply, nm_apply]
  frame_out
  rw [X0 m c Z hZ, iblk3 m c Gq hGq, pay6_eq]
  exact key y

include hZ hGk in
set_option maxHeartbeats 4000000 in
theorem final14 : (dats m 0 c).arrAt 14 cfg0.N = nm (kn Z Gk) := by
  refine (dats m 0 c).arrAt_eq_of_covers 14 _ (by decide +kernel) fun t hf y => ?_
  blk_simp
  rw [after0_14]
  have key : ∀ y, (nm fun r => (kn Z Gk) (1024 * t.val + r) : Vec Ideal S1024x256 .bf16) y = nm (kn Z Gk) ((win0_14.blk t).view.emb y) := by
    intro y
    idx_vars y
    have ht : t.val < 8 := t.isLt
    have e : (win0_14.blk t).view.emb (ix2 y0 y1) = ix2 ⟨1024 * t.val + y0.val, by omega⟩ y1 := by blk_ext [idx14 t]
    rw [e, nm_apply, nm_apply]
  frame_out
  rw [X1 m c Z hZ, iblk4 m c Gk hGk, pay10_eq]
  exact key y

end Cert.MlaPrepFwdIdeal.Blocks
end
-- ==== Proof.MlaFwdRef.lean ====
/-
  The reference of the normed rows, the products by heads and the rotary turn, by tables of reals.
-/
module
public import proofs.«01_k».proof.Proof.MlaFwdValue
public import proofs.«01_k».proof.Proof.Gen.MlaPrepFwdRefIdeal.Read
@[expose] public section
set_option maxRecDepth 16384
noncomputable section
open Cert.Reals Cert.Tables Cert.Lanes Cert.Mla Idealize.ShloMosaic Idealize.ShloMosaic.TcCoe Idealize.SL.Sem
open Cert.MlaPrepFwdRefIdeal Cert.MlaPrepFwdRefIdeal.Read
namespace Cert.MlaPrepFwdRefIdeal.Stages
variable (Z Gq Gk : ℕ → ℕ → ℝ) (Wq Wk : ℕ → ℕ → ℕ → ℝ)
abbrev aZ : FVec Ideal ⟨2, ![8192, 2336]⟩ .f32 := nm Z
abbrev aGq : FVec Ideal ⟨2, ![4, 384]⟩ .f32 := nm Gq
abbrev aGk : FVec Ideal ⟨2, ![4, 256]⟩ .f32 := nm Gk
abbrev aWq : FVec Ideal ⟨3, ![4, 384, 576]⟩ .f32 := nc Wq
abbrev aWk : FVec Ideal ⟨3, ![4, 256, 768]⟩ .f32 := nc Wk
theorem v16 : (val_main_v16 (F := Ideal) : FVec Ideal S8192x16 .f32) = nm cst :=
  (congrArg (Host.cos (F := Ideal)) (angles_eq _ _ _ _ _ _ _ _)).trans cos_eq
theorem v17 : (val_main_v17 (F := Ideal) : FVec Ideal S8192x16 .f32) = nm snt :=
  (congrArg (Host.sin (F := Ideal)) (angles_eq _ _ _ _ _ _ _ _)).trans sin_eq
theorem v18 : (val_main_v18 (F := Ideal) (aZ Z) : FVec Ideal S8192x384 .f32) = nm (zq Z) := by
  unfold val_main_v18
  funext j; idx_vars j; pointwise []; rfl
theorem v34 : (val_main_v34 (F := Ideal) (aZ Z) : FVec Ideal S8192x256 .f32) = nm (zk Z) := by
  unfold val_main_v34
  funext j; idx_vars j; pointwise []; rfl
theorem v32 : (val_main_v32 (F := Ideal) (aGq Gq) : FVec Ideal S8192x384 .f32) = nm fun _ => Gq 1 := by
  unfold val_main_v32 val_main_v31 val_main_v20 val_main_v19
  funext j; idx_vars j; pointwise []; rfl
theorem v48 : (val_main_v48 (F := Ideal) (aGk Gk) : FVec Ideal S8192x256 .f32) = nm fun _ => Gk 1 := by
  unfold val_main_v48 val_main_v47 val_main_v36 val_main_v35
  funext j; idx_vars j; pointwise []; rfl
theorem v51 : (val_main_v51 (F := Ideal) (aWq Wq) : FVec Ideal S384x576 .f32) = nm (Wq 1) := by
  unfold val_main_v51 val_main_v50
  funext j; idx_vars j; pointwise []; rfl
theorem v71 : (val_main_v71 (F := Ideal) (aWk Wk) : FVec Ideal S256x768 .f32) = nm (Wk 1) := by
  unfold val_main_v71 val_main_v70
  funext j; idx_vars j; pointwise []; rfl
theorem v27 : (val_main_v27 (F := Ideal) (aZ Z) : FVec Ideal S8192x1 .f32) = nm fun t _ => ms 384 (zq Z) t := by
  unfold val_main_v27 val_main_v25 val_main_v23 val_main_v22 val_main_v21 val_main_v24 val_main_v26
  rw [v18]
  funext j; idx_vars j; pointwise [val_main_cst_3, val_main_cst_4, val_main_cst_5]
  simp only [nm_apply, ofBits_zero, ofBits_384, ofBits_eps, ← EReal.coe_mul, sum_coe, zero_add, div_384, ← EReal.coe_add, ms, Nat.cast_ofNat]
theorem v28 : (val_main_v28 (F := Ideal) (aZ Z) : FVec Ideal S8192x1 .f32) = nm fun t _ => rs 384 (zq Z) t := by
  unfold val_main_v28
  rw [v27]
  funext j; idx_vars j; pointwise []
  exact rsqrt_coe _ (ms_pos 384 (zq Z) j0)
theorem v33 : (val_main_v33 (F := Ideal) (aZ Z) (aGq Gq) : FVec Ideal S8192x384 .f32) = nm (qn Z Gq) := by
  unfold val_main_v33 val_main_v30 val_main_v29
  rw [v28, v18, v32]
  funext j; idx_vars j; pointwise []
  simp only [nm_apply, ← EReal.coe_mul, qn]
theorem v43 : (val_main_v43 (F := Ideal) (aZ Z) : FVec Ideal S8192x1 .f32) = nm fun t _ => ms 256 (zk Z) t := by
  unfold val_main_v43 val_main_v41 val_main_v39 val_main_v38 val_main_v37 val_main_v40 val_main_v42
  rw [v34]
  funext j; idx_vars j; pointwise [val_main_cst_6, val_main_cst_7, val_main_cst_8]
  simp only [nm_apply, ofBits_zero, ofBits_256, ofBits_eps, ← EReal.coe_mul, sum_coe, zero_add, div_256, ← EReal.coe_add, ms, Nat.cast_ofNat]
theorem v44 : (val_main_v44 (F := Ideal) (aZ Z) : FVec Ideal S8192x1 .f32) = nm fun t _ => rs 256 (zk Z) t := by
  unfold val_main_v44
  rw [v43]
  funext j; idx_vars j; pointwise []
  exact rsqrt_coe _ (ms_pos 256 (zk Z) j0)
theorem v49 : (val_main_v49 (F := Ideal) (aZ Z) (aGk Gk) : FVec Ideal S8192x256 .f32) = nm (kn Z Gk) := by
  unfold val_main_v49 val_main_v46 val_main_v45
  rw [v44, v34, v48]
  funext j; idx_vars j; pointwise []
  simp only [nm_apply, ← EReal.coe_mul, kn]
theorem v53 : (val_main_v53 (F := Ideal) (aZ Z) (aGq Gq) (aWq Wq) : FVec Ideal S8192x6x96 .f32) = nc (qh Z Gq Wq) := by
  unfold val_main_v53 val_main_v52
  rw [v33, v51]
  funext j; idx_vars j; pointwise []
  simp only [nm_apply, nc_apply, ← EReal.coe_mul, sum_coe, zero_add, qh]
theorem v73 : (val_main_v73 (F := Ideal) (aZ Z) (aGk Gk) (aWk Wk) : FVec Ideal S8192x6x128 .f32) = nc (kh Z Gk Wk) := by
  unfold val_main_v73 val_main_v72
  rw [v49, v71]
  funext j; idx_vars j; pointwise []
  simp only [nm_apply, nc_apply, ← EReal.coe_mul, sum_coe, zero_add, kh]
theorem v89 : (val_main_v89 (F := Ideal) (aZ Z) (aGq Gq) (aWq Wq) : FVec Ideal S8192x6x96 .f32) = nc (qf Z Gq Wq) := by
  unfold val_main_v89 val_main_v88 val_main_v87 val_main_v86 val_main_v69 val_main_v68 val_main_v67 val_main_v66 val_main_v65 val_main_v64 val_main_v63 val_main_v62
    val_main_v61 val_main_v60 val_main_v59 val_main_v58 val_main_v57 val_main_v56 val_main_v55 val_main_v54
  rw [v53, v16, v17]
  funext j; idx_vars j; pointwise [val_main_cst_9]
  have q := j2.isLt
  simp only [nm_apply, nc_apply, ofBits_att2, qf, turn]
  by_cases h : j2.val < 64
  · rw [dif_pos h, if_pos h, EReal.coe_mul]
  by_cases h2 : j2.val < 80
  · rw [dif_neg h, dif_pos (by omega), if_neg h, if_pos h2, show 64 + (16 + (j2.val - 64)) = j2.val + 16 by omega, show 64 + (j2.val - 64) = j2.val by omega]
    simp only [← EReal.coe_mul, ← EReal.coe_sub]
  · rw [dif_neg h, dif_neg (by omega), if_neg h, if_neg h2, if_pos (by omega), show 64 + (16 + (j2.val - 64 - 16)) = j2.val by omega,
      show 64 + (j2.val - 64 - 16) = j2.val - 16 by omega, show j2.val - 64 - 16 = j2.val - 80 by omega]
    simp only [← EReal.coe_mul, ← EReal.coe_add]
theorem v83 : (val_main_v83 (F := Ideal) (aZ Z) : FVec Ideal S8192x32 .f32) = nm fun t y => kt Z t (64 + y) := by
  unfold val_main_v83 val_main_v82 val_main_v81 val_main_v80 val_main_v79 val_main_v78 val_main_v77 val_main_v76 val_main_v75 val_main_v74
  rw [v16, v17]
  funext j; idx_vars j; pointwise []
  have q := j1.isLt
  simp only [nm_apply, kt, turn]
  by_cases h : j1.val < 16
  · rw [dif_pos h, if_neg (by omega), if_pos (by omega), show 64 + j1.val - 64 = j1.val by omega, show 1344 + (64 + j1.val) = 1408 + j1.val by omega,
      show 1344 + (64 + j1.val + 16) = 1408 + (16 + j1.val) by omega]
    simp only [← EReal.coe_mul, ← EReal.coe_sub]
  · rw [dif_neg h, if_neg (by omega), if_neg (by omega), if_pos (by omega), show 64 + j1.val - 80 = j1.val - 16 by omega, show 1344 + (64 + j1.val - 16) = 1408 + (j1.val - 16) by omega,
      show 1344 + (64 + j1.val) = 1408 + (16 + (j1.val - 16)) by omega]
    simp only [← EReal.coe_mul, ← EReal.coe_add]
theorem v93 : (val_main_v93 (F := Ideal) (aZ Z) (aGk Gk) (aWk Wk) : FVec Ideal S8192x6x96 .f32) = nc (kf Z Gk Wk) := by
  unfold val_main_v93 val_main_v92 val_main_v85 val_main_v84
  rw [v73, v83]
  funext j; idx_vars j; pointwise []
  simp only [nm_apply, nc_apply, kf]
  by_cases h : j2.val < 64
  · rw [dif_pos h, if_pos h]
  · rw [dif_neg h, if_neg h, show 64 + (j2.val - 64) = j2.val by omega]
theorem v98 : (val_main_v98 (F := Ideal) (aZ Z) (aGq Gq) (aWq Wq) : FVec Ideal S8192x768 .bf16) = nm fun t => spread 96 (qf Z Gq Wq t) := by
  unfold val_main_v98 val_main_v91 val_main_v90
  rw [v89]
  exact pad3 (qf Z Gq Wq) Gen.pads_S8192x6x96_S8192x6x128_000_000_0320 Gen.h_S_ Gen.shapeCasts_S8192x6x128_S8192x768
theorem v99 : (val_main_v99 (F := Ideal) (aZ Z) (aGk Gk) (aWk Wk) : FVec Ideal S8192x768 .bf16) = nm fun t => spread 96 (kf Z Gk Wk t) := by
  unfold val_main_v99 val_main_v95 val_main_v94
  rw [v93]
  exact pad3 (kf Z Gk Wk) Gen.pads_S8192x6x96_S8192x6x128_000_000_0320 Gen.h_S_ Gen.shapeCasts_S8192x6x128_S8192x768
theorem v100 : (val_main_v100 (F := Ideal) (aZ Z) (aGk Gk) (aWk Wk) : FVec Ideal S8192x384 .bf16) = nm fun t k => kh Z Gk Wk t (k / 64) (64 + k % 64) := by
  unfold val_main_v100 val_main_v97 val_main_v96
  rw [v73]
  funext j; idx_vars j; pointwise []; rfl
theorem v101 : (val_main_v101 (F := Ideal) (aZ Z) (aGq Gq) : FVec Ideal S8192x384 .bf16) = nm (qn Z Gq) := by
  unfold val_main_v101
  rw [v33]
  funext j; idx_vars j; pointwise []
theorem v102 : (val_main_v102 (F := Ideal) (aZ Z) (aGk Gk) : FVec Ideal S8192x256 .bf16) = nm (kn Z Gk) := by
  unfold val_main_v102
  rw [v49]
  funext j; idx_vars j; pointwise []
end Cert.MlaPrepFwdRefIdeal.Stages
end
-- ==== Proof.MlaPrepFwd.lean ====
module
public import proofs.«01_k».proof.Defs
public import proofs.«01_k».proof.Proof.Gen.MlaPrepFwd.Frame
public import proofs.«01_k».proof.Proof.MlaFwdRef
@[expose] public section
noncomputable section
/-! The claims about the products, norms and rotary turn before the attention. -/
namespace Cert.Proof.MlaPrepFwd
open Cert.Tables Cert.Mla Idealize.ShloMosaic Idealize.SL.Sem
instance facts : Cert.MlaPrepFwd.Facts := Cert.MlaPrepFwd.Gen.facts
instance factsIdeal : Cert.MlaPrepFwdIdeal.Facts := Cert.MlaPrepFwdIdeal.Gen.facts
instance factsRef : Cert.MlaPrepFwdRefIdeal.Facts := Cert.MlaPrepFwdRefIdeal.Gen.facts
instance factsPre : Cert.Pre_mla_fwd_finite.Facts := ⟨by decide, by decide, by decide, by decide, by decide⟩

theorem frame_kernel : Cert.quiescent_MlaPrepFwd := fun m ρ _ => Cert.MlaPrepFwd.Gen.frame m ρ
theorem frame_ideal : Cert.quiescent_MlaPrepFwdIdeal := fun m ρ _ => Cert.MlaPrepFwdIdeal.Gen.frame m ρ
theorem frame_ref : Cert.quiescent_MlaPrepFwdRefIdeal := fun m ρ _ =>
  (θ_run Cert.MlaPrepFwdRefIdeal.defs _ _).mono (fun r h => ⟨fun c => (h c).2.2.2.2.2, sem_eq_zero_of_no_sems (by decide) r.2⟩)
    (Cert.MlaPrepFwdRefIdeal.Value.run m ρ)
theorem frame_ideal_pre : Cert.quiescent_MlaPrepFwdIdeal_pre_mla_fwd_finite := fun m ρ _ => Cert.MlaPrepFwdIdeal.Gen.frame m ρ
theorem frame_ref_pre : Cert.quiescent_MlaPrepFwdRefIdeal_pre_mla_fwd_finite := fun m ρ _ => frame_ref m ρ trivial

theorem algebraic : Cert.algebraic_MlaPrepFwdIdeal_MlaPrepFwdRefIdeal_pre_mla_fwd_finite := by
  intro m g m' g' hpre hagree
  choose Z h0 _ using fun c : Dev Cert.MlaPrepFwdIdeal.nD => nm_of_finite (m (c.tc.loc Cert.MlaPrepFwdIdeal.main_arg0)) _ (hpre c).1
  choose Gq h1 _ using fun c : Dev Cert.MlaPrepFwdIdeal.nD => nm_of_finite (m (c.tc.loc Cert.MlaPrepFwdIdeal.main_arg1)) _ (hpre c).2.1
  choose Gk h2 _ using fun c : Dev Cert.MlaPrepFwdIdeal.nD => nm_of_finite (m (c.tc.loc Cert.MlaPrepFwdIdeal.main_arg2)) _ (hpre c).2.2.1
  choose Wq h3 using fun c : Dev Cert.MlaPrepFwdIdeal.nD => nc_of_finite (m (c.tc.loc Cert.MlaPrepFwdIdeal.main_arg3)) _ (hpre c).2.2.2.1
  choose Wk h4 using fun c : Dev Cert.MlaPrepFwdIdeal.nD => nc_of_finite (m (c.tc.loc Cert.MlaPrepFwdIdeal.main_arg4)) _ (hpre c).2.2.2.2
  refine ⟨fun c => (nm fun t => spread 96 (qf (Z c) (Gq c) (Wq c) t) : FVec Ideal ⟨2, ![8192, 768]⟩ .bf16),
    fun c => (nm fun t => spread 96 (kf (Z c) (Gk c) (Wk c) t) : FVec Ideal ⟨2, ![8192, 768]⟩ .bf16),
    fun c => (nm fun t k => kh (Z c) (Gk c) (Wk c) t (k / 64) (64 + k % 64) : FVec Ideal ⟨2, ![8192, 384]⟩ .bf16),
    fun c => (nm (qn (Z c) (Gq c)) : FVec Ideal ⟨2, ![8192, 384]⟩ .bf16),
    fun c => (nm (kn (Z c) (Gk c)) : FVec Ideal ⟨2, ![8192, 256]⟩ .bf16), ?_, ?_⟩
  · exact (θ_run Cert.MlaPrepFwdIdeal.defs _ _).mono (fun _ h c =>
      ⟨(h c).1.trans (Cert.MlaPrepFwdIdeal.Blocks.final10 m c (Z c) (Gq c) (Wq c) (h0 c) (h1 c) (h3 c)),
        (h c).2.1.trans (Cert.MlaPrepFwdIdeal.Blocks.final11 m c (Z c) (Gk c) (Wk c) (h0 c) (h2 c) (h4 c)),
        (h c).2.2.1.trans (Cert.MlaPrepFwdIdeal.Blocks.final12 m c (Z c) (Gk c) (Wk c) (h0 c) (h2 c) (h4 c)),
        (h c).2.2.2.1.trans (Cert.MlaPrepFwdIdeal.Blocks.final13 m c (Z c) (Gq c) (h0 c) (h1 c)),
        (h c).2.2.2.2.1.trans (Cert.MlaPrepFwdIdeal.Blocks.final14 m c (Z c) (Gk c) (h0 c) (h2 c)), (h c).2.2.2.2.2⟩)
      (Cert.MlaPrepFwdIdeal.Value.run_blocks m g)
  · refine (θ_run Cert.MlaPrepFwdRefIdeal.defs _ _).mono (fun _ h c => ?_) (Cert.MlaPrepFwdRefIdeal.Value.run m' g')
    obtain ⟨a0, a1, a2, a3, a4⟩ := hagree c
    refine ⟨(h c).1.trans ?_, (h c).2.1.trans ?_, (h c).2.2.1.trans ?_, (h c).2.2.2.1.trans ?_, (h c).2.2.2.2.1.trans ?_, (h c).2.2.2.2.2⟩
    · rw [Cert.MlaPrepFwdRefIdeal.Read.val_main_v98_eq]
      change Cert.MlaPrepFwdRefIdeal.Read.val_main_v98 (m' (c.tc.loc Cert.MlaPrepFwdRefIdeal.main_arg0)) (m' (c.tc.loc Cert.MlaPrepFwdRefIdeal.main_arg1)) (m' (c.tc.loc Cert.MlaPrepFwdRefIdeal.main_arg3)) = _
      rw [a0, a1, a3, h0, h1, h3]
      exact Cert.MlaPrepFwdRefIdeal.Stages.v98 (Z c) (Gq c) (Wq c)
    · rw [Cert.MlaPrepFwdRefIdeal.Read.val_main_v99_eq]
      change Cert.MlaPrepFwdRefIdeal.Read.val_main_v99 (m' (c.tc.loc Cert.MlaPrepFwdRefIdeal.main_arg0)) (m' (c.tc.loc Cert.MlaPrepFwdRefIdeal.main_arg2)) (m' (c.tc.loc Cert.MlaPrepFwdRefIdeal.main_arg4)) = _
      rw [a0, a2, a4, h0, h2, h4]
      exact Cert.MlaPrepFwdRefIdeal.Stages.v99 (Z c) (Gk c) (Wk c)
    · rw [Cert.MlaPrepFwdRefIdeal.Read.val_main_v100_eq]
      change Cert.MlaPrepFwdRefIdeal.Read.val_main_v100 (m' (c.tc.loc Cert.MlaPrepFwdRefIdeal.main_arg0)) (m' (c.tc.loc Cert.MlaPrepFwdRefIdeal.main_arg2)) (m' (c.tc.loc Cert.MlaPrepFwdRefIdeal.main_arg4)) = _
      rw [a0, a2, a4, h0, h2, h4]
      exact Cert.MlaPrepFwdRefIdeal.Stages.v100 (Z c) (Gk c) (Wk c)
    · rw [Cert.MlaPrepFwdRefIdeal.Read.val_main_v101_eq]
      change Cert.MlaPrepFwdRefIdeal.Read.val_main_v101 (m' (c.tc.loc Cert.MlaPrepFwdRefIdeal.main_arg0)) (m' (c.tc.loc Cert.MlaPrepFwdRefIdeal.main_arg1)) = _
      rw [a0, a1, h0, h1]
      exact Cert.MlaPrepFwdRefIdeal.Stages.v101 (Z c) (Gq c)
    · rw [Cert.MlaPrepFwdRefIdeal.Read.val_main_v102_eq]
      change Cert.MlaPrepFwdRefIdeal.Read.val_main_v102 (m' (c.tc.loc Cert.MlaPrepFwdRefIdeal.main_arg0)) (m' (c.tc.loc Cert.MlaPrepFwdRefIdeal.main_arg2)) = _
      rw [a0, a2, h0, h2]
      exact Cert.MlaPrepFwdRefIdeal.Stages.v102 (Z c) (Gk c)
end Cert.Proof.MlaPrepFwd
-- ==== Proof.LruFwd.lean ====
module
public import proofs.«01_k».proof.Defs
public import proofs.«01_k».proof.Proof.Gen.LruFwd.Frame
public import proofs.«01_k».proof.Proof.Gen.LruFwdIdeal.Frame
public import proofs.«01_k».proof.Proof.Gen.LruFwdRefIdeal.Run
@[expose] public section
noncomputable section
/-! The frames of the linear recurrence's forward pass. -/
namespace Cert.Proof.LruFwd
open Idealize.ShloMosaic Idealize.SL.Sem
instance facts : Cert.LruFwd.Facts := Cert.LruFwd.Gen.facts
instance factsIdeal : Cert.LruFwdIdeal.Facts := Cert.LruFwdIdeal.Gen.facts
instance factsRef : Cert.LruFwdRefIdeal.Facts := Cert.LruFwdRefIdeal.Gen.facts

theorem frame_kernel : Cert.quiescent_LruFwd := fun m ρ _ => Cert.LruFwd.Gen.frame m ρ
theorem frame_ideal : Cert.quiescent_LruFwdIdeal := fun m ρ _ => Cert.LruFwdIdeal.Gen.frame m ρ
theorem frame_ref : Cert.quiescent_LruFwdRefIdeal := fun m ρ _ =>
  (θ_run Cert.LruFwdRefIdeal.defs _ _).mono (fun r h => ⟨fun c => (h c).2.2, sem_eq_zero_of_no_sems (by decide) r.2⟩)
    (Cert.LruFwdRefIdeal.Value.run m ρ)
end Cert.Proof.LruFwd
-- ==== Proof.lean ====
module

public import proofs.«01_k».proof.Defs
public import proofs.«01_k».proof.Proof.LossHead
public import proofs.«01_k».proof.Proof.PoolBwd
public import proofs.«01_k».proof.Proof.OutProjBwd
public import proofs.«01_k».proof.Proof.InProjBwd
public import proofs.«01_k».proof.Proof.FlashBwd
public import proofs.«01_k».proof.Proof.MlaPrepBwd
public import proofs.«01_k».proof.Proof.InProjFwd
public import proofs.«01_k».proof.Proof.PoolFwd
public import proofs.«01_k».proof.Proof.MlaPrepFwd
public import proofs.«01_k».proof.Proof.LruFwd

@[expose] public section

noncomputable section

namespace Cert.Proof

theorem claim : Cert.Claim :=
  ⟨LossHead.facts, LossHead.factsIdeal, LossHead.factsRef, PoolBwd.facts, PoolBwd.factsIdeal, PoolBwd.factsRef, OutProjBwd.facts, OutProjBwd.factsIdeal, OutProjBwd.factsRef, InProjBwd.facts, InProjBwd.factsIdeal, InProjBwd.factsRef, FlashBwd.facts, FlashBwd.factsIdeal, FlashBwd.factsRef, MlaPrepBwd.facts, MlaPrepBwd.factsIdeal, MlaPrepBwd.factsRef, InProjFwd.facts, InProjFwd.factsIdeal, InProjFwd.factsRef, PoolFwd.facts, PoolFwd.factsIdeal, PoolFwd.factsRef, MlaPrepFwd.facts, MlaPrepFwd.factsIdeal, MlaPrepFwd.factsRef, LruFwd.facts, LruFwd.factsIdeal, LruFwd.factsRef,
    LossHead.factsPre, PoolBwd.factsPre, OutProjBwd.factsPre, InProjBwd.factsPre, FlashBwd.factsPre, MlaPrepBwd.factsPre, InProjFwd.factsPre, PoolFwd.factsPre, MlaPrepFwd.factsPre,
    PoolBwd.factsOn, MlaPrepBwd.factsOn,
    LossHead.frame_kernel, LossHead.frame_ideal, LossHead.frame_ideal_pre, LossHead.frame_ref, LossHead.frame_ref_pre,
    PoolBwd.frame_kernel, PoolBwd.frame_ideal, PoolBwd.frame_ideal_pre, PoolBwd.frame_ref, PoolBwd.frame_ref_pre,
    OutProjBwd.frame_kernel, OutProjBwd.frame_ideal, OutProjBwd.frame_ideal_pre, OutProjBwd.frame_ref, OutProjBwd.frame_ref_pre,
    InProjBwd.frame_kernel, InProjBwd.frame_ideal, InProjBwd.frame_ideal_pre, InProjBwd.frame_ref, InProjBwd.frame_ref_pre,
    FlashBwd.frame_kernel, FlashBwd.frame_ideal, FlashBwd.frame_ideal_pre, FlashBwd.frame_ref, FlashBwd.frame_ref_pre,
    MlaPrepBwd.frame_kernel, MlaPrepBwd.frame_ideal, MlaPrepBwd.frame_ideal_pre, MlaPrepBwd.frame_ref, MlaPrepBwd.frame_ref_pre,
    InProjFwd.frame_kernel, InProjFwd.frame_ideal, InProjFwd.frame_ideal_pre, InProjFwd.frame_ref, InProjFwd.frame_ref_pre,
    PoolFwd.frame_kernel, PoolFwd.frame_ideal, PoolFwd.frame_ideal_pre, PoolFwd.frame_ref, PoolFwd.frame_ref_pre,
    MlaPrepFwd.frame_kernel, MlaPrepFwd.frame_ideal, MlaPrepFwd.frame_ideal_pre, MlaPrepFwd.frame_ref, MlaPrepFwd.frame_ref_pre,
    LruFwd.frame_kernel, LruFwd.frame_ideal, LruFwd.frame_ref,
    trivial, LossHead.algebraic, trivial, PoolBwd.algebraic, trivial, OutProjBwd.algebraic, trivial, InProjBwd.algebraic, FlashBwd.preserves, FlashBwd.algebraic, trivial, MlaPrepBwd.algebraic, trivial, InProjFwd.algebraic, trivial, PoolFwd.algebraic, trivial, MlaPrepFwd.algebraic, trivial⟩

end Cert.Proof
